-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dropped_units_unused [hPre_dropped_units_unused : Cert.Pre_dropped_units_unused.Facts] (m : (ℓ : Loc Cert.KernelIdeal.nD Cert.KernelIdeal.τ Cert.KernelIdeal.sig) → Buf (Elt Ideal) ℓ) : Prop :=
  ∀ c : Dev Cert.KernelIdeal.nD,
    (Cert.Pre_dropped_units_unused.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dropped_units_unused [hPre_dropped_units_unused : Cert.Pre_dropped_units_unused.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dropped_units_unused.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelAtIdeal (m : (ℓ : Loc Cert.KernelAtIdeal.nD Cert.KernelAtIdeal.τ Cert.KernelAtIdeal.sig) → Buf (Elt Ideal) ℓ) : Prop :=
  True

def Pre_ReferenceAtIdeal (m : (ℓ : Loc Cert.ReferenceAtIdeal.nD Cert.ReferenceAtIdeal.τ Cert.ReferenceAtIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_dropped_units_unused [hKernelIdeal : Cert.KernelIdeal.Facts] [hPre_dropped_units_unused : Cert.Pre_dropped_units_unused.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dropped_units_unused m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_dropped_units_unused [hReferenceIdeal : Cert.ReferenceIdeal.Facts] [hPre_dropped_units_unused : Cert.Pre_dropped_units_unused.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dropped_units_unused m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_dropped_units_unused [hKernelIdeal : Cert.KernelIdeal.Facts] [hReferenceIdeal : Cert.ReferenceIdeal.Facts] [hPre_dropped_units_unused : Cert.Pre_dropped_units_unused.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dropped_units_unused m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def disproves_algebraic_KernelAtIdeal_ReferenceAtIdeal [hKernelAtIdeal : Cert.KernelAtIdeal.Facts] [hReferenceAtIdeal : Cert.ReferenceAtIdeal.Facts] : Prop :=
  ∀ (m : (ℓ : Loc Cert.KernelAtIdeal.nD Cert.KernelAtIdeal.τ Cert.KernelAtIdeal.sig) → Buf (Elt Ideal) ℓ) (g : Dev Cert.KernelAtIdeal.nD → PrngReg)
    (m' : (ℓ : Loc Cert.ReferenceAtIdeal.nD Cert.ReferenceAtIdeal.τ Cert.ReferenceAtIdeal.sig) → Buf (Elt Ideal) ℓ) (g' : Dev Cert.ReferenceAtIdeal.nD → PrngReg),
    (∀ c : Dev Cert.KernelAtIdeal.nD,
      m ((c.tc : Thread Cert.KernelAtIdeal.nD Cert.KernelAtIdeal.τ).loc Cert.KernelAtIdeal.main_arg0) = Cert.Cx_KernelAtIdeal.arg0 (F := Ideal)) →
    (∀ c : Dev Cert.KernelAtIdeal.nD,
      m' ((c.tc : Thread Cert.ReferenceAtIdeal.nD Cert.ReferenceAtIdeal.τ).loc Cert.ReferenceAtIdeal.main_arg0) = m ((c.tc : Thread Cert.KernelAtIdeal.nD Cert.KernelAtIdeal.τ).loc Cert.KernelAtIdeal.main_arg0)) →
    Pre_KernelAtIdeal m
    ∧ ∃ (v0 : (c : Dev Cert.KernelAtIdeal.nD) → Buf (Elt Ideal) ((c.tc : Thread Cert.KernelAtIdeal.nD Cert.KernelAtIdeal.τ).loc Cert.KernelAtIdeal.main_v5_1)),
      θ_run (Cert.KernelAtIdeal.defs (F := Ideal)) (onTc (τ := Cert.KernelAtIdeal.τ) (Cert.KernelAtIdeal.main (F := Ideal))) ⟨m, fun _ => 0, g⟩ (fun r => ¬ (∀ c : Dev Cert.KernelAtIdeal.nD,
          r.2.mem ((c.tc : Thread Cert.KernelAtIdeal.nD Cert.KernelAtIdeal.τ).loc Cert.KernelAtIdeal.main_v5_1) = v0 c))
      ∧ θ_run (Cert.ReferenceAtIdeal.defs (F := Ideal)) (onTc (τ := Cert.ReferenceAtIdeal.τ) (Cert.ReferenceAtIdeal.main (F := Ideal))) ⟨m', fun _ => 0, g'⟩ (fun r => ∀ c : Dev Cert.ReferenceAtIdeal.nD,
          r.2.mem ((c.tc : Thread Cert.ReferenceAtIdeal.nD Cert.ReferenceAtIdeal.τ).loc Cert.ReferenceAtIdeal.main_v33) = v0 c)

def Claim : Prop :=
  ∃ (hKernel : Cert.Kernel.Facts) (hKernelIdeal : Cert.KernelIdeal.Facts) (hReferenceIdeal : Cert.ReferenceIdeal.Facts) (hKernelAtIdeal : Cert.KernelAtIdeal.Facts) (hReferenceAtIdeal : Cert.ReferenceAtIdeal.Facts) (hPre_dropped_units_unused : Cert.Pre_dropped_units_unused.Facts),
    quiescent_Kernel (hKernel := hKernel)
    ∧ quiescent_KernelIdeal (hKernelIdeal := hKernelIdeal)
    ∧ quiescent_KernelIdeal_pre_dropped_units_unused (hKernelIdeal := hKernelIdeal) (hPre_dropped_units_unused := hPre_dropped_units_unused)
    ∧ quiescent_ReferenceIdeal (hReferenceIdeal := hReferenceIdeal)
    ∧ quiescent_ReferenceIdeal_pre_dropped_units_unused (hReferenceIdeal := hReferenceIdeal) (hPre_dropped_units_unused := hPre_dropped_units_unused)
    ∧ preserves_Kernel_KernelIdeal
    ∧ algebraic_KernelIdeal_ReferenceIdeal_pre_dropped_units_unused (hKernelIdeal := hKernelIdeal) (hReferenceIdeal := hReferenceIdeal) (hPre_dropped_units_unused := hPre_dropped_units_unused)
    ∧ disproves_algebraic_KernelAtIdeal_ReferenceAtIdeal (hKernelAtIdeal := hKernelAtIdeal) (hReferenceAtIdeal := hReferenceAtIdeal)
-- ==== Cx_KernelAtIdeal.lean ====
noncomputable def arg0_words : Fin 2048 → BitVec 32 :=
  ![0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x3F800000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32]
noncomputable def arg0 {F : FTy → Type} [FloatOps F] : FVec F (⟨1, ![2048]⟩ : Shape) .f32 := fun i => FloatOps.ofBits .f32 (arg0_words (i 0))
-- ==== Pre_dropped_units_unused.lean ====
abbrev S4x2048x768 : Shape := ⟨3, ![4, 2048, 768]⟩
abbrev S768x2048 : Shape := ⟨2, ![768, 2048]⟩
abbrev S2048 : Shape := ⟨1, ![2048]⟩
abbrev S2048x768 : Shape := ⟨2, ![2048, 768]⟩
abbrev S768 : Shape := ⟨1, ![768]⟩
abbrev S384x768 : Shape := ⟨2, ![384, 768]⟩
abbrev S_ : Shape := ⟨0, ![]⟩

class Facts : Prop where
  slices_S2048x768_S384x768_1664_0 : S2048x768.Slices ![1664, 0] S384x768
  bcast_S_S384x768 : S_.BroadcastsInDim S384x768 (![] : Fin 0 → Fin S384x768.rank)

variable [Facts]

def fn {F : FTy → Type} [FloatOps F] (main_arg0 : FVec F S4x2048x768 .f32) (main_arg1 : FVec F S4x2048x768 .f32) (main_arg2 : FVec F S768x2048 .f32) (main_arg3 : FVec F S2048 .f32) (main_arg4 : FVec F S2048x768 .f32) (main_arg5 : FVec F S768 .f32) : IVec S384x768 1 :=
  let main_v0 : FVec F S384x768 .f32 := (extractStridedSlice S384x768 ![1664, 0] · slices_S2048x768_S384x768_1664_0) main_arg4
  let main_cst : FVec F S_ .f32 := constant S_ .f32 0x00000000#32
  let main_v1 : FVec F S384x768 .f32 := broadcastInDim S384x768 ![] bcast_S_S384x768 main_cst
  let main_v2 : IVec S384x768 1 := cmpf .oeq main_v0 main_v1
  main_v2
-- ==== Kernel.lean ====
abbrev S4x2048x768 : Shape := ⟨3, ![4, 2048, 768]⟩
abbrev S768x2048 : Shape := ⟨2, ![768, 2048]⟩
abbrev S2048 : Shape := ⟨1, ![2048]⟩
abbrev S2048x768 : Shape := ⟨2, ![2048, 768]⟩
abbrev S768 : Shape := ⟨1, ![768]⟩
abbrev S8192x768 : Shape := ⟨2, ![8192, 768]⟩
abbrev S1664 : Shape := ⟨1, ![1664]⟩
abbrev S_ : Shape := ⟨0, ![]⟩
abbrev S1x1664 : Shape := ⟨2, ![1, 1664]⟩
abbrev S1x768 : Shape := ⟨2, ![1, 768]⟩
abbrev S1024x768 : Shape := ⟨2, ![1024, 768]⟩
abbrev S1024x1664 : Shape := ⟨2, ![1024, 1664]⟩
abbrev S768x1664 : Shape := ⟨2, ![768, 1664]⟩
abbrev S1664x768 : Shape := ⟨2, ![1664, 768]⟩

abbrev nBuf : Space → Nat
  | .hbm => 34
  | .vmem => 14
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S768x2048, .f32⟩
  | .hbm, ⟨3, _⟩ => ⟨S2048, .f32⟩
  | .hbm, ⟨4, _⟩ => ⟨S2048x768, .f32⟩
  | .hbm, ⟨5, _⟩ => ⟨S768, .f32⟩
  | .hbm, ⟨6, _⟩ => ⟨S8192x768, .f32⟩
  | .hbm, ⟨7, _⟩ => ⟨S8192x768, .f32⟩
  | .hbm, ⟨8, _⟩ => ⟨S1664, .f32⟩
  | .hbm, ⟨9, _⟩ => ⟨S_, .f32⟩
  | .hbm, ⟨10, _⟩ => ⟨S1664, .f32⟩
  | .hbm, ⟨11, _⟩ => ⟨S1664, .f32⟩
  | .hbm, ⟨12, _⟩ => ⟨S1664, .f32⟩
  | .hbm, ⟨13, _⟩ => ⟨S_, .f32⟩
  | .hbm, ⟨14, _⟩ => ⟨S1664, .f32⟩
  | .hbm, ⟨15, _⟩ => ⟨S1664, .f32⟩
  | .hbm, ⟨16, _⟩ => ⟨S1664, .f32⟩
  | .hbm, ⟨17, _⟩ => ⟨S_, .f32⟩
  | .hbm, ⟨18, _⟩ => ⟨S1664, .f32⟩
  | .hbm, ⟨19, _⟩ => ⟨S1664, .f32⟩
  | .hbm, ⟨20, _⟩ => ⟨S1664, .f32⟩
  | .hbm, ⟨21, _⟩ => ⟨S1664, .i32⟩
  | .hbm, ⟨22, _⟩ => ⟨S1x1664, .i32⟩
  | .hbm, ⟨23, _⟩ => ⟨S1664, .f32⟩
  | .hbm, ⟨24, _⟩ => ⟨S1x1664, .f32⟩
  | .hbm, ⟨25, _⟩ => ⟨S1x768, .f32⟩
  | .hbm, ⟨26, _⟩ => ⟨S8192x768, .f32⟩
  | .hbm, ⟨27, _⟩ => ⟨S1x768, .f32⟩
  | .hbm, ⟨28, _⟩ => ⟨S1x768, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S768x2048, .f32⟩
  | .local _ .vmem, ⟨5, _⟩ => ⟨S1x1664, .f32⟩
  | .local _ .vmem, ⟨6, _⟩ => ⟨S2048x768, .f32⟩
  | .local _ .vmem, ⟨7, _⟩ => ⟨S1x768, .f32⟩
  | .local _ .vmem, ⟨8, _⟩ => ⟨S1x1664, .i32⟩
  | .local _ .vmem, ⟨9, _⟩ => ⟨S1024x768, .f32⟩
  | .local _ .vmem, ⟨10, _⟩ => ⟨S1024x768, .f32⟩
  | .local _ .vmem, ⟨11, _⟩ => ⟨S1x768, .f32⟩
  | .local _ .vmem, ⟨12, _⟩ => ⟨S1x768, .f32⟩
  | .local _ .vmem, ⟨13, _⟩ => ⟨S1024x1664, .i32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst_0 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_cst_1 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0_1 : Ref sig .tc := ⟨.hbm, 26, rfl⟩
abbrev main_call0_v17_1 : Ref sig .tc := ⟨.hbm, 27, rfl⟩
abbrev main_call0_v17_2 : Ref sig .tc := ⟨.hbm, 28, rfl⟩
abbrev main_call0_cst_2 : Ref sig .tc := ⟨.hbm, 29, rfl⟩
abbrev main_call0_v18 : Ref sig .tc := ⟨.hbm, 30, rfl⟩
abbrev main_call0_cst_3 : Ref sig .tc := ⟨.hbm, 31, rfl⟩
abbrev main_call0_v19 : Ref sig .tc := ⟨.hbm, 32, rfl⟩
abbrev main_v0_0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1664 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4x2048x768 : Shape := ⟨3, ![4, 2048, 768]⟩
abbrev S768x2048 : Shape := ⟨2, ![768, 2048]⟩
abbrev S2048 : Shape := ⟨1, ![2048]⟩
abbrev S2048x768 : Shape := ⟨2, ![2048, 768]⟩
abbrev S768 : Shape := ⟨1, ![768]⟩
abbrev S8192x768 : Shape := ⟨2, ![8192, 768]⟩
abbrev S8192x2048 : Shape := ⟨2, ![8192, 2048]⟩
abbrev S1x2048 : Shape := ⟨2, ![1, 2048]⟩
abbrev S_ : Shape := ⟨0, ![]⟩
abbrev S1 : Shape := ⟨1, ![1]⟩
abbrev S2 : Shape := ⟨1, ![2]⟩
abbrev S1x1 : Shape := ⟨2, ![1, 1]⟩
abbrev S1x768 : Shape := ⟨2, ![1, 768]⟩

abbrev nBuf : Space → Nat
  | .hbm => 321
  | .vmem => 0
  | .smem => 0
  | _ => 0

abbrev hbmTy0_0 (i : Nat) : BufTy := match i % 128 with
  | 0 => ⟨S4x2048x768, .f32⟩
  | 1 => ⟨S4x2048x768, .f32⟩
  | 2 => ⟨S768x2048, .f32⟩
  | 3 => ⟨S2048, .f32⟩
  | 4 => ⟨S2048x768, .f32⟩
  | 5 => ⟨S768, .f32⟩
  | 6 => ⟨S8192x768, .f32⟩
  | 7 => ⟨S8192x768, .f32⟩
  | 8 => ⟨S8192x2048, .f32⟩
  | 9 => ⟨S1x2048, .f32⟩
  | 10 => ⟨S8192x2048, .f32⟩
  | 11 => ⟨S8192x2048, .f32⟩
  | 12 => ⟨S2048, .f32⟩
  | 13 => ⟨S_, .f32⟩
  | 14 => ⟨S2048, .f32⟩
  | 15 => ⟨S2048, .f32⟩
  | 16 => ⟨S2048, .f32⟩
  | 17 => ⟨S_, .f32⟩
  | 18 => ⟨S2048, .f32⟩
  | 19 => ⟨S2048, .f32⟩
  | 20 => ⟨S2048, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S1x2048, .f32⟩
  | 32 => ⟨S_, .f32⟩
  | 33 => ⟨S_, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S8192x2048, .i64⟩
  | 43 => ⟨S8192x2048, .i64⟩
  | 44 => ⟨S_, .i64⟩
  | 45 => ⟨S8192x2048, .i64⟩
  | 46 => ⟨S8192x2048, .i64⟩
  | 47 => ⟨S_, .i64⟩
  | 48 => ⟨S8192x2048, .i64⟩
  | 49 => ⟨S8192x2048, .i64⟩
  | 50 => ⟨S8192x2048, .i64⟩
  | 51 => ⟨S_, .i64⟩
  | 52 => ⟨S8192x2048, .i64⟩
  | 53 => ⟨S8192x2048, .i64⟩
  | 54 => ⟨S8192x2048, .i32⟩
  | 55 => ⟨S8192x2048, .i32⟩
  | 56 => ⟨S_, .i32⟩
  | 57 => ⟨S_, .i32⟩
  | 58 => ⟨S_, .i32⟩
  | 59 => ⟨S8192x2048, .i32⟩
  | 60 => ⟨S8192x2048, .i32⟩
  | 61 => ⟨S8192x2048, .i32⟩
  | 62 => ⟨S8192x2048, .i32⟩
  | 63 => ⟨S8192x2048, .i32⟩
  | 64 => ⟨S_, .i32⟩
  | 65 => ⟨S8192x2048, .i32⟩
  | 66 => ⟨S8192x2048, .i32⟩
  | 67 => ⟨S_, .i32⟩
  | 68 => ⟨S8192x2048, .i32⟩
  | 69 => ⟨S8192x2048, .i32⟩
  | 70 => ⟨S8192x2048, .i32⟩
  | 71 => ⟨S8192x2048, .i32⟩
  | 72 => ⟨S8192x2048, .i32⟩
  | 73 => ⟨S_, .i32⟩
  | 74 => ⟨S8192x2048, .i32⟩
  | 75 => ⟨S8192x2048, .i32⟩
  | 76 => ⟨S_, .i32⟩
  | 77 => ⟨S8192x2048, .i32⟩
  | 78 => ⟨S8192x2048, .i32⟩
  | 79 => ⟨S8192x2048, .i32⟩
  | 80 => ⟨S8192x2048, .i32⟩
  | 81 => ⟨S8192x2048, .i32⟩
  | 82 => ⟨S_, .i32⟩
  | 83 => ⟨S8192x2048, .i32⟩
  | 84 => ⟨S8192x2048, .i32⟩
  | 85 => ⟨S_, .i32⟩
  | 86 => ⟨S8192x2048, .i32⟩
  | 87 => ⟨S8192x2048, .i32⟩
  | 88 => ⟨S8192x2048, .i32⟩
  | 89 => ⟨S8192x2048, .i32⟩
  | 90 => ⟨S8192x2048, .i32⟩
  | 91 => ⟨S_, .i32⟩
  | 92 => ⟨S8192x2048, .i32⟩
  | 93 => ⟨S8192x2048, .i32⟩
  | 94 => ⟨S_, .i32⟩
  | 95 => ⟨S8192x2048, .i32⟩
  | 96 => ⟨S8192x2048, .i32⟩
  | 97 => ⟨S8192x2048, .i32⟩
  | 98 => ⟨S8192x2048, .i32⟩
  | 99 => ⟨S8192x2048, .i32⟩
  | 100 => ⟨S8192x2048, .i32⟩
  | 101 => ⟨S8192x2048, .i32⟩
  | 102 => ⟨S8192x2048, .i32⟩
  | 103 => ⟨S_, .i32⟩
  | 104 => ⟨S8192x2048, .i32⟩
  | 105 => ⟨S8192x2048, .i32⟩
  | 106 => ⟨S8192x2048, .i32⟩
  | 107 => ⟨S_, .i32⟩
  | 108 => ⟨S8192x2048, .i32⟩
  | 109 => ⟨S8192x2048, .i32⟩
  | 110 => ⟨S_, .i32⟩
  | 111 => ⟨S8192x2048, .i32⟩
  | 112 => ⟨S8192x2048, .i32⟩
  | 113 => ⟨S8192x2048, .i32⟩
  | 114 => ⟨S8192x2048, .i32⟩
  | 115 => ⟨S8192x2048, .i32⟩
  | 116 => ⟨S_, .i32⟩
  | 117 => ⟨S8192x2048, .i32⟩
  | 118 => ⟨S8192x2048, .i32⟩
  | 119 => ⟨S_, .i32⟩
  | 120 => ⟨S8192x2048, .i32⟩
  | 121 => ⟨S8192x2048, .i32⟩
  | 122 => ⟨S8192x2048, .i32⟩
  | 123 => ⟨S8192x2048, .i32⟩
  | 124 => ⟨S8192x2048, .i32⟩
  | 125 => ⟨S_, .i32⟩
  | 126 => ⟨S8192x2048, .i32⟩
  | 127 => ⟨S8192x2048, .i32⟩
  | _ => ⟨S4x2048x768, .f32⟩

abbrev hbmTy0_1 (i : Nat) : BufTy := match i % 128 with
  | 0 => ⟨S_, .i32⟩
  | 1 => ⟨S8192x2048, .i32⟩
  | 2 => ⟨S8192x2048, .i32⟩
  | 3 => ⟨S8192x2048, .i32⟩
  | 4 => ⟨S8192x2048, .i32⟩
  | 5 => ⟨S8192x2048, .i32⟩
  | 6 => ⟨S_, .i32⟩
  | 7 => ⟨S8192x2048, .i32⟩
  | 8 => ⟨S8192x2048, .i32⟩
  | 9 => ⟨S_, .i32⟩
  | 10 => ⟨S8192x2048, .i32⟩
  | 11 => ⟨S8192x2048, .i32⟩
  | 12 => ⟨S8192x2048, .i32⟩
  | 13 => ⟨S8192x2048, .i32⟩
  | 14 => ⟨S8192x2048, .i32⟩
  | 15 => ⟨S8192x2048, .i32⟩
  | 16 => ⟨S8192x2048, .i32⟩
  | 17 => ⟨S8192x2048, .i32⟩
  | 18 => ⟨S_, .i32⟩
  | 19 => ⟨S8192x2048, .i32⟩
  | 20 => ⟨S8192x2048, .i32⟩
  | 21 => ⟨S8192x2048, .i32⟩
  | 22 => ⟨S_, .i32⟩
  | 23 => ⟨S8192x2048, .i32⟩
  | 24 => ⟨S8192x2048, .i32⟩
  | 25 => ⟨S_, .i32⟩
  | 26 => ⟨S8192x2048, .i32⟩
  | 27 => ⟨S8192x2048, .i32⟩
  | 28 => ⟨S8192x2048, .i32⟩
  | 29 => ⟨S8192x2048, .i32⟩
  | 30 => ⟨S8192x2048, .i32⟩
  | 31 => ⟨S_, .i32⟩
  | 32 => ⟨S8192x2048, .i32⟩
  | 33 => ⟨S8192x2048, .i32⟩
  | 34 => ⟨S_, .i32⟩
  | 35 => ⟨S8192x2048, .i32⟩
  | 36 => ⟨S8192x2048, .i32⟩
  | 37 => ⟨S8192x2048, .i32⟩
  | 38 => ⟨S8192x2048, .i32⟩
  | 39 => ⟨S8192x2048, .i32⟩
  | 40 => ⟨S_, .i32⟩
  | 41 => ⟨S8192x2048, .i32⟩
  | 42 => ⟨S8192x2048, .i32⟩
  | 43 => ⟨S_, .i32⟩
  | 44 => ⟨S8192x2048, .i32⟩
  | 45 => ⟨S8192x2048, .i32⟩
  | 46 => ⟨S8192x2048, .i32⟩
  | 47 => ⟨S8192x2048, .i32⟩
  | 48 => ⟨S8192x2048, .i32⟩
  | 49 => ⟨S_, .i32⟩
  | 50 => ⟨S8192x2048, .i32⟩
  | 51 => ⟨S8192x2048, .i32⟩
  | 52 => ⟨S_, .i32⟩
  | 53 => ⟨S8192x2048, .i32⟩
  | 54 => ⟨S8192x2048, .i32⟩
  | 55 => ⟨S8192x2048, .i32⟩
  | 56 => ⟨S8192x2048, .i32⟩
  | 57 => ⟨S8192x2048, .i32⟩
  | 58 => ⟨S8192x2048, .i32⟩
  | 59 => ⟨S8192x2048, .i32⟩
  | 60 => ⟨S8192x2048, .i32⟩
  | 61 => ⟨S_, .i32⟩
  | 62 => ⟨S8192x2048, .i32⟩
  | 63 => ⟨S8192x2048, .i32⟩
  | 64 => ⟨S8192x2048, .i32⟩
  | 65 => ⟨S_, .i32⟩
  | 66 => ⟨S8192x2048, .i32⟩
  | 67 => ⟨S8192x2048, .i32⟩
  | 68 => ⟨S_, .i32⟩
  | 69 => ⟨S8192x2048, .i32⟩
  | 70 => ⟨S8192x2048, .i32⟩
  | 71 => ⟨S8192x2048, .i32⟩
  | 72 => ⟨S8192x2048, .i32⟩
  | 73 => ⟨S8192x2048, .i32⟩
  | 74 => ⟨S_, .i32⟩
  | 75 => ⟨S8192x2048, .i32⟩
  | 76 => ⟨S8192x2048, .i32⟩
  | 77 => ⟨S_, .i32⟩
  | 78 => ⟨S8192x2048, .i32⟩
  | 79 => ⟨S8192x2048, .i32⟩
  | 80 => ⟨S8192x2048, .i32⟩
  | 81 => ⟨S8192x2048, .i32⟩
  | 82 => ⟨S8192x2048, .i32⟩
  | 83 => ⟨S_, .i32⟩
  | 84 => ⟨S8192x2048, .i32⟩
  | 85 => ⟨S8192x2048, .i32⟩
  | 86 => ⟨S_, .i32⟩
  | 87 => ⟨S8192x2048, .i32⟩
  | 88 => ⟨S8192x2048, .i32⟩
  | 89 => ⟨S8192x2048, .i32⟩
  | 90 => ⟨S8192x2048, .i32⟩
  | 91 => ⟨S8192x2048, .i32⟩
  | 92 => ⟨S_, .i32⟩
  | 93 => ⟨S8192x2048, .i32⟩
  | 94 => ⟨S8192x2048, .i32⟩
  | 95 => ⟨S_, .i32⟩
  | 96 => ⟨S8192x2048, .i32⟩
  | 97 => ⟨S8192x2048, .i32⟩
  | 98 => ⟨S8192x2048, .i32⟩
  | 99 => ⟨S8192x2048, .i32⟩
  | 100 => ⟨S8192x2048, .i32⟩
  | 101 => ⟨S8192x2048, .i32⟩
  | 102 => ⟨S8192x2048, .i32⟩
  | 103 => ⟨S8192x2048, .i32⟩
  | 104 => ⟨S_, .i32⟩
  | 105 => ⟨S8192x2048, .i32⟩
  | 106 => ⟨S8192x2048, .i32⟩
  | 107 => ⟨S8192x2048, .i32⟩
  | 108 => ⟨S_, .i32⟩
  | 109 => ⟨S8192x2048, .i32⟩
  | 110 => ⟨S8192x2048, .i32⟩
  | 111 => ⟨S_, .i32⟩
  | 112 => ⟨S8192x2048, .i32⟩
  | 113 => ⟨S8192x2048, .i32⟩
  | 114 => ⟨S8192x2048, .i32⟩
  | 115 => ⟨S8192x2048, .i32⟩
  | 116 => ⟨S8192x2048, .i32⟩
  | 117 => ⟨S_, .i32⟩
  | 118 => ⟨S8192x2048, .i32⟩
  | 119 => ⟨S8192x2048, .i32⟩
  | 120 => ⟨S_, .i32⟩
  | 121 => ⟨S8192x2048, .i32⟩
  | 122 => ⟨S8192x2048, .i32⟩
  | 123 => ⟨S8192x2048, .i32⟩
  | 124 => ⟨S8192x2048, .i32⟩
  | 125 => ⟨S8192x2048, .i32⟩
  | 126 => ⟨S_, .i32⟩
  | 127 => ⟨S8192x2048, .i32⟩
  | _ => ⟨S4x2048x768, .f32⟩

abbrev hbmTy0_2 (i : Nat) : BufTy := match i % 128 with
  | 0 => ⟨S8192x2048, .i32⟩
  | 1 => ⟨S_, .i32⟩
  | 2 => ⟨S8192x2048, .i32⟩
  | 3 => ⟨S8192x2048, .i32⟩
  | 4 => ⟨S8192x2048, .i32⟩
  | 5 => ⟨S8192x2048, .i32⟩
  | 6 => ⟨S8192x2048, .i32⟩
  | 7 => ⟨S_, .i32⟩
  | 8 => ⟨S8192x2048, .i32⟩
  | 9 => ⟨S8192x2048, .i32⟩
  | 10 => ⟨S_, .i32⟩
  | 11 => ⟨S8192x2048, .i32⟩
  | 12 => ⟨S8192x2048, .i32⟩
  | 13 => ⟨S8192x2048, .i32⟩
  | 14 => ⟨S8192x2048, .i32⟩
  | 15 => ⟨S8192x2048, .i32⟩
  | 16 => ⟨S8192x2048, .i32⟩
  | 17 => ⟨S8192x2048, .i32⟩
  | 18 => ⟨S8192x2048, .i32⟩
  | 19 => ⟨S_, .i32⟩
  | 20 => ⟨S8192x2048, .i32⟩
  | 21 => ⟨S8192x2048, .i32⟩
  | 22 => ⟨S8192x2048, .i32⟩
  | 23 => ⟨S_, .i32⟩
  | 24 => ⟨S8192x2048, .i32⟩
  | 25 => ⟨S8192x2048, .i32⟩
  | 26 => ⟨S_, .i32⟩
  | 27 => ⟨S8192x2048, .i32⟩
  | 28 => ⟨S8192x2048, .i32⟩
  | 29 => ⟨S8192x2048, .f32⟩
  | 30 => ⟨S_, .f32⟩
  | 31 => ⟨S8192x2048, .f32⟩
  | 32 => ⟨S8192x2048, .f32⟩
  | 33 => ⟨S1x1, .f32⟩
  | 34 => ⟨S8192x2048, .f32⟩
  | 35 => ⟨S8192x2048, .f32⟩
  | 36 => ⟨S8192x2048, .f32⟩
  | 37 => ⟨S8192x2048, .f32⟩
  | 38 => ⟨S8192x2048, .f32⟩
  | 39 => ⟨S8192x2048, .f32⟩
  | 40 => ⟨S8192x2048, .f32⟩
  | 41 => ⟨S8192x2048, .i1⟩
  | 42 => ⟨S8192x2048, .f32⟩
  | 43 => ⟨S8192x2048, .f32⟩
  | 44 => ⟨S8192x768, .f32⟩
  | 45 => ⟨S1x768, .f32⟩
  | 46 => ⟨S8192x768, .f32⟩
  | 47 => ⟨S8192x768, .f32⟩
  | 48 => ⟨S8192x768, .f32⟩
  | 49 => ⟨S_, .f32⟩
  | 50 => ⟨S8192x768, .f32⟩
  | 51 => ⟨S8192x768, .i1⟩
  | 52 => ⟨S8192x768, .i1⟩
  | 53 => ⟨S8192x768, .f32⟩
  | 54 => ⟨S_, .f32⟩
  | 55 => ⟨S_, .f32⟩
  | 56 => ⟨S8192x768, .f32⟩
  | 57 => ⟨S8192x768, .f32⟩
  | 58 => ⟨S_, .f32⟩
  | 59 => ⟨S_, .f32⟩
  | 60 => ⟨S8192x768, .f32⟩
  | 61 => ⟨S8192x768, .f32⟩
  | 62 => ⟨S_, .f32⟩
  | 63 => ⟨S_, .f32⟩
  | 64 => ⟨S_, .f32⟩
  | _ => ⟨S4x2048x768, .f32⟩

abbrev hbmTy (i : Nat) : BufTy := match i / 128 with
  | 0 => hbmTy0_0 i
  | 1 => hbmTy0_1 i
  | 2 => hbmTy0_2 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_cst_0 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_c : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_call0_c_0 : Ref sig .tc := ⟨.hbm, 47, rfl⟩
abbrev main_call0_call0_v12 : Ref sig .tc := ⟨.hbm, 48, rfl⟩
abbrev main_call0_call0_v13 : Ref sig .tc := ⟨.hbm, 49, rfl⟩
abbrev main_call0_call0_v14 : Ref sig .tc := ⟨.hbm, 50, rfl⟩
abbrev main_call0_call0_c_1 : Ref sig .tc := ⟨.hbm, 51, rfl⟩
abbrev main_call0_call0_v15 : Ref sig .tc := ⟨.hbm, 52, rfl⟩
abbrev main_call0_call0_v16 : Ref sig .tc := ⟨.hbm, 53, rfl⟩
abbrev main_call0_call0_v17 : Ref sig .tc := ⟨.hbm, 54, rfl⟩
abbrev main_call0_call0_v18 : Ref sig .tc := ⟨.hbm, 55, rfl⟩
abbrev main_call0_call0_call0_v0 : Ref sig .tc := ⟨.hbm, 56, rfl⟩
abbrev main_call0_call0_call0_c : Ref sig .tc := ⟨.hbm, 57, rfl⟩
abbrev main_call0_call0_call0_v1 : Ref sig .tc := ⟨.hbm, 58, rfl⟩
abbrev main_call0_call0_call0_v2 : Ref sig .tc := ⟨.hbm, 59, rfl⟩
abbrev main_call0_call0_call0_v3 : Ref sig .tc := ⟨.hbm, 60, rfl⟩
abbrev main_call0_call0_call0_v4 : Ref sig .tc := ⟨.hbm, 61, rfl⟩
abbrev main_call0_call0_call0_v5 : Ref sig .tc := ⟨.hbm, 62, rfl⟩
abbrev main_call0_call0_call0_v6 : Ref sig .tc := ⟨.hbm, 63, rfl⟩
abbrev main_call0_call0_call0_c_0 : Ref sig .tc := ⟨.hbm, 64, rfl⟩
abbrev main_call0_call0_call0_v7 : Ref sig .tc := ⟨.hbm, 65, rfl⟩
abbrev main_call0_call0_call0_v8 : Ref sig .tc := ⟨.hbm, 66, rfl⟩
abbrev main_call0_call0_call0_c_1 : Ref sig .tc := ⟨.hbm, 67, rfl⟩
abbrev main_call0_call0_call0_v9 : Ref sig .tc := ⟨.hbm, 68, rfl⟩
abbrev main_call0_call0_call0_v10 : Ref sig .tc := ⟨.hbm, 69, rfl⟩
abbrev main_call0_call0_call0_v11 : Ref sig .tc := ⟨.hbm, 70, rfl⟩
abbrev main_call0_call0_call0_v12 : Ref sig .tc := ⟨.hbm, 71, rfl⟩
abbrev main_call0_call0_call0_v13 : Ref sig .tc := ⟨.hbm, 72, rfl⟩
abbrev main_call0_call0_call0_c_2 : Ref sig .tc := ⟨.hbm, 73, rfl⟩
abbrev main_call0_call0_call0_v14 : Ref sig .tc := ⟨.hbm, 74, rfl⟩
abbrev main_call0_call0_call0_v15 : Ref sig .tc := ⟨.hbm, 75, rfl⟩
abbrev main_call0_call0_call0_c_3 : Ref sig .tc := ⟨.hbm, 76, rfl⟩
abbrev main_call0_call0_call0_v16 : Ref sig .tc := ⟨.hbm, 77, rfl⟩
abbrev main_call0_call0_call0_v17 : Ref sig .tc := ⟨.hbm, 78, rfl⟩
abbrev main_call0_call0_call0_v18 : Ref sig .tc := ⟨.hbm, 79, rfl⟩
abbrev main_call0_call0_call0_v19 : Ref sig .tc := ⟨.hbm, 80, rfl⟩
abbrev main_call0_call0_call0_v20 : Ref sig .tc := ⟨.hbm, 81, rfl⟩
abbrev main_call0_call0_call0_c_4 : Ref sig .tc := ⟨.hbm, 82, rfl⟩
abbrev main_call0_call0_call0_v21 : Ref sig .tc := ⟨.hbm, 83, rfl⟩
abbrev main_call0_call0_call0_v22 : Ref sig .tc := ⟨.hbm, 84, rfl⟩
abbrev main_call0_call0_call0_c_5 : Ref sig .tc := ⟨.hbm, 85, rfl⟩
abbrev main_call0_call0_call0_v23 : Ref sig .tc := ⟨.hbm, 86, rfl⟩
abbrev main_call0_call0_call0_v24 : Ref sig .tc := ⟨.hbm, 87, rfl⟩
abbrev main_call0_call0_call0_v25 : Ref sig .tc := ⟨.hbm, 88, rfl⟩
abbrev main_call0_call0_call0_v26 : Ref sig .tc := ⟨.hbm, 89, rfl⟩
abbrev main_call0_call0_call0_v27 : Ref sig .tc := ⟨.hbm, 90, rfl⟩
abbrev main_call0_call0_call0_c_6 : Ref sig .tc := ⟨.hbm, 91, rfl⟩
abbrev main_call0_call0_call0_v28 : Ref sig .tc := ⟨.hbm, 92, rfl⟩
abbrev main_call0_call0_call0_v29 : Ref sig .tc := ⟨.hbm, 93, rfl⟩
abbrev main_call0_call0_call0_c_7 : Ref sig .tc := ⟨.hbm, 94, rfl⟩
abbrev main_call0_call0_call0_v30 : Ref sig .tc := ⟨.hbm, 95, rfl⟩
abbrev main_call0_call0_call0_v31 : Ref sig .tc := ⟨.hbm, 96, rfl⟩
abbrev main_call0_call0_call0_v32 : Ref sig .tc := ⟨.hbm, 97, rfl⟩
abbrev main_call0_call0_call0_v33 : Ref sig .tc := ⟨.hbm, 98, rfl⟩
abbrev main_call0_call0_call0_v34 : Ref sig .tc := ⟨.hbm, 99, rfl⟩
abbrev main_call0_call0_call0_v35 : Ref sig .tc := ⟨.hbm, 100, rfl⟩
abbrev main_call0_call0_call0_v36 : Ref sig .tc := ⟨.hbm, 101, rfl⟩
abbrev main_call0_call0_call0_v37 : Ref sig .tc := ⟨.hbm, 102, rfl⟩
abbrev main_call0_call0_call0_c_8 : Ref sig .tc := ⟨.hbm, 103, rfl⟩
abbrev main_call0_call0_call0_v38 : Ref sig .tc := ⟨.hbm, 104, rfl⟩
abbrev main_call0_call0_call0_v39 : Ref sig .tc := ⟨.hbm, 105, rfl⟩
abbrev main_call0_call0_call0_v40 : Ref sig .tc := ⟨.hbm, 106, rfl⟩
abbrev main_call0_call0_call0_c_9 : Ref sig .tc := ⟨.hbm, 107, rfl⟩
abbrev main_call0_call0_call0_v41 : Ref sig .tc := ⟨.hbm, 108, rfl⟩
abbrev main_call0_call0_call0_v42 : Ref sig .tc := ⟨.hbm, 109, rfl⟩
abbrev main_call0_call0_call0_c_10 : Ref sig .tc := ⟨.hbm, 110, rfl⟩
abbrev main_call0_call0_call0_v43 : Ref sig .tc := ⟨.hbm, 111, rfl⟩
abbrev main_call0_call0_call0_v44 : Ref sig .tc := ⟨.hbm, 112, rfl⟩
abbrev main_call0_call0_call0_v45 : Ref sig .tc := ⟨.hbm, 113, rfl⟩
abbrev main_call0_call0_call0_v46 : Ref sig .tc := ⟨.hbm, 114, rfl⟩
abbrev main_call0_call0_call0_v47 : Ref sig .tc := ⟨.hbm, 115, rfl⟩
abbrev main_call0_call0_call0_c_11 : Ref sig .tc := ⟨.hbm, 116, rfl⟩
abbrev main_call0_call0_call0_v48 : Ref sig .tc := ⟨.hbm, 117, rfl⟩
abbrev main_call0_call0_call0_v49 : Ref sig .tc := ⟨.hbm, 118, rfl⟩
abbrev main_call0_call0_call0_c_12 : Ref sig .tc := ⟨.hbm, 119, rfl⟩
abbrev main_call0_call0_call0_v50 : Ref sig .tc := ⟨.hbm, 120, rfl⟩
abbrev main_call0_call0_call0_v51 : Ref sig .tc := ⟨.hbm, 121, rfl⟩
abbrev main_call0_call0_call0_v52 : Ref sig .tc := ⟨.hbm, 122, rfl⟩
abbrev main_call0_call0_call0_v53 : Ref sig .tc := ⟨.hbm, 123, rfl⟩
abbrev main_call0_call0_call0_v54 : Ref sig .tc := ⟨.hbm, 124, rfl⟩
abbrev main_call0_call0_call0_c_13 : Ref sig .tc := ⟨.hbm, 125, rfl⟩
abbrev main_call0_call0_call0_v55 : Ref sig .tc := ⟨.hbm, 126, rfl⟩
abbrev main_call0_call0_call0_v56 : Ref sig .tc := ⟨.hbm, 127, rfl⟩
abbrev main_call0_call0_call0_c_14 : Ref sig .tc := ⟨.hbm, 128, rfl⟩
abbrev main_call0_call0_call0_v57 : Ref sig .tc := ⟨.hbm, 129, rfl⟩
abbrev main_call0_call0_call0_v58 : Ref sig .tc := ⟨.hbm, 130, rfl⟩
abbrev main_call0_call0_call0_v59 : Ref sig .tc := ⟨.hbm, 131, rfl⟩
abbrev main_call0_call0_call0_v60 : Ref sig .tc := ⟨.hbm, 132, rfl⟩
abbrev main_call0_call0_call0_v61 : Ref sig .tc := ⟨.hbm, 133, rfl⟩
abbrev main_call0_call0_call0_c_15 : Ref sig .tc := ⟨.hbm, 134, rfl⟩
abbrev main_call0_call0_call0_v62 : Ref sig .tc := ⟨.hbm, 135, rfl⟩
abbrev main_call0_call0_call0_v63 : Ref sig .tc := ⟨.hbm, 136, rfl⟩
abbrev main_call0_call0_call0_c_16 : Ref sig .tc := ⟨.hbm, 137, rfl⟩
abbrev main_call0_call0_call0_v64 : Ref sig .tc := ⟨.hbm, 138, rfl⟩
abbrev main_call0_call0_call0_v65 : Ref sig .tc := ⟨.hbm, 139, rfl⟩
abbrev main_call0_call0_call0_v66 : Ref sig .tc := ⟨.hbm, 140, rfl⟩
abbrev main_call0_call0_call0_v67 : Ref sig .tc := ⟨.hbm, 141, rfl⟩
abbrev main_call0_call0_call0_v68 : Ref sig .tc := ⟨.hbm, 142, rfl⟩
abbrev main_call0_call0_call0_v69 : Ref sig .tc := ⟨.hbm, 143, rfl⟩
abbrev main_call0_call0_call0_v70 : Ref sig .tc := ⟨.hbm, 144, rfl⟩
abbrev main_call0_call0_call0_v71 : Ref sig .tc := ⟨.hbm, 145, rfl⟩
abbrev main_call0_call0_call0_c_17 : Ref sig .tc := ⟨.hbm, 146, rfl⟩
abbrev main_call0_call0_call0_v72 : Ref sig .tc := ⟨.hbm, 147, rfl⟩
abbrev main_call0_call0_call0_v73 : Ref sig .tc := ⟨.hbm, 148, rfl⟩
abbrev main_call0_call0_call0_v74 : Ref sig .tc := ⟨.hbm, 149, rfl⟩
abbrev main_call0_call0_call0_c_18 : Ref sig .tc := ⟨.hbm, 150, rfl⟩
abbrev main_call0_call0_call0_v75 : Ref sig .tc := ⟨.hbm, 151, rfl⟩
abbrev main_call0_call0_call0_v76 : Ref sig .tc := ⟨.hbm, 152, rfl⟩
abbrev main_call0_call0_call0_c_19 : Ref sig .tc := ⟨.hbm, 153, rfl⟩
abbrev main_call0_call0_call0_v77 : Ref sig .tc := ⟨.hbm, 154, rfl⟩
abbrev main_call0_call0_call0_v78 : Ref sig .tc := ⟨.hbm, 155, rfl⟩
abbrev main_call0_call0_call0_v79 : Ref sig .tc := ⟨.hbm, 156, rfl⟩
abbrev main_call0_call0_call0_v80 : Ref sig .tc := ⟨.hbm, 157, rfl⟩
abbrev main_call0_call0_call0_v81 : Ref sig .tc := ⟨.hbm, 158, rfl⟩
abbrev main_call0_call0_call0_c_20 : Ref sig .tc := ⟨.hbm, 159, rfl⟩
abbrev main_call0_call0_call0_v82 : Ref sig .tc := ⟨.hbm, 160, rfl⟩
abbrev main_call0_call0_call0_v83 : Ref sig .tc := ⟨.hbm, 161, rfl⟩
abbrev main_call0_call0_call0_c_21 : Ref sig .tc := ⟨.hbm, 162, rfl⟩
abbrev main_call0_call0_call0_v84 : Ref sig .tc := ⟨.hbm, 163, rfl⟩
abbrev main_call0_call0_call0_v85 : Ref sig .tc := ⟨.hbm, 164, rfl⟩
abbrev main_call0_call0_call0_v86 : Ref sig .tc := ⟨.hbm, 165, rfl⟩
abbrev main_call0_call0_call0_v87 : Ref sig .tc := ⟨.hbm, 166, rfl⟩
abbrev main_call0_call0_call0_v88 : Ref sig .tc := ⟨.hbm, 167, rfl⟩
abbrev main_call0_call0_call0_c_22 : Ref sig .tc := ⟨.hbm, 168, rfl⟩
abbrev main_call0_call0_call0_v89 : Ref sig .tc := ⟨.hbm, 169, rfl⟩
abbrev main_call0_call0_call0_v90 : Ref sig .tc := ⟨.hbm, 170, rfl⟩
abbrev main_call0_call0_call0_c_23 : Ref sig .tc := ⟨.hbm, 171, rfl⟩
abbrev main_call0_call0_call0_v91 : Ref sig .tc := ⟨.hbm, 172, rfl⟩
abbrev main_call0_call0_call0_v92 : Ref sig .tc := ⟨.hbm, 173, rfl⟩
abbrev main_call0_call0_call0_v93 : Ref sig .tc := ⟨.hbm, 174, rfl⟩
abbrev main_call0_call0_call0_v94 : Ref sig .tc := ⟨.hbm, 175, rfl⟩
abbrev main_call0_call0_call0_v95 : Ref sig .tc := ⟨.hbm, 176, rfl⟩
abbrev main_call0_call0_call0_c_24 : Ref sig .tc := ⟨.hbm, 177, rfl⟩
abbrev main_call0_call0_call0_v96 : Ref sig .tc := ⟨.hbm, 178, rfl⟩
abbrev main_call0_call0_call0_v97 : Ref sig .tc := ⟨.hbm, 179, rfl⟩
abbrev main_call0_call0_call0_c_25 : Ref sig .tc := ⟨.hbm, 180, rfl⟩
abbrev main_call0_call0_call0_v98 : Ref sig .tc := ⟨.hbm, 181, rfl⟩
abbrev main_call0_call0_call0_v99 : Ref sig .tc := ⟨.hbm, 182, rfl⟩
abbrev main_call0_call0_call0_v100 : Ref sig .tc := ⟨.hbm, 183, rfl⟩
abbrev main_call0_call0_call0_v101 : Ref sig .tc := ⟨.hbm, 184, rfl⟩
abbrev main_call0_call0_call0_v102 : Ref sig .tc := ⟨.hbm, 185, rfl⟩
abbrev main_call0_call0_call0_v103 : Ref sig .tc := ⟨.hbm, 186, rfl⟩
abbrev main_call0_call0_call0_v104 : Ref sig .tc := ⟨.hbm, 187, rfl⟩
abbrev main_call0_call0_call0_v105 : Ref sig .tc := ⟨.hbm, 188, rfl⟩
abbrev main_call0_call0_call0_c_26 : Ref sig .tc := ⟨.hbm, 189, rfl⟩
abbrev main_call0_call0_call0_v106 : Ref sig .tc := ⟨.hbm, 190, rfl⟩
abbrev main_call0_call0_call0_v107 : Ref sig .tc := ⟨.hbm, 191, rfl⟩
abbrev main_call0_call0_call0_v108 : Ref sig .tc := ⟨.hbm, 192, rfl⟩
abbrev main_call0_call0_call0_c_27 : Ref sig .tc := ⟨.hbm, 193, rfl⟩
abbrev main_call0_call0_call0_v109 : Ref sig .tc := ⟨.hbm, 194, rfl⟩
abbrev main_call0_call0_call0_v110 : Ref sig .tc := ⟨.hbm, 195, rfl⟩
abbrev main_call0_call0_call0_c_28 : Ref sig .tc := ⟨.hbm, 196, rfl⟩
abbrev main_call0_call0_call0_v111 : Ref sig .tc := ⟨.hbm, 197, rfl⟩
abbrev main_call0_call0_call0_v112 : Ref sig .tc := ⟨.hbm, 198, rfl⟩
abbrev main_call0_call0_call0_v113 : Ref sig .tc := ⟨.hbm, 199, rfl⟩
abbrev main_call0_call0_call0_v114 : Ref sig .tc := ⟨.hbm, 200, rfl⟩
abbrev main_call0_call0_call0_v115 : Ref sig .tc := ⟨.hbm, 201, rfl⟩
abbrev main_call0_call0_call0_c_29 : Ref sig .tc := ⟨.hbm, 202, rfl⟩
abbrev main_call0_call0_call0_v116 : Ref sig .tc := ⟨.hbm, 203, rfl⟩
abbrev main_call0_call0_call0_v117 : Ref sig .tc := ⟨.hbm, 204, rfl⟩
abbrev main_call0_call0_call0_c_30 : Ref sig .tc := ⟨.hbm, 205, rfl⟩
abbrev main_call0_call0_call0_v118 : Ref sig .tc := ⟨.hbm, 206, rfl⟩
abbrev main_call0_call0_call0_v119 : Ref sig .tc := ⟨.hbm, 207, rfl⟩
abbrev main_call0_call0_call0_v120 : Ref sig .tc := ⟨.hbm, 208, rfl⟩
abbrev main_call0_call0_call0_v121 : Ref sig .tc := ⟨.hbm, 209, rfl⟩
abbrev main_call0_call0_call0_v122 : Ref sig .tc := ⟨.hbm, 210, rfl⟩
abbrev main_call0_call0_call0_c_31 : Ref sig .tc := ⟨.hbm, 211, rfl⟩
abbrev main_call0_call0_call0_v123 : Ref sig .tc := ⟨.hbm, 212, rfl⟩
abbrev main_call0_call0_call0_v124 : Ref sig .tc := ⟨.hbm, 213, rfl⟩
abbrev main_call0_call0_call0_c_32 : Ref sig .tc := ⟨.hbm, 214, rfl⟩
abbrev main_call0_call0_call0_v125 : Ref sig .tc := ⟨.hbm, 215, rfl⟩
abbrev main_call0_call0_call0_v126 : Ref sig .tc := ⟨.hbm, 216, rfl⟩
abbrev main_call0_call0_call0_v127 : Ref sig .tc := ⟨.hbm, 217, rfl⟩
abbrev main_call0_call0_call0_v128 : Ref sig .tc := ⟨.hbm, 218, rfl⟩
abbrev main_call0_call0_call0_v129 : Ref sig .tc := ⟨.hbm, 219, rfl⟩
abbrev main_call0_call0_call0_c_33 : Ref sig .tc := ⟨.hbm, 220, rfl⟩
abbrev main_call0_call0_call0_v130 : Ref sig .tc := ⟨.hbm, 221, rfl⟩
abbrev main_call0_call0_call0_v131 : Ref sig .tc := ⟨.hbm, 222, rfl⟩
abbrev main_call0_call0_call0_c_34 : Ref sig .tc := ⟨.hbm, 223, rfl⟩
abbrev main_call0_call0_call0_v132 : Ref sig .tc := ⟨.hbm, 224, rfl⟩
abbrev main_call0_call0_call0_v133 : Ref sig .tc := ⟨.hbm, 225, rfl⟩
abbrev main_call0_call0_call0_v134 : Ref sig .tc := ⟨.hbm, 226, rfl⟩
abbrev main_call0_call0_call0_v135 : Ref sig .tc := ⟨.hbm, 227, rfl⟩
abbrev main_call0_call0_call0_v136 : Ref sig .tc := ⟨.hbm, 228, rfl⟩
abbrev main_call0_call0_call0_v137 : Ref sig .tc := ⟨.hbm, 229, rfl⟩
abbrev main_call0_call0_call0_v138 : Ref sig .tc := ⟨.hbm, 230, rfl⟩
abbrev main_call0_call0_call0_v139 : Ref sig .tc := ⟨.hbm, 231, rfl⟩
abbrev main_call0_call0_call0_c_35 : Ref sig .tc := ⟨.hbm, 232, rfl⟩
abbrev main_call0_call0_call0_v140 : Ref sig .tc := ⟨.hbm, 233, rfl⟩
abbrev main_call0_call0_call0_v141 : Ref sig .tc := ⟨.hbm, 234, rfl⟩
abbrev main_call0_call0_call0_v142 : Ref sig .tc := ⟨.hbm, 235, rfl⟩
abbrev main_call0_call0_call0_c_36 : Ref sig .tc := ⟨.hbm, 236, rfl⟩
abbrev main_call0_call0_call0_v143 : Ref sig .tc := ⟨.hbm, 237, rfl⟩
abbrev main_call0_call0_call0_v144 : Ref sig .tc := ⟨.hbm, 238, rfl⟩
abbrev main_call0_call0_call0_c_37 : Ref sig .tc := ⟨.hbm, 239, rfl⟩
abbrev main_call0_call0_call0_v145 : Ref sig .tc := ⟨.hbm, 240, rfl⟩
abbrev main_call0_call0_call0_v146 : Ref sig .tc := ⟨.hbm, 241, rfl⟩
abbrev main_call0_call0_call0_v147 : Ref sig .tc := ⟨.hbm, 242, rfl⟩
abbrev main_call0_call0_call0_v148 : Ref sig .tc := ⟨.hbm, 243, rfl⟩
abbrev main_call0_call0_call0_v149 : Ref sig .tc := ⟨.hbm, 244, rfl⟩
abbrev main_call0_call0_call0_c_38 : Ref sig .tc := ⟨.hbm, 245, rfl⟩
abbrev main_call0_call0_call0_v150 : Ref sig .tc := ⟨.hbm, 246, rfl⟩
abbrev main_call0_call0_call0_v151 : Ref sig .tc := ⟨.hbm, 247, rfl⟩
abbrev main_call0_call0_call0_c_39 : Ref sig .tc := ⟨.hbm, 248, rfl⟩
abbrev main_call0_call0_call0_v152 : Ref sig .tc := ⟨.hbm, 249, rfl⟩
abbrev main_call0_call0_call0_v153 : Ref sig .tc := ⟨.hbm, 250, rfl⟩
abbrev main_call0_call0_call0_v154 : Ref sig .tc := ⟨.hbm, 251, rfl⟩
abbrev main_call0_call0_call0_v155 : Ref sig .tc := ⟨.hbm, 252, rfl⟩
abbrev main_call0_call0_call0_v156 : Ref sig .tc := ⟨.hbm, 253, rfl⟩
abbrev main_call0_call0_call0_c_40 : Ref sig .tc := ⟨.hbm, 254, rfl⟩
abbrev main_call0_call0_call0_v157 : Ref sig .tc := ⟨.hbm, 255, rfl⟩
abbrev main_call0_call0_call0_v158 : Ref sig .tc := ⟨.hbm, 256, rfl⟩
abbrev main_call0_call0_call0_c_41 : Ref sig .tc := ⟨.hbm, 257, rfl⟩
abbrev main_call0_call0_call0_v159 : Ref sig .tc := ⟨.hbm, 258, rfl⟩
abbrev main_call0_call0_call0_v160 : Ref sig .tc := ⟨.hbm, 259, rfl⟩
abbrev main_call0_call0_call0_v161 : Ref sig .tc := ⟨.hbm, 260, rfl⟩
abbrev main_call0_call0_call0_v162 : Ref sig .tc := ⟨.hbm, 261, rfl⟩
abbrev main_call0_call0_call0_v163 : Ref sig .tc := ⟨.hbm, 262, rfl⟩
abbrev main_call0_call0_call0_c_42 : Ref sig .tc := ⟨.hbm, 263, rfl⟩
abbrev main_call0_call0_call0_v164 : Ref sig .tc := ⟨.hbm, 264, rfl⟩
abbrev main_call0_call0_call0_v165 : Ref sig .tc := ⟨.hbm, 265, rfl⟩
abbrev main_call0_call0_call0_c_43 : Ref sig .tc := ⟨.hbm, 266, rfl⟩
abbrev main_call0_call0_call0_v166 : Ref sig .tc := ⟨.hbm, 267, rfl⟩
abbrev main_call0_call0_call0_v167 : Ref sig .tc := ⟨.hbm, 268, rfl⟩
abbrev main_call0_call0_call0_v168 : Ref sig .tc := ⟨.hbm, 269, rfl⟩
abbrev main_call0_call0_call0_v169 : Ref sig .tc := ⟨.hbm, 270, rfl⟩
abbrev main_call0_call0_call0_v170 : Ref sig .tc := ⟨.hbm, 271, rfl⟩
abbrev main_call0_call0_v19_0 : Ref sig .tc := ⟨.hbm, 272, rfl⟩
abbrev main_call0_call0_call0_v172 : Ref sig .tc := ⟨.hbm, 273, rfl⟩
abbrev main_call0_call0_call0_v173 : Ref sig .tc := ⟨.hbm, 274, rfl⟩
abbrev main_call0_call0_call0_c_44 : Ref sig .tc := ⟨.hbm, 275, rfl⟩
abbrev main_call0_call0_call0_v174 : Ref sig .tc := ⟨.hbm, 276, rfl⟩
abbrev main_call0_call0_v19_1 : Ref sig .tc := ⟨.hbm, 277, rfl⟩
abbrev main_call0_call0_v20 : Ref sig .tc := ⟨.hbm, 278, rfl⟩
abbrev main_call0_call0_c_2 : Ref sig .tc := ⟨.hbm, 279, rfl⟩
abbrev main_call0_call0_v21 : Ref sig .tc := ⟨.hbm, 280, rfl⟩
abbrev main_call0_call0_v22 : Ref sig .tc := ⟨.hbm, 281, rfl⟩
abbrev main_call0_call0_c_3 : Ref sig .tc := ⟨.hbm, 282, rfl⟩
abbrev main_call0_call0_v23 : Ref sig .tc := ⟨.hbm, 283, rfl⟩
abbrev main_call0_call0_v24 : Ref sig .tc := ⟨.hbm, 284, rfl⟩
abbrev main_call0_call0_v25 : Ref sig .tc := ⟨.hbm, 285, rfl⟩
abbrev main_call0_call0_cst : Ref sig .tc := ⟨.hbm, 286, rfl⟩
abbrev main_call0_call0_v26 : Ref sig .tc := ⟨.hbm, 287, rfl⟩
abbrev main_call0_call0_v27 : Ref sig .tc := ⟨.hbm, 288, rfl⟩
abbrev main_call0_call0_v28 : Ref sig .tc := ⟨.hbm, 289, rfl⟩
abbrev main_call0_call0_v29 : Ref sig .tc := ⟨.hbm, 290, rfl⟩
abbrev main_call0_call0_v30 : Ref sig .tc := ⟨.hbm, 291, rfl⟩
abbrev main_call0_call0_v31 : Ref sig .tc := ⟨.hbm, 292, rfl⟩
abbrev main_call0_call0_v32 : Ref sig .tc := ⟨.hbm, 293, rfl⟩
abbrev main_call0_call0_v33 : Ref sig .tc := ⟨.hbm, 294, rfl⟩
abbrev main_call0_v0 : Ref sig .tc := ⟨.hbm, 295, rfl⟩
abbrev main_call0_v1 : Ref sig .tc := ⟨.hbm, 296, rfl⟩
abbrev main_v21 : Ref sig .tc := ⟨.hbm, 297, rfl⟩
abbrev main_v22 : Ref sig .tc := ⟨.hbm, 298, rfl⟩
abbrev main_v23 : Ref sig .tc := ⟨.hbm, 299, rfl⟩
abbrev main_v24 : Ref sig .tc := ⟨.hbm, 300, rfl⟩
abbrev main_v25 : Ref sig .tc := ⟨.hbm, 301, rfl⟩
abbrev main_v26 : Ref sig .tc := ⟨.hbm, 302, rfl⟩
abbrev main_v27 : Ref sig .tc := ⟨.hbm, 303, rfl⟩
abbrev main_v28 : Ref sig .tc := ⟨.hbm, 304, rfl⟩
abbrev main_cst_3 : Ref sig .tc := ⟨.hbm, 305, rfl⟩
abbrev main_v29 : Ref sig .tc := ⟨.hbm, 306, rfl⟩
abbrev main_v30 : Ref sig .tc := ⟨.hbm, 307, rfl⟩
abbrev main_v31 : Ref sig .tc := ⟨.hbm, 308, rfl⟩
abbrev main_v32 : Ref sig .tc := ⟨.hbm, 309, rfl⟩
abbrev main_cst_4 : Ref sig .tc := ⟨.hbm, 310, rfl⟩
abbrev main_v33 : Ref sig .tc := ⟨.hbm, 311, rfl⟩
abbrev main_v34 : Ref sig .tc := ⟨.hbm, 312, rfl⟩
abbrev main_v35 : Ref sig .tc := ⟨.hbm, 313, rfl⟩
abbrev main_cst_5 : Ref sig .tc := ⟨.hbm, 314, rfl⟩
abbrev main_call1_v0 : Ref sig .tc := ⟨.hbm, 315, rfl⟩
abbrev main_call1_v1 : Ref sig .tc := ⟨.hbm, 316, rfl⟩
abbrev main_v36 : Ref sig .tc := ⟨.hbm, 317, rfl⟩
abbrev main_cst_6 : Ref sig .tc := ⟨.hbm, 318, rfl⟩
abbrev main_v37 : Ref sig .tc := ⟨.hbm, 319, rfl⟩
abbrev main_v38 : Ref sig .tc := ⟨.hbm, 320, rfl⟩

abbrev nD : Nat := 1
abbrev τ : Topo := Topo.v7x

variable {F : FTy → Type} [FloatOps F]
-- ==== KernelAtIdeal.lean ====
abbrev S2048 : Shape := ⟨1, ![2048]⟩
abbrev S_ : Shape := ⟨0, ![]⟩
abbrev S4x2048x768 : Shape := ⟨3, ![4, 2048, 768]⟩
abbrev S768x2048 : Shape := ⟨2, ![768, 2048]⟩
abbrev S2048x768 : Shape := ⟨2, ![2048, 768]⟩
abbrev S768 : Shape := ⟨1, ![768]⟩
abbrev S8192x768 : Shape := ⟨2, ![8192, 768]⟩
abbrev S1664 : Shape := ⟨1, ![1664]⟩
abbrev S1x1664 : Shape := ⟨2, ![1, 1664]⟩
abbrev S1x768 : Shape := ⟨2, ![1, 768]⟩
abbrev S1024x768 : Shape := ⟨2, ![1024, 768]⟩
abbrev S1024x1664 : Shape := ⟨2, ![1024, 1664]⟩
abbrev S768x1664 : Shape := ⟨2, ![768, 1664]⟩
abbrev S1664x768 : Shape := ⟨2, ![1664, 768]⟩

abbrev nBuf : Space → Nat
  | .hbm => 39
  | .vmem => 14
  | .smem => 0
  | _ => 0

abbrev bufTy : (tb : Table) → Fin (tcTables nBuf tb) → BufTy
  | .hbm, ⟨0, _⟩ => ⟨S2048, .f32⟩
  | .hbm, ⟨1, _⟩ => ⟨S_, .f32⟩
  | .hbm, ⟨2, _⟩ => ⟨S4x2048x768, .f32⟩
  | .hbm, ⟨3, _⟩ => ⟨S_, .f32⟩
  | .hbm, ⟨4, _⟩ => ⟨S4x2048x768, .f32⟩
  | .hbm, ⟨5, _⟩ => ⟨S_, .f32⟩
  | .hbm, ⟨6, _⟩ => ⟨S768x2048, .f32⟩
  | .hbm, ⟨7, _⟩ => ⟨S_, .f32⟩
  | .hbm, ⟨8, _⟩ => ⟨S2048x768, .f32⟩
  | .hbm, ⟨9, _⟩ => ⟨S_, .f32⟩
  | .hbm, ⟨10, _⟩ => ⟨S768, .f32⟩
  | .hbm, ⟨11, _⟩ => ⟨S8192x768, .f32⟩
  | .hbm, ⟨12, _⟩ => ⟨S8192x768, .f32⟩
  | .hbm, ⟨13, _⟩ => ⟨S1664, .f32⟩
  | .hbm, ⟨14, _⟩ => ⟨S_, .f32⟩
  | .hbm, ⟨15, _⟩ => ⟨S1664, .f32⟩
  | .hbm, ⟨16, _⟩ => ⟨S1664, .f32⟩
  | .hbm, ⟨17, _⟩ => ⟨S1664, .f32⟩
  | .hbm, ⟨18, _⟩ => ⟨S_, .f32⟩
  | .hbm, ⟨19, _⟩ => ⟨S1664, .f32⟩
  | .hbm, ⟨20, _⟩ => ⟨S1664, .f32⟩
  | .hbm, ⟨21, _⟩ => ⟨S1664, .f32⟩
  | .hbm, ⟨22, _⟩ => ⟨S_, .f32⟩
  | .hbm, ⟨23, _⟩ => ⟨S1664, .f32⟩
  | .hbm, ⟨24, _⟩ => ⟨S1664, .f32⟩
  | .hbm, ⟨25, _⟩ => ⟨S1664, .f32⟩
  | .hbm, ⟨26, _⟩ => ⟨S1664, .i32⟩
  | .hbm, ⟨27, _⟩ => ⟨S1x1664, .i32⟩
  | .hbm, ⟨28, _⟩ => ⟨S1664, .f32⟩
  | .hbm, ⟨29, _⟩ => ⟨S1x1664, .f32⟩
  | .hbm, ⟨30, _⟩ => ⟨S1x768, .f32⟩
  | .hbm, ⟨31, _⟩ => ⟨S8192x768, .f32⟩
  | .hbm, ⟨32, _⟩ => ⟨S1x768, .f32⟩
  | .hbm, ⟨33, _⟩ => ⟨S1x768, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S768x2048, .f32⟩
  | .local _ .vmem, ⟨5, _⟩ => ⟨S1x1664, .f32⟩
  | .local _ .vmem, ⟨6, _⟩ => ⟨S2048x768, .f32⟩
  | .local _ .vmem, ⟨7, _⟩ => ⟨S1x768, .f32⟩
  | .local _ .vmem, ⟨8, _⟩ => ⟨S1x1664, .i32⟩
  | .local _ .vmem, ⟨9, _⟩ => ⟨S1024x768, .f32⟩
  | .local _ .vmem, ⟨10, _⟩ => ⟨S1024x768, .f32⟩
  | .local _ .vmem, ⟨11, _⟩ => ⟨S1x768, .f32⟩
  | .local _ .vmem, ⟨12, _⟩ => ⟨S1x768, .f32⟩
  | .local _ .vmem, ⟨13, _⟩ => ⟨S1024x1664, .i32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_cst_3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_cst_0 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_cst_1 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v5_1 : Ref sig .tc := ⟨.hbm, 31, rfl⟩
abbrev main_call0_v17_1 : Ref sig .tc := ⟨.hbm, 32, rfl⟩
abbrev main_call0_v17_2 : Ref sig .tc := ⟨.hbm, 33, rfl⟩
abbrev main_call0_cst_2 : Ref sig .tc := ⟨.hbm, 34, rfl⟩
abbrev main_call0_v18 : Ref sig .tc := ⟨.hbm, 35, rfl⟩
abbrev main_call0_cst_3 : Ref sig .tc := ⟨.hbm, 36, rfl⟩
abbrev main_call0_v19 : Ref sig .tc := ⟨.hbm, 37, rfl⟩
abbrev main_v5_0 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1664 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceAtIdeal.lean ====
abbrev S2048 : Shape := ⟨1, ![2048]⟩
abbrev S_ : Shape := ⟨0, ![]⟩
abbrev S4x2048x768 : Shape := ⟨3, ![4, 2048, 768]⟩
abbrev S768x2048 : Shape := ⟨2, ![768, 2048]⟩
abbrev S2048x768 : Shape := ⟨2, ![2048, 768]⟩
abbrev S768 : Shape := ⟨1, ![768]⟩
abbrev S8192x768 : Shape := ⟨2, ![8192, 768]⟩
abbrev S8192x2048 : Shape := ⟨2, ![8192, 2048]⟩
abbrev S1x2048 : Shape := ⟨2, ![1, 2048]⟩
abbrev S1 : Shape := ⟨1, ![1]⟩
abbrev S2 : Shape := ⟨1, ![2]⟩
abbrev S1x1 : Shape := ⟨2, ![1, 1]⟩
abbrev S1x768 : Shape := ⟨2, ![1, 768]⟩

abbrev nBuf : Space → Nat
  | .hbm => 326
  | .vmem => 0
  | .smem => 0
  | _ => 0

abbrev hbmTy0_0 (i : Nat) : BufTy := match i % 128 with
  | 0 => ⟨S2048, .f32⟩
  | 1 => ⟨S_, .f32⟩
  | 2 => ⟨S4x2048x768, .f32⟩
  | 3 => ⟨S_, .f32⟩
  | 4 => ⟨S4x2048x768, .f32⟩
  | 5 => ⟨S_, .f32⟩
  | 6 => ⟨S768x2048, .f32⟩
  | 7 => ⟨S_, .f32⟩
  | 8 => ⟨S2048x768, .f32⟩
  | 9 => ⟨S_, .f32⟩
  | 10 => ⟨S768, .f32⟩
  | 11 => ⟨S8192x768, .f32⟩
  | 12 => ⟨S8192x768, .f32⟩
  | 13 => ⟨S8192x2048, .f32⟩
  | 14 => ⟨S1x2048, .f32⟩
  | 15 => ⟨S8192x2048, .f32⟩
  | 16 => ⟨S8192x2048, .f32⟩
  | 17 => ⟨S2048, .f32⟩
  | 18 => ⟨S_, .f32⟩
  | 19 => ⟨S2048, .f32⟩
  | 20 => ⟨S2048, .f32⟩
  | 21 => ⟨S2048, .f32⟩
  | 22 => ⟨S_, .f32⟩
  | 23 => ⟨S2048, .f32⟩
  | 24 => ⟨S2048, .f32⟩
  | 25 => ⟨S2048, .f32⟩
  | 26 => ⟨S_, .i32⟩
  | 27 => ⟨S_, .i32⟩
  | 28 => ⟨S_, .i32⟩
  | 29 => ⟨S_, .i32⟩
  | 30 => ⟨S1, .i32⟩
  | 31 => ⟨S_, .i32⟩
  | 32 => ⟨S_, .i32⟩
  | 33 => ⟨S_, .i32⟩
  | 34 => ⟨S1, .i32⟩
  | 35 => ⟨S2, .i32⟩
  | 36 => ⟨S1x2048, .f32⟩
  | 37 => ⟨S_, .f32⟩
  | 38 => ⟨S_, .f32⟩
  | 39 => ⟨S_, .f32⟩
  | 40 => ⟨S_, .f32⟩
  | 41 => ⟨S1x1, .f32⟩
  | 42 => ⟨S1x1, .f32⟩
  | 43 => ⟨S1, .i32⟩
  | 44 => ⟨S_, .i32⟩
  | 45 => ⟨S1, .i32⟩
  | 46 => ⟨S_, .i32⟩
  | 47 => ⟨S8192x2048, .i64⟩
  | 48 => ⟨S8192x2048, .i64⟩
  | 49 => ⟨S_, .i64⟩
  | 50 => ⟨S8192x2048, .i64⟩
  | 51 => ⟨S8192x2048, .i64⟩
  | 52 => ⟨S_, .i64⟩
  | 53 => ⟨S8192x2048, .i64⟩
  | 54 => ⟨S8192x2048, .i64⟩
  | 55 => ⟨S8192x2048, .i64⟩
  | 56 => ⟨S_, .i64⟩
  | 57 => ⟨S8192x2048, .i64⟩
  | 58 => ⟨S8192x2048, .i64⟩
  | 59 => ⟨S8192x2048, .i32⟩
  | 60 => ⟨S8192x2048, .i32⟩
  | 61 => ⟨S_, .i32⟩
  | 62 => ⟨S_, .i32⟩
  | 63 => ⟨S_, .i32⟩
  | 64 => ⟨S8192x2048, .i32⟩
  | 65 => ⟨S8192x2048, .i32⟩
  | 66 => ⟨S8192x2048, .i32⟩
  | 67 => ⟨S8192x2048, .i32⟩
  | 68 => ⟨S8192x2048, .i32⟩
  | 69 => ⟨S_, .i32⟩
  | 70 => ⟨S8192x2048, .i32⟩
  | 71 => ⟨S8192x2048, .i32⟩
  | 72 => ⟨S_, .i32⟩
  | 73 => ⟨S8192x2048, .i32⟩
  | 74 => ⟨S8192x2048, .i32⟩
  | 75 => ⟨S8192x2048, .i32⟩
  | 76 => ⟨S8192x2048, .i32⟩
  | 77 => ⟨S8192x2048, .i32⟩
  | 78 => ⟨S_, .i32⟩
  | 79 => ⟨S8192x2048, .i32⟩
  | 80 => ⟨S8192x2048, .i32⟩
  | 81 => ⟨S_, .i32⟩
  | 82 => ⟨S8192x2048, .i32⟩
  | 83 => ⟨S8192x2048, .i32⟩
  | 84 => ⟨S8192x2048, .i32⟩
  | 85 => ⟨S8192x2048, .i32⟩
  | 86 => ⟨S8192x2048, .i32⟩
  | 87 => ⟨S_, .i32⟩
  | 88 => ⟨S8192x2048, .i32⟩
  | 89 => ⟨S8192x2048, .i32⟩
  | 90 => ⟨S_, .i32⟩
  | 91 => ⟨S8192x2048, .i32⟩
  | 92 => ⟨S8192x2048, .i32⟩
  | 93 => ⟨S8192x2048, .i32⟩
  | 94 => ⟨S8192x2048, .i32⟩
  | 95 => ⟨S8192x2048, .i32⟩
  | 96 => ⟨S_, .i32⟩
  | 97 => ⟨S8192x2048, .i32⟩
  | 98 => ⟨S8192x2048, .i32⟩
  | 99 => ⟨S_, .i32⟩
  | 100 => ⟨S8192x2048, .i32⟩
  | 101 => ⟨S8192x2048, .i32⟩
  | 102 => ⟨S8192x2048, .i32⟩
  | 103 => ⟨S8192x2048, .i32⟩
  | 104 => ⟨S8192x2048, .i32⟩
  | 105 => ⟨S8192x2048, .i32⟩
  | 106 => ⟨S8192x2048, .i32⟩
  | 107 => ⟨S8192x2048, .i32⟩
  | 108 => ⟨S_, .i32⟩
  | 109 => ⟨S8192x2048, .i32⟩
  | 110 => ⟨S8192x2048, .i32⟩
  | 111 => ⟨S8192x2048, .i32⟩
  | 112 => ⟨S_, .i32⟩
  | 113 => ⟨S8192x2048, .i32⟩
  | 114 => ⟨S8192x2048, .i32⟩
  | 115 => ⟨S_, .i32⟩
  | 116 => ⟨S8192x2048, .i32⟩
  | 117 => ⟨S8192x2048, .i32⟩
  | 118 => ⟨S8192x2048, .i32⟩
  | 119 => ⟨S8192x2048, .i32⟩
  | 120 => ⟨S8192x2048, .i32⟩
  | 121 => ⟨S_, .i32⟩
  | 122 => ⟨S8192x2048, .i32⟩
  | 123 => ⟨S8192x2048, .i32⟩
  | 124 => ⟨S_, .i32⟩
  | 125 => ⟨S8192x2048, .i32⟩
  | 126 => ⟨S8192x2048, .i32⟩
  | 127 => ⟨S8192x2048, .i32⟩
  | _ => ⟨S2048, .f32⟩

abbrev hbmTy0_1 (i : Nat) : BufTy := match i % 128 with
  | 0 => ⟨S8192x2048, .i32⟩
  | 1 => ⟨S8192x2048, .i32⟩
  | 2 => ⟨S_, .i32⟩
  | 3 => ⟨S8192x2048, .i32⟩
  | 4 => ⟨S8192x2048, .i32⟩
  | 5 => ⟨S_, .i32⟩
  | 6 => ⟨S8192x2048, .i32⟩
  | 7 => ⟨S8192x2048, .i32⟩
  | 8 => ⟨S8192x2048, .i32⟩
  | 9 => ⟨S8192x2048, .i32⟩
  | 10 => ⟨S8192x2048, .i32⟩
  | 11 => ⟨S_, .i32⟩
  | 12 => ⟨S8192x2048, .i32⟩
  | 13 => ⟨S8192x2048, .i32⟩
  | 14 => ⟨S_, .i32⟩
  | 15 => ⟨S8192x2048, .i32⟩
  | 16 => ⟨S8192x2048, .i32⟩
  | 17 => ⟨S8192x2048, .i32⟩
  | 18 => ⟨S8192x2048, .i32⟩
  | 19 => ⟨S8192x2048, .i32⟩
  | 20 => ⟨S8192x2048, .i32⟩
  | 21 => ⟨S8192x2048, .i32⟩
  | 22 => ⟨S8192x2048, .i32⟩
  | 23 => ⟨S_, .i32⟩
  | 24 => ⟨S8192x2048, .i32⟩
  | 25 => ⟨S8192x2048, .i32⟩
  | 26 => ⟨S8192x2048, .i32⟩
  | 27 => ⟨S_, .i32⟩
  | 28 => ⟨S8192x2048, .i32⟩
  | 29 => ⟨S8192x2048, .i32⟩
  | 30 => ⟨S_, .i32⟩
  | 31 => ⟨S8192x2048, .i32⟩
  | 32 => ⟨S8192x2048, .i32⟩
  | 33 => ⟨S8192x2048, .i32⟩
  | 34 => ⟨S8192x2048, .i32⟩
  | 35 => ⟨S8192x2048, .i32⟩
  | 36 => ⟨S_, .i32⟩
  | 37 => ⟨S8192x2048, .i32⟩
  | 38 => ⟨S8192x2048, .i32⟩
  | 39 => ⟨S_, .i32⟩
  | 40 => ⟨S8192x2048, .i32⟩
  | 41 => ⟨S8192x2048, .i32⟩
  | 42 => ⟨S8192x2048, .i32⟩
  | 43 => ⟨S8192x2048, .i32⟩
  | 44 => ⟨S8192x2048, .i32⟩
  | 45 => ⟨S_, .i32⟩
  | 46 => ⟨S8192x2048, .i32⟩
  | 47 => ⟨S8192x2048, .i32⟩
  | 48 => ⟨S_, .i32⟩
  | 49 => ⟨S8192x2048, .i32⟩
  | 50 => ⟨S8192x2048, .i32⟩
  | 51 => ⟨S8192x2048, .i32⟩
  | 52 => ⟨S8192x2048, .i32⟩
  | 53 => ⟨S8192x2048, .i32⟩
  | 54 => ⟨S_, .i32⟩
  | 55 => ⟨S8192x2048, .i32⟩
  | 56 => ⟨S8192x2048, .i32⟩
  | 57 => ⟨S_, .i32⟩
  | 58 => ⟨S8192x2048, .i32⟩
  | 59 => ⟨S8192x2048, .i32⟩
  | 60 => ⟨S8192x2048, .i32⟩
  | 61 => ⟨S8192x2048, .i32⟩
  | 62 => ⟨S8192x2048, .i32⟩
  | 63 => ⟨S8192x2048, .i32⟩
  | 64 => ⟨S8192x2048, .i32⟩
  | 65 => ⟨S8192x2048, .i32⟩
  | 66 => ⟨S_, .i32⟩
  | 67 => ⟨S8192x2048, .i32⟩
  | 68 => ⟨S8192x2048, .i32⟩
  | 69 => ⟨S8192x2048, .i32⟩
  | 70 => ⟨S_, .i32⟩
  | 71 => ⟨S8192x2048, .i32⟩
  | 72 => ⟨S8192x2048, .i32⟩
  | 73 => ⟨S_, .i32⟩
  | 74 => ⟨S8192x2048, .i32⟩
  | 75 => ⟨S8192x2048, .i32⟩
  | 76 => ⟨S8192x2048, .i32⟩
  | 77 => ⟨S8192x2048, .i32⟩
  | 78 => ⟨S8192x2048, .i32⟩
  | 79 => ⟨S_, .i32⟩
  | 80 => ⟨S8192x2048, .i32⟩
  | 81 => ⟨S8192x2048, .i32⟩
  | 82 => ⟨S_, .i32⟩
  | 83 => ⟨S8192x2048, .i32⟩
  | 84 => ⟨S8192x2048, .i32⟩
  | 85 => ⟨S8192x2048, .i32⟩
  | 86 => ⟨S8192x2048, .i32⟩
  | 87 => ⟨S8192x2048, .i32⟩
  | 88 => ⟨S_, .i32⟩
  | 89 => ⟨S8192x2048, .i32⟩
  | 90 => ⟨S8192x2048, .i32⟩
  | 91 => ⟨S_, .i32⟩
  | 92 => ⟨S8192x2048, .i32⟩
  | 93 => ⟨S8192x2048, .i32⟩
  | 94 => ⟨S8192x2048, .i32⟩
  | 95 => ⟨S8192x2048, .i32⟩
  | 96 => ⟨S8192x2048, .i32⟩
  | 97 => ⟨S_, .i32⟩
  | 98 => ⟨S8192x2048, .i32⟩
  | 99 => ⟨S8192x2048, .i32⟩
  | 100 => ⟨S_, .i32⟩
  | 101 => ⟨S8192x2048, .i32⟩
  | 102 => ⟨S8192x2048, .i32⟩
  | 103 => ⟨S8192x2048, .i32⟩
  | 104 => ⟨S8192x2048, .i32⟩
  | 105 => ⟨S8192x2048, .i32⟩
  | 106 => ⟨S8192x2048, .i32⟩
  | 107 => ⟨S8192x2048, .i32⟩
  | 108 => ⟨S8192x2048, .i32⟩
  | 109 => ⟨S_, .i32⟩
  | 110 => ⟨S8192x2048, .i32⟩
  | 111 => ⟨S8192x2048, .i32⟩
  | 112 => ⟨S8192x2048, .i32⟩
  | 113 => ⟨S_, .i32⟩
  | 114 => ⟨S8192x2048, .i32⟩
  | 115 => ⟨S8192x2048, .i32⟩
  | 116 => ⟨S_, .i32⟩
  | 117 => ⟨S8192x2048, .i32⟩
  | 118 => ⟨S8192x2048, .i32⟩
  | 119 => ⟨S8192x2048, .i32⟩
  | 120 => ⟨S8192x2048, .i32⟩
  | 121 => ⟨S8192x2048, .i32⟩
  | 122 => ⟨S_, .i32⟩
  | 123 => ⟨S8192x2048, .i32⟩
  | 124 => ⟨S8192x2048, .i32⟩
  | 125 => ⟨S_, .i32⟩
  | 126 => ⟨S8192x2048, .i32⟩
  | 127 => ⟨S8192x2048, .i32⟩
  | _ => ⟨S2048, .f32⟩

abbrev hbmTy0_2 (i : Nat) : BufTy := match i % 128 with
  | 0 => ⟨S8192x2048, .i32⟩
  | 1 => ⟨S8192x2048, .i32⟩
  | 2 => ⟨S8192x2048, .i32⟩
  | 3 => ⟨S_, .i32⟩
  | 4 => ⟨S8192x2048, .i32⟩
  | 5 => ⟨S8192x2048, .i32⟩
  | 6 => ⟨S_, .i32⟩
  | 7 => ⟨S8192x2048, .i32⟩
  | 8 => ⟨S8192x2048, .i32⟩
  | 9 => ⟨S8192x2048, .i32⟩
  | 10 => ⟨S8192x2048, .i32⟩
  | 11 => ⟨S8192x2048, .i32⟩
  | 12 => ⟨S_, .i32⟩
  | 13 => ⟨S8192x2048, .i32⟩
  | 14 => ⟨S8192x2048, .i32⟩
  | 15 => ⟨S_, .i32⟩
  | 16 => ⟨S8192x2048, .i32⟩
  | 17 => ⟨S8192x2048, .i32⟩
  | 18 => ⟨S8192x2048, .i32⟩
  | 19 => ⟨S8192x2048, .i32⟩
  | 20 => ⟨S8192x2048, .i32⟩
  | 21 => ⟨S8192x2048, .i32⟩
  | 22 => ⟨S8192x2048, .i32⟩
  | 23 => ⟨S8192x2048, .i32⟩
  | 24 => ⟨S_, .i32⟩
  | 25 => ⟨S8192x2048, .i32⟩
  | 26 => ⟨S8192x2048, .i32⟩
  | 27 => ⟨S8192x2048, .i32⟩
  | 28 => ⟨S_, .i32⟩
  | 29 => ⟨S8192x2048, .i32⟩
  | 30 => ⟨S8192x2048, .i32⟩
  | 31 => ⟨S_, .i32⟩
  | 32 => ⟨S8192x2048, .i32⟩
  | 33 => ⟨S8192x2048, .i32⟩
  | 34 => ⟨S8192x2048, .f32⟩
  | 35 => ⟨S_, .f32⟩
  | 36 => ⟨S8192x2048, .f32⟩
  | 37 => ⟨S8192x2048, .f32⟩
  | 38 => ⟨S1x1, .f32⟩
  | 39 => ⟨S8192x2048, .f32⟩
  | 40 => ⟨S8192x2048, .f32⟩
  | 41 => ⟨S8192x2048, .f32⟩
  | 42 => ⟨S8192x2048, .f32⟩
  | 43 => ⟨S8192x2048, .f32⟩
  | 44 => ⟨S8192x2048, .f32⟩
  | 45 => ⟨S8192x2048, .f32⟩
  | 46 => ⟨S8192x2048, .i1⟩
  | 47 => ⟨S8192x2048, .f32⟩
  | 48 => ⟨S8192x2048, .f32⟩
  | 49 => ⟨S8192x768, .f32⟩
  | 50 => ⟨S1x768, .f32⟩
  | 51 => ⟨S8192x768, .f32⟩
  | 52 => ⟨S8192x768, .f32⟩
  | 53 => ⟨S8192x768, .f32⟩
  | 54 => ⟨S_, .f32⟩
  | 55 => ⟨S8192x768, .f32⟩
  | 56 => ⟨S8192x768, .i1⟩
  | 57 => ⟨S8192x768, .i1⟩
  | 58 => ⟨S8192x768, .f32⟩
  | 59 => ⟨S_, .f32⟩
  | 60 => ⟨S_, .f32⟩
  | 61 => ⟨S8192x768, .f32⟩
  | 62 => ⟨S8192x768, .f32⟩
  | 63 => ⟨S_, .f32⟩
  | 64 => ⟨S_, .f32⟩
  | 65 => ⟨S8192x768, .f32⟩
  | 66 => ⟨S8192x768, .f32⟩
  | 67 => ⟨S_, .f32⟩
  | 68 => ⟨S_, .f32⟩
  | 69 => ⟨S_, .f32⟩
  | _ => ⟨S2048, .f32⟩

abbrev hbmTy (i : Nat) : BufTy := match i / 128 with
  | 0 => hbmTy0_0 i
  | 1 => hbmTy0_1 i
  | 2 => hbmTy0_2 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_cst_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_c_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_cst_0 : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_c : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_c_0 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_v14 : Ref sig .tc := ⟨.hbm, 55, rfl⟩
abbrev main_call0_call0_c_1 : Ref sig .tc := ⟨.hbm, 56, rfl⟩
abbrev main_call0_call0_v15 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_call0_v0 : Ref sig .tc := ⟨.hbm, 61, rfl⟩
abbrev main_call0_call0_call0_c : Ref sig .tc := ⟨.hbm, 62, rfl⟩
abbrev main_call0_call0_call0_v1 : Ref sig .tc := ⟨.hbm, 63, rfl⟩
abbrev main_call0_call0_call0_v2 : Ref sig .tc := ⟨.hbm, 64, rfl⟩
abbrev main_call0_call0_call0_v3 : Ref sig .tc := ⟨.hbm, 65, rfl⟩
abbrev main_call0_call0_call0_v4 : Ref sig .tc := ⟨.hbm, 66, rfl⟩
abbrev main_call0_call0_call0_v5 : Ref sig .tc := ⟨.hbm, 67, rfl⟩
abbrev main_call0_call0_call0_v6 : Ref sig .tc := ⟨.hbm, 68, rfl⟩
abbrev main_call0_call0_call0_c_0 : Ref sig .tc := ⟨.hbm, 69, rfl⟩
abbrev main_call0_call0_call0_v7 : Ref sig .tc := ⟨.hbm, 70, rfl⟩
abbrev main_call0_call0_call0_v8 : Ref sig .tc := ⟨.hbm, 71, rfl⟩
abbrev main_call0_call0_call0_c_1 : Ref sig .tc := ⟨.hbm, 72, rfl⟩
abbrev main_call0_call0_call0_v9 : Ref sig .tc := ⟨.hbm, 73, rfl⟩
abbrev main_call0_call0_call0_v10 : Ref sig .tc := ⟨.hbm, 74, rfl⟩
abbrev main_call0_call0_call0_v11 : Ref sig .tc := ⟨.hbm, 75, rfl⟩
abbrev main_call0_call0_call0_v12 : Ref sig .tc := ⟨.hbm, 76, rfl⟩
abbrev main_call0_call0_call0_v13 : Ref sig .tc := ⟨.hbm, 77, rfl⟩
abbrev main_call0_call0_call0_c_2 : Ref sig .tc := ⟨.hbm, 78, rfl⟩
abbrev main_call0_call0_call0_v14 : Ref sig .tc := ⟨.hbm, 79, rfl⟩
abbrev main_call0_call0_call0_v15 : Ref sig .tc := ⟨.hbm, 80, rfl⟩
abbrev main_call0_call0_call0_c_3 : Ref sig .tc := ⟨.hbm, 81, rfl⟩
abbrev main_call0_call0_call0_v16 : Ref sig .tc := ⟨.hbm, 82, rfl⟩
abbrev main_call0_call0_call0_v17 : Ref sig .tc := ⟨.hbm, 83, rfl⟩
abbrev main_call0_call0_call0_v18 : Ref sig .tc := ⟨.hbm, 84, rfl⟩
abbrev main_call0_call0_call0_v19 : Ref sig .tc := ⟨.hbm, 85, rfl⟩
abbrev main_call0_call0_call0_v20 : Ref sig .tc := ⟨.hbm, 86, rfl⟩
abbrev main_call0_call0_call0_c_4 : Ref sig .tc := ⟨.hbm, 87, rfl⟩
abbrev main_call0_call0_call0_v21 : Ref sig .tc := ⟨.hbm, 88, rfl⟩
abbrev main_call0_call0_call0_v22 : Ref sig .tc := ⟨.hbm, 89, rfl⟩
abbrev main_call0_call0_call0_c_5 : Ref sig .tc := ⟨.hbm, 90, rfl⟩
abbrev main_call0_call0_call0_v23 : Ref sig .tc := ⟨.hbm, 91, rfl⟩
abbrev main_call0_call0_call0_v24 : Ref sig .tc := ⟨.hbm, 92, rfl⟩
abbrev main_call0_call0_call0_v25 : Ref sig .tc := ⟨.hbm, 93, rfl⟩
abbrev main_call0_call0_call0_v26 : Ref sig .tc := ⟨.hbm, 94, rfl⟩
abbrev main_call0_call0_call0_v27 : Ref sig .tc := ⟨.hbm, 95, rfl⟩
abbrev main_call0_call0_call0_c_6 : Ref sig .tc := ⟨.hbm, 96, rfl⟩
abbrev main_call0_call0_call0_v28 : Ref sig .tc := ⟨.hbm, 97, rfl⟩
abbrev main_call0_call0_call0_v29 : Ref sig .tc := ⟨.hbm, 98, rfl⟩
abbrev main_call0_call0_call0_c_7 : Ref sig .tc := ⟨.hbm, 99, rfl⟩
abbrev main_call0_call0_call0_v30 : Ref sig .tc := ⟨.hbm, 100, rfl⟩
abbrev main_call0_call0_call0_v31 : Ref sig .tc := ⟨.hbm, 101, rfl⟩
abbrev main_call0_call0_call0_v32 : Ref sig .tc := ⟨.hbm, 102, rfl⟩
abbrev main_call0_call0_call0_v33 : Ref sig .tc := ⟨.hbm, 103, rfl⟩
abbrev main_call0_call0_call0_v34 : Ref sig .tc := ⟨.hbm, 104, rfl⟩
abbrev main_call0_call0_call0_v35 : Ref sig .tc := ⟨.hbm, 105, rfl⟩
abbrev main_call0_call0_call0_v36 : Ref sig .tc := ⟨.hbm, 106, rfl⟩
abbrev main_call0_call0_call0_v37 : Ref sig .tc := ⟨.hbm, 107, rfl⟩
abbrev main_call0_call0_call0_c_8 : Ref sig .tc := ⟨.hbm, 108, rfl⟩
abbrev main_call0_call0_call0_v38 : Ref sig .tc := ⟨.hbm, 109, rfl⟩
abbrev main_call0_call0_call0_v39 : Ref sig .tc := ⟨.hbm, 110, rfl⟩
abbrev main_call0_call0_call0_v40 : Ref sig .tc := ⟨.hbm, 111, rfl⟩
abbrev main_call0_call0_call0_c_9 : Ref sig .tc := ⟨.hbm, 112, rfl⟩
abbrev main_call0_call0_call0_v41 : Ref sig .tc := ⟨.hbm, 113, rfl⟩
abbrev main_call0_call0_call0_v42 : Ref sig .tc := ⟨.hbm, 114, rfl⟩
abbrev main_call0_call0_call0_c_10 : Ref sig .tc := ⟨.hbm, 115, rfl⟩
abbrev main_call0_call0_call0_v43 : Ref sig .tc := ⟨.hbm, 116, rfl⟩
abbrev main_call0_call0_call0_v44 : Ref sig .tc := ⟨.hbm, 117, rfl⟩
abbrev main_call0_call0_call0_v45 : Ref sig .tc := ⟨.hbm, 118, rfl⟩
abbrev main_call0_call0_call0_v46 : Ref sig .tc := ⟨.hbm, 119, rfl⟩
abbrev main_call0_call0_call0_v47 : Ref sig .tc := ⟨.hbm, 120, rfl⟩
abbrev main_call0_call0_call0_c_11 : Ref sig .tc := ⟨.hbm, 121, rfl⟩
abbrev main_call0_call0_call0_v48 : Ref sig .tc := ⟨.hbm, 122, rfl⟩
abbrev main_call0_call0_call0_v49 : Ref sig .tc := ⟨.hbm, 123, rfl⟩
abbrev main_call0_call0_call0_c_12 : Ref sig .tc := ⟨.hbm, 124, rfl⟩
abbrev main_call0_call0_call0_v50 : Ref sig .tc := ⟨.hbm, 125, rfl⟩
abbrev main_call0_call0_call0_v51 : Ref sig .tc := ⟨.hbm, 126, rfl⟩
abbrev main_call0_call0_call0_v52 : Ref sig .tc := ⟨.hbm, 127, rfl⟩
abbrev main_call0_call0_call0_v53 : Ref sig .tc := ⟨.hbm, 128, rfl⟩
abbrev main_call0_call0_call0_v54 : Ref sig .tc := ⟨.hbm, 129, rfl⟩
abbrev main_call0_call0_call0_c_13 : Ref sig .tc := ⟨.hbm, 130, rfl⟩
abbrev main_call0_call0_call0_v55 : Ref sig .tc := ⟨.hbm, 131, rfl⟩
abbrev main_call0_call0_call0_v56 : Ref sig .tc := ⟨.hbm, 132, rfl⟩
abbrev main_call0_call0_call0_c_14 : Ref sig .tc := ⟨.hbm, 133, rfl⟩
abbrev main_call0_call0_call0_v57 : Ref sig .tc := ⟨.hbm, 134, rfl⟩
abbrev main_call0_call0_call0_v58 : Ref sig .tc := ⟨.hbm, 135, rfl⟩
abbrev main_call0_call0_call0_v59 : Ref sig .tc := ⟨.hbm, 136, rfl⟩
abbrev main_call0_call0_call0_v60 : Ref sig .tc := ⟨.hbm, 137, rfl⟩
abbrev main_call0_call0_call0_v61 : Ref sig .tc := ⟨.hbm, 138, rfl⟩
abbrev main_call0_call0_call0_c_15 : Ref sig .tc := ⟨.hbm, 139, rfl⟩
abbrev main_call0_call0_call0_v62 : Ref sig .tc := ⟨.hbm, 140, rfl⟩
abbrev main_call0_call0_call0_v63 : Ref sig .tc := ⟨.hbm, 141, rfl⟩
abbrev main_call0_call0_call0_c_16 : Ref sig .tc := ⟨.hbm, 142, rfl⟩
abbrev main_call0_call0_call0_v64 : Ref sig .tc := ⟨.hbm, 143, rfl⟩
abbrev main_call0_call0_call0_v65 : Ref sig .tc := ⟨.hbm, 144, rfl⟩
abbrev main_call0_call0_call0_v66 : Ref sig .tc := ⟨.hbm, 145, rfl⟩
abbrev main_call0_call0_call0_v67 : Ref sig .tc := ⟨.hbm, 146, rfl⟩
abbrev main_call0_call0_call0_v68 : Ref sig .tc := ⟨.hbm, 147, rfl⟩
abbrev main_call0_call0_call0_v69 : Ref sig .tc := ⟨.hbm, 148, rfl⟩
abbrev main_call0_call0_call0_v70 : Ref sig .tc := ⟨.hbm, 149, rfl⟩
abbrev main_call0_call0_call0_v71 : Ref sig .tc := ⟨.hbm, 150, rfl⟩
abbrev main_call0_call0_call0_c_17 : Ref sig .tc := ⟨.hbm, 151, rfl⟩
abbrev main_call0_call0_call0_v72 : Ref sig .tc := ⟨.hbm, 152, rfl⟩
abbrev main_call0_call0_call0_v73 : Ref sig .tc := ⟨.hbm, 153, rfl⟩
abbrev main_call0_call0_call0_v74 : Ref sig .tc := ⟨.hbm, 154, rfl⟩
abbrev main_call0_call0_call0_c_18 : Ref sig .tc := ⟨.hbm, 155, rfl⟩
abbrev main_call0_call0_call0_v75 : Ref sig .tc := ⟨.hbm, 156, rfl⟩
abbrev main_call0_call0_call0_v76 : Ref sig .tc := ⟨.hbm, 157, rfl⟩
abbrev main_call0_call0_call0_c_19 : Ref sig .tc := ⟨.hbm, 158, rfl⟩
abbrev main_call0_call0_call0_v77 : Ref sig .tc := ⟨.hbm, 159, rfl⟩
abbrev main_call0_call0_call0_v78 : Ref sig .tc := ⟨.hbm, 160, rfl⟩
abbrev main_call0_call0_call0_v79 : Ref sig .tc := ⟨.hbm, 161, rfl⟩
abbrev main_call0_call0_call0_v80 : Ref sig .tc := ⟨.hbm, 162, rfl⟩
abbrev main_call0_call0_call0_v81 : Ref sig .tc := ⟨.hbm, 163, rfl⟩
abbrev main_call0_call0_call0_c_20 : Ref sig .tc := ⟨.hbm, 164, rfl⟩
abbrev main_call0_call0_call0_v82 : Ref sig .tc := ⟨.hbm, 165, rfl⟩
abbrev main_call0_call0_call0_v83 : Ref sig .tc := ⟨.hbm, 166, rfl⟩
abbrev main_call0_call0_call0_c_21 : Ref sig .tc := ⟨.hbm, 167, rfl⟩
abbrev main_call0_call0_call0_v84 : Ref sig .tc := ⟨.hbm, 168, rfl⟩
abbrev main_call0_call0_call0_v85 : Ref sig .tc := ⟨.hbm, 169, rfl⟩
abbrev main_call0_call0_call0_v86 : Ref sig .tc := ⟨.hbm, 170, rfl⟩
abbrev main_call0_call0_call0_v87 : Ref sig .tc := ⟨.hbm, 171, rfl⟩
abbrev main_call0_call0_call0_v88 : Ref sig .tc := ⟨.hbm, 172, rfl⟩
abbrev main_call0_call0_call0_c_22 : Ref sig .tc := ⟨.hbm, 173, rfl⟩
abbrev main_call0_call0_call0_v89 : Ref sig .tc := ⟨.hbm, 174, rfl⟩
abbrev main_call0_call0_call0_v90 : Ref sig .tc := ⟨.hbm, 175, rfl⟩
abbrev main_call0_call0_call0_c_23 : Ref sig .tc := ⟨.hbm, 176, rfl⟩
abbrev main_call0_call0_call0_v91 : Ref sig .tc := ⟨.hbm, 177, rfl⟩
abbrev main_call0_call0_call0_v92 : Ref sig .tc := ⟨.hbm, 178, rfl⟩
abbrev main_call0_call0_call0_v93 : Ref sig .tc := ⟨.hbm, 179, rfl⟩
abbrev main_call0_call0_call0_v94 : Ref sig .tc := ⟨.hbm, 180, rfl⟩
abbrev main_call0_call0_call0_v95 : Ref sig .tc := ⟨.hbm, 181, rfl⟩
abbrev main_call0_call0_call0_c_24 : Ref sig .tc := ⟨.hbm, 182, rfl⟩
abbrev main_call0_call0_call0_v96 : Ref sig .tc := ⟨.hbm, 183, rfl⟩
abbrev main_call0_call0_call0_v97 : Ref sig .tc := ⟨.hbm, 184, rfl⟩
abbrev main_call0_call0_call0_c_25 : Ref sig .tc := ⟨.hbm, 185, rfl⟩
abbrev main_call0_call0_call0_v98 : Ref sig .tc := ⟨.hbm, 186, rfl⟩
abbrev main_call0_call0_call0_v99 : Ref sig .tc := ⟨.hbm, 187, rfl⟩
abbrev main_call0_call0_call0_v100 : Ref sig .tc := ⟨.hbm, 188, rfl⟩
abbrev main_call0_call0_call0_v101 : Ref sig .tc := ⟨.hbm, 189, rfl⟩
abbrev main_call0_call0_call0_v102 : Ref sig .tc := ⟨.hbm, 190, rfl⟩
abbrev main_call0_call0_call0_v103 : Ref sig .tc := ⟨.hbm, 191, rfl⟩
abbrev main_call0_call0_call0_v104 : Ref sig .tc := ⟨.hbm, 192, rfl⟩
abbrev main_call0_call0_call0_v105 : Ref sig .tc := ⟨.hbm, 193, rfl⟩
abbrev main_call0_call0_call0_c_26 : Ref sig .tc := ⟨.hbm, 194, rfl⟩
abbrev main_call0_call0_call0_v106 : Ref sig .tc := ⟨.hbm, 195, rfl⟩
abbrev main_call0_call0_call0_v107 : Ref sig .tc := ⟨.hbm, 196, rfl⟩
abbrev main_call0_call0_call0_v108 : Ref sig .tc := ⟨.hbm, 197, rfl⟩
abbrev main_call0_call0_call0_c_27 : Ref sig .tc := ⟨.hbm, 198, rfl⟩
abbrev main_call0_call0_call0_v109 : Ref sig .tc := ⟨.hbm, 199, rfl⟩
abbrev main_call0_call0_call0_v110 : Ref sig .tc := ⟨.hbm, 200, rfl⟩
abbrev main_call0_call0_call0_c_28 : Ref sig .tc := ⟨.hbm, 201, rfl⟩
abbrev main_call0_call0_call0_v111 : Ref sig .tc := ⟨.hbm, 202, rfl⟩
abbrev main_call0_call0_call0_v112 : Ref sig .tc := ⟨.hbm, 203, rfl⟩
abbrev main_call0_call0_call0_v113 : Ref sig .tc := ⟨.hbm, 204, rfl⟩
abbrev main_call0_call0_call0_v114 : Ref sig .tc := ⟨.hbm, 205, rfl⟩
abbrev main_call0_call0_call0_v115 : Ref sig .tc := ⟨.hbm, 206, rfl⟩
abbrev main_call0_call0_call0_c_29 : Ref sig .tc := ⟨.hbm, 207, rfl⟩
abbrev main_call0_call0_call0_v116 : Ref sig .tc := ⟨.hbm, 208, rfl⟩
abbrev main_call0_call0_call0_v117 : Ref sig .tc := ⟨.hbm, 209, rfl⟩
abbrev main_call0_call0_call0_c_30 : Ref sig .tc := ⟨.hbm, 210, rfl⟩
abbrev main_call0_call0_call0_v118 : Ref sig .tc := ⟨.hbm, 211, rfl⟩
abbrev main_call0_call0_call0_v119 : Ref sig .tc := ⟨.hbm, 212, rfl⟩
abbrev main_call0_call0_call0_v120 : Ref sig .tc := ⟨.hbm, 213, rfl⟩
abbrev main_call0_call0_call0_v121 : Ref sig .tc := ⟨.hbm, 214, rfl⟩
abbrev main_call0_call0_call0_v122 : Ref sig .tc := ⟨.hbm, 215, rfl⟩
abbrev main_call0_call0_call0_c_31 : Ref sig .tc := ⟨.hbm, 216, rfl⟩
abbrev main_call0_call0_call0_v123 : Ref sig .tc := ⟨.hbm, 217, rfl⟩
abbrev main_call0_call0_call0_v124 : Ref sig .tc := ⟨.hbm, 218, rfl⟩
abbrev main_call0_call0_call0_c_32 : Ref sig .tc := ⟨.hbm, 219, rfl⟩
abbrev main_call0_call0_call0_v125 : Ref sig .tc := ⟨.hbm, 220, rfl⟩
abbrev main_call0_call0_call0_v126 : Ref sig .tc := ⟨.hbm, 221, rfl⟩
abbrev main_call0_call0_call0_v127 : Ref sig .tc := ⟨.hbm, 222, rfl⟩
abbrev main_call0_call0_call0_v128 : Ref sig .tc := ⟨.hbm, 223, rfl⟩
abbrev main_call0_call0_call0_v129 : Ref sig .tc := ⟨.hbm, 224, rfl⟩
abbrev main_call0_call0_call0_c_33 : Ref sig .tc := ⟨.hbm, 225, rfl⟩
abbrev main_call0_call0_call0_v130 : Ref sig .tc := ⟨.hbm, 226, rfl⟩
abbrev main_call0_call0_call0_v131 : Ref sig .tc := ⟨.hbm, 227, rfl⟩
abbrev main_call0_call0_call0_c_34 : Ref sig .tc := ⟨.hbm, 228, rfl⟩
abbrev main_call0_call0_call0_v132 : Ref sig .tc := ⟨.hbm, 229, rfl⟩
abbrev main_call0_call0_call0_v133 : Ref sig .tc := ⟨.hbm, 230, rfl⟩
abbrev main_call0_call0_call0_v134 : Ref sig .tc := ⟨.hbm, 231, rfl⟩
abbrev main_call0_call0_call0_v135 : Ref sig .tc := ⟨.hbm, 232, rfl⟩
abbrev main_call0_call0_call0_v136 : Ref sig .tc := ⟨.hbm, 233, rfl⟩
abbrev main_call0_call0_call0_v137 : Ref sig .tc := ⟨.hbm, 234, rfl⟩
abbrev main_call0_call0_call0_v138 : Ref sig .tc := ⟨.hbm, 235, rfl⟩
abbrev main_call0_call0_call0_v139 : Ref sig .tc := ⟨.hbm, 236, rfl⟩
abbrev main_call0_call0_call0_c_35 : Ref sig .tc := ⟨.hbm, 237, rfl⟩
abbrev main_call0_call0_call0_v140 : Ref sig .tc := ⟨.hbm, 238, rfl⟩
abbrev main_call0_call0_call0_v141 : Ref sig .tc := ⟨.hbm, 239, rfl⟩
abbrev main_call0_call0_call0_v142 : Ref sig .tc := ⟨.hbm, 240, rfl⟩
abbrev main_call0_call0_call0_c_36 : Ref sig .tc := ⟨.hbm, 241, rfl⟩
abbrev main_call0_call0_call0_v143 : Ref sig .tc := ⟨.hbm, 242, rfl⟩
abbrev main_call0_call0_call0_v144 : Ref sig .tc := ⟨.hbm, 243, rfl⟩
abbrev main_call0_call0_call0_c_37 : Ref sig .tc := ⟨.hbm, 244, rfl⟩
abbrev main_call0_call0_call0_v145 : Ref sig .tc := ⟨.hbm, 245, rfl⟩
abbrev main_call0_call0_call0_v146 : Ref sig .tc := ⟨.hbm, 246, rfl⟩
abbrev main_call0_call0_call0_v147 : Ref sig .tc := ⟨.hbm, 247, rfl⟩
abbrev main_call0_call0_call0_v148 : Ref sig .tc := ⟨.hbm, 248, rfl⟩
abbrev main_call0_call0_call0_v149 : Ref sig .tc := ⟨.hbm, 249, rfl⟩
abbrev main_call0_call0_call0_c_38 : Ref sig .tc := ⟨.hbm, 250, rfl⟩
abbrev main_call0_call0_call0_v150 : Ref sig .tc := ⟨.hbm, 251, rfl⟩
abbrev main_call0_call0_call0_v151 : Ref sig .tc := ⟨.hbm, 252, rfl⟩
abbrev main_call0_call0_call0_c_39 : Ref sig .tc := ⟨.hbm, 253, rfl⟩
abbrev main_call0_call0_call0_v152 : Ref sig .tc := ⟨.hbm, 254, rfl⟩
abbrev main_call0_call0_call0_v153 : Ref sig .tc := ⟨.hbm, 255, rfl⟩
abbrev main_call0_call0_call0_v154 : Ref sig .tc := ⟨.hbm, 256, rfl⟩
abbrev main_call0_call0_call0_v155 : Ref sig .tc := ⟨.hbm, 257, rfl⟩
abbrev main_call0_call0_call0_v156 : Ref sig .tc := ⟨.hbm, 258, rfl⟩
abbrev main_call0_call0_call0_c_40 : Ref sig .tc := ⟨.hbm, 259, rfl⟩
abbrev main_call0_call0_call0_v157 : Ref sig .tc := ⟨.hbm, 260, rfl⟩
abbrev main_call0_call0_call0_v158 : Ref sig .tc := ⟨.hbm, 261, rfl⟩
abbrev main_call0_call0_call0_c_41 : Ref sig .tc := ⟨.hbm, 262, rfl⟩
abbrev main_call0_call0_call0_v159 : Ref sig .tc := ⟨.hbm, 263, rfl⟩
abbrev main_call0_call0_call0_v160 : Ref sig .tc := ⟨.hbm, 264, rfl⟩
abbrev main_call0_call0_call0_v161 : Ref sig .tc := ⟨.hbm, 265, rfl⟩
abbrev main_call0_call0_call0_v162 : Ref sig .tc := ⟨.hbm, 266, rfl⟩
abbrev main_call0_call0_call0_v163 : Ref sig .tc := ⟨.hbm, 267, rfl⟩
abbrev main_call0_call0_call0_c_42 : Ref sig .tc := ⟨.hbm, 268, rfl⟩
abbrev main_call0_call0_call0_v164 : Ref sig .tc := ⟨.hbm, 269, rfl⟩
abbrev main_call0_call0_call0_v165 : Ref sig .tc := ⟨.hbm, 270, rfl⟩
abbrev main_call0_call0_call0_c_43 : Ref sig .tc := ⟨.hbm, 271, rfl⟩
abbrev main_call0_call0_call0_v166 : Ref sig .tc := ⟨.hbm, 272, rfl⟩
abbrev main_call0_call0_call0_v167 : Ref sig .tc := ⟨.hbm, 273, rfl⟩
abbrev main_call0_call0_call0_v168 : Ref sig .tc := ⟨.hbm, 274, rfl⟩
abbrev main_call0_call0_call0_v169 : Ref sig .tc := ⟨.hbm, 275, rfl⟩
abbrev main_call0_call0_call0_v170 : Ref sig .tc := ⟨.hbm, 276, rfl⟩
abbrev main_call0_call0_v19_0 : Ref sig .tc := ⟨.hbm, 277, rfl⟩
abbrev main_call0_call0_call0_v172 : Ref sig .tc := ⟨.hbm, 278, rfl⟩
abbrev main_call0_call0_call0_v173 : Ref sig .tc := ⟨.hbm, 279, rfl⟩
abbrev main_call0_call0_call0_c_44 : Ref sig .tc := ⟨.hbm, 280, rfl⟩
abbrev main_call0_call0_call0_v174 : Ref sig .tc := ⟨.hbm, 281, rfl⟩
abbrev main_call0_call0_v19_1 : Ref sig .tc := ⟨.hbm, 282, rfl⟩
abbrev main_call0_call0_v20 : Ref sig .tc := ⟨.hbm, 283, rfl⟩
abbrev main_call0_call0_c_2 : Ref sig .tc := ⟨.hbm, 284, rfl⟩
abbrev main_call0_call0_v21 : Ref sig .tc := ⟨.hbm, 285, rfl⟩
abbrev main_call0_call0_v22 : Ref sig .tc := ⟨.hbm, 286, rfl⟩
abbrev main_call0_call0_c_3 : Ref sig .tc := ⟨.hbm, 287, rfl⟩
abbrev main_call0_call0_v23 : Ref sig .tc := ⟨.hbm, 288, rfl⟩
abbrev main_call0_call0_v24 : Ref sig .tc := ⟨.hbm, 289, rfl⟩
abbrev main_call0_call0_v25 : Ref sig .tc := ⟨.hbm, 290, rfl⟩
abbrev main_call0_call0_cst : Ref sig .tc := ⟨.hbm, 291, rfl⟩
abbrev main_call0_call0_v26 : Ref sig .tc := ⟨.hbm, 292, rfl⟩
abbrev main_call0_call0_v27 : Ref sig .tc := ⟨.hbm, 293, rfl⟩
abbrev main_call0_call0_v28 : Ref sig .tc := ⟨.hbm, 294, rfl⟩
abbrev main_call0_call0_v29 : Ref sig .tc := ⟨.hbm, 295, rfl⟩
abbrev main_call0_call0_v30 : Ref sig .tc := ⟨.hbm, 296, rfl⟩
abbrev main_call0_call0_v31 : Ref sig .tc := ⟨.hbm, 297, rfl⟩
abbrev main_call0_call0_v32 : Ref sig .tc := ⟨.hbm, 298, rfl⟩
abbrev main_call0_call0_v33 : Ref sig .tc := ⟨.hbm, 299, rfl⟩
abbrev main_call0_v0 : Ref sig .tc := ⟨.hbm, 300, rfl⟩
abbrev main_call0_v1 : Ref sig .tc := ⟨.hbm, 301, rfl⟩
abbrev main_v26 : Ref sig .tc := ⟨.hbm, 302, rfl⟩
abbrev main_v27 : Ref sig .tc := ⟨.hbm, 303, rfl⟩
abbrev main_v28 : Ref sig .tc := ⟨.hbm, 304, rfl⟩
abbrev main_v29 : Ref sig .tc := ⟨.hbm, 305, rfl⟩
abbrev main_v30 : Ref sig .tc := ⟨.hbm, 306, rfl⟩
abbrev main_v31 : Ref sig .tc := ⟨.hbm, 307, rfl⟩
abbrev main_v32 : Ref sig .tc := ⟨.hbm, 308, rfl⟩
abbrev main_v33 : Ref sig .tc := ⟨.hbm, 309, rfl⟩
abbrev main_cst_8 : Ref sig .tc := ⟨.hbm, 310, rfl⟩
abbrev main_v34 : Ref sig .tc := ⟨.hbm, 311, rfl⟩
abbrev main_v35 : Ref sig .tc := ⟨.hbm, 312, rfl⟩
abbrev main_v36 : Ref sig .tc := ⟨.hbm, 313, rfl⟩
abbrev main_v37 : Ref sig .tc := ⟨.hbm, 314, rfl⟩
abbrev main_cst_9 : Ref sig .tc := ⟨.hbm, 315, rfl⟩
abbrev main_v38 : Ref sig .tc := ⟨.hbm, 316, rfl⟩
abbrev main_v39 : Ref sig .tc := ⟨.hbm, 317, rfl⟩
abbrev main_v40 : Ref sig .tc := ⟨.hbm, 318, rfl⟩
abbrev main_cst_10 : Ref sig .tc := ⟨.hbm, 319, rfl⟩
abbrev main_call1_v0 : Ref sig .tc := ⟨.hbm, 320, rfl⟩
abbrev main_call1_v1 : Ref sig .tc := ⟨.hbm, 321, rfl⟩
abbrev main_v41 : Ref sig .tc := ⟨.hbm, 322, rfl⟩
abbrev main_cst_11 : Ref sig .tc := ⟨.hbm, 323, rfl⟩
abbrev main_v42 : Ref sig .tc := ⟨.hbm, 324, rfl⟩
abbrev main_v43 : Ref sig .tc := ⟨.hbm, 325, rfl⟩

abbrev nD : Nat := 1
abbrev τ : Topo := Topo.v7x

variable {F : FTy → Type} [FloatOps F]
-- ==== Proof.RefOps.lean ====
/- The reference program's @main as the list of its 315 host operations: the program is that list run in order, each operation touches only buffers of the TensorCore, and none allocates. -/
module

public import proofs.«01_k».proof.Proof.Gen.ReferenceIdeal
public import Idealize.ShloMosaic.Lib.StableHlo.Run
public import Idealize.ShloMosaic.Lib.Pipeline.Frame

@[expose] public section

set_option Elab.async false
set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v19`, named. It packs its operands into a list of dependent pairs
    whose shapes a later argument's type mentions, so `simp` cannot rewrite an operand where it stands; applied by
    name, the operands are plain arguments, which the window lemmas below rewrite before the name unfolds. -/
def fn_main_v19 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 315 (@main, which the printer did not cut). -/
abbrev ops_0 : List (HloOp τ sig (Elt F)) :=
  [ reshape main_arg0 main_v0 (rfl : (.f32 : EltTy) = .f32) shapeCasts_S4x2048x768_S8192x768,
    reshape main_arg1 main_v1 (rfl : (.f32 : EltTy) = .f32) shapeCasts_S4x2048x768_S8192x768,
    binary main_v0 main_arg2 main_v2 ((fun l r => Host.dotGeneral dot_S8192x768_S768x2048_S8192x2048_1_0_0_1_n_n none l r) : (⟨S8192x768, .f32⟩ : BufTy).Contents (Elt F) → (⟨S768x2048, .f32⟩ : BufTy).Contents (Elt F) → (⟨S8192x2048, .f32⟩ : BufTy).Contents (Elt F)),
    unary main_arg3 main_v3 (broadcastInDim S1x2048 ![1] bcast_S2048_S1x2048_1 : (⟨S2048, .f32⟩ : BufTy).Contents (Elt F) → (⟨S1x2048, .f32⟩ : BufTy).Contents (Elt F)),
    unary main_v3 main_v4 (broadcastInDim S8192x2048 ![0, 1] bcast_S1x2048_S8192x2048_0_1 : (⟨S1x2048, .f32⟩ : BufTy).Contents (Elt F) → (⟨S8192x2048, .f32⟩ : BufTy).Contents (Elt F)),
    binary main_v2 main_v4 main_v5 (addf : (⟨S8192x2048, .f32⟩ : BufTy).Contents (Elt F) → (⟨S8192x2048, .f32⟩ : BufTy).Contents (Elt F) → (⟨S8192x2048, .f32⟩ : BufTy).Contents (Elt F)),
    nullary main_v6 (sitofp .f32 (iotaInDim S2048 32 0)),
    nullary main_cst (constant S_ .f32 0x43D70000#32),
    unary main_cst main_v7 (broadcastInDim S2048 ![] bcast_S_S2048 : (⟨S_, .f32⟩ : BufTy).Contents (Elt F) → (⟨S2048, .f32⟩ : BufTy).Contents (Elt F)),
    binary main_v6 main_v7 main_v8 (Host.divf : (⟨S2048, .f32⟩ : BufTy).Contents (Elt F) → (⟨S2048, .f32⟩ : BufTy).Contents (Elt F) → (⟨S2048, .f32⟩ : BufTy).Contents (Elt F)),
    binary main_v8 main_v8 main_v9 (mulf : (⟨S2048, .f32⟩ : BufTy).Contents (Elt F) → (⟨S2048, .f32⟩ : BufTy).Contents (Elt F) → (⟨S2048, .f32⟩ : BufTy).Contents (Elt F)),
    nullary main_cst_0 (constant S_ .f32 0xBF000000#32),
    unary main_cst_0 main_v10 (broadcastInDim S2048 ![] bcast_S_S2048 : (⟨S_, .f32⟩ : BufTy).Contents (Elt F) → (⟨S2048, .f32⟩ : BufTy).Contents (Elt F)),
    binary main_v10 main_v9 main_v11 (mulf : (⟨S2048, .f32⟩ : BufTy).Contents (Elt F) → (⟨S2048, .f32⟩ : BufTy).Contents (Elt F) → (⟨S2048, .f32⟩ : BufTy).Contents (Elt F)),
    unary main_v11 main_v12 (Host.exp : (⟨S2048, .f32⟩ : BufTy).Contents (Elt F) → (⟨S2048, .f32⟩ : BufTy).Contents (Elt F)),
    nullary main_c (constantI S_ 32 12345#32),
    nullary main_c_1 (constantI S_ 32 32#32),
    binary main_c main_c_1 main_v13 (Host.shrui : (⟨S_, .i32⟩ : BufTy).Contents (Elt F) → (⟨S_, .i32⟩ : BufTy).Contents (Elt F) → (⟨S_, .i32⟩ : BufTy).Contents (Elt F)),
    unary main_v13 main_v14 (id : (⟨S_, .i32⟩ : BufTy).Contents (Elt F) → (⟨S_, .i32⟩ : BufTy).Contents (Elt F)),
    unary main_v14 main_v15 (broadcastInDim S1 ![] bcast_S_S1 : (⟨S_, .i32⟩ : BufTy).Contents (Elt F) → (⟨S1, .i32⟩ : BufTy).Contents (Elt F)),
    nullary main_c_2 (constantI S_ 32 4294967295#32),
    binary main_c main_c_2 main_v16 (andi : (⟨S_, .i32⟩ : BufTy).Contents (Elt F) → (⟨S_, .i32⟩ : BufTy).Contents (Elt F) → (⟨S_, .i32⟩ : BufTy).Contents (Elt F)),
    unary main_v16 main_v17 (id : (⟨S_, .i32⟩ : BufTy).Contents (Elt F) → (⟨S_, .i32⟩ : BufTy).Contents (Elt F)),
    unary main_v17 main_v18 (broadcastInDim S1 ![] bcast_S_S1 : (⟨S_, .i32⟩ : BufTy).Contents (Elt F) → (⟨S1, .i32⟩ : BufTy).Contents (Elt F)),
    binary main_v15 main_v18 main_v19 (fn_main_v19 (F := F)),
    unary main_v12 main_v20 (broadcastInDim S1x2048 ![1] bcast_S2048_S1x2048_1 : (⟨S2048, .f32⟩ : BufTy).Contents (Elt F) → (⟨S1x2048, .f32⟩ : BufTy).Contents (Elt F)),
    TRef.nullary (TRef.of (T := ⟨S_, .f32⟩) main_call0_cst) (constant S_ .f32 0x00000000#32),
    TRef.nullary (TRef.of (T := ⟨S_, .f32⟩) main_call0_cst_0) (constant S_ .f32 0x3F800000#32),
    TRef.unary (TRef.of (T := ⟨S_, .f32⟩) main_call0_cst) (TRef.of (T := ⟨S_, .f32⟩) main_call0_call0_v0) id,
    TRef.unary (TRef.of (T := ⟨S_, .f32⟩) main_call0_cst_0) (TRef.of (T := ⟨S_, .f32⟩) main_call0_call0_v1) id ]

/-- @main's operations 31 … 60 of 315 (@main, which the printer did not cut). -/
abbrev ops_1 : List (HloOp τ sig (Elt F)) :=
  [ TRef.unary (TRef.of (T := ⟨S_, .f32⟩) main_call0_call0_v0) (TRef.of (T := ⟨S1x1, .f32⟩) main_call0_call0_v2) (broadcastInDim S1x1 ![] bcast_S_S1x1),
    TRef.unary (TRef.of (T := ⟨S_, .f32⟩) main_call0_call0_v1) (TRef.of (T := ⟨S1x1, .f32⟩) main_call0_call0_v3) (broadcastInDim S1x1 ![] bcast_S_S1x1),
    TRef.unary (TRef.of (T := ⟨S2, .i32⟩) main_v19) (TRef.of (T := ⟨S1, .i32⟩) main_call0_call0_v4) (extractStridedSlice S1 ![0] · slices_S2_S1_0),
    TRef.reshape (TRef.of (T := ⟨S1, .i32⟩) main_call0_call0_v4) (TRef.of (T := ⟨S_, .i32⟩) main_call0_call0_v5) (rfl : (.i32 : EltTy) = .i32) shapeCasts_S1_S_,
    TRef.unary (TRef.of (T := ⟨S2, .i32⟩) main_v19) (TRef.of (T := ⟨S1, .i32⟩) main_call0_call0_v6) (extractStridedSlice S1 ![1] · slices_S2_S1_1),
    TRef.reshape (TRef.of (T := ⟨S1, .i32⟩) main_call0_call0_v6) (TRef.of (T := ⟨S_, .i32⟩) main_call0_call0_v7) (rfl : (.i32 : EltTy) = .i32) shapeCasts_S1_S_,
    TRef.nullary (TRef.of (T := ⟨S8192x2048, .i64⟩) main_call0_call0_v8) (iotaInDim S8192x2048 64 0),
    TRef.nullary (TRef.of (T := ⟨S8192x2048, .i64⟩) main_call0_call0_v9) (iotaInDim S8192x2048 64 1),
    TRef.nullary (TRef.of (T := ⟨S_, .i64⟩) main_call0_call0_c) (constantI S_ 64 2048#64),
    TRef.unary (TRef.of (T := ⟨S_, .i64⟩) main_call0_call0_c) (TRef.of (T := ⟨S8192x2048, .i64⟩) main_call0_call0_v10) (broadcastInDim S8192x2048 ![] bcast_S_S8192x2048),
    TRef.binary (TRef.of (T := ⟨S8192x2048, .i64⟩) main_call0_call0_v10) (TRef.of (T := ⟨S8192x2048, .i64⟩) main_call0_call0_v8) (TRef.of (T := ⟨S8192x2048, .i64⟩) main_call0_call0_v11) muli,
    TRef.nullary (TRef.of (T := ⟨S_, .i64⟩) main_call0_call0_c_0) (constantI S_ 64 1#64),
    TRef.unary (TRef.of (T := ⟨S_, .i64⟩) main_call0_call0_c_0) (TRef.of (T := ⟨S8192x2048, .i64⟩) main_call0_call0_v12) (broadcastInDim S8192x2048 ![] bcast_S_S8192x2048),
    TRef.binary (TRef.of (T := ⟨S8192x2048, .i64⟩) main_call0_call0_v12) (TRef.of (T := ⟨S8192x2048, .i64⟩) main_call0_call0_v9) (TRef.of (T := ⟨S8192x2048, .i64⟩) main_call0_call0_v13) muli,
    TRef.binary (TRef.of (T := ⟨S8192x2048, .i64⟩) main_call0_call0_v11) (TRef.of (T := ⟨S8192x2048, .i64⟩) main_call0_call0_v13) (TRef.of (T := ⟨S8192x2048, .i64⟩) main_call0_call0_v14) addi,
    TRef.nullary (TRef.of (T := ⟨S_, .i64⟩) main_call0_call0_c_1) (constantI S_ 64 32#64),
    TRef.unary (TRef.of (T := ⟨S_, .i64⟩) main_call0_call0_c_1) (TRef.of (T := ⟨S8192x2048, .i64⟩) main_call0_call0_v15) (broadcastInDim S8192x2048 ![] bcast_S_S8192x2048),
    TRef.binary (TRef.of (T := ⟨S8192x2048, .i64⟩) main_call0_call0_v14) (TRef.of (T := ⟨S8192x2048, .i64⟩) main_call0_call0_v15) (TRef.of (T := ⟨S8192x2048, .i64⟩) main_call0_call0_v16) Host.shrui,
    TRef.unary (TRef.of (T := ⟨S8192x2048, .i64⟩) main_call0_call0_v14) (TRef.of (T := ⟨S8192x2048, .i32⟩) main_call0_call0_v17) (trunci 32 · natLt_32_64),
    TRef.unary (TRef.of (T := ⟨S8192x2048, .i64⟩) main_call0_call0_v16) (TRef.of (T := ⟨S8192x2048, .i32⟩) main_call0_call0_v18) (trunci 32 · natLt_32_64),
    TRef.binary (TRef.of (T := ⟨S_, .i32⟩) main_call0_call0_v5) (TRef.of (T := ⟨S_, .i32⟩) main_call0_call0_v7) (TRef.of (T := ⟨S_, .i32⟩) main_call0_call0_call0_v0) xori,
    TRef.nullary (TRef.of (T := ⟨S_, .i32⟩) main_call0_call0_call0_c) (constantI S_ 32 466688986#32),
    TRef.binary (TRef.of (T := ⟨S_, .i32⟩) main_call0_call0_call0_v0) (TRef.of (T := ⟨S_, .i32⟩) main_call0_call0_call0_c) (TRef.of (T := ⟨S_, .i32⟩) main_call0_call0_call0_v1) xori,
    TRef.unary (TRef.of (T := ⟨S_, .i32⟩) main_call0_call0_v5) (TRef.of (T := ⟨S8192x2048, .i32⟩) main_call0_call0_call0_v2) (broadcastInDim S8192x2048 ![] bcast_S_S8192x2048),
    TRef.binary (TRef.of (T := ⟨S8192x2048, .i32⟩) main_call0_call0_v18) (TRef.of (T := ⟨S8192x2048, .i32⟩) main_call0_call0_call0_v2) (TRef.of (T := ⟨S8192x2048, .i32⟩) main_call0_call0_call0_v3) addi,
    TRef.unary (TRef.of (T := ⟨S_, .i32⟩) main_call0_call0_v7) (TRef.of (T := ⟨S8192x2048, .i32⟩) main_call0_call0_call0_v4) (broadcastInDim S8192x2048 ![] bcast_S_S8192x2048),
    TRef.binary (TRef.of (T := ⟨S8192x2048, .i32⟩) main_call0_call0_v17) (TRef.of (T := ⟨S8192x2048, .i32⟩) main_call0_call0_call0_v4) (TRef.of (T := ⟨S8192x2048, .i32⟩) main_call0_call0_call0_v5) addi,
    TRef.binary (TRef.of (T := ⟨S8192x2048, .i32⟩) main_call0_call0_call0_v3) (TRef.of (T := ⟨S8192x2048, .i32⟩) main_call0_call0_call0_v5) (TRef.of (T := ⟨S8192x2048, .i32⟩) main_call0_call0_call0_v6) addi,
    TRef.nullary (TRef.of (T := ⟨S_, .i32⟩) main_call0_call0_call0_c_0) (constantI S_ 32 13#32),
    TRef.unary (TRef.of (T := ⟨S_, .i32⟩) main_call0_call0_call0_c_0) (TRef.of (T := ⟨S8192x2048, .i32⟩) main_call0_call0_call0_v7) (broadcastInDim S8192x2048 ![] bcast_S_S8192x2048) ]

/-- @main's operations 61 … 90 of 315 (@main, which the printer did not cut). -/
abbrev ops_2 : List (HloOp τ sig (Elt F)) :=
  [ TRef.binary (TRef.of (T := ⟨S8192x2048, .i32⟩) main_call0_call0_call0_v5) (TRef.of (T := ⟨S8192x2048, .i32⟩) main_call0_call0_call0_v7) (TRef.of (T := ⟨S8192x2048, .i32⟩) main_call0_call0_call0_v8) Host.shli,
    TRef.nullary (TRef.of (T := ⟨S_, .i32⟩) main_call0_call0_call0_c_1) (constantI S_ 32 19#32),
    TRef.unary (TRef.of (T := ⟨S_, .i32⟩) main_call0_call0_call0_c_1) (TRef.of (T := ⟨S8192x2048, .i32⟩) main_call0_call0_call0_v9) (broadcastInDim S8192x2048 ![] bcast_S_S8192x2048),
    TRef.binary (TRef.of (T := ⟨S8192x2048, .i32⟩) main_call0_call0_call0_v5) (TRef.of (T := ⟨S8192x2048, .i32⟩) main_call0_call0_call0_v9) (TRef.of (T := ⟨S8192x2048, .i32⟩) main_call0_call0_call0_v10) Host.shrui,
    TRef.binary (TRef.of (T := ⟨S8192x2048, .i32⟩) main_call0_call0_call0_v8) (TRef.of (T := ⟨S8192x2048, .i32⟩) main_call0_call0_call0_v10) (TRef.of (T := ⟨S8192x2048, .i32⟩) main_call0_call0_call0_v11) ori,
    TRef.binary (TRef.of (T := ⟨S8192x2048, .i32⟩) main_call0_call0_call0_v6) (TRef.of (T := ⟨S8192x2048, .i32⟩) main_call0_call0_call0_v11) (TRef.of (T := ⟨S8192x2048, .i32⟩) main_call0_call0_call0_v12) xori,
    TRef.binary (TRef.of (T := ⟨S8192x2048, .i32⟩) main_call0_call0_call0_v6) (TRef.of (T := ⟨S8192x2048, .i32⟩) main_call0_call0_call0_v12) (TRef.of (T := ⟨S8192x2048, .i32⟩) main_call0_call0_call0_v13) addi,
    TRef.nullary (TRef.of (T := ⟨S_, .i32⟩) main_call0_call0_call0_c_2) (constantI S_ 32 15#32),
    TRef.unary (TRef.of (T := ⟨S_, .i32⟩) main_call0_call0_call0_c_2) (TRef.of (T := ⟨S8192x2048, .i32⟩) main_call0_call0_call0_v14) (broadcastInDim S8192x2048 ![] bcast_S_S8192x2048),
    TRef.binary (TRef.of (T := ⟨S8192x2048, .i32⟩) main_call0_call0_call0_v12) (TRef.of (T := ⟨S8192x2048, .i32⟩) main_call0_call0_call0_v14) (TRef.of (T := ⟨S8192x2048, .i32⟩) main_call0_call0_call0_v15) Host.shli,
    TRef.nullary (TRef.of (T := ⟨S_, .i32⟩) main_call0_call0_call0_c_3) (constantI S_ 32 17#32),
    TRef.unary (TRef.of (T := ⟨S_, .i32⟩) main_call0_call0_call0_c_3) (TRef.of (T := ⟨S8192x2048, .i32⟩) main_call0_call0_call0_v16) (broadcastInDim S8192x2048 ![] bcast_S_S8192x2048),
    TRef.binary (TRef.of (T := ⟨S8192x2048, .i32⟩) main_call0_call0_call0_v12) (TRef.of (T := ⟨S8192x2048, .i32⟩) main_call0_call0_call0_v16) (TRef.of (T := ⟨S8192x2048, .i32⟩) main_call0_call0_call0_v17) Host.shrui,
    TRef.binary (TRef.of (T := ⟨S8192x2048, .i32⟩) main_call0_call0_call0_v15) (TRef.of (T := ⟨S8192x2048, .i32⟩) main_call0_call0_call0_v17) (TRef.of (T := ⟨S8192x2048, .i32⟩) main_call0_call0_call0_v18) ori,
    TRef.binary (TRef.of (T := ⟨S8192x2048, .i32⟩) main_call0_call0_call0_v13) (TRef.of (T := ⟨S8192x2048, .i32⟩) main_call0_call0_call0_v18) (TRef.of (T := ⟨S8192x2048, .i32⟩) main_call0_call0_call0_v19) xori,
    TRef.binary (TRef.of (T := ⟨S8192x2048, .i32⟩) main_call0_call0_call0_v13) (TRef.of (T := ⟨S8192x2048, .i32⟩) main_call0_call0_call0_v19) (TRef.of (T := ⟨S8192x2048, .i32⟩) main_call0_call0_call0_v20) addi,
    TRef.nullary (TRef.of (T := ⟨S_, .i32⟩) main_call0_call0_call0_c_4) (constantI S_ 32 26#32),
    TRef.unary (TRef.of (T := ⟨S_, .i32⟩) main_call0_call0_call0_c_4) (TRef.of (T := ⟨S8192x2048, .i32⟩) main_call0_call0_call0_v21) (broadcastInDim S8192x2048 ![] bcast_S_S8192x2048),
    TRef.binary (TRef.of (T := ⟨S8192x2048, .i32⟩) main_call0_call0_call0_v19) (TRef.of (T := ⟨S8192x2048, .i32⟩) main_call0_call0_call0_v21) (TRef.of (T := ⟨S8192x2048, .i32⟩) main_call0_call0_call0_v22) Host.shli,
    TRef.nullary (TRef.of (T := ⟨S_, .i32⟩) main_call0_call0_call0_c_5) (constantI S_ 32 6#32),
    TRef.unary (TRef.of (T := ⟨S_, .i32⟩) main_call0_call0_call0_c_5) (TRef.of (T := ⟨S8192x2048, .i32⟩) main_call0_call0_call0_v23) (broadcastInDim S8192x2048 ![] bcast_S_S8192x2048),
    TRef.binary (TRef.of (T := ⟨S8192x2048, .i32⟩) main_call0_call0_call0_v19) (TRef.of (T := ⟨S8192x2048, .i32⟩) main_call0_call0_call0_v23) (TRef.of (T := ⟨S8192x2048, .i32⟩) main_call0_call0_call0_v24) Host.shrui,
    TRef.binary (TRef.of (T := ⟨S8192x2048, .i32⟩) main_call0_call0_call0_v22) (TRef.of (T := ⟨S8192x2048, .i32⟩) main_call0_call0_call0_v24) (TRef.of (T := ⟨S8192x2048, .i32⟩) main_call0_call0_call0_v25) ori,
    TRef.binary (TRef.of (T := ⟨S8192x2048, .i32⟩) main_call0_call0_call0_v20) (TRef.of (T := ⟨S8192x2048, .i32⟩) main_call0_call0_call0_v25) (TRef.of (T := ⟨S8192x2048, .i32⟩) main_call0_call0_call0_v26) xori,
    TRef.binary (TRef.of (T := ⟨S8192x2048, .i32⟩) main_call0_call0_call0_v20) (TRef.of (T := ⟨S8192x2048, .i32⟩) main_call0_call0_call0_v26) (TRef.of (T := ⟨S8192x2048, .i32⟩) main_call0_call0_call0_v27) addi,
    TRef.nullary (TRef.of (T := ⟨S_, .i32⟩) main_call0_call0_call0_c_6) (constantI S_ 32 6#32),
    TRef.unary (TRef.of (T := ⟨S_, .i32⟩) main_call0_call0_call0_c_6) (TRef.of (T := ⟨S8192x2048, .i32⟩) main_call0_call0_call0_v28) (broadcastInDim S8192x2048 ![] bcast_S_S8192x2048),
    TRef.binary (TRef.of (T := ⟨S8192x2048, .i32⟩) main_call0_call0_call0_v26) (TRef.of (T := ⟨S8192x2048, .i32⟩) main_call0_call0_call0_v28) (TRef.of (T := ⟨S8192x2048, .i32⟩) main_call0_call0_call0_v29) Host.shli,
    TRef.nullary (TRef.of (T := ⟨S_, .i32⟩) main_call0_call0_call0_c_7) (constantI S_ 32 26#32),
    TRef.unary (TRef.of (T := ⟨S_, .i32⟩) main_call0_call0_call0_c_7) (TRef.of (T := ⟨S8192x2048, .i32⟩) main_call0_call0_call0_v30) (broadcastInDim S8192x2048 ![] bcast_S_S8192x2048) ]

/-- @main's operations 91 … 120 of 315 (@main, which the printer did not cut). -/
abbrev ops_3 : List (HloOp τ sig (Elt F)) :=
  [ TRef.binary (TRef.of (T := ⟨S8192x2048, .i32⟩) main_call0_call0_call0_v26) (TRef.of (T := ⟨S8192x2048, .i32⟩) main_call0_call0_call0_v30) (TRef.of (T := ⟨S8192x2048, .i32⟩) main_call0_call0_call0_v31) Host.shrui,
    TRef.binary (TRef.of (T := ⟨S8192x2048, .i32⟩) main_call0_call0_call0_v29) (TRef.of (T := ⟨S8192x2048, .i32⟩) main_call0_call0_call0_v31) (TRef.of (T := ⟨S8192x2048, .i32⟩) main_call0_call0_call0_v32) ori,
    TRef.binary (TRef.of (T := ⟨S8192x2048, .i32⟩) main_call0_call0_call0_v27) (TRef.of (T := ⟨S8192x2048, .i32⟩) main_call0_call0_call0_v32) (TRef.of (T := ⟨S8192x2048, .i32⟩) main_call0_call0_call0_v33) xori,
    TRef.unary (TRef.of (T := ⟨S_, .i32⟩) main_call0_call0_v7) (TRef.of (T := ⟨S8192x2048, .i32⟩) main_call0_call0_call0_v34) (broadcastInDim S8192x2048 ![] bcast_S_S8192x2048),
    TRef.binary (TRef.of (T := ⟨S8192x2048, .i32⟩) main_call0_call0_call0_v27) (TRef.of (T := ⟨S8192x2048, .i32⟩) main_call0_call0_call0_v34) (TRef.of (T := ⟨S8192x2048, .i32⟩) main_call0_call0_call0_v35) addi,
    TRef.unary (TRef.of (T := ⟨S_, .i32⟩) main_call0_call0_call0_v1) (TRef.of (T := ⟨S8192x2048, .i32⟩) main_call0_call0_call0_v36) (broadcastInDim S8192x2048 ![] bcast_S_S8192x2048),
    TRef.binary (TRef.of (T := ⟨S8192x2048, .i32⟩) main_call0_call0_call0_v33) (TRef.of (T := ⟨S8192x2048, .i32⟩) main_call0_call0_call0_v36) (TRef.of (T := ⟨S8192x2048, .i32⟩) main_call0_call0_call0_v37) addi,
    TRef.nullary (TRef.of (T := ⟨S_, .i32⟩) main_call0_call0_call0_c_8) (constantI S_ 32 1#32),
    TRef.unary (TRef.of (T := ⟨S_, .i32⟩) main_call0_call0_call0_c_8) (TRef.of (T := ⟨S8192x2048, .i32⟩) main_call0_call0_call0_v38) (broadcastInDim S8192x2048 ![] bcast_S_S8192x2048),
    TRef.binary (TRef.of (T := ⟨S8192x2048, .i32⟩) main_call0_call0_call0_v37) (TRef.of (T := ⟨S8192x2048, .i32⟩) main_call0_call0_call0_v38) (TRef.of (T := ⟨S8192x2048, .i32⟩) main_call0_call0_call0_v39) addi,
    TRef.binary (TRef.of (T := ⟨S8192x2048, .i32⟩) main_call0_call0_call0_v35) (TRef.of (T := ⟨S8192x2048, .i32⟩) main_call0_call0_call0_v39) (TRef.of (T := ⟨S8192x2048, .i32⟩) main_call0_call0_call0_v40) addi,
    TRef.nullary (TRef.of (T := ⟨S_, .i32⟩) main_call0_call0_call0_c_9) (constantI S_ 32 17#32),
    TRef.unary (TRef.of (T := ⟨S_, .i32⟩) main_call0_call0_call0_c_9) (TRef.of (T := ⟨S8192x2048, .i32⟩) main_call0_call0_call0_v41) (broadcastInDim S8192x2048 ![] bcast_S_S8192x2048),
    TRef.binary (TRef.of (T := ⟨S8192x2048, .i32⟩) main_call0_call0_call0_v39) (TRef.of (T := ⟨S8192x2048, .i32⟩) main_call0_call0_call0_v41) (TRef.of (T := ⟨S8192x2048, .i32⟩) main_call0_call0_call0_v42) Host.shli,
    TRef.nullary (TRef.of (T := ⟨S_, .i32⟩) main_call0_call0_call0_c_10) (constantI S_ 32 15#32),
    TRef.unary (TRef.of (T := ⟨S_, .i32⟩) main_call0_call0_call0_c_10) (TRef.of (T := ⟨S8192x2048, .i32⟩) main_call0_call0_call0_v43) (broadcastInDim S8192x2048 ![] bcast_S_S8192x2048),
    TRef.binary (TRef.of (T := ⟨S8192x2048, .i32⟩) main_call0_call0_call0_v39) (TRef.of (T := ⟨S8192x2048, .i32⟩) main_call0_call0_call0_v43) (TRef.of (T := ⟨S8192x2048, .i32⟩) main_call0_call0_call0_v44) Host.shrui,
    TRef.binary (TRef.of (T := ⟨S8192x2048, .i32⟩) main_call0_call0_call0_v42) (TRef.of (T := ⟨S8192x2048, .i32⟩) main_call0_call0_call0_v44) (TRef.of (T := ⟨S8192x2048, .i32⟩) main_call0_call0_call0_v45) ori,
    TRef.binary (TRef.of (T := ⟨S8192x2048, .i32⟩) main_call0_call0_call0_v40) (TRef.of (T := ⟨S8192x2048, .i32⟩) main_call0_call0_call0_v45) (TRef.of (T := ⟨S8192x2048, .i32⟩) main_call0_call0_call0_v46) xori,
    TRef.binary (TRef.of (T := ⟨S8192x2048, .i32⟩) main_call0_call0_call0_v40) (TRef.of (T := ⟨S8192x2048, .i32⟩) main_call0_call0_call0_v46) (TRef.of (T := ⟨S8192x2048, .i32⟩) main_call0_call0_call0_v47) addi,
    TRef.nullary (TRef.of (T := ⟨S_, .i32⟩) main_call0_call0_call0_c_11) (constantI S_ 32 29#32),
    TRef.unary (TRef.of (T := ⟨S_, .i32⟩) main_call0_call0_call0_c_11) (TRef.of (T := ⟨S8192x2048, .i32⟩) main_call0_call0_call0_v48) (broadcastInDim S8192x2048 ![] bcast_S_S8192x2048),
    TRef.binary (TRef.of (T := ⟨S8192x2048, .i32⟩) main_call0_call0_call0_v46) (TRef.of (T := ⟨S8192x2048, .i32⟩) main_call0_call0_call0_v48) (TRef.of (T := ⟨S8192x2048, .i32⟩) main_call0_call0_call0_v49) Host.shli,
    TRef.nullary (TRef.of (T := ⟨S_, .i32⟩) main_call0_call0_call0_c_12) (constantI S_ 32 3#32),
    TRef.unary (TRef.of (T := ⟨S_, .i32⟩) main_call0_call0_call0_c_12) (TRef.of (T := ⟨S8192x2048, .i32⟩) main_call0_call0_call0_v50) (broadcastInDim S8192x2048 ![] bcast_S_S8192x2048),
    TRef.binary (TRef.of (T := ⟨S8192x2048, .i32⟩) main_call0_call0_call0_v46) (TRef.of (T := ⟨S8192x2048, .i32⟩) main_call0_call0_call0_v50) (TRef.of (T := ⟨S8192x2048, .i32⟩) main_call0_call0_call0_v51) Host.shrui,
    TRef.binary (TRef.of (T := ⟨S8192x2048, .i32⟩) main_call0_call0_call0_v49) (TRef.of (T := ⟨S8192x2048, .i32⟩) main_call0_call0_call0_v51) (TRef.of (T := ⟨S8192x2048, .i32⟩) main_call0_call0_call0_v52) ori,
    TRef.binary (TRef.of (T := ⟨S8192x2048, .i32⟩) main_call0_call0_call0_v47) (TRef.of (T := ⟨S8192x2048, .i32⟩) main_call0_call0_call0_v52) (TRef.of (T := ⟨S8192x2048, .i32⟩) main_call0_call0_call0_v53) xori,
    TRef.binary (TRef.of (T := ⟨S8192x2048, .i32⟩) main_call0_call0_call0_v47) (TRef.of (T := ⟨S8192x2048, .i32⟩) main_call0_call0_call0_v53) (TRef.of (T := ⟨S8192x2048, .i32⟩) main_call0_call0_call0_v54) addi,
    TRef.nullary (TRef.of (T := ⟨S_, .i32⟩) main_call0_call0_call0_c_13) (constantI S_ 32 16#32) ]

/-- @main's operations 121 … 150 of 315 (@main, which the printer did not cut). -/
abbrev ops_4 : List (HloOp τ sig (Elt F)) :=
  [ TRef.unary (TRef.of (T := ⟨S_, .i32⟩) main_call0_call0_call0_c_13) (TRef.of (T := ⟨S8192x2048, .i32⟩) main_call0_call0_call0_v55) (broadcastInDim S8192x2048 ![] bcast_S_S8192x2048),
    TRef.binary (TRef.of (T := ⟨S8192x2048, .i32⟩) main_call0_call0_call0_v53) (TRef.of (T := ⟨S8192x2048, .i32⟩) main_call0_call0_call0_v55) (TRef.of (T := ⟨S8192x2048, .i32⟩) main_call0_call0_call0_v56) Host.shli,
    TRef.nullary (TRef.of (T := ⟨S_, .i32⟩) main_call0_call0_call0_c_14) (constantI S_ 32 16#32),
    TRef.unary (TRef.of (T := ⟨S_, .i32⟩) main_call0_call0_call0_c_14) (TRef.of (T := ⟨S8192x2048, .i32⟩) main_call0_call0_call0_v57) (broadcastInDim S8192x2048 ![] bcast_S_S8192x2048),
    TRef.binary (TRef.of (T := ⟨S8192x2048, .i32⟩) main_call0_call0_call0_v53) (TRef.of (T := ⟨S8192x2048, .i32⟩) main_call0_call0_call0_v57) (TRef.of (T := ⟨S8192x2048, .i32⟩) main_call0_call0_call0_v58) Host.shrui,
    TRef.binary (TRef.of (T := ⟨S8192x2048, .i32⟩) main_call0_call0_call0_v56) (TRef.of (T := ⟨S8192x2048, .i32⟩) main_call0_call0_call0_v58) (TRef.of (T := ⟨S8192x2048, .i32⟩) main_call0_call0_call0_v59) ori,
    TRef.binary (TRef.of (T := ⟨S8192x2048, .i32⟩) main_call0_call0_call0_v54) (TRef.of (T := ⟨S8192x2048, .i32⟩) main_call0_call0_call0_v59) (TRef.of (T := ⟨S8192x2048, .i32⟩) main_call0_call0_call0_v60) xori,
    TRef.binary (TRef.of (T := ⟨S8192x2048, .i32⟩) main_call0_call0_call0_v54) (TRef.of (T := ⟨S8192x2048, .i32⟩) main_call0_call0_call0_v60) (TRef.of (T := ⟨S8192x2048, .i32⟩) main_call0_call0_call0_v61) addi,
    TRef.nullary (TRef.of (T := ⟨S_, .i32⟩) main_call0_call0_call0_c_15) (constantI S_ 32 24#32),
    TRef.unary (TRef.of (T := ⟨S_, .i32⟩) main_call0_call0_call0_c_15) (TRef.of (T := ⟨S8192x2048, .i32⟩) main_call0_call0_call0_v62) (broadcastInDim S8192x2048 ![] bcast_S_S8192x2048),
    TRef.binary (TRef.of (T := ⟨S8192x2048, .i32⟩) main_call0_call0_call0_v60) (TRef.of (T := ⟨S8192x2048, .i32⟩) main_call0_call0_call0_v62) (TRef.of (T := ⟨S8192x2048, .i32⟩) main_call0_call0_call0_v63) Host.shli,
    TRef.nullary (TRef.of (T := ⟨S_, .i32⟩) main_call0_call0_call0_c_16) (constantI S_ 32 8#32),
    TRef.unary (TRef.of (T := ⟨S_, .i32⟩) main_call0_call0_call0_c_16) (TRef.of (T := ⟨S8192x2048, .i32⟩) main_call0_call0_call0_v64) (broadcastInDim S8192x2048 ![] bcast_S_S8192x2048),
    TRef.binary (TRef.of (T := ⟨S8192x2048, .i32⟩) main_call0_call0_call0_v60) (TRef.of (T := ⟨S8192x2048, .i32⟩) main_call0_call0_call0_v64) (TRef.of (T := ⟨S8192x2048, .i32⟩) main_call0_call0_call0_v65) Host.shrui,
    TRef.binary (TRef.of (T := ⟨S8192x2048, .i32⟩) main_call0_call0_call0_v63) (TRef.of (T := ⟨S8192x2048, .i32⟩) main_call0_call0_call0_v65) (TRef.of (T := ⟨S8192x2048, .i32⟩) main_call0_call0_call0_v66) ori,
    TRef.binary (TRef.of (T := ⟨S8192x2048, .i32⟩) main_call0_call0_call0_v61) (TRef.of (T := ⟨S8192x2048, .i32⟩) main_call0_call0_call0_v66) (TRef.of (T := ⟨S8192x2048, .i32⟩) main_call0_call0_call0_v67) xori,
    TRef.unary (TRef.of (T := ⟨S_, .i32⟩) main_call0_call0_call0_v1) (TRef.of (T := ⟨S8192x2048, .i32⟩) main_call0_call0_call0_v68) (broadcastInDim S8192x2048 ![] bcast_S_S8192x2048),
    TRef.binary (TRef.of (T := ⟨S8192x2048, .i32⟩) main_call0_call0_call0_v61) (TRef.of (T := ⟨S8192x2048, .i32⟩) main_call0_call0_call0_v68) (TRef.of (T := ⟨S8192x2048, .i32⟩) main_call0_call0_call0_v69) addi,
    TRef.unary (TRef.of (T := ⟨S_, .i32⟩) main_call0_call0_v5) (TRef.of (T := ⟨S8192x2048, .i32⟩) main_call0_call0_call0_v70) (broadcastInDim S8192x2048 ![] bcast_S_S8192x2048),
    TRef.binary (TRef.of (T := ⟨S8192x2048, .i32⟩) main_call0_call0_call0_v67) (TRef.of (T := ⟨S8192x2048, .i32⟩) main_call0_call0_call0_v70) (TRef.of (T := ⟨S8192x2048, .i32⟩) main_call0_call0_call0_v71) addi,
    TRef.nullary (TRef.of (T := ⟨S_, .i32⟩) main_call0_call0_call0_c_17) (constantI S_ 32 2#32),
    TRef.unary (TRef.of (T := ⟨S_, .i32⟩) main_call0_call0_call0_c_17) (TRef.of (T := ⟨S8192x2048, .i32⟩) main_call0_call0_call0_v72) (broadcastInDim S8192x2048 ![] bcast_S_S8192x2048),
    TRef.binary (TRef.of (T := ⟨S8192x2048, .i32⟩) main_call0_call0_call0_v71) (TRef.of (T := ⟨S8192x2048, .i32⟩) main_call0_call0_call0_v72) (TRef.of (T := ⟨S8192x2048, .i32⟩) main_call0_call0_call0_v73) addi,
    TRef.binary (TRef.of (T := ⟨S8192x2048, .i32⟩) main_call0_call0_call0_v69) (TRef.of (T := ⟨S8192x2048, .i32⟩) main_call0_call0_call0_v73) (TRef.of (T := ⟨S8192x2048, .i32⟩) main_call0_call0_call0_v74) addi,
    TRef.nullary (TRef.of (T := ⟨S_, .i32⟩) main_call0_call0_call0_c_18) (constantI S_ 32 13#32),
    TRef.unary (TRef.of (T := ⟨S_, .i32⟩) main_call0_call0_call0_c_18) (TRef.of (T := ⟨S8192x2048, .i32⟩) main_call0_call0_call0_v75) (broadcastInDim S8192x2048 ![] bcast_S_S8192x2048),
    TRef.binary (TRef.of (T := ⟨S8192x2048, .i32⟩) main_call0_call0_call0_v73) (TRef.of (T := ⟨S8192x2048, .i32⟩) main_call0_call0_call0_v75) (TRef.of (T := ⟨S8192x2048, .i32⟩) main_call0_call0_call0_v76) Host.shli,
    TRef.nullary (TRef.of (T := ⟨S_, .i32⟩) main_call0_call0_call0_c_19) (constantI S_ 32 19#32),
    TRef.unary (TRef.of (T := ⟨S_, .i32⟩) main_call0_call0_call0_c_19) (TRef.of (T := ⟨S8192x2048, .i32⟩) main_call0_call0_call0_v77) (broadcastInDim S8192x2048 ![] bcast_S_S8192x2048),
    TRef.binary (TRef.of (T := ⟨S8192x2048, .i32⟩) main_call0_call0_call0_v73) (TRef.of (T := ⟨S8192x2048, .i32⟩) main_call0_call0_call0_v77) (TRef.of (T := ⟨S8192x2048, .i32⟩) main_call0_call0_call0_v78) Host.shrui ]

/-- @main's operations 151 … 180 of 315 (@main, which the printer did not cut). -/
abbrev ops_5 : List (HloOp τ sig (Elt F)) :=
  [ TRef.binary (TRef.of (T := ⟨S8192x2048, .i32⟩) main_call0_call0_call0_v76) (TRef.of (T := ⟨S8192x2048, .i32⟩) main_call0_call0_call0_v78) (TRef.of (T := ⟨S8192x2048, .i32⟩) main_call0_call0_call0_v79) ori,
    TRef.binary (TRef.of (T := ⟨S8192x2048, .i32⟩) main_call0_call0_call0_v74) (TRef.of (T := ⟨S8192x2048, .i32⟩) main_call0_call0_call0_v79) (TRef.of (T := ⟨S8192x2048, .i32⟩) main_call0_call0_call0_v80) xori,
    TRef.binary (TRef.of (T := ⟨S8192x2048, .i32⟩) main_call0_call0_call0_v74) (TRef.of (T := ⟨S8192x2048, .i32⟩) main_call0_call0_call0_v80) (TRef.of (T := ⟨S8192x2048, .i32⟩) main_call0_call0_call0_v81) addi,
    TRef.nullary (TRef.of (T := ⟨S_, .i32⟩) main_call0_call0_call0_c_20) (constantI S_ 32 15#32),
    TRef.unary (TRef.of (T := ⟨S_, .i32⟩) main_call0_call0_call0_c_20) (TRef.of (T := ⟨S8192x2048, .i32⟩) main_call0_call0_call0_v82) (broadcastInDim S8192x2048 ![] bcast_S_S8192x2048),
    TRef.binary (TRef.of (T := ⟨S8192x2048, .i32⟩) main_call0_call0_call0_v80) (TRef.of (T := ⟨S8192x2048, .i32⟩) main_call0_call0_call0_v82) (TRef.of (T := ⟨S8192x2048, .i32⟩) main_call0_call0_call0_v83) Host.shli,
    TRef.nullary (TRef.of (T := ⟨S_, .i32⟩) main_call0_call0_call0_c_21) (constantI S_ 32 17#32),
    TRef.unary (TRef.of (T := ⟨S_, .i32⟩) main_call0_call0_call0_c_21) (TRef.of (T := ⟨S8192x2048, .i32⟩) main_call0_call0_call0_v84) (broadcastInDim S8192x2048 ![] bcast_S_S8192x2048),
    TRef.binary (TRef.of (T := ⟨S8192x2048, .i32⟩) main_call0_call0_call0_v80) (TRef.of (T := ⟨S8192x2048, .i32⟩) main_call0_call0_call0_v84) (TRef.of (T := ⟨S8192x2048, .i32⟩) main_call0_call0_call0_v85) Host.shrui,
    TRef.binary (TRef.of (T := ⟨S8192x2048, .i32⟩) main_call0_call0_call0_v83) (TRef.of (T := ⟨S8192x2048, .i32⟩) main_call0_call0_call0_v85) (TRef.of (T := ⟨S8192x2048, .i32⟩) main_call0_call0_call0_v86) ori,
    TRef.binary (TRef.of (T := ⟨S8192x2048, .i32⟩) main_call0_call0_call0_v81) (TRef.of (T := ⟨S8192x2048, .i32⟩) main_call0_call0_call0_v86) (TRef.of (T := ⟨S8192x2048, .i32⟩) main_call0_call0_call0_v87) xori,
    TRef.binary (TRef.of (T := ⟨S8192x2048, .i32⟩) main_call0_call0_call0_v81) (TRef.of (T := ⟨S8192x2048, .i32⟩) main_call0_call0_call0_v87) (TRef.of (T := ⟨S8192x2048, .i32⟩) main_call0_call0_call0_v88) addi,
    TRef.nullary (TRef.of (T := ⟨S_, .i32⟩) main_call0_call0_call0_c_22) (constantI S_ 32 26#32),
    TRef.unary (TRef.of (T := ⟨S_, .i32⟩) main_call0_call0_call0_c_22) (TRef.of (T := ⟨S8192x2048, .i32⟩) main_call0_call0_call0_v89) (broadcastInDim S8192x2048 ![] bcast_S_S8192x2048),
    TRef.binary (TRef.of (T := ⟨S8192x2048, .i32⟩) main_call0_call0_call0_v87) (TRef.of (T := ⟨S8192x2048, .i32⟩) main_call0_call0_call0_v89) (TRef.of (T := ⟨S8192x2048, .i32⟩) main_call0_call0_call0_v90) Host.shli,
    TRef.nullary (TRef.of (T := ⟨S_, .i32⟩) main_call0_call0_call0_c_23) (constantI S_ 32 6#32),
    TRef.unary (TRef.of (T := ⟨S_, .i32⟩) main_call0_call0_call0_c_23) (TRef.of (T := ⟨S8192x2048, .i32⟩) main_call0_call0_call0_v91) (broadcastInDim S8192x2048 ![] bcast_S_S8192x2048),
    TRef.binary (TRef.of (T := ⟨S8192x2048, .i32⟩) main_call0_call0_call0_v87) (TRef.of (T := ⟨S8192x2048, .i32⟩) main_call0_call0_call0_v91) (TRef.of (T := ⟨S8192x2048, .i32⟩) main_call0_call0_call0_v92) Host.shrui,
    TRef.binary (TRef.of (T := ⟨S8192x2048, .i32⟩) main_call0_call0_call0_v90) (TRef.of (T := ⟨S8192x2048, .i32⟩) main_call0_call0_call0_v92) (TRef.of (T := ⟨S8192x2048, .i32⟩) main_call0_call0_call0_v93) ori,
    TRef.binary (TRef.of (T := ⟨S8192x2048, .i32⟩) main_call0_call0_call0_v88) (TRef.of (T := ⟨S8192x2048, .i32⟩) main_call0_call0_call0_v93) (TRef.of (T := ⟨S8192x2048, .i32⟩) main_call0_call0_call0_v94) xori,
    TRef.binary (TRef.of (T := ⟨S8192x2048, .i32⟩) main_call0_call0_call0_v88) (TRef.of (T := ⟨S8192x2048, .i32⟩) main_call0_call0_call0_v94) (TRef.of (T := ⟨S8192x2048, .i32⟩) main_call0_call0_call0_v95) addi,
    TRef.nullary (TRef.of (T := ⟨S_, .i32⟩) main_call0_call0_call0_c_24) (constantI S_ 32 6#32),
    TRef.unary (TRef.of (T := ⟨S_, .i32⟩) main_call0_call0_call0_c_24) (TRef.of (T := ⟨S8192x2048, .i32⟩) main_call0_call0_call0_v96) (broadcastInDim S8192x2048 ![] bcast_S_S8192x2048),
    TRef.binary (TRef.of (T := ⟨S8192x2048, .i32⟩) main_call0_call0_call0_v94) (TRef.of (T := ⟨S8192x2048, .i32⟩) main_call0_call0_call0_v96) (TRef.of (T := ⟨S8192x2048, .i32⟩) main_call0_call0_call0_v97) Host.shli,
    TRef.nullary (TRef.of (T := ⟨S_, .i32⟩) main_call0_call0_call0_c_25) (constantI S_ 32 26#32),
    TRef.unary (TRef.of (T := ⟨S_, .i32⟩) main_call0_call0_call0_c_25) (TRef.of (T := ⟨S8192x2048, .i32⟩) main_call0_call0_call0_v98) (broadcastInDim S8192x2048 ![] bcast_S_S8192x2048),
    TRef.binary (TRef.of (T := ⟨S8192x2048, .i32⟩) main_call0_call0_call0_v94) (TRef.of (T := ⟨S8192x2048, .i32⟩) main_call0_call0_call0_v98) (TRef.of (T := ⟨S8192x2048, .i32⟩) main_call0_call0_call0_v99) Host.shrui,
    TRef.binary (TRef.of (T := ⟨S8192x2048, .i32⟩) main_call0_call0_call0_v97) (TRef.of (T := ⟨S8192x2048, .i32⟩) main_call0_call0_call0_v99) (TRef.of (T := ⟨S8192x2048, .i32⟩) main_call0_call0_call0_v100) ori,
    TRef.binary (TRef.of (T := ⟨S8192x2048, .i32⟩) main_call0_call0_call0_v95) (TRef.of (T := ⟨S8192x2048, .i32⟩) main_call0_call0_call0_v100) (TRef.of (T := ⟨S8192x2048, .i32⟩) main_call0_call0_call0_v101) xori,
    TRef.unary (TRef.of (T := ⟨S_, .i32⟩) main_call0_call0_v5) (TRef.of (T := ⟨S8192x2048, .i32⟩) main_call0_call0_call0_v102) (broadcastInDim S8192x2048 ![] bcast_S_S8192x2048) ]

/-- @main's operations 181 … 210 of 315 (@main, which the printer did not cut). -/
abbrev ops_6 : List (HloOp τ sig (Elt F)) :=
  [ TRef.binary (TRef.of (T := ⟨S8192x2048, .i32⟩) main_call0_call0_call0_v95) (TRef.of (T := ⟨S8192x2048, .i32⟩) main_call0_call0_call0_v102) (TRef.of (T := ⟨S8192x2048, .i32⟩) main_call0_call0_call0_v103) addi,
    TRef.unary (TRef.of (T := ⟨S_, .i32⟩) main_call0_call0_v7) (TRef.of (T := ⟨S8192x2048, .i32⟩) main_call0_call0_call0_v104) (broadcastInDim S8192x2048 ![] bcast_S_S8192x2048),
    TRef.binary (TRef.of (T := ⟨S8192x2048, .i32⟩) main_call0_call0_call0_v101) (TRef.of (T := ⟨S8192x2048, .i32⟩) main_call0_call0_call0_v104) (TRef.of (T := ⟨S8192x2048, .i32⟩) main_call0_call0_call0_v105) addi,
    TRef.nullary (TRef.of (T := ⟨S_, .i32⟩) main_call0_call0_call0_c_26) (constantI S_ 32 3#32),
    TRef.unary (TRef.of (T := ⟨S_, .i32⟩) main_call0_call0_call0_c_26) (TRef.of (T := ⟨S8192x2048, .i32⟩) main_call0_call0_call0_v106) (broadcastInDim S8192x2048 ![] bcast_S_S8192x2048),
    TRef.binary (TRef.of (T := ⟨S8192x2048, .i32⟩) main_call0_call0_call0_v105) (TRef.of (T := ⟨S8192x2048, .i32⟩) main_call0_call0_call0_v106) (TRef.of (T := ⟨S8192x2048, .i32⟩) main_call0_call0_call0_v107) addi,
    TRef.binary (TRef.of (T := ⟨S8192x2048, .i32⟩) main_call0_call0_call0_v103) (TRef.of (T := ⟨S8192x2048, .i32⟩) main_call0_call0_call0_v107) (TRef.of (T := ⟨S8192x2048, .i32⟩) main_call0_call0_call0_v108) addi,
    TRef.nullary (TRef.of (T := ⟨S_, .i32⟩) main_call0_call0_call0_c_27) (constantI S_ 32 17#32),
    TRef.unary (TRef.of (T := ⟨S_, .i32⟩) main_call0_call0_call0_c_27) (TRef.of (T := ⟨S8192x2048, .i32⟩) main_call0_call0_call0_v109) (broadcastInDim S8192x2048 ![] bcast_S_S8192x2048),
    TRef.binary (TRef.of (T := ⟨S8192x2048, .i32⟩) main_call0_call0_call0_v107) (TRef.of (T := ⟨S8192x2048, .i32⟩) main_call0_call0_call0_v109) (TRef.of (T := ⟨S8192x2048, .i32⟩) main_call0_call0_call0_v110) Host.shli,
    TRef.nullary (TRef.of (T := ⟨S_, .i32⟩) main_call0_call0_call0_c_28) (constantI S_ 32 15#32),
    TRef.unary (TRef.of (T := ⟨S_, .i32⟩) main_call0_call0_call0_c_28) (TRef.of (T := ⟨S8192x2048, .i32⟩) main_call0_call0_call0_v111) (broadcastInDim S8192x2048 ![] bcast_S_S8192x2048),
    TRef.binary (TRef.of (T := ⟨S8192x2048, .i32⟩) main_call0_call0_call0_v107) (TRef.of (T := ⟨S8192x2048, .i32⟩) main_call0_call0_call0_v111) (TRef.of (T := ⟨S8192x2048, .i32⟩) main_call0_call0_call0_v112) Host.shrui,
    TRef.binary (TRef.of (T := ⟨S8192x2048, .i32⟩) main_call0_call0_call0_v110) (TRef.of (T := ⟨S8192x2048, .i32⟩) main_call0_call0_call0_v112) (TRef.of (T := ⟨S8192x2048, .i32⟩) main_call0_call0_call0_v113) ori,
    TRef.binary (TRef.of (T := ⟨S8192x2048, .i32⟩) main_call0_call0_call0_v108) (TRef.of (T := ⟨S8192x2048, .i32⟩) main_call0_call0_call0_v113) (TRef.of (T := ⟨S8192x2048, .i32⟩) main_call0_call0_call0_v114) xori,
    TRef.binary (TRef.of (T := ⟨S8192x2048, .i32⟩) main_call0_call0_call0_v108) (TRef.of (T := ⟨S8192x2048, .i32⟩) main_call0_call0_call0_v114) (TRef.of (T := ⟨S8192x2048, .i32⟩) main_call0_call0_call0_v115) addi,
    TRef.nullary (TRef.of (T := ⟨S_, .i32⟩) main_call0_call0_call0_c_29) (constantI S_ 32 29#32),
    TRef.unary (TRef.of (T := ⟨S_, .i32⟩) main_call0_call0_call0_c_29) (TRef.of (T := ⟨S8192x2048, .i32⟩) main_call0_call0_call0_v116) (broadcastInDim S8192x2048 ![] bcast_S_S8192x2048),
    TRef.binary (TRef.of (T := ⟨S8192x2048, .i32⟩) main_call0_call0_call0_v114) (TRef.of (T := ⟨S8192x2048, .i32⟩) main_call0_call0_call0_v116) (TRef.of (T := ⟨S8192x2048, .i32⟩) main_call0_call0_call0_v117) Host.shli,
    TRef.nullary (TRef.of (T := ⟨S_, .i32⟩) main_call0_call0_call0_c_30) (constantI S_ 32 3#32),
    TRef.unary (TRef.of (T := ⟨S_, .i32⟩) main_call0_call0_call0_c_30) (TRef.of (T := ⟨S8192x2048, .i32⟩) main_call0_call0_call0_v118) (broadcastInDim S8192x2048 ![] bcast_S_S8192x2048),
    TRef.binary (TRef.of (T := ⟨S8192x2048, .i32⟩) main_call0_call0_call0_v114) (TRef.of (T := ⟨S8192x2048, .i32⟩) main_call0_call0_call0_v118) (TRef.of (T := ⟨S8192x2048, .i32⟩) main_call0_call0_call0_v119) Host.shrui,
    TRef.binary (TRef.of (T := ⟨S8192x2048, .i32⟩) main_call0_call0_call0_v117) (TRef.of (T := ⟨S8192x2048, .i32⟩) main_call0_call0_call0_v119) (TRef.of (T := ⟨S8192x2048, .i32⟩) main_call0_call0_call0_v120) ori,
    TRef.binary (TRef.of (T := ⟨S8192x2048, .i32⟩) main_call0_call0_call0_v115) (TRef.of (T := ⟨S8192x2048, .i32⟩) main_call0_call0_call0_v120) (TRef.of (T := ⟨S8192x2048, .i32⟩) main_call0_call0_call0_v121) xori,
    TRef.binary (TRef.of (T := ⟨S8192x2048, .i32⟩) main_call0_call0_call0_v115) (TRef.of (T := ⟨S8192x2048, .i32⟩) main_call0_call0_call0_v121) (TRef.of (T := ⟨S8192x2048, .i32⟩) main_call0_call0_call0_v122) addi,
    TRef.nullary (TRef.of (T := ⟨S_, .i32⟩) main_call0_call0_call0_c_31) (constantI S_ 32 16#32),
    TRef.unary (TRef.of (T := ⟨S_, .i32⟩) main_call0_call0_call0_c_31) (TRef.of (T := ⟨S8192x2048, .i32⟩) main_call0_call0_call0_v123) (broadcastInDim S8192x2048 ![] bcast_S_S8192x2048),
    TRef.binary (TRef.of (T := ⟨S8192x2048, .i32⟩) main_call0_call0_call0_v121) (TRef.of (T := ⟨S8192x2048, .i32⟩) main_call0_call0_call0_v123) (TRef.of (T := ⟨S8192x2048, .i32⟩) main_call0_call0_call0_v124) Host.shli,
    TRef.nullary (TRef.of (T := ⟨S_, .i32⟩) main_call0_call0_call0_c_32) (constantI S_ 32 16#32),
    TRef.unary (TRef.of (T := ⟨S_, .i32⟩) main_call0_call0_call0_c_32) (TRef.of (T := ⟨S8192x2048, .i32⟩) main_call0_call0_call0_v125) (broadcastInDim S8192x2048 ![] bcast_S_S8192x2048) ]

/-- @main's operations 211 … 240 of 315 (@main, which the printer did not cut). -/
abbrev ops_7 : List (HloOp τ sig (Elt F)) :=
  [ TRef.binary (TRef.of (T := ⟨S8192x2048, .i32⟩) main_call0_call0_call0_v121) (TRef.of (T := ⟨S8192x2048, .i32⟩) main_call0_call0_call0_v125) (TRef.of (T := ⟨S8192x2048, .i32⟩) main_call0_call0_call0_v126) Host.shrui,
    TRef.binary (TRef.of (T := ⟨S8192x2048, .i32⟩) main_call0_call0_call0_v124) (TRef.of (T := ⟨S8192x2048, .i32⟩) main_call0_call0_call0_v126) (TRef.of (T := ⟨S8192x2048, .i32⟩) main_call0_call0_call0_v127) ori,
    TRef.binary (TRef.of (T := ⟨S8192x2048, .i32⟩) main_call0_call0_call0_v122) (TRef.of (T := ⟨S8192x2048, .i32⟩) main_call0_call0_call0_v127) (TRef.of (T := ⟨S8192x2048, .i32⟩) main_call0_call0_call0_v128) xori,
    TRef.binary (TRef.of (T := ⟨S8192x2048, .i32⟩) main_call0_call0_call0_v122) (TRef.of (T := ⟨S8192x2048, .i32⟩) main_call0_call0_call0_v128) (TRef.of (T := ⟨S8192x2048, .i32⟩) main_call0_call0_call0_v129) addi,
    TRef.nullary (TRef.of (T := ⟨S_, .i32⟩) main_call0_call0_call0_c_33) (constantI S_ 32 24#32),
    TRef.unary (TRef.of (T := ⟨S_, .i32⟩) main_call0_call0_call0_c_33) (TRef.of (T := ⟨S8192x2048, .i32⟩) main_call0_call0_call0_v130) (broadcastInDim S8192x2048 ![] bcast_S_S8192x2048),
    TRef.binary (TRef.of (T := ⟨S8192x2048, .i32⟩) main_call0_call0_call0_v128) (TRef.of (T := ⟨S8192x2048, .i32⟩) main_call0_call0_call0_v130) (TRef.of (T := ⟨S8192x2048, .i32⟩) main_call0_call0_call0_v131) Host.shli,
    TRef.nullary (TRef.of (T := ⟨S_, .i32⟩) main_call0_call0_call0_c_34) (constantI S_ 32 8#32),
    TRef.unary (TRef.of (T := ⟨S_, .i32⟩) main_call0_call0_call0_c_34) (TRef.of (T := ⟨S8192x2048, .i32⟩) main_call0_call0_call0_v132) (broadcastInDim S8192x2048 ![] bcast_S_S8192x2048),
    TRef.binary (TRef.of (T := ⟨S8192x2048, .i32⟩) main_call0_call0_call0_v128) (TRef.of (T := ⟨S8192x2048, .i32⟩) main_call0_call0_call0_v132) (TRef.of (T := ⟨S8192x2048, .i32⟩) main_call0_call0_call0_v133) Host.shrui,
    TRef.binary (TRef.of (T := ⟨S8192x2048, .i32⟩) main_call0_call0_call0_v131) (TRef.of (T := ⟨S8192x2048, .i32⟩) main_call0_call0_call0_v133) (TRef.of (T := ⟨S8192x2048, .i32⟩) main_call0_call0_call0_v134) ori,
    TRef.binary (TRef.of (T := ⟨S8192x2048, .i32⟩) main_call0_call0_call0_v129) (TRef.of (T := ⟨S8192x2048, .i32⟩) main_call0_call0_call0_v134) (TRef.of (T := ⟨S8192x2048, .i32⟩) main_call0_call0_call0_v135) xori,
    TRef.unary (TRef.of (T := ⟨S_, .i32⟩) main_call0_call0_v7) (TRef.of (T := ⟨S8192x2048, .i32⟩) main_call0_call0_call0_v136) (broadcastInDim S8192x2048 ![] bcast_S_S8192x2048),
    TRef.binary (TRef.of (T := ⟨S8192x2048, .i32⟩) main_call0_call0_call0_v129) (TRef.of (T := ⟨S8192x2048, .i32⟩) main_call0_call0_call0_v136) (TRef.of (T := ⟨S8192x2048, .i32⟩) main_call0_call0_call0_v137) addi,
    TRef.unary (TRef.of (T := ⟨S_, .i32⟩) main_call0_call0_call0_v1) (TRef.of (T := ⟨S8192x2048, .i32⟩) main_call0_call0_call0_v138) (broadcastInDim S8192x2048 ![] bcast_S_S8192x2048),
    TRef.binary (TRef.of (T := ⟨S8192x2048, .i32⟩) main_call0_call0_call0_v135) (TRef.of (T := ⟨S8192x2048, .i32⟩) main_call0_call0_call0_v138) (TRef.of (T := ⟨S8192x2048, .i32⟩) main_call0_call0_call0_v139) addi,
    TRef.nullary (TRef.of (T := ⟨S_, .i32⟩) main_call0_call0_call0_c_35) (constantI S_ 32 4#32),
    TRef.unary (TRef.of (T := ⟨S_, .i32⟩) main_call0_call0_call0_c_35) (TRef.of (T := ⟨S8192x2048, .i32⟩) main_call0_call0_call0_v140) (broadcastInDim S8192x2048 ![] bcast_S_S8192x2048),
    TRef.binary (TRef.of (T := ⟨S8192x2048, .i32⟩) main_call0_call0_call0_v139) (TRef.of (T := ⟨S8192x2048, .i32⟩) main_call0_call0_call0_v140) (TRef.of (T := ⟨S8192x2048, .i32⟩) main_call0_call0_call0_v141) addi,
    TRef.binary (TRef.of (T := ⟨S8192x2048, .i32⟩) main_call0_call0_call0_v137) (TRef.of (T := ⟨S8192x2048, .i32⟩) main_call0_call0_call0_v141) (TRef.of (T := ⟨S8192x2048, .i32⟩) main_call0_call0_call0_v142) addi,
    TRef.nullary (TRef.of (T := ⟨S_, .i32⟩) main_call0_call0_call0_c_36) (constantI S_ 32 13#32),
    TRef.unary (TRef.of (T := ⟨S_, .i32⟩) main_call0_call0_call0_c_36) (TRef.of (T := ⟨S8192x2048, .i32⟩) main_call0_call0_call0_v143) (broadcastInDim S8192x2048 ![] bcast_S_S8192x2048),
    TRef.binary (TRef.of (T := ⟨S8192x2048, .i32⟩) main_call0_call0_call0_v141) (TRef.of (T := ⟨S8192x2048, .i32⟩) main_call0_call0_call0_v143) (TRef.of (T := ⟨S8192x2048, .i32⟩) main_call0_call0_call0_v144) Host.shli,
    TRef.nullary (TRef.of (T := ⟨S_, .i32⟩) main_call0_call0_call0_c_37) (constantI S_ 32 19#32),
    TRef.unary (TRef.of (T := ⟨S_, .i32⟩) main_call0_call0_call0_c_37) (TRef.of (T := ⟨S8192x2048, .i32⟩) main_call0_call0_call0_v145) (broadcastInDim S8192x2048 ![] bcast_S_S8192x2048),
    TRef.binary (TRef.of (T := ⟨S8192x2048, .i32⟩) main_call0_call0_call0_v141) (TRef.of (T := ⟨S8192x2048, .i32⟩) main_call0_call0_call0_v145) (TRef.of (T := ⟨S8192x2048, .i32⟩) main_call0_call0_call0_v146) Host.shrui,
    TRef.binary (TRef.of (T := ⟨S8192x2048, .i32⟩) main_call0_call0_call0_v144) (TRef.of (T := ⟨S8192x2048, .i32⟩) main_call0_call0_call0_v146) (TRef.of (T := ⟨S8192x2048, .i32⟩) main_call0_call0_call0_v147) ori,
    TRef.binary (TRef.of (T := ⟨S8192x2048, .i32⟩) main_call0_call0_call0_v142) (TRef.of (T := ⟨S8192x2048, .i32⟩) main_call0_call0_call0_v147) (TRef.of (T := ⟨S8192x2048, .i32⟩) main_call0_call0_call0_v148) xori,
    TRef.binary (TRef.of (T := ⟨S8192x2048, .i32⟩) main_call0_call0_call0_v142) (TRef.of (T := ⟨S8192x2048, .i32⟩) main_call0_call0_call0_v148) (TRef.of (T := ⟨S8192x2048, .i32⟩) main_call0_call0_call0_v149) addi,
    TRef.nullary (TRef.of (T := ⟨S_, .i32⟩) main_call0_call0_call0_c_38) (constantI S_ 32 15#32) ]

/-- @main's operations 241 … 270 of 315 (@main, which the printer did not cut). -/
abbrev ops_8 : List (HloOp τ sig (Elt F)) :=
  [ TRef.unary (TRef.of (T := ⟨S_, .i32⟩) main_call0_call0_call0_c_38) (TRef.of (T := ⟨S8192x2048, .i32⟩) main_call0_call0_call0_v150) (broadcastInDim S8192x2048 ![] bcast_S_S8192x2048),
    TRef.binary (TRef.of (T := ⟨S8192x2048, .i32⟩) main_call0_call0_call0_v148) (TRef.of (T := ⟨S8192x2048, .i32⟩) main_call0_call0_call0_v150) (TRef.of (T := ⟨S8192x2048, .i32⟩) main_call0_call0_call0_v151) Host.shli,
    TRef.nullary (TRef.of (T := ⟨S_, .i32⟩) main_call0_call0_call0_c_39) (constantI S_ 32 17#32),
    TRef.unary (TRef.of (T := ⟨S_, .i32⟩) main_call0_call0_call0_c_39) (TRef.of (T := ⟨S8192x2048, .i32⟩) main_call0_call0_call0_v152) (broadcastInDim S8192x2048 ![] bcast_S_S8192x2048),
    TRef.binary (TRef.of (T := ⟨S8192x2048, .i32⟩) main_call0_call0_call0_v148) (TRef.of (T := ⟨S8192x2048, .i32⟩) main_call0_call0_call0_v152) (TRef.of (T := ⟨S8192x2048, .i32⟩) main_call0_call0_call0_v153) Host.shrui,
    TRef.binary (TRef.of (T := ⟨S8192x2048, .i32⟩) main_call0_call0_call0_v151) (TRef.of (T := ⟨S8192x2048, .i32⟩) main_call0_call0_call0_v153) (TRef.of (T := ⟨S8192x2048, .i32⟩) main_call0_call0_call0_v154) ori,
    TRef.binary (TRef.of (T := ⟨S8192x2048, .i32⟩) main_call0_call0_call0_v149) (TRef.of (T := ⟨S8192x2048, .i32⟩) main_call0_call0_call0_v154) (TRef.of (T := ⟨S8192x2048, .i32⟩) main_call0_call0_call0_v155) xori,
    TRef.binary (TRef.of (T := ⟨S8192x2048, .i32⟩) main_call0_call0_call0_v149) (TRef.of (T := ⟨S8192x2048, .i32⟩) main_call0_call0_call0_v155) (TRef.of (T := ⟨S8192x2048, .i32⟩) main_call0_call0_call0_v156) addi,
    TRef.nullary (TRef.of (T := ⟨S_, .i32⟩) main_call0_call0_call0_c_40) (constantI S_ 32 26#32),
    TRef.unary (TRef.of (T := ⟨S_, .i32⟩) main_call0_call0_call0_c_40) (TRef.of (T := ⟨S8192x2048, .i32⟩) main_call0_call0_call0_v157) (broadcastInDim S8192x2048 ![] bcast_S_S8192x2048),
    TRef.binary (TRef.of (T := ⟨S8192x2048, .i32⟩) main_call0_call0_call0_v155) (TRef.of (T := ⟨S8192x2048, .i32⟩) main_call0_call0_call0_v157) (TRef.of (T := ⟨S8192x2048, .i32⟩) main_call0_call0_call0_v158) Host.shli,
    TRef.nullary (TRef.of (T := ⟨S_, .i32⟩) main_call0_call0_call0_c_41) (constantI S_ 32 6#32),
    TRef.unary (TRef.of (T := ⟨S_, .i32⟩) main_call0_call0_call0_c_41) (TRef.of (T := ⟨S8192x2048, .i32⟩) main_call0_call0_call0_v159) (broadcastInDim S8192x2048 ![] bcast_S_S8192x2048),
    TRef.binary (TRef.of (T := ⟨S8192x2048, .i32⟩) main_call0_call0_call0_v155) (TRef.of (T := ⟨S8192x2048, .i32⟩) main_call0_call0_call0_v159) (TRef.of (T := ⟨S8192x2048, .i32⟩) main_call0_call0_call0_v160) Host.shrui,
    TRef.binary (TRef.of (T := ⟨S8192x2048, .i32⟩) main_call0_call0_call0_v158) (TRef.of (T := ⟨S8192x2048, .i32⟩) main_call0_call0_call0_v160) (TRef.of (T := ⟨S8192x2048, .i32⟩) main_call0_call0_call0_v161) ori,
    TRef.binary (TRef.of (T := ⟨S8192x2048, .i32⟩) main_call0_call0_call0_v156) (TRef.of (T := ⟨S8192x2048, .i32⟩) main_call0_call0_call0_v161) (TRef.of (T := ⟨S8192x2048, .i32⟩) main_call0_call0_call0_v162) xori,
    TRef.binary (TRef.of (T := ⟨S8192x2048, .i32⟩) main_call0_call0_call0_v156) (TRef.of (T := ⟨S8192x2048, .i32⟩) main_call0_call0_call0_v162) (TRef.of (T := ⟨S8192x2048, .i32⟩) main_call0_call0_call0_v163) addi,
    TRef.nullary (TRef.of (T := ⟨S_, .i32⟩) main_call0_call0_call0_c_42) (constantI S_ 32 6#32),
    TRef.unary (TRef.of (T := ⟨S_, .i32⟩) main_call0_call0_call0_c_42) (TRef.of (T := ⟨S8192x2048, .i32⟩) main_call0_call0_call0_v164) (broadcastInDim S8192x2048 ![] bcast_S_S8192x2048),
    TRef.binary (TRef.of (T := ⟨S8192x2048, .i32⟩) main_call0_call0_call0_v162) (TRef.of (T := ⟨S8192x2048, .i32⟩) main_call0_call0_call0_v164) (TRef.of (T := ⟨S8192x2048, .i32⟩) main_call0_call0_call0_v165) Host.shli,
    TRef.nullary (TRef.of (T := ⟨S_, .i32⟩) main_call0_call0_call0_c_43) (constantI S_ 32 26#32),
    TRef.unary (TRef.of (T := ⟨S_, .i32⟩) main_call0_call0_call0_c_43) (TRef.of (T := ⟨S8192x2048, .i32⟩) main_call0_call0_call0_v166) (broadcastInDim S8192x2048 ![] bcast_S_S8192x2048),
    TRef.binary (TRef.of (T := ⟨S8192x2048, .i32⟩) main_call0_call0_call0_v162) (TRef.of (T := ⟨S8192x2048, .i32⟩) main_call0_call0_call0_v166) (TRef.of (T := ⟨S8192x2048, .i32⟩) main_call0_call0_call0_v167) Host.shrui,
    TRef.binary (TRef.of (T := ⟨S8192x2048, .i32⟩) main_call0_call0_call0_v165) (TRef.of (T := ⟨S8192x2048, .i32⟩) main_call0_call0_call0_v167) (TRef.of (T := ⟨S8192x2048, .i32⟩) main_call0_call0_call0_v168) ori,
    TRef.binary (TRef.of (T := ⟨S8192x2048, .i32⟩) main_call0_call0_call0_v163) (TRef.of (T := ⟨S8192x2048, .i32⟩) main_call0_call0_call0_v168) (TRef.of (T := ⟨S8192x2048, .i32⟩) main_call0_call0_call0_v169) xori,
    TRef.unary (TRef.of (T := ⟨S_, .i32⟩) main_call0_call0_call0_v1) (TRef.of (T := ⟨S8192x2048, .i32⟩) main_call0_call0_call0_v170) (broadcastInDim S8192x2048 ![] bcast_S_S8192x2048),
    TRef.binary (TRef.of (T := ⟨S8192x2048, .i32⟩) main_call0_call0_call0_v163) (TRef.of (T := ⟨S8192x2048, .i32⟩) main_call0_call0_call0_v170) (TRef.of (T := ⟨S8192x2048, .i32⟩) main_call0_call0_v19_0) addi,
    TRef.unary (TRef.of (T := ⟨S_, .i32⟩) main_call0_call0_v5) (TRef.of (T := ⟨S8192x2048, .i32⟩) main_call0_call0_call0_v172) (broadcastInDim S8192x2048 ![] bcast_S_S8192x2048),
    TRef.binary (TRef.of (T := ⟨S8192x2048, .i32⟩) main_call0_call0_call0_v169) (TRef.of (T := ⟨S8192x2048, .i32⟩) main_call0_call0_call0_v172) (TRef.of (T := ⟨S8192x2048, .i32⟩) main_call0_call0_call0_v173) addi,
    TRef.nullary (TRef.of (T := ⟨S_, .i32⟩) main_call0_call0_call0_c_44) (constantI S_ 32 5#32) ]

/-- @main's operations 271 … 300 of 315 (@main, which the printer did not cut). -/
abbrev ops_9 : List (HloOp τ sig (Elt F)) :=
  [ TRef.unary (TRef.of (T := ⟨S_, .i32⟩) main_call0_call0_call0_c_44) (TRef.of (T := ⟨S8192x2048, .i32⟩) main_call0_call0_call0_v174) (broadcastInDim S8192x2048 ![] bcast_S_S8192x2048),
    TRef.binary (TRef.of (T := ⟨S8192x2048, .i32⟩) main_call0_call0_call0_v173) (TRef.of (T := ⟨S8192x2048, .i32⟩) main_call0_call0_call0_v174) (TRef.of (T := ⟨S8192x2048, .i32⟩) main_call0_call0_v19_1) addi,
    TRef.binary (TRef.of (T := ⟨S8192x2048, .i32⟩) main_call0_call0_v19_0) (TRef.of (T := ⟨S8192x2048, .i32⟩) main_call0_call0_v19_1) (TRef.of (T := ⟨S8192x2048, .i32⟩) main_call0_call0_v20) xori,
    TRef.nullary (TRef.of (T := ⟨S_, .i32⟩) main_call0_call0_c_2) (constantI S_ 32 9#32),
    TRef.unary (TRef.of (T := ⟨S_, .i32⟩) main_call0_call0_c_2) (TRef.of (T := ⟨S8192x2048, .i32⟩) main_call0_call0_v21) (broadcastInDim S8192x2048 ![] bcast_S_S8192x2048),
    TRef.binary (TRef.of (T := ⟨S8192x2048, .i32⟩) main_call0_call0_v20) (TRef.of (T := ⟨S8192x2048, .i32⟩) main_call0_call0_v21) (TRef.of (T := ⟨S8192x2048, .i32⟩) main_call0_call0_v22) Host.shrui,
    TRef.nullary (TRef.of (T := ⟨S_, .i32⟩) main_call0_call0_c_3) (constantI S_ 32 1065353216#32),
    TRef.unary (TRef.of (T := ⟨S_, .i32⟩) main_call0_call0_c_3) (TRef.of (T := ⟨S8192x2048, .i32⟩) main_call0_call0_v23) (broadcastInDim S8192x2048 ![] bcast_S_S8192x2048),
    TRef.binary (TRef.of (T := ⟨S8192x2048, .i32⟩) main_call0_call0_v22) (TRef.of (T := ⟨S8192x2048, .i32⟩) main_call0_call0_v23) (TRef.of (T := ⟨S8192x2048, .i32⟩) main_call0_call0_v24) ori,
    TRef.unary (TRef.of (T := ⟨S8192x2048, .i32⟩) main_call0_call0_v24) (TRef.of (T := ⟨S8192x2048, .f32⟩) main_call0_call0_v25) (bitcastToFloat (F := F) .f32),
    TRef.nullary (TRef.of (T := ⟨S_, .f32⟩) main_call0_call0_cst) (constant S_ .f32 0x3F800000#32),
    TRef.unary (TRef.of (T := ⟨S_, .f32⟩) main_call0_call0_cst) (TRef.of (T := ⟨S8192x2048, .f32⟩) main_call0_call0_v26) (broadcastInDim S8192x2048 ![] bcast_S_S8192x2048),
    TRef.binary (TRef.of (T := ⟨S8192x2048, .f32⟩) main_call0_call0_v25) (TRef.of (T := ⟨S8192x2048, .f32⟩) main_call0_call0_v26) (TRef.of (T := ⟨S8192x2048, .f32⟩) main_call0_call0_v27) subf,
    TRef.binary (TRef.of (T := ⟨S1x1, .f32⟩) main_call0_call0_v3) (TRef.of (T := ⟨S1x1, .f32⟩) main_call0_call0_v2) (TRef.of (T := ⟨S1x1, .f32⟩) main_call0_call0_v28) subf,
    TRef.unary (TRef.of (T := ⟨S1x1, .f32⟩) main_call0_call0_v28) (TRef.of (T := ⟨S8192x2048, .f32⟩) main_call0_call0_v29) (broadcastInDim S8192x2048 ![0, 1] bcast_S1x1_S8192x2048_0_1),
    TRef.binary (TRef.of (T := ⟨S8192x2048, .f32⟩) main_call0_call0_v27) (TRef.of (T := ⟨S8192x2048, .f32⟩) main_call0_call0_v29) (TRef.of (T := ⟨S8192x2048, .f32⟩) main_call0_call0_v30) mulf,
    TRef.unary (TRef.of (T := ⟨S1x1, .f32⟩) main_call0_call0_v2) (TRef.of (T := ⟨S8192x2048, .f32⟩) main_call0_call0_v31) (broadcastInDim S8192x2048 ![0, 1] bcast_S1x1_S8192x2048_0_1),
    TRef.binary (TRef.of (T := ⟨S8192x2048, .f32⟩) main_call0_call0_v30) (TRef.of (T := ⟨S8192x2048, .f32⟩) main_call0_call0_v31) (TRef.of (T := ⟨S8192x2048, .f32⟩) main_call0_call0_v32) addf,
    TRef.unary (TRef.of (T := ⟨S1x1, .f32⟩) main_call0_call0_v2) (TRef.of (T := ⟨S8192x2048, .f32⟩) main_call0_call0_v33) (broadcastInDim S8192x2048 ![0, 1] bcast_S1x1_S8192x2048_0_1),
    TRef.binary (TRef.of (T := ⟨S8192x2048, .f32⟩) main_call0_call0_v33) (TRef.of (T := ⟨S8192x2048, .f32⟩) main_call0_call0_v32) (TRef.of (T := ⟨S8192x2048, .f32⟩) main_call0_v0) maximumf,
    TRef.unary (TRef.of (T := ⟨S1x2048, .f32⟩) main_v20) (TRef.of (T := ⟨S8192x2048, .f32⟩) main_call0_v1) (broadcastInDim S8192x2048 ![0, 1] bcast_S1x2048_S8192x2048_0_1),
    TRef.binary (TRef.of (T := ⟨S8192x2048, .f32⟩) main_call0_v0) (TRef.of (T := ⟨S8192x2048, .f32⟩) main_call0_v1) (TRef.of (T := ⟨S8192x2048, .i1⟩) main_v21) (cmpf .olt),
    unary main_v21 main_v22 (uitofp .f32 : (⟨S8192x2048, .i1⟩ : BufTy).Contents (Elt F) → (⟨S8192x2048, .f32⟩ : BufTy).Contents (Elt F)),
    binary main_v5 main_v22 main_v23 (mulf : (⟨S8192x2048, .f32⟩ : BufTy).Contents (Elt F) → (⟨S8192x2048, .f32⟩ : BufTy).Contents (Elt F) → (⟨S8192x2048, .f32⟩ : BufTy).Contents (Elt F)),
    binary main_v23 main_arg4 main_v24 ((fun l r => Host.dotGeneral dot_S8192x2048_S2048x768_S8192x768_1_0_0_1_n_n none l r) : (⟨S8192x2048, .f32⟩ : BufTy).Contents (Elt F) → (⟨S2048x768, .f32⟩ : BufTy).Contents (Elt F) → (⟨S8192x768, .f32⟩ : BufTy).Contents (Elt F)),
    unary main_arg5 main_v25 (broadcastInDim S1x768 ![1] bcast_S768_S1x768_1 : (⟨S768, .f32⟩ : BufTy).Contents (Elt F) → (⟨S1x768, .f32⟩ : BufTy).Contents (Elt F)),
    unary main_v25 main_v26 (broadcastInDim S8192x768 ![0, 1] bcast_S1x768_S8192x768_0_1 : (⟨S1x768, .f32⟩ : BufTy).Contents (Elt F) → (⟨S8192x768, .f32⟩ : BufTy).Contents (Elt F)),
    binary main_v24 main_v26 main_v27 (addf : (⟨S8192x768, .f32⟩ : BufTy).Contents (Elt F) → (⟨S8192x768, .f32⟩ : BufTy).Contents (Elt F) → (⟨S8192x768, .f32⟩ : BufTy).Contents (Elt F)),
    binary main_v27 main_v0 main_v28 (addf : (⟨S8192x768, .f32⟩ : BufTy).Contents (Elt F) → (⟨S8192x768, .f32⟩ : BufTy).Contents (Elt F) → (⟨S8192x768, .f32⟩ : BufTy).Contents (Elt F)),
    nullary main_cst_3 (constant S_ .f32 0x00000000#32) ]

/-- @main's operations 301 … 315 of 315 (@main, which the printer did not cut). -/
abbrev ops_10 : List (HloOp τ sig (Elt F)) :=
  [ unary main_cst_3 main_v29 (broadcastInDim S8192x768 ![] bcast_S_S8192x768 : (⟨S_, .f32⟩ : BufTy).Contents (Elt F) → (⟨S8192x768, .f32⟩ : BufTy).Contents (Elt F)),
    binary main_v1 main_v29 main_v30 (cmpf .oeq : (⟨S8192x768, .f32⟩ : BufTy).Contents (Elt F) → (⟨S8192x768, .f32⟩ : BufTy).Contents (Elt F) → (⟨S8192x768, .i1⟩ : BufTy).Contents (Elt F)),
    unary main_v30 main_v31 (noti : (⟨S8192x768, .i1⟩ : BufTy).Contents (Elt F) → (⟨S8192x768, .i1⟩ : BufTy).Contents (Elt F)),
    unary main_v31 main_v32 (uitofp .f32 : (⟨S8192x768, .i1⟩ : BufTy).Contents (Elt F) → (⟨S8192x768, .f32⟩ : BufTy).Contents (Elt F)),
    nullary main_cst_4 (constant S_ .f32 0x00000000#32),
    binary main_v32 main_cst_4 main_v33 ((fun x v => Host.reduceAdd x v reducesTo_S8192x768_S_d0_1 h_S_) : (⟨S8192x768, .f32⟩ : BufTy).Contents (Elt F) → (⟨S_, .f32⟩ : BufTy).Contents (Elt F) → (⟨S_, .f32⟩ : BufTy).Contents (Elt F)),
    binary main_v28 main_v1 main_v34 (subf : (⟨S8192x768, .f32⟩ : BufTy).Contents (Elt F) → (⟨S8192x768, .f32⟩ : BufTy).Contents (Elt F) → (⟨S8192x768, .f32⟩ : BufTy).Contents (Elt F)),
    binary main_v34 main_v34 main_v35 (mulf : (⟨S8192x768, .f32⟩ : BufTy).Contents (Elt F) → (⟨S8192x768, .f32⟩ : BufTy).Contents (Elt F) → (⟨S8192x768, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S8192x768, .f32⟩) main_call1_v1) (broadcastInDim S8192x768 ![] bcast_S_S8192x768),
    TRef.ternary (TRef.of (T := ⟨S8192x768, .i1⟩) main_v30) (TRef.of (T := ⟨S8192x768, .f32⟩) main_call1_v1) (TRef.of (T := ⟨S8192x768, .f32⟩) main_v35) (TRef.of (T := ⟨S8192x768, .f32⟩) main_v36) select,
    nullary main_cst_6 (constant S_ .f32 0x00000000#32),
    binary main_v36 main_cst_6 main_v37 ((fun x v => Host.reduceAdd x v reducesTo_S8192x768_S_d0_1 h_S_) : (⟨S8192x768, .f32⟩ : BufTy).Contents (Elt F) → (⟨S_, .f32⟩ : BufTy).Contents (Elt F) → (⟨S_, .f32⟩ : BufTy).Contents (Elt F)),
    binary main_v37 main_v33 main_v38 (Host.divf : (⟨S_, .f32⟩ : BufTy).Contents (Elt F) → (⟨S_, .f32⟩ : BufTy).Contents (Elt F) → (⟨S_, .f32⟩ : BufTy).Contents (Elt F)) ]

/-- @main's 315 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10))))))))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_0_sub : (ops_0 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_0_fresh : (ops_0 : List (HloOp τ sig (Elt F))).Forall fun op => op.fresh = ∅ :=
  by and_intros <;> rfl
theorem ops_1_sub : (ops_1 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_1_fresh : (ops_1 : List (HloOp τ sig (Elt F))).Forall fun op => op.fresh = ∅ :=
  by and_intros <;> rfl
theorem ops_2_sub : (ops_2 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_2_fresh : (ops_2 : List (HloOp τ sig (Elt F))).Forall fun op => op.fresh = ∅ :=
  by and_intros <;> rfl
theorem ops_3_sub : (ops_3 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_3_fresh : (ops_3 : List (HloOp τ sig (Elt F))).Forall fun op => op.fresh = ∅ :=
  by and_intros <;> rfl
theorem ops_4_sub : (ops_4 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_4_fresh : (ops_4 : List (HloOp τ sig (Elt F))).Forall fun op => op.fresh = ∅ :=
  by and_intros <;> rfl
theorem ops_5_sub : (ops_5 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_5_fresh : (ops_5 : List (HloOp τ sig (Elt F))).Forall fun op => op.fresh = ∅ :=
  by and_intros <;> rfl
theorem ops_6_sub : (ops_6 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_6_fresh : (ops_6 : List (HloOp τ sig (Elt F))).Forall fun op => op.fresh = ∅ :=
  by and_intros <;> rfl
theorem ops_7_sub : (ops_7 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_7_fresh : (ops_7 : List (HloOp τ sig (Elt F))).Forall fun op => op.fresh = ∅ :=
  by and_intros <;> rfl
theorem ops_8_sub : (ops_8 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_8_fresh : (ops_8 : List (HloOp τ sig (Elt F))).Forall fun op => op.fresh = ∅ :=
  by and_intros <;> rfl
theorem ops_9_sub : (ops_9 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_9_fresh : (ops_9 : List (HloOp τ sig (Elt F))).Forall fun op => op.fresh = ∅ :=
  by and_intros <;> rfl
theorem ops_10_sub : (ops_10 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_10_fresh : (ops_10 : List (HloOp τ sig (Elt F))).Forall fun op => op.fresh = ∅ :=
  by and_intros <;> rfl
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h]
theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h]

end Cert.ReferenceIdeal.Value

end
-- ==== Proof.RefRun.lean ====
/- The reference's run: every weakly fair execution ends with each result buffer at the operations' composed term of the arguments, the arguments unchanged. The list is read window by window; a term used more than once is named (`res_…`), and `val…_b` says what buffer `b` holds after a window. -/
module

public import proofs.«01_k».proof.Proof.RefOps

@[expose] public section

set_option Elab.async false
set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- What a buffer of the TensorCore holds. -/
abbrev Held (F : FTy → Type) (b : Ref sig .tc) : Type := (Proc.devRef .tc b : DevRef τ sig).ty.Contents (Elt F)

/-- A listed buffer is among the buffers of the list. -/
theorem writes_mem {W : List (Ref sig .tc)} {r : Ref sig .tc} (h : r ∈ W) :
    ({Proc.devRef .tc r} : Finset (DevRef τ sig)) ⊆ (W.map (Proc.devRef (τ := τ) .tc)).toFinset := by
  rw [Finset.singleton_subset_iff, List.mem_toFinset]
  exact List.mem_map_of_mem h

/-- `main_v0`'s composed term of the arguments (used 2 times). -/
def res_main_v0 : Held F main_v0 :=
  shapeCast _ (V0 (Proc.devRef .tc main_arg0)) shapeCasts_S4x2048x768_S8192x768

/-- `main_v1`'s composed term of the arguments (used 2 times). -/
def res_main_v1 : Held F main_v1 :=
  shapeCast _ (V0 (Proc.devRef .tc main_arg1)) shapeCasts_S4x2048x768_S8192x768

/-- `main_v8`'s composed term of the arguments (used 2 times). -/
def res_main_v8 (V0 : Valuation τ sig (Elt F)) : Held F main_v8 :=
  Host.divf (sitofp .f32 (iotaInDim S2048 32 0)) (broadcastInDim S2048 ![] bcast_S_S2048 (constant S_ .f32 0x43D70000#32))

/-- `main_c`'s composed term of the arguments (used 2 times). -/
def res_main_c (V0 : Valuation τ sig (Elt F)) : Held F main_c :=
  constantI S_ 32 12345#32

/-- `main_v19`'s composed term of the arguments (used 2 times). -/
def res_main_v19 : Held F main_v19 :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

/-- `main_call0_call0_v2`'s composed term of the arguments (used 3 times). -/
def res_main_call0_call0_v2 (V0 : Valuation τ sig (Elt F)) : Held F main_call0_call0_v2 :=
  broadcastInDim S1x1 ![] bcast_S_S1x1 (id (constant S_ .f32 0x00000000#32))

/-- `main_call0_call0_v5`'s composed term of the arguments (used 5 times). -/
def res_main_call0_call0_v5 : Held F main_call0_call0_v5 :=
  shapeCast _ (extractStridedSlice S1 ![0] (res_main_v19 V0) slices_S2_S1_0) shapeCasts_S1_S_

/-- `main_call0_call0_v7`'s composed term of the arguments (used 5 times). -/
def res_main_call0_call0_v7 : Held F main_call0_call0_v7 :=
  shapeCast _ (extractStridedSlice S1 ![1] (res_main_v19 V0) slices_S2_S1_1) shapeCasts_S1_S_

/-- `main_call0_call0_v14`'s composed term of the arguments (used 2 times). -/
def res_main_call0_call0_v14 (V0 : Valuation τ sig (Elt F)) : Held F main_call0_call0_v14 :=
  addi (muli (broadcastInDim S8192x2048 ![] bcast_S_S8192x2048 (constantI S_ 64 2048#64)) (iotaInDim S8192x2048 64 0)) (muli (broadcastInDim S8192x2048 ![] bcast_S_S8192x2048 (constantI S_ 64 1#64)) (iotaInDim S8192x2048 64 1))

/-- `main_call0_call0_call0_v1`'s composed term of the arguments (used 4 times). -/
def res_main_call0_call0_call0_v1 : Held F main_call0_call0_call0_v1 :=
  xori (xori (res_main_call0_call0_v5 V0) (res_main_call0_call0_v7 V0)) (constantI S_ 32 466688986#32)

/-- `main_call0_call0_call0_v5`'s composed term of the arguments (used 3 times). -/
def res_main_call0_call0_call0_v5 : Held F main_call0_call0_call0_v5 :=
  addi (trunci 32 (res_main_call0_call0_v14 V0) natLt_32_64) (broadcastInDim S8192x2048 ![] bcast_S_S8192x2048 (res_main_call0_call0_v7 V0))

/-- `main_call0_call0_call0_v6`'s composed term of the arguments (used 2 times). -/
def res_main_call0_call0_call0_v6 : Held F main_call0_call0_call0_v6 :=
  addi (addi (trunci 32 (Host.shrui (res_main_call0_call0_v14 V0) (broadcastInDim S8192x2048 ![] bcast_S_S8192x2048 (constantI S_ 64 32#64))) natLt_32_64) (broadcastInDim S8192x2048 ![] bcast_S_S8192x2048 (res_main_call0_call0_v5 V0))) (res_main_call0_call0_call0_v5 V0)

/-- `main_call0_call0_call0_v12`'s composed term of the arguments (used 3 times). -/
def res_main_call0_call0_call0_v12 : Held F main_call0_call0_call0_v12 :=
  xori (res_main_call0_call0_call0_v6 V0) (ori (Host.shli (res_main_call0_call0_call0_v5 V0) (broadcastInDim S8192x2048 ![] bcast_S_S8192x2048 (constantI S_ 32 13#32))) (Host.shrui (res_main_call0_call0_call0_v5 V0) (broadcastInDim S8192x2048 ![] bcast_S_S8192x2048 (constantI S_ 32 19#32))))

/-- `main_call0_call0_call0_v13`'s composed term of the arguments (used 2 times). -/
def res_main_call0_call0_call0_v13 : Held F main_call0_call0_call0_v13 :=
  addi (res_main_call0_call0_call0_v6 V0) (res_main_call0_call0_call0_v12 V0)

/-- `main_call0_call0_call0_v19`'s composed term of the arguments (used 3 times). -/
def res_main_call0_call0_call0_v19 : Held F main_call0_call0_call0_v19 :=
  xori (res_main_call0_call0_call0_v13 V0) (ori (Host.shli (res_main_call0_call0_call0_v12 V0) (broadcastInDim S8192x2048 ![] bcast_S_S8192x2048 (constantI S_ 32 15#32))) (Host.shrui (res_main_call0_call0_call0_v12 V0) (broadcastInDim S8192x2048 ![] bcast_S_S8192x2048 (constantI S_ 32 17#32))))

/-- `main_call0_call0_call0_v20`'s composed term of the arguments (used 2 times). -/
def res_main_call0_call0_call0_v20 : Held F main_call0_call0_call0_v20 :=
  addi (res_main_call0_call0_call0_v13 V0) (res_main_call0_call0_call0_v19 V0)

/-- `main_call0_call0_call0_v26`'s composed term of the arguments (used 3 times). -/
def res_main_call0_call0_call0_v26 : Held F main_call0_call0_call0_v26 :=
  xori (res_main_call0_call0_call0_v20 V0) (ori (Host.shli (res_main_call0_call0_call0_v19 V0) (broadcastInDim S8192x2048 ![] bcast_S_S8192x2048 (constantI S_ 32 26#32))) (Host.shrui (res_main_call0_call0_call0_v19 V0) (broadcastInDim S8192x2048 ![] bcast_S_S8192x2048 (constantI S_ 32 6#32))))

/-- `main_call0_call0_call0_v27`'s composed term of the arguments (used 2 times). -/
def res_main_call0_call0_call0_v27 : Held F main_call0_call0_call0_v27 :=
  addi (res_main_call0_call0_call0_v20 V0) (res_main_call0_call0_call0_v26 V0)

/-- `main_call0_call0_call0_v39`'s composed term of the arguments (used 3 times). -/
def res_main_call0_call0_call0_v39 : Held F main_call0_call0_call0_v39 :=
  addi (addi (xori (res_main_call0_call0_call0_v27 V0) (ori (Host.shli (res_main_call0_call0_call0_v26 V0) (broadcastInDim S8192x2048 ![] bcast_S_S8192x2048 (constantI S_ 32 6#32))) (Host.shrui (res_main_call0_call0_call0_v26 V0) (broadcastInDim S8192x2048 ![] bcast_S_S8192x2048 (constantI S_ 32 26#32))))) (broadcastInDim S8192x2048 ![] bcast_S_S8192x2048 (res_main_call0_call0_call0_v1 V0))) (broadcastInDim S8192x2048 ![] bcast_S_S8192x2048 (constantI S_ 32 1#32))

/-- `main_call0_call0_call0_v40`'s composed term of the arguments (used 2 times). -/
def res_main_call0_call0_call0_v40 : Held F main_call0_call0_call0_v40 :=
  addi (addi (res_main_call0_call0_call0_v27 V0) (broadcastInDim S8192x2048 ![] bcast_S_S8192x2048 (res_main_call0_call0_v7 V0))) (res_main_call0_call0_call0_v39 V0)

/-- `main_call0_call0_call0_v46`'s composed term of the arguments (used 3 times). -/
def res_main_call0_call0_call0_v46 : Held F main_call0_call0_call0_v46 :=
  xori (res_main_call0_call0_call0_v40 V0) (ori (Host.shli (res_main_call0_call0_call0_v39 V0) (broadcastInDim S8192x2048 ![] bcast_S_S8192x2048 (constantI S_ 32 17#32))) (Host.shrui (res_main_call0_call0_call0_v39 V0) (broadcastInDim S8192x2048 ![] bcast_S_S8192x2048 (constantI S_ 32 15#32))))

/-- `main_call0_call0_call0_v47`'s composed term of the arguments (used 2 times). -/
def res_main_call0_call0_call0_v47 : Held F main_call0_call0_call0_v47 :=
  addi (res_main_call0_call0_call0_v40 V0) (res_main_call0_call0_call0_v46 V0)

/-- `main_call0_call0_call0_v53`'s composed term of the arguments (used 3 times). -/
def res_main_call0_call0_call0_v53 : Held F main_call0_call0_call0_v53 :=
  xori (res_main_call0_call0_call0_v47 V0) (ori (Host.shli (res_main_call0_call0_call0_v46 V0) (broadcastInDim S8192x2048 ![] bcast_S_S8192x2048 (constantI S_ 32 29#32))) (Host.shrui (res_main_call0_call0_call0_v46 V0) (broadcastInDim S8192x2048 ![] bcast_S_S8192x2048 (constantI S_ 32 3#32))))

/-- `main_call0_call0_call0_v54`'s composed term of the arguments (used 2 times). -/
def res_main_call0_call0_call0_v54 : Held F main_call0_call0_call0_v54 :=
  addi (res_main_call0_call0_call0_v47 V0) (res_main_call0_call0_call0_v53 V0)

/-- `main_call0_call0_call0_v60`'s composed term of the arguments (used 3 times). -/
def res_main_call0_call0_call0_v60 : Held F main_call0_call0_call0_v60 :=
  xori (res_main_call0_call0_call0_v54 V0) (ori (Host.shli (res_main_call0_call0_call0_v53 V0) (broadcastInDim S8192x2048 ![] bcast_S_S8192x2048 (constantI S_ 32 16#32))) (Host.shrui (res_main_call0_call0_call0_v53 V0) (broadcastInDim S8192x2048 ![] bcast_S_S8192x2048 (constantI S_ 32 16#32))))

/-- `main_call0_call0_call0_v61`'s composed term of the arguments (used 2 times). -/
def res_main_call0_call0_call0_v61 : Held F main_call0_call0_call0_v61 :=
  addi (res_main_call0_call0_call0_v54 V0) (res_main_call0_call0_call0_v60 V0)

/-- `main_call0_call0_call0_v73`'s composed term of the arguments (used 3 times). -/
def res_main_call0_call0_call0_v73 : Held F main_call0_call0_call0_v73 :=
  addi (addi (xori (res_main_call0_call0_call0_v61 V0) (ori (Host.shli (res_main_call0_call0_call0_v60 V0) (broadcastInDim S8192x2048 ![] bcast_S_S8192x2048 (constantI S_ 32 24#32))) (Host.shrui (res_main_call0_call0_call0_v60 V0) (broadcastInDim S8192x2048 ![] bcast_S_S8192x2048 (constantI S_ 32 8#32))))) (broadcastInDim S8192x2048 ![] bcast_S_S8192x2048 (res_main_call0_call0_v5 V0))) (broadcastInDim S8192x2048 ![] bcast_S_S8192x2048 (constantI S_ 32 2#32))

/-- `main_call0_call0_call0_v74`'s composed term of the arguments (used 2 times). -/
def res_main_call0_call0_call0_v74 : Held F main_call0_call0_call0_v74 :=
  addi (addi (res_main_call0_call0_call0_v61 V0) (broadcastInDim S8192x2048 ![] bcast_S_S8192x2048 (res_main_call0_call0_call0_v1 V0))) (res_main_call0_call0_call0_v73 V0)

/-- `main_call0_call0_call0_v80`'s composed term of the arguments (used 3 times). -/
def res_main_call0_call0_call0_v80 : Held F main_call0_call0_call0_v80 :=
  xori (res_main_call0_call0_call0_v74 V0) (ori (Host.shli (res_main_call0_call0_call0_v73 V0) (broadcastInDim S8192x2048 ![] bcast_S_S8192x2048 (constantI S_ 32 13#32))) (Host.shrui (res_main_call0_call0_call0_v73 V0) (broadcastInDim S8192x2048 ![] bcast_S_S8192x2048 (constantI S_ 32 19#32))))

/-- `main_call0_call0_call0_v81`'s composed term of the arguments (used 2 times). -/
def res_main_call0_call0_call0_v81 : Held F main_call0_call0_call0_v81 :=
  addi (res_main_call0_call0_call0_v74 V0) (res_main_call0_call0_call0_v80 V0)

/-- `main_call0_call0_call0_v87`'s composed term of the arguments (used 3 times). -/
def res_main_call0_call0_call0_v87 : Held F main_call0_call0_call0_v87 :=
  xori (res_main_call0_call0_call0_v81 V0) (ori (Host.shli (res_main_call0_call0_call0_v80 V0) (broadcastInDim S8192x2048 ![] bcast_S_S8192x2048 (constantI S_ 32 15#32))) (Host.shrui (res_main_call0_call0_call0_v80 V0) (broadcastInDim S8192x2048 ![] bcast_S_S8192x2048 (constantI S_ 32 17#32))))

/-- `main_call0_call0_call0_v88`'s composed term of the arguments (used 2 times). -/
def res_main_call0_call0_call0_v88 : Held F main_call0_call0_call0_v88 :=
  addi (res_main_call0_call0_call0_v81 V0) (res_main_call0_call0_call0_v87 V0)

/-- `main_call0_call0_call0_v94`'s composed term of the arguments (used 3 times). -/
def res_main_call0_call0_call0_v94 : Held F main_call0_call0_call0_v94 :=
  xori (res_main_call0_call0_call0_v88 V0) (ori (Host.shli (res_main_call0_call0_call0_v87 V0) (broadcastInDim S8192x2048 ![] bcast_S_S8192x2048 (constantI S_ 32 26#32))) (Host.shrui (res_main_call0_call0_call0_v87 V0) (broadcastInDim S8192x2048 ![] bcast_S_S8192x2048 (constantI S_ 32 6#32))))

/-- `main_call0_call0_call0_v95`'s composed term of the arguments (used 2 times). -/
def res_main_call0_call0_call0_v95 : Held F main_call0_call0_call0_v95 :=
  addi (res_main_call0_call0_call0_v88 V0) (res_main_call0_call0_call0_v94 V0)

/-- `main_call0_call0_call0_v107`'s composed term of the arguments (used 3 times). -/
def res_main_call0_call0_call0_v107 : Held F main_call0_call0_call0_v107 :=
  addi (addi (xori (res_main_call0_call0_call0_v95 V0) (ori (Host.shli (res_main_call0_call0_call0_v94 V0) (broadcastInDim S8192x2048 ![] bcast_S_S8192x2048 (constantI S_ 32 6#32))) (Host.shrui (res_main_call0_call0_call0_v94 V0) (broadcastInDim S8192x2048 ![] bcast_S_S8192x2048 (constantI S_ 32 26#32))))) (broadcastInDim S8192x2048 ![] bcast_S_S8192x2048 (res_main_call0_call0_v7 V0))) (broadcastInDim S8192x2048 ![] bcast_S_S8192x2048 (constantI S_ 32 3#32))

/-- `main_call0_call0_call0_v108`'s composed term of the arguments (used 2 times). -/
def res_main_call0_call0_call0_v108 : Held F main_call0_call0_call0_v108 :=
  addi (addi (res_main_call0_call0_call0_v95 V0) (broadcastInDim S8192x2048 ![] bcast_S_S8192x2048 (res_main_call0_call0_v5 V0))) (res_main_call0_call0_call0_v107 V0)

/-- `main_call0_call0_call0_v114`'s composed term of the arguments (used 3 times). -/
def res_main_call0_call0_call0_v114 : Held F main_call0_call0_call0_v114 :=
  xori (res_main_call0_call0_call0_v108 V0) (ori (Host.shli (res_main_call0_call0_call0_v107 V0) (broadcastInDim S8192x2048 ![] bcast_S_S8192x2048 (constantI S_ 32 17#32))) (Host.shrui (res_main_call0_call0_call0_v107 V0) (broadcastInDim S8192x2048 ![] bcast_S_S8192x2048 (constantI S_ 32 15#32))))

/-- `main_call0_call0_call0_v115`'s composed term of the arguments (used 2 times). -/
def res_main_call0_call0_call0_v115 : Held F main_call0_call0_call0_v115 :=
  addi (res_main_call0_call0_call0_v108 V0) (res_main_call0_call0_call0_v114 V0)

/-- `main_call0_call0_call0_v121`'s composed term of the arguments (used 3 times). -/
def res_main_call0_call0_call0_v121 : Held F main_call0_call0_call0_v121 :=
  xori (res_main_call0_call0_call0_v115 V0) (ori (Host.shli (res_main_call0_call0_call0_v114 V0) (broadcastInDim S8192x2048 ![] bcast_S_S8192x2048 (constantI S_ 32 29#32))) (Host.shrui (res_main_call0_call0_call0_v114 V0) (broadcastInDim S8192x2048 ![] bcast_S_S8192x2048 (constantI S_ 32 3#32))))

/-- `main_call0_call0_call0_v122`'s composed term of the arguments (used 2 times). -/
def res_main_call0_call0_call0_v122 : Held F main_call0_call0_call0_v122 :=
  addi (res_main_call0_call0_call0_v115 V0) (res_main_call0_call0_call0_v121 V0)

/-- `main_call0_call0_call0_v128`'s composed term of the arguments (used 3 times). -/
def res_main_call0_call0_call0_v128 : Held F main_call0_call0_call0_v128 :=
  xori (res_main_call0_call0_call0_v122 V0) (ori (Host.shli (res_main_call0_call0_call0_v121 V0) (broadcastInDim S8192x2048 ![] bcast_S_S8192x2048 (constantI S_ 32 16#32))) (Host.shrui (res_main_call0_call0_call0_v121 V0) (broadcastInDim S8192x2048 ![] bcast_S_S8192x2048 (constantI S_ 32 16#32))))

/-- `main_call0_call0_call0_v129`'s composed term of the arguments (used 2 times). -/
def res_main_call0_call0_call0_v129 : Held F main_call0_call0_call0_v129 :=
  addi (res_main_call0_call0_call0_v122 V0) (res_main_call0_call0_call0_v128 V0)

/-- `main_call0_call0_call0_v141`'s composed term of the arguments (used 3 times). -/
def res_main_call0_call0_call0_v141 : Held F main_call0_call0_call0_v141 :=
  addi (addi (xori (res_main_call0_call0_call0_v129 V0) (ori (Host.shli (res_main_call0_call0_call0_v128 V0) (broadcastInDim S8192x2048 ![] bcast_S_S8192x2048 (constantI S_ 32 24#32))) (Host.shrui (res_main_call0_call0_call0_v128 V0) (broadcastInDim S8192x2048 ![] bcast_S_S8192x2048 (constantI S_ 32 8#32))))) (broadcastInDim S8192x2048 ![] bcast_S_S8192x2048 (res_main_call0_call0_call0_v1 V0))) (broadcastInDim S8192x2048 ![] bcast_S_S8192x2048 (constantI S_ 32 4#32))

/-- `main_call0_call0_call0_v142`'s composed term of the arguments (used 2 times). -/
def res_main_call0_call0_call0_v142 : Held F main_call0_call0_call0_v142 :=
  addi (addi (res_main_call0_call0_call0_v129 V0) (broadcastInDim S8192x2048 ![] bcast_S_S8192x2048 (res_main_call0_call0_v7 V0))) (res_main_call0_call0_call0_v141 V0)

/-- `main_call0_call0_call0_v148`'s composed term of the arguments (used 3 times). -/
def res_main_call0_call0_call0_v148 : Held F main_call0_call0_call0_v148 :=
  xori (res_main_call0_call0_call0_v142 V0) (ori (Host.shli (res_main_call0_call0_call0_v141 V0) (broadcastInDim S8192x2048 ![] bcast_S_S8192x2048 (constantI S_ 32 13#32))) (Host.shrui (res_main_call0_call0_call0_v141 V0) (broadcastInDim S8192x2048 ![] bcast_S_S8192x2048 (constantI S_ 32 19#32))))

/-- `main_call0_call0_call0_v149`'s composed term of the arguments (used 2 times). -/
def res_main_call0_call0_call0_v149 : Held F main_call0_call0_call0_v149 :=
  addi (res_main_call0_call0_call0_v142 V0) (res_main_call0_call0_call0_v148 V0)

/-- `main_call0_call0_call0_v155`'s composed term of the arguments (used 3 times). -/
def res_main_call0_call0_call0_v155 : Held F main_call0_call0_call0_v155 :=
  xori (res_main_call0_call0_call0_v149 V0) (ori (Host.shli (res_main_call0_call0_call0_v148 V0) (broadcastInDim S8192x2048 ![] bcast_S_S8192x2048 (constantI S_ 32 15#32))) (Host.shrui (res_main_call0_call0_call0_v148 V0) (broadcastInDim S8192x2048 ![] bcast_S_S8192x2048 (constantI S_ 32 17#32))))

/-- `main_call0_call0_call0_v156`'s composed term of the arguments (used 2 times). -/
def res_main_call0_call0_call0_v156 : Held F main_call0_call0_call0_v156 :=
  addi (res_main_call0_call0_call0_v149 V0) (res_main_call0_call0_call0_v155 V0)

/-- `main_call0_call0_call0_v162`'s composed term of the arguments (used 3 times). -/
def res_main_call0_call0_call0_v162 : Held F main_call0_call0_call0_v162 :=
  xori (res_main_call0_call0_call0_v156 V0) (ori (Host.shli (res_main_call0_call0_call0_v155 V0) (broadcastInDim S8192x2048 ![] bcast_S_S8192x2048 (constantI S_ 32 26#32))) (Host.shrui (res_main_call0_call0_call0_v155 V0) (broadcastInDim S8192x2048 ![] bcast_S_S8192x2048 (constantI S_ 32 6#32))))

/-- `main_call0_call0_call0_v163`'s composed term of the arguments (used 2 times). -/
def res_main_call0_call0_call0_v163 : Held F main_call0_call0_call0_v163 :=
  addi (res_main_call0_call0_call0_v156 V0) (res_main_call0_call0_call0_v162 V0)

/-- `main_v30`'s composed term of the arguments (used 2 times). -/
def res_main_v30 : Held F main_v30 :=
  cmpf .oeq (res_main_v1 V0) (broadcastInDim S8192x768 ![] bcast_S_S8192x768 (constant S_ .f32 0x00000000#32))

/-- `main_v34`'s composed term of the arguments (used 2 times). -/
def res_main_v34 : Held F main_v34 :=
  subf (addf (addf (Host.dotGeneral dot_S8192x2048_S2048x768_S8192x768_1_0_0_1_n_n none (mulf (addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3))))) (uitofp .f32 (cmpf .olt (maximumf (broadcastInDim S8192x2048 ![0, 1] bcast_S1x1_S8192x2048_0_1 (res_main_call0_call0_v2 V0)) (addf (mulf (subf (bitcastToFloat (F := F) .f32 (ori (Host.shrui (xori (addi (res_main_call0_call0_call0_v163 V0) (broadcastInDim S8192x2048 ![] bcast_S_S8192x2048 (res_main_call0_call0_call0_v1 V0))) (addi (addi (xori (res_main_call0_call0_call0_v163 V0) (ori (Host.shli (res_main_call0_call0_call0_v162 V0) (broadcastInDim S8192x2048 ![] bcast_S_S8192x2048 (constantI S_ 32 6#32))) (Host.shrui (res_main_call0_call0_call0_v162 V0) (broadcastInDim S8192x2048 ![] bcast_S_S8192x2048 (constantI S_ 32 26#32))))) (broadcastInDim S8192x2048 ![] bcast_S_S8192x2048 (res_main_call0_call0_v5 V0))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (res_main_call0_call0_v2 V0)))) (broadcastInDim S8192x2048 ![0, 1] bcast_S1x1_S8192x2048_0_1 (res_main_call0_call0_v2 V0)))) (broadcastInDim S8192x2048 ![0, 1] bcast_S1x2048_S8192x2048_0_1 (broadcastInDim S1x2048 ![1] bcast_S2048_S1x2048_1 (Host.exp (mulf (broadcastInDim S2048 ![] bcast_S_S2048 (constant S_ .f32 0xBF000000#32)) (mulf (res_main_v8 V0) (res_main_v8 V0))))))))) (V0 (Proc.devRef .tc main_arg4))) (broadcastInDim S8192x768 ![0, 1] bcast_S1x768_S8192x768_0_1 (broadcastInDim S1x768 ![1] bcast_S768_S1x768_1 (V0 (Proc.devRef .tc main_arg5))))) (res_main_v0 V0)) (res_main_v1 V0)

/-- The device's buffer contents before @main's first operation. -/
def val0 : Valuation τ sig (Elt F) := V0
theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl
theorem val0_main_arg2 : val0 V0 (no_index (Proc.devRef .tc main_arg2)) = V0 (Proc.devRef .tc main_arg2) := rfl
theorem val0_main_arg3 : val0 V0 (no_index (Proc.devRef .tc main_arg3)) = V0 (Proc.devRef .tc main_arg3) := rfl
theorem val0_main_arg4 : val0 V0 (no_index (Proc.devRef .tc main_arg4)) = V0 (Proc.devRef .tc main_arg4) := rfl
theorem val0_main_arg5 : val0 V0 (no_index (Proc.devRef .tc main_arg5)) = V0 (Proc.devRef .tc main_arg5) := rfl

/-- The device's buffer contents after @main's first 30 operations. -/
def val0_1 : Valuation τ sig (Elt F) := after ops_0 (val0 V0)
/-- The buffers that window `ops_0`'s operations write. -/
abbrev ops_0_W : List (Ref sig .tc) := [main_v0, main_v1, main_v2, main_v3, main_v4, main_v5, main_v6, main_cst, main_v7, main_v8, main_v9, main_cst_0, main_v10, main_v11, main_v12, main_c, main_c_1, main_v13, main_v14, main_v15, main_c_2, main_v16, main_v17, main_v18, main_v19, main_v20, main_call0_cst, main_call0_cst_0, main_call0_call0_v0, main_call0_call0_v1]
theorem ops_0_writes : (ops_0 : List (HloOp τ sig (Elt F))).Forall fun op => op.writes ⊆ (ops_0_W.map (Proc.devRef (τ := τ) .tc)).toFinset := by
  simp only [List.Forall, nullary_writes, unary_writes, binary_writes, ternary_writes, reshape_writes]
  and_intros <;> exact writes_mem (by decide)
/-- A buffer that window `ops_0` does not write keeps its contents through it. -/
theorem val0_1_keep (r : Ref sig .tc) (h : r ∉ ops_0_W) :
    val0_1 V0 (Proc.devRef .tc r) = val0 V0 (Proc.devRef .tc r) :=
  after_of_writes_sub ops_0 _ ops_0_writes h
theorem val0_1_main_arg0 : val0_1 V0 (no_index (Proc.devRef .tc main_arg0)) = V0 (Proc.devRef .tc main_arg0) :=
  (val0_1_keep V0 main_arg0 (by decide)).trans (val0_main_arg0 V0)
theorem val0_1_main_arg1 : val0_1 V0 (no_index (Proc.devRef .tc main_arg1)) = V0 (Proc.devRef .tc main_arg1) :=
  (val0_1_keep V0 main_arg1 (by decide)).trans (val0_main_arg1 V0)
theorem val0_1_main_arg2 : val0_1 V0 (no_index (Proc.devRef .tc main_arg2)) = V0 (Proc.devRef .tc main_arg2) :=
  (val0_1_keep V0 main_arg2 (by decide)).trans (val0_main_arg2 V0)
theorem val0_1_main_arg3 : val0_1 V0 (no_index (Proc.devRef .tc main_arg3)) = V0 (Proc.devRef .tc main_arg3) :=
  (val0_1_keep V0 main_arg3 (by decide)).trans (val0_main_arg3 V0)
theorem val0_1_main_arg4 : val0_1 V0 (no_index (Proc.devRef .tc main_arg4)) = V0 (Proc.devRef .tc main_arg4) :=
  (val0_1_keep V0 main_arg4 (by decide)).trans (val0_main_arg4 V0)
theorem val0_1_main_arg5 : val0_1 V0 (no_index (Proc.devRef .tc main_arg5)) = V0 (Proc.devRef .tc main_arg5) :=
  (val0_1_keep V0 main_arg5 (by decide)).trans (val0_main_arg5 V0)
theorem val0_1_main_v0 : val0_1 V0 (no_index (Proc.devRef .tc main_v0)) = res_main_v0 V0 := by
  unfold val0_1
  simp only [ops_0, TRef.nullary, TRef.unary, TRef.toBuf, TRef.ofBuf, cast_eq]
  after_results_simp
  simp only [val0_main_arg0] <;> rfl
theorem val0_1_main_v1 : val0_1 V0 (no_index (Proc.devRef .tc main_v1)) = res_main_v1 V0 := by
  unfold val0_1
  simp only [ops_0, TRef.nullary, TRef.unary, TRef.toBuf, TRef.ofBuf, cast_eq]
  after_results_simp
  simp only [val0_main_arg1] <;> rfl
theorem val0_1_main_v5 : val0_1 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) := by
  unfold val0_1
  simp only [ops_0, TRef.nullary, TRef.unary, TRef.toBuf, TRef.ofBuf, cast_eq]
  after_results_simp
  simp only [val0_main_arg3, val0_main_arg2, val0_main_arg0] <;> rfl
theorem val0_1_main_v19 : val0_1 V0 (no_index (Proc.devRef .tc main_v19)) = res_main_v19 V0 := by
  unfold val0_1
  simp only [ops_0, TRef.nullary, TRef.unary, TRef.toBuf, TRef.ofBuf, cast_eq]
  after_results_simp
  all_goals rfl
theorem val0_1_main_v20 : val0_1 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) := by
  unfold val0_1
  simp only [ops_0, TRef.nullary, TRef.unary, TRef.toBuf, TRef.ofBuf, cast_eq]
  after_results_simp
  all_goals rfl
theorem val0_1_main_call0_call0_v0 : val0_1 V0 (no_index (Proc.devRef .tc main_call0_call0_v0)) = id (constant S_ .f32 0x00000000#32) := by
  unfold val0_1
  simp only [ops_0, TRef.nullary, TRef.unary, TRef.toBuf, TRef.ofBuf, cast_eq]
  after_results_simp
  all_goals rfl
theorem val0_1_main_call0_call0_v1 : val0_1 V0 (no_index (Proc.devRef .tc main_call0_call0_v1)) = id (constant S_ .f32 0x3F800000#32) := by
  unfold val0_1
  simp only [ops_0, TRef.nullary, TRef.unary, TRef.toBuf, TRef.ofBuf, cast_eq]
  after_results_simp
  all_goals rfl

/-- The device's buffer contents after @main's first 60 operations. -/
def val0_2 : Valuation τ sig (Elt F) := after ops_1 (val0_1 V0)
/-- The buffers that window `ops_1`'s operations write. -/
abbrev ops_1_W : List (Ref sig .tc) := [main_call0_call0_v2, main_call0_call0_v3, main_call0_call0_v4, main_call0_call0_v5, main_call0_call0_v6, main_call0_call0_v7, main_call0_call0_v8, main_call0_call0_v9, main_call0_call0_c, main_call0_call0_v10, main_call0_call0_v11, main_call0_call0_c_0, main_call0_call0_v12, main_call0_call0_v13, main_call0_call0_v14, main_call0_call0_c_1, main_call0_call0_v15, main_call0_call0_v16, main_call0_call0_v17, main_call0_call0_v18, main_call0_call0_call0_v0, main_call0_call0_call0_c, main_call0_call0_call0_v1, main_call0_call0_call0_v2, main_call0_call0_call0_v3, main_call0_call0_call0_v4, main_call0_call0_call0_v5, main_call0_call0_call0_v6, main_call0_call0_call0_c_0, main_call0_call0_call0_v7]
theorem ops_1_writes : (ops_1 : List (HloOp τ sig (Elt F))).Forall fun op => op.writes ⊆ (ops_1_W.map (Proc.devRef (τ := τ) .tc)).toFinset := by
  simp only [List.Forall, nullary_writes, unary_writes, binary_writes, ternary_writes, reshape_writes]
  and_intros <;> exact writes_mem (by decide)
/-- A buffer that window `ops_1` does not write keeps its contents through it. -/
theorem val0_2_keep (r : Ref sig .tc) (h : r ∉ ops_1_W) :
    val0_2 V0 (Proc.devRef .tc r) = val0_1 V0 (Proc.devRef .tc r) :=
  after_of_writes_sub ops_1 _ ops_1_writes h
theorem val0_2_main_arg0 : val0_2 V0 (no_index (Proc.devRef .tc main_arg0)) = V0 (Proc.devRef .tc main_arg0) :=
  (val0_2_keep V0 main_arg0 (by decide)).trans (val0_1_main_arg0 V0)
theorem val0_2_main_arg1 : val0_2 V0 (no_index (Proc.devRef .tc main_arg1)) = V0 (Proc.devRef .tc main_arg1) :=
  (val0_2_keep V0 main_arg1 (by decide)).trans (val0_1_main_arg1 V0)
theorem val0_2_main_arg2 : val0_2 V0 (no_index (Proc.devRef .tc main_arg2)) = V0 (Proc.devRef .tc main_arg2) :=
  (val0_2_keep V0 main_arg2 (by decide)).trans (val0_1_main_arg2 V0)
theorem val0_2_main_arg3 : val0_2 V0 (no_index (Proc.devRef .tc main_arg3)) = V0 (Proc.devRef .tc main_arg3) :=
  (val0_2_keep V0 main_arg3 (by decide)).trans (val0_1_main_arg3 V0)
theorem val0_2_main_arg4 : val0_2 V0 (no_index (Proc.devRef .tc main_arg4)) = V0 (Proc.devRef .tc main_arg4) :=
  (val0_2_keep V0 main_arg4 (by decide)).trans (val0_1_main_arg4 V0)
theorem val0_2_main_arg5 : val0_2 V0 (no_index (Proc.devRef .tc main_arg5)) = V0 (Proc.devRef .tc main_arg5) :=
  (val0_2_keep V0 main_arg5 (by decide)).trans (val0_1_main_arg5 V0)
theorem val0_2_main_v0 : val0_2 V0 (no_index (Proc.devRef .tc main_v0)) = res_main_v0 V0 :=
  (val0_2_keep V0 main_v0 (by decide)).trans (val0_1_main_v0 V0)
theorem val0_2_main_v1 : val0_2 V0 (no_index (Proc.devRef .tc main_v1)) = res_main_v1 V0 :=
  (val0_2_keep V0 main_v1 (by decide)).trans (val0_1_main_v1 V0)
theorem val0_2_main_v5 : val0_2 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) :=
  (val0_2_keep V0 main_v5 (by decide)).trans (val0_1_main_v5 V0)
theorem val0_2_main_v20 : val0_2 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) :=
  (val0_2_keep V0 main_v20 (by decide)).trans (val0_1_main_v20 V0)
theorem val0_2_main_call0_call0_v2 : val0_2 V0 (no_index (Proc.devRef .tc main_call0_call0_v2)) = res_main_call0_call0_v2 V0 := by
  unfold val0_2
  simp only [ops_1, TRef.binary, TRef.nullary, TRef.reshape, TRef.unary, TRef.toBuf, TRef.ofBuf, cast_eq]
  after_results_simp
  simp only [val0_1_main_call0_call0_v0] <;> rfl
theorem val0_2_main_call0_call0_v3 : val0_2 V0 (no_index (Proc.devRef .tc main_call0_call0_v3)) = broadcastInDim S1x1 ![] bcast_S_S1x1 (id (constant S_ .f32 0x3F800000#32)) := by
  unfold val0_2
  simp only [ops_1, TRef.binary, TRef.nullary, TRef.reshape, TRef.unary, TRef.toBuf, TRef.ofBuf, cast_eq]
  after_results_simp
  simp only [val0_1_main_call0_call0_v1] <;> rfl
theorem val0_2_main_call0_call0_v5 : val0_2 V0 (no_index (Proc.devRef .tc main_call0_call0_v5)) = res_main_call0_call0_v5 V0 := by
  unfold val0_2
  simp only [ops_1, TRef.binary, TRef.nullary, TRef.reshape, TRef.unary, TRef.toBuf, TRef.ofBuf, cast_eq]
  after_results_simp
  simp only [val0_1_main_v19] <;> rfl
theorem val0_2_main_call0_call0_v7 : val0_2 V0 (no_index (Proc.devRef .tc main_call0_call0_v7)) = res_main_call0_call0_v7 V0 := by
  unfold val0_2
  simp only [ops_1, TRef.binary, TRef.nullary, TRef.reshape, TRef.unary, TRef.toBuf, TRef.ofBuf, cast_eq]
  after_results_simp
  simp only [val0_1_main_v19] <;> rfl
theorem val0_2_main_call0_call0_call0_v1 : val0_2 V0 (no_index (Proc.devRef .tc main_call0_call0_call0_v1)) = res_main_call0_call0_call0_v1 V0 := by
  unfold val0_2
  simp only [ops_1, TRef.binary, TRef.nullary, TRef.reshape, TRef.unary, TRef.toBuf, TRef.ofBuf, cast_eq]
  after_results_simp
  simp only [val0_1_main_v19] <;> rfl
theorem val0_2_main_call0_call0_call0_v5 : val0_2 V0 (no_index (Proc.devRef .tc main_call0_call0_call0_v5)) = res_main_call0_call0_call0_v5 V0 := by
  unfold val0_2
  simp only [ops_1, TRef.binary, TRef.nullary, TRef.reshape, TRef.unary, TRef.toBuf, TRef.ofBuf, cast_eq]
  after_results_simp
  simp only [val0_1_main_v19] <;> rfl
theorem val0_2_main_call0_call0_call0_v6 : val0_2 V0 (no_index (Proc.devRef .tc main_call0_call0_call0_v6)) = res_main_call0_call0_call0_v6 V0 := by
  unfold val0_2
  simp only [ops_1, TRef.binary, TRef.nullary, TRef.reshape, TRef.unary, TRef.toBuf, TRef.ofBuf, cast_eq]
  after_results_simp
  simp only [val0_1_main_v19] <;> rfl
theorem val0_2_main_call0_call0_call0_v7 : val0_2 V0 (no_index (Proc.devRef .tc main_call0_call0_call0_v7)) = broadcastInDim S8192x2048 ![] bcast_S_S8192x2048 (constantI S_ 32 13#32) := by
  unfold val0_2
  simp only [ops_1, TRef.binary, TRef.nullary, TRef.reshape, TRef.unary, TRef.toBuf, TRef.ofBuf, cast_eq]
  after_results_simp
  all_goals rfl

/-- The device's buffer contents after @main's first 90 operations. -/
def val0_3 : Valuation τ sig (Elt F) := after ops_2 (val0_2 V0)
/-- The buffers that window `ops_2`'s operations write. -/
abbrev ops_2_W : List (Ref sig .tc) := [main_call0_call0_call0_v8, main_call0_call0_call0_c_1, main_call0_call0_call0_v9, main_call0_call0_call0_v10, main_call0_call0_call0_v11, main_call0_call0_call0_v12, main_call0_call0_call0_v13, main_call0_call0_call0_c_2, main_call0_call0_call0_v14, main_call0_call0_call0_v15, main_call0_call0_call0_c_3, main_call0_call0_call0_v16, main_call0_call0_call0_v17, main_call0_call0_call0_v18, main_call0_call0_call0_v19, main_call0_call0_call0_v20, main_call0_call0_call0_c_4, main_call0_call0_call0_v21, main_call0_call0_call0_v22, main_call0_call0_call0_c_5, main_call0_call0_call0_v23, main_call0_call0_call0_v24, main_call0_call0_call0_v25, main_call0_call0_call0_v26, main_call0_call0_call0_v27, main_call0_call0_call0_c_6, main_call0_call0_call0_v28, main_call0_call0_call0_v29, main_call0_call0_call0_c_7, main_call0_call0_call0_v30]
theorem ops_2_writes : (ops_2 : List (HloOp τ sig (Elt F))).Forall fun op => op.writes ⊆ (ops_2_W.map (Proc.devRef (τ := τ) .tc)).toFinset := by
  simp only [List.Forall, nullary_writes, unary_writes, binary_writes, ternary_writes, reshape_writes]
  and_intros <;> exact writes_mem (by decide)
/-- A buffer that window `ops_2` does not write keeps its contents through it. -/
theorem val0_3_keep (r : Ref sig .tc) (h : r ∉ ops_2_W) :
    val0_3 V0 (Proc.devRef .tc r) = val0_2 V0 (Proc.devRef .tc r) :=
  after_of_writes_sub ops_2 _ ops_2_writes h
theorem val0_3_main_arg0 : val0_3 V0 (no_index (Proc.devRef .tc main_arg0)) = V0 (Proc.devRef .tc main_arg0) :=
  (val0_3_keep V0 main_arg0 (by decide)).trans (val0_2_main_arg0 V0)
theorem val0_3_main_arg1 : val0_3 V0 (no_index (Proc.devRef .tc main_arg1)) = V0 (Proc.devRef .tc main_arg1) :=
  (val0_3_keep V0 main_arg1 (by decide)).trans (val0_2_main_arg1 V0)
theorem val0_3_main_arg2 : val0_3 V0 (no_index (Proc.devRef .tc main_arg2)) = V0 (Proc.devRef .tc main_arg2) :=
  (val0_3_keep V0 main_arg2 (by decide)).trans (val0_2_main_arg2 V0)
theorem val0_3_main_arg3 : val0_3 V0 (no_index (Proc.devRef .tc main_arg3)) = V0 (Proc.devRef .tc main_arg3) :=
  (val0_3_keep V0 main_arg3 (by decide)).trans (val0_2_main_arg3 V0)
theorem val0_3_main_arg4 : val0_3 V0 (no_index (Proc.devRef .tc main_arg4)) = V0 (Proc.devRef .tc main_arg4) :=
  (val0_3_keep V0 main_arg4 (by decide)).trans (val0_2_main_arg4 V0)
theorem val0_3_main_arg5 : val0_3 V0 (no_index (Proc.devRef .tc main_arg5)) = V0 (Proc.devRef .tc main_arg5) :=
  (val0_3_keep V0 main_arg5 (by decide)).trans (val0_2_main_arg5 V0)
theorem val0_3_main_v0 : val0_3 V0 (no_index (Proc.devRef .tc main_v0)) = res_main_v0 V0 :=
  (val0_3_keep V0 main_v0 (by decide)).trans (val0_2_main_v0 V0)
theorem val0_3_main_v1 : val0_3 V0 (no_index (Proc.devRef .tc main_v1)) = res_main_v1 V0 :=
  (val0_3_keep V0 main_v1 (by decide)).trans (val0_2_main_v1 V0)
theorem val0_3_main_v5 : val0_3 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) :=
  (val0_3_keep V0 main_v5 (by decide)).trans (val0_2_main_v5 V0)
theorem val0_3_main_v20 : val0_3 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) :=
  (val0_3_keep V0 main_v20 (by decide)).trans (val0_2_main_v20 V0)
theorem val0_3_main_call0_call0_v2 : val0_3 V0 (no_index (Proc.devRef .tc main_call0_call0_v2)) = res_main_call0_call0_v2 V0 :=
  (val0_3_keep V0 main_call0_call0_v2 (by decide)).trans (val0_2_main_call0_call0_v2 V0)
theorem val0_3_main_call0_call0_v3 : val0_3 V0 (no_index (Proc.devRef .tc main_call0_call0_v3)) = broadcastInDim S1x1 ![] bcast_S_S1x1 (id (constant S_ .f32 0x3F800000#32)) :=
  (val0_3_keep V0 main_call0_call0_v3 (by decide)).trans (val0_2_main_call0_call0_v3 V0)
theorem val0_3_main_call0_call0_v5 : val0_3 V0 (no_index (Proc.devRef .tc main_call0_call0_v5)) = res_main_call0_call0_v5 V0 :=
  (val0_3_keep V0 main_call0_call0_v5 (by decide)).trans (val0_2_main_call0_call0_v5 V0)
theorem val0_3_main_call0_call0_v7 : val0_3 V0 (no_index (Proc.devRef .tc main_call0_call0_v7)) = res_main_call0_call0_v7 V0 :=
  (val0_3_keep V0 main_call0_call0_v7 (by decide)).trans (val0_2_main_call0_call0_v7 V0)
theorem val0_3_main_call0_call0_call0_v1 : val0_3 V0 (no_index (Proc.devRef .tc main_call0_call0_call0_v1)) = res_main_call0_call0_call0_v1 V0 :=
  (val0_3_keep V0 main_call0_call0_call0_v1 (by decide)).trans (val0_2_main_call0_call0_call0_v1 V0)
theorem val0_3_main_call0_call0_call0_v26 : val0_3 V0 (no_index (Proc.devRef .tc main_call0_call0_call0_v26)) = res_main_call0_call0_call0_v26 V0 := by
  unfold val0_3
  simp only [ops_2, TRef.binary, TRef.nullary, TRef.unary, TRef.toBuf, TRef.ofBuf, cast_eq]
  after_results_simp
  simp only [val0_2_main_call0_call0_call0_v5, val0_2_main_call0_call0_call0_v7, val0_2_main_call0_call0_call0_v6] <;> rfl
theorem val0_3_main_call0_call0_call0_v27 : val0_3 V0 (no_index (Proc.devRef .tc main_call0_call0_call0_v27)) = res_main_call0_call0_call0_v27 V0 := by
  unfold val0_3
  simp only [ops_2, TRef.binary, TRef.nullary, TRef.unary, TRef.toBuf, TRef.ofBuf, cast_eq]
  after_results_simp
  simp only [val0_2_main_call0_call0_call0_v5, val0_2_main_call0_call0_call0_v7, val0_2_main_call0_call0_call0_v6] <;> rfl
theorem val0_3_main_call0_call0_call0_v29 : val0_3 V0 (no_index (Proc.devRef .tc main_call0_call0_call0_v29)) = Host.shli (res_main_call0_call0_call0_v26 V0) (broadcastInDim S8192x2048 ![] bcast_S_S8192x2048 (constantI S_ 32 6#32)) := by
  unfold val0_3
  simp only [ops_2, TRef.binary, TRef.nullary, TRef.unary, TRef.toBuf, TRef.ofBuf, cast_eq]
  after_results_simp
  simp only [val0_2_main_call0_call0_call0_v5, val0_2_main_call0_call0_call0_v7, val0_2_main_call0_call0_call0_v6] <;> rfl
theorem val0_3_main_call0_call0_call0_v30 : val0_3 V0 (no_index (Proc.devRef .tc main_call0_call0_call0_v30)) = broadcastInDim S8192x2048 ![] bcast_S_S8192x2048 (constantI S_ 32 26#32) := by
  unfold val0_3
  simp only [ops_2, TRef.binary, TRef.nullary, TRef.unary, TRef.toBuf, TRef.ofBuf, cast_eq]
  after_results_simp
  all_goals rfl

/-- The device's buffer contents after @main's first 120 operations. -/
def val0_4 : Valuation τ sig (Elt F) := after ops_3 (val0_3 V0)
/-- The buffers that window `ops_3`'s operations write. -/
abbrev ops_3_W : List (Ref sig .tc) := [main_call0_call0_call0_v31, main_call0_call0_call0_v32, main_call0_call0_call0_v33, main_call0_call0_call0_v34, main_call0_call0_call0_v35, main_call0_call0_call0_v36, main_call0_call0_call0_v37, main_call0_call0_call0_c_8, main_call0_call0_call0_v38, main_call0_call0_call0_v39, main_call0_call0_call0_v40, main_call0_call0_call0_c_9, main_call0_call0_call0_v41, main_call0_call0_call0_v42, main_call0_call0_call0_c_10, main_call0_call0_call0_v43, main_call0_call0_call0_v44, main_call0_call0_call0_v45, main_call0_call0_call0_v46, main_call0_call0_call0_v47, main_call0_call0_call0_c_11, main_call0_call0_call0_v48, main_call0_call0_call0_v49, main_call0_call0_call0_c_12, main_call0_call0_call0_v50, main_call0_call0_call0_v51, main_call0_call0_call0_v52, main_call0_call0_call0_v53, main_call0_call0_call0_v54, main_call0_call0_call0_c_13]
theorem ops_3_writes : (ops_3 : List (HloOp τ sig (Elt F))).Forall fun op => op.writes ⊆ (ops_3_W.map (Proc.devRef (τ := τ) .tc)).toFinset := by
  simp only [List.Forall, nullary_writes, unary_writes, binary_writes, ternary_writes, reshape_writes]
  and_intros <;> exact writes_mem (by decide)
/-- A buffer that window `ops_3` does not write keeps its contents through it. -/
theorem val0_4_keep (r : Ref sig .tc) (h : r ∉ ops_3_W) :
    val0_4 V0 (Proc.devRef .tc r) = val0_3 V0 (Proc.devRef .tc r) :=
  after_of_writes_sub ops_3 _ ops_3_writes h
theorem val0_4_main_arg0 : val0_4 V0 (no_index (Proc.devRef .tc main_arg0)) = V0 (Proc.devRef .tc main_arg0) :=
  (val0_4_keep V0 main_arg0 (by decide)).trans (val0_3_main_arg0 V0)
theorem val0_4_main_arg1 : val0_4 V0 (no_index (Proc.devRef .tc main_arg1)) = V0 (Proc.devRef .tc main_arg1) :=
  (val0_4_keep V0 main_arg1 (by decide)).trans (val0_3_main_arg1 V0)
theorem val0_4_main_arg2 : val0_4 V0 (no_index (Proc.devRef .tc main_arg2)) = V0 (Proc.devRef .tc main_arg2) :=
  (val0_4_keep V0 main_arg2 (by decide)).trans (val0_3_main_arg2 V0)
theorem val0_4_main_arg3 : val0_4 V0 (no_index (Proc.devRef .tc main_arg3)) = V0 (Proc.devRef .tc main_arg3) :=
  (val0_4_keep V0 main_arg3 (by decide)).trans (val0_3_main_arg3 V0)
theorem val0_4_main_arg4 : val0_4 V0 (no_index (Proc.devRef .tc main_arg4)) = V0 (Proc.devRef .tc main_arg4) :=
  (val0_4_keep V0 main_arg4 (by decide)).trans (val0_3_main_arg4 V0)
theorem val0_4_main_arg5 : val0_4 V0 (no_index (Proc.devRef .tc main_arg5)) = V0 (Proc.devRef .tc main_arg5) :=
  (val0_4_keep V0 main_arg5 (by decide)).trans (val0_3_main_arg5 V0)
theorem val0_4_main_v0 : val0_4 V0 (no_index (Proc.devRef .tc main_v0)) = res_main_v0 V0 :=
  (val0_4_keep V0 main_v0 (by decide)).trans (val0_3_main_v0 V0)
theorem val0_4_main_v1 : val0_4 V0 (no_index (Proc.devRef .tc main_v1)) = res_main_v1 V0 :=
  (val0_4_keep V0 main_v1 (by decide)).trans (val0_3_main_v1 V0)
theorem val0_4_main_v5 : val0_4 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) :=
  (val0_4_keep V0 main_v5 (by decide)).trans (val0_3_main_v5 V0)
theorem val0_4_main_v20 : val0_4 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) :=
  (val0_4_keep V0 main_v20 (by decide)).trans (val0_3_main_v20 V0)
theorem val0_4_main_call0_call0_v2 : val0_4 V0 (no_index (Proc.devRef .tc main_call0_call0_v2)) = res_main_call0_call0_v2 V0 :=
  (val0_4_keep V0 main_call0_call0_v2 (by decide)).trans (val0_3_main_call0_call0_v2 V0)
theorem val0_4_main_call0_call0_v3 : val0_4 V0 (no_index (Proc.devRef .tc main_call0_call0_v3)) = broadcastInDim S1x1 ![] bcast_S_S1x1 (id (constant S_ .f32 0x3F800000#32)) :=
  (val0_4_keep V0 main_call0_call0_v3 (by decide)).trans (val0_3_main_call0_call0_v3 V0)
theorem val0_4_main_call0_call0_v5 : val0_4 V0 (no_index (Proc.devRef .tc main_call0_call0_v5)) = res_main_call0_call0_v5 V0 :=
  (val0_4_keep V0 main_call0_call0_v5 (by decide)).trans (val0_3_main_call0_call0_v5 V0)
theorem val0_4_main_call0_call0_v7 : val0_4 V0 (no_index (Proc.devRef .tc main_call0_call0_v7)) = res_main_call0_call0_v7 V0 :=
  (val0_4_keep V0 main_call0_call0_v7 (by decide)).trans (val0_3_main_call0_call0_v7 V0)
theorem val0_4_main_call0_call0_call0_v1 : val0_4 V0 (no_index (Proc.devRef .tc main_call0_call0_call0_v1)) = res_main_call0_call0_call0_v1 V0 :=
  (val0_4_keep V0 main_call0_call0_call0_v1 (by decide)).trans (val0_3_main_call0_call0_call0_v1 V0)
theorem val0_4_main_call0_call0_call0_v53 : val0_4 V0 (no_index (Proc.devRef .tc main_call0_call0_call0_v53)) = res_main_call0_call0_call0_v53 V0 := by
  unfold val0_4
  simp only [ops_3, TRef.binary, TRef.nullary, TRef.unary, TRef.toBuf, TRef.ofBuf, cast_eq]
  after_results_simp
  simp only [val0_3_main_call0_call0_call0_v1, val0_3_main_call0_call0_call0_v30, val0_3_main_call0_call0_call0_v26, val0_3_main_call0_call0_call0_v29, val0_3_main_call0_call0_call0_v27, val0_3_main_call0_call0_v7] <;> rfl
theorem val0_4_main_call0_call0_call0_v54 : val0_4 V0 (no_index (Proc.devRef .tc main_call0_call0_call0_v54)) = res_main_call0_call0_call0_v54 V0 := by
  unfold val0_4
  simp only [ops_3, TRef.binary, TRef.nullary, TRef.unary, TRef.toBuf, TRef.ofBuf, cast_eq]
  after_results_simp
  simp only [val0_3_main_call0_call0_call0_v1, val0_3_main_call0_call0_call0_v30, val0_3_main_call0_call0_call0_v26, val0_3_main_call0_call0_call0_v29, val0_3_main_call0_call0_call0_v27, val0_3_main_call0_call0_v7] <;> rfl
theorem val0_4_main_call0_call0_call0_c_13 : val0_4 V0 (no_index (Proc.devRef .tc main_call0_call0_call0_c_13)) = constantI S_ 32 16#32 := by
  unfold val0_4
  simp only [ops_3, TRef.binary, TRef.nullary, TRef.unary, TRef.toBuf, TRef.ofBuf, cast_eq]
  after_results_simp
  all_goals rfl

/-- The device's buffer contents after @main's first 150 operations. -/
def val0_5 : Valuation τ sig (Elt F) := after ops_4 (val0_4 V0)
/-- The buffers that window `ops_4`'s operations write. -/
abbrev ops_4_W : List (Ref sig .tc) := [main_call0_call0_call0_v55, main_call0_call0_call0_v56, main_call0_call0_call0_c_14, main_call0_call0_call0_v57, main_call0_call0_call0_v58, main_call0_call0_call0_v59, main_call0_call0_call0_v60, main_call0_call0_call0_v61, main_call0_call0_call0_c_15, main_call0_call0_call0_v62, main_call0_call0_call0_v63, main_call0_call0_call0_c_16, main_call0_call0_call0_v64, main_call0_call0_call0_v65, main_call0_call0_call0_v66, main_call0_call0_call0_v67, main_call0_call0_call0_v68, main_call0_call0_call0_v69, main_call0_call0_call0_v70, main_call0_call0_call0_v71, main_call0_call0_call0_c_17, main_call0_call0_call0_v72, main_call0_call0_call0_v73, main_call0_call0_call0_v74, main_call0_call0_call0_c_18, main_call0_call0_call0_v75, main_call0_call0_call0_v76, main_call0_call0_call0_c_19, main_call0_call0_call0_v77, main_call0_call0_call0_v78]
theorem ops_4_writes : (ops_4 : List (HloOp τ sig (Elt F))).Forall fun op => op.writes ⊆ (ops_4_W.map (Proc.devRef (τ := τ) .tc)).toFinset := by
  simp only [List.Forall, nullary_writes, unary_writes, binary_writes, ternary_writes, reshape_writes]
  and_intros <;> exact writes_mem (by decide)
/-- A buffer that window `ops_4` does not write keeps its contents through it. -/
theorem val0_5_keep (r : Ref sig .tc) (h : r ∉ ops_4_W) :
    val0_5 V0 (Proc.devRef .tc r) = val0_4 V0 (Proc.devRef .tc r) :=
  after_of_writes_sub ops_4 _ ops_4_writes h
theorem val0_5_main_arg0 : val0_5 V0 (no_index (Proc.devRef .tc main_arg0)) = V0 (Proc.devRef .tc main_arg0) :=
  (val0_5_keep V0 main_arg0 (by decide)).trans (val0_4_main_arg0 V0)
theorem val0_5_main_arg1 : val0_5 V0 (no_index (Proc.devRef .tc main_arg1)) = V0 (Proc.devRef .tc main_arg1) :=
  (val0_5_keep V0 main_arg1 (by decide)).trans (val0_4_main_arg1 V0)
theorem val0_5_main_arg2 : val0_5 V0 (no_index (Proc.devRef .tc main_arg2)) = V0 (Proc.devRef .tc main_arg2) :=
  (val0_5_keep V0 main_arg2 (by decide)).trans (val0_4_main_arg2 V0)
theorem val0_5_main_arg3 : val0_5 V0 (no_index (Proc.devRef .tc main_arg3)) = V0 (Proc.devRef .tc main_arg3) :=
  (val0_5_keep V0 main_arg3 (by decide)).trans (val0_4_main_arg3 V0)
theorem val0_5_main_arg4 : val0_5 V0 (no_index (Proc.devRef .tc main_arg4)) = V0 (Proc.devRef .tc main_arg4) :=
  (val0_5_keep V0 main_arg4 (by decide)).trans (val0_4_main_arg4 V0)
theorem val0_5_main_arg5 : val0_5 V0 (no_index (Proc.devRef .tc main_arg5)) = V0 (Proc.devRef .tc main_arg5) :=
  (val0_5_keep V0 main_arg5 (by decide)).trans (val0_4_main_arg5 V0)
theorem val0_5_main_v0 : val0_5 V0 (no_index (Proc.devRef .tc main_v0)) = res_main_v0 V0 :=
  (val0_5_keep V0 main_v0 (by decide)).trans (val0_4_main_v0 V0)
theorem val0_5_main_v1 : val0_5 V0 (no_index (Proc.devRef .tc main_v1)) = res_main_v1 V0 :=
  (val0_5_keep V0 main_v1 (by decide)).trans (val0_4_main_v1 V0)
theorem val0_5_main_v5 : val0_5 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) :=
  (val0_5_keep V0 main_v5 (by decide)).trans (val0_4_main_v5 V0)
theorem val0_5_main_v20 : val0_5 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) :=
  (val0_5_keep V0 main_v20 (by decide)).trans (val0_4_main_v20 V0)
theorem val0_5_main_call0_call0_v2 : val0_5 V0 (no_index (Proc.devRef .tc main_call0_call0_v2)) = res_main_call0_call0_v2 V0 :=
  (val0_5_keep V0 main_call0_call0_v2 (by decide)).trans (val0_4_main_call0_call0_v2 V0)
theorem val0_5_main_call0_call0_v3 : val0_5 V0 (no_index (Proc.devRef .tc main_call0_call0_v3)) = broadcastInDim S1x1 ![] bcast_S_S1x1 (id (constant S_ .f32 0x3F800000#32)) :=
  (val0_5_keep V0 main_call0_call0_v3 (by decide)).trans (val0_4_main_call0_call0_v3 V0)
theorem val0_5_main_call0_call0_v5 : val0_5 V0 (no_index (Proc.devRef .tc main_call0_call0_v5)) = res_main_call0_call0_v5 V0 :=
  (val0_5_keep V0 main_call0_call0_v5 (by decide)).trans (val0_4_main_call0_call0_v5 V0)
theorem val0_5_main_call0_call0_v7 : val0_5 V0 (no_index (Proc.devRef .tc main_call0_call0_v7)) = res_main_call0_call0_v7 V0 :=
  (val0_5_keep V0 main_call0_call0_v7 (by decide)).trans (val0_4_main_call0_call0_v7 V0)
theorem val0_5_main_call0_call0_call0_v1 : val0_5 V0 (no_index (Proc.devRef .tc main_call0_call0_call0_v1)) = res_main_call0_call0_call0_v1 V0 :=
  (val0_5_keep V0 main_call0_call0_call0_v1 (by decide)).trans (val0_4_main_call0_call0_call0_v1 V0)
theorem val0_5_main_call0_call0_call0_v74 : val0_5 V0 (no_index (Proc.devRef .tc main_call0_call0_call0_v74)) = res_main_call0_call0_call0_v74 V0 := by
  unfold val0_5
  simp only [ops_4, TRef.binary, TRef.nullary, TRef.unary, TRef.toBuf, TRef.ofBuf, cast_eq]
  after_results_simp
  simp only [val0_4_main_call0_call0_v5, val0_4_main_call0_call0_call0_v53, val0_4_main_call0_call0_call0_c_13, val0_4_main_call0_call0_call0_v54, val0_4_main_call0_call0_call0_v1] <;> rfl
theorem val0_5_main_call0_call0_call0_v76 : val0_5 V0 (no_index (Proc.devRef .tc main_call0_call0_call0_v76)) = Host.shli (res_main_call0_call0_call0_v73 V0) (broadcastInDim S8192x2048 ![] bcast_S_S8192x2048 (constantI S_ 32 13#32)) := by
  unfold val0_5
  simp only [ops_4, TRef.binary, TRef.nullary, TRef.unary, TRef.toBuf, TRef.ofBuf, cast_eq]
  after_results_simp
  simp only [val0_4_main_call0_call0_v5, val0_4_main_call0_call0_call0_v53, val0_4_main_call0_call0_call0_c_13, val0_4_main_call0_call0_call0_v54] <;> rfl
theorem val0_5_main_call0_call0_call0_v78 : val0_5 V0 (no_index (Proc.devRef .tc main_call0_call0_call0_v78)) = Host.shrui (res_main_call0_call0_call0_v73 V0) (broadcastInDim S8192x2048 ![] bcast_S_S8192x2048 (constantI S_ 32 19#32)) := by
  unfold val0_5
  simp only [ops_4, TRef.binary, TRef.nullary, TRef.unary, TRef.toBuf, TRef.ofBuf, cast_eq]
  after_results_simp
  simp only [val0_4_main_call0_call0_v5, val0_4_main_call0_call0_call0_v53, val0_4_main_call0_call0_call0_c_13, val0_4_main_call0_call0_call0_v54] <;> rfl

/-- The device's buffer contents after @main's first 180 operations. -/
def val0_6 : Valuation τ sig (Elt F) := after ops_5 (val0_5 V0)
/-- The buffers that window `ops_5`'s operations write. -/
abbrev ops_5_W : List (Ref sig .tc) := [main_call0_call0_call0_v79, main_call0_call0_call0_v80, main_call0_call0_call0_v81, main_call0_call0_call0_c_20, main_call0_call0_call0_v82, main_call0_call0_call0_v83, main_call0_call0_call0_c_21, main_call0_call0_call0_v84, main_call0_call0_call0_v85, main_call0_call0_call0_v86, main_call0_call0_call0_v87, main_call0_call0_call0_v88, main_call0_call0_call0_c_22, main_call0_call0_call0_v89, main_call0_call0_call0_v90, main_call0_call0_call0_c_23, main_call0_call0_call0_v91, main_call0_call0_call0_v92, main_call0_call0_call0_v93, main_call0_call0_call0_v94, main_call0_call0_call0_v95, main_call0_call0_call0_c_24, main_call0_call0_call0_v96, main_call0_call0_call0_v97, main_call0_call0_call0_c_25, main_call0_call0_call0_v98, main_call0_call0_call0_v99, main_call0_call0_call0_v100, main_call0_call0_call0_v101, main_call0_call0_call0_v102]
theorem ops_5_writes : (ops_5 : List (HloOp τ sig (Elt F))).Forall fun op => op.writes ⊆ (ops_5_W.map (Proc.devRef (τ := τ) .tc)).toFinset := by
  simp only [List.Forall, nullary_writes, unary_writes, binary_writes, ternary_writes, reshape_writes]
  and_intros <;> exact writes_mem (by decide)
/-- A buffer that window `ops_5` does not write keeps its contents through it. -/
theorem val0_6_keep (r : Ref sig .tc) (h : r ∉ ops_5_W) :
    val0_6 V0 (Proc.devRef .tc r) = val0_5 V0 (Proc.devRef .tc r) :=
  after_of_writes_sub ops_5 _ ops_5_writes h
theorem val0_6_main_arg0 : val0_6 V0 (no_index (Proc.devRef .tc main_arg0)) = V0 (Proc.devRef .tc main_arg0) :=
  (val0_6_keep V0 main_arg0 (by decide)).trans (val0_5_main_arg0 V0)
theorem val0_6_main_arg1 : val0_6 V0 (no_index (Proc.devRef .tc main_arg1)) = V0 (Proc.devRef .tc main_arg1) :=
  (val0_6_keep V0 main_arg1 (by decide)).trans (val0_5_main_arg1 V0)
theorem val0_6_main_arg2 : val0_6 V0 (no_index (Proc.devRef .tc main_arg2)) = V0 (Proc.devRef .tc main_arg2) :=
  (val0_6_keep V0 main_arg2 (by decide)).trans (val0_5_main_arg2 V0)
theorem val0_6_main_arg3 : val0_6 V0 (no_index (Proc.devRef .tc main_arg3)) = V0 (Proc.devRef .tc main_arg3) :=
  (val0_6_keep V0 main_arg3 (by decide)).trans (val0_5_main_arg3 V0)
theorem val0_6_main_arg4 : val0_6 V0 (no_index (Proc.devRef .tc main_arg4)) = V0 (Proc.devRef .tc main_arg4) :=
  (val0_6_keep V0 main_arg4 (by decide)).trans (val0_5_main_arg4 V0)
theorem val0_6_main_arg5 : val0_6 V0 (no_index (Proc.devRef .tc main_arg5)) = V0 (Proc.devRef .tc main_arg5) :=
  (val0_6_keep V0 main_arg5 (by decide)).trans (val0_5_main_arg5 V0)
theorem val0_6_main_v0 : val0_6 V0 (no_index (Proc.devRef .tc main_v0)) = res_main_v0 V0 :=
  (val0_6_keep V0 main_v0 (by decide)).trans (val0_5_main_v0 V0)
theorem val0_6_main_v1 : val0_6 V0 (no_index (Proc.devRef .tc main_v1)) = res_main_v1 V0 :=
  (val0_6_keep V0 main_v1 (by decide)).trans (val0_5_main_v1 V0)
theorem val0_6_main_v5 : val0_6 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) :=
  (val0_6_keep V0 main_v5 (by decide)).trans (val0_5_main_v5 V0)
theorem val0_6_main_v20 : val0_6 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) :=
  (val0_6_keep V0 main_v20 (by decide)).trans (val0_5_main_v20 V0)
theorem val0_6_main_call0_call0_v2 : val0_6 V0 (no_index (Proc.devRef .tc main_call0_call0_v2)) = res_main_call0_call0_v2 V0 :=
  (val0_6_keep V0 main_call0_call0_v2 (by decide)).trans (val0_5_main_call0_call0_v2 V0)
theorem val0_6_main_call0_call0_v3 : val0_6 V0 (no_index (Proc.devRef .tc main_call0_call0_v3)) = broadcastInDim S1x1 ![] bcast_S_S1x1 (id (constant S_ .f32 0x3F800000#32)) :=
  (val0_6_keep V0 main_call0_call0_v3 (by decide)).trans (val0_5_main_call0_call0_v3 V0)
theorem val0_6_main_call0_call0_v5 : val0_6 V0 (no_index (Proc.devRef .tc main_call0_call0_v5)) = res_main_call0_call0_v5 V0 :=
  (val0_6_keep V0 main_call0_call0_v5 (by decide)).trans (val0_5_main_call0_call0_v5 V0)
theorem val0_6_main_call0_call0_v7 : val0_6 V0 (no_index (Proc.devRef .tc main_call0_call0_v7)) = res_main_call0_call0_v7 V0 :=
  (val0_6_keep V0 main_call0_call0_v7 (by decide)).trans (val0_5_main_call0_call0_v7 V0)
theorem val0_6_main_call0_call0_call0_v1 : val0_6 V0 (no_index (Proc.devRef .tc main_call0_call0_call0_v1)) = res_main_call0_call0_call0_v1 V0 :=
  (val0_6_keep V0 main_call0_call0_call0_v1 (by decide)).trans (val0_5_main_call0_call0_call0_v1 V0)
theorem val0_6_main_call0_call0_call0_v95 : val0_6 V0 (no_index (Proc.devRef .tc main_call0_call0_call0_v95)) = res_main_call0_call0_call0_v95 V0 := by
  unfold val0_6
  simp only [ops_5, TRef.binary, TRef.nullary, TRef.unary, TRef.toBuf, TRef.ofBuf, cast_eq]
  after_results_simp
  simp only [val0_5_main_call0_call0_call0_v78, val0_5_main_call0_call0_call0_v76, val0_5_main_call0_call0_call0_v74] <;> rfl
theorem val0_6_main_call0_call0_call0_v101 : val0_6 V0 (no_index (Proc.devRef .tc main_call0_call0_call0_v101)) = xori (res_main_call0_call0_call0_v95 V0) (ori (Host.shli (res_main_call0_call0_call0_v94 V0) (broadcastInDim S8192x2048 ![] bcast_S_S8192x2048 (constantI S_ 32 6#32))) (Host.shrui (res_main_call0_call0_call0_v94 V0) (broadcastInDim S8192x2048 ![] bcast_S_S8192x2048 (constantI S_ 32 26#32)))) := by
  unfold val0_6
  simp only [ops_5, TRef.binary, TRef.nullary, TRef.unary, TRef.toBuf, TRef.ofBuf, cast_eq]
  after_results_simp
  simp only [val0_5_main_call0_call0_call0_v78, val0_5_main_call0_call0_call0_v76, val0_5_main_call0_call0_call0_v74] <;> rfl
theorem val0_6_main_call0_call0_call0_v102 : val0_6 V0 (no_index (Proc.devRef .tc main_call0_call0_call0_v102)) = broadcastInDim S8192x2048 ![] bcast_S_S8192x2048 (res_main_call0_call0_v5 V0) := by
  unfold val0_6
  simp only [ops_5, TRef.binary, TRef.nullary, TRef.unary, TRef.toBuf, TRef.ofBuf, cast_eq]
  after_results_simp
  simp only [val0_5_main_call0_call0_v5] <;> rfl

/-- The device's buffer contents after @main's first 210 operations. -/
def val0_7 : Valuation τ sig (Elt F) := after ops_6 (val0_6 V0)
/-- The buffers that window `ops_6`'s operations write. -/
abbrev ops_6_W : List (Ref sig .tc) := [main_call0_call0_call0_v103, main_call0_call0_call0_v104, main_call0_call0_call0_v105, main_call0_call0_call0_c_26, main_call0_call0_call0_v106, main_call0_call0_call0_v107, main_call0_call0_call0_v108, main_call0_call0_call0_c_27, main_call0_call0_call0_v109, main_call0_call0_call0_v110, main_call0_call0_call0_c_28, main_call0_call0_call0_v111, main_call0_call0_call0_v112, main_call0_call0_call0_v113, main_call0_call0_call0_v114, main_call0_call0_call0_v115, main_call0_call0_call0_c_29, main_call0_call0_call0_v116, main_call0_call0_call0_v117, main_call0_call0_call0_c_30, main_call0_call0_call0_v118, main_call0_call0_call0_v119, main_call0_call0_call0_v120, main_call0_call0_call0_v121, main_call0_call0_call0_v122, main_call0_call0_call0_c_31, main_call0_call0_call0_v123, main_call0_call0_call0_v124, main_call0_call0_call0_c_32, main_call0_call0_call0_v125]
theorem ops_6_writes : (ops_6 : List (HloOp τ sig (Elt F))).Forall fun op => op.writes ⊆ (ops_6_W.map (Proc.devRef (τ := τ) .tc)).toFinset := by
  simp only [List.Forall, nullary_writes, unary_writes, binary_writes, ternary_writes, reshape_writes]
  and_intros <;> exact writes_mem (by decide)
/-- A buffer that window `ops_6` does not write keeps its contents through it. -/
theorem val0_7_keep (r : Ref sig .tc) (h : r ∉ ops_6_W) :
    val0_7 V0 (Proc.devRef .tc r) = val0_6 V0 (Proc.devRef .tc r) :=
  after_of_writes_sub ops_6 _ ops_6_writes h
theorem val0_7_main_arg0 : val0_7 V0 (no_index (Proc.devRef .tc main_arg0)) = V0 (Proc.devRef .tc main_arg0) :=
  (val0_7_keep V0 main_arg0 (by decide)).trans (val0_6_main_arg0 V0)
theorem val0_7_main_arg1 : val0_7 V0 (no_index (Proc.devRef .tc main_arg1)) = V0 (Proc.devRef .tc main_arg1) :=
  (val0_7_keep V0 main_arg1 (by decide)).trans (val0_6_main_arg1 V0)
theorem val0_7_main_arg2 : val0_7 V0 (no_index (Proc.devRef .tc main_arg2)) = V0 (Proc.devRef .tc main_arg2) :=
  (val0_7_keep V0 main_arg2 (by decide)).trans (val0_6_main_arg2 V0)
theorem val0_7_main_arg3 : val0_7 V0 (no_index (Proc.devRef .tc main_arg3)) = V0 (Proc.devRef .tc main_arg3) :=
  (val0_7_keep V0 main_arg3 (by decide)).trans (val0_6_main_arg3 V0)
theorem val0_7_main_arg4 : val0_7 V0 (no_index (Proc.devRef .tc main_arg4)) = V0 (Proc.devRef .tc main_arg4) :=
  (val0_7_keep V0 main_arg4 (by decide)).trans (val0_6_main_arg4 V0)
theorem val0_7_main_arg5 : val0_7 V0 (no_index (Proc.devRef .tc main_arg5)) = V0 (Proc.devRef .tc main_arg5) :=
  (val0_7_keep V0 main_arg5 (by decide)).trans (val0_6_main_arg5 V0)
theorem val0_7_main_v0 : val0_7 V0 (no_index (Proc.devRef .tc main_v0)) = res_main_v0 V0 :=
  (val0_7_keep V0 main_v0 (by decide)).trans (val0_6_main_v0 V0)
theorem val0_7_main_v1 : val0_7 V0 (no_index (Proc.devRef .tc main_v1)) = res_main_v1 V0 :=
  (val0_7_keep V0 main_v1 (by decide)).trans (val0_6_main_v1 V0)
theorem val0_7_main_v5 : val0_7 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) :=
  (val0_7_keep V0 main_v5 (by decide)).trans (val0_6_main_v5 V0)
theorem val0_7_main_v20 : val0_7 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) :=
  (val0_7_keep V0 main_v20 (by decide)).trans (val0_6_main_v20 V0)
theorem val0_7_main_call0_call0_v2 : val0_7 V0 (no_index (Proc.devRef .tc main_call0_call0_v2)) = res_main_call0_call0_v2 V0 :=
  (val0_7_keep V0 main_call0_call0_v2 (by decide)).trans (val0_6_main_call0_call0_v2 V0)
theorem val0_7_main_call0_call0_v3 : val0_7 V0 (no_index (Proc.devRef .tc main_call0_call0_v3)) = broadcastInDim S1x1 ![] bcast_S_S1x1 (id (constant S_ .f32 0x3F800000#32)) :=
  (val0_7_keep V0 main_call0_call0_v3 (by decide)).trans (val0_6_main_call0_call0_v3 V0)
theorem val0_7_main_call0_call0_v5 : val0_7 V0 (no_index (Proc.devRef .tc main_call0_call0_v5)) = res_main_call0_call0_v5 V0 :=
  (val0_7_keep V0 main_call0_call0_v5 (by decide)).trans (val0_6_main_call0_call0_v5 V0)
theorem val0_7_main_call0_call0_v7 : val0_7 V0 (no_index (Proc.devRef .tc main_call0_call0_v7)) = res_main_call0_call0_v7 V0 :=
  (val0_7_keep V0 main_call0_call0_v7 (by decide)).trans (val0_6_main_call0_call0_v7 V0)
theorem val0_7_main_call0_call0_call0_v1 : val0_7 V0 (no_index (Proc.devRef .tc main_call0_call0_call0_v1)) = res_main_call0_call0_call0_v1 V0 :=
  (val0_7_keep V0 main_call0_call0_call0_v1 (by decide)).trans (val0_6_main_call0_call0_call0_v1 V0)
theorem val0_7_main_call0_call0_call0_v121 : val0_7 V0 (no_index (Proc.devRef .tc main_call0_call0_call0_v121)) = res_main_call0_call0_call0_v121 V0 := by
  unfold val0_7
  simp only [ops_6, TRef.binary, TRef.nullary, TRef.unary, TRef.toBuf, TRef.ofBuf, cast_eq]
  after_results_simp
  simp only [val0_6_main_call0_call0_v7, val0_6_main_call0_call0_call0_v101, val0_6_main_call0_call0_call0_v102, val0_6_main_call0_call0_call0_v95] <;> rfl
theorem val0_7_main_call0_call0_call0_v122 : val0_7 V0 (no_index (Proc.devRef .tc main_call0_call0_call0_v122)) = res_main_call0_call0_call0_v122 V0 := by
  unfold val0_7
  simp only [ops_6, TRef.binary, TRef.nullary, TRef.unary, TRef.toBuf, TRef.ofBuf, cast_eq]
  after_results_simp
  simp only [val0_6_main_call0_call0_v7, val0_6_main_call0_call0_call0_v101, val0_6_main_call0_call0_call0_v102, val0_6_main_call0_call0_call0_v95] <;> rfl
theorem val0_7_main_call0_call0_call0_v124 : val0_7 V0 (no_index (Proc.devRef .tc main_call0_call0_call0_v124)) = Host.shli (res_main_call0_call0_call0_v121 V0) (broadcastInDim S8192x2048 ![] bcast_S_S8192x2048 (constantI S_ 32 16#32)) := by
  unfold val0_7
  simp only [ops_6, TRef.binary, TRef.nullary, TRef.unary, TRef.toBuf, TRef.ofBuf, cast_eq]
  after_results_simp
  simp only [val0_6_main_call0_call0_v7, val0_6_main_call0_call0_call0_v101, val0_6_main_call0_call0_call0_v102, val0_6_main_call0_call0_call0_v95] <;> rfl
theorem val0_7_main_call0_call0_call0_v125 : val0_7 V0 (no_index (Proc.devRef .tc main_call0_call0_call0_v125)) = broadcastInDim S8192x2048 ![] bcast_S_S8192x2048 (constantI S_ 32 16#32) := by
  unfold val0_7
  simp only [ops_6, TRef.binary, TRef.nullary, TRef.unary, TRef.toBuf, TRef.ofBuf, cast_eq]
  after_results_simp
  all_goals rfl

/-- The device's buffer contents after @main's first 240 operations. -/
def val0_8 : Valuation τ sig (Elt F) := after ops_7 (val0_7 V0)
/-- The buffers that window `ops_7`'s operations write. -/
abbrev ops_7_W : List (Ref sig .tc) := [main_call0_call0_call0_v126, main_call0_call0_call0_v127, main_call0_call0_call0_v128, main_call0_call0_call0_v129, main_call0_call0_call0_c_33, main_call0_call0_call0_v130, main_call0_call0_call0_v131, main_call0_call0_call0_c_34, main_call0_call0_call0_v132, main_call0_call0_call0_v133, main_call0_call0_call0_v134, main_call0_call0_call0_v135, main_call0_call0_call0_v136, main_call0_call0_call0_v137, main_call0_call0_call0_v138, main_call0_call0_call0_v139, main_call0_call0_call0_c_35, main_call0_call0_call0_v140, main_call0_call0_call0_v141, main_call0_call0_call0_v142, main_call0_call0_call0_c_36, main_call0_call0_call0_v143, main_call0_call0_call0_v144, main_call0_call0_call0_c_37, main_call0_call0_call0_v145, main_call0_call0_call0_v146, main_call0_call0_call0_v147, main_call0_call0_call0_v148, main_call0_call0_call0_v149, main_call0_call0_call0_c_38]
theorem ops_7_writes : (ops_7 : List (HloOp τ sig (Elt F))).Forall fun op => op.writes ⊆ (ops_7_W.map (Proc.devRef (τ := τ) .tc)).toFinset := by
  simp only [List.Forall, nullary_writes, unary_writes, binary_writes, ternary_writes, reshape_writes]
  and_intros <;> exact writes_mem (by decide)
/-- A buffer that window `ops_7` does not write keeps its contents through it. -/
theorem val0_8_keep (r : Ref sig .tc) (h : r ∉ ops_7_W) :
    val0_8 V0 (Proc.devRef .tc r) = val0_7 V0 (Proc.devRef .tc r) :=
  after_of_writes_sub ops_7 _ ops_7_writes h
theorem val0_8_main_arg0 : val0_8 V0 (no_index (Proc.devRef .tc main_arg0)) = V0 (Proc.devRef .tc main_arg0) :=
  (val0_8_keep V0 main_arg0 (by decide)).trans (val0_7_main_arg0 V0)
theorem val0_8_main_arg1 : val0_8 V0 (no_index (Proc.devRef .tc main_arg1)) = V0 (Proc.devRef .tc main_arg1) :=
  (val0_8_keep V0 main_arg1 (by decide)).trans (val0_7_main_arg1 V0)
theorem val0_8_main_arg2 : val0_8 V0 (no_index (Proc.devRef .tc main_arg2)) = V0 (Proc.devRef .tc main_arg2) :=
  (val0_8_keep V0 main_arg2 (by decide)).trans (val0_7_main_arg2 V0)
theorem val0_8_main_arg3 : val0_8 V0 (no_index (Proc.devRef .tc main_arg3)) = V0 (Proc.devRef .tc main_arg3) :=
  (val0_8_keep V0 main_arg3 (by decide)).trans (val0_7_main_arg3 V0)
theorem val0_8_main_arg4 : val0_8 V0 (no_index (Proc.devRef .tc main_arg4)) = V0 (Proc.devRef .tc main_arg4) :=
  (val0_8_keep V0 main_arg4 (by decide)).trans (val0_7_main_arg4 V0)
theorem val0_8_main_arg5 : val0_8 V0 (no_index (Proc.devRef .tc main_arg5)) = V0 (Proc.devRef .tc main_arg5) :=
  (val0_8_keep V0 main_arg5 (by decide)).trans (val0_7_main_arg5 V0)
theorem val0_8_main_v0 : val0_8 V0 (no_index (Proc.devRef .tc main_v0)) = res_main_v0 V0 :=
  (val0_8_keep V0 main_v0 (by decide)).trans (val0_7_main_v0 V0)
theorem val0_8_main_v1 : val0_8 V0 (no_index (Proc.devRef .tc main_v1)) = res_main_v1 V0 :=
  (val0_8_keep V0 main_v1 (by decide)).trans (val0_7_main_v1 V0)
theorem val0_8_main_v5 : val0_8 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) :=
  (val0_8_keep V0 main_v5 (by decide)).trans (val0_7_main_v5 V0)
theorem val0_8_main_v20 : val0_8 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) :=
  (val0_8_keep V0 main_v20 (by decide)).trans (val0_7_main_v20 V0)
theorem val0_8_main_call0_call0_v2 : val0_8 V0 (no_index (Proc.devRef .tc main_call0_call0_v2)) = res_main_call0_call0_v2 V0 :=
  (val0_8_keep V0 main_call0_call0_v2 (by decide)).trans (val0_7_main_call0_call0_v2 V0)
theorem val0_8_main_call0_call0_v3 : val0_8 V0 (no_index (Proc.devRef .tc main_call0_call0_v3)) = broadcastInDim S1x1 ![] bcast_S_S1x1 (id (constant S_ .f32 0x3F800000#32)) :=
  (val0_8_keep V0 main_call0_call0_v3 (by decide)).trans (val0_7_main_call0_call0_v3 V0)
theorem val0_8_main_call0_call0_v5 : val0_8 V0 (no_index (Proc.devRef .tc main_call0_call0_v5)) = res_main_call0_call0_v5 V0 :=
  (val0_8_keep V0 main_call0_call0_v5 (by decide)).trans (val0_7_main_call0_call0_v5 V0)
theorem val0_8_main_call0_call0_call0_v1 : val0_8 V0 (no_index (Proc.devRef .tc main_call0_call0_call0_v1)) = res_main_call0_call0_call0_v1 V0 :=
  (val0_8_keep V0 main_call0_call0_call0_v1 (by decide)).trans (val0_7_main_call0_call0_call0_v1 V0)
theorem val0_8_main_call0_call0_call0_v148 : val0_8 V0 (no_index (Proc.devRef .tc main_call0_call0_call0_v148)) = res_main_call0_call0_call0_v148 V0 := by
  unfold val0_8
  simp only [ops_7, TRef.binary, TRef.nullary, TRef.unary, TRef.toBuf, TRef.ofBuf, cast_eq]
  after_results_simp
  simp only [val0_7_main_call0_call0_call0_v1, val0_7_main_call0_call0_call0_v125, val0_7_main_call0_call0_call0_v121, val0_7_main_call0_call0_call0_v124, val0_7_main_call0_call0_call0_v122, val0_7_main_call0_call0_v7] <;> rfl
theorem val0_8_main_call0_call0_call0_v149 : val0_8 V0 (no_index (Proc.devRef .tc main_call0_call0_call0_v149)) = res_main_call0_call0_call0_v149 V0 := by
  unfold val0_8
  simp only [ops_7, TRef.binary, TRef.nullary, TRef.unary, TRef.toBuf, TRef.ofBuf, cast_eq]
  after_results_simp
  simp only [val0_7_main_call0_call0_call0_v1, val0_7_main_call0_call0_call0_v125, val0_7_main_call0_call0_call0_v121, val0_7_main_call0_call0_call0_v124, val0_7_main_call0_call0_call0_v122, val0_7_main_call0_call0_v7] <;> rfl
theorem val0_8_main_call0_call0_call0_c_38 : val0_8 V0 (no_index (Proc.devRef .tc main_call0_call0_call0_c_38)) = constantI S_ 32 15#32 := by
  unfold val0_8
  simp only [ops_7, TRef.binary, TRef.nullary, TRef.unary, TRef.toBuf, TRef.ofBuf, cast_eq]
  after_results_simp
  all_goals rfl

/-- The device's buffer contents after @main's first 270 operations. -/
def val0_9 : Valuation τ sig (Elt F) := after ops_8 (val0_8 V0)
/-- The buffers that window `ops_8`'s operations write. -/
abbrev ops_8_W : List (Ref sig .tc) := [main_call0_call0_call0_v150, main_call0_call0_call0_v151, main_call0_call0_call0_c_39, main_call0_call0_call0_v152, main_call0_call0_call0_v153, main_call0_call0_call0_v154, main_call0_call0_call0_v155, main_call0_call0_call0_v156, main_call0_call0_call0_c_40, main_call0_call0_call0_v157, main_call0_call0_call0_v158, main_call0_call0_call0_c_41, main_call0_call0_call0_v159, main_call0_call0_call0_v160, main_call0_call0_call0_v161, main_call0_call0_call0_v162, main_call0_call0_call0_v163, main_call0_call0_call0_c_42, main_call0_call0_call0_v164, main_call0_call0_call0_v165, main_call0_call0_call0_c_43, main_call0_call0_call0_v166, main_call0_call0_call0_v167, main_call0_call0_call0_v168, main_call0_call0_call0_v169, main_call0_call0_call0_v170, main_call0_call0_v19_0, main_call0_call0_call0_v172, main_call0_call0_call0_v173, main_call0_call0_call0_c_44]
theorem ops_8_writes : (ops_8 : List (HloOp τ sig (Elt F))).Forall fun op => op.writes ⊆ (ops_8_W.map (Proc.devRef (τ := τ) .tc)).toFinset := by
  simp only [List.Forall, nullary_writes, unary_writes, binary_writes, ternary_writes, reshape_writes]
  and_intros <;> exact writes_mem (by decide)
/-- A buffer that window `ops_8` does not write keeps its contents through it. -/
theorem val0_9_keep (r : Ref sig .tc) (h : r ∉ ops_8_W) :
    val0_9 V0 (Proc.devRef .tc r) = val0_8 V0 (Proc.devRef .tc r) :=
  after_of_writes_sub ops_8 _ ops_8_writes h
theorem val0_9_main_arg0 : val0_9 V0 (no_index (Proc.devRef .tc main_arg0)) = V0 (Proc.devRef .tc main_arg0) :=
  (val0_9_keep V0 main_arg0 (by decide)).trans (val0_8_main_arg0 V0)
theorem val0_9_main_arg1 : val0_9 V0 (no_index (Proc.devRef .tc main_arg1)) = V0 (Proc.devRef .tc main_arg1) :=
  (val0_9_keep V0 main_arg1 (by decide)).trans (val0_8_main_arg1 V0)
theorem val0_9_main_arg2 : val0_9 V0 (no_index (Proc.devRef .tc main_arg2)) = V0 (Proc.devRef .tc main_arg2) :=
  (val0_9_keep V0 main_arg2 (by decide)).trans (val0_8_main_arg2 V0)
theorem val0_9_main_arg3 : val0_9 V0 (no_index (Proc.devRef .tc main_arg3)) = V0 (Proc.devRef .tc main_arg3) :=
  (val0_9_keep V0 main_arg3 (by decide)).trans (val0_8_main_arg3 V0)
theorem val0_9_main_arg4 : val0_9 V0 (no_index (Proc.devRef .tc main_arg4)) = V0 (Proc.devRef .tc main_arg4) :=
  (val0_9_keep V0 main_arg4 (by decide)).trans (val0_8_main_arg4 V0)
theorem val0_9_main_arg5 : val0_9 V0 (no_index (Proc.devRef .tc main_arg5)) = V0 (Proc.devRef .tc main_arg5) :=
  (val0_9_keep V0 main_arg5 (by decide)).trans (val0_8_main_arg5 V0)
theorem val0_9_main_v0 : val0_9 V0 (no_index (Proc.devRef .tc main_v0)) = res_main_v0 V0 :=
  (val0_9_keep V0 main_v0 (by decide)).trans (val0_8_main_v0 V0)
theorem val0_9_main_v1 : val0_9 V0 (no_index (Proc.devRef .tc main_v1)) = res_main_v1 V0 :=
  (val0_9_keep V0 main_v1 (by decide)).trans (val0_8_main_v1 V0)
theorem val0_9_main_v5 : val0_9 V0 (no_index (Proc.devRef .tc main_v5)) = addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3)))) :=
  (val0_9_keep V0 main_v5 (by decide)).trans (val0_8_main_v5 V0)
theorem val0_9_main_v20 : val0_9 V0 (no_index (Proc.devRef .tc main_v20)) = broadcastInDim S1x2048 ![1] bcast_S2048_S1x2048_1 (Host.exp (mulf (broadcastInDim S2048 ![] bcast_S_S2048 (constant S_ .f32 0xBF000000#32)) (mulf (res_main_v8 V0) (res_main_v8 V0)))) :=
  (val0_9_keep V0 main_v20 (by decide)).trans (val0_8_main_v20 V0)
theorem val0_9_main_call0_call0_v2 : val0_9 V0 (no_index (Proc.devRef .tc main_call0_call0_v2)) = res_main_call0_call0_v2 V0 :=
  (val0_9_keep V0 main_call0_call0_v2 (by decide)).trans (val0_8_main_call0_call0_v2 V0)
theorem val0_9_main_call0_call0_v3 : val0_9 V0 (no_index (Proc.devRef .tc main_call0_call0_v3)) = broadcastInDim S1x1 ![] bcast_S_S1x1 (id (constant S_ .f32 0x3F800000#32)) :=
  (val0_9_keep V0 main_call0_call0_v3 (by decide)).trans (val0_8_main_call0_call0_v3 V0)
theorem val0_9_main_call0_call0_v19_0 : val0_9 V0 (no_index (Proc.devRef .tc main_call0_call0_v19_0)) = addi (res_main_call0_call0_call0_v163 V0) (broadcastInDim S8192x2048 ![] bcast_S_S8192x2048 (res_main_call0_call0_call0_v1 V0)) := by
  unfold val0_9
  simp only [ops_8, TRef.binary, TRef.nullary, TRef.unary, TRef.toBuf, TRef.ofBuf, cast_eq]
  after_results_simp
  simp only [val0_8_main_call0_call0_call0_v1, val0_8_main_call0_call0_call0_v148, val0_8_main_call0_call0_call0_c_38, val0_8_main_call0_call0_call0_v149] <;> rfl
theorem val0_9_main_call0_call0_call0_v173 : val0_9 V0 (no_index (Proc.devRef .tc main_call0_call0_call0_v173)) = addi (xori (res_main_call0_call0_call0_v163 V0) (ori (Host.shli (res_main_call0_call0_call0_v162 V0) (broadcastInDim S8192x2048 ![] bcast_S_S8192x2048 (constantI S_ 32 6#32))) (Host.shrui (res_main_call0_call0_call0_v162 V0) (broadcastInDim S8192x2048 ![] bcast_S_S8192x2048 (constantI S_ 32 26#32))))) (broadcastInDim S8192x2048 ![] bcast_S_S8192x2048 (res_main_call0_call0_v5 V0)) := by
  unfold val0_9
  simp only [ops_8, TRef.binary, TRef.nullary, TRef.unary, TRef.toBuf, TRef.ofBuf, cast_eq]
  after_results_simp
  simp only [val0_8_main_call0_call0_v5, val0_8_main_call0_call0_call0_v148, val0_8_main_call0_call0_call0_c_38, val0_8_main_call0_call0_call0_v149] <;> rfl
theorem val0_9_main_call0_call0_call0_c_44 : val0_9 V0 (no_index (Proc.devRef .tc main_call0_call0_call0_c_44)) = constantI S_ 32 5#32 := by
  unfold val0_9
  simp only [ops_8, TRef.binary, TRef.nullary, TRef.unary, TRef.toBuf, TRef.ofBuf, cast_eq]
  after_results_simp
  all_goals rfl

/-- The device's buffer contents after @main's first 300 operations. -/
def val0_10 : Valuation τ sig (Elt F) := after ops_9 (val0_9 V0)
/-- The buffers that window `ops_9`'s operations write. -/
abbrev ops_9_W : List (Ref sig .tc) := [main_call0_call0_call0_v174, main_call0_call0_v19_1, main_call0_call0_v20, main_call0_call0_c_2, main_call0_call0_v21, main_call0_call0_v22, main_call0_call0_c_3, main_call0_call0_v23, main_call0_call0_v24, main_call0_call0_v25, main_call0_call0_cst, main_call0_call0_v26, main_call0_call0_v27, main_call0_call0_v28, main_call0_call0_v29, main_call0_call0_v30, main_call0_call0_v31, main_call0_call0_v32, main_call0_call0_v33, main_call0_v0, main_call0_v1, main_v21, main_v22, main_v23, main_v24, main_v25, main_v26, main_v27, main_v28, main_cst_3]
theorem ops_9_writes : (ops_9 : List (HloOp τ sig (Elt F))).Forall fun op => op.writes ⊆ (ops_9_W.map (Proc.devRef (τ := τ) .tc)).toFinset := by
  simp only [List.Forall, nullary_writes, unary_writes, binary_writes, ternary_writes, reshape_writes]
  and_intros <;> exact writes_mem (by decide)
/-- A buffer that window `ops_9` does not write keeps its contents through it. -/
theorem val0_10_keep (r : Ref sig .tc) (h : r ∉ ops_9_W) :
    val0_10 V0 (Proc.devRef .tc r) = val0_9 V0 (Proc.devRef .tc r) :=
  after_of_writes_sub ops_9 _ ops_9_writes h
theorem val0_10_main_arg0 : val0_10 V0 (no_index (Proc.devRef .tc main_arg0)) = V0 (Proc.devRef .tc main_arg0) :=
  (val0_10_keep V0 main_arg0 (by decide)).trans (val0_9_main_arg0 V0)
theorem val0_10_main_arg1 : val0_10 V0 (no_index (Proc.devRef .tc main_arg1)) = V0 (Proc.devRef .tc main_arg1) :=
  (val0_10_keep V0 main_arg1 (by decide)).trans (val0_9_main_arg1 V0)
theorem val0_10_main_arg2 : val0_10 V0 (no_index (Proc.devRef .tc main_arg2)) = V0 (Proc.devRef .tc main_arg2) :=
  (val0_10_keep V0 main_arg2 (by decide)).trans (val0_9_main_arg2 V0)
theorem val0_10_main_arg3 : val0_10 V0 (no_index (Proc.devRef .tc main_arg3)) = V0 (Proc.devRef .tc main_arg3) :=
  (val0_10_keep V0 main_arg3 (by decide)).trans (val0_9_main_arg3 V0)
theorem val0_10_main_arg4 : val0_10 V0 (no_index (Proc.devRef .tc main_arg4)) = V0 (Proc.devRef .tc main_arg4) :=
  (val0_10_keep V0 main_arg4 (by decide)).trans (val0_9_main_arg4 V0)
theorem val0_10_main_arg5 : val0_10 V0 (no_index (Proc.devRef .tc main_arg5)) = V0 (Proc.devRef .tc main_arg5) :=
  (val0_10_keep V0 main_arg5 (by decide)).trans (val0_9_main_arg5 V0)
theorem val0_10_main_v1 : val0_10 V0 (no_index (Proc.devRef .tc main_v1)) = res_main_v1 V0 :=
  (val0_10_keep V0 main_v1 (by decide)).trans (val0_9_main_v1 V0)
theorem val0_10_main_v28 : val0_10 V0 (no_index (Proc.devRef .tc main_v28)) = addf (addf (Host.dotGeneral dot_S8192x2048_S2048x768_S8192x768_1_0_0_1_n_n none (mulf (addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3))))) (uitofp .f32 (cmpf .olt (maximumf (broadcastInDim S8192x2048 ![0, 1] bcast_S1x1_S8192x2048_0_1 (res_main_call0_call0_v2 V0)) (addf (mulf (subf (bitcastToFloat (F := F) .f32 (ori (Host.shrui (xori (addi (res_main_call0_call0_call0_v163 V0) (broadcastInDim S8192x2048 ![] bcast_S_S8192x2048 (res_main_call0_call0_call0_v1 V0))) (addi (addi (xori (res_main_call0_call0_call0_v163 V0) (ori (Host.shli (res_main_call0_call0_call0_v162 V0) (broadcastInDim S8192x2048 ![] bcast_S_S8192x2048 (constantI S_ 32 6#32))) (Host.shrui (res_main_call0_call0_call0_v162 V0) (broadcastInDim S8192x2048 ![] bcast_S_S8192x2048 (constantI S_ 32 26#32))))) (broadcastInDim S8192x2048 ![] bcast_S_S8192x2048 (res_main_call0_call0_v5 V0))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (res_main_call0_call0_v2 V0)))) (broadcastInDim S8192x2048 ![0, 1] bcast_S1x1_S8192x2048_0_1 (res_main_call0_call0_v2 V0)))) (broadcastInDim S8192x2048 ![0, 1] bcast_S1x2048_S8192x2048_0_1 (broadcastInDim S1x2048 ![1] bcast_S2048_S1x2048_1 (Host.exp (mulf (broadcastInDim S2048 ![] bcast_S_S2048 (constant S_ .f32 0xBF000000#32)) (mulf (res_main_v8 V0) (res_main_v8 V0))))))))) (V0 (Proc.devRef .tc main_arg4))) (broadcastInDim S8192x768 ![0, 1] bcast_S1x768_S8192x768_0_1 (broadcastInDim S1x768 ![1] bcast_S768_S1x768_1 (V0 (Proc.devRef .tc main_arg5))))) (res_main_v0 V0) := by
  unfold val0_10
  simp only [ops_9, TRef.binary, TRef.nullary, TRef.unary, TRef.toBuf, TRef.ofBuf, cast_eq]
  after_results_simp
  simp only [val0_9_main_v0, val0_9_main_arg5, val0_9_main_arg4, val0_9_main_v20, val0_9_main_call0_call0_v2, val0_9_main_call0_call0_v3, val0_9_main_call0_call0_call0_c_44, val0_9_main_call0_call0_call0_v173, val0_9_main_call0_call0_v19_0, val0_9_main_v5] <;> rfl
theorem val0_10_main_cst_3 : val0_10 V0 (no_index (Proc.devRef .tc main_cst_3)) = constant S_ .f32 0x00000000#32 := by
  unfold val0_10
  simp only [ops_9, TRef.binary, TRef.nullary, TRef.unary, TRef.toBuf, TRef.ofBuf, cast_eq]
  after_results_simp
  all_goals rfl

/-- The device's buffer contents after @main's 315 operations. -/
def val1 : Valuation τ sig (Elt F) := after ops_10 (val0_10 V0)
/-- The buffers that window `ops_10`'s operations write. -/
abbrev ops_10_W : List (Ref sig .tc) := [main_v29, main_v30, main_v31, main_v32, main_cst_4, main_v33, main_v34, main_v35, main_cst_5, main_call1_v0, main_call1_v1, main_v36, main_cst_6, main_v37, main_v38]
theorem ops_10_writes : (ops_10 : List (HloOp τ sig (Elt F))).Forall fun op => op.writes ⊆ (ops_10_W.map (Proc.devRef (τ := τ) .tc)).toFinset := by
  simp only [List.Forall, nullary_writes, unary_writes, binary_writes, ternary_writes, reshape_writes]
  and_intros <;> exact writes_mem (by decide)
/-- A buffer that window `ops_10` does not write keeps its contents through it. -/
theorem val1_keep (r : Ref sig .tc) (h : r ∉ ops_10_W) :
    val1 V0 (Proc.devRef .tc r) = val0_10 V0 (Proc.devRef .tc r) :=
  after_of_writes_sub ops_10 _ ops_10_writes h
theorem val1_main_arg0 : val1 V0 (no_index (Proc.devRef .tc main_arg0)) = V0 (Proc.devRef .tc main_arg0) :=
  (val1_keep V0 main_arg0 (by decide)).trans (val0_10_main_arg0 V0)
theorem val1_main_arg1 : val1 V0 (no_index (Proc.devRef .tc main_arg1)) = V0 (Proc.devRef .tc main_arg1) :=
  (val1_keep V0 main_arg1 (by decide)).trans (val0_10_main_arg1 V0)
theorem val1_main_arg2 : val1 V0 (no_index (Proc.devRef .tc main_arg2)) = V0 (Proc.devRef .tc main_arg2) :=
  (val1_keep V0 main_arg2 (by decide)).trans (val0_10_main_arg2 V0)
theorem val1_main_arg3 : val1 V0 (no_index (Proc.devRef .tc main_arg3)) = V0 (Proc.devRef .tc main_arg3) :=
  (val1_keep V0 main_arg3 (by decide)).trans (val0_10_main_arg3 V0)
theorem val1_main_arg4 : val1 V0 (no_index (Proc.devRef .tc main_arg4)) = V0 (Proc.devRef .tc main_arg4) :=
  (val1_keep V0 main_arg4 (by decide)).trans (val0_10_main_arg4 V0)
theorem val1_main_arg5 : val1 V0 (no_index (Proc.devRef .tc main_arg5)) = V0 (Proc.devRef .tc main_arg5) :=
  (val1_keep V0 main_arg5 (by decide)).trans (val0_10_main_arg5 V0)
theorem val1_main_v28 : val1 V0 (no_index (Proc.devRef .tc main_v28)) = addf (addf (Host.dotGeneral dot_S8192x2048_S2048x768_S8192x768_1_0_0_1_n_n none (mulf (addf (Host.dotGeneral dot_S8192x768_S768x2048_S8192x2048_1_0_0_1_n_n none (res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3))))) (uitofp .f32 (cmpf .olt (maximumf (broadcastInDim S8192x2048 ![0, 1] bcast_S1x1_S8192x2048_0_1 (res_main_call0_call0_v2 V0)) (addf (mulf (subf (bitcastToFloat (F := F) .f32 (ori (Host.shrui (xori (addi (res_main_call0_call0_call0_v163 V0) (broadcastInDim S8192x2048 ![] bcast_S_S8192x2048 (res_main_call0_call0_call0_v1 V0))) (addi (addi (xori (res_main_call0_call0_call0_v163 V0) (ori (Host.shli (res_main_call0_call0_call0_v162 V0) (broadcastInDim S8192x2048 ![] bcast_S_S8192x2048 (constantI S_ 32 6#32))) (Host.shrui (res_main_call0_call0_call0_v162 V0) (broadcastInDim S8192x2048 ![] bcast_S_S8192x2048 (constantI S_ 32 26#32))))) (broadcastInDim S8192x2048 ![] bcast_S_S8192x2048 (res_main_call0_call0_v5 V0))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (res_main_call0_call0_v2 V0)))) (broadcastInDim S8192x2048 ![0, 1] bcast_S1x1_S8192x2048_0_1 (res_main_call0_call0_v2 V0)))) (broadcastInDim S8192x2048 ![0, 1] bcast_S1x2048_S8192x2048_0_1 (broadcastInDim S1x2048 ![1] bcast_S2048_S1x2048_1 (Host.exp (mulf (broadcastInDim S2048 ![] bcast_S_S2048 (constant S_ .f32 0xBF000000#32)) (mulf (res_main_v8 V0) (res_main_v8 V0))))))))) (V0 (Proc.devRef .tc main_arg4))) (broadcastInDim S8192x768 ![0, 1] bcast_S1x768_S8192x768_0_1 (broadcastInDim S1x768 ![1] bcast_S768_S1x768_1 (V0 (Proc.devRef .tc main_arg5))))) (res_main_v0 V0) :=
  (val1_keep V0 main_v28 (by decide)).trans (val0_10_main_v28 V0)
theorem val1_main_v38 : val1 V0 (no_index (Proc.devRef .tc main_v38)) = Host.divf (Host.reduceAdd (select (res_main_v30 V0) (broadcastInDim S8192x768 ![] bcast_S_S8192x768 (id (constant S_ .f32 0x00000000#32))) (mulf (res_main_v34 V0) (res_main_v34 V0))) (constant S_ .f32 0x00000000#32) reducesTo_S8192x768_S_d0_1 h_S_) (Host.reduceAdd (uitofp .f32 (noti (res_main_v30 V0))) (constant S_ .f32 0x00000000#32) reducesTo_S8192x768_S_d0_1 h_S_) := by
  unfold val1
  simp only [ops_10, TRef.ternary, TRef.unary, TRef.toBuf, TRef.ofBuf, cast_eq]
  after_results_simp
  simp only [val0_10_main_cst_3, val0_10_main_v1, val0_10_main_v28] <;> rfl

theorem after_ops : after ops V0 = val1 V0 := by
  simp only [ops, after_append]
  rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = Host.divf (Host.reduceAdd (select (res_main_v30 (launchContents m c)) (broadcastInDim S8192x768 ![] bcast_S_S8192x768 (id (constant S_ .f32 0x00000000#32))) (mulf (res_main_v34 (launchContents m c)) (res_main_v34 (launchContents m c)))) (constant S_ .f32 0x00000000#32) reducesTo_S8192x768_S_d0_1 h_S_) (Host.reduceAdd (uitofp .f32 (noti (res_main_v30 (launchContents m c)))) (constant S_ .f32 0x00000000#32) reducesTo_S8192x768_S_d0_1 h_S_)
      ∧ r.2.mem ((c.tc : Thread nD τ).loc main_v28) = addf (addf (Host.dotGeneral dot_S8192x2048_S2048x768_S8192x768_1_0_0_1_n_n none (mulf (addf (Host.dotGeneral dot_S8192x768_S768x2048_S8192x2048_1_0_0_1_n_n none (res_main_v0 (launchContents m c)) ((launchContents m c) (Proc.devRef .tc main_arg2))) (broadcastInDim S8192x2048 ![0, 1] bcast_S1x2048_S8192x2048_0_1 (broadcastInDim S1x2048 ![1] bcast_S2048_S1x2048_1 ((launchContents m c) (Proc.devRef .tc main_arg3))))) (uitofp .f32 (cmpf .olt (maximumf (broadcastInDim S8192x2048 ![0, 1] bcast_S1x1_S8192x2048_0_1 (res_main_call0_call0_v2 (launchContents m c))) (addf (mulf (subf (bitcastToFloat (F := F) .f32 (ori (Host.shrui (xori (addi (res_main_call0_call0_call0_v163 (launchContents m c)) (broadcastInDim S8192x2048 ![] bcast_S_S8192x2048 (res_main_call0_call0_call0_v1 (launchContents m c)))) (addi (addi (xori (res_main_call0_call0_call0_v163 (launchContents m c)) (ori (Host.shli (res_main_call0_call0_call0_v162 (launchContents m c)) (broadcastInDim S8192x2048 ![] bcast_S_S8192x2048 (constantI S_ 32 6#32))) (Host.shrui (res_main_call0_call0_call0_v162 (launchContents m c)) (broadcastInDim S8192x2048 ![] bcast_S_S8192x2048 (constantI S_ 32 26#32))))) (broadcastInDim S8192x2048 ![] bcast_S_S8192x2048 (res_main_call0_call0_v5 (launchContents m c)))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (res_main_call0_call0_v2 (launchContents m c))))) (broadcastInDim S8192x2048 ![0, 1] bcast_S1x1_S8192x2048_0_1 (res_main_call0_call0_v2 (launchContents m c))))) (broadcastInDim S8192x2048 ![0, 1] bcast_S1x2048_S8192x2048_0_1 (broadcastInDim S1x2048 ![1] bcast_S2048_S1x2048_1 (Host.exp (mulf (broadcastInDim S2048 ![] bcast_S_S2048 (constant S_ .f32 0xBF000000#32)) (mulf (res_main_v8 (launchContents m c)) (res_main_v8 (launchContents m c)))))))))) ((launchContents m c) (Proc.devRef .tc main_arg4))) (broadcastInDim S8192x768 ![0, 1] bcast_S1x768_S8192x768_0_1 (broadcastInDim S1x768 ![1] bcast_S768_S1x768_1 ((launchContents m c) (Proc.devRef .tc main_arg5))))) (res_main_v0 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v38).trans ((congrFun (after_ops (launchContents m c)) (Proc.devRef .tc main_v38)).trans (val1_main_v38 (launchContents m c))),
      (h c main_v28).trans ((congrFun (after_ops (launchContents m c)) (Proc.devRef .tc main_v28)).trans (val1_main_v28 (launchContents m c))),
      (h c main_arg0).trans ((congrFun (after_ops (launchContents m c)) (Proc.devRef .tc main_arg0)).trans (val1_main_arg0 (launchContents m c))),
      (h c main_arg1).trans ((congrFun (after_ops (launchContents m c)) (Proc.devRef .tc main_arg1)).trans (val1_main_arg1 (launchContents m c))),
      (h c main_arg2).trans ((congrFun (after_ops (launchContents m c)) (Proc.devRef .tc main_arg2)).trans (val1_main_arg2 (launchContents m c))),
      (h c main_arg3).trans ((congrFun (after_ops (launchContents m c)) (Proc.devRef .tc main_arg3)).trans (val1_main_arg3 (launchContents m c))),
      (h c main_arg4).trans ((congrFun (after_ops (launchContents m c)) (Proc.devRef .tc main_arg4)).trans (val1_main_arg4 (launchContents m c))),
      (h c main_arg5).trans ((congrFun (after_ops (launchContents m c)) (Proc.devRef .tc main_arg5)).trans (val1_main_arg5 (launchContents m c)))⟩)
    (run_seq scopedRefs_eq scopedSems_eq defs main (fun _ => ops) main_eq (fun _ => ops_sub) m ρ fun _ => ops_fresh)

end Cert.ReferenceIdeal.Value

end
-- ==== Proof.RefReadA.lean ====
/- The reference program one operation at a time, first part: `val_b` is what the operation writing `b` computes from the arguments it depends on, `val_b_apply` that value at an index. -/
module

public import proofs.«01_k».proof.Proof.Gen.ReferenceIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S4x2048x768, .f32⟩ : BufTy).Contents (Elt F)) : (⟨S8192x768, .f32⟩ : BufTy).Contents (Elt F) :=
  shapeCast _ (x0) shapeCasts_S4x2048x768_S8192x768
abbrev idx_main_v0 (i : S8192x768.Idx) : S4x2048x768.Idx := fun a => match a with
  | ⟨0, _⟩ => ⟨((i 0).val * 768 + (i 1).val) / 1572864, by have h0 : (i 0).val < 8192 := (i 0).isLt; have h1 : (i 1).val < 768 := (i 1).isLt; show ((i 0).val * 768 + (i 1).val) / 1572864 < 4; omega⟩
  | ⟨1, _⟩ => ⟨((i 0).val * 768 + (i 1).val) / 768 % 2048, by have h0 : (i 0).val < 8192 := (i 0).isLt; have h1 : (i 1).val < 768 := (i 1).isLt; show ((i 0).val * 768 + (i 1).val) / 768 % 2048 < 2048; omega⟩
  | ⟨2, _⟩ => ⟨((i 0).val * 768 + (i 1).val) % 768, by have h0 : (i 0).val < 8192 := (i 0).isLt; have h1 : (i 1).val < 768 := (i 1).isLt; show ((i 0).val * 768 + (i 1).val) % 768 < 768; omega⟩
theorem val_main_v0_apply (x0 : (⟨S4x2048x768, .f32⟩ : BufTy).Contents (Elt F)) (i : S8192x768.Idx) :
    val_main_v0 (F := F) x0 i = x0 (idx_main_v0 i) := by
  unfold val_main_v0
  exact shapeCast_apply x0 shapeCasts_S4x2048x768_S8192x768 i (idx_main_v0 i)
    (by rewrite [Shape.rowMajor_val_three, Shape.rowMajor_val_two]; have h0 : (i 0).val < 8192 := (i 0).isLt; have h1 : (i 1).val < 768 := (i 1).isLt; show (((i 0).val * 768 + (i 1).val) / 1572864 * 2048 + ((i 0).val * 768 + (i 1).val) / 768 % 2048) * 768 + ((i 0).val * 768 + (i 1).val) % 768 = (i 0).val * 768 + (i 1).val; omega)

def val_main_v1 (x1 : (⟨S4x2048x768, .f32⟩ : BufTy).Contents (Elt F)) : (⟨S8192x768, .f32⟩ : BufTy).Contents (Elt F) :=
  shapeCast _ (x1) shapeCasts_S4x2048x768_S8192x768
abbrev idx_main_v1 (i : S8192x768.Idx) : S4x2048x768.Idx := fun a => match a with
  | ⟨0, _⟩ => ⟨((i 0).val * 768 + (i 1).val) / 1572864, by have h0 : (i 0).val < 8192 := (i 0).isLt; have h1 : (i 1).val < 768 := (i 1).isLt; show ((i 0).val * 768 + (i 1).val) / 1572864 < 4; omega⟩
  | ⟨1, _⟩ => ⟨((i 0).val * 768 + (i 1).val) / 768 % 2048, by have h0 : (i 0).val < 8192 := (i 0).isLt; have h1 : (i 1).val < 768 := (i 1).isLt; show ((i 0).val * 768 + (i 1).val) / 768 % 2048 < 2048; omega⟩
  | ⟨2, _⟩ => ⟨((i 0).val * 768 + (i 1).val) % 768, by have h0 : (i 0).val < 8192 := (i 0).isLt; have h1 : (i 1).val < 768 := (i 1).isLt; show ((i 0).val * 768 + (i 1).val) % 768 < 768; omega⟩
theorem val_main_v1_apply (x1 : (⟨S4x2048x768, .f32⟩ : BufTy).Contents (Elt F)) (i : S8192x768.Idx) :
    val_main_v1 (F := F) x1 i = x1 (idx_main_v1 i) := by
  unfold val_main_v1
  exact shapeCast_apply x1 shapeCasts_S4x2048x768_S8192x768 i (idx_main_v1 i)
    (by rewrite [Shape.rowMajor_val_three, Shape.rowMajor_val_two]; have h0 : (i 0).val < 8192 := (i 0).isLt; have h1 : (i 1).val < 768 := (i 1).isLt; show (((i 0).val * 768 + (i 1).val) / 1572864 * 2048 + ((i 0).val * 768 + (i 1).val) / 768 % 2048) * 768 + ((i 0).val * 768 + (i 1).val) % 768 = (i 0).val * 768 + (i 1).val; omega)

def val_main_v2 (x0 : (⟨S4x2048x768, .f32⟩ : BufTy).Contents (Elt F)) (x2 : (⟨S768x2048, .f32⟩ : BufTy).Contents (Elt F)) : (⟨S8192x2048, .f32⟩ : BufTy).Contents (Elt F) :=
  Host.dotGeneral dot_S8192x768_S768x2048_S8192x2048_1_0_0_1_n_n none (val_main_v0 (F := F) x0) (x2)
theorem lhs_main_v2_0 (i : S8192x2048.Idx) (q : dot_S8192x768_S768x2048_S8192x2048_1_0_0_1_n_n.contr.Idx) :
    (dot_S8192x768_S768x2048_S8192x2048_1_0_0_1_n_n.lhsIdx i q 0).val = (i 0).val := by
  unfold DotDims.lhsIdx
  rw [dif_neg (show ¬(0 : Fin S8192x768.rank) ∈ dot_S8192x768_S768x2048_S8192x2048_1_0_0_1_n_n.lhsBatch by decide), dif_pos (show (0 : Fin S8192x768.rank) ∈ dot_S8192x768_S768x2048_S8192x2048_1_0_0_1_n_n.lhsNonContracting by decide)]
  rfl
theorem lhs_main_v2_1 (i : S8192x2048.Idx) (q : dot_S8192x768_S768x2048_S8192x2048_1_0_0_1_n_n.contr.Idx) :
    (dot_S8192x768_S768x2048_S8192x2048_1_0_0_1_n_n.lhsIdx i q 1).val = (q ⟨0, by decide⟩).val :=
  dot_S8192x768_S768x2048_S8192x2048_1_0_0_1_n_n.lhsIdx_val_of_single rfl i q
theorem rhs_main_v2_0 (i : S8192x2048.Idx) (q : dot_S8192x768_S768x2048_S8192x2048_1_0_0_1_n_n.contr.Idx) :
    (dot_S8192x768_S768x2048_S8192x2048_1_0_0_1_n_n.rhsIdx i q 0).val = (q ⟨0, by decide⟩).val :=
  dot_S8192x768_S768x2048_S8192x2048_1_0_0_1_n_n.rhsIdx_val_of_single rfl i q
theorem rhs_main_v2_1 (i : S8192x2048.Idx) (q : dot_S8192x768_S768x2048_S8192x2048_1_0_0_1_n_n.contr.Idx) :
    (dot_S8192x768_S768x2048_S8192x2048_1_0_0_1_n_n.rhsIdx i q 1).val = (i 1).val := by
  unfold DotDims.rhsIdx
  rw [dif_neg (show ¬(1 : Fin S768x2048.rank) ∈ dot_S8192x768_S768x2048_S8192x2048_1_0_0_1_n_n.rhsBatch by decide), dif_pos (show (1 : Fin S768x2048.rank) ∈ dot_S8192x768_S768x2048_S8192x2048_1_0_0_1_n_n.rhsNonContracting by decide)]
  rfl
abbrev lidx_main_v2 (i : S8192x2048.Idx) (k : Fin 768) : S8192x768.Idx := fun a => match a with
  | ⟨0, _⟩ => ⟨(i 0).val, (i 0).isLt⟩
  | ⟨1, _⟩ => ⟨k.val, k.isLt⟩
abbrev ridx_main_v2 (i : S8192x2048.Idx) (k : Fin 768) : S768x2048.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v2_apply (x0 : (⟨S4x2048x768, .f32⟩ : BufTy).Contents (Elt Ideal)) (x2 : (⟨S768x2048, .f32⟩ : BufTy).Contents (Elt Ideal)) (i : S8192x2048.Idx) :
    val_main_v2 (F := Ideal) x0 x2 i = ∑ k : Fin 768, (val_main_v0 (F := Ideal) x0) (lidx_main_v2 i k) * x2 (ridx_main_v2 i k) := by
  unfold val_main_v2
  generalize val_main_v0 (F := Ideal) x0 = y0
  simp only [Host.dotGeneral]
  rw [Ideal.dotGeneral_apply, ← Equiv.sum_comp (ValueIdx.contrEquiv1 dot_S8192x768_S768x2048_S8192x2048_1_0_0_1_n_n 768 rfl rfl).symm]
  refine Finset.sum_congr rfl fun k _ => ?_
  have hk := ValueIdx.contrEquiv1_symm_val dot_S8192x768_S768x2048_S8192x2048_1_0_0_1_n_n 768 rfl rfl k
  have el : dot_S8192x768_S768x2048_S8192x2048_1_0_0_1_n_n.lhsIdx i ((ValueIdx.contrEquiv1 dot_S8192x768_S768x2048_S8192x2048_1_0_0_1_n_n 768 rfl rfl).symm k) = lidx_main_v2 i k := funext fun a => Fin.ext (by
    match a with
    | ⟨0, _⟩ => exact lhs_main_v2_0 _ _
    | ⟨1, _⟩ => exact (lhs_main_v2_1 _ _).trans hk)
  have er : dot_S8192x768_S768x2048_S8192x2048_1_0_0_1_n_n.rhsIdx i ((ValueIdx.contrEquiv1 dot_S8192x768_S768x2048_S8192x2048_1_0_0_1_n_n 768 rfl rfl).symm k) = ridx_main_v2 i k := funext fun a => Fin.ext (by
    match a with
    | ⟨0, _⟩ => exact (rhs_main_v2_0 _ _).trans hk
    | ⟨1, _⟩ => exact rhs_main_v2_1 _ _)
  rw [el, er]

def val_main_v3 (x3 : (⟨S2048, .f32⟩ : BufTy).Contents (Elt F)) : (⟨S1x2048, .f32⟩ : BufTy).Contents (Elt F) :=
  broadcastInDim S1x2048 ![1] bcast_S2048_S1x2048_1 (x3)
abbrev idx_main_v3 (i : S1x2048.Idx) : S2048.Idx := fun a => match a with
  | ⟨0, _⟩ => ⟨(i 1).val, (i 1).isLt⟩
theorem val_main_v3_apply (x3 : (⟨S2048, .f32⟩ : BufTy).Contents (Elt F)) (i : S1x2048.Idx) :
    val_main_v3 (F := F) x3 i = x3 (idx_main_v3 i) := by
  unfold val_main_v3
  exact broadcastInDim_apply _ bcast_S2048_S1x2048_1 x3 i (idx_main_v3 i) (fun a => match a with
    | ⟨0, _⟩ => by show (i 1).val = if (2048 : Nat) = 1 then 0 else (i 1).val; rw [if_neg (by decide)])

def val_main_v4 (x3 : (⟨S2048, .f32⟩ : BufTy).Contents (Elt F)) : (⟨S8192x2048, .f32⟩ : BufTy).Contents (Elt F) :=
  broadcastInDim S8192x2048 ![0, 1] bcast_S1x2048_S8192x2048_0_1 (val_main_v3 (F := F) x3)
abbrev idx_main_v4 (i : S8192x2048.Idx) : S1x2048.Idx := fun a => match a with
  | ⟨0, _⟩ => ⟨0, Nat.one_pos⟩
  | ⟨1, _⟩ => ⟨(i 1).val, (i 1).isLt⟩
theorem val_main_v4_apply (x3 : (⟨S2048, .f32⟩ : BufTy).Contents (Elt F)) (i : S8192x2048.Idx) :
    val_main_v4 (F := F) x3 i = val_main_v3 (F := F) x3 (idx_main_v4 i) := by
  unfold val_main_v4
  generalize val_main_v3 (F := F) x3 = y
  exact broadcastInDim_apply _ bcast_S1x2048_S8192x2048_0_1 y i (idx_main_v4 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v5 (x0 : (⟨S4x2048x768, .f32⟩ : BufTy).Contents (Elt F)) (x2 : (⟨S768x2048, .f32⟩ : BufTy).Contents (Elt F)) (x3 : (⟨S2048, .f32⟩ : BufTy).Contents (Elt F)) : (⟨S8192x2048, .f32⟩ : BufTy).Contents (Elt F) :=
  addf (val_main_v2 (F := F) x0 x2) (val_main_v4 (F := F) x3)
theorem val_main_v5_apply (x0 : (⟨S4x2048x768, .f32⟩ : BufTy).Contents (Elt F)) (x2 : (⟨S768x2048, .f32⟩ : BufTy).Contents (Elt F)) (x3 : (⟨S2048, .f32⟩ : BufTy).Contents (Elt F)) (i : S8192x2048.Idx) :
    val_main_v5 (F := F) x0 x2 x3 i = FloatOps.addf (val_main_v2 (F := F) x0 x2 i) (val_main_v4 (F := F) x3 i) := rfl

def val_main_v6 : (⟨S2048, .f32⟩ : BufTy).Contents (Elt F) :=
  sitofp .f32 (iotaInDim S2048 32 0)

def val_main_cst : (⟨S_, .f32⟩ : BufTy).Contents (Elt F) :=
  constant S_ .f32 0x43D70000#32
theorem val_main_cst_apply (i : S_.Idx) :
    val_main_cst (F := F) i = FloatOps.ofBits .f32 0x43D70000#32 := rfl

def val_main_v7 : (⟨S2048, .f32⟩ : BufTy).Contents (Elt F) :=
  broadcastInDim S2048 ![] bcast_S_S2048 (val_main_cst (F := F))
abbrev idx_main_v7 (i : S2048.Idx) : S_.Idx := fun a => a.elim0
theorem val_main_v7_apply (i : S2048.Idx) :
    val_main_v7 (F := F) i = val_main_cst (F := F) (idx_main_v7 i) := by
  unfold val_main_v7
  generalize val_main_cst (F := F) = y
  exact broadcastInDim_apply _ bcast_S_S2048 y i (idx_main_v7 i) (fun a => a.elim0)

def val_main_v8 : (⟨S2048, .f32⟩ : BufTy).Contents (Elt F) :=
  Host.divf (val_main_v6 (F := F)) (val_main_v7 (F := F))
theorem val_main_v8_apply (i : S2048.Idx) :
    val_main_v8 (F := F) i = FloatOps.hostDivf (val_main_v6 (F := F) i) (val_main_v7 (F := F) i) := rfl

def val_main_v9 : (⟨S2048, .f32⟩ : BufTy).Contents (Elt F) :=
  mulf (val_main_v8 (F := F)) (val_main_v8 (F := F))
theorem val_main_v9_apply (i : S2048.Idx) :
    val_main_v9 (F := F) i = FloatOps.mulf (val_main_v8 (F := F) i) (val_main_v8 (F := F) i) := rfl

def val_main_cst_0 : (⟨S_, .f32⟩ : BufTy).Contents (Elt F) :=
  constant S_ .f32 0xBF000000#32
theorem val_main_cst_0_apply (i : S_.Idx) :
    val_main_cst_0 (F := F) i = FloatOps.ofBits .f32 0xBF000000#32 := rfl

def val_main_v10 : (⟨S2048, .f32⟩ : BufTy).Contents (Elt F) :=
  broadcastInDim S2048 ![] bcast_S_S2048 (val_main_cst_0 (F := F))
abbrev idx_main_v10 (i : S2048.Idx) : S_.Idx := fun a => a.elim0
theorem val_main_v10_apply (i : S2048.Idx) :
    val_main_v10 (F := F) i = val_main_cst_0 (F := F) (idx_main_v10 i) := by
  unfold val_main_v10
  generalize val_main_cst_0 (F := F) = y
  exact broadcastInDim_apply _ bcast_S_S2048 y i (idx_main_v10 i) (fun a => a.elim0)

def val_main_v11 : (⟨S2048, .f32⟩ : BufTy).Contents (Elt F) :=
  mulf (val_main_v10 (F := F)) (val_main_v9 (F := F))
theorem val_main_v11_apply (i : S2048.Idx) :
    val_main_v11 (F := F) i = FloatOps.mulf (val_main_v10 (F := F) i) (val_main_v9 (F := F) i) := rfl

def val_main_v12 : (⟨S2048, .f32⟩ : BufTy).Contents (Elt F) :=
  Host.exp (val_main_v11 (F := F))
theorem val_main_v12_apply (i : S2048.Idx) :
    val_main_v12 (F := F) i = FloatOps.hostUnary .exp (val_main_v11 (F := F) i) := rfl

def val_main_c : (⟨S_, .i32⟩ : BufTy).Contents (Elt F) :=
  constantI S_ 32 12345#32
theorem val_main_c_apply (i : S_.Idx) :
    val_main_c (F := F) i = 12345#32 := rfl

def val_main_c_1 : (⟨S_, .i32⟩ : BufTy).Contents (Elt F) :=
  constantI S_ 32 32#32
theorem val_main_c_1_apply (i : S_.Idx) :
    val_main_c_1 (F := F) i = 32#32 := rfl

def val_main_v13 : (⟨S_, .i32⟩ : BufTy).Contents (Elt F) :=
  Host.shrui (val_main_c (F := F)) (val_main_c_1 (F := F))
theorem val_main_v13_apply (i : S_.Idx) :
    val_main_v13 (F := F) i = IntOp.shrui .host (val_main_c (F := F) i) (val_main_c_1 (F := F) i) := rfl

def val_main_v14 : (⟨S_, .i32⟩ : BufTy).Contents (Elt F) :=
  id (val_main_v13 (F := F))
theorem val_main_v14_apply (i : S_.Idx) :
    val_main_v14 (F := F) i = (val_main_v13 (F := F) i) := rfl

def val_main_v15 : (⟨S1, .i32⟩ : BufTy).Contents (Elt F) :=
  broadcastInDim S1 ![] bcast_S_S1 (val_main_v14 (F := F))
abbrev idx_main_v15 (i : S1.Idx) : S_.Idx := fun a => a.elim0
theorem val_main_v15_apply (i : S1.Idx) :
    val_main_v15 (F := F) i = val_main_v14 (F := F) (idx_main_v15 i) := by
  unfold val_main_v15
  generalize val_main_v14 (F := F) = y
  exact broadcastInDim_apply _ bcast_S_S1 y i (idx_main_v15 i) (fun a => a.elim0)

def val_main_c_2 : (⟨S_, .i32⟩ : BufTy).Contents (Elt F) :=
  constantI S_ 32 4294967295#32
theorem val_main_c_2_apply (i : S_.Idx) :
    val_main_c_2 (F := F) i = 4294967295#32 := rfl

def val_main_v16 : (⟨S_, .i32⟩ : BufTy).Contents (Elt F) :=
  andi (val_main_c (F := F)) (val_main_c_2 (F := F))
theorem val_main_v16_apply (i : S_.Idx) :
    val_main_v16 (F := F) i = IntOp.andi (val_main_c (F := F) i) (val_main_c_2 (F := F) i) := rfl

def val_main_v17 : (⟨S_, .i32⟩ : BufTy).Contents (Elt F) :=
  id (val_main_v16 (F := F))
theorem val_main_v17_apply (i : S_.Idx) :
    val_main_v17 (F := F) i = (val_main_v16 (F := F) i) := rfl

def val_main_v18 : (⟨S1, .i32⟩ : BufTy).Contents (Elt F) :=
  broadcastInDim S1 ![] bcast_S_S1 (val_main_v17 (F := F))
abbrev idx_main_v18 (i : S1.Idx) : S_.Idx := fun a => a.elim0
theorem val_main_v18_apply (i : S1.Idx) :
    val_main_v18 (F := F) i = val_main_v17 (F := F) (idx_main_v18 i) := by
  unfold val_main_v18
  generalize val_main_v17 (F := F) = y
  exact broadcastInDim_apply _ bcast_S_S1 y i (idx_main_v18 i) (fun a => a.elim0)

def val_main_v19 : (⟨S2, .i32⟩ : BufTy).Contents (Elt F) :=
  concatenate S2 0 [⟨S1, (val_main_v15 (F := F))⟩, ⟨S1, (val_main_v18 (F := F))⟩] concatenates_S1_S1_S2_d0

def val_main_v20 : (⟨S1x2048, .f32⟩ : BufTy).Contents (Elt F) :=
  broadcastInDim S1x2048 ![1] bcast_S2048_S1x2048_1 (val_main_v12 (F := F))
abbrev idx_main_v20 (i : S1x2048.Idx) : S2048.Idx := fun a => match a with
  | ⟨0, _⟩ => ⟨(i 1).val, (i 1).isLt⟩
theorem val_main_v20_apply (i : S1x2048.Idx) :
    val_main_v20 (F := F) i = val_main_v12 (F := F) (idx_main_v20 i) := by
  unfold val_main_v20
  generalize val_main_v12 (F := F) = y
  exact broadcastInDim_apply _ bcast_S2048_S1x2048_1 y i (idx_main_v20 i) (fun a => match a with
    | ⟨0, _⟩ => by show (i 1).val = if (2048 : Nat) = 1 then 0 else (i 1).val; rw [if_neg (by decide)])

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_cst_0 : (⟨S_, .f32⟩ : BufTy).Contents (Elt F) :=
  constant S_ .f32 0x3F800000#32
theorem val_main_call0_cst_0_apply (i : S_.Idx) :
    val_main_call0_cst_0 (F := F) i = FloatOps.ofBits .f32 0x3F800000#32 := rfl

def val_main_call0_call0_v0 : (⟨S_, .f32⟩ : BufTy).Contents (Elt F) :=
  id (val_main_call0_cst (F := F))
theorem val_main_call0_call0_v0_apply (i : S_.Idx) :
    val_main_call0_call0_v0 (F := F) i = (val_main_call0_cst (F := F) i) := rfl

def val_main_call0_call0_v1 : (⟨S_, .f32⟩ : BufTy).Contents (Elt F) :=
  id (val_main_call0_cst_0 (F := F))
theorem val_main_call0_call0_v1_apply (i : S_.Idx) :
    val_main_call0_call0_v1 (F := F) i = (val_main_call0_cst_0 (F := F) i) := rfl

def val_main_call0_call0_v2 : (⟨S1x1, .f32⟩ : BufTy).Contents (Elt F) :=
  broadcastInDim S1x1 ![] bcast_S_S1x1 (val_main_call0_call0_v0 (F := F))
abbrev idx_main_call0_call0_v2 (i : S1x1.Idx) : S_.Idx := fun a => a.elim0
theorem val_main_call0_call0_v2_apply (i : S1x1.Idx) :
    val_main_call0_call0_v2 (F := F) i = val_main_call0_call0_v0 (F := F) (idx_main_call0_call0_v2 i) := by
  unfold val_main_call0_call0_v2
  generalize val_main_call0_call0_v0 (F := F) = y
  exact broadcastInDim_apply _ bcast_S_S1x1 y i (idx_main_call0_call0_v2 i) (fun a => a.elim0)

def val_main_call0_call0_v3 : (⟨S1x1, .f32⟩ : BufTy).Contents (Elt F) :=
  broadcastInDim S1x1 ![] bcast_S_S1x1 (val_main_call0_call0_v1 (F := F))
abbrev idx_main_call0_call0_v3 (i : S1x1.Idx) : S_.Idx := fun a => a.elim0
theorem val_main_call0_call0_v3_apply (i : S1x1.Idx) :
    val_main_call0_call0_v3 (F := F) i = val_main_call0_call0_v1 (F := F) (idx_main_call0_call0_v3 i) := by
  unfold val_main_call0_call0_v3
  generalize val_main_call0_call0_v1 (F := F) = y
  exact broadcastInDim_apply _ bcast_S_S1x1 y i (idx_main_call0_call0_v3 i) (fun a => a.elim0)

def val_main_call0_call0_v4 : (⟨S1, .i32⟩ : BufTy).Contents (Elt F) :=
  extractStridedSlice S1 ![0] (val_main_v19 (F := F)) slices_S2_S1_0
abbrev idx_main_call0_call0_v4 (i : S1.Idx) : S2.Idx := fun a => match a with
  | ⟨0, _⟩ => ⟨(i 0).val, by have h0 : (i 0).val < 1 := (i 0).isLt; show (i 0).val < 2; omega⟩
theorem val_main_call0_call0_v4_apply (i : S1.Idx) :
    val_main_call0_call0_v4 (F := F) i = val_main_v19 (F := F) (idx_main_call0_call0_v4 i) := by
  unfold val_main_call0_call0_v4
  generalize val_main_v19 (F := F) = y
  exact extractStridedSlice_apply ![0] y slices_S2_S1_0 i (idx_main_call0_call0_v4 i) (fun a => match a with
    | ⟨0, _⟩ => by show (i 0).val = 0 + (i 0).val; omega)

def val_main_call0_call0_v5 : (⟨S_, .i32⟩ : BufTy).Contents (Elt F) :=
  shapeCast _ (val_main_call0_call0_v4 (F := F)) shapeCasts_S1_S_

def val_main_call0_call0_v6 : (⟨S1, .i32⟩ : BufTy).Contents (Elt F) :=
  extractStridedSlice S1 ![1] (val_main_v19 (F := F)) slices_S2_S1_1
abbrev idx_main_call0_call0_v6 (i : S1.Idx) : S2.Idx := fun a => match a with
  | ⟨0, _⟩ => ⟨1 + (i 0).val, by have h0 : (i 0).val < 1 := (i 0).isLt; show 1 + (i 0).val < 2; omega⟩
theorem val_main_call0_call0_v6_apply (i : S1.Idx) :
    val_main_call0_call0_v6 (F := F) i = val_main_v19 (F := F) (idx_main_call0_call0_v6 i) := by
  unfold val_main_call0_call0_v6
  generalize val_main_v19 (F := F) = y
  exact extractStridedSlice_apply ![1] y slices_S2_S1_1 i (idx_main_call0_call0_v6 i) (fun a => match a with
    | ⟨0, _⟩ => by show 1 + (i 0).val = 1 + (i 0).val; omega)

def val_main_call0_call0_v7 : (⟨S_, .i32⟩ : BufTy).Contents (Elt F) :=
  shapeCast _ (val_main_call0_call0_v6 (F := F)) shapeCasts_S1_S_

def val_main_call0_call0_v8 : (⟨S8192x2048, .i64⟩ : BufTy).Contents (Elt F) :=
  iotaInDim S8192x2048 64 0
theorem val_main_call0_call0_v8_apply (i : S8192x2048.Idx) :
    val_main_call0_call0_v8 (F := F) i = BitVec.ofNat 64 (i 0).val := rfl

def val_main_call0_call0_v9 : (⟨S8192x2048, .i64⟩ : BufTy).Contents (Elt F) :=
  iotaInDim S8192x2048 64 1
theorem val_main_call0_call0_v9_apply (i : S8192x2048.Idx) :
    val_main_call0_call0_v9 (F := F) i = BitVec.ofNat 64 (i 1).val := rfl

def val_main_call0_call0_c : (⟨S_, .i64⟩ : BufTy).Contents (Elt F) :=
  constantI S_ 64 2048#64
theorem val_main_call0_call0_c_apply (i : S_.Idx) :
    val_main_call0_call0_c (F := F) i = 2048#64 := rfl

def val_main_call0_call0_v10 : (⟨S8192x2048, .i64⟩ : BufTy).Contents (Elt F) :=
  broadcastInDim S8192x2048 ![] bcast_S_S8192x2048 (val_main_call0_call0_c (F := F))
abbrev idx_main_call0_call0_v10 (i : S8192x2048.Idx) : S_.Idx := fun a => a.elim0
theorem val_main_call0_call0_v10_apply (i : S8192x2048.Idx) :
    val_main_call0_call0_v10 (F := F) i = val_main_call0_call0_c (F := F) (idx_main_call0_call0_v10 i) := by
  unfold val_main_call0_call0_v10
  generalize val_main_call0_call0_c (F := F) = y
  exact broadcastInDim_apply _ bcast_S_S8192x2048 y i (idx_main_call0_call0_v10 i) (fun a => a.elim0)

def val_main_call0_call0_v11 : (⟨S8192x2048, .i64⟩ : BufTy).Contents (Elt F) :=
  muli (val_main_call0_call0_v10 (F := F)) (val_main_call0_call0_v8 (F := F))
theorem val_main_call0_call0_v11_apply (i : S8192x2048.Idx) :
    val_main_call0_call0_v11 (F := F) i = IntOp.muli (val_main_call0_call0_v10 (F := F) i) (val_main_call0_call0_v8 (F := F) i) := rfl

def val_main_call0_call0_c_0 : (⟨S_, .i64⟩ : BufTy).Contents (Elt F) :=
  constantI S_ 64 1#64
theorem val_main_call0_call0_c_0_apply (i : S_.Idx) :
    val_main_call0_call0_c_0 (F := F) i = 1#64 := rfl

def val_main_call0_call0_v12 : (⟨S8192x2048, .i64⟩ : BufTy).Contents (Elt F) :=
  broadcastInDim S8192x2048 ![] bcast_S_S8192x2048 (val_main_call0_call0_c_0 (F := F))
abbrev idx_main_call0_call0_v12 (i : S8192x2048.Idx) : S_.Idx := fun a => a.elim0
theorem val_main_call0_call0_v12_apply (i : S8192x2048.Idx) :
    val_main_call0_call0_v12 (F := F) i = val_main_call0_call0_c_0 (F := F) (idx_main_call0_call0_v12 i) := by
  unfold val_main_call0_call0_v12
  generalize val_main_call0_call0_c_0 (F := F) = y
  exact broadcastInDim_apply _ bcast_S_S8192x2048 y i (idx_main_call0_call0_v12 i) (fun a => a.elim0)

def val_main_call0_call0_v13 : (⟨S8192x2048, .i64⟩ : BufTy).Contents (Elt F) :=
  muli (val_main_call0_call0_v12 (F := F)) (val_main_call0_call0_v9 (F := F))
theorem val_main_call0_call0_v13_apply (i : S8192x2048.Idx) :
    val_main_call0_call0_v13 (F := F) i = IntOp.muli (val_main_call0_call0_v12 (F := F) i) (val_main_call0_call0_v9 (F := F) i) := rfl

def val_main_call0_call0_v14 : (⟨S8192x2048, .i64⟩ : BufTy).Contents (Elt F) :=
  addi (val_main_call0_call0_v11 (F := F)) (val_main_call0_call0_v13 (F := F))
theorem val_main_call0_call0_v14_apply (i : S8192x2048.Idx) :
    val_main_call0_call0_v14 (F := F) i = IntOp.addi (val_main_call0_call0_v11 (F := F) i) (val_main_call0_call0_v13 (F := F) i) := rfl

def val_main_call0_call0_c_1 : (⟨S_, .i64⟩ : BufTy).Contents (Elt F) :=
  constantI S_ 64 32#64
theorem val_main_call0_call0_c_1_apply (i : S_.Idx) :
    val_main_call0_call0_c_1 (F := F) i = 32#64 := rfl

def val_main_call0_call0_v15 : (⟨S8192x2048, .i64⟩ : BufTy).Contents (Elt F) :=
  broadcastInDim S8192x2048 ![] bcast_S_S8192x2048 (val_main_call0_call0_c_1 (F := F))
abbrev idx_main_call0_call0_v15 (i : S8192x2048.Idx) : S_.Idx := fun a => a.elim0
theorem val_main_call0_call0_v15_apply (i : S8192x2048.Idx) :
    val_main_call0_call0_v15 (F := F) i = val_main_call0_call0_c_1 (F := F) (idx_main_call0_call0_v15 i) := by
  unfold val_main_call0_call0_v15
  generalize val_main_call0_call0_c_1 (F := F) = y
  exact broadcastInDim_apply _ bcast_S_S8192x2048 y i (idx_main_call0_call0_v15 i) (fun a => a.elim0)

def val_main_call0_call0_v16 : (⟨S8192x2048, .i64⟩ : BufTy).Contents (Elt F) :=
  Host.shrui (val_main_call0_call0_v14 (F := F)) (val_main_call0_call0_v15 (F := F))
theorem val_main_call0_call0_v16_apply (i : S8192x2048.Idx) :
    val_main_call0_call0_v16 (F := F) i = IntOp.shrui .host (val_main_call0_call0_v14 (F := F) i) (val_main_call0_call0_v15 (F := F) i) := rfl

def val_main_call0_call0_v17 : (⟨S8192x2048, .i32⟩ : BufTy).Contents (Elt F) :=
  trunci 32 (val_main_call0_call0_v14 (F := F)) natLt_32_64
theorem val_main_call0_call0_v17_apply (i : S8192x2048.Idx) :
    val_main_call0_call0_v17 (F := F) i = (val_main_call0_call0_v14 (F := F) i).setWidth 32 := rfl

def val_main_call0_call0_v18 : (⟨S8192x2048, .i32⟩ : BufTy).Contents (Elt F) :=
  trunci 32 (val_main_call0_call0_v16 (F := F)) natLt_32_64
theorem val_main_call0_call0_v18_apply (i : S8192x2048.Idx) :
    val_main_call0_call0_v18 (F := F) i = (val_main_call0_call0_v16 (F := F) i).setWidth 32 := rfl

def val_main_call0_call0_call0_v0 : (⟨S_, .i32⟩ : BufTy).Contents (Elt F) :=
  xori (val_main_call0_call0_v5 (F := F)) (val_main_call0_call0_v7 (F := F))
theorem val_main_call0_call0_call0_v0_apply (i : S_.Idx) :
    val_main_call0_call0_call0_v0 (F := F) i = IntOp.xori (val_main_call0_call0_v5 (F := F) i) (val_main_call0_call0_v7 (F := F) i) := rfl

def val_main_call0_call0_call0_c : (⟨S_, .i32⟩ : BufTy).Contents (Elt F) :=
  constantI S_ 32 466688986#32
theorem val_main_call0_call0_call0_c_apply (i : S_.Idx) :
    val_main_call0_call0_call0_c (F := F) i = 466688986#32 := rfl

def val_main_call0_call0_call0_v1 : (⟨S_, .i32⟩ : BufTy).Contents (Elt F) :=
  xori (val_main_call0_call0_call0_v0 (F := F)) (val_main_call0_call0_call0_c (F := F))
theorem val_main_call0_call0_call0_v1_apply (i : S_.Idx) :
    val_main_call0_call0_call0_v1 (F := F) i = IntOp.xori (val_main_call0_call0_call0_v0 (F := F) i) (val_main_call0_call0_call0_c (F := F) i) := rfl

def val_main_call0_call0_call0_v2 : (⟨S8192x2048, .i32⟩ : BufTy).Contents (Elt F) :=
  broadcastInDim S8192x2048 ![] bcast_S_S8192x2048 (val_main_call0_call0_v5 (F := F))
abbrev idx_main_call0_call0_call0_v2 (i : S8192x2048.Idx) : S_.Idx := fun a => a.elim0
theorem val_main_call0_call0_call0_v2_apply (i : S8192x2048.Idx) :
    val_main_call0_call0_call0_v2 (F := F) i = val_main_call0_call0_v5 (F := F) (idx_main_call0_call0_call0_v2 i) := by
  unfold val_main_call0_call0_call0_v2
  generalize val_main_call0_call0_v5 (F := F) = y
  exact broadcastInDim_apply _ bcast_S_S8192x2048 y i (idx_main_call0_call0_call0_v2 i) (fun a => a.elim0)

def val_main_call0_call0_call0_v3 : (⟨S8192x2048, .i32⟩ : BufTy).Contents (Elt F) :=
  addi (val_main_call0_call0_v18 (F := F)) (val_main_call0_call0_call0_v2 (F := F))
theorem val_main_call0_call0_call0_v3_apply (i : S8192x2048.Idx) :
    val_main_call0_call0_call0_v3 (F := F) i = IntOp.addi (val_main_call0_call0_v18 (F := F) i) (val_main_call0_call0_call0_v2 (F := F) i) := rfl

def val_main_call0_call0_call0_v4 : (⟨S8192x2048, .i32⟩ : BufTy).Contents (Elt F) :=
  broadcastInDim S8192x2048 ![] bcast_S_S8192x2048 (val_main_call0_call0_v7 (F := F))
abbrev idx_main_call0_call0_call0_v4 (i : S8192x2048.Idx) : S_.Idx := fun a => a.elim0
theorem val_main_call0_call0_call0_v4_apply (i : S8192x2048.Idx) :
    val_main_call0_call0_call0_v4 (F := F) i = val_main_call0_call0_v7 (F := F) (idx_main_call0_call0_call0_v4 i) := by
  unfold val_main_call0_call0_call0_v4
  generalize val_main_call0_call0_v7 (F := F) = y
  exact broadcastInDim_apply _ bcast_S_S8192x2048 y i (idx_main_call0_call0_call0_v4 i) (fun a => a.elim0)

def val_main_call0_call0_call0_v5 : (⟨S8192x2048, .i32⟩ : BufTy).Contents (Elt F) :=
  addi (val_main_call0_call0_v17 (F := F)) (val_main_call0_call0_call0_v4 (F := F))
theorem val_main_call0_call0_call0_v5_apply (i : S8192x2048.Idx) :
    val_main_call0_call0_call0_v5 (F := F) i = IntOp.addi (val_main_call0_call0_v17 (F := F) i) (val_main_call0_call0_call0_v4 (F := F) i) := rfl

def val_main_call0_call0_call0_v6 : (⟨S8192x2048, .i32⟩ : BufTy).Contents (Elt F) :=
  addi (val_main_call0_call0_call0_v3 (F := F)) (val_main_call0_call0_call0_v5 (F := F))
theorem val_main_call0_call0_call0_v6_apply (i : S8192x2048.Idx) :
    val_main_call0_call0_call0_v6 (F := F) i = IntOp.addi (val_main_call0_call0_call0_v3 (F := F) i) (val_main_call0_call0_call0_v5 (F := F) i) := rfl

def val_main_call0_call0_call0_c_0 : (⟨S_, .i32⟩ : BufTy).Contents (Elt F) :=
  constantI S_ 32 13#32
theorem val_main_call0_call0_call0_c_0_apply (i : S_.Idx) :
    val_main_call0_call0_call0_c_0 (F := F) i = 13#32 := rfl

def val_main_call0_call0_call0_v7 : (⟨S8192x2048, .i32⟩ : BufTy).Contents (Elt F) :=
  broadcastInDim S8192x2048 ![] bcast_S_S8192x2048 (val_main_call0_call0_call0_c_0 (F := F))
abbrev idx_main_call0_call0_call0_v7 (i : S8192x2048.Idx) : S_.Idx := fun a => a.elim0
theorem val_main_call0_call0_call0_v7_apply (i : S8192x2048.Idx) :
    val_main_call0_call0_call0_v7 (F := F) i = val_main_call0_call0_call0_c_0 (F := F) (idx_main_call0_call0_call0_v7 i) := by
  unfold val_main_call0_call0_call0_v7
  generalize val_main_call0_call0_call0_c_0 (F := F) = y
  exact broadcastInDim_apply _ bcast_S_S8192x2048 y i (idx_main_call0_call0_call0_v7 i) (fun a => a.elim0)

def val_main_call0_call0_call0_v8 : (⟨S8192x2048, .i32⟩ : BufTy).Contents (Elt F) :=
  Host.shli (val_main_call0_call0_call0_v5 (F := F)) (val_main_call0_call0_call0_v7 (F := F))
theorem val_main_call0_call0_call0_v8_apply (i : S8192x2048.Idx) :
    val_main_call0_call0_call0_v8 (F := F) i = IntOp.shli .host (val_main_call0_call0_call0_v5 (F := F) i) (val_main_call0_call0_call0_v7 (F := F) i) := rfl

def val_main_call0_call0_call0_c_1 : (⟨S_, .i32⟩ : BufTy).Contents (Elt F) :=
  constantI S_ 32 19#32
theorem val_main_call0_call0_call0_c_1_apply (i : S_.Idx) :
    val_main_call0_call0_call0_c_1 (F := F) i = 19#32 := rfl

def val_main_call0_call0_call0_v9 : (⟨S8192x2048, .i32⟩ : BufTy).Contents (Elt F) :=
  broadcastInDim S8192x2048 ![] bcast_S_S8192x2048 (val_main_call0_call0_call0_c_1 (F := F))
abbrev idx_main_call0_call0_call0_v9 (i : S8192x2048.Idx) : S_.Idx := fun a => a.elim0
theorem val_main_call0_call0_call0_v9_apply (i : S8192x2048.Idx) :
    val_main_call0_call0_call0_v9 (F := F) i = val_main_call0_call0_call0_c_1 (F := F) (idx_main_call0_call0_call0_v9 i) := by
  unfold val_main_call0_call0_call0_v9
  generalize val_main_call0_call0_call0_c_1 (F := F) = y
  exact broadcastInDim_apply _ bcast_S_S8192x2048 y i (idx_main_call0_call0_call0_v9 i) (fun a => a.elim0)

def val_main_call0_call0_call0_v10 : (⟨S8192x2048, .i32⟩ : BufTy).Contents (Elt F) :=
  Host.shrui (val_main_call0_call0_call0_v5 (F := F)) (val_main_call0_call0_call0_v9 (F := F))
theorem val_main_call0_call0_call0_v10_apply (i : S8192x2048.Idx) :
    val_main_call0_call0_call0_v10 (F := F) i = IntOp.shrui .host (val_main_call0_call0_call0_v5 (F := F) i) (val_main_call0_call0_call0_v9 (F := F) i) := rfl

def val_main_call0_call0_call0_v11 : (⟨S8192x2048, .i32⟩ : BufTy).Contents (Elt F) :=
  ori (val_main_call0_call0_call0_v8 (F := F)) (val_main_call0_call0_call0_v10 (F := F))
theorem val_main_call0_call0_call0_v11_apply (i : S8192x2048.Idx) :
    val_main_call0_call0_call0_v11 (F := F) i = IntOp.ori (val_main_call0_call0_call0_v8 (F := F) i) (val_main_call0_call0_call0_v10 (F := F) i) := rfl

def val_main_call0_call0_call0_v12 : (⟨S8192x2048, .i32⟩ : BufTy).Contents (Elt F) :=
  xori (val_main_call0_call0_call0_v6 (F := F)) (val_main_call0_call0_call0_v11 (F := F))
theorem val_main_call0_call0_call0_v12_apply (i : S8192x2048.Idx) :
    val_main_call0_call0_call0_v12 (F := F) i = IntOp.xori (val_main_call0_call0_call0_v6 (F := F) i) (val_main_call0_call0_call0_v11 (F := F) i) := rfl

def val_main_call0_call0_call0_v13 : (⟨S8192x2048, .i32⟩ : BufTy).Contents (Elt F) :=
  addi (val_main_call0_call0_call0_v6 (F := F)) (val_main_call0_call0_call0_v12 (F := F))
theorem val_main_call0_call0_call0_v13_apply (i : S8192x2048.Idx) :
    val_main_call0_call0_call0_v13 (F := F) i = IntOp.addi (val_main_call0_call0_call0_v6 (F := F) i) (val_main_call0_call0_call0_v12 (F := F) i) := rfl

def val_main_call0_call0_call0_c_2 : (⟨S_, .i32⟩ : BufTy).Contents (Elt F) :=
  constantI S_ 32 15#32
theorem val_main_call0_call0_call0_c_2_apply (i : S_.Idx) :
    val_main_call0_call0_call0_c_2 (F := F) i = 15#32 := rfl

def val_main_call0_call0_call0_v14 : (⟨S8192x2048, .i32⟩ : BufTy).Contents (Elt F) :=
  broadcastInDim S8192x2048 ![] bcast_S_S8192x2048 (val_main_call0_call0_call0_c_2 (F := F))
abbrev idx_main_call0_call0_call0_v14 (i : S8192x2048.Idx) : S_.Idx := fun a => a.elim0
theorem val_main_call0_call0_call0_v14_apply (i : S8192x2048.Idx) :
    val_main_call0_call0_call0_v14 (F := F) i = val_main_call0_call0_call0_c_2 (F := F) (idx_main_call0_call0_call0_v14 i) := by
  unfold val_main_call0_call0_call0_v14
  generalize val_main_call0_call0_call0_c_2 (F := F) = y
  exact broadcastInDim_apply _ bcast_S_S8192x2048 y i (idx_main_call0_call0_call0_v14 i) (fun a => a.elim0)

def val_main_call0_call0_call0_v15 : (⟨S8192x2048, .i32⟩ : BufTy).Contents (Elt F) :=
  Host.shli (val_main_call0_call0_call0_v12 (F := F)) (val_main_call0_call0_call0_v14 (F := F))
theorem val_main_call0_call0_call0_v15_apply (i : S8192x2048.Idx) :
    val_main_call0_call0_call0_v15 (F := F) i = IntOp.shli .host (val_main_call0_call0_call0_v12 (F := F) i) (val_main_call0_call0_call0_v14 (F := F) i) := rfl

def val_main_call0_call0_call0_c_3 : (⟨S_, .i32⟩ : BufTy).Contents (Elt F) :=
  constantI S_ 32 17#32
theorem val_main_call0_call0_call0_c_3_apply (i : S_.Idx) :
    val_main_call0_call0_call0_c_3 (F := F) i = 17#32 := rfl

def val_main_call0_call0_call0_v16 : (⟨S8192x2048, .i32⟩ : BufTy).Contents (Elt F) :=
  broadcastInDim S8192x2048 ![] bcast_S_S8192x2048 (val_main_call0_call0_call0_c_3 (F := F))
abbrev idx_main_call0_call0_call0_v16 (i : S8192x2048.Idx) : S_.Idx := fun a => a.elim0
theorem val_main_call0_call0_call0_v16_apply (i : S8192x2048.Idx) :
    val_main_call0_call0_call0_v16 (F := F) i = val_main_call0_call0_call0_c_3 (F := F) (idx_main_call0_call0_call0_v16 i) := by
  unfold val_main_call0_call0_call0_v16
  generalize val_main_call0_call0_call0_c_3 (F := F) = y
  exact broadcastInDim_apply _ bcast_S_S8192x2048 y i (idx_main_call0_call0_call0_v16 i) (fun a => a.elim0)

def val_main_call0_call0_call0_v17 : (⟨S8192x2048, .i32⟩ : BufTy).Contents (Elt F) :=
  Host.shrui (val_main_call0_call0_call0_v12 (F := F)) (val_main_call0_call0_call0_v16 (F := F))
theorem val_main_call0_call0_call0_v17_apply (i : S8192x2048.Idx) :
    val_main_call0_call0_call0_v17 (F := F) i = IntOp.shrui .host (val_main_call0_call0_call0_v12 (F := F) i) (val_main_call0_call0_call0_v16 (F := F) i) := rfl

def val_main_call0_call0_call0_v18 : (⟨S8192x2048, .i32⟩ : BufTy).Contents (Elt F) :=
  ori (val_main_call0_call0_call0_v15 (F := F)) (val_main_call0_call0_call0_v17 (F := F))
theorem val_main_call0_call0_call0_v18_apply (i : S8192x2048.Idx) :
    val_main_call0_call0_call0_v18 (F := F) i = IntOp.ori (val_main_call0_call0_call0_v15 (F := F) i) (val_main_call0_call0_call0_v17 (F := F) i) := rfl

def val_main_call0_call0_call0_v19 : (⟨S8192x2048, .i32⟩ : BufTy).Contents (Elt F) :=
  xori (val_main_call0_call0_call0_v13 (F := F)) (val_main_call0_call0_call0_v18 (F := F))
theorem val_main_call0_call0_call0_v19_apply (i : S8192x2048.Idx) :
    val_main_call0_call0_call0_v19 (F := F) i = IntOp.xori (val_main_call0_call0_call0_v13 (F := F) i) (val_main_call0_call0_call0_v18 (F := F) i) := rfl

def val_main_call0_call0_call0_v20 : (⟨S8192x2048, .i32⟩ : BufTy).Contents (Elt F) :=
  addi (val_main_call0_call0_call0_v13 (F := F)) (val_main_call0_call0_call0_v19 (F := F))
theorem val_main_call0_call0_call0_v20_apply (i : S8192x2048.Idx) :
    val_main_call0_call0_call0_v20 (F := F) i = IntOp.addi (val_main_call0_call0_call0_v13 (F := F) i) (val_main_call0_call0_call0_v19 (F := F) i) := rfl

def val_main_call0_call0_call0_c_4 : (⟨S_, .i32⟩ : BufTy).Contents (Elt F) :=
  constantI S_ 32 26#32
theorem val_main_call0_call0_call0_c_4_apply (i : S_.Idx) :
    val_main_call0_call0_call0_c_4 (F := F) i = 26#32 := rfl

def val_main_call0_call0_call0_v21 : (⟨S8192x2048, .i32⟩ : BufTy).Contents (Elt F) :=
  broadcastInDim S8192x2048 ![] bcast_S_S8192x2048 (val_main_call0_call0_call0_c_4 (F := F))
abbrev idx_main_call0_call0_call0_v21 (i : S8192x2048.Idx) : S_.Idx := fun a => a.elim0
theorem val_main_call0_call0_call0_v21_apply (i : S8192x2048.Idx) :
    val_main_call0_call0_call0_v21 (F := F) i = val_main_call0_call0_call0_c_4 (F := F) (idx_main_call0_call0_call0_v21 i) := by
  unfold val_main_call0_call0_call0_v21
  generalize val_main_call0_call0_call0_c_4 (F := F) = y
  exact broadcastInDim_apply _ bcast_S_S8192x2048 y i (idx_main_call0_call0_call0_v21 i) (fun a => a.elim0)

def val_main_call0_call0_call0_v22 : (⟨S8192x2048, .i32⟩ : BufTy).Contents (Elt F) :=
  Host.shli (val_main_call0_call0_call0_v19 (F := F)) (val_main_call0_call0_call0_v21 (F := F))
theorem val_main_call0_call0_call0_v22_apply (i : S8192x2048.Idx) :
    val_main_call0_call0_call0_v22 (F := F) i = IntOp.shli .host (val_main_call0_call0_call0_v19 (F := F) i) (val_main_call0_call0_call0_v21 (F := F) i) := rfl

def val_main_call0_call0_call0_c_5 : (⟨S_, .i32⟩ : BufTy).Contents (Elt F) :=
  constantI S_ 32 6#32
theorem val_main_call0_call0_call0_c_5_apply (i : S_.Idx) :
    val_main_call0_call0_call0_c_5 (F := F) i = 6#32 := rfl

def val_main_call0_call0_call0_v23 : (⟨S8192x2048, .i32⟩ : BufTy).Contents (Elt F) :=
  broadcastInDim S8192x2048 ![] bcast_S_S8192x2048 (val_main_call0_call0_call0_c_5 (F := F))
abbrev idx_main_call0_call0_call0_v23 (i : S8192x2048.Idx) : S_.Idx := fun a => a.elim0
theorem val_main_call0_call0_call0_v23_apply (i : S8192x2048.Idx) :
    val_main_call0_call0_call0_v23 (F := F) i = val_main_call0_call0_call0_c_5 (F := F) (idx_main_call0_call0_call0_v23 i) := by
  unfold val_main_call0_call0_call0_v23
  generalize val_main_call0_call0_call0_c_5 (F := F) = y
  exact broadcastInDim_apply _ bcast_S_S8192x2048 y i (idx_main_call0_call0_call0_v23 i) (fun a => a.elim0)

def val_main_call0_call0_call0_v24 : (⟨S8192x2048, .i32⟩ : BufTy).Contents (Elt F) :=
  Host.shrui (val_main_call0_call0_call0_v19 (F := F)) (val_main_call0_call0_call0_v23 (F := F))
theorem val_main_call0_call0_call0_v24_apply (i : S8192x2048.Idx) :
    val_main_call0_call0_call0_v24 (F := F) i = IntOp.shrui .host (val_main_call0_call0_call0_v19 (F := F) i) (val_main_call0_call0_call0_v23 (F := F) i) := rfl

def val_main_call0_call0_call0_v25 : (⟨S8192x2048, .i32⟩ : BufTy).Contents (Elt F) :=
  ori (val_main_call0_call0_call0_v22 (F := F)) (val_main_call0_call0_call0_v24 (F := F))
theorem val_main_call0_call0_call0_v25_apply (i : S8192x2048.Idx) :
    val_main_call0_call0_call0_v25 (F := F) i = IntOp.ori (val_main_call0_call0_call0_v22 (F := F) i) (val_main_call0_call0_call0_v24 (F := F) i) := rfl

def val_main_call0_call0_call0_v26 : (⟨S8192x2048, .i32⟩ : BufTy).Contents (Elt F) :=
  xori (val_main_call0_call0_call0_v20 (F := F)) (val_main_call0_call0_call0_v25 (F := F))
theorem val_main_call0_call0_call0_v26_apply (i : S8192x2048.Idx) :
    val_main_call0_call0_call0_v26 (F := F) i = IntOp.xori (val_main_call0_call0_call0_v20 (F := F) i) (val_main_call0_call0_call0_v25 (F := F) i) := rfl

def val_main_call0_call0_call0_v27 : (⟨S8192x2048, .i32⟩ : BufTy).Contents (Elt F) :=
  addi (val_main_call0_call0_call0_v20 (F := F)) (val_main_call0_call0_call0_v26 (F := F))
theorem val_main_call0_call0_call0_v27_apply (i : S8192x2048.Idx) :
    val_main_call0_call0_call0_v27 (F := F) i = IntOp.addi (val_main_call0_call0_call0_v20 (F := F) i) (val_main_call0_call0_call0_v26 (F := F) i) := rfl

def val_main_call0_call0_call0_c_6 : (⟨S_, .i32⟩ : BufTy).Contents (Elt F) :=
  constantI S_ 32 6#32
theorem val_main_call0_call0_call0_c_6_apply (i : S_.Idx) :
    val_main_call0_call0_call0_c_6 (F := F) i = 6#32 := rfl

def val_main_call0_call0_call0_v28 : (⟨S8192x2048, .i32⟩ : BufTy).Contents (Elt F) :=
  broadcastInDim S8192x2048 ![] bcast_S_S8192x2048 (val_main_call0_call0_call0_c_6 (F := F))
abbrev idx_main_call0_call0_call0_v28 (i : S8192x2048.Idx) : S_.Idx := fun a => a.elim0
theorem val_main_call0_call0_call0_v28_apply (i : S8192x2048.Idx) :
    val_main_call0_call0_call0_v28 (F := F) i = val_main_call0_call0_call0_c_6 (F := F) (idx_main_call0_call0_call0_v28 i) := by
  unfold val_main_call0_call0_call0_v28
  generalize val_main_call0_call0_call0_c_6 (F := F) = y
  exact broadcastInDim_apply _ bcast_S_S8192x2048 y i (idx_main_call0_call0_call0_v28 i) (fun a => a.elim0)

def val_main_call0_call0_call0_v29 : (⟨S8192x2048, .i32⟩ : BufTy).Contents (Elt F) :=
  Host.shli (val_main_call0_call0_call0_v26 (F := F)) (val_main_call0_call0_call0_v28 (F := F))
theorem val_main_call0_call0_call0_v29_apply (i : S8192x2048.Idx) :
    val_main_call0_call0_call0_v29 (F := F) i = IntOp.shli .host (val_main_call0_call0_call0_v26 (F := F) i) (val_main_call0_call0_call0_v28 (F := F) i) := rfl

def val_main_call0_call0_call0_c_7 : (⟨S_, .i32⟩ : BufTy).Contents (Elt F) :=
  constantI S_ 32 26#32
theorem val_main_call0_call0_call0_c_7_apply (i : S_.Idx) :
    val_main_call0_call0_call0_c_7 (F := F) i = 26#32 := rfl

def val_main_call0_call0_call0_v30 : (⟨S8192x2048, .i32⟩ : BufTy).Contents (Elt F) :=
  broadcastInDim S8192x2048 ![] bcast_S_S8192x2048 (val_main_call0_call0_call0_c_7 (F := F))
abbrev idx_main_call0_call0_call0_v30 (i : S8192x2048.Idx) : S_.Idx := fun a => a.elim0
theorem val_main_call0_call0_call0_v30_apply (i : S8192x2048.Idx) :
    val_main_call0_call0_call0_v30 (F := F) i = val_main_call0_call0_call0_c_7 (F := F) (idx_main_call0_call0_call0_v30 i) := by
  unfold val_main_call0_call0_call0_v30
  generalize val_main_call0_call0_call0_c_7 (F := F) = y
  exact broadcastInDim_apply _ bcast_S_S8192x2048 y i (idx_main_call0_call0_call0_v30 i) (fun a => a.elim0)

def val_main_call0_call0_call0_v31 : (⟨S8192x2048, .i32⟩ : BufTy).Contents (Elt F) :=
  Host.shrui (val_main_call0_call0_call0_v26 (F := F)) (val_main_call0_call0_call0_v30 (F := F))
theorem val_main_call0_call0_call0_v31_apply (i : S8192x2048.Idx) :
    val_main_call0_call0_call0_v31 (F := F) i = IntOp.shrui .host (val_main_call0_call0_call0_v26 (F := F) i) (val_main_call0_call0_call0_v30 (F := F) i) := rfl

def val_main_call0_call0_call0_v32 : (⟨S8192x2048, .i32⟩ : BufTy).Contents (Elt F) :=
  ori (val_main_call0_call0_call0_v29 (F := F)) (val_main_call0_call0_call0_v31 (F := F))
theorem val_main_call0_call0_call0_v32_apply (i : S8192x2048.Idx) :
    val_main_call0_call0_call0_v32 (F := F) i = IntOp.ori (val_main_call0_call0_call0_v29 (F := F) i) (val_main_call0_call0_call0_v31 (F := F) i) := rfl

def val_main_call0_call0_call0_v33 : (⟨S8192x2048, .i32⟩ : BufTy).Contents (Elt F) :=
  xori (val_main_call0_call0_call0_v27 (F := F)) (val_main_call0_call0_call0_v32 (F := F))
theorem val_main_call0_call0_call0_v33_apply (i : S8192x2048.Idx) :
    val_main_call0_call0_call0_v33 (F := F) i = IntOp.xori (val_main_call0_call0_call0_v27 (F := F) i) (val_main_call0_call0_call0_v32 (F := F) i) := rfl

def val_main_call0_call0_call0_v34 : (⟨S8192x2048, .i32⟩ : BufTy).Contents (Elt F) :=
  broadcastInDim S8192x2048 ![] bcast_S_S8192x2048 (val_main_call0_call0_v7 (F := F))
abbrev idx_main_call0_call0_call0_v34 (i : S8192x2048.Idx) : S_.Idx := fun a => a.elim0
theorem val_main_call0_call0_call0_v34_apply (i : S8192x2048.Idx) :
    val_main_call0_call0_call0_v34 (F := F) i = val_main_call0_call0_v7 (F := F) (idx_main_call0_call0_call0_v34 i) := by
  unfold val_main_call0_call0_call0_v34
  generalize val_main_call0_call0_v7 (F := F) = y
  exact broadcastInDim_apply _ bcast_S_S8192x2048 y i (idx_main_call0_call0_call0_v34 i) (fun a => a.elim0)

def val_main_call0_call0_call0_v35 : (⟨S8192x2048, .i32⟩ : BufTy).Contents (Elt F) :=
  addi (val_main_call0_call0_call0_v27 (F := F)) (val_main_call0_call0_call0_v34 (F := F))
theorem val_main_call0_call0_call0_v35_apply (i : S8192x2048.Idx) :
    val_main_call0_call0_call0_v35 (F := F) i = IntOp.addi (val_main_call0_call0_call0_v27 (F := F) i) (val_main_call0_call0_call0_v34 (F := F) i) := rfl

def val_main_call0_call0_call0_v36 : (⟨S8192x2048, .i32⟩ : BufTy).Contents (Elt F) :=
  broadcastInDim S8192x2048 ![] bcast_S_S8192x2048 (val_main_call0_call0_call0_v1 (F := F))
abbrev idx_main_call0_call0_call0_v36 (i : S8192x2048.Idx) : S_.Idx := fun a => a.elim0
theorem val_main_call0_call0_call0_v36_apply (i : S8192x2048.Idx) :
    val_main_call0_call0_call0_v36 (F := F) i = val_main_call0_call0_call0_v1 (F := F) (idx_main_call0_call0_call0_v36 i) := by
  unfold val_main_call0_call0_call0_v36
  generalize val_main_call0_call0_call0_v1 (F := F) = y
  exact broadcastInDim_apply _ bcast_S_S8192x2048 y i (idx_main_call0_call0_call0_v36 i) (fun a => a.elim0)

def val_main_call0_call0_call0_v37 : (⟨S8192x2048, .i32⟩ : BufTy).Contents (Elt F) :=
  addi (val_main_call0_call0_call0_v33 (F := F)) (val_main_call0_call0_call0_v36 (F := F))
theorem val_main_call0_call0_call0_v37_apply (i : S8192x2048.Idx) :
    val_main_call0_call0_call0_v37 (F := F) i = IntOp.addi (val_main_call0_call0_call0_v33 (F := F) i) (val_main_call0_call0_call0_v36 (F := F) i) := rfl

def val_main_call0_call0_call0_c_8 : (⟨S_, .i32⟩ : BufTy).Contents (Elt F) :=
  constantI S_ 32 1#32
theorem val_main_call0_call0_call0_c_8_apply (i : S_.Idx) :
    val_main_call0_call0_call0_c_8 (F := F) i = 1#32 := rfl

def val_main_call0_call0_call0_v38 : (⟨S8192x2048, .i32⟩ : BufTy).Contents (Elt F) :=
  broadcastInDim S8192x2048 ![] bcast_S_S8192x2048 (val_main_call0_call0_call0_c_8 (F := F))
abbrev idx_main_call0_call0_call0_v38 (i : S8192x2048.Idx) : S_.Idx := fun a => a.elim0
theorem val_main_call0_call0_call0_v38_apply (i : S8192x2048.Idx) :
    val_main_call0_call0_call0_v38 (F := F) i = val_main_call0_call0_call0_c_8 (F := F) (idx_main_call0_call0_call0_v38 i) := by
  unfold val_main_call0_call0_call0_v38
  generalize val_main_call0_call0_call0_c_8 (F := F) = y
  exact broadcastInDim_apply _ bcast_S_S8192x2048 y i (idx_main_call0_call0_call0_v38 i) (fun a => a.elim0)

def val_main_call0_call0_call0_v39 : (⟨S8192x2048, .i32⟩ : BufTy).Contents (Elt F) :=
  addi (val_main_call0_call0_call0_v37 (F := F)) (val_main_call0_call0_call0_v38 (F := F))
theorem val_main_call0_call0_call0_v39_apply (i : S8192x2048.Idx) :
    val_main_call0_call0_call0_v39 (F := F) i = IntOp.addi (val_main_call0_call0_call0_v37 (F := F) i) (val_main_call0_call0_call0_v38 (F := F) i) := rfl

def val_main_call0_call0_call0_v40 : (⟨S8192x2048, .i32⟩ : BufTy).Contents (Elt F) :=
  addi (val_main_call0_call0_call0_v35 (F := F)) (val_main_call0_call0_call0_v39 (F := F))
theorem val_main_call0_call0_call0_v40_apply (i : S8192x2048.Idx) :
    val_main_call0_call0_call0_v40 (F := F) i = IntOp.addi (val_main_call0_call0_call0_v35 (F := F) i) (val_main_call0_call0_call0_v39 (F := F) i) := rfl

def val_main_call0_call0_call0_c_9 : (⟨S_, .i32⟩ : BufTy).Contents (Elt F) :=
  constantI S_ 32 17#32
theorem val_main_call0_call0_call0_c_9_apply (i : S_.Idx) :
    val_main_call0_call0_call0_c_9 (F := F) i = 17#32 := rfl

def val_main_call0_call0_call0_v41 : (⟨S8192x2048, .i32⟩ : BufTy).Contents (Elt F) :=
  broadcastInDim S8192x2048 ![] bcast_S_S8192x2048 (val_main_call0_call0_call0_c_9 (F := F))
abbrev idx_main_call0_call0_call0_v41 (i : S8192x2048.Idx) : S_.Idx := fun a => a.elim0
theorem val_main_call0_call0_call0_v41_apply (i : S8192x2048.Idx) :
    val_main_call0_call0_call0_v41 (F := F) i = val_main_call0_call0_call0_c_9 (F := F) (idx_main_call0_call0_call0_v41 i) := by
  unfold val_main_call0_call0_call0_v41
  generalize val_main_call0_call0_call0_c_9 (F := F) = y
  exact broadcastInDim_apply _ bcast_S_S8192x2048 y i (idx_main_call0_call0_call0_v41 i) (fun a => a.elim0)

def val_main_call0_call0_call0_v42 : (⟨S8192x2048, .i32⟩ : BufTy).Contents (Elt F) :=
  Host.shli (val_main_call0_call0_call0_v39 (F := F)) (val_main_call0_call0_call0_v41 (F := F))
theorem val_main_call0_call0_call0_v42_apply (i : S8192x2048.Idx) :
    val_main_call0_call0_call0_v42 (F := F) i = IntOp.shli .host (val_main_call0_call0_call0_v39 (F := F) i) (val_main_call0_call0_call0_v41 (F := F) i) := rfl

def val_main_call0_call0_call0_c_10 : (⟨S_, .i32⟩ : BufTy).Contents (Elt F) :=
  constantI S_ 32 15#32
theorem val_main_call0_call0_call0_c_10_apply (i : S_.Idx) :
    val_main_call0_call0_call0_c_10 (F := F) i = 15#32 := rfl

def val_main_call0_call0_call0_v43 : (⟨S8192x2048, .i32⟩ : BufTy).Contents (Elt F) :=
  broadcastInDim S8192x2048 ![] bcast_S_S8192x2048 (val_main_call0_call0_call0_c_10 (F := F))
abbrev idx_main_call0_call0_call0_v43 (i : S8192x2048.Idx) : S_.Idx := fun a => a.elim0
theorem val_main_call0_call0_call0_v43_apply (i : S8192x2048.Idx) :
    val_main_call0_call0_call0_v43 (F := F) i = val_main_call0_call0_call0_c_10 (F := F) (idx_main_call0_call0_call0_v43 i) := by
  unfold val_main_call0_call0_call0_v43
  generalize val_main_call0_call0_call0_c_10 (F := F) = y
  exact broadcastInDim_apply _ bcast_S_S8192x2048 y i (idx_main_call0_call0_call0_v43 i) (fun a => a.elim0)

def val_main_call0_call0_call0_v44 : (⟨S8192x2048, .i32⟩ : BufTy).Contents (Elt F) :=
  Host.shrui (val_main_call0_call0_call0_v39 (F := F)) (val_main_call0_call0_call0_v43 (F := F))
theorem val_main_call0_call0_call0_v44_apply (i : S8192x2048.Idx) :
    val_main_call0_call0_call0_v44 (F := F) i = IntOp.shrui .host (val_main_call0_call0_call0_v39 (F := F) i) (val_main_call0_call0_call0_v43 (F := F) i) := rfl

def val_main_call0_call0_call0_v45 : (⟨S8192x2048, .i32⟩ : BufTy).Contents (Elt F) :=
  ori (val_main_call0_call0_call0_v42 (F := F)) (val_main_call0_call0_call0_v44 (F := F))
theorem val_main_call0_call0_call0_v45_apply (i : S8192x2048.Idx) :
    val_main_call0_call0_call0_v45 (F := F) i = IntOp.ori (val_main_call0_call0_call0_v42 (F := F) i) (val_main_call0_call0_call0_v44 (F := F) i) := rfl

def val_main_call0_call0_call0_v46 : (⟨S8192x2048, .i32⟩ : BufTy).Contents (Elt F) :=
  xori (val_main_call0_call0_call0_v40 (F := F)) (val_main_call0_call0_call0_v45 (F := F))
theorem val_main_call0_call0_call0_v46_apply (i : S8192x2048.Idx) :
    val_main_call0_call0_call0_v46 (F := F) i = IntOp.xori (val_main_call0_call0_call0_v40 (F := F) i) (val_main_call0_call0_call0_v45 (F := F) i) := rfl

def val_main_call0_call0_call0_v47 : (⟨S8192x2048, .i32⟩ : BufTy).Contents (Elt F) :=
  addi (val_main_call0_call0_call0_v40 (F := F)) (val_main_call0_call0_call0_v46 (F := F))
theorem val_main_call0_call0_call0_v47_apply (i : S8192x2048.Idx) :
    val_main_call0_call0_call0_v47 (F := F) i = IntOp.addi (val_main_call0_call0_call0_v40 (F := F) i) (val_main_call0_call0_call0_v46 (F := F) i) := rfl

def val_main_call0_call0_call0_c_11 : (⟨S_, .i32⟩ : BufTy).Contents (Elt F) :=
  constantI S_ 32 29#32
theorem val_main_call0_call0_call0_c_11_apply (i : S_.Idx) :
    val_main_call0_call0_call0_c_11 (F := F) i = 29#32 := rfl

def val_main_call0_call0_call0_v48 : (⟨S8192x2048, .i32⟩ : BufTy).Contents (Elt F) :=
  broadcastInDim S8192x2048 ![] bcast_S_S8192x2048 (val_main_call0_call0_call0_c_11 (F := F))
abbrev idx_main_call0_call0_call0_v48 (i : S8192x2048.Idx) : S_.Idx := fun a => a.elim0
theorem val_main_call0_call0_call0_v48_apply (i : S8192x2048.Idx) :
    val_main_call0_call0_call0_v48 (F := F) i = val_main_call0_call0_call0_c_11 (F := F) (idx_main_call0_call0_call0_v48 i) := by
  unfold val_main_call0_call0_call0_v48
  generalize val_main_call0_call0_call0_c_11 (F := F) = y
  exact broadcastInDim_apply _ bcast_S_S8192x2048 y i (idx_main_call0_call0_call0_v48 i) (fun a => a.elim0)

def val_main_call0_call0_call0_v49 : (⟨S8192x2048, .i32⟩ : BufTy).Contents (Elt F) :=
  Host.shli (val_main_call0_call0_call0_v46 (F := F)) (val_main_call0_call0_call0_v48 (F := F))
theorem val_main_call0_call0_call0_v49_apply (i : S8192x2048.Idx) :
    val_main_call0_call0_call0_v49 (F := F) i = IntOp.shli .host (val_main_call0_call0_call0_v46 (F := F) i) (val_main_call0_call0_call0_v48 (F := F) i) := rfl

def val_main_call0_call0_call0_c_12 : (⟨S_, .i32⟩ : BufTy).Contents (Elt F) :=
  constantI S_ 32 3#32
theorem val_main_call0_call0_call0_c_12_apply (i : S_.Idx) :
    val_main_call0_call0_call0_c_12 (F := F) i = 3#32 := rfl

def val_main_call0_call0_call0_v50 : (⟨S8192x2048, .i32⟩ : BufTy).Contents (Elt F) :=
  broadcastInDim S8192x2048 ![] bcast_S_S8192x2048 (val_main_call0_call0_call0_c_12 (F := F))
abbrev idx_main_call0_call0_call0_v50 (i : S8192x2048.Idx) : S_.Idx := fun a => a.elim0
theorem val_main_call0_call0_call0_v50_apply (i : S8192x2048.Idx) :
    val_main_call0_call0_call0_v50 (F := F) i = val_main_call0_call0_call0_c_12 (F := F) (idx_main_call0_call0_call0_v50 i) := by
  unfold val_main_call0_call0_call0_v50
  generalize val_main_call0_call0_call0_c_12 (F := F) = y
  exact broadcastInDim_apply _ bcast_S_S8192x2048 y i (idx_main_call0_call0_call0_v50 i) (fun a => a.elim0)

def val_main_call0_call0_call0_v51 : (⟨S8192x2048, .i32⟩ : BufTy).Contents (Elt F) :=
  Host.shrui (val_main_call0_call0_call0_v46 (F := F)) (val_main_call0_call0_call0_v50 (F := F))
theorem val_main_call0_call0_call0_v51_apply (i : S8192x2048.Idx) :
    val_main_call0_call0_call0_v51 (F := F) i = IntOp.shrui .host (val_main_call0_call0_call0_v46 (F := F) i) (val_main_call0_call0_call0_v50 (F := F) i) := rfl

def val_main_call0_call0_call0_v52 : (⟨S8192x2048, .i32⟩ : BufTy).Contents (Elt F) :=
  ori (val_main_call0_call0_call0_v49 (F := F)) (val_main_call0_call0_call0_v51 (F := F))
theorem val_main_call0_call0_call0_v52_apply (i : S8192x2048.Idx) :
    val_main_call0_call0_call0_v52 (F := F) i = IntOp.ori (val_main_call0_call0_call0_v49 (F := F) i) (val_main_call0_call0_call0_v51 (F := F) i) := rfl

def val_main_call0_call0_call0_v53 : (⟨S8192x2048, .i32⟩ : BufTy).Contents (Elt F) :=
  xori (val_main_call0_call0_call0_v47 (F := F)) (val_main_call0_call0_call0_v52 (F := F))
theorem val_main_call0_call0_call0_v53_apply (i : S8192x2048.Idx) :
    val_main_call0_call0_call0_v53 (F := F) i = IntOp.xori (val_main_call0_call0_call0_v47 (F := F) i) (val_main_call0_call0_call0_v52 (F := F) i) := rfl

def val_main_call0_call0_call0_v54 : (⟨S8192x2048, .i32⟩ : BufTy).Contents (Elt F) :=
  addi (val_main_call0_call0_call0_v47 (F := F)) (val_main_call0_call0_call0_v53 (F := F))
theorem val_main_call0_call0_call0_v54_apply (i : S8192x2048.Idx) :
    val_main_call0_call0_call0_v54 (F := F) i = IntOp.addi (val_main_call0_call0_call0_v47 (F := F) i) (val_main_call0_call0_call0_v53 (F := F) i) := rfl

def val_main_call0_call0_call0_c_13 : (⟨S_, .i32⟩ : BufTy).Contents (Elt F) :=
  constantI S_ 32 16#32
theorem val_main_call0_call0_call0_c_13_apply (i : S_.Idx) :
    val_main_call0_call0_call0_c_13 (F := F) i = 16#32 := rfl

def val_main_call0_call0_call0_v55 : (⟨S8192x2048, .i32⟩ : BufTy).Contents (Elt F) :=
  broadcastInDim S8192x2048 ![] bcast_S_S8192x2048 (val_main_call0_call0_call0_c_13 (F := F))
abbrev idx_main_call0_call0_call0_v55 (i : S8192x2048.Idx) : S_.Idx := fun a => a.elim0
theorem val_main_call0_call0_call0_v55_apply (i : S8192x2048.Idx) :
    val_main_call0_call0_call0_v55 (F := F) i = val_main_call0_call0_call0_c_13 (F := F) (idx_main_call0_call0_call0_v55 i) := by
  unfold val_main_call0_call0_call0_v55
  generalize val_main_call0_call0_call0_c_13 (F := F) = y
  exact broadcastInDim_apply _ bcast_S_S8192x2048 y i (idx_main_call0_call0_call0_v55 i) (fun a => a.elim0)

def val_main_call0_call0_call0_v56 : (⟨S8192x2048, .i32⟩ : BufTy).Contents (Elt F) :=
  Host.shli (val_main_call0_call0_call0_v53 (F := F)) (val_main_call0_call0_call0_v55 (F := F))
theorem val_main_call0_call0_call0_v56_apply (i : S8192x2048.Idx) :
    val_main_call0_call0_call0_v56 (F := F) i = IntOp.shli .host (val_main_call0_call0_call0_v53 (F := F) i) (val_main_call0_call0_call0_v55 (F := F) i) := rfl

def val_main_call0_call0_call0_c_14 : (⟨S_, .i32⟩ : BufTy).Contents (Elt F) :=
  constantI S_ 32 16#32
theorem val_main_call0_call0_call0_c_14_apply (i : S_.Idx) :
    val_main_call0_call0_call0_c_14 (F := F) i = 16#32 := rfl

def val_main_call0_call0_call0_v57 : (⟨S8192x2048, .i32⟩ : BufTy).Contents (Elt F) :=
  broadcastInDim S8192x2048 ![] bcast_S_S8192x2048 (val_main_call0_call0_call0_c_14 (F := F))
abbrev idx_main_call0_call0_call0_v57 (i : S8192x2048.Idx) : S_.Idx := fun a => a.elim0
theorem val_main_call0_call0_call0_v57_apply (i : S8192x2048.Idx) :
    val_main_call0_call0_call0_v57 (F := F) i = val_main_call0_call0_call0_c_14 (F := F) (idx_main_call0_call0_call0_v57 i) := by
  unfold val_main_call0_call0_call0_v57
  generalize val_main_call0_call0_call0_c_14 (F := F) = y
  exact broadcastInDim_apply _ bcast_S_S8192x2048 y i (idx_main_call0_call0_call0_v57 i) (fun a => a.elim0)

def val_main_call0_call0_call0_v58 : (⟨S8192x2048, .i32⟩ : BufTy).Contents (Elt F) :=
  Host.shrui (val_main_call0_call0_call0_v53 (F := F)) (val_main_call0_call0_call0_v57 (F := F))
theorem val_main_call0_call0_call0_v58_apply (i : S8192x2048.Idx) :
    val_main_call0_call0_call0_v58 (F := F) i = IntOp.shrui .host (val_main_call0_call0_call0_v53 (F := F) i) (val_main_call0_call0_call0_v57 (F := F) i) := rfl

def val_main_call0_call0_call0_v59 : (⟨S8192x2048, .i32⟩ : BufTy).Contents (Elt F) :=
  ori (val_main_call0_call0_call0_v56 (F := F)) (val_main_call0_call0_call0_v58 (F := F))
theorem val_main_call0_call0_call0_v59_apply (i : S8192x2048.Idx) :
    val_main_call0_call0_call0_v59 (F := F) i = IntOp.ori (val_main_call0_call0_call0_v56 (F := F) i) (val_main_call0_call0_call0_v58 (F := F) i) := rfl

def val_main_call0_call0_call0_v60 : (⟨S8192x2048, .i32⟩ : BufTy).Contents (Elt F) :=
  xori (val_main_call0_call0_call0_v54 (F := F)) (val_main_call0_call0_call0_v59 (F := F))
theorem val_main_call0_call0_call0_v60_apply (i : S8192x2048.Idx) :
    val_main_call0_call0_call0_v60 (F := F) i = IntOp.xori (val_main_call0_call0_call0_v54 (F := F) i) (val_main_call0_call0_call0_v59 (F := F) i) := rfl

def val_main_call0_call0_call0_v61 : (⟨S8192x2048, .i32⟩ : BufTy).Contents (Elt F) :=
  addi (val_main_call0_call0_call0_v54 (F := F)) (val_main_call0_call0_call0_v60 (F := F))
theorem val_main_call0_call0_call0_v61_apply (i : S8192x2048.Idx) :
    val_main_call0_call0_call0_v61 (F := F) i = IntOp.addi (val_main_call0_call0_call0_v54 (F := F) i) (val_main_call0_call0_call0_v60 (F := F) i) := rfl

def val_main_call0_call0_call0_c_15 : (⟨S_, .i32⟩ : BufTy).Contents (Elt F) :=
  constantI S_ 32 24#32
theorem val_main_call0_call0_call0_c_15_apply (i : S_.Idx) :
    val_main_call0_call0_call0_c_15 (F := F) i = 24#32 := rfl

def val_main_call0_call0_call0_v62 : (⟨S8192x2048, .i32⟩ : BufTy).Contents (Elt F) :=
  broadcastInDim S8192x2048 ![] bcast_S_S8192x2048 (val_main_call0_call0_call0_c_15 (F := F))
abbrev idx_main_call0_call0_call0_v62 (i : S8192x2048.Idx) : S_.Idx := fun a => a.elim0
theorem val_main_call0_call0_call0_v62_apply (i : S8192x2048.Idx) :
    val_main_call0_call0_call0_v62 (F := F) i = val_main_call0_call0_call0_c_15 (F := F) (idx_main_call0_call0_call0_v62 i) := by
  unfold val_main_call0_call0_call0_v62
  generalize val_main_call0_call0_call0_c_15 (F := F) = y
  exact broadcastInDim_apply _ bcast_S_S8192x2048 y i (idx_main_call0_call0_call0_v62 i) (fun a => a.elim0)

def val_main_call0_call0_call0_v63 : (⟨S8192x2048, .i32⟩ : BufTy).Contents (Elt F) :=
  Host.shli (val_main_call0_call0_call0_v60 (F := F)) (val_main_call0_call0_call0_v62 (F := F))
theorem val_main_call0_call0_call0_v63_apply (i : S8192x2048.Idx) :
    val_main_call0_call0_call0_v63 (F := F) i = IntOp.shli .host (val_main_call0_call0_call0_v60 (F := F) i) (val_main_call0_call0_call0_v62 (F := F) i) := rfl

def val_main_call0_call0_call0_c_16 : (⟨S_, .i32⟩ : BufTy).Contents (Elt F) :=
  constantI S_ 32 8#32
theorem val_main_call0_call0_call0_c_16_apply (i : S_.Idx) :
    val_main_call0_call0_call0_c_16 (F := F) i = 8#32 := rfl

def val_main_call0_call0_call0_v64 : (⟨S8192x2048, .i32⟩ : BufTy).Contents (Elt F) :=
  broadcastInDim S8192x2048 ![] bcast_S_S8192x2048 (val_main_call0_call0_call0_c_16 (F := F))
abbrev idx_main_call0_call0_call0_v64 (i : S8192x2048.Idx) : S_.Idx := fun a => a.elim0
theorem val_main_call0_call0_call0_v64_apply (i : S8192x2048.Idx) :
    val_main_call0_call0_call0_v64 (F := F) i = val_main_call0_call0_call0_c_16 (F := F) (idx_main_call0_call0_call0_v64 i) := by
  unfold val_main_call0_call0_call0_v64
  generalize val_main_call0_call0_call0_c_16 (F := F) = y
  exact broadcastInDim_apply _ bcast_S_S8192x2048 y i (idx_main_call0_call0_call0_v64 i) (fun a => a.elim0)

def val_main_call0_call0_call0_v65 : (⟨S8192x2048, .i32⟩ : BufTy).Contents (Elt F) :=
  Host.shrui (val_main_call0_call0_call0_v60 (F := F)) (val_main_call0_call0_call0_v64 (F := F))
theorem val_main_call0_call0_call0_v65_apply (i : S8192x2048.Idx) :
    val_main_call0_call0_call0_v65 (F := F) i = IntOp.shrui .host (val_main_call0_call0_call0_v60 (F := F) i) (val_main_call0_call0_call0_v64 (F := F) i) := rfl

def val_main_call0_call0_call0_v66 : (⟨S8192x2048, .i32⟩ : BufTy).Contents (Elt F) :=
  ori (val_main_call0_call0_call0_v63 (F := F)) (val_main_call0_call0_call0_v65 (F := F))
theorem val_main_call0_call0_call0_v66_apply (i : S8192x2048.Idx) :
    val_main_call0_call0_call0_v66 (F := F) i = IntOp.ori (val_main_call0_call0_call0_v63 (F := F) i) (val_main_call0_call0_call0_v65 (F := F) i) := rfl

def val_main_call0_call0_call0_v67 : (⟨S8192x2048, .i32⟩ : BufTy).Contents (Elt F) :=
  xori (val_main_call0_call0_call0_v61 (F := F)) (val_main_call0_call0_call0_v66 (F := F))
theorem val_main_call0_call0_call0_v67_apply (i : S8192x2048.Idx) :
    val_main_call0_call0_call0_v67 (F := F) i = IntOp.xori (val_main_call0_call0_call0_v61 (F := F) i) (val_main_call0_call0_call0_v66 (F := F) i) := rfl

def val_main_call0_call0_call0_v68 : (⟨S8192x2048, .i32⟩ : BufTy).Contents (Elt F) :=
  broadcastInDim S8192x2048 ![] bcast_S_S8192x2048 (val_main_call0_call0_call0_v1 (F := F))
abbrev idx_main_call0_call0_call0_v68 (i : S8192x2048.Idx) : S_.Idx := fun a => a.elim0
theorem val_main_call0_call0_call0_v68_apply (i : S8192x2048.Idx) :
    val_main_call0_call0_call0_v68 (F := F) i = val_main_call0_call0_call0_v1 (F := F) (idx_main_call0_call0_call0_v68 i) := by
  unfold val_main_call0_call0_call0_v68
  generalize val_main_call0_call0_call0_v1 (F := F) = y
  exact broadcastInDim_apply _ bcast_S_S8192x2048 y i (idx_main_call0_call0_call0_v68 i) (fun a => a.elim0)

def val_main_call0_call0_call0_v69 : (⟨S8192x2048, .i32⟩ : BufTy).Contents (Elt F) :=
  addi (val_main_call0_call0_call0_v61 (F := F)) (val_main_call0_call0_call0_v68 (F := F))
theorem val_main_call0_call0_call0_v69_apply (i : S8192x2048.Idx) :
    val_main_call0_call0_call0_v69 (F := F) i = IntOp.addi (val_main_call0_call0_call0_v61 (F := F) i) (val_main_call0_call0_call0_v68 (F := F) i) := rfl

def val_main_call0_call0_call0_v70 : (⟨S8192x2048, .i32⟩ : BufTy).Contents (Elt F) :=
  broadcastInDim S8192x2048 ![] bcast_S_S8192x2048 (val_main_call0_call0_v5 (F := F))
abbrev idx_main_call0_call0_call0_v70 (i : S8192x2048.Idx) : S_.Idx := fun a => a.elim0
theorem val_main_call0_call0_call0_v70_apply (i : S8192x2048.Idx) :
    val_main_call0_call0_call0_v70 (F := F) i = val_main_call0_call0_v5 (F := F) (idx_main_call0_call0_call0_v70 i) := by
  unfold val_main_call0_call0_call0_v70
  generalize val_main_call0_call0_v5 (F := F) = y
  exact broadcastInDim_apply _ bcast_S_S8192x2048 y i (idx_main_call0_call0_call0_v70 i) (fun a => a.elim0)

def val_main_call0_call0_call0_v71 : (⟨S8192x2048, .i32⟩ : BufTy).Contents (Elt F) :=
  addi (val_main_call0_call0_call0_v67 (F := F)) (val_main_call0_call0_call0_v70 (F := F))
theorem val_main_call0_call0_call0_v71_apply (i : S8192x2048.Idx) :
    val_main_call0_call0_call0_v71 (F := F) i = IntOp.addi (val_main_call0_call0_call0_v67 (F := F) i) (val_main_call0_call0_call0_v70 (F := F) i) := rfl

def val_main_call0_call0_call0_c_17 : (⟨S_, .i32⟩ : BufTy).Contents (Elt F) :=
  constantI S_ 32 2#32
theorem val_main_call0_call0_call0_c_17_apply (i : S_.Idx) :
    val_main_call0_call0_call0_c_17 (F := F) i = 2#32 := rfl

def val_main_call0_call0_call0_v72 : (⟨S8192x2048, .i32⟩ : BufTy).Contents (Elt F) :=
  broadcastInDim S8192x2048 ![] bcast_S_S8192x2048 (val_main_call0_call0_call0_c_17 (F := F))
abbrev idx_main_call0_call0_call0_v72 (i : S8192x2048.Idx) : S_.Idx := fun a => a.elim0
theorem val_main_call0_call0_call0_v72_apply (i : S8192x2048.Idx) :
    val_main_call0_call0_call0_v72 (F := F) i = val_main_call0_call0_call0_c_17 (F := F) (idx_main_call0_call0_call0_v72 i) := by
  unfold val_main_call0_call0_call0_v72
  generalize val_main_call0_call0_call0_c_17 (F := F) = y
  exact broadcastInDim_apply _ bcast_S_S8192x2048 y i (idx_main_call0_call0_call0_v72 i) (fun a => a.elim0)

def val_main_call0_call0_call0_v73 : (⟨S8192x2048, .i32⟩ : BufTy).Contents (Elt F) :=
  addi (val_main_call0_call0_call0_v71 (F := F)) (val_main_call0_call0_call0_v72 (F := F))
theorem val_main_call0_call0_call0_v73_apply (i : S8192x2048.Idx) :
    val_main_call0_call0_call0_v73 (F := F) i = IntOp.addi (val_main_call0_call0_call0_v71 (F := F) i) (val_main_call0_call0_call0_v72 (F := F) i) := rfl

def val_main_call0_call0_call0_v74 : (⟨S8192x2048, .i32⟩ : BufTy).Contents (Elt F) :=
  addi (val_main_call0_call0_call0_v69 (F := F)) (val_main_call0_call0_call0_v73 (F := F))
theorem val_main_call0_call0_call0_v74_apply (i : S8192x2048.Idx) :
    val_main_call0_call0_call0_v74 (F := F) i = IntOp.addi (val_main_call0_call0_call0_v69 (F := F) i) (val_main_call0_call0_call0_v73 (F := F) i) := rfl

def val_main_call0_call0_call0_c_18 : (⟨S_, .i32⟩ : BufTy).Contents (Elt F) :=
  constantI S_ 32 13#32
theorem val_main_call0_call0_call0_c_18_apply (i : S_.Idx) :
    val_main_call0_call0_call0_c_18 (F := F) i = 13#32 := rfl

def val_main_call0_call0_call0_v75 : (⟨S8192x2048, .i32⟩ : BufTy).Contents (Elt F) :=
  broadcastInDim S8192x2048 ![] bcast_S_S8192x2048 (val_main_call0_call0_call0_c_18 (F := F))
abbrev idx_main_call0_call0_call0_v75 (i : S8192x2048.Idx) : S_.Idx := fun a => a.elim0
theorem val_main_call0_call0_call0_v75_apply (i : S8192x2048.Idx) :
    val_main_call0_call0_call0_v75 (F := F) i = val_main_call0_call0_call0_c_18 (F := F) (idx_main_call0_call0_call0_v75 i) := by
  unfold val_main_call0_call0_call0_v75
  generalize val_main_call0_call0_call0_c_18 (F := F) = y
  exact broadcastInDim_apply _ bcast_S_S8192x2048 y i (idx_main_call0_call0_call0_v75 i) (fun a => a.elim0)

def val_main_call0_call0_call0_v76 : (⟨S8192x2048, .i32⟩ : BufTy).Contents (Elt F) :=
  Host.shli (val_main_call0_call0_call0_v73 (F := F)) (val_main_call0_call0_call0_v75 (F := F))
theorem val_main_call0_call0_call0_v76_apply (i : S8192x2048.Idx) :
    val_main_call0_call0_call0_v76 (F := F) i = IntOp.shli .host (val_main_call0_call0_call0_v73 (F := F) i) (val_main_call0_call0_call0_v75 (F := F) i) := rfl

def val_main_call0_call0_call0_c_19 : (⟨S_, .i32⟩ : BufTy).Contents (Elt F) :=
  constantI S_ 32 19#32
theorem val_main_call0_call0_call0_c_19_apply (i : S_.Idx) :
    val_main_call0_call0_call0_c_19 (F := F) i = 19#32 := rfl

def val_main_call0_call0_call0_v77 : (⟨S8192x2048, .i32⟩ : BufTy).Contents (Elt F) :=
  broadcastInDim S8192x2048 ![] bcast_S_S8192x2048 (val_main_call0_call0_call0_c_19 (F := F))
abbrev idx_main_call0_call0_call0_v77 (i : S8192x2048.Idx) : S_.Idx := fun a => a.elim0
theorem val_main_call0_call0_call0_v77_apply (i : S8192x2048.Idx) :
    val_main_call0_call0_call0_v77 (F := F) i = val_main_call0_call0_call0_c_19 (F := F) (idx_main_call0_call0_call0_v77 i) := by
  unfold val_main_call0_call0_call0_v77
  generalize val_main_call0_call0_call0_c_19 (F := F) = y
  exact broadcastInDim_apply _ bcast_S_S8192x2048 y i (idx_main_call0_call0_call0_v77 i) (fun a => a.elim0)

def val_main_call0_call0_call0_v78 : (⟨S8192x2048, .i32⟩ : BufTy).Contents (Elt F) :=
  Host.shrui (val_main_call0_call0_call0_v73 (F := F)) (val_main_call0_call0_call0_v77 (F := F))
theorem val_main_call0_call0_call0_v78_apply (i : S8192x2048.Idx) :
    val_main_call0_call0_call0_v78 (F := F) i = IntOp.shrui .host (val_main_call0_call0_call0_v73 (F := F) i) (val_main_call0_call0_call0_v77 (F := F) i) := rfl

def val_main_call0_call0_call0_v79 : (⟨S8192x2048, .i32⟩ : BufTy).Contents (Elt F) :=
  ori (val_main_call0_call0_call0_v76 (F := F)) (val_main_call0_call0_call0_v78 (F := F))
theorem val_main_call0_call0_call0_v79_apply (i : S8192x2048.Idx) :
    val_main_call0_call0_call0_v79 (F := F) i = IntOp.ori (val_main_call0_call0_call0_v76 (F := F) i) (val_main_call0_call0_call0_v78 (F := F) i) := rfl

def val_main_call0_call0_call0_v80 : (⟨S8192x2048, .i32⟩ : BufTy).Contents (Elt F) :=
  xori (val_main_call0_call0_call0_v74 (F := F)) (val_main_call0_call0_call0_v79 (F := F))
theorem val_main_call0_call0_call0_v80_apply (i : S8192x2048.Idx) :
    val_main_call0_call0_call0_v80 (F := F) i = IntOp.xori (val_main_call0_call0_call0_v74 (F := F) i) (val_main_call0_call0_call0_v79 (F := F) i) := rfl

def val_main_call0_call0_call0_v81 : (⟨S8192x2048, .i32⟩ : BufTy).Contents (Elt F) :=
  addi (val_main_call0_call0_call0_v74 (F := F)) (val_main_call0_call0_call0_v80 (F := F))
theorem val_main_call0_call0_call0_v81_apply (i : S8192x2048.Idx) :
    val_main_call0_call0_call0_v81 (F := F) i = IntOp.addi (val_main_call0_call0_call0_v74 (F := F) i) (val_main_call0_call0_call0_v80 (F := F) i) := rfl

def val_main_call0_call0_call0_c_20 : (⟨S_, .i32⟩ : BufTy).Contents (Elt F) :=
  constantI S_ 32 15#32
theorem val_main_call0_call0_call0_c_20_apply (i : S_.Idx) :
    val_main_call0_call0_call0_c_20 (F := F) i = 15#32 := rfl

def val_main_call0_call0_call0_v82 : (⟨S8192x2048, .i32⟩ : BufTy).Contents (Elt F) :=
  broadcastInDim S8192x2048 ![] bcast_S_S8192x2048 (val_main_call0_call0_call0_c_20 (F := F))
abbrev idx_main_call0_call0_call0_v82 (i : S8192x2048.Idx) : S_.Idx := fun a => a.elim0
theorem val_main_call0_call0_call0_v82_apply (i : S8192x2048.Idx) :
    val_main_call0_call0_call0_v82 (F := F) i = val_main_call0_call0_call0_c_20 (F := F) (idx_main_call0_call0_call0_v82 i) := by
  unfold val_main_call0_call0_call0_v82
  generalize val_main_call0_call0_call0_c_20 (F := F) = y
  exact broadcastInDim_apply _ bcast_S_S8192x2048 y i (idx_main_call0_call0_call0_v82 i) (fun a => a.elim0)

def val_main_call0_call0_call0_v83 : (⟨S8192x2048, .i32⟩ : BufTy).Contents (Elt F) :=
  Host.shli (val_main_call0_call0_call0_v80 (F := F)) (val_main_call0_call0_call0_v82 (F := F))
theorem val_main_call0_call0_call0_v83_apply (i : S8192x2048.Idx) :
    val_main_call0_call0_call0_v83 (F := F) i = IntOp.shli .host (val_main_call0_call0_call0_v80 (F := F) i) (val_main_call0_call0_call0_v82 (F := F) i) := rfl

def val_main_call0_call0_call0_c_21 : (⟨S_, .i32⟩ : BufTy).Contents (Elt F) :=
  constantI S_ 32 17#32
theorem val_main_call0_call0_call0_c_21_apply (i : S_.Idx) :
    val_main_call0_call0_call0_c_21 (F := F) i = 17#32 := rfl

def val_main_call0_call0_call0_v84 : (⟨S8192x2048, .i32⟩ : BufTy).Contents (Elt F) :=
  broadcastInDim S8192x2048 ![] bcast_S_S8192x2048 (val_main_call0_call0_call0_c_21 (F := F))
abbrev idx_main_call0_call0_call0_v84 (i : S8192x2048.Idx) : S_.Idx := fun a => a.elim0
theorem val_main_call0_call0_call0_v84_apply (i : S8192x2048.Idx) :
    val_main_call0_call0_call0_v84 (F := F) i = val_main_call0_call0_call0_c_21 (F := F) (idx_main_call0_call0_call0_v84 i) := by
  unfold val_main_call0_call0_call0_v84
  generalize val_main_call0_call0_call0_c_21 (F := F) = y
  exact broadcastInDim_apply _ bcast_S_S8192x2048 y i (idx_main_call0_call0_call0_v84 i) (fun a => a.elim0)

def val_main_call0_call0_call0_v85 : (⟨S8192x2048, .i32⟩ : BufTy).Contents (Elt F) :=
  Host.shrui (val_main_call0_call0_call0_v80 (F := F)) (val_main_call0_call0_call0_v84 (F := F))
theorem val_main_call0_call0_call0_v85_apply (i : S8192x2048.Idx) :
    val_main_call0_call0_call0_v85 (F := F) i = IntOp.shrui .host (val_main_call0_call0_call0_v80 (F := F) i) (val_main_call0_call0_call0_v84 (F := F) i) := rfl

def val_main_call0_call0_call0_v86 : (⟨S8192x2048, .i32⟩ : BufTy).Contents (Elt F) :=
  ori (val_main_call0_call0_call0_v83 (F := F)) (val_main_call0_call0_call0_v85 (F := F))
theorem val_main_call0_call0_call0_v86_apply (i : S8192x2048.Idx) :
    val_main_call0_call0_call0_v86 (F := F) i = IntOp.ori (val_main_call0_call0_call0_v83 (F := F) i) (val_main_call0_call0_call0_v85 (F := F) i) := rfl

def val_main_call0_call0_call0_v87 : (⟨S8192x2048, .i32⟩ : BufTy).Contents (Elt F) :=
  xori (val_main_call0_call0_call0_v81 (F := F)) (val_main_call0_call0_call0_v86 (F := F))
theorem val_main_call0_call0_call0_v87_apply (i : S8192x2048.Idx) :
    val_main_call0_call0_call0_v87 (F := F) i = IntOp.xori (val_main_call0_call0_call0_v81 (F := F) i) (val_main_call0_call0_call0_v86 (F := F) i) := rfl

def val_main_call0_call0_call0_v88 : (⟨S8192x2048, .i32⟩ : BufTy).Contents (Elt F) :=
  addi (val_main_call0_call0_call0_v81 (F := F)) (val_main_call0_call0_call0_v87 (F := F))
theorem val_main_call0_call0_call0_v88_apply (i : S8192x2048.Idx) :
    val_main_call0_call0_call0_v88 (F := F) i = IntOp.addi (val_main_call0_call0_call0_v81 (F := F) i) (val_main_call0_call0_call0_v87 (F := F) i) := rfl

def val_main_call0_call0_call0_c_22 : (⟨S_, .i32⟩ : BufTy).Contents (Elt F) :=
  constantI S_ 32 26#32
theorem val_main_call0_call0_call0_c_22_apply (i : S_.Idx) :
    val_main_call0_call0_call0_c_22 (F := F) i = 26#32 := rfl

def val_main_call0_call0_call0_v89 : (⟨S8192x2048, .i32⟩ : BufTy).Contents (Elt F) :=
  broadcastInDim S8192x2048 ![] bcast_S_S8192x2048 (val_main_call0_call0_call0_c_22 (F := F))
abbrev idx_main_call0_call0_call0_v89 (i : S8192x2048.Idx) : S_.Idx := fun a => a.elim0
theorem val_main_call0_call0_call0_v89_apply (i : S8192x2048.Idx) :
    val_main_call0_call0_call0_v89 (F := F) i = val_main_call0_call0_call0_c_22 (F := F) (idx_main_call0_call0_call0_v89 i) := by
  unfold val_main_call0_call0_call0_v89
  generalize val_main_call0_call0_call0_c_22 (F := F) = y
  exact broadcastInDim_apply _ bcast_S_S8192x2048 y i (idx_main_call0_call0_call0_v89 i) (fun a => a.elim0)

def val_main_call0_call0_call0_v90 : (⟨S8192x2048, .i32⟩ : BufTy).Contents (Elt F) :=
  Host.shli (val_main_call0_call0_call0_v87 (F := F)) (val_main_call0_call0_call0_v89 (F := F))
theorem val_main_call0_call0_call0_v90_apply (i : S8192x2048.Idx) :
    val_main_call0_call0_call0_v90 (F := F) i = IntOp.shli .host (val_main_call0_call0_call0_v87 (F := F) i) (val_main_call0_call0_call0_v89 (F := F) i) := rfl

def val_main_call0_call0_call0_c_23 : (⟨S_, .i32⟩ : BufTy).Contents (Elt F) :=
  constantI S_ 32 6#32
theorem val_main_call0_call0_call0_c_23_apply (i : S_.Idx) :
    val_main_call0_call0_call0_c_23 (F := F) i = 6#32 := rfl

def val_main_call0_call0_call0_v91 : (⟨S8192x2048, .i32⟩ : BufTy).Contents (Elt F) :=
  broadcastInDim S8192x2048 ![] bcast_S_S8192x2048 (val_main_call0_call0_call0_c_23 (F := F))
abbrev idx_main_call0_call0_call0_v91 (i : S8192x2048.Idx) : S_.Idx := fun a => a.elim0
theorem val_main_call0_call0_call0_v91_apply (i : S8192x2048.Idx) :
    val_main_call0_call0_call0_v91 (F := F) i = val_main_call0_call0_call0_c_23 (F := F) (idx_main_call0_call0_call0_v91 i) := by
  unfold val_main_call0_call0_call0_v91
  generalize val_main_call0_call0_call0_c_23 (F := F) = y
  exact broadcastInDim_apply _ bcast_S_S8192x2048 y i (idx_main_call0_call0_call0_v91 i) (fun a => a.elim0)

def val_main_call0_call0_call0_v92 : (⟨S8192x2048, .i32⟩ : BufTy).Contents (Elt F) :=
  Host.shrui (val_main_call0_call0_call0_v87 (F := F)) (val_main_call0_call0_call0_v91 (F := F))
theorem val_main_call0_call0_call0_v92_apply (i : S8192x2048.Idx) :
    val_main_call0_call0_call0_v92 (F := F) i = IntOp.shrui .host (val_main_call0_call0_call0_v87 (F := F) i) (val_main_call0_call0_call0_v91 (F := F) i) := rfl

def val_main_call0_call0_call0_v93 : (⟨S8192x2048, .i32⟩ : BufTy).Contents (Elt F) :=
  ori (val_main_call0_call0_call0_v90 (F := F)) (val_main_call0_call0_call0_v92 (F := F))
theorem val_main_call0_call0_call0_v93_apply (i : S8192x2048.Idx) :
    val_main_call0_call0_call0_v93 (F := F) i = IntOp.ori (val_main_call0_call0_call0_v90 (F := F) i) (val_main_call0_call0_call0_v92 (F := F) i) := rfl

def val_main_call0_call0_call0_v94 : (⟨S8192x2048, .i32⟩ : BufTy).Contents (Elt F) :=
  xori (val_main_call0_call0_call0_v88 (F := F)) (val_main_call0_call0_call0_v93 (F := F))
theorem val_main_call0_call0_call0_v94_apply (i : S8192x2048.Idx) :
    val_main_call0_call0_call0_v94 (F := F) i = IntOp.xori (val_main_call0_call0_call0_v88 (F := F) i) (val_main_call0_call0_call0_v93 (F := F) i) := rfl

end Cert.ReferenceIdeal.Read

end
-- ==== Proof.RefReadB.lean ====
/- The reference program one operation at a time, second part: `val_b` and `val_b_apply` as in the first. -/
module

public import proofs.«01_k».proof.Proof.RefReadA

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
def val_main_call0_call0_call0_v95 : (⟨S8192x2048, .i32⟩ : BufTy).Contents (Elt F) :=
  addi (val_main_call0_call0_call0_v88 (F := F)) (val_main_call0_call0_call0_v94 (F := F))
theorem val_main_call0_call0_call0_v95_apply (i : S8192x2048.Idx) :
    val_main_call0_call0_call0_v95 (F := F) i = IntOp.addi (val_main_call0_call0_call0_v88 (F := F) i) (val_main_call0_call0_call0_v94 (F := F) i) := rfl

def val_main_call0_call0_call0_c_24 : (⟨S_, .i32⟩ : BufTy).Contents (Elt F) :=
  constantI S_ 32 6#32
theorem val_main_call0_call0_call0_c_24_apply (i : S_.Idx) :
    val_main_call0_call0_call0_c_24 (F := F) i = 6#32 := rfl

def val_main_call0_call0_call0_v96 : (⟨S8192x2048, .i32⟩ : BufTy).Contents (Elt F) :=
  broadcastInDim S8192x2048 ![] bcast_S_S8192x2048 (val_main_call0_call0_call0_c_24 (F := F))
abbrev idx_main_call0_call0_call0_v96 (i : S8192x2048.Idx) : S_.Idx := fun a => a.elim0
theorem val_main_call0_call0_call0_v96_apply (i : S8192x2048.Idx) :
    val_main_call0_call0_call0_v96 (F := F) i = val_main_call0_call0_call0_c_24 (F := F) (idx_main_call0_call0_call0_v96 i) := by
  unfold val_main_call0_call0_call0_v96
  generalize val_main_call0_call0_call0_c_24 (F := F) = y
  exact broadcastInDim_apply _ bcast_S_S8192x2048 y i (idx_main_call0_call0_call0_v96 i) (fun a => a.elim0)

def val_main_call0_call0_call0_v97 : (⟨S8192x2048, .i32⟩ : BufTy).Contents (Elt F) :=
  Host.shli (val_main_call0_call0_call0_v94 (F := F)) (val_main_call0_call0_call0_v96 (F := F))
theorem val_main_call0_call0_call0_v97_apply (i : S8192x2048.Idx) :
    val_main_call0_call0_call0_v97 (F := F) i = IntOp.shli .host (val_main_call0_call0_call0_v94 (F := F) i) (val_main_call0_call0_call0_v96 (F := F) i) := rfl

def val_main_call0_call0_call0_c_25 : (⟨S_, .i32⟩ : BufTy).Contents (Elt F) :=
  constantI S_ 32 26#32
theorem val_main_call0_call0_call0_c_25_apply (i : S_.Idx) :
    val_main_call0_call0_call0_c_25 (F := F) i = 26#32 := rfl

def val_main_call0_call0_call0_v98 : (⟨S8192x2048, .i32⟩ : BufTy).Contents (Elt F) :=
  broadcastInDim S8192x2048 ![] bcast_S_S8192x2048 (val_main_call0_call0_call0_c_25 (F := F))
abbrev idx_main_call0_call0_call0_v98 (i : S8192x2048.Idx) : S_.Idx := fun a => a.elim0
theorem val_main_call0_call0_call0_v98_apply (i : S8192x2048.Idx) :
    val_main_call0_call0_call0_v98 (F := F) i = val_main_call0_call0_call0_c_25 (F := F) (idx_main_call0_call0_call0_v98 i) := by
  unfold val_main_call0_call0_call0_v98
  generalize val_main_call0_call0_call0_c_25 (F := F) = y
  exact broadcastInDim_apply _ bcast_S_S8192x2048 y i (idx_main_call0_call0_call0_v98 i) (fun a => a.elim0)

def val_main_call0_call0_call0_v99 : (⟨S8192x2048, .i32⟩ : BufTy).Contents (Elt F) :=
  Host.shrui (val_main_call0_call0_call0_v94 (F := F)) (val_main_call0_call0_call0_v98 (F := F))
theorem val_main_call0_call0_call0_v99_apply (i : S8192x2048.Idx) :
    val_main_call0_call0_call0_v99 (F := F) i = IntOp.shrui .host (val_main_call0_call0_call0_v94 (F := F) i) (val_main_call0_call0_call0_v98 (F := F) i) := rfl

def val_main_call0_call0_call0_v100 : (⟨S8192x2048, .i32⟩ : BufTy).Contents (Elt F) :=
  ori (val_main_call0_call0_call0_v97 (F := F)) (val_main_call0_call0_call0_v99 (F := F))
theorem val_main_call0_call0_call0_v100_apply (i : S8192x2048.Idx) :
    val_main_call0_call0_call0_v100 (F := F) i = IntOp.ori (val_main_call0_call0_call0_v97 (F := F) i) (val_main_call0_call0_call0_v99 (F := F) i) := rfl

def val_main_call0_call0_call0_v101 : (⟨S8192x2048, .i32⟩ : BufTy).Contents (Elt F) :=
  xori (val_main_call0_call0_call0_v95 (F := F)) (val_main_call0_call0_call0_v100 (F := F))
theorem val_main_call0_call0_call0_v101_apply (i : S8192x2048.Idx) :
    val_main_call0_call0_call0_v101 (F := F) i = IntOp.xori (val_main_call0_call0_call0_v95 (F := F) i) (val_main_call0_call0_call0_v100 (F := F) i) := rfl

def val_main_call0_call0_call0_v102 : (⟨S8192x2048, .i32⟩ : BufTy).Contents (Elt F) :=
  broadcastInDim S8192x2048 ![] bcast_S_S8192x2048 (val_main_call0_call0_v5 (F := F))
abbrev idx_main_call0_call0_call0_v102 (i : S8192x2048.Idx) : S_.Idx := fun a => a.elim0
theorem val_main_call0_call0_call0_v102_apply (i : S8192x2048.Idx) :
    val_main_call0_call0_call0_v102 (F := F) i = val_main_call0_call0_v5 (F := F) (idx_main_call0_call0_call0_v102 i) := by
  unfold val_main_call0_call0_call0_v102
  generalize val_main_call0_call0_v5 (F := F) = y
  exact broadcastInDim_apply _ bcast_S_S8192x2048 y i (idx_main_call0_call0_call0_v102 i) (fun a => a.elim0)

def val_main_call0_call0_call0_v103 : (⟨S8192x2048, .i32⟩ : BufTy).Contents (Elt F) :=
  addi (val_main_call0_call0_call0_v95 (F := F)) (val_main_call0_call0_call0_v102 (F := F))
theorem val_main_call0_call0_call0_v103_apply (i : S8192x2048.Idx) :
    val_main_call0_call0_call0_v103 (F := F) i = IntOp.addi (val_main_call0_call0_call0_v95 (F := F) i) (val_main_call0_call0_call0_v102 (F := F) i) := rfl

def val_main_call0_call0_call0_v104 : (⟨S8192x2048, .i32⟩ : BufTy).Contents (Elt F) :=
  broadcastInDim S8192x2048 ![] bcast_S_S8192x2048 (val_main_call0_call0_v7 (F := F))
abbrev idx_main_call0_call0_call0_v104 (i : S8192x2048.Idx) : S_.Idx := fun a => a.elim0
theorem val_main_call0_call0_call0_v104_apply (i : S8192x2048.Idx) :
    val_main_call0_call0_call0_v104 (F := F) i = val_main_call0_call0_v7 (F := F) (idx_main_call0_call0_call0_v104 i) := by
  unfold val_main_call0_call0_call0_v104
  generalize val_main_call0_call0_v7 (F := F) = y
  exact broadcastInDim_apply _ bcast_S_S8192x2048 y i (idx_main_call0_call0_call0_v104 i) (fun a => a.elim0)

def val_main_call0_call0_call0_v105 : (⟨S8192x2048, .i32⟩ : BufTy).Contents (Elt F) :=
  addi (val_main_call0_call0_call0_v101 (F := F)) (val_main_call0_call0_call0_v104 (F := F))
theorem val_main_call0_call0_call0_v105_apply (i : S8192x2048.Idx) :
    val_main_call0_call0_call0_v105 (F := F) i = IntOp.addi (val_main_call0_call0_call0_v101 (F := F) i) (val_main_call0_call0_call0_v104 (F := F) i) := rfl

def val_main_call0_call0_call0_c_26 : (⟨S_, .i32⟩ : BufTy).Contents (Elt F) :=
  constantI S_ 32 3#32
theorem val_main_call0_call0_call0_c_26_apply (i : S_.Idx) :
    val_main_call0_call0_call0_c_26 (F := F) i = 3#32 := rfl

def val_main_call0_call0_call0_v106 : (⟨S8192x2048, .i32⟩ : BufTy).Contents (Elt F) :=
  broadcastInDim S8192x2048 ![] bcast_S_S8192x2048 (val_main_call0_call0_call0_c_26 (F := F))
abbrev idx_main_call0_call0_call0_v106 (i : S8192x2048.Idx) : S_.Idx := fun a => a.elim0
theorem val_main_call0_call0_call0_v106_apply (i : S8192x2048.Idx) :
    val_main_call0_call0_call0_v106 (F := F) i = val_main_call0_call0_call0_c_26 (F := F) (idx_main_call0_call0_call0_v106 i) := by
  unfold val_main_call0_call0_call0_v106
  generalize val_main_call0_call0_call0_c_26 (F := F) = y
  exact broadcastInDim_apply _ bcast_S_S8192x2048 y i (idx_main_call0_call0_call0_v106 i) (fun a => a.elim0)

def val_main_call0_call0_call0_v107 : (⟨S8192x2048, .i32⟩ : BufTy).Contents (Elt F) :=
  addi (val_main_call0_call0_call0_v105 (F := F)) (val_main_call0_call0_call0_v106 (F := F))
theorem val_main_call0_call0_call0_v107_apply (i : S8192x2048.Idx) :
    val_main_call0_call0_call0_v107 (F := F) i = IntOp.addi (val_main_call0_call0_call0_v105 (F := F) i) (val_main_call0_call0_call0_v106 (F := F) i) := rfl

def val_main_call0_call0_call0_v108 : (⟨S8192x2048, .i32⟩ : BufTy).Contents (Elt F) :=
  addi (val_main_call0_call0_call0_v103 (F := F)) (val_main_call0_call0_call0_v107 (F := F))
theorem val_main_call0_call0_call0_v108_apply (i : S8192x2048.Idx) :
    val_main_call0_call0_call0_v108 (F := F) i = IntOp.addi (val_main_call0_call0_call0_v103 (F := F) i) (val_main_call0_call0_call0_v107 (F := F) i) := rfl

def val_main_call0_call0_call0_c_27 : (⟨S_, .i32⟩ : BufTy).Contents (Elt F) :=
  constantI S_ 32 17#32
theorem val_main_call0_call0_call0_c_27_apply (i : S_.Idx) :
    val_main_call0_call0_call0_c_27 (F := F) i = 17#32 := rfl

def val_main_call0_call0_call0_v109 : (⟨S8192x2048, .i32⟩ : BufTy).Contents (Elt F) :=
  broadcastInDim S8192x2048 ![] bcast_S_S8192x2048 (val_main_call0_call0_call0_c_27 (F := F))
abbrev idx_main_call0_call0_call0_v109 (i : S8192x2048.Idx) : S_.Idx := fun a => a.elim0
theorem val_main_call0_call0_call0_v109_apply (i : S8192x2048.Idx) :
    val_main_call0_call0_call0_v109 (F := F) i = val_main_call0_call0_call0_c_27 (F := F) (idx_main_call0_call0_call0_v109 i) := by
  unfold val_main_call0_call0_call0_v109
  generalize val_main_call0_call0_call0_c_27 (F := F) = y
  exact broadcastInDim_apply _ bcast_S_S8192x2048 y i (idx_main_call0_call0_call0_v109 i) (fun a => a.elim0)

def val_main_call0_call0_call0_v110 : (⟨S8192x2048, .i32⟩ : BufTy).Contents (Elt F) :=
  Host.shli (val_main_call0_call0_call0_v107 (F := F)) (val_main_call0_call0_call0_v109 (F := F))
theorem val_main_call0_call0_call0_v110_apply (i : S8192x2048.Idx) :
    val_main_call0_call0_call0_v110 (F := F) i = IntOp.shli .host (val_main_call0_call0_call0_v107 (F := F) i) (val_main_call0_call0_call0_v109 (F := F) i) := rfl

def val_main_call0_call0_call0_c_28 : (⟨S_, .i32⟩ : BufTy).Contents (Elt F) :=
  constantI S_ 32 15#32
theorem val_main_call0_call0_call0_c_28_apply (i : S_.Idx) :
    val_main_call0_call0_call0_c_28 (F := F) i = 15#32 := rfl

def val_main_call0_call0_call0_v111 : (⟨S8192x2048, .i32⟩ : BufTy).Contents (Elt F) :=
  broadcastInDim S8192x2048 ![] bcast_S_S8192x2048 (val_main_call0_call0_call0_c_28 (F := F))
abbrev idx_main_call0_call0_call0_v111 (i : S8192x2048.Idx) : S_.Idx := fun a => a.elim0
theorem val_main_call0_call0_call0_v111_apply (i : S8192x2048.Idx) :
    val_main_call0_call0_call0_v111 (F := F) i = val_main_call0_call0_call0_c_28 (F := F) (idx_main_call0_call0_call0_v111 i) := by
  unfold val_main_call0_call0_call0_v111
  generalize val_main_call0_call0_call0_c_28 (F := F) = y
  exact broadcastInDim_apply _ bcast_S_S8192x2048 y i (idx_main_call0_call0_call0_v111 i) (fun a => a.elim0)

def val_main_call0_call0_call0_v112 : (⟨S8192x2048, .i32⟩ : BufTy).Contents (Elt F) :=
  Host.shrui (val_main_call0_call0_call0_v107 (F := F)) (val_main_call0_call0_call0_v111 (F := F))
theorem val_main_call0_call0_call0_v112_apply (i : S8192x2048.Idx) :
    val_main_call0_call0_call0_v112 (F := F) i = IntOp.shrui .host (val_main_call0_call0_call0_v107 (F := F) i) (val_main_call0_call0_call0_v111 (F := F) i) := rfl

def val_main_call0_call0_call0_v113 : (⟨S8192x2048, .i32⟩ : BufTy).Contents (Elt F) :=
  ori (val_main_call0_call0_call0_v110 (F := F)) (val_main_call0_call0_call0_v112 (F := F))
theorem val_main_call0_call0_call0_v113_apply (i : S8192x2048.Idx) :
    val_main_call0_call0_call0_v113 (F := F) i = IntOp.ori (val_main_call0_call0_call0_v110 (F := F) i) (val_main_call0_call0_call0_v112 (F := F) i) := rfl

def val_main_call0_call0_call0_v114 : (⟨S8192x2048, .i32⟩ : BufTy).Contents (Elt F) :=
  xori (val_main_call0_call0_call0_v108 (F := F)) (val_main_call0_call0_call0_v113 (F := F))
theorem val_main_call0_call0_call0_v114_apply (i : S8192x2048.Idx) :
    val_main_call0_call0_call0_v114 (F := F) i = IntOp.xori (val_main_call0_call0_call0_v108 (F := F) i) (val_main_call0_call0_call0_v113 (F := F) i) := rfl

def val_main_call0_call0_call0_v115 : (⟨S8192x2048, .i32⟩ : BufTy).Contents (Elt F) :=
  addi (val_main_call0_call0_call0_v108 (F := F)) (val_main_call0_call0_call0_v114 (F := F))
theorem val_main_call0_call0_call0_v115_apply (i : S8192x2048.Idx) :
    val_main_call0_call0_call0_v115 (F := F) i = IntOp.addi (val_main_call0_call0_call0_v108 (F := F) i) (val_main_call0_call0_call0_v114 (F := F) i) := rfl

def val_main_call0_call0_call0_c_29 : (⟨S_, .i32⟩ : BufTy).Contents (Elt F) :=
  constantI S_ 32 29#32
theorem val_main_call0_call0_call0_c_29_apply (i : S_.Idx) :
    val_main_call0_call0_call0_c_29 (F := F) i = 29#32 := rfl

def val_main_call0_call0_call0_v116 : (⟨S8192x2048, .i32⟩ : BufTy).Contents (Elt F) :=
  broadcastInDim S8192x2048 ![] bcast_S_S8192x2048 (val_main_call0_call0_call0_c_29 (F := F))
abbrev idx_main_call0_call0_call0_v116 (i : S8192x2048.Idx) : S_.Idx := fun a => a.elim0
theorem val_main_call0_call0_call0_v116_apply (i : S8192x2048.Idx) :
    val_main_call0_call0_call0_v116 (F := F) i = val_main_call0_call0_call0_c_29 (F := F) (idx_main_call0_call0_call0_v116 i) := by
  unfold val_main_call0_call0_call0_v116
  generalize val_main_call0_call0_call0_c_29 (F := F) = y
  exact broadcastInDim_apply _ bcast_S_S8192x2048 y i (idx_main_call0_call0_call0_v116 i) (fun a => a.elim0)

def val_main_call0_call0_call0_v117 : (⟨S8192x2048, .i32⟩ : BufTy).Contents (Elt F) :=
  Host.shli (val_main_call0_call0_call0_v114 (F := F)) (val_main_call0_call0_call0_v116 (F := F))
theorem val_main_call0_call0_call0_v117_apply (i : S8192x2048.Idx) :
    val_main_call0_call0_call0_v117 (F := F) i = IntOp.shli .host (val_main_call0_call0_call0_v114 (F := F) i) (val_main_call0_call0_call0_v116 (F := F) i) := rfl

def val_main_call0_call0_call0_c_30 : (⟨S_, .i32⟩ : BufTy).Contents (Elt F) :=
  constantI S_ 32 3#32
theorem val_main_call0_call0_call0_c_30_apply (i : S_.Idx) :
    val_main_call0_call0_call0_c_30 (F := F) i = 3#32 := rfl

def val_main_call0_call0_call0_v118 : (⟨S8192x2048, .i32⟩ : BufTy).Contents (Elt F) :=
  broadcastInDim S8192x2048 ![] bcast_S_S8192x2048 (val_main_call0_call0_call0_c_30 (F := F))
abbrev idx_main_call0_call0_call0_v118 (i : S8192x2048.Idx) : S_.Idx := fun a => a.elim0
theorem val_main_call0_call0_call0_v118_apply (i : S8192x2048.Idx) :
    val_main_call0_call0_call0_v118 (F := F) i = val_main_call0_call0_call0_c_30 (F := F) (idx_main_call0_call0_call0_v118 i) := by
  unfold val_main_call0_call0_call0_v118
  generalize val_main_call0_call0_call0_c_30 (F := F) = y
  exact broadcastInDim_apply _ bcast_S_S8192x2048 y i (idx_main_call0_call0_call0_v118 i) (fun a => a.elim0)

def val_main_call0_call0_call0_v119 : (⟨S8192x2048, .i32⟩ : BufTy).Contents (Elt F) :=
  Host.shrui (val_main_call0_call0_call0_v114 (F := F)) (val_main_call0_call0_call0_v118 (F := F))
theorem val_main_call0_call0_call0_v119_apply (i : S8192x2048.Idx) :
    val_main_call0_call0_call0_v119 (F := F) i = IntOp.shrui .host (val_main_call0_call0_call0_v114 (F := F) i) (val_main_call0_call0_call0_v118 (F := F) i) := rfl

def val_main_call0_call0_call0_v120 : (⟨S8192x2048, .i32⟩ : BufTy).Contents (Elt F) :=
  ori (val_main_call0_call0_call0_v117 (F := F)) (val_main_call0_call0_call0_v119 (F := F))
theorem val_main_call0_call0_call0_v120_apply (i : S8192x2048.Idx) :
    val_main_call0_call0_call0_v120 (F := F) i = IntOp.ori (val_main_call0_call0_call0_v117 (F := F) i) (val_main_call0_call0_call0_v119 (F := F) i) := rfl

def val_main_call0_call0_call0_v121 : (⟨S8192x2048, .i32⟩ : BufTy).Contents (Elt F) :=
  xori (val_main_call0_call0_call0_v115 (F := F)) (val_main_call0_call0_call0_v120 (F := F))
theorem val_main_call0_call0_call0_v121_apply (i : S8192x2048.Idx) :
    val_main_call0_call0_call0_v121 (F := F) i = IntOp.xori (val_main_call0_call0_call0_v115 (F := F) i) (val_main_call0_call0_call0_v120 (F := F) i) := rfl

def val_main_call0_call0_call0_v122 : (⟨S8192x2048, .i32⟩ : BufTy).Contents (Elt F) :=
  addi (val_main_call0_call0_call0_v115 (F := F)) (val_main_call0_call0_call0_v121 (F := F))
theorem val_main_call0_call0_call0_v122_apply (i : S8192x2048.Idx) :
    val_main_call0_call0_call0_v122 (F := F) i = IntOp.addi (val_main_call0_call0_call0_v115 (F := F) i) (val_main_call0_call0_call0_v121 (F := F) i) := rfl

def val_main_call0_call0_call0_c_31 : (⟨S_, .i32⟩ : BufTy).Contents (Elt F) :=
  constantI S_ 32 16#32
theorem val_main_call0_call0_call0_c_31_apply (i : S_.Idx) :
    val_main_call0_call0_call0_c_31 (F := F) i = 16#32 := rfl

def val_main_call0_call0_call0_v123 : (⟨S8192x2048, .i32⟩ : BufTy).Contents (Elt F) :=
  broadcastInDim S8192x2048 ![] bcast_S_S8192x2048 (val_main_call0_call0_call0_c_31 (F := F))
abbrev idx_main_call0_call0_call0_v123 (i : S8192x2048.Idx) : S_.Idx := fun a => a.elim0
theorem val_main_call0_call0_call0_v123_apply (i : S8192x2048.Idx) :
    val_main_call0_call0_call0_v123 (F := F) i = val_main_call0_call0_call0_c_31 (F := F) (idx_main_call0_call0_call0_v123 i) := by
  unfold val_main_call0_call0_call0_v123
  generalize val_main_call0_call0_call0_c_31 (F := F) = y
  exact broadcastInDim_apply _ bcast_S_S8192x2048 y i (idx_main_call0_call0_call0_v123 i) (fun a => a.elim0)

def val_main_call0_call0_call0_v124 : (⟨S8192x2048, .i32⟩ : BufTy).Contents (Elt F) :=
  Host.shli (val_main_call0_call0_call0_v121 (F := F)) (val_main_call0_call0_call0_v123 (F := F))
theorem val_main_call0_call0_call0_v124_apply (i : S8192x2048.Idx) :
    val_main_call0_call0_call0_v124 (F := F) i = IntOp.shli .host (val_main_call0_call0_call0_v121 (F := F) i) (val_main_call0_call0_call0_v123 (F := F) i) := rfl

def val_main_call0_call0_call0_c_32 : (⟨S_, .i32⟩ : BufTy).Contents (Elt F) :=
  constantI S_ 32 16#32
theorem val_main_call0_call0_call0_c_32_apply (i : S_.Idx) :
    val_main_call0_call0_call0_c_32 (F := F) i = 16#32 := rfl

def val_main_call0_call0_call0_v125 : (⟨S8192x2048, .i32⟩ : BufTy).Contents (Elt F) :=
  broadcastInDim S8192x2048 ![] bcast_S_S8192x2048 (val_main_call0_call0_call0_c_32 (F := F))
abbrev idx_main_call0_call0_call0_v125 (i : S8192x2048.Idx) : S_.Idx := fun a => a.elim0
theorem val_main_call0_call0_call0_v125_apply (i : S8192x2048.Idx) :
    val_main_call0_call0_call0_v125 (F := F) i = val_main_call0_call0_call0_c_32 (F := F) (idx_main_call0_call0_call0_v125 i) := by
  unfold val_main_call0_call0_call0_v125
  generalize val_main_call0_call0_call0_c_32 (F := F) = y
  exact broadcastInDim_apply _ bcast_S_S8192x2048 y i (idx_main_call0_call0_call0_v125 i) (fun a => a.elim0)

def val_main_call0_call0_call0_v126 : (⟨S8192x2048, .i32⟩ : BufTy).Contents (Elt F) :=
  Host.shrui (val_main_call0_call0_call0_v121 (F := F)) (val_main_call0_call0_call0_v125 (F := F))
theorem val_main_call0_call0_call0_v126_apply (i : S8192x2048.Idx) :
    val_main_call0_call0_call0_v126 (F := F) i = IntOp.shrui .host (val_main_call0_call0_call0_v121 (F := F) i) (val_main_call0_call0_call0_v125 (F := F) i) := rfl

def val_main_call0_call0_call0_v127 : (⟨S8192x2048, .i32⟩ : BufTy).Contents (Elt F) :=
  ori (val_main_call0_call0_call0_v124 (F := F)) (val_main_call0_call0_call0_v126 (F := F))
theorem val_main_call0_call0_call0_v127_apply (i : S8192x2048.Idx) :
    val_main_call0_call0_call0_v127 (F := F) i = IntOp.ori (val_main_call0_call0_call0_v124 (F := F) i) (val_main_call0_call0_call0_v126 (F := F) i) := rfl

def val_main_call0_call0_call0_v128 : (⟨S8192x2048, .i32⟩ : BufTy).Contents (Elt F) :=
  xori (val_main_call0_call0_call0_v122 (F := F)) (val_main_call0_call0_call0_v127 (F := F))
theorem val_main_call0_call0_call0_v128_apply (i : S8192x2048.Idx) :
    val_main_call0_call0_call0_v128 (F := F) i = IntOp.xori (val_main_call0_call0_call0_v122 (F := F) i) (val_main_call0_call0_call0_v127 (F := F) i) := rfl

def val_main_call0_call0_call0_v129 : (⟨S8192x2048, .i32⟩ : BufTy).Contents (Elt F) :=
  addi (val_main_call0_call0_call0_v122 (F := F)) (val_main_call0_call0_call0_v128 (F := F))
theorem val_main_call0_call0_call0_v129_apply (i : S8192x2048.Idx) :
    val_main_call0_call0_call0_v129 (F := F) i = IntOp.addi (val_main_call0_call0_call0_v122 (F := F) i) (val_main_call0_call0_call0_v128 (F := F) i) := rfl

def val_main_call0_call0_call0_c_33 : (⟨S_, .i32⟩ : BufTy).Contents (Elt F) :=
  constantI S_ 32 24#32
theorem val_main_call0_call0_call0_c_33_apply (i : S_.Idx) :
    val_main_call0_call0_call0_c_33 (F := F) i = 24#32 := rfl

def val_main_call0_call0_call0_v130 : (⟨S8192x2048, .i32⟩ : BufTy).Contents (Elt F) :=
  broadcastInDim S8192x2048 ![] bcast_S_S8192x2048 (val_main_call0_call0_call0_c_33 (F := F))
abbrev idx_main_call0_call0_call0_v130 (i : S8192x2048.Idx) : S_.Idx := fun a => a.elim0
theorem val_main_call0_call0_call0_v130_apply (i : S8192x2048.Idx) :
    val_main_call0_call0_call0_v130 (F := F) i = val_main_call0_call0_call0_c_33 (F := F) (idx_main_call0_call0_call0_v130 i) := by
  unfold val_main_call0_call0_call0_v130
  generalize val_main_call0_call0_call0_c_33 (F := F) = y
  exact broadcastInDim_apply _ bcast_S_S8192x2048 y i (idx_main_call0_call0_call0_v130 i) (fun a => a.elim0)

def val_main_call0_call0_call0_v131 : (⟨S8192x2048, .i32⟩ : BufTy).Contents (Elt F) :=
  Host.shli (val_main_call0_call0_call0_v128 (F := F)) (val_main_call0_call0_call0_v130 (F := F))
theorem val_main_call0_call0_call0_v131_apply (i : S8192x2048.Idx) :
    val_main_call0_call0_call0_v131 (F := F) i = IntOp.shli .host (val_main_call0_call0_call0_v128 (F := F) i) (val_main_call0_call0_call0_v130 (F := F) i) := rfl

def val_main_call0_call0_call0_c_34 : (⟨S_, .i32⟩ : BufTy).Contents (Elt F) :=
  constantI S_ 32 8#32
theorem val_main_call0_call0_call0_c_34_apply (i : S_.Idx) :
    val_main_call0_call0_call0_c_34 (F := F) i = 8#32 := rfl

def val_main_call0_call0_call0_v132 : (⟨S8192x2048, .i32⟩ : BufTy).Contents (Elt F) :=
  broadcastInDim S8192x2048 ![] bcast_S_S8192x2048 (val_main_call0_call0_call0_c_34 (F := F))
abbrev idx_main_call0_call0_call0_v132 (i : S8192x2048.Idx) : S_.Idx := fun a => a.elim0
theorem val_main_call0_call0_call0_v132_apply (i : S8192x2048.Idx) :
    val_main_call0_call0_call0_v132 (F := F) i = val_main_call0_call0_call0_c_34 (F := F) (idx_main_call0_call0_call0_v132 i) := by
  unfold val_main_call0_call0_call0_v132
  generalize val_main_call0_call0_call0_c_34 (F := F) = y
  exact broadcastInDim_apply _ bcast_S_S8192x2048 y i (idx_main_call0_call0_call0_v132 i) (fun a => a.elim0)

def val_main_call0_call0_call0_v133 : (⟨S8192x2048, .i32⟩ : BufTy).Contents (Elt F) :=
  Host.shrui (val_main_call0_call0_call0_v128 (F := F)) (val_main_call0_call0_call0_v132 (F := F))
theorem val_main_call0_call0_call0_v133_apply (i : S8192x2048.Idx) :
    val_main_call0_call0_call0_v133 (F := F) i = IntOp.shrui .host (val_main_call0_call0_call0_v128 (F := F) i) (val_main_call0_call0_call0_v132 (F := F) i) := rfl

def val_main_call0_call0_call0_v134 : (⟨S8192x2048, .i32⟩ : BufTy).Contents (Elt F) :=
  ori (val_main_call0_call0_call0_v131 (F := F)) (val_main_call0_call0_call0_v133 (F := F))
theorem val_main_call0_call0_call0_v134_apply (i : S8192x2048.Idx) :
    val_main_call0_call0_call0_v134 (F := F) i = IntOp.ori (val_main_call0_call0_call0_v131 (F := F) i) (val_main_call0_call0_call0_v133 (F := F) i) := rfl

def val_main_call0_call0_call0_v135 : (⟨S8192x2048, .i32⟩ : BufTy).Contents (Elt F) :=
  xori (val_main_call0_call0_call0_v129 (F := F)) (val_main_call0_call0_call0_v134 (F := F))
theorem val_main_call0_call0_call0_v135_apply (i : S8192x2048.Idx) :
    val_main_call0_call0_call0_v135 (F := F) i = IntOp.xori (val_main_call0_call0_call0_v129 (F := F) i) (val_main_call0_call0_call0_v134 (F := F) i) := rfl

def val_main_call0_call0_call0_v136 : (⟨S8192x2048, .i32⟩ : BufTy).Contents (Elt F) :=
  broadcastInDim S8192x2048 ![] bcast_S_S8192x2048 (val_main_call0_call0_v7 (F := F))
abbrev idx_main_call0_call0_call0_v136 (i : S8192x2048.Idx) : S_.Idx := fun a => a.elim0
theorem val_main_call0_call0_call0_v136_apply (i : S8192x2048.Idx) :
    val_main_call0_call0_call0_v136 (F := F) i = val_main_call0_call0_v7 (F := F) (idx_main_call0_call0_call0_v136 i) := by
  unfold val_main_call0_call0_call0_v136
  generalize val_main_call0_call0_v7 (F := F) = y
  exact broadcastInDim_apply _ bcast_S_S8192x2048 y i (idx_main_call0_call0_call0_v136 i) (fun a => a.elim0)

def val_main_call0_call0_call0_v137 : (⟨S8192x2048, .i32⟩ : BufTy).Contents (Elt F) :=
  addi (val_main_call0_call0_call0_v129 (F := F)) (val_main_call0_call0_call0_v136 (F := F))
theorem val_main_call0_call0_call0_v137_apply (i : S8192x2048.Idx) :
    val_main_call0_call0_call0_v137 (F := F) i = IntOp.addi (val_main_call0_call0_call0_v129 (F := F) i) (val_main_call0_call0_call0_v136 (F := F) i) := rfl

def val_main_call0_call0_call0_v138 : (⟨S8192x2048, .i32⟩ : BufTy).Contents (Elt F) :=
  broadcastInDim S8192x2048 ![] bcast_S_S8192x2048 (val_main_call0_call0_call0_v1 (F := F))
abbrev idx_main_call0_call0_call0_v138 (i : S8192x2048.Idx) : S_.Idx := fun a => a.elim0
theorem val_main_call0_call0_call0_v138_apply (i : S8192x2048.Idx) :
    val_main_call0_call0_call0_v138 (F := F) i = val_main_call0_call0_call0_v1 (F := F) (idx_main_call0_call0_call0_v138 i) := by
  unfold val_main_call0_call0_call0_v138
  generalize val_main_call0_call0_call0_v1 (F := F) = y
  exact broadcastInDim_apply _ bcast_S_S8192x2048 y i (idx_main_call0_call0_call0_v138 i) (fun a => a.elim0)

def val_main_call0_call0_call0_v139 : (⟨S8192x2048, .i32⟩ : BufTy).Contents (Elt F) :=
  addi (val_main_call0_call0_call0_v135 (F := F)) (val_main_call0_call0_call0_v138 (F := F))
theorem val_main_call0_call0_call0_v139_apply (i : S8192x2048.Idx) :
    val_main_call0_call0_call0_v139 (F := F) i = IntOp.addi (val_main_call0_call0_call0_v135 (F := F) i) (val_main_call0_call0_call0_v138 (F := F) i) := rfl

def val_main_call0_call0_call0_c_35 : (⟨S_, .i32⟩ : BufTy).Contents (Elt F) :=
  constantI S_ 32 4#32
theorem val_main_call0_call0_call0_c_35_apply (i : S_.Idx) :
    val_main_call0_call0_call0_c_35 (F := F) i = 4#32 := rfl

def val_main_call0_call0_call0_v140 : (⟨S8192x2048, .i32⟩ : BufTy).Contents (Elt F) :=
  broadcastInDim S8192x2048 ![] bcast_S_S8192x2048 (val_main_call0_call0_call0_c_35 (F := F))
abbrev idx_main_call0_call0_call0_v140 (i : S8192x2048.Idx) : S_.Idx := fun a => a.elim0
theorem val_main_call0_call0_call0_v140_apply (i : S8192x2048.Idx) :
    val_main_call0_call0_call0_v140 (F := F) i = val_main_call0_call0_call0_c_35 (F := F) (idx_main_call0_call0_call0_v140 i) := by
  unfold val_main_call0_call0_call0_v140
  generalize val_main_call0_call0_call0_c_35 (F := F) = y
  exact broadcastInDim_apply _ bcast_S_S8192x2048 y i (idx_main_call0_call0_call0_v140 i) (fun a => a.elim0)

def val_main_call0_call0_call0_v141 : (⟨S8192x2048, .i32⟩ : BufTy).Contents (Elt F) :=
  addi (val_main_call0_call0_call0_v139 (F := F)) (val_main_call0_call0_call0_v140 (F := F))
theorem val_main_call0_call0_call0_v141_apply (i : S8192x2048.Idx) :
    val_main_call0_call0_call0_v141 (F := F) i = IntOp.addi (val_main_call0_call0_call0_v139 (F := F) i) (val_main_call0_call0_call0_v140 (F := F) i) := rfl

def val_main_call0_call0_call0_v142 : (⟨S8192x2048, .i32⟩ : BufTy).Contents (Elt F) :=
  addi (val_main_call0_call0_call0_v137 (F := F)) (val_main_call0_call0_call0_v141 (F := F))
theorem val_main_call0_call0_call0_v142_apply (i : S8192x2048.Idx) :
    val_main_call0_call0_call0_v142 (F := F) i = IntOp.addi (val_main_call0_call0_call0_v137 (F := F) i) (val_main_call0_call0_call0_v141 (F := F) i) := rfl

def val_main_call0_call0_call0_c_36 : (⟨S_, .i32⟩ : BufTy).Contents (Elt F) :=
  constantI S_ 32 13#32
theorem val_main_call0_call0_call0_c_36_apply (i : S_.Idx) :
    val_main_call0_call0_call0_c_36 (F := F) i = 13#32 := rfl

def val_main_call0_call0_call0_v143 : (⟨S8192x2048, .i32⟩ : BufTy).Contents (Elt F) :=
  broadcastInDim S8192x2048 ![] bcast_S_S8192x2048 (val_main_call0_call0_call0_c_36 (F := F))
abbrev idx_main_call0_call0_call0_v143 (i : S8192x2048.Idx) : S_.Idx := fun a => a.elim0
theorem val_main_call0_call0_call0_v143_apply (i : S8192x2048.Idx) :
    val_main_call0_call0_call0_v143 (F := F) i = val_main_call0_call0_call0_c_36 (F := F) (idx_main_call0_call0_call0_v143 i) := by
  unfold val_main_call0_call0_call0_v143
  generalize val_main_call0_call0_call0_c_36 (F := F) = y
  exact broadcastInDim_apply _ bcast_S_S8192x2048 y i (idx_main_call0_call0_call0_v143 i) (fun a => a.elim0)

def val_main_call0_call0_call0_v144 : (⟨S8192x2048, .i32⟩ : BufTy).Contents (Elt F) :=
  Host.shli (val_main_call0_call0_call0_v141 (F := F)) (val_main_call0_call0_call0_v143 (F := F))
theorem val_main_call0_call0_call0_v144_apply (i : S8192x2048.Idx) :
    val_main_call0_call0_call0_v144 (F := F) i = IntOp.shli .host (val_main_call0_call0_call0_v141 (F := F) i) (val_main_call0_call0_call0_v143 (F := F) i) := rfl

def val_main_call0_call0_call0_c_37 : (⟨S_, .i32⟩ : BufTy).Contents (Elt F) :=
  constantI S_ 32 19#32
theorem val_main_call0_call0_call0_c_37_apply (i : S_.Idx) :
    val_main_call0_call0_call0_c_37 (F := F) i = 19#32 := rfl

def val_main_call0_call0_call0_v145 : (⟨S8192x2048, .i32⟩ : BufTy).Contents (Elt F) :=
  broadcastInDim S8192x2048 ![] bcast_S_S8192x2048 (val_main_call0_call0_call0_c_37 (F := F))
abbrev idx_main_call0_call0_call0_v145 (i : S8192x2048.Idx) : S_.Idx := fun a => a.elim0
theorem val_main_call0_call0_call0_v145_apply (i : S8192x2048.Idx) :
    val_main_call0_call0_call0_v145 (F := F) i = val_main_call0_call0_call0_c_37 (F := F) (idx_main_call0_call0_call0_v145 i) := by
  unfold val_main_call0_call0_call0_v145
  generalize val_main_call0_call0_call0_c_37 (F := F) = y
  exact broadcastInDim_apply _ bcast_S_S8192x2048 y i (idx_main_call0_call0_call0_v145 i) (fun a => a.elim0)

def val_main_call0_call0_call0_v146 : (⟨S8192x2048, .i32⟩ : BufTy).Contents (Elt F) :=
  Host.shrui (val_main_call0_call0_call0_v141 (F := F)) (val_main_call0_call0_call0_v145 (F := F))
theorem val_main_call0_call0_call0_v146_apply (i : S8192x2048.Idx) :
    val_main_call0_call0_call0_v146 (F := F) i = IntOp.shrui .host (val_main_call0_call0_call0_v141 (F := F) i) (val_main_call0_call0_call0_v145 (F := F) i) := rfl

def val_main_call0_call0_call0_v147 : (⟨S8192x2048, .i32⟩ : BufTy).Contents (Elt F) :=
  ori (val_main_call0_call0_call0_v144 (F := F)) (val_main_call0_call0_call0_v146 (F := F))
theorem val_main_call0_call0_call0_v147_apply (i : S8192x2048.Idx) :
    val_main_call0_call0_call0_v147 (F := F) i = IntOp.ori (val_main_call0_call0_call0_v144 (F := F) i) (val_main_call0_call0_call0_v146 (F := F) i) := rfl

def val_main_call0_call0_call0_v148 : (⟨S8192x2048, .i32⟩ : BufTy).Contents (Elt F) :=
  xori (val_main_call0_call0_call0_v142 (F := F)) (val_main_call0_call0_call0_v147 (F := F))
theorem val_main_call0_call0_call0_v148_apply (i : S8192x2048.Idx) :
    val_main_call0_call0_call0_v148 (F := F) i = IntOp.xori (val_main_call0_call0_call0_v142 (F := F) i) (val_main_call0_call0_call0_v147 (F := F) i) := rfl

def val_main_call0_call0_call0_v149 : (⟨S8192x2048, .i32⟩ : BufTy).Contents (Elt F) :=
  addi (val_main_call0_call0_call0_v142 (F := F)) (val_main_call0_call0_call0_v148 (F := F))
theorem val_main_call0_call0_call0_v149_apply (i : S8192x2048.Idx) :
    val_main_call0_call0_call0_v149 (F := F) i = IntOp.addi (val_main_call0_call0_call0_v142 (F := F) i) (val_main_call0_call0_call0_v148 (F := F) i) := rfl

def val_main_call0_call0_call0_c_38 : (⟨S_, .i32⟩ : BufTy).Contents (Elt F) :=
  constantI S_ 32 15#32
theorem val_main_call0_call0_call0_c_38_apply (i : S_.Idx) :
    val_main_call0_call0_call0_c_38 (F := F) i = 15#32 := rfl

def val_main_call0_call0_call0_v150 : (⟨S8192x2048, .i32⟩ : BufTy).Contents (Elt F) :=
  broadcastInDim S8192x2048 ![] bcast_S_S8192x2048 (val_main_call0_call0_call0_c_38 (F := F))
abbrev idx_main_call0_call0_call0_v150 (i : S8192x2048.Idx) : S_.Idx := fun a => a.elim0
theorem val_main_call0_call0_call0_v150_apply (i : S8192x2048.Idx) :
    val_main_call0_call0_call0_v150 (F := F) i = val_main_call0_call0_call0_c_38 (F := F) (idx_main_call0_call0_call0_v150 i) := by
  unfold val_main_call0_call0_call0_v150
  generalize val_main_call0_call0_call0_c_38 (F := F) = y
  exact broadcastInDim_apply _ bcast_S_S8192x2048 y i (idx_main_call0_call0_call0_v150 i) (fun a => a.elim0)

def val_main_call0_call0_call0_v151 : (⟨S8192x2048, .i32⟩ : BufTy).Contents (Elt F) :=
  Host.shli (val_main_call0_call0_call0_v148 (F := F)) (val_main_call0_call0_call0_v150 (F := F))
theorem val_main_call0_call0_call0_v151_apply (i : S8192x2048.Idx) :
    val_main_call0_call0_call0_v151 (F := F) i = IntOp.shli .host (val_main_call0_call0_call0_v148 (F := F) i) (val_main_call0_call0_call0_v150 (F := F) i) := rfl

def val_main_call0_call0_call0_c_39 : (⟨S_, .i32⟩ : BufTy).Contents (Elt F) :=
  constantI S_ 32 17#32
theorem val_main_call0_call0_call0_c_39_apply (i : S_.Idx) :
    val_main_call0_call0_call0_c_39 (F := F) i = 17#32 := rfl

def val_main_call0_call0_call0_v152 : (⟨S8192x2048, .i32⟩ : BufTy).Contents (Elt F) :=
  broadcastInDim S8192x2048 ![] bcast_S_S8192x2048 (val_main_call0_call0_call0_c_39 (F := F))
abbrev idx_main_call0_call0_call0_v152 (i : S8192x2048.Idx) : S_.Idx := fun a => a.elim0
theorem val_main_call0_call0_call0_v152_apply (i : S8192x2048.Idx) :
    val_main_call0_call0_call0_v152 (F := F) i = val_main_call0_call0_call0_c_39 (F := F) (idx_main_call0_call0_call0_v152 i) := by
  unfold val_main_call0_call0_call0_v152
  generalize val_main_call0_call0_call0_c_39 (F := F) = y
  exact broadcastInDim_apply _ bcast_S_S8192x2048 y i (idx_main_call0_call0_call0_v152 i) (fun a => a.elim0)

def val_main_call0_call0_call0_v153 : (⟨S8192x2048, .i32⟩ : BufTy).Contents (Elt F) :=
  Host.shrui (val_main_call0_call0_call0_v148 (F := F)) (val_main_call0_call0_call0_v152 (F := F))
theorem val_main_call0_call0_call0_v153_apply (i : S8192x2048.Idx) :
    val_main_call0_call0_call0_v153 (F := F) i = IntOp.shrui .host (val_main_call0_call0_call0_v148 (F := F) i) (val_main_call0_call0_call0_v152 (F := F) i) := rfl

def val_main_call0_call0_call0_v154 : (⟨S8192x2048, .i32⟩ : BufTy).Contents (Elt F) :=
  ori (val_main_call0_call0_call0_v151 (F := F)) (val_main_call0_call0_call0_v153 (F := F))
theorem val_main_call0_call0_call0_v154_apply (i : S8192x2048.Idx) :
    val_main_call0_call0_call0_v154 (F := F) i = IntOp.ori (val_main_call0_call0_call0_v151 (F := F) i) (val_main_call0_call0_call0_v153 (F := F) i) := rfl

def val_main_call0_call0_call0_v155 : (⟨S8192x2048, .i32⟩ : BufTy).Contents (Elt F) :=
  xori (val_main_call0_call0_call0_v149 (F := F)) (val_main_call0_call0_call0_v154 (F := F))
theorem val_main_call0_call0_call0_v155_apply (i : S8192x2048.Idx) :
    val_main_call0_call0_call0_v155 (F := F) i = IntOp.xori (val_main_call0_call0_call0_v149 (F := F) i) (val_main_call0_call0_call0_v154 (F := F) i) := rfl

def val_main_call0_call0_call0_v156 : (⟨S8192x2048, .i32⟩ : BufTy).Contents (Elt F) :=
  addi (val_main_call0_call0_call0_v149 (F := F)) (val_main_call0_call0_call0_v155 (F := F))
theorem val_main_call0_call0_call0_v156_apply (i : S8192x2048.Idx) :
    val_main_call0_call0_call0_v156 (F := F) i = IntOp.addi (val_main_call0_call0_call0_v149 (F := F) i) (val_main_call0_call0_call0_v155 (F := F) i) := rfl

def val_main_call0_call0_call0_c_40 : (⟨S_, .i32⟩ : BufTy).Contents (Elt F) :=
  constantI S_ 32 26#32
theorem val_main_call0_call0_call0_c_40_apply (i : S_.Idx) :
    val_main_call0_call0_call0_c_40 (F := F) i = 26#32 := rfl

def val_main_call0_call0_call0_v157 : (⟨S8192x2048, .i32⟩ : BufTy).Contents (Elt F) :=
  broadcastInDim S8192x2048 ![] bcast_S_S8192x2048 (val_main_call0_call0_call0_c_40 (F := F))
abbrev idx_main_call0_call0_call0_v157 (i : S8192x2048.Idx) : S_.Idx := fun a => a.elim0
theorem val_main_call0_call0_call0_v157_apply (i : S8192x2048.Idx) :
    val_main_call0_call0_call0_v157 (F := F) i = val_main_call0_call0_call0_c_40 (F := F) (idx_main_call0_call0_call0_v157 i) := by
  unfold val_main_call0_call0_call0_v157
  generalize val_main_call0_call0_call0_c_40 (F := F) = y
  exact broadcastInDim_apply _ bcast_S_S8192x2048 y i (idx_main_call0_call0_call0_v157 i) (fun a => a.elim0)

def val_main_call0_call0_call0_v158 : (⟨S8192x2048, .i32⟩ : BufTy).Contents (Elt F) :=
  Host.shli (val_main_call0_call0_call0_v155 (F := F)) (val_main_call0_call0_call0_v157 (F := F))
theorem val_main_call0_call0_call0_v158_apply (i : S8192x2048.Idx) :
    val_main_call0_call0_call0_v158 (F := F) i = IntOp.shli .host (val_main_call0_call0_call0_v155 (F := F) i) (val_main_call0_call0_call0_v157 (F := F) i) := rfl

def val_main_call0_call0_call0_c_41 : (⟨S_, .i32⟩ : BufTy).Contents (Elt F) :=
  constantI S_ 32 6#32
theorem val_main_call0_call0_call0_c_41_apply (i : S_.Idx) :
    val_main_call0_call0_call0_c_41 (F := F) i = 6#32 := rfl

def val_main_call0_call0_call0_v159 : (⟨S8192x2048, .i32⟩ : BufTy).Contents (Elt F) :=
  broadcastInDim S8192x2048 ![] bcast_S_S8192x2048 (val_main_call0_call0_call0_c_41 (F := F))
abbrev idx_main_call0_call0_call0_v159 (i : S8192x2048.Idx) : S_.Idx := fun a => a.elim0
theorem val_main_call0_call0_call0_v159_apply (i : S8192x2048.Idx) :
    val_main_call0_call0_call0_v159 (F := F) i = val_main_call0_call0_call0_c_41 (F := F) (idx_main_call0_call0_call0_v159 i) := by
  unfold val_main_call0_call0_call0_v159
  generalize val_main_call0_call0_call0_c_41 (F := F) = y
  exact broadcastInDim_apply _ bcast_S_S8192x2048 y i (idx_main_call0_call0_call0_v159 i) (fun a => a.elim0)

def val_main_call0_call0_call0_v160 : (⟨S8192x2048, .i32⟩ : BufTy).Contents (Elt F) :=
  Host.shrui (val_main_call0_call0_call0_v155 (F := F)) (val_main_call0_call0_call0_v159 (F := F))
theorem val_main_call0_call0_call0_v160_apply (i : S8192x2048.Idx) :
    val_main_call0_call0_call0_v160 (F := F) i = IntOp.shrui .host (val_main_call0_call0_call0_v155 (F := F) i) (val_main_call0_call0_call0_v159 (F := F) i) := rfl

def val_main_call0_call0_call0_v161 : (⟨S8192x2048, .i32⟩ : BufTy).Contents (Elt F) :=
  ori (val_main_call0_call0_call0_v158 (F := F)) (val_main_call0_call0_call0_v160 (F := F))
theorem val_main_call0_call0_call0_v161_apply (i : S8192x2048.Idx) :
    val_main_call0_call0_call0_v161 (F := F) i = IntOp.ori (val_main_call0_call0_call0_v158 (F := F) i) (val_main_call0_call0_call0_v160 (F := F) i) := rfl

def val_main_call0_call0_call0_v162 : (⟨S8192x2048, .i32⟩ : BufTy).Contents (Elt F) :=
  xori (val_main_call0_call0_call0_v156 (F := F)) (val_main_call0_call0_call0_v161 (F := F))
theorem val_main_call0_call0_call0_v162_apply (i : S8192x2048.Idx) :
    val_main_call0_call0_call0_v162 (F := F) i = IntOp.xori (val_main_call0_call0_call0_v156 (F := F) i) (val_main_call0_call0_call0_v161 (F := F) i) := rfl

def val_main_call0_call0_call0_v163 : (⟨S8192x2048, .i32⟩ : BufTy).Contents (Elt F) :=
  addi (val_main_call0_call0_call0_v156 (F := F)) (val_main_call0_call0_call0_v162 (F := F))
theorem val_main_call0_call0_call0_v163_apply (i : S8192x2048.Idx) :
    val_main_call0_call0_call0_v163 (F := F) i = IntOp.addi (val_main_call0_call0_call0_v156 (F := F) i) (val_main_call0_call0_call0_v162 (F := F) i) := rfl

def val_main_call0_call0_call0_c_42 : (⟨S_, .i32⟩ : BufTy).Contents (Elt F) :=
  constantI S_ 32 6#32
theorem val_main_call0_call0_call0_c_42_apply (i : S_.Idx) :
    val_main_call0_call0_call0_c_42 (F := F) i = 6#32 := rfl

def val_main_call0_call0_call0_v164 : (⟨S8192x2048, .i32⟩ : BufTy).Contents (Elt F) :=
  broadcastInDim S8192x2048 ![] bcast_S_S8192x2048 (val_main_call0_call0_call0_c_42 (F := F))
abbrev idx_main_call0_call0_call0_v164 (i : S8192x2048.Idx) : S_.Idx := fun a => a.elim0
theorem val_main_call0_call0_call0_v164_apply (i : S8192x2048.Idx) :
    val_main_call0_call0_call0_v164 (F := F) i = val_main_call0_call0_call0_c_42 (F := F) (idx_main_call0_call0_call0_v164 i) := by
  unfold val_main_call0_call0_call0_v164
  generalize val_main_call0_call0_call0_c_42 (F := F) = y
  exact broadcastInDim_apply _ bcast_S_S8192x2048 y i (idx_main_call0_call0_call0_v164 i) (fun a => a.elim0)

def val_main_call0_call0_call0_v165 : (⟨S8192x2048, .i32⟩ : BufTy).Contents (Elt F) :=
  Host.shli (val_main_call0_call0_call0_v162 (F := F)) (val_main_call0_call0_call0_v164 (F := F))
theorem val_main_call0_call0_call0_v165_apply (i : S8192x2048.Idx) :
    val_main_call0_call0_call0_v165 (F := F) i = IntOp.shli .host (val_main_call0_call0_call0_v162 (F := F) i) (val_main_call0_call0_call0_v164 (F := F) i) := rfl

def val_main_call0_call0_call0_c_43 : (⟨S_, .i32⟩ : BufTy).Contents (Elt F) :=
  constantI S_ 32 26#32
theorem val_main_call0_call0_call0_c_43_apply (i : S_.Idx) :
    val_main_call0_call0_call0_c_43 (F := F) i = 26#32 := rfl

def val_main_call0_call0_call0_v166 : (⟨S8192x2048, .i32⟩ : BufTy).Contents (Elt F) :=
  broadcastInDim S8192x2048 ![] bcast_S_S8192x2048 (val_main_call0_call0_call0_c_43 (F := F))
abbrev idx_main_call0_call0_call0_v166 (i : S8192x2048.Idx) : S_.Idx := fun a => a.elim0
theorem val_main_call0_call0_call0_v166_apply (i : S8192x2048.Idx) :
    val_main_call0_call0_call0_v166 (F := F) i = val_main_call0_call0_call0_c_43 (F := F) (idx_main_call0_call0_call0_v166 i) := by
  unfold val_main_call0_call0_call0_v166
  generalize val_main_call0_call0_call0_c_43 (F := F) = y
  exact broadcastInDim_apply _ bcast_S_S8192x2048 y i (idx_main_call0_call0_call0_v166 i) (fun a => a.elim0)

def val_main_call0_call0_call0_v167 : (⟨S8192x2048, .i32⟩ : BufTy).Contents (Elt F) :=
  Host.shrui (val_main_call0_call0_call0_v162 (F := F)) (val_main_call0_call0_call0_v166 (F := F))
theorem val_main_call0_call0_call0_v167_apply (i : S8192x2048.Idx) :
    val_main_call0_call0_call0_v167 (F := F) i = IntOp.shrui .host (val_main_call0_call0_call0_v162 (F := F) i) (val_main_call0_call0_call0_v166 (F := F) i) := rfl

def val_main_call0_call0_call0_v168 : (⟨S8192x2048, .i32⟩ : BufTy).Contents (Elt F) :=
  ori (val_main_call0_call0_call0_v165 (F := F)) (val_main_call0_call0_call0_v167 (F := F))
theorem val_main_call0_call0_call0_v168_apply (i : S8192x2048.Idx) :
    val_main_call0_call0_call0_v168 (F := F) i = IntOp.ori (val_main_call0_call0_call0_v165 (F := F) i) (val_main_call0_call0_call0_v167 (F := F) i) := rfl

def val_main_call0_call0_call0_v169 : (⟨S8192x2048, .i32⟩ : BufTy).Contents (Elt F) :=
  xori (val_main_call0_call0_call0_v163 (F := F)) (val_main_call0_call0_call0_v168 (F := F))
theorem val_main_call0_call0_call0_v169_apply (i : S8192x2048.Idx) :
    val_main_call0_call0_call0_v169 (F := F) i = IntOp.xori (val_main_call0_call0_call0_v163 (F := F) i) (val_main_call0_call0_call0_v168 (F := F) i) := rfl

def val_main_call0_call0_call0_v170 : (⟨S8192x2048, .i32⟩ : BufTy).Contents (Elt F) :=
  broadcastInDim S8192x2048 ![] bcast_S_S8192x2048 (val_main_call0_call0_call0_v1 (F := F))
abbrev idx_main_call0_call0_call0_v170 (i : S8192x2048.Idx) : S_.Idx := fun a => a.elim0
theorem val_main_call0_call0_call0_v170_apply (i : S8192x2048.Idx) :
    val_main_call0_call0_call0_v170 (F := F) i = val_main_call0_call0_call0_v1 (F := F) (idx_main_call0_call0_call0_v170 i) := by
  unfold val_main_call0_call0_call0_v170
  generalize val_main_call0_call0_call0_v1 (F := F) = y
  exact broadcastInDim_apply _ bcast_S_S8192x2048 y i (idx_main_call0_call0_call0_v170 i) (fun a => a.elim0)

def val_main_call0_call0_v19_0 : (⟨S8192x2048, .i32⟩ : BufTy).Contents (Elt F) :=
  addi (val_main_call0_call0_call0_v163 (F := F)) (val_main_call0_call0_call0_v170 (F := F))
theorem val_main_call0_call0_v19_0_apply (i : S8192x2048.Idx) :
    val_main_call0_call0_v19_0 (F := F) i = IntOp.addi (val_main_call0_call0_call0_v163 (F := F) i) (val_main_call0_call0_call0_v170 (F := F) i) := rfl

def val_main_call0_call0_call0_v172 : (⟨S8192x2048, .i32⟩ : BufTy).Contents (Elt F) :=
  broadcastInDim S8192x2048 ![] bcast_S_S8192x2048 (val_main_call0_call0_v5 (F := F))
abbrev idx_main_call0_call0_call0_v172 (i : S8192x2048.Idx) : S_.Idx := fun a => a.elim0
theorem val_main_call0_call0_call0_v172_apply (i : S8192x2048.Idx) :
    val_main_call0_call0_call0_v172 (F := F) i = val_main_call0_call0_v5 (F := F) (idx_main_call0_call0_call0_v172 i) := by
  unfold val_main_call0_call0_call0_v172
  generalize val_main_call0_call0_v5 (F := F) = y
  exact broadcastInDim_apply _ bcast_S_S8192x2048 y i (idx_main_call0_call0_call0_v172 i) (fun a => a.elim0)

def val_main_call0_call0_call0_v173 : (⟨S8192x2048, .i32⟩ : BufTy).Contents (Elt F) :=
  addi (val_main_call0_call0_call0_v169 (F := F)) (val_main_call0_call0_call0_v172 (F := F))
theorem val_main_call0_call0_call0_v173_apply (i : S8192x2048.Idx) :
    val_main_call0_call0_call0_v173 (F := F) i = IntOp.addi (val_main_call0_call0_call0_v169 (F := F) i) (val_main_call0_call0_call0_v172 (F := F) i) := rfl

def val_main_call0_call0_call0_c_44 : (⟨S_, .i32⟩ : BufTy).Contents (Elt F) :=
  constantI S_ 32 5#32
theorem val_main_call0_call0_call0_c_44_apply (i : S_.Idx) :
    val_main_call0_call0_call0_c_44 (F := F) i = 5#32 := rfl

def val_main_call0_call0_call0_v174 : (⟨S8192x2048, .i32⟩ : BufTy).Contents (Elt F) :=
  broadcastInDim S8192x2048 ![] bcast_S_S8192x2048 (val_main_call0_call0_call0_c_44 (F := F))
abbrev idx_main_call0_call0_call0_v174 (i : S8192x2048.Idx) : S_.Idx := fun a => a.elim0
theorem val_main_call0_call0_call0_v174_apply (i : S8192x2048.Idx) :
    val_main_call0_call0_call0_v174 (F := F) i = val_main_call0_call0_call0_c_44 (F := F) (idx_main_call0_call0_call0_v174 i) := by
  unfold val_main_call0_call0_call0_v174
  generalize val_main_call0_call0_call0_c_44 (F := F) = y
  exact broadcastInDim_apply _ bcast_S_S8192x2048 y i (idx_main_call0_call0_call0_v174 i) (fun a => a.elim0)

def val_main_call0_call0_v19_1 : (⟨S8192x2048, .i32⟩ : BufTy).Contents (Elt F) :=
  addi (val_main_call0_call0_call0_v173 (F := F)) (val_main_call0_call0_call0_v174 (F := F))
theorem val_main_call0_call0_v19_1_apply (i : S8192x2048.Idx) :
    val_main_call0_call0_v19_1 (F := F) i = IntOp.addi (val_main_call0_call0_call0_v173 (F := F) i) (val_main_call0_call0_call0_v174 (F := F) i) := rfl

def val_main_call0_call0_v20 : (⟨S8192x2048, .i32⟩ : BufTy).Contents (Elt F) :=
  xori (val_main_call0_call0_v19_0 (F := F)) (val_main_call0_call0_v19_1 (F := F))
theorem val_main_call0_call0_v20_apply (i : S8192x2048.Idx) :
    val_main_call0_call0_v20 (F := F) i = IntOp.xori (val_main_call0_call0_v19_0 (F := F) i) (val_main_call0_call0_v19_1 (F := F) i) := rfl

def val_main_call0_call0_c_2 : (⟨S_, .i32⟩ : BufTy).Contents (Elt F) :=
  constantI S_ 32 9#32
theorem val_main_call0_call0_c_2_apply (i : S_.Idx) :
    val_main_call0_call0_c_2 (F := F) i = 9#32 := rfl

def val_main_call0_call0_v21 : (⟨S8192x2048, .i32⟩ : BufTy).Contents (Elt F) :=
  broadcastInDim S8192x2048 ![] bcast_S_S8192x2048 (val_main_call0_call0_c_2 (F := F))
abbrev idx_main_call0_call0_v21 (i : S8192x2048.Idx) : S_.Idx := fun a => a.elim0
theorem val_main_call0_call0_v21_apply (i : S8192x2048.Idx) :
    val_main_call0_call0_v21 (F := F) i = val_main_call0_call0_c_2 (F := F) (idx_main_call0_call0_v21 i) := by
  unfold val_main_call0_call0_v21
  generalize val_main_call0_call0_c_2 (F := F) = y
  exact broadcastInDim_apply _ bcast_S_S8192x2048 y i (idx_main_call0_call0_v21 i) (fun a => a.elim0)

def val_main_call0_call0_v22 : (⟨S8192x2048, .i32⟩ : BufTy).Contents (Elt F) :=
  Host.shrui (val_main_call0_call0_v20 (F := F)) (val_main_call0_call0_v21 (F := F))
theorem val_main_call0_call0_v22_apply (i : S8192x2048.Idx) :
    val_main_call0_call0_v22 (F := F) i = IntOp.shrui .host (val_main_call0_call0_v20 (F := F) i) (val_main_call0_call0_v21 (F := F) i) := rfl

def val_main_call0_call0_c_3 : (⟨S_, .i32⟩ : BufTy).Contents (Elt F) :=
  constantI S_ 32 1065353216#32
theorem val_main_call0_call0_c_3_apply (i : S_.Idx) :
    val_main_call0_call0_c_3 (F := F) i = 1065353216#32 := rfl

def val_main_call0_call0_v23 : (⟨S8192x2048, .i32⟩ : BufTy).Contents (Elt F) :=
  broadcastInDim S8192x2048 ![] bcast_S_S8192x2048 (val_main_call0_call0_c_3 (F := F))
abbrev idx_main_call0_call0_v23 (i : S8192x2048.Idx) : S_.Idx := fun a => a.elim0
theorem val_main_call0_call0_v23_apply (i : S8192x2048.Idx) :
    val_main_call0_call0_v23 (F := F) i = val_main_call0_call0_c_3 (F := F) (idx_main_call0_call0_v23 i) := by
  unfold val_main_call0_call0_v23
  generalize val_main_call0_call0_c_3 (F := F) = y
  exact broadcastInDim_apply _ bcast_S_S8192x2048 y i (idx_main_call0_call0_v23 i) (fun a => a.elim0)

def val_main_call0_call0_v24 : (⟨S8192x2048, .i32⟩ : BufTy).Contents (Elt F) :=
  ori (val_main_call0_call0_v22 (F := F)) (val_main_call0_call0_v23 (F := F))
theorem val_main_call0_call0_v24_apply (i : S8192x2048.Idx) :
    val_main_call0_call0_v24 (F := F) i = IntOp.ori (val_main_call0_call0_v22 (F := F) i) (val_main_call0_call0_v23 (F := F) i) := rfl

def val_main_call0_call0_v25 : (⟨S8192x2048, .f32⟩ : BufTy).Contents (Elt F) :=
  bitcastToFloat (F := F) .f32 (val_main_call0_call0_v24 (F := F))
theorem val_main_call0_call0_v25_apply (i : S8192x2048.Idx) :
    val_main_call0_call0_v25 (F := F) i = FloatOps.ofBits .f32 (val_main_call0_call0_v24 (F := F) i) := rfl

def val_main_call0_call0_cst : (⟨S_, .f32⟩ : BufTy).Contents (Elt F) :=
  constant S_ .f32 0x3F800000#32
theorem val_main_call0_call0_cst_apply (i : S_.Idx) :
    val_main_call0_call0_cst (F := F) i = FloatOps.ofBits .f32 0x3F800000#32 := rfl

def val_main_call0_call0_v26 : (⟨S8192x2048, .f32⟩ : BufTy).Contents (Elt F) :=
  broadcastInDim S8192x2048 ![] bcast_S_S8192x2048 (val_main_call0_call0_cst (F := F))
abbrev idx_main_call0_call0_v26 (i : S8192x2048.Idx) : S_.Idx := fun a => a.elim0
theorem val_main_call0_call0_v26_apply (i : S8192x2048.Idx) :
    val_main_call0_call0_v26 (F := F) i = val_main_call0_call0_cst (F := F) (idx_main_call0_call0_v26 i) := by
  unfold val_main_call0_call0_v26
  generalize val_main_call0_call0_cst (F := F) = y
  exact broadcastInDim_apply _ bcast_S_S8192x2048 y i (idx_main_call0_call0_v26 i) (fun a => a.elim0)

def val_main_call0_call0_v27 : (⟨S8192x2048, .f32⟩ : BufTy).Contents (Elt F) :=
  subf (val_main_call0_call0_v25 (F := F)) (val_main_call0_call0_v26 (F := F))
theorem val_main_call0_call0_v27_apply (i : S8192x2048.Idx) :
    val_main_call0_call0_v27 (F := F) i = FloatOps.subf (val_main_call0_call0_v25 (F := F) i) (val_main_call0_call0_v26 (F := F) i) := rfl

def val_main_call0_call0_v28 : (⟨S1x1, .f32⟩ : BufTy).Contents (Elt F) :=
  subf (val_main_call0_call0_v3 (F := F)) (val_main_call0_call0_v2 (F := F))
theorem val_main_call0_call0_v28_apply (i : S1x1.Idx) :
    val_main_call0_call0_v28 (F := F) i = FloatOps.subf (val_main_call0_call0_v3 (F := F) i) (val_main_call0_call0_v2 (F := F) i) := rfl

def val_main_call0_call0_v29 : (⟨S8192x2048, .f32⟩ : BufTy).Contents (Elt F) :=
  broadcastInDim S8192x2048 ![0, 1] bcast_S1x1_S8192x2048_0_1 (val_main_call0_call0_v28 (F := F))
abbrev idx_main_call0_call0_v29 (i : S8192x2048.Idx) : S1x1.Idx := fun a => match a with
  | ⟨0, _⟩ => ⟨0, Nat.one_pos⟩
  | ⟨1, _⟩ => ⟨0, Nat.one_pos⟩
theorem val_main_call0_call0_v29_apply (i : S8192x2048.Idx) :
    val_main_call0_call0_v29 (F := F) i = val_main_call0_call0_v28 (F := F) (idx_main_call0_call0_v29 i) := by
  unfold val_main_call0_call0_v29
  generalize val_main_call0_call0_v28 (F := F) = y
  exact broadcastInDim_apply _ bcast_S1x1_S8192x2048_0_1 y i (idx_main_call0_call0_v29 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_call0_call0_v30 : (⟨S8192x2048, .f32⟩ : BufTy).Contents (Elt F) :=
  mulf (val_main_call0_call0_v27 (F := F)) (val_main_call0_call0_v29 (F := F))
theorem val_main_call0_call0_v30_apply (i : S8192x2048.Idx) :
    val_main_call0_call0_v30 (F := F) i = FloatOps.mulf (val_main_call0_call0_v27 (F := F) i) (val_main_call0_call0_v29 (F := F) i) := rfl

def val_main_call0_call0_v31 : (⟨S8192x2048, .f32⟩ : BufTy).Contents (Elt F) :=
  broadcastInDim S8192x2048 ![0, 1] bcast_S1x1_S8192x2048_0_1 (val_main_call0_call0_v2 (F := F))
abbrev idx_main_call0_call0_v31 (i : S8192x2048.Idx) : S1x1.Idx := fun a => match a with
  | ⟨0, _⟩ => ⟨0, Nat.one_pos⟩
  | ⟨1, _⟩ => ⟨0, Nat.one_pos⟩
theorem val_main_call0_call0_v31_apply (i : S8192x2048.Idx) :
    val_main_call0_call0_v31 (F := F) i = val_main_call0_call0_v2 (F := F) (idx_main_call0_call0_v31 i) := by
  unfold val_main_call0_call0_v31
  generalize val_main_call0_call0_v2 (F := F) = y
  exact broadcastInDim_apply _ bcast_S1x1_S8192x2048_0_1 y i (idx_main_call0_call0_v31 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_call0_call0_v32 : (⟨S8192x2048, .f32⟩ : BufTy).Contents (Elt F) :=
  addf (val_main_call0_call0_v30 (F := F)) (val_main_call0_call0_v31 (F := F))
theorem val_main_call0_call0_v32_apply (i : S8192x2048.Idx) :
    val_main_call0_call0_v32 (F := F) i = FloatOps.addf (val_main_call0_call0_v30 (F := F) i) (val_main_call0_call0_v31 (F := F) i) := rfl

def val_main_call0_call0_v33 : (⟨S8192x2048, .f32⟩ : BufTy).Contents (Elt F) :=
  broadcastInDim S8192x2048 ![0, 1] bcast_S1x1_S8192x2048_0_1 (val_main_call0_call0_v2 (F := F))
abbrev idx_main_call0_call0_v33 (i : S8192x2048.Idx) : S1x1.Idx := fun a => match a with
  | ⟨0, _⟩ => ⟨0, Nat.one_pos⟩
  | ⟨1, _⟩ => ⟨0, Nat.one_pos⟩
theorem val_main_call0_call0_v33_apply (i : S8192x2048.Idx) :
    val_main_call0_call0_v33 (F := F) i = val_main_call0_call0_v2 (F := F) (idx_main_call0_call0_v33 i) := by
  unfold val_main_call0_call0_v33
  generalize val_main_call0_call0_v2 (F := F) = y
  exact broadcastInDim_apply _ bcast_S1x1_S8192x2048_0_1 y i (idx_main_call0_call0_v33 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_call0_v0 : (⟨S8192x2048, .f32⟩ : BufTy).Contents (Elt F) :=
  maximumf (val_main_call0_call0_v33 (F := F)) (val_main_call0_call0_v32 (F := F))
theorem val_main_call0_v0_apply (i : S8192x2048.Idx) :
    val_main_call0_v0 (F := F) i = FloatOps.maximumf (val_main_call0_call0_v33 (F := F) i) (val_main_call0_call0_v32 (F := F) i) := rfl

def val_main_call0_v1 : (⟨S8192x2048, .f32⟩ : BufTy).Contents (Elt F) :=
  broadcastInDim S8192x2048 ![0, 1] bcast_S1x2048_S8192x2048_0_1 (val_main_v20 (F := F))
abbrev idx_main_call0_v1 (i : S8192x2048.Idx) : S1x2048.Idx := fun a => match a with
  | ⟨0, _⟩ => ⟨0, Nat.one_pos⟩
  | ⟨1, _⟩ => ⟨(i 1).val, (i 1).isLt⟩
theorem val_main_call0_v1_apply (i : S8192x2048.Idx) :
    val_main_call0_v1 (F := F) i = val_main_v20 (F := F) (idx_main_call0_v1 i) := by
  unfold val_main_call0_v1
  generalize val_main_v20 (F := F) = y
  exact broadcastInDim_apply _ bcast_S1x2048_S8192x2048_0_1 y i (idx_main_call0_v1 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v21 : (⟨S8192x2048, .i1⟩ : BufTy).Contents (Elt F) :=
  cmpf .olt (val_main_call0_v0 (F := F)) (val_main_call0_v1 (F := F))
theorem val_main_v21_apply (i : S8192x2048.Idx) :
    val_main_v21 (F := F) i = FloatOps.cmpf .olt (val_main_call0_v0 (F := F) i) (val_main_call0_v1 (F := F) i) := rfl

def val_main_v22 : (⟨S8192x2048, .f32⟩ : BufTy).Contents (Elt F) :=
  uitofp .f32 (val_main_v21 (F := F))
theorem val_main_v22_apply (i : S8192x2048.Idx) :
    val_main_v22 (F := F) i = FloatOps.uitofp .f32 (val_main_v21 (F := F) i) := rfl

def val_main_v23 (x0 : (⟨S4x2048x768, .f32⟩ : BufTy).Contents (Elt F)) (x2 : (⟨S768x2048, .f32⟩ : BufTy).Contents (Elt F)) (x3 : (⟨S2048, .f32⟩ : BufTy).Contents (Elt F)) : (⟨S8192x2048, .f32⟩ : BufTy).Contents (Elt F) :=
  mulf (val_main_v5 (F := F) x0 x2 x3) (val_main_v22 (F := F))
theorem val_main_v23_apply (x0 : (⟨S4x2048x768, .f32⟩ : BufTy).Contents (Elt F)) (x2 : (⟨S768x2048, .f32⟩ : BufTy).Contents (Elt F)) (x3 : (⟨S2048, .f32⟩ : BufTy).Contents (Elt F)) (i : S8192x2048.Idx) :
    val_main_v23 (F := F) x0 x2 x3 i = FloatOps.mulf (val_main_v5 (F := F) x0 x2 x3 i) (val_main_v22 (F := F) i) := rfl

def val_main_v24 (x0 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) : (⟨S8192x768, .f32⟩ : BufTy).Contents (Elt F) :=
  Host.dotGeneral dot_S8192x2048_S2048x768_S8192x768_1_0_0_1_n_n none (val_main_v23 (F := F) x0 x2 x3) (x4)
theorem lhs_main_v24_0 (i : S8192x768.Idx) (q : dot_S8192x2048_S2048x768_S8192x768_1_0_0_1_n_n.contr.Idx) :
    (dot_S8192x2048_S2048x768_S8192x768_1_0_0_1_n_n.lhsIdx i q 0).val = (i 0).val := by
  unfold DotDims.lhsIdx
  rw [dif_neg (show ¬(0 : Fin S8192x2048.rank) ∈ dot_S8192x2048_S2048x768_S8192x768_1_0_0_1_n_n.lhsBatch by decide), dif_pos (show (0 : Fin S8192x2048.rank) ∈ dot_S8192x2048_S2048x768_S8192x768_1_0_0_1_n_n.lhsNonContracting by decide)]
  rfl
theorem lhs_main_v24_1 (i : S8192x768.Idx) (q : dot_S8192x2048_S2048x768_S8192x768_1_0_0_1_n_n.contr.Idx) :
    (dot_S8192x2048_S2048x768_S8192x768_1_0_0_1_n_n.lhsIdx i q 1).val = (q ⟨0, by decide⟩).val :=
  dot_S8192x2048_S2048x768_S8192x768_1_0_0_1_n_n.lhsIdx_val_of_single rfl i q
theorem rhs_main_v24_0 (i : S8192x768.Idx) (q : dot_S8192x2048_S2048x768_S8192x768_1_0_0_1_n_n.contr.Idx) :
    (dot_S8192x2048_S2048x768_S8192x768_1_0_0_1_n_n.rhsIdx i q 0).val = (q ⟨0, by decide⟩).val :=
  dot_S8192x2048_S2048x768_S8192x768_1_0_0_1_n_n.rhsIdx_val_of_single rfl i q
theorem rhs_main_v24_1 (i : S8192x768.Idx) (q : dot_S8192x2048_S2048x768_S8192x768_1_0_0_1_n_n.contr.Idx) :
    (dot_S8192x2048_S2048x768_S8192x768_1_0_0_1_n_n.rhsIdx i q 1).val = (i 1).val := by
  unfold DotDims.rhsIdx
  rw [dif_neg (show ¬(1 : Fin S2048x768.rank) ∈ dot_S8192x2048_S2048x768_S8192x768_1_0_0_1_n_n.rhsBatch by decide), dif_pos (show (1 : Fin S2048x768.rank) ∈ dot_S8192x2048_S2048x768_S8192x768_1_0_0_1_n_n.rhsNonContracting by decide)]
  rfl
abbrev lidx_main_v24 (i : S8192x768.Idx) (k : Fin 2048) : S8192x2048.Idx := fun a => match a with
  | ⟨0, _⟩ => ⟨(i 0).val, (i 0).isLt⟩
  | ⟨1, _⟩ => ⟨k.val, k.isLt⟩
abbrev ridx_main_v24 (i : S8192x768.Idx) (k : Fin 2048) : S2048x768.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v24_apply (x0 : (⟨S4x2048x768, .f32⟩ : BufTy).Contents (Elt Ideal)) (x2 : (⟨S768x2048, .f32⟩ : BufTy).Contents (Elt Ideal)) (x3 : (⟨S2048, .f32⟩ : BufTy).Contents (Elt Ideal)) (x4 : (⟨S2048x768, .f32⟩ : BufTy).Contents (Elt Ideal)) (i : S8192x768.Idx) :
    val_main_v24 (F := Ideal) x0 x2 x3 x4 i = ∑ k : Fin 2048, (val_main_v23 (F := Ideal) x0 x2 x3) (lidx_main_v24 i k) * x4 (ridx_main_v24 i k) := by
  unfold val_main_v24
  generalize val_main_v23 (F := Ideal) x0 x2 x3 = y0
  simp only [Host.dotGeneral]
  rw [Ideal.dotGeneral_apply, ← Equiv.sum_comp (ValueIdx.contrEquiv1 dot_S8192x2048_S2048x768_S8192x768_1_0_0_1_n_n 2048 rfl rfl).symm]
  refine Finset.sum_congr rfl fun k _ => ?_
  have hk := ValueIdx.contrEquiv1_symm_val dot_S8192x2048_S2048x768_S8192x768_1_0_0_1_n_n 2048 rfl rfl k
  have el : dot_S8192x2048_S2048x768_S8192x768_1_0_0_1_n_n.lhsIdx i ((ValueIdx.contrEquiv1 dot_S8192x2048_S2048x768_S8192x768_1_0_0_1_n_n 2048 rfl rfl).symm k) = lidx_main_v24 i k := funext fun a => Fin.ext (by
    match a with
    | ⟨0, _⟩ => exact lhs_main_v24_0 _ _
    | ⟨1, _⟩ => exact (lhs_main_v24_1 _ _).trans hk)
  have er : dot_S8192x2048_S2048x768_S8192x768_1_0_0_1_n_n.rhsIdx i ((ValueIdx.contrEquiv1 dot_S8192x2048_S2048x768_S8192x768_1_0_0_1_n_n 2048 rfl rfl).symm k) = ridx_main_v24 i k := funext fun a => Fin.ext (by
    match a with
    | ⟨0, _⟩ => exact (rhs_main_v24_0 _ _).trans hk
    | ⟨1, _⟩ => exact rhs_main_v24_1 _ _)
  rw [el, er]

def val_main_v25 (x5 : (⟨S768, .f32⟩ : BufTy).Contents (Elt F)) : (⟨S1x768, .f32⟩ : BufTy).Contents (Elt F) :=
  broadcastInDim S1x768 ![1] bcast_S768_S1x768_1 (x5)
abbrev idx_main_v25 (i : S1x768.Idx) : S768.Idx := fun a => match a with
  | ⟨0, _⟩ => ⟨(i 1).val, (i 1).isLt⟩
theorem val_main_v25_apply (x5 : (⟨S768, .f32⟩ : BufTy).Contents (Elt F)) (i : S1x768.Idx) :
    val_main_v25 (F := F) x5 i = x5 (idx_main_v25 i) := by
  unfold val_main_v25
  exact broadcastInDim_apply _ bcast_S768_S1x768_1 x5 i (idx_main_v25 i) (fun a => match a with
    | ⟨0, _⟩ => by show (i 1).val = if (768 : Nat) = 1 then 0 else (i 1).val; rw [if_neg (by decide)])

def val_main_v26 (x5 : (⟨S768, .f32⟩ : BufTy).Contents (Elt F)) : (⟨S8192x768, .f32⟩ : BufTy).Contents (Elt F) :=
  broadcastInDim S8192x768 ![0, 1] bcast_S1x768_S8192x768_0_1 (val_main_v25 (F := F) x5)
abbrev idx_main_v26 (i : S8192x768.Idx) : S1x768.Idx := fun a => match a with
  | ⟨0, _⟩ => ⟨0, Nat.one_pos⟩
  | ⟨1, _⟩ => ⟨(i 1).val, (i 1).isLt⟩
theorem val_main_v26_apply (x5 : (⟨S768, .f32⟩ : BufTy).Contents (Elt F)) (i : S8192x768.Idx) :
    val_main_v26 (F := F) x5 i = val_main_v25 (F := F) x5 (idx_main_v26 i) := by
  unfold val_main_v26
  generalize val_main_v25 (F := F) x5 = y
  exact broadcastInDim_apply _ bcast_S1x768_S8192x768_0_1 y i (idx_main_v26 i) (fun a => match a with
    | ⟨0, _⟩ => by show 0 = if (1 : Nat) = 1 then 0 else (i 0).val; rw [if_pos rfl]
    | ⟨1, _⟩ => by show (i 1).val = if (768 : Nat) = 1 then 0 else (i 1).val; rw [if_neg (by decide)])

def val_main_v27 (x0 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) : (⟨S8192x768, .f32⟩ : BufTy).Contents (Elt F) :=
  addf (val_main_v24 (F := F) x0 x2 x3 x4) (val_main_v26 (F := F) x5)
theorem val_main_v27_apply (x0 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) (i : S8192x768.Idx) :
    val_main_v27 (F := F) x0 x2 x3 x4 x5 i = FloatOps.addf (val_main_v24 (F := F) x0 x2 x3 x4 i) (val_main_v26 (F := F) x5 i) := rfl

def val_main_v28 (x0 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) : (⟨S8192x768, .f32⟩ : BufTy).Contents (Elt F) :=
  addf (val_main_v27 (F := F) x0 x2 x3 x4 x5) (val_main_v0 (F := F) x0)
theorem val_main_v28_apply (x0 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) (i : S8192x768.Idx) :
    val_main_v28 (F := F) x0 x2 x3 x4 x5 i = FloatOps.addf (val_main_v27 (F := F) x0 x2 x3 x4 x5 i) (val_main_v0 (F := F) x0 i) := rfl

def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

def val_main_v29 : (⟨S8192x768, .f32⟩ : BufTy).Contents (Elt F) :=
  broadcastInDim S8192x768 ![] bcast_S_S8192x768 (val_main_cst_3 (F := F))
abbrev idx_main_v29 (i : S8192x768.Idx) : S_.Idx := fun a => a.elim0
theorem val_main_v29_apply (i : S8192x768.Idx) :
    val_main_v29 (F := F) i = val_main_cst_3 (F := F) (idx_main_v29 i) := by
  unfold val_main_v29
  generalize val_main_cst_3 (F := F) = y
  exact broadcastInDim_apply _ bcast_S_S8192x768 y i (idx_main_v29 i) (fun a => a.elim0)

def val_main_v30 (x1 : (⟨S4x2048x768, .f32⟩ : BufTy).Contents (Elt F)) : (⟨S8192x768, .i1⟩ : BufTy).Contents (Elt F) :=
  cmpf .oeq (val_main_v1 (F := F) x1) (val_main_v29 (F := F))
theorem val_main_v30_apply (x1 : (⟨S4x2048x768, .f32⟩ : BufTy).Contents (Elt F)) (i : S8192x768.Idx) :
    val_main_v30 (F := F) x1 i = FloatOps.cmpf .oeq (val_main_v1 (F := F) x1 i) (val_main_v29 (F := F) i) := rfl

def val_main_v31 (x1 : (⟨S4x2048x768, .f32⟩ : BufTy).Contents (Elt F)) : (⟨S8192x768, .i1⟩ : BufTy).Contents (Elt F) :=
  noti (val_main_v30 (F := F) x1)
theorem val_main_v31_apply (x1 : (⟨S4x2048x768, .f32⟩ : BufTy).Contents (Elt F)) (i : S8192x768.Idx) :
    val_main_v31 (F := F) x1 i = ~~~(val_main_v30 (F := F) x1 i) := rfl

def val_main_v32 (x1 : (⟨S4x2048x768, .f32⟩ : BufTy).Contents (Elt F)) : (⟨S8192x768, .f32⟩ : BufTy).Contents (Elt F) :=
  uitofp .f32 (val_main_v31 (F := F) x1)
theorem val_main_v32_apply (x1 : (⟨S4x2048x768, .f32⟩ : BufTy).Contents (Elt F)) (i : S8192x768.Idx) :
    val_main_v32 (F := F) x1 i = FloatOps.uitofp .f32 (val_main_v31 (F := F) x1 i) := rfl

def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

def val_main_v33 (x1 : (⟨S4x2048x768, .f32⟩ : BufTy).Contents (Elt F)) : (⟨S_, .f32⟩ : BufTy).Contents (Elt F) :=
  Host.reduceAdd (val_main_v32 (F := F) x1) (val_main_cst_4 (F := F)) reducesTo_S8192x768_S_d0_1 h_S_
/-- Stated at `F := Ideal`, where the host's float sum is this sum; at a bit-exact instance it is an opaque function of its operand. -/
theorem val_main_v33_apply (x1 : (⟨S4x2048x768, .f32⟩ : BufTy).Contents (Elt Ideal)) (i : S_.Idx) :
    val_main_v33 (F := Ideal) x1 i = (val_main_cst_4 (F := Ideal)) (Shape.Idx.first h_S_) + ∑ j : S8192x768.Idx, (val_main_v32 (F := Ideal) x1) j := by
  unfold val_main_v33
  generalize val_main_v32 (F := Ideal) x1 = y0
  simp only [Host.reduceAdd, Ideal.hostReduceAdd_def]
  exact Ideal.hostReduceAdd_total reducesTo_S8192x768_S_d0_1 (fun b => b.elim0) y0 _ i

def val_main_v34 (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) : (⟨S8192x768, .f32⟩ : BufTy).Contents (Elt F) :=
  subf (val_main_v28 (F := F) x0 x2 x3 x4 x5) (val_main_v1 (F := F) x1)
theorem val_main_v34_apply (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) (i : S8192x768.Idx) :
    val_main_v34 (F := F) x0 x1 x2 x3 x4 x5 i = FloatOps.subf (val_main_v28 (F := F) x0 x2 x3 x4 x5 i) (val_main_v1 (F := F) x1 i) := rfl

def val_main_v35 (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) : (⟨S8192x768, .f32⟩ : BufTy).Contents (Elt F) :=
  mulf (val_main_v34 (F := F) x0 x1 x2 x3 x4 x5) (val_main_v34 (F := F) x0 x1 x2 x3 x4 x5)
theorem val_main_v35_apply (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) (i : S8192x768.Idx) :
    val_main_v35 (F := F) x0 x1 x2 x3 x4 x5 i = FloatOps.mulf (val_main_v34 (F := F) x0 x1 x2 x3 x4 x5 i) (val_main_v34 (F := F) x0 x1 x2 x3 x4 x5 i) := rfl

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_call1_v0 : (⟨S_, .f32⟩ : BufTy).Contents (Elt F) :=
  id (val_main_cst_5 (F := F))
theorem val_main_call1_v0_apply (i : S_.Idx) :
    val_main_call1_v0 (F := F) i = (val_main_cst_5 (F := F) i) := rfl

def val_main_call1_v1 : (⟨S8192x768, .f32⟩ : BufTy).Contents (Elt F) :=
  broadcastInDim S8192x768 ![] bcast_S_S8192x768 (val_main_call1_v0 (F := F))
abbrev idx_main_call1_v1 (i : S8192x768.Idx) : S_.Idx := fun a => a.elim0
theorem val_main_call1_v1_apply (i : S8192x768.Idx) :
    val_main_call1_v1 (F := F) i = val_main_call1_v0 (F := F) (idx_main_call1_v1 i) := by
  unfold val_main_call1_v1
  generalize val_main_call1_v0 (F := F) = y
  exact broadcastInDim_apply _ bcast_S_S8192x768 y i (idx_main_call1_v1 i) (fun a => a.elim0)

def val_main_v36 (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) : (⟨S8192x768, .f32⟩ : BufTy).Contents (Elt F) :=
  select (val_main_v30 (F := F) x1) (val_main_call1_v1 (F := F)) (val_main_v35 (F := F) x0 x1 x2 x3 x4 x5)
theorem val_main_v36_apply (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) (i : S8192x768.Idx) :
    val_main_v36 (F := F) x0 x1 x2 x3 x4 x5 i = Scalar.select (val_main_v30 (F := F) x1 i) (val_main_call1_v1 (F := F) i) (val_main_v35 (F := F) x0 x1 x2 x3 x4 x5 i) := rfl

def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

def val_main_v37 (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) : (⟨S_, .f32⟩ : BufTy).Contents (Elt F) :=
  Host.reduceAdd (val_main_v36 (F := F) x0 x1 x2 x3 x4 x5) (val_main_cst_6 (F := F)) reducesTo_S8192x768_S_d0_1 h_S_
/-- Stated at `F := Ideal`, where the host's float sum is this sum; at a bit-exact instance it is an opaque function of its operand. -/
theorem val_main_v37_apply (x0 x1 : (⟨S4x2048x768, .f32⟩ : BufTy).Contents (Elt Ideal)) (x2 : (⟨S768x2048, .f32⟩ : BufTy).Contents (Elt Ideal)) (x3 : (⟨S2048, .f32⟩ : BufTy).Contents (Elt Ideal)) (x4 : (⟨S2048x768, .f32⟩ : BufTy).Contents (Elt Ideal)) (x5 : (⟨S768, .f32⟩ : BufTy).Contents (Elt Ideal)) (i : S_.Idx) :
    val_main_v37 (F := Ideal) x0 x1 x2 x3 x4 x5 i = (val_main_cst_6 (F := Ideal)) (Shape.Idx.first h_S_) + ∑ j : S8192x768.Idx, (val_main_v36 (F := Ideal) x0 x1 x2 x3 x4 x5) j := by
  unfold val_main_v37
  generalize val_main_v36 (F := Ideal) x0 x1 x2 x3 x4 x5 = y0
  simp only [Host.reduceAdd, Ideal.hostReduceAdd_def]
  exact Ideal.hostReduceAdd_total reducesTo_S8192x768_S_d0_1 (fun b => b.elim0) y0 _ i

def val_main_v38 (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) : (⟨S_, .f32⟩ : BufTy).Contents (Elt F) :=
  Host.divf (val_main_v37 (F := F) x0 x1 x2 x3 x4 x5) (val_main_v33 (F := F) x1)
theorem val_main_v38_apply (x0 x1 : (⟨S4x2048x768, .f32⟩ : BufTy).Contents (Elt F)) (x2 : (⟨S768x2048, .f32⟩ : BufTy).Contents (Elt F)) (x3 : (⟨S2048, .f32⟩ : BufTy).Contents (Elt F)) (x4 : (⟨S2048x768, .f32⟩ : BufTy).Contents (Elt F)) (x5 : (⟨S768, .f32⟩ : BufTy).Contents (Elt F)) (i : S_.Idx) :
    val_main_v38 (F := F) x0 x1 x2 x3 x4 x5 i = FloatOps.hostDivf (val_main_v37 (F := F) x0 x1 x2 x3 x4 x5 i) (val_main_v33 (F := F) x1 i) := rfl

end Cert.ReferenceIdeal.Read

end
-- ==== Proof.RefReadEq.lean ====
/- The two results of the reference's run are the last values of its reading one operation at a time. -/
module

public import proofs.«01_k».proof.Proof.RefRun
public import proofs.«01_k».proof.Proof.RefReadB

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
/-- The term the Run module states for `main_v38` over any contents `V0` is the stage. -/
theorem val_main_v38_eq (V0 : Valuation τ sig (Elt F)) :
    Host.divf (Host.reduceAdd (select (Cert.ReferenceIdeal.Value.res_main_v30 V0) (broadcastInDim S8192x768 ![] bcast_S_S8192x768 (id (constant S_ .f32 0x00000000#32))) (mulf (Cert.ReferenceIdeal.Value.res_main_v34 V0) (Cert.ReferenceIdeal.Value.res_main_v34 V0))) (constant S_ .f32 0x00000000#32) reducesTo_S8192x768_S_d0_1 h_S_) (Host.reduceAdd (uitofp .f32 (noti (Cert.ReferenceIdeal.Value.res_main_v30 V0))) (constant S_ .f32 0x00000000#32) reducesTo_S8192x768_S_d0_1 h_S_)
      = val_main_v38 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

/-- The term the Run module states for `main_v28` over any contents `V0` is the stage. -/
theorem val_main_v28_eq (V0 : Valuation τ sig (Elt F)) :
    addf (addf (Host.dotGeneral dot_S8192x2048_S2048x768_S8192x768_1_0_0_1_n_n none (mulf (addf (Host.dotGeneral dot_S8192x768_S768x2048_S8192x2048_1_0_0_1_n_n none (Cert.ReferenceIdeal.Value.res_main_v0 V0) (V0 (Proc.devRef .tc main_arg2))) (broadcastInDim S8192x2048 ![0, 1] bcast_S1x2048_S8192x2048_0_1 (broadcastInDim S1x2048 ![1] bcast_S2048_S1x2048_1 (V0 (Proc.devRef .tc main_arg3))))) (uitofp .f32 (cmpf .olt (maximumf (broadcastInDim S8192x2048 ![0, 1] bcast_S1x1_S8192x2048_0_1 (Cert.ReferenceIdeal.Value.res_main_call0_call0_v2 V0)) (addf (mulf (subf (bitcastToFloat (F := F) .f32 (ori (Host.shrui (xori (addi (Cert.ReferenceIdeal.Value.res_main_call0_call0_call0_v163 V0) (broadcastInDim S8192x2048 ![] bcast_S_S8192x2048 (Cert.ReferenceIdeal.Value.res_main_call0_call0_call0_v1 V0))) (addi (addi (xori (Cert.ReferenceIdeal.Value.res_main_call0_call0_call0_v163 V0) (ori (Host.shli (Cert.ReferenceIdeal.Value.res_main_call0_call0_call0_v162 V0) (broadcastInDim S8192x2048 ![] bcast_S_S8192x2048 (constantI S_ 32 6#32))) (Host.shrui (Cert.ReferenceIdeal.Value.res_main_call0_call0_call0_v162 V0) (broadcastInDim S8192x2048 ![] bcast_S_S8192x2048 (constantI S_ 32 26#32))))) (broadcastInDim S8192x2048 ![] bcast_S_S8192x2048 (Cert.ReferenceIdeal.Value.res_main_call0_call0_v5 V0))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (Cert.ReferenceIdeal.Value.res_main_call0_call0_v2 V0)))) (broadcastInDim S8192x2048 ![0, 1] bcast_S1x1_S8192x2048_0_1 (Cert.ReferenceIdeal.Value.res_main_call0_call0_v2 V0)))) (broadcastInDim S8192x2048 ![0, 1] bcast_S1x2048_S8192x2048_0_1 (broadcastInDim S1x2048 ![1] bcast_S2048_S1x2048_1 (Host.exp (mulf (broadcastInDim S2048 ![] bcast_S_S2048 (constant S_ .f32 0xBF000000#32)) (mulf (Cert.ReferenceIdeal.Value.res_main_v8 V0) (Cert.ReferenceIdeal.Value.res_main_v8 V0))))))))) (V0 (Proc.devRef .tc main_arg4))) (broadcastInDim S8192x768 ![0, 1] bcast_S1x768_S8192x768_0_1 (broadcastInDim S1x768 ![1] bcast_S768_S1x768_1 (V0 (Proc.devRef .tc main_arg5))))) (Cert.ReferenceIdeal.Value.res_main_v0 V0)
      = val_main_v28 (F := F) (V0 (Proc.devRef .tc main_arg0)) (V0 (Proc.devRef .tc main_arg2)) (V0 (Proc.devRef .tc main_arg3)) (V0 (Proc.devRef .tc main_arg4)) (V0 (Proc.devRef .tc main_arg5)) := rfl

end Cert.ReferenceIdeal.Read

end
-- ==== Proof.Bits.lean ====
/- The random word of one mask position: twenty rounds on two 32-bit words, and that the reference's rounds compute it. -/
module

public import proofs.«01_k».proof.Proof.RefReadA
public import proofs.«01_k».proof.Proof.RefReadB

@[expose] public section

set_option maxRecDepth 16384

noncomputable section

namespace Cert.Bits

open Idealize.ShloMosaic

/-- One round: the words are added, the second is rotated left by `l` (`r = 32 - l`) and the sum is mixed in. -/
def mix (l r : BitVec 32) (p : BitVec 32 × BitVec 32) : BitVec 32 × BitVec 32 :=
  (p.1 + p.2, (p.1 + p.2) ^^^ ((p.2 <<< l) ||| (p.2 >>> r)))

/-- The four rounds of the first kind. -/
def four (p : BitVec 32 × BitVec 32) : BitVec 32 × BitVec 32 :=
  mix 6#32 26#32 (mix 26#32 6#32 (mix 15#32 17#32 (mix 13#32 19#32 p)))

/-- The four rounds of the second kind. -/
def four' (p : BitVec 32 × BitVec 32) : BitVec 32 × BitVec 32 :=
  mix 24#32 8#32 (mix 16#32 16#32 (mix 29#32 3#32 (mix 17#32 15#32 p)))

/-- A key is added to each word. -/
def inj (a b : BitVec 32) (p : BitVec 32 × BitVec 32) : BitVec 32 × BitVec 32 := (p.1 + a, p.2 + b)

/-- The third key: the other two (0 and 12345) and the round constant. -/
def key : BitVec 32 := 466693091#32

/-- The two words after all rounds, from the position's number plus 12345. -/
def words (n : BitVec 32) : BitVec 32 × BitVec 32 :=
  inj key 5#32 (four (inj 12345#32 (key + 4#32) (four' (inj 0#32 12348#32 (four (inj key 2#32 (four'
    (inj 12345#32 (key + 1#32) (four (0#32, n))))))))))

/-- The top 23 bits of the random word. -/
def draw (n : BitVec 32) : BitVec 32 := ((words n).1 ^^^ (words n).2) >>> 9#32

/-- A round written with the programs' operations. -/
theorem mix_eq (u : ArithUnit) (x y l r : BitVec 32) (hl : l.toNat < 32) (hr : r.toNat < 32) :
    IntOp.xori (IntOp.addi x y) (IntOp.ori (IntOp.shli u y l) (IntOp.shrui u y r)) = (mix l r (x, y)).2 := by
  simp only [IntOp.shli, IntOp.shrui, if_pos hl, if_pos hr]
  rfl

/-- The same with the operands of the last exclusive-or the other way round. -/
theorem mix_eq' (u : ArithUnit) (x y l r : BitVec 32) (hl : l.toNat < 32) (hr : r.toNat < 32) :
    IntOp.xori (IntOp.ori (IntOp.shli u y l) (IntOp.shrui u y r)) (IntOp.addi x y) = (mix l r (x, y)).2 :=
  (BitVec.xor_comm _ _).trans (mix_eq u x y l r hl hr)

/-- A round, as a statement on the pair. -/
theorem mix_pair {l r a b x y : BitVec 32} (ha : a = x + y) (hb : b = (mix l r (x, y)).2) : (a, b) = mix l r (x, y) := by
  rw [ha, hb]; rfl

/-- Four rounds in a row, of any rotations. -/
theorem mix_four {l1 r1 l2 r2 l3 r3 l4 r4 : BitVec 32} {p0 p1 p2 p3 p4 : BitVec 32 × BitVec 32}
    (h1 : p1 = mix l1 r1 p0) (h2 : p2 = mix l2 r2 p1) (h3 : p3 = mix l3 r3 p2) (h4 : p4 = mix l4 r4 p3) :
    p4 = mix l4 r4 (mix l3 r3 (mix l2 r2 (mix l1 r1 p0))) := by
  rw [h4, h3, h2, h1]

end Cert.Bits

namespace Cert.ReferenceIdeal.Read

open Cert.ReferenceIdeal Cert.ReferenceIdeal.Gen Idealize.ShloMosaic Cert.Bits

variable {F : FTy → Type} [FloatOps F]

/-- The only index of a one-element vector. -/
abbrev one : S1.Idx := fun a => match a with
  | ⟨0, _⟩ => ⟨0, by show 0 < 1; decide⟩

/-- A one-element vector and a scalar have the same single position. -/
theorem one_pos (j : S_.Idx) : (S1.rowMajor one).val = (S_.rowMajor j).val := by
  have h1 : (S1.rowMajor one).val < 1 := (S1.rowMajor one).isLt
  have h2 : (S_.rowMajor j).val < 1 := (S_.rowMajor j).isLt
  omega

/-- The two words of the seed. -/
theorem seed_words (j : S2.Idx) : val_main_v19 (F := F) j = if (j 0).val = 0 then 0#32 else 12345#32 := by
  have hj : (j 0).val < 2 := (j 0).isLt
  unfold val_main_v19
  by_cases h : (j 0).val = 0
  · rw [if_pos h]
    refine (concatenate_pair_apply_left 0 _ _ concatenates_S1_S1_S2_d0 j rfl one (fun b => match b with
      | ⟨0, _⟩ => h.symm)).trans ?_
    rw [val_main_v15_apply]
    show IntOp.shrui .host 12345#32 32#32 = 0#32
    rfl
  · rw [if_neg h]
    refine (concatenate_pair_apply_right 0 _ _ concatenates_S1_S1_S2_d0 j rfl rfl one (fun b hb => match b, hb with
      | ⟨0, _⟩, hb => absurd rfl hb) (by show 0 + 1 = (j 0).val; omega)).trans ?_
    rw [val_main_v18_apply]
    show 12345#32 &&& 4294967295#32 = 12345#32
    decide

/-- The seed's low word. -/
theorem seed_lo (j : S_.Idx) : val_main_call0_call0_v7 (F := F) j = 12345#32 := by
  unfold val_main_call0_call0_v7
  rw [shapeCast_apply _ shapeCasts_S1_S_ j one (one_pos j),
    val_main_call0_call0_v6_apply, seed_words]
  rfl

/-- The seed's high word. -/
theorem seed_hi (j : S_.Idx) : val_main_call0_call0_v5 (F := F) j = 0#32 := by
  unfold val_main_call0_call0_v5
  rw [shapeCast_apply _ shapeCasts_S1_S_ j one (one_pos j),
    val_main_call0_call0_v4_apply, seed_words]
  rfl

/-- The third key. -/
theorem seed_key (j : S_.Idx) : val_main_call0_call0_call0_v1 (F := F) j = key := by
  rw [val_main_call0_call0_call0_v1_apply, val_main_call0_call0_call0_v0_apply, seed_lo, seed_hi]
  show (0#32 ^^^ 12345#32) ^^^ 466688986#32 = key
  decide

/-- Rounds 1 to 4 of the reference. -/
theorem rounds_1 (i : S8192x2048.Idx) :
    (val_main_call0_call0_call0_v27 (F := F) i, val_main_call0_call0_call0_v33 (F := F) i) = four (val_main_call0_call0_call0_v3 (F := F) i, val_main_call0_call0_call0_v5 (F := F) i) :=
  mix_four
    (p1 := (val_main_call0_call0_call0_v6 (F := F) i, val_main_call0_call0_call0_v12 (F := F) i))
    (mix_pair (x := val_main_call0_call0_call0_v3 (F := F) i) (y := val_main_call0_call0_call0_v5 (F := F) i) rfl (mix_eq .host _ _ 13#32 19#32 (by decide) (by decide)))
    (p2 := (val_main_call0_call0_call0_v13 (F := F) i, val_main_call0_call0_call0_v19 (F := F) i))
    (mix_pair (x := val_main_call0_call0_call0_v6 (F := F) i) (y := val_main_call0_call0_call0_v12 (F := F) i) rfl (mix_eq .host _ _ 15#32 17#32 (by decide) (by decide)))
    (p3 := (val_main_call0_call0_call0_v20 (F := F) i, val_main_call0_call0_call0_v26 (F := F) i))
    (mix_pair (x := val_main_call0_call0_call0_v13 (F := F) i) (y := val_main_call0_call0_call0_v19 (F := F) i) rfl (mix_eq .host _ _ 26#32 6#32 (by decide) (by decide)))
    (p4 := (val_main_call0_call0_call0_v27 (F := F) i, val_main_call0_call0_call0_v33 (F := F) i))
    (mix_pair (x := val_main_call0_call0_call0_v20 (F := F) i) (y := val_main_call0_call0_call0_v26 (F := F) i) rfl (mix_eq .host _ _ 6#32 26#32 (by decide) (by decide)))

/-- Rounds 5 to 8 of the reference. -/
theorem rounds_2 (i : S8192x2048.Idx) :
    (val_main_call0_call0_call0_v61 (F := F) i, val_main_call0_call0_call0_v67 (F := F) i) = four' (val_main_call0_call0_call0_v35 (F := F) i, val_main_call0_call0_call0_v39 (F := F) i) :=
  mix_four
    (p1 := (val_main_call0_call0_call0_v40 (F := F) i, val_main_call0_call0_call0_v46 (F := F) i))
    (mix_pair (x := val_main_call0_call0_call0_v35 (F := F) i) (y := val_main_call0_call0_call0_v39 (F := F) i) rfl (mix_eq .host _ _ 17#32 15#32 (by decide) (by decide)))
    (p2 := (val_main_call0_call0_call0_v47 (F := F) i, val_main_call0_call0_call0_v53 (F := F) i))
    (mix_pair (x := val_main_call0_call0_call0_v40 (F := F) i) (y := val_main_call0_call0_call0_v46 (F := F) i) rfl (mix_eq .host _ _ 29#32 3#32 (by decide) (by decide)))
    (p3 := (val_main_call0_call0_call0_v54 (F := F) i, val_main_call0_call0_call0_v60 (F := F) i))
    (mix_pair (x := val_main_call0_call0_call0_v47 (F := F) i) (y := val_main_call0_call0_call0_v53 (F := F) i) rfl (mix_eq .host _ _ 16#32 16#32 (by decide) (by decide)))
    (p4 := (val_main_call0_call0_call0_v61 (F := F) i, val_main_call0_call0_call0_v67 (F := F) i))
    (mix_pair (x := val_main_call0_call0_call0_v54 (F := F) i) (y := val_main_call0_call0_call0_v60 (F := F) i) rfl (mix_eq .host _ _ 24#32 8#32 (by decide) (by decide)))

/-- Rounds 9 to 12 of the reference. -/
theorem rounds_3 (i : S8192x2048.Idx) :
    (val_main_call0_call0_call0_v95 (F := F) i, val_main_call0_call0_call0_v101 (F := F) i) = four (val_main_call0_call0_call0_v69 (F := F) i, val_main_call0_call0_call0_v73 (F := F) i) :=
  mix_four
    (p1 := (val_main_call0_call0_call0_v74 (F := F) i, val_main_call0_call0_call0_v80 (F := F) i))
    (mix_pair (x := val_main_call0_call0_call0_v69 (F := F) i) (y := val_main_call0_call0_call0_v73 (F := F) i) rfl (mix_eq .host _ _ 13#32 19#32 (by decide) (by decide)))
    (p2 := (val_main_call0_call0_call0_v81 (F := F) i, val_main_call0_call0_call0_v87 (F := F) i))
    (mix_pair (x := val_main_call0_call0_call0_v74 (F := F) i) (y := val_main_call0_call0_call0_v80 (F := F) i) rfl (mix_eq .host _ _ 15#32 17#32 (by decide) (by decide)))
    (p3 := (val_main_call0_call0_call0_v88 (F := F) i, val_main_call0_call0_call0_v94 (F := F) i))
    (mix_pair (x := val_main_call0_call0_call0_v81 (F := F) i) (y := val_main_call0_call0_call0_v87 (F := F) i) rfl (mix_eq .host _ _ 26#32 6#32 (by decide) (by decide)))
    (p4 := (val_main_call0_call0_call0_v95 (F := F) i, val_main_call0_call0_call0_v101 (F := F) i))
    (mix_pair (x := val_main_call0_call0_call0_v88 (F := F) i) (y := val_main_call0_call0_call0_v94 (F := F) i) rfl (mix_eq .host _ _ 6#32 26#32 (by decide) (by decide)))

/-- Rounds 13 to 16 of the reference. -/
theorem rounds_4 (i : S8192x2048.Idx) :
    (val_main_call0_call0_call0_v129 (F := F) i, val_main_call0_call0_call0_v135 (F := F) i) = four' (val_main_call0_call0_call0_v103 (F := F) i, val_main_call0_call0_call0_v107 (F := F) i) :=
  mix_four
    (p1 := (val_main_call0_call0_call0_v108 (F := F) i, val_main_call0_call0_call0_v114 (F := F) i))
    (mix_pair (x := val_main_call0_call0_call0_v103 (F := F) i) (y := val_main_call0_call0_call0_v107 (F := F) i) rfl (mix_eq .host _ _ 17#32 15#32 (by decide) (by decide)))
    (p2 := (val_main_call0_call0_call0_v115 (F := F) i, val_main_call0_call0_call0_v121 (F := F) i))
    (mix_pair (x := val_main_call0_call0_call0_v108 (F := F) i) (y := val_main_call0_call0_call0_v114 (F := F) i) rfl (mix_eq .host _ _ 29#32 3#32 (by decide) (by decide)))
    (p3 := (val_main_call0_call0_call0_v122 (F := F) i, val_main_call0_call0_call0_v128 (F := F) i))
    (mix_pair (x := val_main_call0_call0_call0_v115 (F := F) i) (y := val_main_call0_call0_call0_v121 (F := F) i) rfl (mix_eq .host _ _ 16#32 16#32 (by decide) (by decide)))
    (p4 := (val_main_call0_call0_call0_v129 (F := F) i, val_main_call0_call0_call0_v135 (F := F) i))
    (mix_pair (x := val_main_call0_call0_call0_v122 (F := F) i) (y := val_main_call0_call0_call0_v128 (F := F) i) rfl (mix_eq .host _ _ 24#32 8#32 (by decide) (by decide)))

/-- Rounds 17 to 20 of the reference. -/
theorem rounds_5 (i : S8192x2048.Idx) :
    (val_main_call0_call0_call0_v163 (F := F) i, val_main_call0_call0_call0_v169 (F := F) i) = four (val_main_call0_call0_call0_v137 (F := F) i, val_main_call0_call0_call0_v141 (F := F) i) :=
  mix_four
    (p1 := (val_main_call0_call0_call0_v142 (F := F) i, val_main_call0_call0_call0_v148 (F := F) i))
    (mix_pair (x := val_main_call0_call0_call0_v137 (F := F) i) (y := val_main_call0_call0_call0_v141 (F := F) i) rfl (mix_eq .host _ _ 13#32 19#32 (by decide) (by decide)))
    (p2 := (val_main_call0_call0_call0_v149 (F := F) i, val_main_call0_call0_call0_v155 (F := F) i))
    (mix_pair (x := val_main_call0_call0_call0_v142 (F := F) i) (y := val_main_call0_call0_call0_v148 (F := F) i) rfl (mix_eq .host _ _ 15#32 17#32 (by decide) (by decide)))
    (p3 := (val_main_call0_call0_call0_v156 (F := F) i, val_main_call0_call0_call0_v162 (F := F) i))
    (mix_pair (x := val_main_call0_call0_call0_v149 (F := F) i) (y := val_main_call0_call0_call0_v155 (F := F) i) rfl (mix_eq .host _ _ 26#32 6#32 (by decide) (by decide)))
    (p4 := (val_main_call0_call0_call0_v163 (F := F) i, val_main_call0_call0_call0_v169 (F := F) i))
    (mix_pair (x := val_main_call0_call0_call0_v156 (F := F) i) (y := val_main_call0_call0_call0_v162 (F := F) i) rfl (mix_eq .host _ _ 6#32 26#32 (by decide) (by decide)))

/-- The position's number, as its low and high words. -/
theorem number_lo (i : S8192x2048.Idx) :
    val_main_call0_call0_v17 (F := F) i = BitVec.ofNat 32 ((i 0).val * 2048 + (i 1).val) := by
  have h0 : (i 0).val < 8192 := (i 0).isLt
  have h1 : (i 1).val < 2048 := (i 1).isLt
  show BitVec.truncate 32 (2048#64 * BitVec.ofNat 64 (i 0).val + 1#64 * BitVec.ofNat 64 (i 1).val) = _
  apply BitVec.eq_of_toNat_eq
  simp only [BitVec.toNat_setWidth, BitVec.truncate_eq_setWidth, BitVec.toNat_add, BitVec.toNat_mul, BitVec.toNat_ofNat]
  omega

theorem number_hi (i : S8192x2048.Idx) : val_main_call0_call0_v18 (F := F) i = 0#32 := by
  have h0 : (i 0).val < 8192 := (i 0).isLt
  have h1 : (i 1).val < 2048 := (i 1).isLt
  show BitVec.truncate 32 (IntOp.shrui .host (2048#64 * BitVec.ofNat 64 (i 0).val + 1#64 * BitVec.ofNat 64 (i 1).val) 32#64) = _
  simp only [IntOp.shrui, if_pos (show (32#64).toNat < 64 by decide)]
  apply BitVec.eq_of_toNat_eq
  simp only [BitVec.toNat_setWidth, BitVec.truncate_eq_setWidth, BitVec.toNat_add, BitVec.toNat_mul, BitVec.toNat_ofNat, BitVec.toNat_ushiftRight, BitVec.ushiftRight_eq', Nat.shiftRight_eq_div_pow, Nat.reducePow, Nat.reduceMod]
  omega

/-- The state before the first round. -/
theorem start (i : S8192x2048.Idx) :
    (val_main_call0_call0_call0_v3 (F := F) i, val_main_call0_call0_call0_v5 (F := F) i)
      = (0#32, BitVec.ofNat 32 ((i 0).val * 2048 + (i 1).val) + 12345#32) := by
  refine Prod.ext ?_ ?_
  · show val_main_call0_call0_v18 (F := F) i + val_main_call0_call0_call0_v2 (F := F) i = 0#32
    rw [val_main_call0_call0_call0_v2_apply, seed_hi, number_hi]
    rfl
  · show val_main_call0_call0_v17 (F := F) i + val_main_call0_call0_call0_v4 (F := F) i = _
    rw [val_main_call0_call0_call0_v4_apply, seed_lo, number_lo]

/-- Keys added to a pair, the second as a key and a count. -/
theorem inj_pair {a b x y k1 k2 c k : BitVec 32} (ha : a = x + k1) (hb : b = y + k2 + c) (hk : k2 + c = k) : (a, b) = inj k1 k (x, y) := by
  rw [ha, hb, BitVec.add_assoc, hk]; rfl

/-- The keys added after round 4. -/
theorem keys_1 (i : S8192x2048.Idx) :
    (val_main_call0_call0_call0_v35 (F := F) i, val_main_call0_call0_call0_v39 (F := F) i) = inj 12345#32 (key + 1#32) (val_main_call0_call0_call0_v27 (F := F) i, val_main_call0_call0_call0_v33 (F := F) i) :=
  inj_pair (k2 := key) (c := 1#32)
    (by show val_main_call0_call0_call0_v27 (F := F) i + val_main_call0_call0_call0_v34 (F := F) i = _
        rw [val_main_call0_call0_call0_v34_apply, seed_lo])
    (by show val_main_call0_call0_call0_v33 (F := F) i + val_main_call0_call0_call0_v36 (F := F) i + 1#32 = _
        rw [val_main_call0_call0_call0_v36_apply, seed_key])
    (by first | rfl | decide)

/-- The keys added after round 8. -/
theorem keys_2 (i : S8192x2048.Idx) :
    (val_main_call0_call0_call0_v69 (F := F) i, val_main_call0_call0_call0_v73 (F := F) i) = inj key 2#32 (val_main_call0_call0_call0_v61 (F := F) i, val_main_call0_call0_call0_v67 (F := F) i) :=
  inj_pair (k2 := 0#32) (c := 2#32)
    (by show val_main_call0_call0_call0_v61 (F := F) i + val_main_call0_call0_call0_v68 (F := F) i = _
        rw [val_main_call0_call0_call0_v68_apply, seed_key])
    (by show val_main_call0_call0_call0_v67 (F := F) i + val_main_call0_call0_call0_v70 (F := F) i + 2#32 = _
        rw [val_main_call0_call0_call0_v70_apply, seed_hi])
    (by first | rfl | decide)

/-- The keys added after round 12. -/
theorem keys_3 (i : S8192x2048.Idx) :
    (val_main_call0_call0_call0_v103 (F := F) i, val_main_call0_call0_call0_v107 (F := F) i) = inj 0#32 12348#32 (val_main_call0_call0_call0_v95 (F := F) i, val_main_call0_call0_call0_v101 (F := F) i) :=
  inj_pair (k2 := 12345#32) (c := 3#32)
    (by show val_main_call0_call0_call0_v95 (F := F) i + val_main_call0_call0_call0_v102 (F := F) i = _
        rw [val_main_call0_call0_call0_v102_apply, seed_hi])
    (by show val_main_call0_call0_call0_v101 (F := F) i + val_main_call0_call0_call0_v104 (F := F) i + 3#32 = _
        rw [val_main_call0_call0_call0_v104_apply, seed_lo])
    (by first | rfl | decide)

/-- The keys added after round 16. -/
theorem keys_4 (i : S8192x2048.Idx) :
    (val_main_call0_call0_call0_v137 (F := F) i, val_main_call0_call0_call0_v141 (F := F) i) = inj 12345#32 (key + 4#32) (val_main_call0_call0_call0_v129 (F := F) i, val_main_call0_call0_call0_v135 (F := F) i) :=
  inj_pair (k2 := key) (c := 4#32)
    (by show val_main_call0_call0_call0_v129 (F := F) i + val_main_call0_call0_call0_v136 (F := F) i = _
        rw [val_main_call0_call0_call0_v136_apply, seed_lo])
    (by show val_main_call0_call0_call0_v135 (F := F) i + val_main_call0_call0_call0_v138 (F := F) i + 4#32 = _
        rw [val_main_call0_call0_call0_v138_apply, seed_key])
    (by first | rfl | decide)

/-- The keys added after round 20. -/
theorem keys_5 (i : S8192x2048.Idx) :
    (val_main_call0_call0_v19_0 (F := F) i, val_main_call0_call0_v19_1 (F := F) i) = inj key 5#32 (val_main_call0_call0_call0_v163 (F := F) i, val_main_call0_call0_call0_v169 (F := F) i) :=
  inj_pair (k2 := 0#32) (c := 5#32)
    (by show val_main_call0_call0_call0_v163 (F := F) i + val_main_call0_call0_call0_v170 (F := F) i = _
        rw [val_main_call0_call0_call0_v170_apply, seed_key])
    (by show val_main_call0_call0_call0_v169 (F := F) i + val_main_call0_call0_call0_v172 (F := F) i + 5#32 = _
        rw [val_main_call0_call0_call0_v172_apply, seed_hi])
    (by decide)

/-- The reference's two words are `words` of the position's number plus 12345. -/
theorem words_eq (i : S8192x2048.Idx) :
    (val_main_call0_call0_v19_0 (F := F) i, val_main_call0_call0_v19_1 (F := F) i)
      = words (BitVec.ofNat 32 ((i 0).val * 2048 + (i 1).val) + 12345#32) := by
  rw [keys_5, rounds_5, keys_4, rounds_4, keys_3, rounds_3, keys_2, rounds_2, keys_1, rounds_1, start]
  rfl

/-- The reference's 23 bits. -/
theorem draw_eq (i : S8192x2048.Idx) :
    val_main_call0_call0_v22 (F := F) i = draw (BitVec.ofNat 32 ((i 0).val * 2048 + (i 1).val) + 12345#32) := by
  show IntOp.shrui .host (val_main_call0_call0_v19_0 (F := F) i ^^^ val_main_call0_call0_v19_1 (F := F) i) 9#32 = _
  simp only [IntOp.shrui, if_pos (show (9#32).toNat < 32 by decide), draw, ← words_eq (F := F)]

end Cert.ReferenceIdeal.Read
-- ==== Proof.KCases.lean ====
/- What one grid point of the kernel leaves in its buffers, case by case: the output block, the two running column totals and the counter scratch, as functions of the blocks it loads. -/
module

public import proofs.«01_k».proof.Proof.Gen.KernelIdeal.Frame
public import Idealize.ShloMosaic.Lib.Pipeline.Value

@[expose] public section

set_option maxRecDepth 16384

noncomputable section

namespace Cert.KernelIdeal.Val

open Idealize.ShloMosaic Idealize.ShloMosaic.TcCoe Idealize.ShloMosaic.Tactic
open Idealize.ShloMosaic.Pipeline (Dat Cfg Window cellOf)
open Cert.KernelIdeal Cert.KernelIdeal.Gen

variable {F : FTy → Type} [FloatOps F]

theorem hz : (![0, 0] : Fin 2 → Nat) = fun _ => 0 := funext fun a => by fin_cases a <;> rfl

/-- The second key word's companion `0 ^ 12345 ^ 0x1BD11BDA`, as the kernel computes it. -/
def key2 : BitVec 32 := Scalar.xori (Scalar.xori 0#32 12345#32) 466688986#32

/-- The columns of the first weight matrix the kernel loads. -/
def w1c (x2 : Vec F S768x2048 .f32) : Vec F S768x1664 .f32 :=
  View.ld x2 (Rect.unit (s := S768x2048) ![0, 0] S768x1664.size inb_S768x2048_S768x1664_0_0)

/-- The rows of the second weight matrix the kernel loads. -/
def w2c (x4 : Vec F S2048x768 .f32) : Vec F S1664x768 .f32 :=
  View.ld x4 (Rect.unit (s := S2048x768) ![0, 0] S1664x768.size inb_S2048x768_S1664x768_0_0)

/-- The two words of the generator after its fourth round of the second group (first part of the kernel's text). -/
def st1 (i : grid0.Coords) (s : Vec F S1024x1664 .i32) : IVec S1024x1664 32 × IVec S1024x1664 32 :=
  (k0_pay21 key2 (k0_pay10 i s) (k0_pay11 i s), k0_pay22 key2 (k0_pay10 i s) (k0_pay11 i s))

/-- The generator's words at the end of the kernel's third part of text. -/
def st2 (p : IVec S1024x1664 32 × IVec S1024x1664 32) : IVec S1024x1664 32 × IVec S1024x1664 32 :=
  (k0_pay32 p.1 p.2, k0_pay33 p.1 p.2)

/-- The output block of one grid point: `i` the point, `x0` the rows of `x`, `x6` the thresholds, `s` the counter scratch. -/
def outBlk (i : grid0.Coords) (x0 : Vec F S1024x768 .f32) (x2 : Vec F S768x2048 .f32) (x3 : Vec F S1x1664 .f32) (x4 : Vec F S2048x768 .f32) (x5 : Vec F S1x768 .f32) (x6 : Vec F S1x1664 .i32) (s : Vec F S1024x1664 .i32) : Vec F S1024x768 .f32 :=
  k0_pay48 (k0_pay4 x0) (k0_pay5 x0 (w1c x2) x3) key2
    (k0_pay45 key2 (st2 (st1 i s)).1 (st2 (st1 i s)).2) (k0_pay46 key2 (st2 (st1 i s)).1 (st2 (st1 i s)).2) (k0_pay47 key2 (st2 (st1 i s)).1 (st2 (st1 i s)).2)
    x6 (w2c x4) x5

/-- The masked squared differences of one grid point. -/
def sqBlk (i : grid0.Coords) (x0 x1 : Vec F S1024x768 .f32) (x2 : Vec F S768x2048 .f32) (x3 : Vec F S1x1664 .f32) (x4 : Vec F S2048x768 .f32) (x5 : Vec F S1x768 .f32) (x6 : Vec F S1x1664 .i32) (s : Vec F S1024x1664 .i32) : Vec F S1024x768 .f32 :=
  k0_pay51 (k0_pay4 x0) (k0_pay5 x0 (w1c x2) x3) key2
    (k0_pay45 key2 (st2 (st1 i s)).1 (st2 (st1 i s)).2) (k0_pay46 key2 (st2 (st1 i s)).1 (st2 (st1 i s)).2) (k0_pay47 key2 (st2 (st1 i s)).1 (st2 (st1 i s)).2)
    x6 (w2c x4) x5 x1

set_option maxHeartbeats 4000000 in
/-- The first point leaves the counter block in the scratch. -/
theorem sout_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S768x2048 .f32) (harg3 : arg3.IsWhole) (arg4 : Memref sig .tc .vmem S1x1664 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x1664 .i32) (harg7 : arg7.IsWhole) (arg8 : Memref sig .tc .vmem S1024x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1024x1664 .i32) (harg11 : arg11.IsWhole) (hc0 : cond0_0 i) (hc1 : cond0_1 i)
    (x0 : Vec F S1024x768 .f32) (x1 : Vec F S1024x768 .f32) (x2 : Vec F S768x2048 .f32) (x3 : Vec F S1x1664 .f32) (x4 : Vec F S2048x768 .f32) (x5 : Vec F S1x768 .f32) (x6 : Vec F S1x1664 .i32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 = (k0_pay3 : Vec F S1024x1664 .i32) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero (S := S1024x1664) hz]

set_option maxHeartbeats 4000000 in
/-- The first point's output block. -/
theorem out_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S768x2048 .f32) (harg3 : arg3.IsWhole) (arg4 : Memref sig .tc .vmem S1x1664 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x1664 .i32) (harg7 : arg7.IsWhole) (arg8 : Memref sig .tc .vmem S1024x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1024x1664 .i32) (harg11 : arg11.IsWhole) (hc0 : cond0_0 i) (hc1 : cond0_1 i)
    (x0 : Vec F S1024x768 .f32) (x1 : Vec F S1024x768 .f32) (x2 : Vec F S768x2048 .f32) (x3 : Vec F S1x1664 .f32) (x4 : Vec F S2048x768 .f32) (x5 : Vec F S1x768 .f32) (x6 : Vec F S1x1664 .i32) :
    out0_A_7 c i arg1 harg1 arg2 harg2 arg3 harg3 arg4 harg4 arg5 harg5 arg6 harg6 arg7 harg7 arg8 harg8 arg9 harg9 arg10 harg10 arg11 harg11 hc0 hc1 x0 x1 x2 x3 x4 x5 x6 = outBlk i x0 x2 x3 x4 x5 x6 k0_pay3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero (S := S1024x768) hz]
  try simp only [View.readCov_unit_zero (S := S1024x1664) _ hz, View.readCov_unit_zero (S := S1x768) _ hz, View.readCov_unit_zero (S := S1024x768) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x768) hz, View.ld_unit_zero (S := S1x1664) hz, View.ld_unit_zero (S := S1x768) hz, View.ld_unit_zero (S := S1024x1664) hz]
  rfl

set_option maxHeartbeats 4000000 in
/-- A later point's output block. -/
theorem out_B (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S768x2048 .f32) (harg3 : arg3.IsWhole) (arg4 : Memref sig .tc .vmem S1x1664 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x1664 .i32) (harg7 : arg7.IsWhole) (arg8 : Memref sig .tc .vmem S1024x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1024x1664 .i32) (harg11 : arg11.IsWhole) (hc0 : ¬cond0_0 i) (hc1 : ¬cond0_1 i)
    (x0 : Vec F S1024x768 .f32) (x1 : Vec F S1024x768 .f32) (x2 : Vec F S768x2048 .f32) (x3 : Vec F S1x1664 .f32) (x4 : Vec F S2048x768 .f32) (x5 : Vec F S1x768 .f32) (x6 : Vec F S1x1664 .i32) (xo8 xo9 : Vec F S1x768 .f32) (xs0 : Vec F S1024x1664 .i32) :
    out0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xs0 = outBlk i x0 x2 x3 x4 x5 x6 xs0 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xs0)]
  unfold kernelRun0_B
  dsimp only
  sl_unfold_words
  rw [View.canon_unit_zero (S := S1024x768) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x768) hz, View.ld_unit_zero (S := S1x1664) hz, View.ld_unit_zero (S := S1x768) hz, View.ld_unit_zero (S := S1024x1664) hz]
  rfl

set_option maxHeartbeats 4000000 in
/-- The first point's column totals of the masked squares: over zero. -/
theorem sum_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S768x2048 .f32) (harg3 : arg3.IsWhole) (arg4 : Memref sig .tc .vmem S1x1664 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x1664 .i32) (harg7 : arg7.IsWhole) (arg8 : Memref sig .tc .vmem S1024x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1024x1664 .i32) (harg11 : arg11.IsWhole) (hc0 : cond0_0 i) (hc1 : cond0_1 i)
    (x0 : Vec F S1024x768 .f32) (x1 : Vec F S1024x768 .f32) (x2 : Vec F S768x2048 .f32) (x3 : Vec F S1x1664 .f32) (x4 : Vec F S2048x768 .f32) (x5 : Vec F S1x768 .f32) (x6 : Vec F S1x1664 .i32) :
    out0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 = k0_pay1 (sqBlk i x0 x1 x2 x3 x4 x5 x6 k0_pay3) (k0_pay54 k0_pay52) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x768) hz]
  try simp only [View.readCov_unit_zero (S := S1024x1664) _ hz, View.readCov_unit_zero (S := S1x768) _ hz, View.readCov_unit_zero (S := S1024x768) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x768) hz, View.ld_unit_zero (S := S1x1664) hz, View.ld_unit_zero (S := S1x768) hz, View.ld_unit_zero (S := S1024x1664) hz]
  rfl

set_option maxHeartbeats 4000000 in
/-- A later point adds its column totals of the masked squares to the ones before. -/
theorem sum_B (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S768x2048 .f32) (harg3 : arg3.IsWhole) (arg4 : Memref sig .tc .vmem S1x1664 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x1664 .i32) (harg7 : arg7.IsWhole) (arg8 : Memref sig .tc .vmem S1024x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1024x1664 .i32) (harg11 : arg11.IsWhole) (hc0 : ¬cond0_0 i) (hc1 : ¬cond0_1 i)
    (x0 : Vec F S1024x768 .f32) (x1 : Vec F S1024x768 .f32) (x2 : Vec F S768x2048 .f32) (x3 : Vec F S1x1664 .f32) (x4 : Vec F S2048x768 .f32) (x5 : Vec F S1x768 .f32) (x6 : Vec F S1x1664 .i32) (xo8 xo9 : Vec F S1x768 .f32) (xs0 : Vec F S1024x1664 .i32) :
    out0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xs0 = k0_pay1 (sqBlk i x0 x1 x2 x3 x4 x5 x6 xs0) (k0_pay54 xo8) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xs0)]
  unfold kernelRun0_B
  dsimp only
  sl_unfold_words
  rw [View.canon_unit_zero (S := S1x768) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x768) hz, View.ld_unit_zero (S := S1x1664) hz, View.ld_unit_zero (S := S1x768) hz, View.ld_unit_zero (S := S1024x1664) hz]
  rfl

set_option maxHeartbeats 4000000 in
/-- The first point's column counts of the nonzero targets: over zero. -/
theorem cnt_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S768x2048 .f32) (harg3 : arg3.IsWhole) (arg4 : Memref sig .tc .vmem S1x1664 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x1664 .i32) (harg7 : arg7.IsWhole) (arg8 : Memref sig .tc .vmem S1024x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1024x1664 .i32) (harg11 : arg11.IsWhole) (hc0 : cond0_0 i) (hc1 : cond0_1 i)
    (x0 : Vec F S1024x768 .f32) (x1 : Vec F S1024x768 .f32) (x2 : Vec F S768x2048 .f32) (x3 : Vec F S1x1664 .f32) (x4 : Vec F S2048x768 .f32) (x5 : Vec F S1x768 .f32) (x6 : Vec F S1x1664 .i32) :
    out0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 = k0_pay2 (F := F) (k0_pay50 x1) k0_pay53 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x768) hz]
  try simp only [View.readCov_unit_zero (S := S1024x1664) _ hz, View.readCov_unit_zero (S := S1x768) _ hz, View.readCov_unit_zero (S := S1024x768) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x768) hz, View.ld_unit_zero (S := S1x1664) hz, View.ld_unit_zero (S := S1x768) hz, View.ld_unit_zero (S := S1024x1664) hz]

set_option maxHeartbeats 4000000 in
/-- A later point adds its column counts of the nonzero targets to the ones before. -/
theorem cnt_B (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S768x2048 .f32) (harg3 : arg3.IsWhole) (arg4 : Memref sig .tc .vmem S1x1664 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x1664 .i32) (harg7 : arg7.IsWhole) (arg8 : Memref sig .tc .vmem S1024x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1024x1664 .i32) (harg11 : arg11.IsWhole) (hc0 : ¬cond0_0 i) (hc1 : ¬cond0_1 i)
    (x0 : Vec F S1024x768 .f32) (x1 : Vec F S1024x768 .f32) (x2 : Vec F S768x2048 .f32) (x3 : Vec F S1x1664 .f32) (x4 : Vec F S2048x768 .f32) (x5 : Vec F S1x768 .f32) (x6 : Vec F S1x1664 .i32) (xo8 xo9 : Vec F S1x768 .f32) (xs0 : Vec F S1024x1664 .i32) :
    out0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xs0 = k0_pay2 (F := F) (k0_pay50 x1) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xs0)]
  unfold kernelRun0_B
  dsimp only
  sl_unfold_words
  rw [View.canon_unit_zero (S := S1x768) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x768) hz, View.ld_unit_zero (S := S1x1664) hz, View.ld_unit_zero (S := S1x768) hz, View.ld_unit_zero (S := S1024x1664) hz]

end Cert.KernelIdeal.Val

end
-- ==== Proof.KBits.lean ====
/- The kernel's random word at a position of a block: its rounds, read at one index, are the shared scalar rounds. -/
module

public import proofs.«01_k».proof.Proof.Bits
public import proofs.«01_k».proof.Proof.KCases
public import Idealize.ShloMosaic.Lib.ValueIdx

@[expose] public section

set_option maxRecDepth 16384

noncomputable section

namespace Cert.KernelIdeal.Val

open Idealize.ShloMosaic
open Cert.KernelIdeal Cert.KernelIdeal.Gen Cert.Bits

variable {F : FTy → Type} [FloatOps F]

theorem key2_eq : key2 = key := by unfold key2 key Scalar.xori; decide

/-- One round as the kernel writes it: the rotated word first in the exclusive-or. -/
theorem round (l r : BitVec 32) (hl : l.toNat < 32) (hr : r.toNat < 32) {a b x y : BitVec 32} (ha : a = x + y)
    (hb : b = IntOp.xori (IntOp.ori (IntOp.shli .vector y l) (IntOp.shrui .vector y r)) (IntOp.addi x y)) : (a, b) = mix l r (x, y) :=
  mix_pair ha (hb.trans (mix_eq' .vector x y l r hl hr))

/-- A round followed by the addition of two keys. -/
theorem round_inj (l r k1 k2 : BitVec 32) (hl : l.toNat < 32) (hr : r.toNat < 32) {a b x y : BitVec 32} (ha : a = x + y + k1)
    (hb : b = IntOp.xori (IntOp.ori (IntOp.shli .vector y l) (IntOp.shrui .vector y r)) (IntOp.addi x y) + k2) :
    (a, b) = inj k1 k2 (mix l r (x, y)) := by
  rw [ha, hb, mix_eq' .vector x y l r hl hr]; rfl

/-- Round 1, from a first word of zero. -/
theorem r1 (i : grid0.Coords) (s : Vec F S1024x1664 .i32) (j : S1024x1664.Idx) :
    (k0_pay6 i s j, k0_pay7 i s j) = mix 13#32 19#32 (0#32, k0_pay6 i s j) :=
  mix_pair (BitVec.zero_add _).symm
    ((show k0_pay7 i s j = IntOp.xori (IntOp.ori (IntOp.shli .vector (k0_pay6 i s j) 13#32) (IntOp.shrui .vector (k0_pay6 i s j) 19#32))
        (k0_pay6 i s j) from rfl).trans
      ((congrArg (IntOp.xori _) (BitVec.zero_add _).symm).trans (mix_eq' .vector 0#32 (k0_pay6 i s j) 13#32 19#32 (by decide) (by decide))))

/-- Round 2. -/
theorem r2 (i : grid0.Coords) (s : Vec F S1024x1664 .i32) (j : S1024x1664.Idx) :
    (k0_pay8 i s j, k0_pay9 i s j) = mix 15#32 17#32 (k0_pay6 i s j, k0_pay7 i s j) :=
  round 15#32 17#32 (by decide) (by decide) rfl rfl

/-- Round 3. -/
theorem r3 (i : grid0.Coords) (s : Vec F S1024x1664 .i32) (j : S1024x1664.Idx) :
    (k0_pay10 i s j, k0_pay11 i s j) = mix 26#32 6#32 (k0_pay8 i s j, k0_pay9 i s j) :=
  round 26#32 6#32 (by decide) (by decide) rfl rfl

/-- Round 4 and its keys. -/
theorem r4 (v30 v36 : IVec S1024x1664 32) (j : S1024x1664.Idx) :
    (k0_pay12 v30 v36 j + 12345#32, k0_pay13 key v30 v36 j) = inj 12345#32 (key + 1#32) (mix 6#32 26#32 (v30 j, v36 j)) :=
  round_inj 6#32 26#32 12345#32 (key + 1#32) (by decide) (by decide) rfl rfl

/-- Round 5. -/
theorem r5 (v30 v36 : IVec S1024x1664 32) (j : S1024x1664.Idx) :
    (k0_pay14 key v30 v36 j, k0_pay15 key v30 v36 j) = mix 17#32 15#32 (k0_pay12 v30 v36 j + 12345#32, k0_pay13 key v30 v36 j) :=
  round 17#32 15#32 (by decide) (by decide) rfl rfl

/-- Round 6. -/
theorem r6 (v30 v36 : IVec S1024x1664 32) (j : S1024x1664.Idx) :
    (k0_pay16 key v30 v36 j, k0_pay17 key v30 v36 j) = mix 29#32 3#32 (k0_pay14 key v30 v36 j, k0_pay15 key v30 v36 j) :=
  round 29#32 3#32 (by decide) (by decide) rfl rfl

/-- Round 7. -/
theorem r7 (v30 v36 : IVec S1024x1664 32) (j : S1024x1664.Idx) :
    (k0_pay18 key v30 v36 j, k0_pay19 key v30 v36 j) = mix 16#32 16#32 (k0_pay16 key v30 v36 j, k0_pay17 key v30 v36 j) :=
  round 16#32 16#32 (by decide) (by decide) rfl rfl

/-- Round 8 and its keys. -/
theorem r8 (v30 v36 : IVec S1024x1664 32) (j : S1024x1664.Idx) :
    (k0_pay20 key v30 v36 j + key, k0_pay21 key v30 v36 j) = inj key 2#32 (mix 24#32 8#32 (k0_pay18 key v30 v36 j, k0_pay19 key v30 v36 j)) :=
  round_inj 24#32 8#32 key 2#32 (by decide) (by decide) rfl rfl

/-- Round 9, from the second word and the already formed sum. -/
theorem r9 (v81 v82 : IVec S1024x1664 32) (a : IVec S1024x1664 32) (h : v82 = addi a v81) (j : S1024x1664.Idx) :
    (v82 j, k0_pay23 v81 v82 j) = mix 13#32 19#32 (a j, v81 j) := by
  subst h
  exact round 13#32 19#32 (by decide) (by decide) rfl rfl

/-- Round 10. -/
theorem r10 (v81 v82 : IVec S1024x1664 32) (j : S1024x1664.Idx) :
    (k0_pay24 v81 v82 j, k0_pay25 v81 v82 j) = mix 15#32 17#32 (v82 j, k0_pay23 v81 v82 j) :=
  round 15#32 17#32 (by decide) (by decide) rfl rfl

/-- Round 11. -/
theorem r11 (v81 v82 : IVec S1024x1664 32) (j : S1024x1664.Idx) :
    (k0_pay26 v81 v82 j, k0_pay27 v81 v82 j) = mix 26#32 6#32 (k0_pay24 v81 v82 j, k0_pay25 v81 v82 j) :=
  round 26#32 6#32 (by decide) (by decide) rfl rfl

/-- Round 12 and its keys. -/
theorem r12 (v81 v82 : IVec S1024x1664 32) (j : S1024x1664.Idx) :
    (k0_pay28 v81 v82 j + 0#32, k0_pay29 v81 v82 j) = inj 0#32 12348#32 (mix 6#32 26#32 (k0_pay26 v81 v82 j, k0_pay27 v81 v82 j)) :=
  round_inj 6#32 26#32 0#32 12348#32 (by decide) (by decide) rfl rfl

/-- Round 13. -/
theorem r13 (v81 v82 : IVec S1024x1664 32) (j : S1024x1664.Idx) :
    (k0_pay30 v81 v82 j, k0_pay31 v81 v82 j) = mix 17#32 15#32 (k0_pay28 v81 v82 j + 0#32, k0_pay29 v81 v82 j) :=
  round 17#32 15#32 (by decide) (by decide) rfl rfl

/-- Round 14, its last exclusive-or taken in the next part of the text. -/
theorem r14 (v81 v82 : IVec S1024x1664 32) (j : S1024x1664.Idx) :
    (k0_pay32 v81 v82 j, k0_pay34 (k0_pay32 v81 v82) (k0_pay33 v81 v82) j) = mix 29#32 3#32 (k0_pay30 v81 v82 j, k0_pay31 v81 v82 j) :=
  round 29#32 3#32 (by decide) (by decide) rfl rfl

/-- Round 15. -/
theorem r15 (v122 v127 : IVec S1024x1664 32) (j : S1024x1664.Idx) :
    (k0_pay35 v122 v127 j, k0_pay36 v122 v127 j) = mix 16#32 16#32 (v122 j, k0_pay34 v122 v127 j) :=
  round 16#32 16#32 (by decide) (by decide) rfl rfl

/-- Round 16 and its keys. -/
theorem r16 (v122 v127 : IVec S1024x1664 32) (j : S1024x1664.Idx) :
    (k0_pay37 v122 v127 j + 12345#32, k0_pay38 key v122 v127 j) = inj 12345#32 (key + 4#32) (mix 24#32 8#32 (k0_pay35 v122 v127 j, k0_pay36 v122 v127 j)) :=
  round_inj 24#32 8#32 12345#32 (key + 4#32) (by decide) (by decide) rfl rfl

/-- Round 17. -/
theorem r17 (v122 v127 : IVec S1024x1664 32) (j : S1024x1664.Idx) :
    (k0_pay39 key v122 v127 j, k0_pay40 key v122 v127 j) = mix 13#32 19#32 (k0_pay37 v122 v127 j + 12345#32, k0_pay38 key v122 v127 j) :=
  round 13#32 19#32 (by decide) (by decide) rfl rfl

/-- Round 18. -/
theorem r18 (v122 v127 : IVec S1024x1664 32) (j : S1024x1664.Idx) :
    (k0_pay41 key v122 v127 j, k0_pay42 key v122 v127 j) = mix 15#32 17#32 (k0_pay39 key v122 v127 j, k0_pay40 key v122 v127 j) :=
  round 15#32 17#32 (by decide) (by decide) rfl rfl

/-- Round 19. -/
theorem r19 (v122 v127 : IVec S1024x1664 32) (j : S1024x1664.Idx) :
    (k0_pay43 key v122 v127 j, k0_pay44 key v122 v127 j) = mix 26#32 6#32 (k0_pay41 key v122 v127 j, k0_pay42 key v122 v127 j) :=
  round 26#32 6#32 (by decide) (by decide) rfl rfl

/-- Round 20 and its keys, from the two halves of the last rotation. -/
theorem r20 (v122 v127 : IVec S1024x1664 32) (j : S1024x1664.Idx) :
    (k0_pay45 key v122 v127 j + key, IntOp.xori (IntOp.ori (k0_pay46 key v122 v127 j) (k0_pay47 key v122 v127 j)) (k0_pay45 key v122 v127 j) + 5#32)
      = inj key 5#32 (mix 6#32 26#32 (k0_pay43 key v122 v127 j, k0_pay44 key v122 v127 j)) :=
  round_inj 6#32 26#32 key 5#32 (by decide) (by decide) rfl rfl

/-- The 23 bits drawn in the kernel's last part of text. -/
def bits (v16 : BitVec 32) (v169 v171 v173 : IVec S1024x1664 32) : IVec S1024x1664 32 :=
  shrui (xori (addi v169 (broadcast S1024x1664 v16)) (addi (xori (ori v171 v173) v169) (broadcast S1024x1664 (Scalar.addi 0#32 5#32)))) (broadcast S1024x1664 9#32)

/-- The 23 bits of a block, from the counter scratch. -/
def drawBlk (i : grid0.Coords) (s : Vec F S1024x1664 .i32) : IVec S1024x1664 32 :=
  bits key2 (k0_pay45 key2 (st2 (st1 i s)).1 (st2 (st1 i s)).2) (k0_pay46 key2 (st2 (st1 i s)).1 (st2 (st1 i s)).2) (k0_pay47 key2 (st2 (st1 i s)).1 (st2 (st1 i s)).2)

/-- The last four rounds' bits, from the words after round 14. -/
theorem bits_apply (v122 v127 : IVec S1024x1664 32) (j : S1024x1664.Idx) (p : BitVec 32 × BitVec 32)
    (h : (v122 j, k0_pay34 v122 v127 j) = p) :
    bits key (k0_pay45 key v122 v127) (k0_pay46 key v122 v127) (k0_pay47 key v122 v127) j
      = (((inj key 5#32 (four (inj 12345#32 (key + 4#32) (mix 24#32 8#32 (mix 16#32 16#32 p))))).1
        ^^^ (inj key 5#32 (four (inj 12345#32 (key + 4#32) (mix 24#32 8#32 (mix 16#32 16#32 p))))).2) >>> 9#32) := by
  have e : inj key 5#32 (four (inj 12345#32 (key + 4#32) (mix 24#32 8#32 (mix 16#32 16#32 p))))
      = (k0_pay45 key v122 v127 j + key, IntOp.xori (IntOp.ori (k0_pay46 key v122 v127 j) (k0_pay47 key v122 v127 j)) (k0_pay45 key v122 v127 j) + 5#32) := by
    rw [r20, r19, r18, r17, r16, r15, h]; rfl
  rw [e]
  show IntOp.shrui .vector _ 9#32 = _
  simp only [IntOp.shrui, if_pos (show (9#32).toNat < 32 by decide)]
  rfl

/-- Rounds 9 to 14. -/
theorem st2_apply (v81 v82 a : IVec S1024x1664 32) (h : v82 = addi a v81) (j : S1024x1664.Idx) :
    ((st2 (v81, v82)).1 j, k0_pay34 (st2 (v81, v82)).1 (st2 (v81, v82)).2 j)
      = mix 29#32 3#32 (mix 17#32 15#32 (inj 0#32 12348#32 (four (a j, v81 j)))) := by
  show (k0_pay32 v81 v82 j, k0_pay34 (k0_pay32 v81 v82) (k0_pay33 v81 v82) j) = _
  rw [r14, r13, r12, r11, r10, r9 v81 v82 a h]; rfl

/-- The kernel's bits at a position of a block are `draw` of the counter there plus the block's offset. -/
theorem drawBlk_apply (i : grid0.Coords) (s : Vec F S1024x1664 .i32) (j : S1024x1664.Idx) :
    drawBlk i s j = draw (k0_pay6 i s j) := by
  unfold drawBlk
  rw [key2_eq]
  have h1 : (k0_pay20 key (k0_pay10 i s) (k0_pay11 i s) j + key, k0_pay21 key (k0_pay10 i s) (k0_pay11 i s) j)
      = inj key 2#32 (four' (inj 12345#32 (key + 1#32) (four (0#32, k0_pay6 i s j)))) := by
    rw [r8, r7, r6, r5, r4, r3, r2, r1]; rfl
  have h2 := st2_apply (k0_pay21 key (k0_pay10 i s) (k0_pay11 i s)) (k0_pay22 key (k0_pay10 i s) (k0_pay11 i s))
    (addi (k0_pay20 key (k0_pay10 i s) (k0_pay11 i s)) (broadcast S1024x1664 key)) rfl j
  have h3 : (addi (k0_pay20 key (k0_pay10 i s) (k0_pay11 i s)) (broadcast S1024x1664 key) j, k0_pay21 key (k0_pay10 i s) (k0_pay11 i s) j)
      = inj key 2#32 (four' (inj 12345#32 (key + 1#32) (four (0#32, k0_pay6 i s j)))) := h1
  rw [h3] at h2
  unfold st1
  rw [key2_eq]
  rw [bits_apply _ _ j _ h2]
  rfl

end Cert.KernelIdeal.Val
-- ==== Proof.KRun.lean ====
/- The kernel's region over the whole grid: what its buffers hold after each point, and the three arrays it ends with. -/
module

public import proofs.«01_k».proof.Proof.KCases

@[expose] public section

set_option maxRecDepth 16384

noncomputable section

namespace Cert.KernelIdeal.Val

open Idealize.ShloMosaic Idealize.ShloMosaic.TcCoe Idealize.ShloMosaic.Tactic
open Idealize.ShloMosaic.Pipeline (Dat Cfg Window cellOf)
open Cert.KernelIdeal Cert.KernelIdeal.Gen

variable {F : FTy → Type} [FloatOps F]

variable (m : (ℓ : Loc nD τ sig) → Buf (Elt F) ℓ)

/-- The output block of point `t`, from the blocks it loads. -/
def outPt (c : Dev nD) (t : Fin cfg0.N) : Vec F S1024x768 .f32 :=
  outBlk (grid0.coords t) (iblk m c 0 t) (iblk m c 2 t) (iblk m c 3 t) (iblk m c 4 t) (iblk m c 5 t) (iblk m c 6 t) k0_pay3

/-- The masked squared differences of point `t`, from the blocks it loads. -/
def sqPt (c : Dev nD) (t : Fin cfg0.N) : Vec F S1024x768 .f32 :=
  sqBlk (grid0.coords t) (iblk m c 0 t) (iblk m c 1 t) (iblk m c 2 t) (iblk m c 3 t) (iblk m c 4 t) (iblk m c 5 t) (iblk m c 6 t) k0_pay3

/-- The column totals of the masked squares over the points up to `n`. -/
def sumTo (c : Dev nD) : (n : ℕ) → n < cfg0.N → Vec F S1x768 .f32
  | 0, h => k0_pay1 (sqPt m c ⟨0, h⟩) (k0_pay54 k0_pay52)
  | n + 1, h => k0_pay1 (sqPt m c ⟨n + 1, h⟩) (k0_pay54 (sumTo c n (Nat.lt_of_succ_lt h)))

/-- The column counts of the nonzero targets over the points up to `n`. -/
def cntTo (c : Dev nD) : (n : ℕ) → n < cfg0.N → Vec F S1x768 .f32
  | 0, h => k0_pay2 (F := F) (k0_pay50 (iblk m c 1 ⟨0, h⟩)) k0_pay53
  | n + 1, h => k0_pay2 (F := F) (k0_pay50 (iblk m c 1 ⟨n + 1, h⟩)) (cntTo c n (Nat.lt_of_succ_lt h))

/-- After point `n` the buffers hold the point's output block, the totals so far and, unchanged since the first point, the counters. -/
theorem outs_eq (c : Dev nD) : ∀ (n : ℕ) (h : n < cfg0.N),
    outsAt0 m c n h = (outPt m c ⟨n, h⟩, sumTo m c n h, cntTo m c n h, k0_pay3)
  | 0, h => by
    rw [outsAt0_A m c ⟨0, h⟩ rfl rfl, out_A, sum_A, cnt_A, sout_A]
    rfl
  | n + 1, h => by
    have hN : n + 1 < 8 := lt_of_lt_of_eq h (show cfg0.N = 8 from N_0)
    have hm : ¬ (n + 1) % 8 = 0 := by omega
    have ih := outs_eq c n (Nat.lt_of_succ_lt h)
    rw [outsAt0_B m c ⟨n + 1, h⟩ hm hm]
    simp only [out_B, sum_B, cnt_B]
    have ih' : outsAt0 m c ((⟨n + 1, h⟩ : Fin cfg0.N).val - 1) (Nat.lt_of_le_of_lt (Nat.sub_le _ _) h) = _ := ih
    rw [show (outsAt0 m c (n + 1 - 1) (Nat.lt_of_le_of_lt (Nat.sub_le _ _) h)) = _ from ih]
    rfl

/-- What a point writes back to the output array is its output block. -/
theorem flushed_out (c : Dev nD) (t : Fin cfg0.N) :
    (dats m 0 c).flushed 7 t = (cfg0.win 7).cut (grid0.coords t) (outPt m c t) := by
  show (cfg0.win 7).cut (grid0.coords t) ((dats m 0 c).after 7 t) = _
  rw [after0_7, outs_eq]

theorem flushed_sum (c : Dev nD) (t : Fin cfg0.N) :
    (dats m 0 c).flushed 8 t = (cfg0.win 8).cut (grid0.coords t) (sumTo m c t.val t.isLt) := by
  show (cfg0.win 8).cut (grid0.coords t) ((dats m 0 c).after 8 t) = _
  rw [after0_8, outs_eq]

theorem flushed_cnt (c : Dev nD) (t : Fin cfg0.N) :
    (dats m 0 c).flushed 9 t = (cfg0.win 9).cut (grid0.coords t) (cntTo m c t.val t.isLt) := by
  show (cfg0.win 9).cut (grid0.coords t) ((dats m 0 c).after 9 t) = _
  rw [after0_9, outs_eq]

/-- The output window moves down one block of rows per point. -/
theorem index_out : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem index_sum : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem index_cnt : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Entry `(1024 t + row, column)` of the final output array is entry `(row, column)` of point `t`'s output block. -/
theorem out_at (c : Dev nD) (t : Fin cfg0.N) (y : S1024x768.Idx) (i : S8192x768.Idx)
    (h0 : (i 0).val = t.val * 1024 + (y 0).val) (h1 : (i 1).val = (y 1).val) :
    (dats m 0 c).arrAt 7 cfg0.N i = outPt m c t y := by
  have hb := (dats m 0 c).read_blk_arrAt_eq_flushed 7
    (fun t t' _ _ hne => (cfg0.win 7).disjoint_blk fun h => hne (Fin.ext (by
      have e := congrFun h (0 : Fin 2)
      rw [show (cfg0.win 7).index t (0 : Fin 2) = t.val from (index_out t).1,
        show (cfg0.win 7).index t' (0 : Fin 2) = t'.val from (index_out t').1] at e
      exact e))) cfg0.N t t.isLt (flush0_7 t)
  rw [flushed_out] at hb
  have hy := congrFun hb y
  have he : ((cfg0.win 7).blk t).view.emb y = i := by
    have e := index_out t
    funext a; apply Fin.ext
    match a with
    | ⟨0, _⟩ => show win0_7.index t (0 : Fin 2) * 1024 + 1 * (y 0).val = (i 0).val; rw [e.1]; omega
    | ⟨1, _⟩ => show win0_7.index t (1 : Fin 2) * 768 + 1 * (y 1).val = (i 1).val; rw [e.2]; omega
  rw [← he]
  exact hy

/-- Only the last point writes the totals back, so no two points do. -/
theorem last_unique {p : Fin cfg0.N → Prop} (hp : ∀ t, p t → t.val % 8 = 7) (t t' : Fin cfg0.N) (h : p t) (h' : p t') : t = t' := by
  have hN : cfg0.N = 8 := N_0
  have := hp t h
  have := hp t' h'
  have := t.isLt
  have := t'.isLt
  exact Fin.ext (by omega)

/-- The final array of totals is the last point's. -/
theorem sum_at (c : Dev nD) (i : S1x768.Idx) :
    (dats m 0 c).arrAt 8 cfg0.N i = sumTo m c 7 (by rw [show cfg0.N = 8 from N_0]; decide) i := by
  have hb := (dats m 0 c).read_blk_arrAt_eq_flushed 8
    (fun t t' h h' hne => absurd (last_unique (fun t => (flush0_8 t).mp) t t' h h') hne) cfg0.N t0_7 t0_7.isLt ((flush0_8 t0_7).mpr rfl)
  rw [flushed_sum] at hb
  have hy := congrFun hb i
  have he : ((cfg0.win 8).blk t0_7).view.emb i = i := by
    have e := index_sum t0_7
    funext a; apply Fin.ext
    match a with
    | ⟨0, _⟩ => show win0_8.index t0_7 (0 : Fin 2) * 1 + 1 * (i 0).val = (i 0).val; rw [e.1]; omega
    | ⟨1, _⟩ => show win0_8.index t0_7 (1 : Fin 2) * 768 + 1 * (i 1).val = (i 1).val; rw [e.2]; omega
  exact (congrArg ((dats m 0 c).arrAt 8 cfg0.N) he).symm.trans hy

/-- The final array of counts is the last point's. -/
theorem cnt_at (c : Dev nD) (i : S1x768.Idx) :
    (dats m 0 c).arrAt 9 cfg0.N i = cntTo m c 7 (by rw [show cfg0.N = 8 from N_0]; decide) i := by
  have hb := (dats m 0 c).read_blk_arrAt_eq_flushed 9
    (fun t t' h h' hne => absurd (last_unique (fun t => (flush0_9 t).mp) t t' h h') hne) cfg0.N t0_7 t0_7.isLt ((flush0_9 t0_7).mpr rfl)
  rw [flushed_cnt] at hb
  have hy := congrFun hb i
  have he : ((cfg0.win 9).blk t0_7).view.emb i = i := by
    have e := index_cnt t0_7
    funext a; apply Fin.ext
    match a with
    | ⟨0, _⟩ => show win0_9.index t0_7 (0 : Fin 2) * 1 + 1 * (i 0).val = (i 0).val; rw [e.1]; omega
    | ⟨1, _⟩ => show win0_9.index t0_7 (1 : Fin 2) * 768 + 1 * (i 1).val = (i 1).val; rw [e.2]; omega
  exact (congrArg ((dats m 0 c).arrAt 9 cfg0.N) he).symm.trans hy

end Cert.KernelIdeal.Val

end
-- ==== Proof.KIn.lean ====
/- What the kernel's region reads: the arrays the host lines before it prepare, and each point's blocks of them. -/
module

public import proofs.«01_k».proof.Proof.KRun
public import Idealize.ShloMosaic.Lib.StableHlo.Run

@[expose] public section

set_option maxRecDepth 16384

noncomputable section

namespace Cert.KernelIdeal.Val

open Idealize.ShloMosaic Idealize.ShloMosaic.TcCoe Idealize.ShloMosaic.Tactic
open Idealize.ShloMosaic.Pipeline (Dat Cfg Window cellOf)
open Cert.KernelIdeal Cert.KernelIdeal.Gen

variable {F : FTy → Type} [FloatOps F]

variable (m : (ℓ : Loc nD τ sig) → Buf (Elt F) ℓ)

/-- The keep rate of each of the first 1664 hidden units: `exp (-(c / 430)² / 2)`. -/
def rate : FVec F S1664 .f32 :=
  Host.exp (mulf (broadcastInDim S1664 ![] bcast_S_S1664 (constant S_ .f32 0xBF000000#32))
    (mulf (Host.divf (sitofp .f32 (iotaInDim S1664 32 0)) (broadcastInDim S1664 ![] bcast_S_S1664 (constant S_ .f32 0x43D70000#32)))
      (Host.divf (sitofp .f32 (iotaInDim S1664 32 0)) (broadcastInDim S1664 ![] bcast_S_S1664 (constant S_ .f32 0x43D70000#32)))))

/-- The integer threshold of each of those units: the least integer at or above `rate · 2²³`. -/
def thr : IVec S1664 32 :=
  fptosi 32 (Host.ceil (mulf (rate (F := F)) (broadcastInDim S1664 ![] bcast_S_S1664 (constant S_ .f32 0x4B000000#32))))

theorem V_x (c : Dev nD) : V m c main_call0_v0 = shapeCast S8192x768 (m ((c : Thread nD τ).loc main_arg0)) shapeCasts_S4x2048x768_S8192x768 := by
  simp only [V, V0, hostOps0, List.flatten_cons, List.flatten_nil, List.append_nil]
  after_results
  rfl

theorem V_y (c : Dev nD) : V m c main_call0_v1 = shapeCast S8192x768 (m ((c : Thread nD τ).loc main_arg1)) shapeCasts_S4x2048x768_S8192x768 := by
  simp only [V, V0, hostOps0, List.flatten_cons, List.flatten_nil, List.append_nil]
  after_results
  rfl

theorem V_t (c : Dev nD) : V m c main_call0_v13 = shapeCast S1x1664 (thr (F := F)) shapeCasts_S1664_S1x1664 := by
  simp only [V, V0, hostOps0, List.flatten_cons, List.flatten_nil, List.append_nil]
  after_results
  rfl

theorem V_b1 (c : Dev nD) : V m c main_call0_v15 = shapeCast S1x1664 (extractStridedSlice S1664 ![0] (m ((c : Thread nD τ).loc main_arg3)) slices_S2048_S1664_0) shapeCasts_S1664_S1x1664 := by
  simp only [V, V0, hostOps0, List.flatten_cons, List.flatten_nil, List.append_nil]
  after_results
  rfl

theorem V_b2 (c : Dev nD) : V m c main_call0_v16 = shapeCast S1x768 (m ((c : Thread nD τ).loc main_arg5)) shapeCasts_S768_S1x768 := by
  simp only [V, V0, hostOps0, List.flatten_cons, List.flatten_nil, List.append_nil]
  after_results
  rfl

/-- Points 0 and 1's windows move down one block of rows per point; the others stay. -/
theorem index_in : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The first coordinate of point `t` is `t`. -/
theorem coord_eq : ∀ t : Fin cfg0.N, ((grid0.coords t) 0).val = t.val :=
  (by decide +kernel : ∀ t : Fin grid0.N, ((grid0.coords t) 0).val = t.val)

theorem blk_x (c : Dev nD) (t : Fin cfg0.N) (y : S1024x768.Idx) (i : S8192x768.Idx)
    (h0 : (i 0).val = t.val * 1024 + (y 0).val) (h1 : (i 1).val = (y 1).val) : iblk m c 0 t y = V m c main_call0_v0 i := by
  unfold iblk
  rw [View.read_apply]
  show V m c main_call0_v0 _ = _
  congr 1
  have e := (index_in t).1
  funext a; apply Fin.ext
  match a with
  | ⟨0, _⟩ => show win0_0.index t (0 : Fin 2) * 1024 + 1 * (y 0).val = (i 0).val; rw [e.1]; omega
  | ⟨1, _⟩ => show win0_0.index t (1 : Fin 2) * 768 + 1 * (y 1).val = (i 1).val; rw [e.2]; omega

theorem blk_y (c : Dev nD) (t : Fin cfg0.N) (y : S1024x768.Idx) (i : S8192x768.Idx)
    (h0 : (i 0).val = t.val * 1024 + (y 0).val) (h1 : (i 1).val = (y 1).val) : iblk m c 1 t y = V m c main_call0_v1 i := by
  unfold iblk
  rw [View.read_apply]
  show V m c main_call0_v1 _ = _
  congr 1
  have e := (index_in t).2.1
  funext a; apply Fin.ext
  match a with
  | ⟨0, _⟩ => show win0_1.index t (0 : Fin 2) * 1024 + 1 * (y 0).val = (i 0).val; rw [e.1]; omega
  | ⟨1, _⟩ => show win0_1.index t (1 : Fin 2) * 768 + 1 * (y 1).val = (i 1).val; rw [e.2]; omega

theorem blk_w1 (c : Dev nD) (t : Fin cfg0.N) : iblk m c 2 t = m ((c : Thread nD τ).loc main_arg2) := by
  rw [← V_main_arg2 m c]
  funext y
  unfold iblk
  rw [View.read_apply]
  show V m c main_arg2 _ = _
  congr 1
  have e := (index_in t).2.2.1
  funext a; apply Fin.ext
  match a with
  | ⟨0, _⟩ => show win0_2.index t (0 : Fin 2) * 768 + 1 * (y 0).val = (y 0).val; rw [e.1]; omega
  | ⟨1, _⟩ => show win0_2.index t (1 : Fin 2) * 2048 + 1 * (y 1).val = (y 1).val; rw [e.2]; omega

theorem blk_b1 (c : Dev nD) (t : Fin cfg0.N) : iblk m c 3 t = V m c main_call0_v15 := by
  funext y
  unfold iblk
  rw [View.read_apply]
  show V m c main_call0_v15 _ = _
  congr 1
  have e := (index_in t).2.2.2.1
  funext a; apply Fin.ext
  match a with
  | ⟨0, _⟩ => show win0_3.index t (0 : Fin 2) * 1 + 1 * (y 0).val = (y 0).val; rw [e.1]; omega
  | ⟨1, _⟩ => show win0_3.index t (1 : Fin 2) * 1664 + 1 * (y 1).val = (y 1).val; rw [e.2]; omega

theorem blk_w2 (c : Dev nD) (t : Fin cfg0.N) : iblk m c 4 t = m ((c : Thread nD τ).loc main_arg4) := by
  rw [← V_main_arg4 m c]
  funext y
  unfold iblk
  rw [View.read_apply]
  show V m c main_arg4 _ = _
  congr 1
  have e := (index_in t).2.2.2.2.1
  funext a; apply Fin.ext
  match a with
  | ⟨0, _⟩ => show win0_4.index t (0 : Fin 2) * 2048 + 1 * (y 0).val = (y 0).val; rw [e.1]; omega
  | ⟨1, _⟩ => show win0_4.index t (1 : Fin 2) * 768 + 1 * (y 1).val = (y 1).val; rw [e.2]; omega

theorem blk_b2 (c : Dev nD) (t : Fin cfg0.N) : iblk m c 5 t = V m c main_call0_v16 := by
  funext y
  unfold iblk
  rw [View.read_apply]
  show V m c main_call0_v16 _ = _
  congr 1
  have e := (index_in t).2.2.2.2.2.1
  funext a; apply Fin.ext
  match a with
  | ⟨0, _⟩ => show win0_5.index t (0 : Fin 2) * 1 + 1 * (y 0).val = (y 0).val; rw [e.1]; omega
  | ⟨1, _⟩ => show win0_5.index t (1 : Fin 2) * 768 + 1 * (y 1).val = (y 1).val; rw [e.2]; omega

theorem blk_t (c : Dev nD) (t : Fin cfg0.N) : iblk m c 6 t = V m c main_call0_v13 := by
  funext y
  unfold iblk
  rw [View.read_apply]
  show V m c main_call0_v13 _ = _
  congr 1
  have e := (index_in t).2.2.2.2.2.2
  funext a; apply Fin.ext
  match a with
  | ⟨0, _⟩ => show win0_6.index t (0 : Fin 2) * 1 + 1 * (y 0).val = (y 0).val; rw [e.1]; omega
  | ⟨1, _⟩ => show win0_6.index t (1 : Fin 2) * 1664 + 1 * (y 1).val = (y 1).val; rw [e.2]; omega

end Cert.KernelIdeal.Val

end
-- ==== Proof.Mask.lean ====
/- The mask in real numbers: comparing the drawn fraction `m / 2²³` with the keep rate is comparing the integer `m` with the rate's rounded-up threshold. -/
module

public import proofs.«01_k».proof.Proof.KBits
public import proofs.«01_k».proof.Proof.KIn
public import Idealize.ShloMosaic.Lib.IdealHost

@[expose] public section

set_option maxRecDepth 16384

noncomputable section

namespace Cert.Bits

open Idealize.ShloMosaic

/-- The drawn bits are fewer than `2²³`. -/
theorem draw_lt (n : BitVec 32) : (draw n).toNat < 2 ^ 23 := by
  unfold draw
  generalize (words n).1 ^^^ (words n).2 = w
  have := w.isLt
  simp only [BitVec.ushiftRight_eq', BitVec.toNat_ushiftRight, BitVec.toNat_ofNat, Nat.shiftRight_eq_div_pow, Nat.reducePow, Nat.reduceMod]
  omega

/-- The 23 bits under the exponent of one, as a number. -/
theorem or_one (m : BitVec 32) (h : m.toNat < 2 ^ 23) : (m ||| 1065353216#32).toNat = 1065353216 + m.toNat := by
  have e := Nat.two_pow_add_eq_or_of_lt (i := 23) h 127
  rw [BitVec.toNat_or, Nat.or_comm]
  rw [show (1065353216#32).toNat = 2 ^ 23 * 127 from rfl, ← e]

/-- That pattern denotes `1 + m / 2²³`. -/
theorem ofBits_or_one (m : BitVec 32) (h : m.toNat < 2 ^ 23) :
    Ideal.ofBits .f32 (m ||| 1065353216#32) = (((1 : ℝ) + m.toNat / 8388608 : ℝ) : EReal) := by
  have hn := or_one m h
  generalize m ||| 1065353216#32 = w at hn
  have h1 : w.extractLsb' (8 + 23) 1 = 0#1 := by
    apply BitVec.eq_of_toNat_eq
    rw [BitVec.extractLsb'_toNat, hn, Nat.shiftRight_eq_div_pow]
    show _ = 0
    omega
  have h2 : (w.extractLsb' 23 8).toNat = 127 := by
    rw [BitVec.extractLsb'_toNat, hn, Nat.shiftRight_eq_div_pow]; omega
  have h3 : (w.extractLsb' 0 23).toNat = m.toNat := by
    rw [BitVec.extractLsb'_toNat, hn, Nat.shiftRight_eq_div_pow]; omega
  simp only [Ideal.ofBits, Ideal.ieee]
  rw [h1, h2, h3, if_neg (by norm_num), if_neg (by norm_num)]
  congr 1
  rw [show (((127 : ℕ) : ℤ) - (2 ^ (8 - 1) - 1) - ((23 : ℕ) : ℤ)) = (-23 : ℤ) by norm_num]
  rw [if_neg (by decide)]
  push_cast
  rw [zpow_neg]
  norm_num
  ring

/-- The reference's uniform draw from the pattern: `m / 2²³`. -/
theorem uniform (m : BitVec 32) (h : m.toNat < 2 ^ 23) :
    max (Ideal.ofBits .f32 0x00000000#32)
        ((Ideal.ofBits .f32 (m ||| 1065353216#32) - Ideal.ofBits .f32 0x3F800000#32)
          * (Ideal.ofBits .f32 0x3F800000#32 - Ideal.ofBits .f32 0x00000000#32) + Ideal.ofBits .f32 0x00000000#32)
      = (((m.toNat : ℝ) / 8388608 : ℝ) : EReal) := by
  rw [ofBits_or_one m h, Ideal.ofBits_one_f32, Ideal.ofBits_zero_f32]
  rw [sub_zero, mul_one, add_zero, ← EReal.coe_one, ← EReal.coe_sub, add_sub_cancel_left]
  exact max_eq_right (EReal.coe_nonneg.2 (by positivity))

/-- The keep rate of unit `k`. -/
def rho (k : ℕ) : ℝ := Real.exp (-(1 / 2) * ((k / 430) * (k / 430)))

theorem rho_pos (k : ℕ) : 0 < rho k := Real.exp_pos _

theorem rho_le (k : ℕ) : rho k ≤ 1 := by
  unfold rho
  rw [Real.exp_le_one_iff]
  have := mul_self_nonneg ((k : ℝ) / 430)
  linarith

theorem ofBits_430 : Ideal.ofBits .f32 0x43D70000#32 = ((430 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_two23 : Ideal.ofBits .f32 0x4B000000#32 = ((8388608 : ℝ) : EReal) := by
  simp [Ideal.ofBits, Ideal.ieee, -EReal.coe_mul]

/-- Both programs' rate expression is `rho`. -/
theorem rate_val (k : ℕ) (h : k < 2048) :
    Ideal.exp (Ideal.ofBits .f32 0xBF000000#32 * (Ideal.div ((((BitVec.ofNat 32 k).toInt : ℝ)) : EReal) (Ideal.ofBits .f32 0x43D70000#32)
      * Ideal.div ((((BitVec.ofNat 32 k).toInt : ℝ)) : EReal) (Ideal.ofBits .f32 0x43D70000#32))) = ((rho k : ℝ) : EReal) := by
  have e : (BitVec.ofNat 32 k).toInt = k := by
    rw [BitVec.toInt_eq_toNat_of_lt (by rw [BitVec.toNat_ofNat]; omega), BitVec.toNat_ofNat, Nat.mod_eq_of_lt (by omega)]
  rw [e, ofBits_430, ofBits_neg_half, Ideal.div_coe (by norm_num), ← EReal.coe_mul, ← EReal.coe_mul, ← EReal.coe_mul]
  show ((Real.exp _ : ℝ) : EReal) = _
  unfold rho
  congr 2
  push_cast
  ring

/-- The threshold word of a rate `r` in `[0, 1]`. -/
theorem threshold (r : ℝ) (h0 : 0 ≤ r) (h1 : r ≤ 1) :
    Ideal.fptosi 32 (Ideal.liftRound Int.ceil ((r : EReal) * Ideal.ofBits .f32 0x4B000000#32)) = BitVec.ofInt 32 ⌈r * 8388608⌉
      ∧ 0 ≤ ⌈r * 8388608⌉ ∧ ⌈r * 8388608⌉ ≤ 8388608 := by
  have hlo : 0 ≤ ⌈r * 8388608⌉ := Int.ceil_nonneg (by positivity)
  have hhi : ⌈r * 8388608⌉ ≤ 8388608 := Int.ceil_le.2 (by push_cast; linarith)
  refine ⟨?_, hlo, hhi⟩
  rw [ofBits_two23, ← EReal.coe_mul, Ideal.liftRound_coe, Ideal.fptosi, Ideal.toIntClamped_coe,
    if_pos (by exact_mod_cast hlo), Int.floor_intCast]
  congr 1
  rw [min_eq_right (by norm_num; omega), max_eq_right (by norm_num; omega)]

/-- The two comparisons agree. -/
theorem mask_eq (m : BitVec 32) (h : m.toNat < 2 ^ 23) (r : ℝ) (h0 : 0 ≤ r) (h1 : r ≤ 1) :
    IntOp.cmpi .slt m (Ideal.fptosi 32 (Ideal.liftRound Int.ceil ((r : EReal) * Ideal.ofBits .f32 0x4B000000#32)))
      = Ideal.cmp .olt (((m.toNat : ℝ) / 8388608 : ℝ) : EReal) (r : EReal) := by
  obtain ⟨e, hlo, hhi⟩ := threshold r h0 h1
  rw [e]
  unfold IntOp.cmpi Ideal.cmp
  dsimp only
  congr 1
  rw [BitVec.slt_eq_decide]
  apply decide_eq_decide.2
  rw [BitVec.toInt_ofInt, Int.bmod_eq_of_le (by omega) (by omega), BitVec.toInt_eq_toNat_of_lt (by omega),
    Int.lt_ceil, EReal.coe_lt_coe_iff, div_lt_iff₀ (by norm_num)]
  push_cast
  rfl

end Cert.Bits
-- ==== Proof.Elem.lean ====
/- One element of the output: the kernel's sum over the kept 1664 hidden units and the reference's over all 2048. -/
module

public import proofs.«01_k».proof.Proof.Mask
public import Idealize.ShloMosaic.Lib.MatmulPlain

@[expose] public section

set_option maxRecDepth 16384

noncomputable section

namespace Cert.KernelIdeal.Val

open Idealize.ShloMosaic Idealize.ShloMosaic.ValueIdx Idealize.ShloMosaic.TcCoe
open Cert.KernelIdeal Cert.KernelIdeal.Gen Cert.Bits Cert.ReferenceIdeal.Read

variable (m : (ℓ : Loc nD τ sig) → Buf (Elt Ideal) ℓ)

/-- The number of a position of the mask, as both programs count it, plus 12345. -/
def number (R K : ℕ) : BitVec 32 := BitVec.ofNat 32 (R * 2048 + K) + 12345#32

/-- Whether the unit `K` of row `R` is kept. -/
def keep (R K : ℕ) : BitVec 1 := Ideal.cmp .olt ((((draw (number R K)).toNat : ℝ) / 8388608 : ℝ) : EReal) ((rho K : ℝ) : EReal)

/-- The reference's uniform draw at a position. -/
theorem ref_uniform (i : Cert.ReferenceIdeal.S8192x2048.Idx) :
    val_main_call0_v0 (F := Ideal) i = ((((draw (number (i 0).val (i 1).val)).toNat : ℝ) / 8388608 : ℝ) : EReal) := by
  rw [← uniform _ (draw_lt _)]
  rw [val_main_call0_v0_apply, val_main_call0_call0_v33_apply, val_main_call0_call0_v32_apply, val_main_call0_call0_v30_apply,
    val_main_call0_call0_v31_apply, val_main_call0_call0_v27_apply, val_main_call0_call0_v29_apply, val_main_call0_call0_v28_apply,
    val_main_call0_call0_v25_apply, val_main_call0_call0_v26_apply, val_main_call0_call0_v24_apply, draw_eq, val_main_call0_call0_v23_apply,
    val_main_call0_call0_v2_apply, val_main_call0_call0_v3_apply]
  rfl

/-- The reference's keep rate. -/
theorem ref_rate (j : Cert.ReferenceIdeal.S2048.Idx) : val_main_v12 (F := Ideal) j = ((rho (j 0).val : ℝ) : EReal) := by
  rw [← rate_val _ (j 0).isLt]
  rw [val_main_v12_apply, val_main_v11_apply, val_main_v10_apply, val_main_v9_apply, val_main_v8_apply, val_main_v7_apply]
  rfl

/-- The reference's mask. -/
theorem ref_mask (i : Cert.ReferenceIdeal.S8192x2048.Idx) : val_main_v21 (F := Ideal) i = keep (i 0).val (i 1).val := by
  rw [val_main_v21_apply, ref_uniform, val_main_call0_v1_apply, val_main_v20_apply, ref_rate]
  rfl

/-- The kernel's keep rate. -/
theorem ker_rate (j : S1664.Idx) : rate (F := Ideal) j = ((rho (j 0).val : ℝ) : EReal) := by
  have h : (j 0).val < 1664 := (j 0).isLt
  rw [← rate_val _ (by omega)]
  rfl

/-- The kernel's threshold. -/
theorem ker_thr (j : S1664.Idx) :
    thr (F := Ideal) j = Ideal.fptosi 32 (Ideal.liftRound Int.ceil (((rho (j 0).val : ℝ) : EReal) * Ideal.ofBits .f32 0x4B000000#32)) := by
  rw [← ker_rate]
  rfl

/-- The block's offset added to a counter. -/
theorem pay6_apply (i : grid0.Coords) (s : Vec Ideal S1024x1664 .i32) (j : S1024x1664.Idx) :
    k0_pay6 i s j = s j + BitVec.ofNat 32 (i 0).val * 2097152#32 := rfl

/-- The counters built from the two index vectors. -/
theorem counts_apply (a b : IVec S1024x1664 32) (j : S1024x1664.Idx) :
    addi (addi (muli a (broadcast S1024x1664 2048#32)) b) (broadcast S1024x1664 12345#32) j = a j * 2048#32 + b j + 12345#32 := rfl

/-- The counter scratch at a position. -/
theorem pay3_apply (r : Fin 1024) (k : Fin 1664) :
    k0_pay3 (ix2 r k) = BitVec.ofNat 32 r.val * 2048#32 + BitVec.ofNat 32 k.val + 12345#32 := by
  unfold k0_pay3
  dsimp only
  rw [shapeCast_apply _ shapeCasts_S1024x1664_S1024x1664 (ix2 r k) (ix2 r k) rfl, counts_apply, iota_single_apply, iota_single_apply]

theorem add_last (a b c : BitVec 32) : a + b + c = a + c + b := by
  rw [BitVec.add_assoc, BitVec.add_comm b c, ← BitVec.add_assoc]

/-- A row's number split into its block's and its own part. -/
theorem number_split (n r k : ℕ) :
    BitVec.ofNat 32 r * 2048#32 + BitVec.ofNat 32 k + 12345#32 + BitVec.ofNat 32 n * 2097152#32 = number (n * 1024 + r) k := by
  unfold number
  rw [show (n * 1024 + r) * 2048 + k = r * 2048 + k + n * 2097152 by ring,
    BitVec.ofNat_add, BitVec.ofNat_add, BitVec.ofNat_mul, BitVec.ofNat_mul]
  exact add_last _ _ _

/-- The counter at a position of a block. -/
theorem counter (t : Fin cfg0.N) (r : Fin 1024) (k : Fin 1664) :
    k0_pay6 (F := Ideal) (grid0.coords t) k0_pay3 (ix2 r k) = number (t.val * 1024 + r.val) k.val := by
  rw [pay6_apply, pay3_apply, coord_eq]
  exact number_split _ _ _

/-- The threshold block at a unit. -/
theorem thr_blk (c : Dev nD) (t : Fin cfg0.N) (k : Fin 1664) :
    iblk m c 6 t (ix2 (0 : Fin 1) k) = thr (F := Ideal) (ix1 k) := by
  rw [blk_t, V_t]
  exact shapeCast_apply _ shapeCasts_S1664_S1x1664 _ _ (by
    rw [Shape.rowMajor_val_one, Shape.rowMajor_val_two]; show k.val = 0 * 1664 + k.val; omega)

/-- The kernel's mask at a position of a block. -/
theorem ker_mask (c : Dev nD) (t : Fin cfg0.N) (r : Fin 1024) (k : Fin 1664) :
    IntOp.cmpi .slt (drawBlk (F := Ideal) (grid0.coords t) k0_pay3 (ix2 r k)) (iblk m c 6 t (ix2 (0 : Fin 1) k))
      = keep (t.val * 1024 + r.val) k.val := by
  rw [drawBlk_apply, counter, thr_blk, ker_thr]
  exact mask_eq _ (draw_lt _) _ (rho_pos _).le (rho_le _)

end Cert.KernelIdeal.Val
-- ==== Proof.Out.lean ====
/- The output block of the kernel, element by element, against the reference's output. -/
module

public import proofs.«01_k».proof.Proof.Elem
public import Idealize.ShloMosaic.Lib.Pipeline.ValueKit.Tiles

@[expose] public section

set_option maxRecDepth 16384

noncomputable section

namespace Cert.KernelIdeal.Val

open Idealize.ShloMosaic Idealize.ShloMosaic.ValueIdx Idealize.ShloMosaic.TcCoe
open Cert.KernelIdeal Cert.KernelIdeal.Gen Cert.Bits Cert.ReferenceIdeal.Read

variable (m : (ℓ : Loc nD τ sig) → Buf (Elt Ideal) ℓ)

/-- The six arguments on one device. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-- The row of the whole array that row `r` of block `t` is. -/
def row (t : Fin cfg0.N) (r : Fin 1024) : Fin 8192 := ⟨t.val * 1024 + r.val, by have := lt_of_lt_of_eq t.isLt N_0; omega⟩

/-- A kept unit among all units. -/
abbrev unit (k : Fin 1664) : Fin 2048 := Fin.castLE (by decide) k

/-- A row of the block of `x` is the reference's row. -/
theorem x_at (c : Dev nD) (t : Fin cfg0.N) (r : Fin 1024) (q : Fin 768) :
    iblk m c 0 t (ix2 r q) = val_main_v0 (F := Ideal) (a0 m c) (ix2 (row t r) q) := by
  rw [blk_x m c t (ix2 r q) (ix2 (row t r) q) rfl rfl, V_x]
  rfl

/-- A row of the block of `y` is the reference's row. -/
theorem y_at (c : Dev nD) (t : Fin cfg0.N) (r : Fin 1024) (q : Fin 768) :
    iblk m c 1 t (ix2 r q) = val_main_v1 (F := Ideal) (a1 m c) (ix2 (row t r) q) := by
  rw [blk_y m c t (ix2 r q) (ix2 (row t r) q) rfl rfl, V_y]
  rfl

/-- The kept columns of the first weights. -/
theorem w1_at (x2 : Vec Ideal S768x2048 .f32) (q : Fin 768) (k : Fin 1664) : w1c x2 (ix2 q k) = x2 (ix2 q (unit k)) := by
  unfold w1c
  rw [View.ld_apply]
  exact congrArg x2 (funext fun a => Fin.ext (by
    match a with
    | ⟨0, _⟩ => rw [Rect.idx_unit_val]; show 0 + q.val = q.val; omega
    | ⟨1, _⟩ => rw [Rect.idx_unit_val]; show 0 + k.val = k.val; omega))

/-- The kept rows of the second weights. -/
theorem w2_at (x4 : Vec Ideal S2048x768 .f32) (k : Fin 1664) (q : Fin 768) : w2c x4 (ix2 k q) = x4 (ix2 (unit k) q) := by
  unfold w2c
  rw [View.ld_apply]
  exact congrArg x4 (funext fun a => Fin.ext (by
    match a with
    | ⟨0, _⟩ => rw [Rect.idx_unit_val]; show 0 + k.val = k.val; omega
    | ⟨1, _⟩ => rw [Rect.idx_unit_val]; show 0 + q.val = q.val; omega))

/-- The kept entries of the first bias. -/
theorem b1_at (c : Dev nD) (t : Fin cfg0.N) (k : Fin 1664) : iblk m c 3 t (ix2 (0 : Fin 1) k) = a3 m c (ix1 (unit k)) := by
  rw [blk_b1, V_b1]
  rw [shapeCast_apply _ shapeCasts_S1664_S1x1664 (ix2 (0 : Fin 1) k) (ix1 k) (by
    rw [Shape.rowMajor_val_one, Shape.rowMajor_val_two]; show k.val = 0 * 1664 + k.val; omega)]
  exact extractStridedSlice_apply ![0] _ slices_S2048_S1664_0 (ix1 k) (ix1 (unit k)) (fun a => match a with
    | ⟨0, _⟩ => by show k.val = 0 + k.val; omega)

/-- The second bias. -/
theorem b2_at (c : Dev nD) (t : Fin cfg0.N) (q : Fin 768) : iblk m c 5 t (ix2 (0 : Fin 1) q) = a5 m c (ix1 q) := by
  rw [blk_b2, V_b2]
  exact shapeCast_apply _ shapeCasts_S768_S1x768 (ix2 (0 : Fin 1) q) (ix1 q) (by
    rw [Shape.rowMajor_val_one, Shape.rowMajor_val_two]; show q.val = 0 * 768 + q.val; omega)

/-- A row vector broadcast over the rows of a block. -/
theorem row_bcast {α : Type} {M N : ℕ} (x : (⟨2, ![1, N]⟩ : Shape).Idx → α) (h : (⟨2, ![1, N]⟩ : Shape).Broadcasts ⟨2, ![M, N]⟩) (hN : N ≠ 1)
    (r : Fin M) (k : Fin N) : broadcastTo (⟨2, ![M, N]⟩ : Shape) x h (ix2 r k) = x (ix2 (0 : Fin 1) k) :=
  broadcastTo_apply x h (ix2 r k) (ix2 (0 : Fin 1) k) (fun a => match a with
    | ⟨0, _⟩ => (if_pos rfl).symm
    | ⟨1, _⟩ => (if_neg hN).symm)

/-- A hidden unit before masking, at a row of a block, as sums over the block's arrays. -/
theorem pay5_apply (x : Vec Ideal S1024x768 .f32) (w : Vec Ideal S768x1664 .f32) (b : Vec Ideal S1x1664 .f32) (r : Fin 1024) (k : Fin 1664) :
    k0_pay5 x w b (ix2 r k) = (∑ q : Fin 768, x (ix2 r q) * w (ix2 q k)) + b (ix2 (0 : Fin 1) k) := by
  have e1 : k0_pay4 (F := Ideal) x = x := funext fun j => shapeCast_apply x shapeCasts_S1024x768_S1024x768 j j rfl
  have e2 : shapeCast S1x1664 b shapeCasts_S1x1664_S1x1664 = b := funext fun j => shapeCast_apply b shapeCasts_S1x1664_S1x1664 j j rfl
  unfold k0_pay5
  rw [e1, e2]
  refine congrArg₂ (· + ·) ?_ (row_bcast b broadcasts_S1x1664_S1024x1664 (by decide) r k)
  refine (Ideal.matmul_plain_apply (M := 1024) (K := 768) (N := 1664) (φ₁ := .f32) (φ₂ := .f32) none x w (constant S1024x1664 .f32 0x00000000#32) r k).trans ?_
  show Ideal.ofBits .f32 0x00000000#32 + _ = _
  rw [Ideal.ofBits_zero_f32, zero_add]

/-- A kept hidden unit is the reference's. -/
theorem hid_eq (c : Dev nD) (t : Fin cfg0.N) (r : Fin 1024) (k : Fin 1664) :
    k0_pay5 (iblk m c 0 t) (w1c (iblk m c 2 t)) (iblk m c 3 t) (ix2 r k)
      = val_main_v5 (F := Ideal) (a0 m c) (a2 m c) (a3 m c) (ix2 (row t r) (unit k)) := by
  rw [pay5_apply, val_main_v5_apply, val_main_v2_apply, val_main_v4_apply, val_main_v3_apply, b1_at]
  refine congrArg₂ (· + ·) (Finset.sum_congr rfl fun q _ => ?_) (congrArg (a3 m c) (funext fun a => match a with | ⟨0, _⟩ => rfl))
  rw [x_at, w1_at, blk_w1]
  exact congrArg₂ (· * ·) (congrArg _ (funext fun a => match a with | ⟨0, _⟩ => rfl | ⟨1, _⟩ => rfl))
    (congrArg _ (funext fun a => match a with | ⟨0, _⟩ => rfl | ⟨1, _⟩ => rfl))

/-- The output block as a masked product. -/
theorem pay48_apply (x : FVec Ideal S1024x768 .f32) (h : FVec Ideal S1024x1664 .f32) (v16 : BitVec 32) (p q s : IVec S1024x1664 32)
    (th : Vec Ideal S1x1664 .i32) (w : Vec Ideal S1664x768 .f32) (b : Vec Ideal S1x768 .f32) (r : Fin 1024) (o : Fin 768) :
    k0_pay48 x h v16 p q s th w b (ix2 r o)
      = (∑ k : Fin 1664, (if IntOp.cmpi .slt (bits v16 p q s (ix2 r k)) (th (ix2 (0 : Fin 1) k)) = 1 then h (ix2 r k) else 0) * w (ix2 k o))
        + b (ix2 (0 : Fin 1) o) + x (ix2 r o) := by
  have e1 : shapeCast S1x768 b shapeCasts_S1x768_S1x768 = b := funext fun j => shapeCast_apply b shapeCasts_S1x768_S1x768 j j rfl
  have e2 : shapeCast S1x1664 th shapeCasts_S1x1664_S1x1664 = th := funext fun j => shapeCast_apply th shapeCasts_S1x1664_S1x1664 j j rfl
  unfold k0_pay48
  rw [e1, e2]
  refine congrArg (· + x (ix2 r o)) ?_
  refine congrArg₂ (· + ·) ?_ (row_bcast b broadcasts_S1x768_S1024x768 (by decide) r o)
  refine (Ideal.matmul_plain_apply (M := 1024) (K := 1664) (N := 768) (φ₁ := .f32) (φ₂ := .f32) none _ w (constant S1024x768 .f32 0x00000000#32) r o).trans ?_
  show Ideal.ofBits .f32 0x00000000#32 + _ = _
  rw [Ideal.ofBits_zero_f32, zero_add]
  refine Finset.sum_congr rfl fun k _ => congrArg (· * w (ix2 k o)) ?_
  show (if IntOp.cmpi .slt (bits v16 p q s (ix2 r k)) (broadcastTo S1024x1664 th broadcasts_S1x1664_S1024x1664 (ix2 r k)) = 1 then h (ix2 r k) else Ideal.ofBits .f32 0x00000000#32) = _
  rw [Ideal.ofBits_zero_f32, row_bcast th broadcasts_S1x1664_S1024x1664 (by decide) r k]

end Cert.KernelIdeal.Val
-- ==== Proof.OutEq.lean ====
/- The output of the kernel is the reference's when the dropped rows of the second weights are zero. -/
module

public import proofs.«01_k».proof.Proof.Out

@[expose] public section

set_option maxRecDepth 16384

noncomputable section

namespace Cert.KernelIdeal.Val

open Idealize.ShloMosaic Idealize.ShloMosaic.ValueIdx Idealize.ShloMosaic.TcCoe
open Cert.KernelIdeal Cert.KernelIdeal.Gen Cert.Bits Cert.ReferenceIdeal.Read

variable (m : (ℓ : Loc nD τ sig) → Buf (Elt Ideal) ℓ)

/-- One bit is zero or one. -/
theorem bit_cases (b : BitVec 1) : b = 0#1 ∨ b = 1#1 := by
  revert b; decide

/-- Choosing by a bit is multiplying by it. -/
theorem choose_mul (b : BitVec 1) (x : EReal) : (if b = 1 then x else 0) = x * (FloatOps.uitofp (F := Ideal) (w := 1) .f32 b : EReal) := by
  rcases bit_cases b with h | h
  · subst h
    show (0 : EReal) = x * (((0#1).toNat : ℝ) : EReal)
    simp
  · subst h
    show x = x * (((1#1).toNat : ℝ) : EReal)
    simp

/-- A sum over all units whose dropped terms are zero is the sum over the kept ones. -/
theorem sum_kept (f : Fin 2048 → EReal) (h : ∀ k : Fin 2048, 1664 ≤ k.val → f k = 0) : ∑ k : Fin 2048, f k = ∑ k : Fin 1664, f (unit k) := by
  refine (Fin.sum_univ_add (a := 1664) (b := 384) f).trans ?_
  have e : ∑ k : Fin 384, f (Fin.natAdd 1664 k) = 0 := Finset.sum_eq_zero fun k _ => h _ (Nat.le_add_right 1664 k.val)
  exact (congrArg (_ + ·) e).trans (add_zero _)

/-- The dropped rows of the second weights are zero. -/
def Dropped (c : Dev nD) : Prop := ∀ k : Fin 2048, 1664 ≤ k.val → ∀ o : Fin 768, a4 m c (ix2 k o) = (0 : EReal)

/-- The reference's output at one element, with the dropped terms left out. -/
theorem ref_out (c : Dev nD) (hw : Dropped m c) (R : Fin 8192) (o : Fin 768) :
    val_main_v28 (F := Ideal) (a0 m c) (a2 m c) (a3 m c) (a4 m c) (a5 m c) (ix2 R o)
      = (∑ k : Fin 1664, (val_main_v5 (F := Ideal) (a0 m c) (a2 m c) (a3 m c) (ix2 R (unit k))
            * (FloatOps.uitofp (F := Ideal) (w := 1) .f32 (keep R.val k.val) : EReal)) * a4 m c (ix2 (unit k) o))
        + a5 m c (ix1 o) + val_main_v0 (F := Ideal) (a0 m c) (ix2 R o) := by
  rw [val_main_v28_apply, val_main_v27_apply, val_main_v24_apply, val_main_v26_apply, val_main_v25_apply]
  refine congrArg (· + val_main_v0 (F := Ideal) (a0 m c) (ix2 R o)) ?_
  refine congrArg₂ (· + ·) ?_ (congrArg (a5 m c) (funext fun a => match a with | ⟨0, _⟩ => rfl))
  have el : ∀ k : Fin 2048, lidx_main_v24 (ix2 R o) k = ix2 R k := fun k => funext fun a => match a with | ⟨0, _⟩ => rfl | ⟨1, _⟩ => rfl
  have er : ∀ k : Fin 2048, ridx_main_v24 (ix2 R o) k = ix2 k o := fun k => funext fun a => match a with | ⟨0, _⟩ => rfl | ⟨1, _⟩ => rfl
  refine (sum_kept _ fun k hk => ?_).trans (Finset.sum_congr rfl fun k _ => ?_)
  · rw [er, hw k hk o]
    exact mul_zero _
  · rw [el, er, val_main_v23_apply, val_main_v22_apply, ref_mask]
    rfl

/-- The block of `x` is used as loaded. -/
theorem pay4_eq (x : Vec Ideal S1024x768 .f32) : k0_pay4 (F := Ideal) x = x :=
  funext fun j => shapeCast_apply x shapeCasts_S1024x768_S1024x768 j j rfl

/-- The kernel's output block at one element. -/
theorem ker_out (c : Dev nD) (t : Fin cfg0.N) (r : Fin 1024) (o : Fin 768) :
    outPt m c t (ix2 r o)
      = (∑ k : Fin 1664, (val_main_v5 (F := Ideal) (a0 m c) (a2 m c) (a3 m c) (ix2 (row t r) (unit k))
            * (FloatOps.uitofp (F := Ideal) (w := 1) .f32 (keep (row t r).val k.val) : EReal)) * a4 m c (ix2 (unit k) o))
        + a5 m c (ix1 o) + val_main_v0 (F := Ideal) (a0 m c) (ix2 (row t r) o) := by
  unfold outPt outBlk
  rw [pay48_apply, pay4_eq, x_at, b2_at]
  refine congrArg (fun u : EReal => u + a5 m c (ix1 o) + val_main_v0 (F := Ideal) (a0 m c) (ix2 (row t r) o)) (Finset.sum_congr rfl fun k _ => ?_)
  rw [w2_at, blk_w2, hid_eq]
  have e := ker_mask m c t r k
  unfold drawBlk at e
  rw [e]
  exact congrArg (fun u : EReal => u * a4 m c (ix2 (unit k) o)) (choose_mul _ _)

/-- The output block is the reference's rows. -/
theorem out_eq (c : Dev nD) (hw : Dropped m c) (t : Fin cfg0.N) (r : Fin 1024) (o : Fin 768) :
    outPt m c t (ix2 r o) = val_main_v28 (F := Ideal) (a0 m c) (a2 m c) (a3 m c) (a4 m c) (a5 m c) (ix2 (row t r) o) := by
  rw [ker_out, ref_out m c hw]

/-- The output array is the reference's. -/
theorem out_array (c : Dev nD) (hw : Dropped m c) :
    (dats m 0 c).arrAt 7 cfg0.N = val_main_v28 (F := Ideal) (a0 m c) (a2 m c) (a3 m c) (a4 m c) (a5 m c) := by
  funext i
  obtain ⟨R, o, rfl⟩ : ∃ (R : Fin 8192) (o : Fin 768), i = ix2 R o := ⟨i 0, i 1, eq_ix2 i⟩
  have hR := R.isLt
  have ht : R.val / 1024 < cfg0.N := lt_of_lt_of_eq (show R.val / 1024 < 8 by omega) N_0.symm
  rw [out_at m c ⟨R.val / 1024, ht⟩ (ix2 (⟨R.val % 1024, by omega⟩ : Fin 1024) o) (ix2 R o)
    (by show R.val = R.val / 1024 * 1024 + R.val % 1024; omega) rfl, out_eq m c hw]
  exact congrArg (val_main_v28 (F := Ideal) (a0 m c) (a2 m c) (a3 m c) (a4 m c) (a5 m c))
    (congrArg (fun q => ix2 q o) (Fin.ext (by show R.val / 1024 * 1024 + R.val % 1024 = R.val; omega)))

end Cert.KernelIdeal.Val
-- ==== Proof.KPost.lean ====
/- The kernel program's run: what its two results hold at every final state, in terms of the region's final arrays. -/
module

public import proofs.«01_k».proof.Proof.KIn

@[expose] public section

set_option maxRecDepth 16384

noncomputable section

namespace Cert.KernelIdeal.Val

open Idealize.ShloMosaic Idealize.ShloMosaic.TcCoe Idealize.ShloMosaic.Tactic
open Idealize.ShloMosaic.Pipeline (Dat Cfg Window cellOf)
open Cert.KernelIdeal Cert.KernelIdeal.Gen

variable {F : FTy → Type} [FloatOps F]

variable (m : (ℓ : Loc nD τ sig) → Buf (Elt F) ℓ) (ρ : Dev nD → PrngReg)

/-- The loss of the kernel program: the sum of the totals over the sum of the counts. -/
def lossK (s n : Vec F S1x768 .f32) : Vec F S_ .f32 :=
  Host.divf (Host.reduceAdd s (constant S_ .f32 0x00000000#32) reducesTo_S1x768_S_d0_1 h_S_)
    (Host.reduceAdd n (constant S_ .f32 0x00000000#32) reducesTo_S1x768_S_d0_1 h_S_)

/-- The windows' arrays are distinct. -/
theorem arr_inj0 : Function.Injective (Pipeline.arrRef spec0) := by decide +kernel

theorem tail_loss (c : Dev nD) :
    Pipeline.afterTail₀ cfgs (dats m) 0 (V0 m) [hostOps1] c main_v0_0
      = lossK (sumTo m c 7 (by rw [show cfg0.N = 8 from N_0]; decide)) (cntTo m c 7 (by rw [show cfg0.N = 8 from N_0]; decide)) := by
  have hs : (dats m 0 c).arrAt 8 cfg0.N = sumTo m c 7 (by rw [show cfg0.N = 8 from N_0]; decide) := funext (sum_at m c)
  have hn : (dats m 0 c).arrAt 9 cfg0.N = cntTo m c 7 (by rw [show cfg0.N = 8 from N_0]; decide) := funext (cnt_at m c)
  have h8 := Pipeline.withArrays_arr spec0 arr_inj0 c (V0 m c) (fun w => (dats m 0 c).arrAt w cfg0.N) 8
  have h9 := Pipeline.withArrays_arr spec0 arr_inj0 c (V0 m c) (fun w => (dats m 0 c).arrAt w cfg0.N) 9
  unfold Pipeline.afterTail₀
  simp only [hostOps1, List.flatten_cons, List.flatten_nil, List.append_nil]
  after_results
  exact congrArg₂ (lossK (F := F)) (h8.trans hs) (h9.trans hn)

/-- Every execution of the kernel program terminates with its loss, its output array and its arguments as stated. -/
theorem run_K : θ_run defs (onTc (τ := τ) (main (F := F))) ⟨m, fun _ => 0, ρ⟩ fun r => ∀ c : Dev nD,
      r.2.mem ((c : Thread nD τ).loc main_v0_0) = lossK (sumTo m c 7 (by rw [show cfg0.N = 8 from N_0]; decide)) (cntTo m c 7 (by rw [show cfg0.N = 8 from N_0]; decide))
      ∧ r.2.mem ((c : Thread nD τ).loc main_v0_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have h1 := run_main m ρ
  have h2 := unchanged m ρ
  refine (θ_run defs _ _).mono (fun r h c => ⟨?_, ?_, h.2 c⟩) (θ_run_and h1 h2)
  · exact ((h.1 c).2 main_v0_0 (Pipeline.mem_restRefs_of main_v0_0 (by decide) (by decide))).trans (tail_loss m c)
  · exact (h.1 c).1 7

end Cert.KernelIdeal.Val

end
-- ==== Proof.Loss.lean ====
/- The masked squares and the counts of the kernel, summed, against the reference's loss. -/
module

public import proofs.«01_k».proof.Proof.OutEq
public import proofs.«01_k».proof.Proof.KPost

@[expose] public section

set_option maxRecDepth 16384

noncomputable section

namespace Cert.KernelIdeal.Val

open Idealize.ShloMosaic Idealize.ShloMosaic.ValueIdx Idealize.ShloMosaic.TcCoe
open Cert.KernelIdeal Cert.KernelIdeal.Gen Cert.Bits Cert.ReferenceIdeal.Read

variable (m : (ℓ : Loc nD τ sig) → Buf (Elt Ideal) ℓ)

/-- Summing away the rows. -/
theorem col_red {M N : ℕ} (v : FVec Ideal ⟨2, ![M, N]⟩ .f32) (h : Shape.Reduces ⟨2, ![M, N]⟩ [0] ⟨1, ![N]⟩) (hφ : FKind.Formats .f32)
    (hacc : (0x00000000#32 : BitVec 32) = FKind.add.neutral .f32 hφ) (o : Fin N) :
    multiReduction (F := Ideal) .add [0] ⟨1, ![N]⟩ v 0x00000000#32 h hφ hacc (ix1 o) = (∑ r : Fin M, v (ix2 r o) : EReal) := by
  refine (Ideal.multiReduction_add_single v _ h hφ hacc (ix1 o)).trans ?_
  refine Finset.sum_congr rfl fun k _ => congrArg v (funext fun a => Fin.ext ?_)
  match a with
  | ⟨0, _⟩ => rfl
  | ⟨1, _⟩ => rfl

/-- The sum down a column of a block. -/
theorem col_sum (v : FVec Ideal S1024x768 .f32) (o : Fin 768) :
    shapeCast S1x768 (multiReduction (F := Ideal) .add [0] S768 v 0x00000000#32 reduces_S1024x768_S768 (.inl rfl) rfl) shapeCasts_S768_S1x768 (ix2 (0 : Fin 1) o)
      = (∑ r : Fin 1024, v (ix2 r o) : EReal) :=
  (shapeCast_apply _ shapeCasts_S768_S1x768 (ix2 (0 : Fin 1) o) (ix1 o) (by
    rw [Shape.rowMajor_val_one, Shape.rowMajor_val_two]; show o.val = 0 * 768 + o.val; omega)).trans
    (col_red (M := 1024) (N := 768) v reduces_S1024x768_S768 (.inl rfl) rfl o)

/-- Adding a block of squares to the totals. -/
theorem pay1_apply (v : FVec Ideal S1024x768 .f32) (s : FVec Ideal S1x768 .f32) (o : Fin 768) :
    k0_pay1 v s (ix2 (0 : Fin 1) o) = (s (ix2 (0 : Fin 1) o) : EReal) + ∑ r : Fin 1024, v (ix2 r o) := by
  unfold k0_pay1
  exact congrArg (fun u : EReal => s (ix2 (0 : Fin 1) o) + u) (col_sum v o)

/-- The totals are used as loaded. -/
theorem pay54_eq (s : Vec Ideal S1x768 .f32) : k0_pay54 (F := Ideal) s = s :=
  funext fun j => shapeCast_apply s shapeCasts_S1x768_S1x768 j j rfl

/-- The targets are used as loaded. -/
theorem pay49_eq (y : Vec Ideal S1024x768 .f32) : k0_pay49 (F := Ideal) y = y :=
  funext fun j => shapeCast_apply y shapeCasts_S1024x768_S1024x768 j j rfl

/-- Adding a block of counts to the totals. -/
theorem pay2_apply (b : IVec S1024x768 1) (s : Vec Ideal S1x768 .f32) (o : Fin 768) :
    k0_pay2 (F := Ideal) b s (ix2 (0 : Fin 1) o) = (s (ix2 (0 : Fin 1) o) : EReal) + ∑ r : Fin 1024, (sitofp (F := Ideal) .f32 (extui 32 b natLt_1_32)) (ix2 r o) := by
  have e : shapeCast S1x768 s shapeCasts_S1x768_S1x768 = s := funext fun j => shapeCast_apply s shapeCasts_S1x768_S1x768 j j rfl
  unfold k0_pay2
  rw [e]
  exact congrArg (fun u : EReal => s (ix2 (0 : Fin 1) o) + u) (col_sum _ o)

/-- The totals start at zero. -/
theorem pay52_zero (o : Fin 768) : (k0_pay52 (F := Ideal) (ix2 (0 : Fin 1) o) : EReal) = 0 := Ideal.ofBits_zero_f32

/-- The counts start at zero. -/
theorem pay53_zero (o : Fin 768) : (k0_pay53 (F := Ideal) (ix2 (0 : Fin 1) o) : EReal) = 0 := Ideal.ofBits_zero_f32

/-- The sum of a column of the whole array over the rows of block `t`. -/
def part (f : Cert.ReferenceIdeal.S8192x768.Idx → EReal) (o : Fin 768) (t : ℕ) : EReal :=
  if h : t < 8 then ∑ r : Fin 1024, f (ix2 (⟨t * 1024 + r.val, by omega⟩ : Fin 8192) o) else 0

/-- The parts of all blocks and all columns make the sum over the array. -/
theorem sum_parts (f : Cert.ReferenceIdeal.S8192x768.Idx → EReal) : ∑ o : Fin 768, ∑ t ∈ Finset.range 8, part f o t = ∑ i : Cert.ReferenceIdeal.S8192x768.Idx, f i := by
  rw [sum_idx2 f, Finset.sum_comm (s := (Finset.univ : Finset (Fin 8192)))]
  refine Finset.sum_congr rfl fun o _ => ?_
  rw [Finset.sum_range, ← (finProdFinEquiv (m := 8) (n := 1024)).sum_comp (fun R : Fin 8192 => f (ix2 R o)), Fintype.sum_prod_type]
  refine Finset.sum_congr rfl fun t _ => ?_
  unfold part
  rw [dif_pos t.isLt]
  exact Finset.sum_congr rfl fun r _ => congrArg (fun R : Fin 8192 => f (ix2 R o)) (Fin.ext (by
    show t.val * 1024 + r.val = r.val + 1024 * t.val; omega))

/-- The totals after a point are the parts so far. -/
theorem sum_parts_to (f : Cert.ReferenceIdeal.S8192x768.Idx → EReal) (c : Dev nD)
    (hf : ∀ (t : Fin cfg0.N) (r : Fin 1024) (o : Fin 768), sqPt m c t (ix2 r o) = f (ix2 (row t r) o)) (o : Fin 768) :
    ∀ (n : ℕ) (h : n < cfg0.N), (sumTo m c n h (ix2 (0 : Fin 1) o) : EReal) = ∑ t ∈ Finset.range (n + 1), part f o t
  | 0, h => by
    unfold sumTo
    rw [pay1_apply, pay54_eq, pay52_zero, Finset.sum_range_one, zero_add]
    unfold part
    rw [dif_pos (by decide)]
    exact Finset.sum_congr rfl fun r _ => hf ⟨0, h⟩ r o
  | n + 1, h => by
    have hN : n + 1 < 8 := lt_of_lt_of_eq h N_0
    unfold sumTo
    rw [pay1_apply, pay54_eq, sum_parts_to f c hf o n (Nat.lt_of_succ_lt h), Finset.sum_range_succ (n := n + 1)]
    refine congrArg (fun u : EReal => (∑ t ∈ Finset.range (n + 1), part f o t) + u) ?_
    unfold part
    rw [dif_pos hN]
    exact Finset.sum_congr rfl fun r _ => hf ⟨n + 1, h⟩ r o

/-- The counts after a point are the parts so far. -/
theorem cnt_parts_to (f : Cert.ReferenceIdeal.S8192x768.Idx → EReal) (c : Dev nD)
    (hf : ∀ (t : Fin cfg0.N) (r : Fin 1024) (o : Fin 768),
      (sitofp (F := Ideal) .f32 (extui 32 (k0_pay50 (F := Ideal) (iblk m c 1 t)) natLt_1_32)) (ix2 r o) = f (ix2 (row t r) o)) (o : Fin 768) :
    ∀ (n : ℕ) (h : n < cfg0.N), (cntTo m c n h (ix2 (0 : Fin 1) o) : EReal) = ∑ t ∈ Finset.range (n + 1), part f o t
  | 0, h => by
    unfold cntTo
    rw [pay2_apply, pay53_zero, Finset.sum_range_one, zero_add]
    unfold part
    rw [dif_pos (by decide)]
    exact Finset.sum_congr rfl fun r _ => hf ⟨0, h⟩ r o
  | n + 1, h => by
    have hN : n + 1 < 8 := lt_of_lt_of_eq h N_0
    unfold cntTo
    rw [pay2_apply, cnt_parts_to f c hf o n (Nat.lt_of_succ_lt h), Finset.sum_range_succ (n := n + 1)]
    refine congrArg (fun u : EReal => (∑ t ∈ Finset.range (n + 1), part f o t) + u) ?_
    unfold part
    rw [dif_pos hN]
    exact Finset.sum_congr rfl fun r _ => hf ⟨n + 1, h⟩ r o

/-- Whether a target is nonzero, the kernel's way. -/
theorem pay50_apply (c : Dev nD) (t : Fin cfg0.N) (r : Fin 1024) (o : Fin 768) :
    k0_pay50 (F := Ideal) (iblk m c 1 t) (ix2 r o) = BitVec.ofBool (decide ((val_main_v1 (F := Ideal) (a1 m c) (ix2 (row t r) o) : EReal) ≠ 0)) := by
  unfold k0_pay50
  rw [pay49_eq]
  show Ideal.cmp .one (iblk m c 1 t (ix2 r o)) (Ideal.ofBits .f32 0x00000000#32) = _
  rw [Ideal.ofBits_zero_f32, y_at]
  rfl

/-- Whether a target is zero, the reference's way. -/
theorem v30_eq (y : FVec Ideal Cert.ReferenceIdeal.S4x2048x768 .f32) (i : Cert.ReferenceIdeal.S8192x768.Idx) :
    val_main_v30 (F := Ideal) y i = BitVec.ofBool (decide ((val_main_v1 (F := Ideal) y i : EReal) = 0)) := by
  rw [val_main_v30_apply, val_main_v29_apply, val_main_cst_3_apply]
  show Ideal.cmp .oeq (val_main_v1 (F := Ideal) y i) (Ideal.ofBits .f32 0x00000000#32) = _
  rw [Ideal.ofBits_zero_f32]
  rfl

/-- The count of one target. -/
theorem cnt_one (c : Dev nD) (t : Fin cfg0.N) (r : Fin 1024) (o : Fin 768) :
    (sitofp (F := Ideal) .f32 (extui 32 (k0_pay50 (F := Ideal) (iblk m c 1 t)) natLt_1_32)) (ix2 r o)
      = val_main_v32 (F := Ideal) (a1 m c) (ix2 (row t r) o) := by
  rw [val_main_v32_apply, val_main_v31_apply, v30_eq]
  show ((((k0_pay50 (F := Ideal) (iblk m c 1 t) (ix2 r o)).setWidth 32).toInt : ℝ) : EReal) = _
  rw [pay50_apply]
  generalize (val_main_v1 (F := Ideal) (a1 m c) (ix2 (row t r) o) : EReal) = y
  show _ = (((~~~ (BitVec.ofBool (decide (y = 0)))).toNat : ℝ) : EReal)
  by_cases h : y = 0
  · simp [h]
  · simp [h]

/-- The square of one difference. -/
theorem sq_one (c : Dev nD) (hw : Dropped m c) (t : Fin cfg0.N) (r : Fin 1024) (o : Fin 768) :
    sqPt m c t (ix2 r o) = val_main_v36 (F := Ideal) (a0 m c) (a1 m c) (a2 m c) (a3 m c) (a4 m c) (a5 m c) (ix2 (row t r) o) := by
  have e : sqPt m c t (ix2 r o)
      = if k0_pay50 (F := Ideal) (iblk m c 1 t) (ix2 r o) = 1
        then ((outPt m c t (ix2 r o) : EReal) - k0_pay49 (F := Ideal) (iblk m c 1 t) (ix2 r o)) * ((outPt m c t (ix2 r o) : EReal) - k0_pay49 (F := Ideal) (iblk m c 1 t) (ix2 r o))
        else Ideal.ofBits .f32 0x00000000#32 := rfl
  rw [e, pay50_apply, pay49_eq, y_at, out_eq m c hw, Ideal.ofBits_zero_f32, val_main_v36_apply, v30_eq, val_main_v35_apply, val_main_v34_apply,
    val_main_call1_v1_apply, val_main_call1_v0_apply, val_main_cst_5_apply]
  generalize val_main_v28 (F := Ideal) (a0 m c) (a2 m c) (a3 m c) (a4 m c) (a5 m c) (ix2 (row t r) o) = x
  generalize val_main_v1 (F := Ideal) (a1 m c) (ix2 (row t r) o) = y
  show (_ : EReal) = if BitVec.ofBool (decide ((y : EReal) = 0)) = 1 then Ideal.ofBits .f32 0x00000000#32 else ((x : EReal) - y) * ((x : EReal) - y)
  rw [Ideal.ofBits_zero_f32]
  by_cases h : (y : EReal) = 0
  · simp [h]
  · simp [h]

/-- A sum over a one-row array. -/
theorem row_total (v : FVec Ideal S1x768 .f32) (i : S_.Idx) :
    (Host.reduceAdd (F := Ideal) v (constant S_ .f32 0x00000000#32) reducesTo_S1x768_S_d0_1 h_S_ i : EReal) = ∑ o : Fin 768, v (ix2 (0 : Fin 1) o) := by
  simp only [Host.reduceAdd, Ideal.hostReduceAdd_def]
  rw [Ideal.hostReduceAdd_total reducesTo_S1x768_S_d0_1 (fun b => b.elim0) v _ i]
  show Ideal.ofBits .f32 0x00000000#32 + _ = _
  rw [Ideal.ofBits_zero_f32, zero_add, sum_idx2 v]
  exact Fin.sum_univ_one _

/-- A one-row array of column totals, summed, is the sum over the whole array. -/
theorem total (v : FVec Ideal S1x768 .f32) (f : Cert.ReferenceIdeal.S8192x768.Idx → EReal)
    (hv : ∀ o : Fin 768, (v (ix2 (0 : Fin 1) o) : EReal) = ∑ t ∈ Finset.range (7 + 1), part f o t) (i : S_.Idx) :
    (Host.reduceAdd (F := Ideal) v (constant S_ .f32 0x00000000#32) reducesTo_S1x768_S_d0_1 h_S_ i : EReal)
      = Ideal.ofBits .f32 0x00000000#32 + ∑ j : Cert.ReferenceIdeal.S8192x768.Idx, f j := by
  rw [row_total, Ideal.ofBits_zero_f32, zero_add, ← sum_parts f]
  exact Finset.sum_congr rfl fun o _ => hv o

/-- The summed squares are the reference's. -/
theorem num_eq (c : Dev nD) (hw : Dropped m c) (h : 7 < cfg0.N) (i : S_.Idx) :
    (Host.reduceAdd (F := Ideal) (sumTo m c 7 h) (constant S_ .f32 0x00000000#32) reducesTo_S1x768_S_d0_1 h_S_ i : EReal)
      = val_main_v37 (F := Ideal) (a0 m c) (a1 m c) (a2 m c) (a3 m c) (a4 m c) (a5 m c) i := by
  rw [val_main_v37_apply, val_main_cst_6_apply]
  exact total _ _ (fun o => sum_parts_to m _ c (sq_one m c hw) o 7 h) i

/-- The count is the reference's. -/
theorem den_eq (c : Dev nD) (h : 7 < cfg0.N) (i : S_.Idx) :
    (Host.reduceAdd (F := Ideal) (cntTo m c 7 h) (constant S_ .f32 0x00000000#32) reducesTo_S1x768_S_d0_1 h_S_ i : EReal)
      = val_main_v33 (F := Ideal) (a1 m c) i := by
  rw [val_main_v33_apply, val_main_cst_4_apply]
  exact total _ _ (fun o => cnt_parts_to m _ c (cnt_one m c) o 7 h) i

/-- The loss is the quotient of two sums. -/
theorem lossK_apply (s n : Vec Ideal S1x768 .f32) (i : S_.Idx) :
    lossK s n i = FloatOps.hostDivf (F := Ideal) (φ := .f32)
      (Host.reduceAdd (F := Ideal) s (constant S_ .f32 0x00000000#32) reducesTo_S1x768_S_d0_1 h_S_ i)
      (Host.reduceAdd (F := Ideal) n (constant S_ .f32 0x00000000#32) reducesTo_S1x768_S_d0_1 h_S_ i) := rfl

/-- The loss is the reference's. -/
theorem loss_eq (c : Dev nD) (hw : Dropped m c) (h : 7 < cfg0.N) :
    lossK (sumTo m c 7 h) (cntTo m c 7 h) = val_main_v38 (F := Ideal) (a0 m c) (a1 m c) (a2 m c) (a3 m c) (a4 m c) (a5 m c) := by
  funext i
  rw [lossK_apply, val_main_v38_apply]
  exact congrArg₂ (FloatOps.hostDivf (F := Ideal) (φ := .f32)) (num_eq m c hw h i) (den_eq m c h i)

end Cert.KernelIdeal.Val
-- ==== Proof.Needed.lean ====
/- Why the precondition is needed: arguments at which the kernel's output differs from the reference's. -/
module

public import proofs.«01_k».proof.Proof.OutEq
public import proofs.«01_k».proof.Proof.KPost
public import proofs.«01_k».proof.Proof.RefReadEq

@[expose] public section

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen Cert.Bits Cert.ReferenceIdeal.Read

/-- The random word of row 23 and unit 1764. -/
theorem draw_23 : draw (number 23 1764) = 28#32 := by decide +kernel

/-- The keep rate of unit 1764 is more than 29 in 2 ^ 23. -/
theorem rho_1764 : (28 : ℝ) / 8388608 < rho 1764 := by
  unfold rho
  have h1 : (-9 : ℝ) ≤ -(1 / 2) * (((1764 : ℕ) : ℝ) / 430 * (((1764 : ℕ) : ℝ) / 430)) := by norm_num
  refine lt_of_lt_of_le ?_ (Real.exp_le_exp.2 h1)
  have e : Real.exp (-9) = Real.exp (-9 / 64) ^ 64 := by rw [← Real.exp_nat_mul]; norm_num
  rw [e]
  have h2 : (55 / 64 : ℝ) ≤ Real.exp (-9 / 64) := le_trans (by norm_num) (Real.add_one_le_exp (-9 / 64 : ℝ))
  exact lt_of_lt_of_le (by norm_num) (pow_le_pow_left₀ (by norm_num) h2 64)

/-- The reference keeps unit 1764 in row 23. -/
theorem keep_23 : keep 23 1764 = 1#1 := by
  unfold keep
  rw [draw_23]
  show BitVec.ofBool (decide (((((28#32).toNat : ℝ) / 8388608 : ℝ) : EReal) < ((rho 1764 : ℝ) : EReal))) = 1#1
  rw [decide_eq_true (EReal.coe_lt_coe_iff.2 (by simpa using rho_1764))]
  rfl

/-- A bias that is one at unit 1764 and zero elsewhere. -/
def spike (k : Fin 2048) : EReal := if k.val = 1764 then 1 else 0

/-- The reference's output at row 23, where the input is zero, the first bias is the spike, the second weights are one and the second bias is zero. -/
theorem ref_spike (x0 : FVec Ideal Cert.ReferenceIdeal.S4x2048x768 .f32) (x2 : FVec Ideal Cert.ReferenceIdeal.S768x2048 .f32)
    (x3 : FVec Ideal Cert.ReferenceIdeal.S2048 .f32) (x4 : FVec Ideal Cert.ReferenceIdeal.S2048x768 .f32) (x5 : FVec Ideal Cert.ReferenceIdeal.S768 .f32)
    (h0 : ∀ i, x0 i = (0 : EReal)) (h3 : ∀ k : Fin 2048, x3 (ix1 k) = spike k) (h4 : ∀ i, x4 i = (1 : EReal)) (h5 : ∀ i, x5 i = (0 : EReal)) :
    val_main_v28 (F := Ideal) x0 x2 x3 x4 x5 (ix2 (23 : Fin 8192) (0 : Fin 768)) = (1 : EReal) := by
  rw [val_main_v28_apply, val_main_v27_apply, val_main_v24_apply, val_main_v26_apply, val_main_v25_apply, val_main_v0_apply, h0, h5]
  have e : ∀ k : Fin 2048, val_main_v23 (F := Ideal) x0 x2 x3 (lidx_main_v24 (ix2 (23 : Fin 8192) (0 : Fin 768)) k) * x4 (ridx_main_v24 (ix2 (23 : Fin 8192) (0 : Fin 768)) k)
      = spike k * (((keep 23 k.val).toNat : ℝ) : EReal) := by
    intro k
    have el : lidx_main_v24 (ix2 (23 : Fin 8192) (0 : Fin 768)) k = ix2 (23 : Fin 8192) k := funext fun a => match a with | ⟨0, _⟩ => rfl | ⟨1, _⟩ => rfl
    rw [h4, el, val_main_v23_apply, val_main_v22_apply, ref_mask, val_main_v5_apply, val_main_v2_apply, val_main_v4_apply, val_main_v3_apply]
    have es : (∑ q : Fin 768, val_main_v0 (F := Ideal) x0 (lidx_main_v2 (ix2 (23 : Fin 8192) k) q) * x2 (ridx_main_v2 (ix2 (23 : Fin 8192) k) q) : EReal) = 0 :=
      Finset.sum_eq_zero fun q _ => by rw [val_main_v0_apply, h0]; exact zero_mul _
    have eb : x3 (idx_main_v3 (idx_main_v4 (ix2 (23 : Fin 8192) k))) = spike k :=
      (congrArg x3 (show idx_main_v3 (idx_main_v4 (ix2 (23 : Fin 8192) k)) = ix1 k from funext fun a => match a with | ⟨0, _⟩ => rfl)).trans (h3 k)
    rw [es, eb]
    show ((0 : EReal) + spike k) * (((keep 23 k.val).toNat : ℝ) : EReal) * 1 = _
    rw [zero_add, mul_one]
  rw [Finset.sum_congr rfl fun k _ => e k, Finset.sum_eq_single (1764 : Fin 2048)]
  · show spike 1764 * (((keep 23 1764).toNat : ℝ) : EReal) + 0 + 0 = 1
    rw [keep_23]
    simp [spike]
  · intro k _ hk
    have : spike k = 0 := if_neg fun h => hk (Fin.ext h)
    rw [this]
    exact zero_mul _
  · intro h
    exact absurd (Finset.mem_univ _) h

variable (m : (ℓ : Loc nD τ sig) → Buf (Elt Ideal) ℓ)

/-- The arguments of the example, on one device. -/
def Spike (c : Dev nD) : Prop :=
  (∀ i, a0 m c i = (0 : EReal)) ∧ (∀ k : Fin 2048, a3 m c (ix1 k) = spike k) ∧ (∀ i, a4 m c i = (1 : EReal)) ∧ (∀ i, a5 m c i = (0 : EReal))

/-- The kernel's output at row 23 of the example is zero. -/
theorem ker_spike (c : Dev nD) (h : Spike m c) :
    (dats m 0 c).arrAt 7 cfg0.N (ix2 (23 : Fin 8192) (0 : Fin 768)) = (0 : EReal) := by
  obtain ⟨h0, h3, h4, h5⟩ := h
  rw [out_at m c ⟨0, by rw [show cfg0.N = 8 from N_0]; decide⟩ (ix2 (23 : Fin 1024) (0 : Fin 768)) (ix2 (23 : Fin 8192) (0 : Fin 768)) rfl rfl,
    ker_out, h5, val_main_v0_apply, h0]
  rw [Finset.sum_eq_zero]
  · show (0 : EReal) + 0 + 0 = 0
    rw [add_zero, add_zero]
  · intro k _
    have hk : spike (unit k) = 0 := if_neg (by have := k.isLt; show k.val ≠ 1764; omega)
    rw [val_main_v5_apply, val_main_v2_apply, val_main_v4_apply, val_main_v3_apply]
    generalize row (⟨0, by rw [show cfg0.N = 8 from N_0]; decide⟩ : Fin cfg0.N) (23 : Fin 1024) = R
    have es : (∑ q : Fin 768, val_main_v0 (F := Ideal) (a0 m c) (lidx_main_v2 (ix2 R (unit k)) q) * a2 m c (ridx_main_v2 (ix2 R (unit k)) q) : EReal) = 0 :=
      Finset.sum_eq_zero fun q _ => by rw [val_main_v0_apply, h0]; exact zero_mul _
    have eb : a3 m c (idx_main_v3 (idx_main_v4 (ix2 R (unit k)))) = spike (unit k) :=
      (congrArg (a3 m c) (show idx_main_v3 (idx_main_v4 (ix2 R (unit k))) = ix1 (unit k) from funext fun a => match a with | ⟨0, _⟩ => rfl)).trans (h3 (unit k))
    rw [es, eb, hk]
    show ((0 : EReal) + 0) * _ * _ = 0
    rw [zero_add, zero_mul, zero_mul]

end Cert.KernelIdeal.Val
-- ==== Proof.AtKernel.lean ====
/- The kernel at the arguments of the counterexample: its output array holds zero at row 23, column 0. -/
module

public import proofs.«01_k».proof.Proof.Gen.KernelAtIdeal.Frame
public import proofs.«01_k».proof.Proof.Needed
public import Idealize.ShloMosaic.Lib.Pipeline.Value
public import Idealize.ShloMosaic.Lib.StableHlo.Run

@[expose] public section

set_option maxRecDepth 16384

noncomputable section

namespace Cert.KernelAtIdeal.Val

open Idealize.ShloMosaic Idealize.ShloMosaic.TcCoe Idealize.ShloMosaic.Tactic Idealize.ShloMosaic.ValueIdx
open Idealize.ShloMosaic.Pipeline (Dat Cfg Window cellOf)
open Cert.KernelAtIdeal Cert.KernelAtIdeal.Gen

section Block

variable {F : FTy → Type} [FloatOps F]

/-- The offset of a whole block. -/
theorem hz : (![0, 0] : Fin 2 → Nat) = fun _ => 0 := funext fun a => by fin_cases a <;> rfl

/-- The columns of the first weight matrix the kernel loads. -/
def w1c (x2 : Vec F S768x2048 .f32) : Vec F S768x1664 .f32 :=
  View.ld x2 (Rect.unit (s := S768x2048) ![0, 0] S768x1664.size inb_S768x2048_S768x1664_0_0)

/-- The rows of the second weight matrix the kernel loads. -/
def w2c (x4 : Vec F S2048x768 .f32) : Vec F S1664x768 .f32 :=
  View.ld x4 (Rect.unit (s := S2048x768) ![0, 0] S1664x768.size inb_S2048x768_S1664x768_0_0)

/-- The generator's words when the kernel's third part of text ends: `i` the point, `s` the counter scratch. -/
def words (i : grid0.Coords) (s : Vec F S1024x1664 .i32) : IVec S1024x1664 32 × IVec S1024x1664 32 × IVec S1024x1664 32 :=
  let p := k0_pay22 466693091#32 (k0_pay10 i s) (k0_pay11 i s)
  let q := k0_pay23 466693091#32 (k0_pay10 i s) (k0_pay11 i s)
  (k0_pay34 p q, k0_pay35 p q, k0_pay36 p q)

/-- The output block of one grid point: `i` the point, `x0` the rows of `x`, `x6` the thresholds, `s` the counter scratch. -/
def outBlk (i : grid0.Coords) (x0 : Vec F S1024x768 .f32) (x2 : Vec F S768x2048 .f32) (x3 : Vec F S1x1664 .f32) (x4 : Vec F S2048x768 .f32) (x5 : Vec F S1x768 .f32) (x6 : Vec F S1x1664 .i32) (s : Vec F S1024x1664 .i32) : Vec F S1024x768 .f32 :=
  let w := words i s
  k0_pay51 (k0_pay4 x0) (k0_pay5 x0 (w1c x2) x3) 466693091#32 (k0_pay47 466693091#32 w.1 w.2.1 w.2.2) (k0_pay48 466693091#32 w.1 w.2.1 w.2.2) (k0_pay49 466693091#32 w.1 w.2.1 w.2.2)
    k0_pay50 x6 (w2c x4) x5

set_option maxHeartbeats 4000000 in
/-- The first point's output block at given blocks. -/
theorem out_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S768x2048 .f32) (harg3 : arg3.IsWhole) (arg4 : Memref sig .tc .vmem S1x1664 .f32) (harg4 : arg4.IsWhole) (arg5 : Memref sig .tc .vmem S2048x768 .f32) (harg5 : arg5.IsWhole) (arg6 : Memref sig .tc .vmem S1x768 .f32) (harg6 : arg6.IsWhole) (arg7 : Memref sig .tc .vmem S1x1664 .i32) (harg7 : arg7.IsWhole) (arg8 : Memref sig .tc .vmem S1024x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1024x1664 .i32) (harg11 : arg11.IsWhole) (hc0 : cond0_0 i) (hc1 : cond0_1 i)
    (x0 : Vec F S1024x768 .f32) (x1 : Vec F S1024x768 .f32) (x2 : Vec F S768x2048 .f32) (x3 : Vec F S1x1664 .f32) (x4 : Vec F S2048x768 .f32) (x5 : Vec F S1x768 .f32) (x6 : Vec F S1x1664 .i32) :
    out0_A_7 c i arg1 harg1 arg2 harg2 arg3 harg3 arg4 harg4 arg5 harg5 arg6 harg6 arg7 harg7 arg8 harg8 arg9 harg9 arg10 harg10 arg11 harg11 hc0 hc1 x0 x1 x2 x3 x4 x5 x6 = outBlk i x0 x2 x3 x4 x5 x6 k0_pay3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero (S := S1024x768) hz]
  try simp only [View.readCov_unit_zero (S := S1024x1664) _ hz, View.readCov_unit_zero (S := S1x768) _ hz, View.readCov_unit_zero (S := S1024x768) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x768) hz, View.ld_unit_zero (S := S1x1664) hz, View.ld_unit_zero (S := S1x768) hz, View.ld_unit_zero (S := S1024x1664) hz]
  rfl

variable (m : (ℓ : Loc nD τ sig) → Buf (Elt F) ℓ)

/-- The output block of the first point, from the blocks it loads. -/
theorem outs_first (c : Dev nD) :
    (outsAt0 m c t0_0.val t0_0.isLt).1 = outBlk (grid0.coords t0_0) (iblk m c 0 t0_0) (iblk m c 2 t0_0) (iblk m c 3 t0_0) (iblk m c 4 t0_0) (iblk m c 5 t0_0) (iblk m c 6 t0_0) k0_pay3 := by
  rw [outsAt0_A m c t0_0 rfl rfl, out_A]

/-- The output window moves down one block of rows per point. -/
theorem index_out : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- The first rows of the final output array are the first point's output block. -/
theorem out_first (c : Dev nD) (y : S1024x768.Idx) (i : S8192x768.Idx) (h0 : (i 0).val = (y 0).val) (h1 : (i 1).val = (y 1).val) :
    (dats m 0 c).arrAt 7 cfg0.N i = outBlk (grid0.coords t0_0) (iblk m c 0 t0_0) (iblk m c 2 t0_0) (iblk m c 3 t0_0) (iblk m c 4 t0_0) (iblk m c 5 t0_0) (iblk m c 6 t0_0) k0_pay3 y := by
  have hb := (dats m 0 c).read_blk_arrAt_eq_flushed 7
    (fun t t' _ _ hne => (cfg0.win 7).disjoint_blk fun h => hne (Fin.ext (by
      have e := congrFun h (0 : Fin 2)
      rw [show (cfg0.win 7).index t (0 : Fin 2) = t.val from (index_out t).1,
        show (cfg0.win 7).index t' (0 : Fin 2) = t'.val from (index_out t').1] at e
      exact e))) cfg0.N t0_0 t0_0.isLt (flush0_7 t0_0)
  have hf : (dats m 0 c).flushed 7 t0_0 = (cfg0.win 7).cut (grid0.coords t0_0) (outBlk (grid0.coords t0_0) (iblk m c 0 t0_0) (iblk m c 2 t0_0) (iblk m c 3 t0_0) (iblk m c 4 t0_0) (iblk m c 5 t0_0) (iblk m c 6 t0_0) k0_pay3) := by
    show (cfg0.win 7).cut (grid0.coords t0_0) ((dats m 0 c).after 7 t0_0) = _
    rw [after0_7, outs_first]
  rw [hf] at hb
  have hy := congrFun hb y
  have he : ((cfg0.win 7).blk t0_0).view.emb y = i := by
    have e := index_out t0_0
    funext a; apply Fin.ext
    match a with
    | ⟨0, _⟩ => show win0_7.index t0_0 (0 : Fin 2) * 1024 + 1 * (y 0).val = (i 0).val; rw [e.1]; show 0 * 1024 + 1 * (y 0).val = _; omega
    | ⟨1, _⟩ => show win0_7.index t0_0 (1 : Fin 2) * 768 + 1 * (y 1).val = (i 1).val; rw [e.2]; omega
  rw [← he]
  exact hy

/-- The input's rows, as the region finds them. -/
theorem V_x (c : Dev nD) : V m c main_call0_v0 = shapeCast S8192x768 (broadcastInDim S4x2048x768 ![] bcast_S_S4x2048x768 (constant (F := F) S_ .f32 0x00000000#32)) shapeCasts_S4x2048x768_S8192x768 := by
  simp only [V, V0, hostOps0, hostOps0_1, List.flatten_cons, List.flatten_nil, List.append_nil, List.cons_append, List.nil_append]
  after_results
  rfl

/-- The first bias, as the region finds it. -/
theorem V_b1 (c : Dev nD) : V m c main_call0_v15 = shapeCast S1x1664 (extractStridedSlice S1664 ![0] (m ((c : Thread nD τ).loc main_arg0)) slices_S2048_S1664_0) shapeCasts_S1664_S1x1664 := by
  simp only [V, V0, hostOps0, hostOps0_1, List.flatten_cons, List.flatten_nil, List.append_nil, List.cons_append, List.nil_append]
  after_results
  rfl

/-- The second bias, as the region finds it. -/
theorem V_b2 (c : Dev nD) : V m c main_call0_v16 = shapeCast S1x768 (broadcastInDim S768 ![] bcast_S_S768 (constant (F := F) S_ .f32 0x00000000#32)) shapeCasts_S768_S1x768 := by
  simp only [V, V0, hostOps0, hostOps0_1, List.flatten_cons, List.flatten_nil, List.append_nil, List.cons_append, List.nil_append]
  after_results
  rfl

/-- The first point's windows stand at their arrays' starts. -/
theorem index_in : (∀ a : Fin 2, win0_0.index t0_0 a = 0) ∧ (∀ a : Fin 2, win0_3.index t0_0 a = 0) ∧ (∀ a : Fin 2, win0_5.index t0_0 a = 0) := by
  decide +kernel

/-- The first bias at the first point. -/
theorem blk_b1 (c : Dev nD) : iblk m c 3 t0_0 = V m c main_call0_v15 := by
  funext y
  unfold iblk
  rw [View.read_apply]
  show V m c main_call0_v15 _ = _
  congr 1
  have e := index_in.2.1
  funext a; apply Fin.ext
  match a with
  | ⟨0, _⟩ => show win0_3.index t0_0 (0 : Fin 2) * 1 + 1 * (y 0).val = (y 0).val; rw [e]; omega
  | ⟨1, _⟩ => show win0_3.index t0_0 (1 : Fin 2) * 1664 + 1 * (y 1).val = (y 1).val; rw [e]; omega

end Block

variable (m : (ℓ : Loc nD τ sig) → Buf (Elt Ideal) ℓ)

/-- The first point's rows of the input are zero. -/
theorem x_zero (c : Dev nD) (y : S1024x768.Idx) : iblk m c 0 t0_0 y = (0 : EReal) := by
  unfold iblk
  rw [View.read_apply]
  show V m c main_call0_v0 _ = _
  rw [V_x]
  exact Ideal.ofBits_zero_f32

/-- The second bias is zero. -/
theorem b2_zero (c : Dev nD) (y : S1x768.Idx) : iblk m c 5 t0_0 y = (0 : EReal) := by
  unfold iblk
  rw [View.read_apply]
  show V m c main_call0_v16 _ = _
  rw [V_b2]
  exact Ideal.ofBits_zero_f32

/-- The first bias of a kept unit is zero. -/
theorem b1_zero (c : Dev nD) (h : ∀ k : Fin 2048, m ((c : Thread nD τ).loc main_arg0) (ix1 k) = Cert.KernelIdeal.Val.spike k) (k : Fin 1664) :
    iblk m c 3 t0_0 (ix2 (0 : Fin 1) k) = (0 : EReal) := by
  rw [blk_b1, V_b1]
  rw [shapeCast_apply _ shapeCasts_S1664_S1x1664 (ix2 (0 : Fin 1) k) (ix1 k) (by
    rw [Shape.rowMajor_val_one, Shape.rowMajor_val_two]; show k.val = 0 * 1664 + k.val; omega)]
  refine (extractStridedSlice_apply ![0] _ slices_S2048_S1664_0 (ix1 k) (ix1 (Cert.KernelIdeal.Val.unit k)) (fun a => match a with
    | ⟨0, _⟩ => by show k.val = 0 + k.val; omega)).trans ?_
  rw [h]
  exact if_neg (by have := k.isLt; show k.val ≠ 1764; omega)

/-- The kept hidden units are zero where the input and their bias are. -/
theorem pay5_zero (x : Vec Ideal S1024x768 .f32) (w : Vec Ideal S768x1664 .f32) (b : Vec Ideal S1x1664 .f32) (r : Fin 1024) (k : Fin 1664)
    (hx : ∀ q : Fin 768, x (ix2 r q) = (0 : EReal)) (hb : b (ix2 (0 : Fin 1) k) = (0 : EReal)) : k0_pay5 x w b (ix2 r k) = (0 : EReal) := by
  have e1 : k0_pay4 (F := Ideal) x = x := funext fun j => shapeCast_apply x shapeCasts_S1024x768_S1024x768 j j rfl
  have e2 : shapeCast S1x1664 b shapeCasts_S1x1664_S1x1664 = b := funext fun j => shapeCast_apply b shapeCasts_S1x1664_S1x1664 j j rfl
  have e3 : shapeCast S768x1664 w shapeCasts_S768x1664_S768x1664 = w := funext fun j => shapeCast_apply w shapeCasts_S768x1664_S768x1664 j j rfl
  unfold k0_pay5
  rw [e1, e2, e3]
  refine (congrArg₂ (fun u v : EReal => u + v) ?_ ((Cert.KernelIdeal.Val.row_bcast b broadcasts_S1x1664_S1024x1664 (by decide) r k).trans hb)).trans (add_zero (0 : EReal))
  refine (Ideal.matmul_plain_apply (M := 1024) (K := 768) (N := 1664) (φ₁ := .f32) (φ₂ := .f32) none x w (constant S1024x1664 .f32 0x00000000#32) r k).trans ?_
  show Ideal.ofBits .f32 0x00000000#32 + _ = _
  rw [Ideal.ofBits_zero_f32, zero_add]
  exact Finset.sum_eq_zero fun q _ => by rw [hx]; exact zero_mul _

/-- A choice between zeros is zero. -/
theorem choose_zero {s : Shape} (c : IVec s 1) (a b : FVec Ideal s .f32) (i : s.Idx) (ha : a i = (0 : EReal)) (hb : b i = (0 : EReal)) :
    select c a b i = (0 : EReal) := by
  show (if c i = 1 then a i else b i) = (0 : EReal)
  split
  · exact ha
  · exact hb

/-- The output is zero where the hidden units, the second bias and the input are. -/
theorem pay51_zero (x : FVec Ideal S1024x768 .f32) (h : FVec Ideal S1024x1664 .f32) (v16 : BitVec 32) (p q s u : IVec S1024x1664 32)
    (th : Vec Ideal S1x1664 .i32) (w : Vec Ideal S1664x768 .f32) (b : Vec Ideal S1x768 .f32) (r : Fin 1024) (o : Fin 768)
    (hh : ∀ k : Fin 1664, h (ix2 r k) = (0 : EReal)) (hb : b (ix2 (0 : Fin 1) o) = (0 : EReal)) (hx : x (ix2 r o) = (0 : EReal)) :
    k0_pay51 x h v16 p q s u th w b (ix2 r o) = (0 : EReal) := by
  have e1 : shapeCast S1x768 b shapeCasts_S1x768_S1x768 = b := funext fun j => shapeCast_apply b shapeCasts_S1x768_S1x768 j j rfl
  have e3 : shapeCast S1664x768 w shapeCasts_S1664x768_S1664x768 = w := funext fun j => shapeCast_apply w shapeCasts_S1664x768_S1664x768 j j rfl
  unfold k0_pay51
  rw [e1, e3]
  refine (congrArg₂ (fun u v : EReal => u + v) ?_ hx).trans (add_zero (0 : EReal))
  refine (congrArg₂ (fun u v : EReal => u + v) ?_ ((Cert.KernelIdeal.Val.row_bcast b broadcasts_S1x768_S1024x768 (by decide) r o).trans hb)).trans (add_zero (0 : EReal))
  refine (Ideal.matmul_plain_apply (M := 1024) (K := 1664) (N := 768) (φ₁ := .f32) (φ₂ := .f32) none _ w (constant S1024x768 .f32 0x00000000#32) r o).trans ?_
  show Ideal.ofBits .f32 0x00000000#32 + _ = _
  rw [Ideal.ofBits_zero_f32, zero_add]
  refine Finset.sum_eq_zero fun k _ => ?_
  refine (congrArg (fun u : EReal => u * w (ix2 k o)) (choose_zero _ h _ (ix2 r k) (hh k) Ideal.ofBits_zero_f32)).trans ?_
  exact zero_mul _

/-- The output array at row 23, column 0. -/
theorem out_23 (c : Dev nD) (h : ∀ k : Fin 2048, m ((c : Thread nD τ).loc main_arg0) (ix1 k) = Cert.KernelIdeal.Val.spike k) :
    (dats m 0 c).arrAt 7 cfg0.N (ix2 (23 : Fin 8192) (0 : Fin 768)) = (0 : EReal) := by
  rw [out_first m c (ix2 (23 : Fin 1024) (0 : Fin 768)) (ix2 (23 : Fin 8192) (0 : Fin 768)) rfl rfl]
  unfold outBlk
  have e4 : k0_pay4 (F := Ideal) (iblk m c 0 t0_0) = iblk m c 0 t0_0 := funext fun j => shapeCast_apply (iblk m c 0 t0_0) shapeCasts_S1024x768_S1024x768 j j rfl
  exact pay51_zero _ _ _ _ _ _ _ _ _ _ 23 0 (fun k => pay5_zero _ _ _ 23 k (fun q => x_zero m c _) (b1_zero m c h k)) (b2_zero m c _)
    ((congrFun e4 _).trans (x_zero m c _))

end Cert.KernelAtIdeal.Val

end
-- ==== Proof.AtOps.lean ====
/- The reference at the arguments of the counterexample: its @main as the list of its 325 host operations. The program is that list run in order, each operation touches only buffers of the TensorCore, and none allocates. -/
module

public import proofs.«01_k».proof.Proof.Gen.ReferenceAtIdeal
public import Idealize.ShloMosaic.Lib.StableHlo.Run
public import Idealize.ShloMosaic.Lib.Pipeline.Frame

@[expose] public section

set_option Elab.async false
set_option maxRecDepth 8192
set_option maxHeartbeats 4000000

noncomputable section

namespace Cert.ReferenceAtIdeal.Value

open Cert.ReferenceAtIdeal Cert.ReferenceAtIdeal.Gen Idealize.ShloMosaic Idealize.ShloMosaic.TcCoe Idealize.SL.Sem Idealize.ShloMosaic.StableHlo

variable {F : FTy → Type} [FloatOps F]

/-- The function of the operation that writes `main_v24`, named. It packs its operands into a list of dependent pairs
    whose shapes a later argument's type mentions, so `simp` cannot rewrite an operand where it stands; applied by
    name, the operands are plain arguments, which the window lemmas below rewrite before the name unfolds. -/
def fn_main_v24 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 325 (@main, which the printer did not cut). -/
abbrev ops_0 : List (HloOp τ sig (Elt F)) :=
  [ nullary main_cst (constant S_ .f32 0x00000000#32),
    unary main_cst main_v0 (broadcastInDim S4x2048x768 ![] bcast_S_S4x2048x768 : (⟨S_, .f32⟩ : BufTy).Contents (Elt F) → (⟨S4x2048x768, .f32⟩ : BufTy).Contents (Elt F)),
    nullary main_cst_0 (constant S_ .f32 0x3F800000#32),
    unary main_cst_0 main_v1 (broadcastInDim S4x2048x768 ![] bcast_S_S4x2048x768 : (⟨S_, .f32⟩ : BufTy).Contents (Elt F) → (⟨S4x2048x768, .f32⟩ : BufTy).Contents (Elt F)),
    nullary main_cst_1 (constant S_ .f32 0x00000000#32),
    unary main_cst_1 main_v2 (broadcastInDim S768x2048 ![] bcast_S_S768x2048 : (⟨S_, .f32⟩ : BufTy).Contents (Elt F) → (⟨S768x2048, .f32⟩ : BufTy).Contents (Elt F)),
    nullary main_cst_2 (constant S_ .f32 0x3F800000#32),
    unary main_cst_2 main_v3 (broadcastInDim S2048x768 ![] bcast_S_S2048x768 : (⟨S_, .f32⟩ : BufTy).Contents (Elt F) → (⟨S2048x768, .f32⟩ : BufTy).Contents (Elt F)),
    nullary main_cst_3 (constant S_ .f32 0x00000000#32),
    unary main_cst_3 main_v4 (broadcastInDim S768 ![] bcast_S_S768 : (⟨S_, .f32⟩ : BufTy).Contents (Elt F) → (⟨S768, .f32⟩ : BufTy).Contents (Elt F)),
    reshape main_v0 main_v5 (rfl : (.f32 : EltTy) = .f32) shapeCasts_S4x2048x768_S8192x768,
    reshape main_v1 main_v6 (rfl : (.f32 : EltTy) = .f32) shapeCasts_S4x2048x768_S8192x768,
    binary main_v5 main_v2 main_v7 ((fun l r => Host.dotGeneral dot_S8192x768_S768x2048_S8192x2048_1_0_0_1_n_n none l r) : (⟨S8192x768, .f32⟩ : BufTy).Contents (Elt F) → (⟨S768x2048, .f32⟩ : BufTy).Contents (Elt F) → (⟨S8192x2048, .f32⟩ : BufTy).Contents (Elt F)),
    unary main_arg0 main_v8 (broadcastInDim S1x2048 ![1] bcast_S2048_S1x2048_1 : (⟨S2048, .f32⟩ : BufTy).Contents (Elt F) → (⟨S1x2048, .f32⟩ : BufTy).Contents (Elt F)),
    unary main_v8 main_v9 (broadcastInDim S8192x2048 ![0, 1] bcast_S1x2048_S8192x2048_0_1 : (⟨S1x2048, .f32⟩ : BufTy).Contents (Elt F) → (⟨S8192x2048, .f32⟩ : BufTy).Contents (Elt F)),
    binary main_v7 main_v9 main_v10 (addf : (⟨S8192x2048, .f32⟩ : BufTy).Contents (Elt F) → (⟨S8192x2048, .f32⟩ : BufTy).Contents (Elt F) → (⟨S8192x2048, .f32⟩ : BufTy).Contents (Elt F)),
    nullary main_v11 (sitofp .f32 (iotaInDim S2048 32 0)),
    nullary main_cst_4 (constant S_ .f32 0x43D70000#32),
    unary main_cst_4 main_v12 (broadcastInDim S2048 ![] bcast_S_S2048 : (⟨S_, .f32⟩ : BufTy).Contents (Elt F) → (⟨S2048, .f32⟩ : BufTy).Contents (Elt F)),
    binary main_v11 main_v12 main_v13 (Host.divf : (⟨S2048, .f32⟩ : BufTy).Contents (Elt F) → (⟨S2048, .f32⟩ : BufTy).Contents (Elt F) → (⟨S2048, .f32⟩ : BufTy).Contents (Elt F)),
    binary main_v13 main_v13 main_v14 (mulf : (⟨S2048, .f32⟩ : BufTy).Contents (Elt F) → (⟨S2048, .f32⟩ : BufTy).Contents (Elt F) → (⟨S2048, .f32⟩ : BufTy).Contents (Elt F)),
    nullary main_cst_5 (constant S_ .f32 0xBF000000#32),
    unary main_cst_5 main_v15 (broadcastInDim S2048 ![] bcast_S_S2048 : (⟨S_, .f32⟩ : BufTy).Contents (Elt F) → (⟨S2048, .f32⟩ : BufTy).Contents (Elt F)),
    binary main_v15 main_v14 main_v16 (mulf : (⟨S2048, .f32⟩ : BufTy).Contents (Elt F) → (⟨S2048, .f32⟩ : BufTy).Contents (Elt F) → (⟨S2048, .f32⟩ : BufTy).Contents (Elt F)),
    unary main_v16 main_v17 (Host.exp : (⟨S2048, .f32⟩ : BufTy).Contents (Elt F) → (⟨S2048, .f32⟩ : BufTy).Contents (Elt F)),
    nullary main_c (constantI S_ 32 12345#32),
    nullary main_c_6 (constantI S_ 32 32#32),
    binary main_c main_c_6 main_v18 (Host.shrui : (⟨S_, .i32⟩ : BufTy).Contents (Elt F) → (⟨S_, .i32⟩ : BufTy).Contents (Elt F) → (⟨S_, .i32⟩ : BufTy).Contents (Elt F)),
    unary main_v18 main_v19 (id : (⟨S_, .i32⟩ : BufTy).Contents (Elt F) → (⟨S_, .i32⟩ : BufTy).Contents (Elt F)),
    unary main_v19 main_v20 (broadcastInDim S1 ![] bcast_S_S1 : (⟨S_, .i32⟩ : BufTy).Contents (Elt F) → (⟨S1, .i32⟩ : BufTy).Contents (Elt F)) ]

/-- @main's operations 31 … 60 of 325 (@main, which the printer did not cut). -/
abbrev ops_1 : List (HloOp τ sig (Elt F)) :=
  [ nullary main_c_7 (constantI S_ 32 4294967295#32),
    binary main_c main_c_7 main_v21 (andi : (⟨S_, .i32⟩ : BufTy).Contents (Elt F) → (⟨S_, .i32⟩ : BufTy).Contents (Elt F) → (⟨S_, .i32⟩ : BufTy).Contents (Elt F)),
    unary main_v21 main_v22 (id : (⟨S_, .i32⟩ : BufTy).Contents (Elt F) → (⟨S_, .i32⟩ : BufTy).Contents (Elt F)),
    unary main_v22 main_v23 (broadcastInDim S1 ![] bcast_S_S1 : (⟨S_, .i32⟩ : BufTy).Contents (Elt F) → (⟨S1, .i32⟩ : BufTy).Contents (Elt F)),
    binary main_v20 main_v23 main_v24 (fn_main_v24 (F := F)),
    unary main_v17 main_v25 (broadcastInDim S1x2048 ![1] bcast_S2048_S1x2048_1 : (⟨S2048, .f32⟩ : BufTy).Contents (Elt F) → (⟨S1x2048, .f32⟩ : BufTy).Contents (Elt F)),
    TRef.nullary (TRef.of (T := ⟨S_, .f32⟩) main_call0_cst) (constant S_ .f32 0x00000000#32),
    TRef.nullary (TRef.of (T := ⟨S_, .f32⟩) main_call0_cst_0) (constant S_ .f32 0x3F800000#32),
    TRef.unary (TRef.of (T := ⟨S_, .f32⟩) main_call0_cst) (TRef.of (T := ⟨S_, .f32⟩) main_call0_call0_v0) id,
    TRef.unary (TRef.of (T := ⟨S_, .f32⟩) main_call0_cst_0) (TRef.of (T := ⟨S_, .f32⟩) main_call0_call0_v1) id,
    TRef.unary (TRef.of (T := ⟨S_, .f32⟩) main_call0_call0_v0) (TRef.of (T := ⟨S1x1, .f32⟩) main_call0_call0_v2) (broadcastInDim S1x1 ![] bcast_S_S1x1),
    TRef.unary (TRef.of (T := ⟨S_, .f32⟩) main_call0_call0_v1) (TRef.of (T := ⟨S1x1, .f32⟩) main_call0_call0_v3) (broadcastInDim S1x1 ![] bcast_S_S1x1),
    TRef.unary (TRef.of (T := ⟨S2, .i32⟩) main_v24) (TRef.of (T := ⟨S1, .i32⟩) main_call0_call0_v4) (extractStridedSlice S1 ![0] · slices_S2_S1_0),
    TRef.reshape (TRef.of (T := ⟨S1, .i32⟩) main_call0_call0_v4) (TRef.of (T := ⟨S_, .i32⟩) main_call0_call0_v5) (rfl : (.i32 : EltTy) = .i32) shapeCasts_S1_S_,
    TRef.unary (TRef.of (T := ⟨S2, .i32⟩) main_v24) (TRef.of (T := ⟨S1, .i32⟩) main_call0_call0_v6) (extractStridedSlice S1 ![1] · slices_S2_S1_1),
    TRef.reshape (TRef.of (T := ⟨S1, .i32⟩) main_call0_call0_v6) (TRef.of (T := ⟨S_, .i32⟩) main_call0_call0_v7) (rfl : (.i32 : EltTy) = .i32) shapeCasts_S1_S_,
    TRef.nullary (TRef.of (T := ⟨S8192x2048, .i64⟩) main_call0_call0_v8) (iotaInDim S8192x2048 64 0),
    TRef.nullary (TRef.of (T := ⟨S8192x2048, .i64⟩) main_call0_call0_v9) (iotaInDim S8192x2048 64 1),
    TRef.nullary (TRef.of (T := ⟨S_, .i64⟩) main_call0_call0_c) (constantI S_ 64 2048#64),
    TRef.unary (TRef.of (T := ⟨S_, .i64⟩) main_call0_call0_c) (TRef.of (T := ⟨S8192x2048, .i64⟩) main_call0_call0_v10) (broadcastInDim S8192x2048 ![] bcast_S_S8192x2048),
    TRef.binary (TRef.of (T := ⟨S8192x2048, .i64⟩) main_call0_call0_v10) (TRef.of (T := ⟨S8192x2048, .i64⟩) main_call0_call0_v8) (TRef.of (T := ⟨S8192x2048, .i64⟩) main_call0_call0_v11) muli,
    TRef.nullary (TRef.of (T := ⟨S_, .i64⟩) main_call0_call0_c_0) (constantI S_ 64 1#64),
    TRef.unary (TRef.of (T := ⟨S_, .i64⟩) main_call0_call0_c_0) (TRef.of (T := ⟨S8192x2048, .i64⟩) main_call0_call0_v12) (broadcastInDim S8192x2048 ![] bcast_S_S8192x2048),
    TRef.binary (TRef.of (T := ⟨S8192x2048, .i64⟩) main_call0_call0_v12) (TRef.of (T := ⟨S8192x2048, .i64⟩) main_call0_call0_v9) (TRef.of (T := ⟨S8192x2048, .i64⟩) main_call0_call0_v13) muli,
    TRef.binary (TRef.of (T := ⟨S8192x2048, .i64⟩) main_call0_call0_v11) (TRef.of (T := ⟨S8192x2048, .i64⟩) main_call0_call0_v13) (TRef.of (T := ⟨S8192x2048, .i64⟩) main_call0_call0_v14) addi,
    TRef.nullary (TRef.of (T := ⟨S_, .i64⟩) main_call0_call0_c_1) (constantI S_ 64 32#64),
    TRef.unary (TRef.of (T := ⟨S_, .i64⟩) main_call0_call0_c_1) (TRef.of (T := ⟨S8192x2048, .i64⟩) main_call0_call0_v15) (broadcastInDim S8192x2048 ![] bcast_S_S8192x2048),
    TRef.binary (TRef.of (T := ⟨S8192x2048, .i64⟩) main_call0_call0_v14) (TRef.of (T := ⟨S8192x2048, .i64⟩) main_call0_call0_v15) (TRef.of (T := ⟨S8192x2048, .i64⟩) main_call0_call0_v16) Host.shrui,
    TRef.unary (TRef.of (T := ⟨S8192x2048, .i64⟩) main_call0_call0_v14) (TRef.of (T := ⟨S8192x2048, .i32⟩) main_call0_call0_v17) (trunci 32 · natLt_32_64),
    TRef.unary (TRef.of (T := ⟨S8192x2048, .i64⟩) main_call0_call0_v16) (TRef.of (T := ⟨S8192x2048, .i32⟩) main_call0_call0_v18) (trunci 32 · natLt_32_64) ]

/-- @main's operations 61 … 90 of 325 (@main, which the printer did not cut). -/
abbrev ops_2 : List (HloOp τ sig (Elt F)) :=
  [ TRef.binary (TRef.of (T := ⟨S_, .i32⟩) main_call0_call0_v5) (TRef.of (T := ⟨S_, .i32⟩) main_call0_call0_v7) (TRef.of (T := ⟨S_, .i32⟩) main_call0_call0_call0_v0) xori,
    TRef.nullary (TRef.of (T := ⟨S_, .i32⟩) main_call0_call0_call0_c) (constantI S_ 32 466688986#32),
    TRef.binary (TRef.of (T := ⟨S_, .i32⟩) main_call0_call0_call0_v0) (TRef.of (T := ⟨S_, .i32⟩) main_call0_call0_call0_c) (TRef.of (T := ⟨S_, .i32⟩) main_call0_call0_call0_v1) xori,
    TRef.unary (TRef.of (T := ⟨S_, .i32⟩) main_call0_call0_v5) (TRef.of (T := ⟨S8192x2048, .i32⟩) main_call0_call0_call0_v2) (broadcastInDim S8192x2048 ![] bcast_S_S8192x2048),
    TRef.binary (TRef.of (T := ⟨S8192x2048, .i32⟩) main_call0_call0_v18) (TRef.of (T := ⟨S8192x2048, .i32⟩) main_call0_call0_call0_v2) (TRef.of (T := ⟨S8192x2048, .i32⟩) main_call0_call0_call0_v3) addi,
    TRef.unary (TRef.of (T := ⟨S_, .i32⟩) main_call0_call0_v7) (TRef.of (T := ⟨S8192x2048, .i32⟩) main_call0_call0_call0_v4) (broadcastInDim S8192x2048 ![] bcast_S_S8192x2048),
    TRef.binary (TRef.of (T := ⟨S8192x2048, .i32⟩) main_call0_call0_v17) (TRef.of (T := ⟨S8192x2048, .i32⟩) main_call0_call0_call0_v4) (TRef.of (T := ⟨S8192x2048, .i32⟩) main_call0_call0_call0_v5) addi,
    TRef.binary (TRef.of (T := ⟨S8192x2048, .i32⟩) main_call0_call0_call0_v3) (TRef.of (T := ⟨S8192x2048, .i32⟩) main_call0_call0_call0_v5) (TRef.of (T := ⟨S8192x2048, .i32⟩) main_call0_call0_call0_v6) addi,
    TRef.nullary (TRef.of (T := ⟨S_, .i32⟩) main_call0_call0_call0_c_0) (constantI S_ 32 13#32),
    TRef.unary (TRef.of (T := ⟨S_, .i32⟩) main_call0_call0_call0_c_0) (TRef.of (T := ⟨S8192x2048, .i32⟩) main_call0_call0_call0_v7) (broadcastInDim S8192x2048 ![] bcast_S_S8192x2048),
    TRef.binary (TRef.of (T := ⟨S8192x2048, .i32⟩) main_call0_call0_call0_v5) (TRef.of (T := ⟨S8192x2048, .i32⟩) main_call0_call0_call0_v7) (TRef.of (T := ⟨S8192x2048, .i32⟩) main_call0_call0_call0_v8) Host.shli,
    TRef.nullary (TRef.of (T := ⟨S_, .i32⟩) main_call0_call0_call0_c_1) (constantI S_ 32 19#32),
    TRef.unary (TRef.of (T := ⟨S_, .i32⟩) main_call0_call0_call0_c_1) (TRef.of (T := ⟨S8192x2048, .i32⟩) main_call0_call0_call0_v9) (broadcastInDim S8192x2048 ![] bcast_S_S8192x2048),
    TRef.binary (TRef.of (T := ⟨S8192x2048, .i32⟩) main_call0_call0_call0_v5) (TRef.of (T := ⟨S8192x2048, .i32⟩) main_call0_call0_call0_v9) (TRef.of (T := ⟨S8192x2048, .i32⟩) main_call0_call0_call0_v10) Host.shrui,
    TRef.binary (TRef.of (T := ⟨S8192x2048, .i32⟩) main_call0_call0_call0_v8) (TRef.of (T := ⟨S8192x2048, .i32⟩) main_call0_call0_call0_v10) (TRef.of (T := ⟨S8192x2048, .i32⟩) main_call0_call0_call0_v11) ori,
    TRef.binary (TRef.of (T := ⟨S8192x2048, .i32⟩) main_call0_call0_call0_v6) (TRef.of (T := ⟨S8192x2048, .i32⟩) main_call0_call0_call0_v11) (TRef.of (T := ⟨S8192x2048, .i32⟩) main_call0_call0_call0_v12) xori,
    TRef.binary (TRef.of (T := ⟨S8192x2048, .i32⟩) main_call0_call0_call0_v6) (TRef.of (T := ⟨S8192x2048, .i32⟩) main_call0_call0_call0_v12) (TRef.of (T := ⟨S8192x2048, .i32⟩) main_call0_call0_call0_v13) addi,
    TRef.nullary (TRef.of (T := ⟨S_, .i32⟩) main_call0_call0_call0_c_2) (constantI S_ 32 15#32),
    TRef.unary (TRef.of (T := ⟨S_, .i32⟩) main_call0_call0_call0_c_2) (TRef.of (T := ⟨S8192x2048, .i32⟩) main_call0_call0_call0_v14) (broadcastInDim S8192x2048 ![] bcast_S_S8192x2048),
    TRef.binary (TRef.of (T := ⟨S8192x2048, .i32⟩) main_call0_call0_call0_v12) (TRef.of (T := ⟨S8192x2048, .i32⟩) main_call0_call0_call0_v14) (TRef.of (T := ⟨S8192x2048, .i32⟩) main_call0_call0_call0_v15) Host.shli,
    TRef.nullary (TRef.of (T := ⟨S_, .i32⟩) main_call0_call0_call0_c_3) (constantI S_ 32 17#32),
    TRef.unary (TRef.of (T := ⟨S_, .i32⟩) main_call0_call0_call0_c_3) (TRef.of (T := ⟨S8192x2048, .i32⟩) main_call0_call0_call0_v16) (broadcastInDim S8192x2048 ![] bcast_S_S8192x2048),
    TRef.binary (TRef.of (T := ⟨S8192x2048, .i32⟩) main_call0_call0_call0_v12) (TRef.of (T := ⟨S8192x2048, .i32⟩) main_call0_call0_call0_v16) (TRef.of (T := ⟨S8192x2048, .i32⟩) main_call0_call0_call0_v17) Host.shrui,
    TRef.binary (TRef.of (T := ⟨S8192x2048, .i32⟩) main_call0_call0_call0_v15) (TRef.of (T := ⟨S8192x2048, .i32⟩) main_call0_call0_call0_v17) (TRef.of (T := ⟨S8192x2048, .i32⟩) main_call0_call0_call0_v18) ori,
    TRef.binary (TRef.of (T := ⟨S8192x2048, .i32⟩) main_call0_call0_call0_v13) (TRef.of (T := ⟨S8192x2048, .i32⟩) main_call0_call0_call0_v18) (TRef.of (T := ⟨S8192x2048, .i32⟩) main_call0_call0_call0_v19) xori,
    TRef.binary (TRef.of (T := ⟨S8192x2048, .i32⟩) main_call0_call0_call0_v13) (TRef.of (T := ⟨S8192x2048, .i32⟩) main_call0_call0_call0_v19) (TRef.of (T := ⟨S8192x2048, .i32⟩) main_call0_call0_call0_v20) addi,
    TRef.nullary (TRef.of (T := ⟨S_, .i32⟩) main_call0_call0_call0_c_4) (constantI S_ 32 26#32),
    TRef.unary (TRef.of (T := ⟨S_, .i32⟩) main_call0_call0_call0_c_4) (TRef.of (T := ⟨S8192x2048, .i32⟩) main_call0_call0_call0_v21) (broadcastInDim S8192x2048 ![] bcast_S_S8192x2048),
    TRef.binary (TRef.of (T := ⟨S8192x2048, .i32⟩) main_call0_call0_call0_v19) (TRef.of (T := ⟨S8192x2048, .i32⟩) main_call0_call0_call0_v21) (TRef.of (T := ⟨S8192x2048, .i32⟩) main_call0_call0_call0_v22) Host.shli,
    TRef.nullary (TRef.of (T := ⟨S_, .i32⟩) main_call0_call0_call0_c_5) (constantI S_ 32 6#32) ]

/-- @main's operations 91 … 120 of 325 (@main, which the printer did not cut). -/
abbrev ops_3 : List (HloOp τ sig (Elt F)) :=
  [ TRef.unary (TRef.of (T := ⟨S_, .i32⟩) main_call0_call0_call0_c_5) (TRef.of (T := ⟨S8192x2048, .i32⟩) main_call0_call0_call0_v23) (broadcastInDim S8192x2048 ![] bcast_S_S8192x2048),
    TRef.binary (TRef.of (T := ⟨S8192x2048, .i32⟩) main_call0_call0_call0_v19) (TRef.of (T := ⟨S8192x2048, .i32⟩) main_call0_call0_call0_v23) (TRef.of (T := ⟨S8192x2048, .i32⟩) main_call0_call0_call0_v24) Host.shrui,
    TRef.binary (TRef.of (T := ⟨S8192x2048, .i32⟩) main_call0_call0_call0_v22) (TRef.of (T := ⟨S8192x2048, .i32⟩) main_call0_call0_call0_v24) (TRef.of (T := ⟨S8192x2048, .i32⟩) main_call0_call0_call0_v25) ori,
    TRef.binary (TRef.of (T := ⟨S8192x2048, .i32⟩) main_call0_call0_call0_v20) (TRef.of (T := ⟨S8192x2048, .i32⟩) main_call0_call0_call0_v25) (TRef.of (T := ⟨S8192x2048, .i32⟩) main_call0_call0_call0_v26) xori,
    TRef.binary (TRef.of (T := ⟨S8192x2048, .i32⟩) main_call0_call0_call0_v20) (TRef.of (T := ⟨S8192x2048, .i32⟩) main_call0_call0_call0_v26) (TRef.of (T := ⟨S8192x2048, .i32⟩) main_call0_call0_call0_v27) addi,
    TRef.nullary (TRef.of (T := ⟨S_, .i32⟩) main_call0_call0_call0_c_6) (constantI S_ 32 6#32),
    TRef.unary (TRef.of (T := ⟨S_, .i32⟩) main_call0_call0_call0_c_6) (TRef.of (T := ⟨S8192x2048, .i32⟩) main_call0_call0_call0_v28) (broadcastInDim S8192x2048 ![] bcast_S_S8192x2048),
    TRef.binary (TRef.of (T := ⟨S8192x2048, .i32⟩) main_call0_call0_call0_v26) (TRef.of (T := ⟨S8192x2048, .i32⟩) main_call0_call0_call0_v28) (TRef.of (T := ⟨S8192x2048, .i32⟩) main_call0_call0_call0_v29) Host.shli,
    TRef.nullary (TRef.of (T := ⟨S_, .i32⟩) main_call0_call0_call0_c_7) (constantI S_ 32 26#32),
    TRef.unary (TRef.of (T := ⟨S_, .i32⟩) main_call0_call0_call0_c_7) (TRef.of (T := ⟨S8192x2048, .i32⟩) main_call0_call0_call0_v30) (broadcastInDim S8192x2048 ![] bcast_S_S8192x2048),
    TRef.binary (TRef.of (T := ⟨S8192x2048, .i32⟩) main_call0_call0_call0_v26) (TRef.of (T := ⟨S8192x2048, .i32⟩) main_call0_call0_call0_v30) (TRef.of (T := ⟨S8192x2048, .i32⟩) main_call0_call0_call0_v31) Host.shrui,
    TRef.binary (TRef.of (T := ⟨S8192x2048, .i32⟩) main_call0_call0_call0_v29) (TRef.of (T := ⟨S8192x2048, .i32⟩) main_call0_call0_call0_v31) (TRef.of (T := ⟨S8192x2048, .i32⟩) main_call0_call0_call0_v32) ori,
    TRef.binary (TRef.of (T := ⟨S8192x2048, .i32⟩) main_call0_call0_call0_v27) (TRef.of (T := ⟨S8192x2048, .i32⟩) main_call0_call0_call0_v32) (TRef.of (T := ⟨S8192x2048, .i32⟩) main_call0_call0_call0_v33) xori,
    TRef.unary (TRef.of (T := ⟨S_, .i32⟩) main_call0_call0_v7) (TRef.of (T := ⟨S8192x2048, .i32⟩) main_call0_call0_call0_v34) (broadcastInDim S8192x2048 ![] bcast_S_S8192x2048),
    TRef.binary (TRef.of (T := ⟨S8192x2048, .i32⟩) main_call0_call0_call0_v27) (TRef.of (T := ⟨S8192x2048, .i32⟩) main_call0_call0_call0_v34) (TRef.of (T := ⟨S8192x2048, .i32⟩) main_call0_call0_call0_v35) addi,
    TRef.unary (TRef.of (T := ⟨S_, .i32⟩) main_call0_call0_call0_v1) (TRef.of (T := ⟨S8192x2048, .i32⟩) main_call0_call0_call0_v36) (broadcastInDim S8192x2048 ![] bcast_S_S8192x2048),
    TRef.binary (TRef.of (T := ⟨S8192x2048, .i32⟩) main_call0_call0_call0_v33) (TRef.of (T := ⟨S8192x2048, .i32⟩) main_call0_call0_call0_v36) (TRef.of (T := ⟨S8192x2048, .i32⟩) main_call0_call0_call0_v37) addi,
    TRef.nullary (TRef.of (T := ⟨S_, .i32⟩) main_call0_call0_call0_c_8) (constantI S_ 32 1#32),
    TRef.unary (TRef.of (T := ⟨S_, .i32⟩) main_call0_call0_call0_c_8) (TRef.of (T := ⟨S8192x2048, .i32⟩) main_call0_call0_call0_v38) (broadcastInDim S8192x2048 ![] bcast_S_S8192x2048),
    TRef.binary (TRef.of (T := ⟨S8192x2048, .i32⟩) main_call0_call0_call0_v37) (TRef.of (T := ⟨S8192x2048, .i32⟩) main_call0_call0_call0_v38) (TRef.of (T := ⟨S8192x2048, .i32⟩) main_call0_call0_call0_v39) addi,
    TRef.binary (TRef.of (T := ⟨S8192x2048, .i32⟩) main_call0_call0_call0_v35) (TRef.of (T := ⟨S8192x2048, .i32⟩) main_call0_call0_call0_v39) (TRef.of (T := ⟨S8192x2048, .i32⟩) main_call0_call0_call0_v40) addi,
    TRef.nullary (TRef.of (T := ⟨S_, .i32⟩) main_call0_call0_call0_c_9) (constantI S_ 32 17#32),
    TRef.unary (TRef.of (T := ⟨S_, .i32⟩) main_call0_call0_call0_c_9) (TRef.of (T := ⟨S8192x2048, .i32⟩) main_call0_call0_call0_v41) (broadcastInDim S8192x2048 ![] bcast_S_S8192x2048),
    TRef.binary (TRef.of (T := ⟨S8192x2048, .i32⟩) main_call0_call0_call0_v39) (TRef.of (T := ⟨S8192x2048, .i32⟩) main_call0_call0_call0_v41) (TRef.of (T := ⟨S8192x2048, .i32⟩) main_call0_call0_call0_v42) Host.shli,
    TRef.nullary (TRef.of (T := ⟨S_, .i32⟩) main_call0_call0_call0_c_10) (constantI S_ 32 15#32),
    TRef.unary (TRef.of (T := ⟨S_, .i32⟩) main_call0_call0_call0_c_10) (TRef.of (T := ⟨S8192x2048, .i32⟩) main_call0_call0_call0_v43) (broadcastInDim S8192x2048 ![] bcast_S_S8192x2048),
    TRef.binary (TRef.of (T := ⟨S8192x2048, .i32⟩) main_call0_call0_call0_v39) (TRef.of (T := ⟨S8192x2048, .i32⟩) main_call0_call0_call0_v43) (TRef.of (T := ⟨S8192x2048, .i32⟩) main_call0_call0_call0_v44) Host.shrui,
    TRef.binary (TRef.of (T := ⟨S8192x2048, .i32⟩) main_call0_call0_call0_v42) (TRef.of (T := ⟨S8192x2048, .i32⟩) main_call0_call0_call0_v44) (TRef.of (T := ⟨S8192x2048, .i32⟩) main_call0_call0_call0_v45) ori,
    TRef.binary (TRef.of (T := ⟨S8192x2048, .i32⟩) main_call0_call0_call0_v40) (TRef.of (T := ⟨S8192x2048, .i32⟩) main_call0_call0_call0_v45) (TRef.of (T := ⟨S8192x2048, .i32⟩) main_call0_call0_call0_v46) xori,
    TRef.binary (TRef.of (T := ⟨S8192x2048, .i32⟩) main_call0_call0_call0_v40) (TRef.of (T := ⟨S8192x2048, .i32⟩) main_call0_call0_call0_v46) (TRef.of (T := ⟨S8192x2048, .i32⟩) main_call0_call0_call0_v47) addi ]

/-- @main's operations 121 … 150 of 325 (@main, which the printer did not cut). -/
abbrev ops_4 : List (HloOp τ sig (Elt F)) :=
  [ TRef.nullary (TRef.of (T := ⟨S_, .i32⟩) main_call0_call0_call0_c_11) (constantI S_ 32 29#32),
    TRef.unary (TRef.of (T := ⟨S_, .i32⟩) main_call0_call0_call0_c_11) (TRef.of (T := ⟨S8192x2048, .i32⟩) main_call0_call0_call0_v48) (broadcastInDim S8192x2048 ![] bcast_S_S8192x2048),
    TRef.binary (TRef.of (T := ⟨S8192x2048, .i32⟩) main_call0_call0_call0_v46) (TRef.of (T := ⟨S8192x2048, .i32⟩) main_call0_call0_call0_v48) (TRef.of (T := ⟨S8192x2048, .i32⟩) main_call0_call0_call0_v49) Host.shli,
    TRef.nullary (TRef.of (T := ⟨S_, .i32⟩) main_call0_call0_call0_c_12) (constantI S_ 32 3#32),
    TRef.unary (TRef.of (T := ⟨S_, .i32⟩) main_call0_call0_call0_c_12) (TRef.of (T := ⟨S8192x2048, .i32⟩) main_call0_call0_call0_v50) (broadcastInDim S8192x2048 ![] bcast_S_S8192x2048),
    TRef.binary (TRef.of (T := ⟨S8192x2048, .i32⟩) main_call0_call0_call0_v46) (TRef.of (T := ⟨S8192x2048, .i32⟩) main_call0_call0_call0_v50) (TRef.of (T := ⟨S8192x2048, .i32⟩) main_call0_call0_call0_v51) Host.shrui,
    TRef.binary (TRef.of (T := ⟨S8192x2048, .i32⟩) main_call0_call0_call0_v49) (TRef.of (T := ⟨S8192x2048, .i32⟩) main_call0_call0_call0_v51) (TRef.of (T := ⟨S8192x2048, .i32⟩) main_call0_call0_call0_v52) ori,
    TRef.binary (TRef.of (T := ⟨S8192x2048, .i32⟩) main_call0_call0_call0_v47) (TRef.of (T := ⟨S8192x2048, .i32⟩) main_call0_call0_call0_v52) (TRef.of (T := ⟨S8192x2048, .i32⟩) main_call0_call0_call0_v53) xori,
    TRef.binary (TRef.of (T := ⟨S8192x2048, .i32⟩) main_call0_call0_call0_v47) (TRef.of (T := ⟨S8192x2048, .i32⟩) main_call0_call0_call0_v53) (TRef.of (T := ⟨S8192x2048, .i32⟩) main_call0_call0_call0_v54) addi,
    TRef.nullary (TRef.of (T := ⟨S_, .i32⟩) main_call0_call0_call0_c_13) (constantI S_ 32 16#32),
    TRef.unary (TRef.of (T := ⟨S_, .i32⟩) main_call0_call0_call0_c_13) (TRef.of (T := ⟨S8192x2048, .i32⟩) main_call0_call0_call0_v55) (broadcastInDim S8192x2048 ![] bcast_S_S8192x2048),
    TRef.binary (TRef.of (T := ⟨S8192x2048, .i32⟩) main_call0_call0_call0_v53) (TRef.of (T := ⟨S8192x2048, .i32⟩) main_call0_call0_call0_v55) (TRef.of (T := ⟨S8192x2048, .i32⟩) main_call0_call0_call0_v56) Host.shli,
    TRef.nullary (TRef.of (T := ⟨S_, .i32⟩) main_call0_call0_call0_c_14) (constantI S_ 32 16#32),
    TRef.unary (TRef.of (T := ⟨S_, .i32⟩) main_call0_call0_call0_c_14) (TRef.of (T := ⟨S8192x2048, .i32⟩) main_call0_call0_call0_v57) (broadcastInDim S8192x2048 ![] bcast_S_S8192x2048),
    TRef.binary (TRef.of (T := ⟨S8192x2048, .i32⟩) main_call0_call0_call0_v53) (TRef.of (T := ⟨S8192x2048, .i32⟩) main_call0_call0_call0_v57) (TRef.of (T := ⟨S8192x2048, .i32⟩) main_call0_call0_call0_v58) Host.shrui,
    TRef.binary (TRef.of (T := ⟨S8192x2048, .i32⟩) main_call0_call0_call0_v56) (TRef.of (T := ⟨S8192x2048, .i32⟩) main_call0_call0_call0_v58) (TRef.of (T := ⟨S8192x2048, .i32⟩) main_call0_call0_call0_v59) ori,
    TRef.binary (TRef.of (T := ⟨S8192x2048, .i32⟩) main_call0_call0_call0_v54) (TRef.of (T := ⟨S8192x2048, .i32⟩) main_call0_call0_call0_v59) (TRef.of (T := ⟨S8192x2048, .i32⟩) main_call0_call0_call0_v60) xori,
    TRef.binary (TRef.of (T := ⟨S8192x2048, .i32⟩) main_call0_call0_call0_v54) (TRef.of (T := ⟨S8192x2048, .i32⟩) main_call0_call0_call0_v60) (TRef.of (T := ⟨S8192x2048, .i32⟩) main_call0_call0_call0_v61) addi,
    TRef.nullary (TRef.of (T := ⟨S_, .i32⟩) main_call0_call0_call0_c_15) (constantI S_ 32 24#32),
    TRef.unary (TRef.of (T := ⟨S_, .i32⟩) main_call0_call0_call0_c_15) (TRef.of (T := ⟨S8192x2048, .i32⟩) main_call0_call0_call0_v62) (broadcastInDim S8192x2048 ![] bcast_S_S8192x2048),
    TRef.binary (TRef.of (T := ⟨S8192x2048, .i32⟩) main_call0_call0_call0_v60) (TRef.of (T := ⟨S8192x2048, .i32⟩) main_call0_call0_call0_v62) (TRef.of (T := ⟨S8192x2048, .i32⟩) main_call0_call0_call0_v63) Host.shli,
    TRef.nullary (TRef.of (T := ⟨S_, .i32⟩) main_call0_call0_call0_c_16) (constantI S_ 32 8#32),
    TRef.unary (TRef.of (T := ⟨S_, .i32⟩) main_call0_call0_call0_c_16) (TRef.of (T := ⟨S8192x2048, .i32⟩) main_call0_call0_call0_v64) (broadcastInDim S8192x2048 ![] bcast_S_S8192x2048),
    TRef.binary (TRef.of (T := ⟨S8192x2048, .i32⟩) main_call0_call0_call0_v60) (TRef.of (T := ⟨S8192x2048, .i32⟩) main_call0_call0_call0_v64) (TRef.of (T := ⟨S8192x2048, .i32⟩) main_call0_call0_call0_v65) Host.shrui,
    TRef.binary (TRef.of (T := ⟨S8192x2048, .i32⟩) main_call0_call0_call0_v63) (TRef.of (T := ⟨S8192x2048, .i32⟩) main_call0_call0_call0_v65) (TRef.of (T := ⟨S8192x2048, .i32⟩) main_call0_call0_call0_v66) ori,
    TRef.binary (TRef.of (T := ⟨S8192x2048, .i32⟩) main_call0_call0_call0_v61) (TRef.of (T := ⟨S8192x2048, .i32⟩) main_call0_call0_call0_v66) (TRef.of (T := ⟨S8192x2048, .i32⟩) main_call0_call0_call0_v67) xori,
    TRef.unary (TRef.of (T := ⟨S_, .i32⟩) main_call0_call0_call0_v1) (TRef.of (T := ⟨S8192x2048, .i32⟩) main_call0_call0_call0_v68) (broadcastInDim S8192x2048 ![] bcast_S_S8192x2048),
    TRef.binary (TRef.of (T := ⟨S8192x2048, .i32⟩) main_call0_call0_call0_v61) (TRef.of (T := ⟨S8192x2048, .i32⟩) main_call0_call0_call0_v68) (TRef.of (T := ⟨S8192x2048, .i32⟩) main_call0_call0_call0_v69) addi,
    TRef.unary (TRef.of (T := ⟨S_, .i32⟩) main_call0_call0_v5) (TRef.of (T := ⟨S8192x2048, .i32⟩) main_call0_call0_call0_v70) (broadcastInDim S8192x2048 ![] bcast_S_S8192x2048),
    TRef.binary (TRef.of (T := ⟨S8192x2048, .i32⟩) main_call0_call0_call0_v67) (TRef.of (T := ⟨S8192x2048, .i32⟩) main_call0_call0_call0_v70) (TRef.of (T := ⟨S8192x2048, .i32⟩) main_call0_call0_call0_v71) addi ]

/-- @main's operations 151 … 180 of 325 (@main, which the printer did not cut). -/
abbrev ops_5 : List (HloOp τ sig (Elt F)) :=
  [ TRef.nullary (TRef.of (T := ⟨S_, .i32⟩) main_call0_call0_call0_c_17) (constantI S_ 32 2#32),
    TRef.unary (TRef.of (T := ⟨S_, .i32⟩) main_call0_call0_call0_c_17) (TRef.of (T := ⟨S8192x2048, .i32⟩) main_call0_call0_call0_v72) (broadcastInDim S8192x2048 ![] bcast_S_S8192x2048),
    TRef.binary (TRef.of (T := ⟨S8192x2048, .i32⟩) main_call0_call0_call0_v71) (TRef.of (T := ⟨S8192x2048, .i32⟩) main_call0_call0_call0_v72) (TRef.of (T := ⟨S8192x2048, .i32⟩) main_call0_call0_call0_v73) addi,
    TRef.binary (TRef.of (T := ⟨S8192x2048, .i32⟩) main_call0_call0_call0_v69) (TRef.of (T := ⟨S8192x2048, .i32⟩) main_call0_call0_call0_v73) (TRef.of (T := ⟨S8192x2048, .i32⟩) main_call0_call0_call0_v74) addi,
    TRef.nullary (TRef.of (T := ⟨S_, .i32⟩) main_call0_call0_call0_c_18) (constantI S_ 32 13#32),
    TRef.unary (TRef.of (T := ⟨S_, .i32⟩) main_call0_call0_call0_c_18) (TRef.of (T := ⟨S8192x2048, .i32⟩) main_call0_call0_call0_v75) (broadcastInDim S8192x2048 ![] bcast_S_S8192x2048),
    TRef.binary (TRef.of (T := ⟨S8192x2048, .i32⟩) main_call0_call0_call0_v73) (TRef.of (T := ⟨S8192x2048, .i32⟩) main_call0_call0_call0_v75) (TRef.of (T := ⟨S8192x2048, .i32⟩) main_call0_call0_call0_v76) Host.shli,
    TRef.nullary (TRef.of (T := ⟨S_, .i32⟩) main_call0_call0_call0_c_19) (constantI S_ 32 19#32),
    TRef.unary (TRef.of (T := ⟨S_, .i32⟩) main_call0_call0_call0_c_19) (TRef.of (T := ⟨S8192x2048, .i32⟩) main_call0_call0_call0_v77) (broadcastInDim S8192x2048 ![] bcast_S_S8192x2048),
    TRef.binary (TRef.of (T := ⟨S8192x2048, .i32⟩) main_call0_call0_call0_v73) (TRef.of (T := ⟨S8192x2048, .i32⟩) main_call0_call0_call0_v77) (TRef.of (T := ⟨S8192x2048, .i32⟩) main_call0_call0_call0_v78) Host.shrui,
    TRef.binary (TRef.of (T := ⟨S8192x2048, .i32⟩) main_call0_call0_call0_v76) (TRef.of (T := ⟨S8192x2048, .i32⟩) main_call0_call0_call0_v78) (TRef.of (T := ⟨S8192x2048, .i32⟩) main_call0_call0_call0_v79) ori,
    TRef.binary (TRef.of (T := ⟨S8192x2048, .i32⟩) main_call0_call0_call0_v74) (TRef.of (T := ⟨S8192x2048, .i32⟩) main_call0_call0_call0_v79) (TRef.of (T := ⟨S8192x2048, .i32⟩) main_call0_call0_call0_v80) xori,
    TRef.binary (TRef.of (T := ⟨S8192x2048, .i32⟩) main_call0_call0_call0_v74) (TRef.of (T := ⟨S8192x2048, .i32⟩) main_call0_call0_call0_v80) (TRef.of (T := ⟨S8192x2048, .i32⟩) main_call0_call0_call0_v81) addi,
    TRef.nullary (TRef.of (T := ⟨S_, .i32⟩) main_call0_call0_call0_c_20) (constantI S_ 32 15#32),
    TRef.unary (TRef.of (T := ⟨S_, .i32⟩) main_call0_call0_call0_c_20) (TRef.of (T := ⟨S8192x2048, .i32⟩) main_call0_call0_call0_v82) (broadcastInDim S8192x2048 ![] bcast_S_S8192x2048),
    TRef.binary (TRef.of (T := ⟨S8192x2048, .i32⟩) main_call0_call0_call0_v80) (TRef.of (T := ⟨S8192x2048, .i32⟩) main_call0_call0_call0_v82) (TRef.of (T := ⟨S8192x2048, .i32⟩) main_call0_call0_call0_v83) Host.shli,
    TRef.nullary (TRef.of (T := ⟨S_, .i32⟩) main_call0_call0_call0_c_21) (constantI S_ 32 17#32),
    TRef.unary (TRef.of (T := ⟨S_, .i32⟩) main_call0_call0_call0_c_21) (TRef.of (T := ⟨S8192x2048, .i32⟩) main_call0_call0_call0_v84) (broadcastInDim S8192x2048 ![] bcast_S_S8192x2048),
    TRef.binary (TRef.of (T := ⟨S8192x2048, .i32⟩) main_call0_call0_call0_v80) (TRef.of (T := ⟨S8192x2048, .i32⟩) main_call0_call0_call0_v84) (TRef.of (T := ⟨S8192x2048, .i32⟩) main_call0_call0_call0_v85) Host.shrui,
    TRef.binary (TRef.of (T := ⟨S8192x2048, .i32⟩) main_call0_call0_call0_v83) (TRef.of (T := ⟨S8192x2048, .i32⟩) main_call0_call0_call0_v85) (TRef.of (T := ⟨S8192x2048, .i32⟩) main_call0_call0_call0_v86) ori,
    TRef.binary (TRef.of (T := ⟨S8192x2048, .i32⟩) main_call0_call0_call0_v81) (TRef.of (T := ⟨S8192x2048, .i32⟩) main_call0_call0_call0_v86) (TRef.of (T := ⟨S8192x2048, .i32⟩) main_call0_call0_call0_v87) xori,
    TRef.binary (TRef.of (T := ⟨S8192x2048, .i32⟩) main_call0_call0_call0_v81) (TRef.of (T := ⟨S8192x2048, .i32⟩) main_call0_call0_call0_v87) (TRef.of (T := ⟨S8192x2048, .i32⟩) main_call0_call0_call0_v88) addi,
    TRef.nullary (TRef.of (T := ⟨S_, .i32⟩) main_call0_call0_call0_c_22) (constantI S_ 32 26#32),
    TRef.unary (TRef.of (T := ⟨S_, .i32⟩) main_call0_call0_call0_c_22) (TRef.of (T := ⟨S8192x2048, .i32⟩) main_call0_call0_call0_v89) (broadcastInDim S8192x2048 ![] bcast_S_S8192x2048),
    TRef.binary (TRef.of (T := ⟨S8192x2048, .i32⟩) main_call0_call0_call0_v87) (TRef.of (T := ⟨S8192x2048, .i32⟩) main_call0_call0_call0_v89) (TRef.of (T := ⟨S8192x2048, .i32⟩) main_call0_call0_call0_v90) Host.shli,
    TRef.nullary (TRef.of (T := ⟨S_, .i32⟩) main_call0_call0_call0_c_23) (constantI S_ 32 6#32),
    TRef.unary (TRef.of (T := ⟨S_, .i32⟩) main_call0_call0_call0_c_23) (TRef.of (T := ⟨S8192x2048, .i32⟩) main_call0_call0_call0_v91) (broadcastInDim S8192x2048 ![] bcast_S_S8192x2048),
    TRef.binary (TRef.of (T := ⟨S8192x2048, .i32⟩) main_call0_call0_call0_v87) (TRef.of (T := ⟨S8192x2048, .i32⟩) main_call0_call0_call0_v91) (TRef.of (T := ⟨S8192x2048, .i32⟩) main_call0_call0_call0_v92) Host.shrui,
    TRef.binary (TRef.of (T := ⟨S8192x2048, .i32⟩) main_call0_call0_call0_v90) (TRef.of (T := ⟨S8192x2048, .i32⟩) main_call0_call0_call0_v92) (TRef.of (T := ⟨S8192x2048, .i32⟩) main_call0_call0_call0_v93) ori,
    TRef.binary (TRef.of (T := ⟨S8192x2048, .i32⟩) main_call0_call0_call0_v88) (TRef.of (T := ⟨S8192x2048, .i32⟩) main_call0_call0_call0_v93) (TRef.of (T := ⟨S8192x2048, .i32⟩) main_call0_call0_call0_v94) xori ]

/-- @main's operations 181 … 210 of 325 (@main, which the printer did not cut). -/
abbrev ops_6 : List (HloOp τ sig (Elt F)) :=
  [ TRef.binary (TRef.of (T := ⟨S8192x2048, .i32⟩) main_call0_call0_call0_v88) (TRef.of (T := ⟨S8192x2048, .i32⟩) main_call0_call0_call0_v94) (TRef.of (T := ⟨S8192x2048, .i32⟩) main_call0_call0_call0_v95) addi,
    TRef.nullary (TRef.of (T := ⟨S_, .i32⟩) main_call0_call0_call0_c_24) (constantI S_ 32 6#32),
    TRef.unary (TRef.of (T := ⟨S_, .i32⟩) main_call0_call0_call0_c_24) (TRef.of (T := ⟨S8192x2048, .i32⟩) main_call0_call0_call0_v96) (broadcastInDim S8192x2048 ![] bcast_S_S8192x2048),
    TRef.binary (TRef.of (T := ⟨S8192x2048, .i32⟩) main_call0_call0_call0_v94) (TRef.of (T := ⟨S8192x2048, .i32⟩) main_call0_call0_call0_v96) (TRef.of (T := ⟨S8192x2048, .i32⟩) main_call0_call0_call0_v97) Host.shli,
    TRef.nullary (TRef.of (T := ⟨S_, .i32⟩) main_call0_call0_call0_c_25) (constantI S_ 32 26#32),
    TRef.unary (TRef.of (T := ⟨S_, .i32⟩) main_call0_call0_call0_c_25) (TRef.of (T := ⟨S8192x2048, .i32⟩) main_call0_call0_call0_v98) (broadcastInDim S8192x2048 ![] bcast_S_S8192x2048),
    TRef.binary (TRef.of (T := ⟨S8192x2048, .i32⟩) main_call0_call0_call0_v94) (TRef.of (T := ⟨S8192x2048, .i32⟩) main_call0_call0_call0_v98) (TRef.of (T := ⟨S8192x2048, .i32⟩) main_call0_call0_call0_v99) Host.shrui,
    TRef.binary (TRef.of (T := ⟨S8192x2048, .i32⟩) main_call0_call0_call0_v97) (TRef.of (T := ⟨S8192x2048, .i32⟩) main_call0_call0_call0_v99) (TRef.of (T := ⟨S8192x2048, .i32⟩) main_call0_call0_call0_v100) ori,
    TRef.binary (TRef.of (T := ⟨S8192x2048, .i32⟩) main_call0_call0_call0_v95) (TRef.of (T := ⟨S8192x2048, .i32⟩) main_call0_call0_call0_v100) (TRef.of (T := ⟨S8192x2048, .i32⟩) main_call0_call0_call0_v101) xori,
    TRef.unary (TRef.of (T := ⟨S_, .i32⟩) main_call0_call0_v5) (TRef.of (T := ⟨S8192x2048, .i32⟩) main_call0_call0_call0_v102) (broadcastInDim S8192x2048 ![] bcast_S_S8192x2048),
    TRef.binary (TRef.of (T := ⟨S8192x2048, .i32⟩) main_call0_call0_call0_v95) (TRef.of (T := ⟨S8192x2048, .i32⟩) main_call0_call0_call0_v102) (TRef.of (T := ⟨S8192x2048, .i32⟩) main_call0_call0_call0_v103) addi,
    TRef.unary (TRef.of (T := ⟨S_, .i32⟩) main_call0_call0_v7) (TRef.of (T := ⟨S8192x2048, .i32⟩) main_call0_call0_call0_v104) (broadcastInDim S8192x2048 ![] bcast_S_S8192x2048),
    TRef.binary (TRef.of (T := ⟨S8192x2048, .i32⟩) main_call0_call0_call0_v101) (TRef.of (T := ⟨S8192x2048, .i32⟩) main_call0_call0_call0_v104) (TRef.of (T := ⟨S8192x2048, .i32⟩) main_call0_call0_call0_v105) addi,
    TRef.nullary (TRef.of (T := ⟨S_, .i32⟩) main_call0_call0_call0_c_26) (constantI S_ 32 3#32),
    TRef.unary (TRef.of (T := ⟨S_, .i32⟩) main_call0_call0_call0_c_26) (TRef.of (T := ⟨S8192x2048, .i32⟩) main_call0_call0_call0_v106) (broadcastInDim S8192x2048 ![] bcast_S_S8192x2048),
    TRef.binary (TRef.of (T := ⟨S8192x2048, .i32⟩) main_call0_call0_call0_v105) (TRef.of (T := ⟨S8192x2048, .i32⟩) main_call0_call0_call0_v106) (TRef.of (T := ⟨S8192x2048, .i32⟩) main_call0_call0_call0_v107) addi,
    TRef.binary (TRef.of (T := ⟨S8192x2048, .i32⟩) main_call0_call0_call0_v103) (TRef.of (T := ⟨S8192x2048, .i32⟩) main_call0_call0_call0_v107) (TRef.of (T := ⟨S8192x2048, .i32⟩) main_call0_call0_call0_v108) addi,
    TRef.nullary (TRef.of (T := ⟨S_, .i32⟩) main_call0_call0_call0_c_27) (constantI S_ 32 17#32),
    TRef.unary (TRef.of (T := ⟨S_, .i32⟩) main_call0_call0_call0_c_27) (TRef.of (T := ⟨S8192x2048, .i32⟩) main_call0_call0_call0_v109) (broadcastInDim S8192x2048 ![] bcast_S_S8192x2048),
    TRef.binary (TRef.of (T := ⟨S8192x2048, .i32⟩) main_call0_call0_call0_v107) (TRef.of (T := ⟨S8192x2048, .i32⟩) main_call0_call0_call0_v109) (TRef.of (T := ⟨S8192x2048, .i32⟩) main_call0_call0_call0_v110) Host.shli,
    TRef.nullary (TRef.of (T := ⟨S_, .i32⟩) main_call0_call0_call0_c_28) (constantI S_ 32 15#32),
    TRef.unary (TRef.of (T := ⟨S_, .i32⟩) main_call0_call0_call0_c_28) (TRef.of (T := ⟨S8192x2048, .i32⟩) main_call0_call0_call0_v111) (broadcastInDim S8192x2048 ![] bcast_S_S8192x2048),
    TRef.binary (TRef.of (T := ⟨S8192x2048, .i32⟩) main_call0_call0_call0_v107) (TRef.of (T := ⟨S8192x2048, .i32⟩) main_call0_call0_call0_v111) (TRef.of (T := ⟨S8192x2048, .i32⟩) main_call0_call0_call0_v112) Host.shrui,
    TRef.binary (TRef.of (T := ⟨S8192x2048, .i32⟩) main_call0_call0_call0_v110) (TRef.of (T := ⟨S8192x2048, .i32⟩) main_call0_call0_call0_v112) (TRef.of (T := ⟨S8192x2048, .i32⟩) main_call0_call0_call0_v113) ori,
    TRef.binary (TRef.of (T := ⟨S8192x2048, .i32⟩) main_call0_call0_call0_v108) (TRef.of (T := ⟨S8192x2048, .i32⟩) main_call0_call0_call0_v113) (TRef.of (T := ⟨S8192x2048, .i32⟩) main_call0_call0_call0_v114) xori,
    TRef.binary (TRef.of (T := ⟨S8192x2048, .i32⟩) main_call0_call0_call0_v108) (TRef.of (T := ⟨S8192x2048, .i32⟩) main_call0_call0_call0_v114) (TRef.of (T := ⟨S8192x2048, .i32⟩) main_call0_call0_call0_v115) addi,
    TRef.nullary (TRef.of (T := ⟨S_, .i32⟩) main_call0_call0_call0_c_29) (constantI S_ 32 29#32),
    TRef.unary (TRef.of (T := ⟨S_, .i32⟩) main_call0_call0_call0_c_29) (TRef.of (T := ⟨S8192x2048, .i32⟩) main_call0_call0_call0_v116) (broadcastInDim S8192x2048 ![] bcast_S_S8192x2048),
    TRef.binary (TRef.of (T := ⟨S8192x2048, .i32⟩) main_call0_call0_call0_v114) (TRef.of (T := ⟨S8192x2048, .i32⟩) main_call0_call0_call0_v116) (TRef.of (T := ⟨S8192x2048, .i32⟩) main_call0_call0_call0_v117) Host.shli,
    TRef.nullary (TRef.of (T := ⟨S_, .i32⟩) main_call0_call0_call0_c_30) (constantI S_ 32 3#32) ]

/-- @main's operations 211 … 240 of 325 (@main, which the printer did not cut). -/
abbrev ops_7 : List (HloOp τ sig (Elt F)) :=
  [ TRef.unary (TRef.of (T := ⟨S_, .i32⟩) main_call0_call0_call0_c_30) (TRef.of (T := ⟨S8192x2048, .i32⟩) main_call0_call0_call0_v118) (broadcastInDim S8192x2048 ![] bcast_S_S8192x2048),
    TRef.binary (TRef.of (T := ⟨S8192x2048, .i32⟩) main_call0_call0_call0_v114) (TRef.of (T := ⟨S8192x2048, .i32⟩) main_call0_call0_call0_v118) (TRef.of (T := ⟨S8192x2048, .i32⟩) main_call0_call0_call0_v119) Host.shrui,
    TRef.binary (TRef.of (T := ⟨S8192x2048, .i32⟩) main_call0_call0_call0_v117) (TRef.of (T := ⟨S8192x2048, .i32⟩) main_call0_call0_call0_v119) (TRef.of (T := ⟨S8192x2048, .i32⟩) main_call0_call0_call0_v120) ori,
    TRef.binary (TRef.of (T := ⟨S8192x2048, .i32⟩) main_call0_call0_call0_v115) (TRef.of (T := ⟨S8192x2048, .i32⟩) main_call0_call0_call0_v120) (TRef.of (T := ⟨S8192x2048, .i32⟩) main_call0_call0_call0_v121) xori,
    TRef.binary (TRef.of (T := ⟨S8192x2048, .i32⟩) main_call0_call0_call0_v115) (TRef.of (T := ⟨S8192x2048, .i32⟩) main_call0_call0_call0_v121) (TRef.of (T := ⟨S8192x2048, .i32⟩) main_call0_call0_call0_v122) addi,
    TRef.nullary (TRef.of (T := ⟨S_, .i32⟩) main_call0_call0_call0_c_31) (constantI S_ 32 16#32),
    TRef.unary (TRef.of (T := ⟨S_, .i32⟩) main_call0_call0_call0_c_31) (TRef.of (T := ⟨S8192x2048, .i32⟩) main_call0_call0_call0_v123) (broadcastInDim S8192x2048 ![] bcast_S_S8192x2048),
    TRef.binary (TRef.of (T := ⟨S8192x2048, .i32⟩) main_call0_call0_call0_v121) (TRef.of (T := ⟨S8192x2048, .i32⟩) main_call0_call0_call0_v123) (TRef.of (T := ⟨S8192x2048, .i32⟩) main_call0_call0_call0_v124) Host.shli,
    TRef.nullary (TRef.of (T := ⟨S_, .i32⟩) main_call0_call0_call0_c_32) (constantI S_ 32 16#32),
    TRef.unary (TRef.of (T := ⟨S_, .i32⟩) main_call0_call0_call0_c_32) (TRef.of (T := ⟨S8192x2048, .i32⟩) main_call0_call0_call0_v125) (broadcastInDim S8192x2048 ![] bcast_S_S8192x2048),
    TRef.binary (TRef.of (T := ⟨S8192x2048, .i32⟩) main_call0_call0_call0_v121) (TRef.of (T := ⟨S8192x2048, .i32⟩) main_call0_call0_call0_v125) (TRef.of (T := ⟨S8192x2048, .i32⟩) main_call0_call0_call0_v126) Host.shrui,
    TRef.binary (TRef.of (T := ⟨S8192x2048, .i32⟩) main_call0_call0_call0_v124) (TRef.of (T := ⟨S8192x2048, .i32⟩) main_call0_call0_call0_v126) (TRef.of (T := ⟨S8192x2048, .i32⟩) main_call0_call0_call0_v127) ori,
    TRef.binary (TRef.of (T := ⟨S8192x2048, .i32⟩) main_call0_call0_call0_v122) (TRef.of (T := ⟨S8192x2048, .i32⟩) main_call0_call0_call0_v127) (TRef.of (T := ⟨S8192x2048, .i32⟩) main_call0_call0_call0_v128) xori,
    TRef.binary (TRef.of (T := ⟨S8192x2048, .i32⟩) main_call0_call0_call0_v122) (TRef.of (T := ⟨S8192x2048, .i32⟩) main_call0_call0_call0_v128) (TRef.of (T := ⟨S8192x2048, .i32⟩) main_call0_call0_call0_v129) addi,
    TRef.nullary (TRef.of (T := ⟨S_, .i32⟩) main_call0_call0_call0_c_33) (constantI S_ 32 24#32),
    TRef.unary (TRef.of (T := ⟨S_, .i32⟩) main_call0_call0_call0_c_33) (TRef.of (T := ⟨S8192x2048, .i32⟩) main_call0_call0_call0_v130) (broadcastInDim S8192x2048 ![] bcast_S_S8192x2048),
    TRef.binary (TRef.of (T := ⟨S8192x2048, .i32⟩) main_call0_call0_call0_v128) (TRef.of (T := ⟨S8192x2048, .i32⟩) main_call0_call0_call0_v130) (TRef.of (T := ⟨S8192x2048, .i32⟩) main_call0_call0_call0_v131) Host.shli,
    TRef.nullary (TRef.of (T := ⟨S_, .i32⟩) main_call0_call0_call0_c_34) (constantI S_ 32 8#32),
    TRef.unary (TRef.of (T := ⟨S_, .i32⟩) main_call0_call0_call0_c_34) (TRef.of (T := ⟨S8192x2048, .i32⟩) main_call0_call0_call0_v132) (broadcastInDim S8192x2048 ![] bcast_S_S8192x2048),
    TRef.binary (TRef.of (T := ⟨S8192x2048, .i32⟩) main_call0_call0_call0_v128) (TRef.of (T := ⟨S8192x2048, .i32⟩) main_call0_call0_call0_v132) (TRef.of (T := ⟨S8192x2048, .i32⟩) main_call0_call0_call0_v133) Host.shrui,
    TRef.binary (TRef.of (T := ⟨S8192x2048, .i32⟩) main_call0_call0_call0_v131) (TRef.of (T := ⟨S8192x2048, .i32⟩) main_call0_call0_call0_v133) (TRef.of (T := ⟨S8192x2048, .i32⟩) main_call0_call0_call0_v134) ori,
    TRef.binary (TRef.of (T := ⟨S8192x2048, .i32⟩) main_call0_call0_call0_v129) (TRef.of (T := ⟨S8192x2048, .i32⟩) main_call0_call0_call0_v134) (TRef.of (T := ⟨S8192x2048, .i32⟩) main_call0_call0_call0_v135) xori,
    TRef.unary (TRef.of (T := ⟨S_, .i32⟩) main_call0_call0_v7) (TRef.of (T := ⟨S8192x2048, .i32⟩) main_call0_call0_call0_v136) (broadcastInDim S8192x2048 ![] bcast_S_S8192x2048),
    TRef.binary (TRef.of (T := ⟨S8192x2048, .i32⟩) main_call0_call0_call0_v129) (TRef.of (T := ⟨S8192x2048, .i32⟩) main_call0_call0_call0_v136) (TRef.of (T := ⟨S8192x2048, .i32⟩) main_call0_call0_call0_v137) addi,
    TRef.unary (TRef.of (T := ⟨S_, .i32⟩) main_call0_call0_call0_v1) (TRef.of (T := ⟨S8192x2048, .i32⟩) main_call0_call0_call0_v138) (broadcastInDim S8192x2048 ![] bcast_S_S8192x2048),
    TRef.binary (TRef.of (T := ⟨S8192x2048, .i32⟩) main_call0_call0_call0_v135) (TRef.of (T := ⟨S8192x2048, .i32⟩) main_call0_call0_call0_v138) (TRef.of (T := ⟨S8192x2048, .i32⟩) main_call0_call0_call0_v139) addi,
    TRef.nullary (TRef.of (T := ⟨S_, .i32⟩) main_call0_call0_call0_c_35) (constantI S_ 32 4#32),
    TRef.unary (TRef.of (T := ⟨S_, .i32⟩) main_call0_call0_call0_c_35) (TRef.of (T := ⟨S8192x2048, .i32⟩) main_call0_call0_call0_v140) (broadcastInDim S8192x2048 ![] bcast_S_S8192x2048),
    TRef.binary (TRef.of (T := ⟨S8192x2048, .i32⟩) main_call0_call0_call0_v139) (TRef.of (T := ⟨S8192x2048, .i32⟩) main_call0_call0_call0_v140) (TRef.of (T := ⟨S8192x2048, .i32⟩) main_call0_call0_call0_v141) addi,
    TRef.binary (TRef.of (T := ⟨S8192x2048, .i32⟩) main_call0_call0_call0_v137) (TRef.of (T := ⟨S8192x2048, .i32⟩) main_call0_call0_call0_v141) (TRef.of (T := ⟨S8192x2048, .i32⟩) main_call0_call0_call0_v142) addi ]

/-- @main's operations 241 … 270 of 325 (@main, which the printer did not cut). -/
abbrev ops_8 : List (HloOp τ sig (Elt F)) :=
  [ TRef.nullary (TRef.of (T := ⟨S_, .i32⟩) main_call0_call0_call0_c_36) (constantI S_ 32 13#32),
    TRef.unary (TRef.of (T := ⟨S_, .i32⟩) main_call0_call0_call0_c_36) (TRef.of (T := ⟨S8192x2048, .i32⟩) main_call0_call0_call0_v143) (broadcastInDim S8192x2048 ![] bcast_S_S8192x2048),
    TRef.binary (TRef.of (T := ⟨S8192x2048, .i32⟩) main_call0_call0_call0_v141) (TRef.of (T := ⟨S8192x2048, .i32⟩) main_call0_call0_call0_v143) (TRef.of (T := ⟨S8192x2048, .i32⟩) main_call0_call0_call0_v144) Host.shli,
    TRef.nullary (TRef.of (T := ⟨S_, .i32⟩) main_call0_call0_call0_c_37) (constantI S_ 32 19#32),
    TRef.unary (TRef.of (T := ⟨S_, .i32⟩) main_call0_call0_call0_c_37) (TRef.of (T := ⟨S8192x2048, .i32⟩) main_call0_call0_call0_v145) (broadcastInDim S8192x2048 ![] bcast_S_S8192x2048),
    TRef.binary (TRef.of (T := ⟨S8192x2048, .i32⟩) main_call0_call0_call0_v141) (TRef.of (T := ⟨S8192x2048, .i32⟩) main_call0_call0_call0_v145) (TRef.of (T := ⟨S8192x2048, .i32⟩) main_call0_call0_call0_v146) Host.shrui,
    TRef.binary (TRef.of (T := ⟨S8192x2048, .i32⟩) main_call0_call0_call0_v144) (TRef.of (T := ⟨S8192x2048, .i32⟩) main_call0_call0_call0_v146) (TRef.of (T := ⟨S8192x2048, .i32⟩) main_call0_call0_call0_v147) ori,
    TRef.binary (TRef.of (T := ⟨S8192x2048, .i32⟩) main_call0_call0_call0_v142) (TRef.of (T := ⟨S8192x2048, .i32⟩) main_call0_call0_call0_v147) (TRef.of (T := ⟨S8192x2048, .i32⟩) main_call0_call0_call0_v148) xori,
    TRef.binary (TRef.of (T := ⟨S8192x2048, .i32⟩) main_call0_call0_call0_v142) (TRef.of (T := ⟨S8192x2048, .i32⟩) main_call0_call0_call0_v148) (TRef.of (T := ⟨S8192x2048, .i32⟩) main_call0_call0_call0_v149) addi,
    TRef.nullary (TRef.of (T := ⟨S_, .i32⟩) main_call0_call0_call0_c_38) (constantI S_ 32 15#32),
    TRef.unary (TRef.of (T := ⟨S_, .i32⟩) main_call0_call0_call0_c_38) (TRef.of (T := ⟨S8192x2048, .i32⟩) main_call0_call0_call0_v150) (broadcastInDim S8192x2048 ![] bcast_S_S8192x2048),
    TRef.binary (TRef.of (T := ⟨S8192x2048, .i32⟩) main_call0_call0_call0_v148) (TRef.of (T := ⟨S8192x2048, .i32⟩) main_call0_call0_call0_v150) (TRef.of (T := ⟨S8192x2048, .i32⟩) main_call0_call0_call0_v151) Host.shli,
    TRef.nullary (TRef.of (T := ⟨S_, .i32⟩) main_call0_call0_call0_c_39) (constantI S_ 32 17#32),
    TRef.unary (TRef.of (T := ⟨S_, .i32⟩) main_call0_call0_call0_c_39) (TRef.of (T := ⟨S8192x2048, .i32⟩) main_call0_call0_call0_v152) (broadcastInDim S8192x2048 ![] bcast_S_S8192x2048),
    TRef.binary (TRef.of (T := ⟨S8192x2048, .i32⟩) main_call0_call0_call0_v148) (TRef.of (T := ⟨S8192x2048, .i32⟩) main_call0_call0_call0_v152) (TRef.of (T := ⟨S8192x2048, .i32⟩) main_call0_call0_call0_v153) Host.shrui,
    TRef.binary (TRef.of (T := ⟨S8192x2048, .i32⟩) main_call0_call0_call0_v151) (TRef.of (T := ⟨S8192x2048, .i32⟩) main_call0_call0_call0_v153) (TRef.of (T := ⟨S8192x2048, .i32⟩) main_call0_call0_call0_v154) ori,
    TRef.binary (TRef.of (T := ⟨S8192x2048, .i32⟩) main_call0_call0_call0_v149) (TRef.of (T := ⟨S8192x2048, .i32⟩) main_call0_call0_call0_v154) (TRef.of (T := ⟨S8192x2048, .i32⟩) main_call0_call0_call0_v155) xori,
    TRef.binary (TRef.of (T := ⟨S8192x2048, .i32⟩) main_call0_call0_call0_v149) (TRef.of (T := ⟨S8192x2048, .i32⟩) main_call0_call0_call0_v155) (TRef.of (T := ⟨S8192x2048, .i32⟩) main_call0_call0_call0_v156) addi,
    TRef.nullary (TRef.of (T := ⟨S_, .i32⟩) main_call0_call0_call0_c_40) (constantI S_ 32 26#32),
    TRef.unary (TRef.of (T := ⟨S_, .i32⟩) main_call0_call0_call0_c_40) (TRef.of (T := ⟨S8192x2048, .i32⟩) main_call0_call0_call0_v157) (broadcastInDim S8192x2048 ![] bcast_S_S8192x2048),
    TRef.binary (TRef.of (T := ⟨S8192x2048, .i32⟩) main_call0_call0_call0_v155) (TRef.of (T := ⟨S8192x2048, .i32⟩) main_call0_call0_call0_v157) (TRef.of (T := ⟨S8192x2048, .i32⟩) main_call0_call0_call0_v158) Host.shli,
    TRef.nullary (TRef.of (T := ⟨S_, .i32⟩) main_call0_call0_call0_c_41) (constantI S_ 32 6#32),
    TRef.unary (TRef.of (T := ⟨S_, .i32⟩) main_call0_call0_call0_c_41) (TRef.of (T := ⟨S8192x2048, .i32⟩) main_call0_call0_call0_v159) (broadcastInDim S8192x2048 ![] bcast_S_S8192x2048),
    TRef.binary (TRef.of (T := ⟨S8192x2048, .i32⟩) main_call0_call0_call0_v155) (TRef.of (T := ⟨S8192x2048, .i32⟩) main_call0_call0_call0_v159) (TRef.of (T := ⟨S8192x2048, .i32⟩) main_call0_call0_call0_v160) Host.shrui,
    TRef.binary (TRef.of (T := ⟨S8192x2048, .i32⟩) main_call0_call0_call0_v158) (TRef.of (T := ⟨S8192x2048, .i32⟩) main_call0_call0_call0_v160) (TRef.of (T := ⟨S8192x2048, .i32⟩) main_call0_call0_call0_v161) ori,
    TRef.binary (TRef.of (T := ⟨S8192x2048, .i32⟩) main_call0_call0_call0_v156) (TRef.of (T := ⟨S8192x2048, .i32⟩) main_call0_call0_call0_v161) (TRef.of (T := ⟨S8192x2048, .i32⟩) main_call0_call0_call0_v162) xori,
    TRef.binary (TRef.of (T := ⟨S8192x2048, .i32⟩) main_call0_call0_call0_v156) (TRef.of (T := ⟨S8192x2048, .i32⟩) main_call0_call0_call0_v162) (TRef.of (T := ⟨S8192x2048, .i32⟩) main_call0_call0_call0_v163) addi,
    TRef.nullary (TRef.of (T := ⟨S_, .i32⟩) main_call0_call0_call0_c_42) (constantI S_ 32 6#32),
    TRef.unary (TRef.of (T := ⟨S_, .i32⟩) main_call0_call0_call0_c_42) (TRef.of (T := ⟨S8192x2048, .i32⟩) main_call0_call0_call0_v164) (broadcastInDim S8192x2048 ![] bcast_S_S8192x2048),
    TRef.binary (TRef.of (T := ⟨S8192x2048, .i32⟩) main_call0_call0_call0_v162) (TRef.of (T := ⟨S8192x2048, .i32⟩) main_call0_call0_call0_v164) (TRef.of (T := ⟨S8192x2048, .i32⟩) main_call0_call0_call0_v165) Host.shli ]

/-- @main's operations 271 … 300 of 325 (@main, which the printer did not cut). -/
abbrev ops_9 : List (HloOp τ sig (Elt F)) :=
  [ TRef.nullary (TRef.of (T := ⟨S_, .i32⟩) main_call0_call0_call0_c_43) (constantI S_ 32 26#32),
    TRef.unary (TRef.of (T := ⟨S_, .i32⟩) main_call0_call0_call0_c_43) (TRef.of (T := ⟨S8192x2048, .i32⟩) main_call0_call0_call0_v166) (broadcastInDim S8192x2048 ![] bcast_S_S8192x2048),
    TRef.binary (TRef.of (T := ⟨S8192x2048, .i32⟩) main_call0_call0_call0_v162) (TRef.of (T := ⟨S8192x2048, .i32⟩) main_call0_call0_call0_v166) (TRef.of (T := ⟨S8192x2048, .i32⟩) main_call0_call0_call0_v167) Host.shrui,
    TRef.binary (TRef.of (T := ⟨S8192x2048, .i32⟩) main_call0_call0_call0_v165) (TRef.of (T := ⟨S8192x2048, .i32⟩) main_call0_call0_call0_v167) (TRef.of (T := ⟨S8192x2048, .i32⟩) main_call0_call0_call0_v168) ori,
    TRef.binary (TRef.of (T := ⟨S8192x2048, .i32⟩) main_call0_call0_call0_v163) (TRef.of (T := ⟨S8192x2048, .i32⟩) main_call0_call0_call0_v168) (TRef.of (T := ⟨S8192x2048, .i32⟩) main_call0_call0_call0_v169) xori,
    TRef.unary (TRef.of (T := ⟨S_, .i32⟩) main_call0_call0_call0_v1) (TRef.of (T := ⟨S8192x2048, .i32⟩) main_call0_call0_call0_v170) (broadcastInDim S8192x2048 ![] bcast_S_S8192x2048),
    TRef.binary (TRef.of (T := ⟨S8192x2048, .i32⟩) main_call0_call0_call0_v163) (TRef.of (T := ⟨S8192x2048, .i32⟩) main_call0_call0_call0_v170) (TRef.of (T := ⟨S8192x2048, .i32⟩) main_call0_call0_v19_0) addi,
    TRef.unary (TRef.of (T := ⟨S_, .i32⟩) main_call0_call0_v5) (TRef.of (T := ⟨S8192x2048, .i32⟩) main_call0_call0_call0_v172) (broadcastInDim S8192x2048 ![] bcast_S_S8192x2048),
    TRef.binary (TRef.of (T := ⟨S8192x2048, .i32⟩) main_call0_call0_call0_v169) (TRef.of (T := ⟨S8192x2048, .i32⟩) main_call0_call0_call0_v172) (TRef.of (T := ⟨S8192x2048, .i32⟩) main_call0_call0_call0_v173) addi,
    TRef.nullary (TRef.of (T := ⟨S_, .i32⟩) main_call0_call0_call0_c_44) (constantI S_ 32 5#32),
    TRef.unary (TRef.of (T := ⟨S_, .i32⟩) main_call0_call0_call0_c_44) (TRef.of (T := ⟨S8192x2048, .i32⟩) main_call0_call0_call0_v174) (broadcastInDim S8192x2048 ![] bcast_S_S8192x2048),
    TRef.binary (TRef.of (T := ⟨S8192x2048, .i32⟩) main_call0_call0_call0_v173) (TRef.of (T := ⟨S8192x2048, .i32⟩) main_call0_call0_call0_v174) (TRef.of (T := ⟨S8192x2048, .i32⟩) main_call0_call0_v19_1) addi,
    TRef.binary (TRef.of (T := ⟨S8192x2048, .i32⟩) main_call0_call0_v19_0) (TRef.of (T := ⟨S8192x2048, .i32⟩) main_call0_call0_v19_1) (TRef.of (T := ⟨S8192x2048, .i32⟩) main_call0_call0_v20) xori,
    TRef.nullary (TRef.of (T := ⟨S_, .i32⟩) main_call0_call0_c_2) (constantI S_ 32 9#32),
    TRef.unary (TRef.of (T := ⟨S_, .i32⟩) main_call0_call0_c_2) (TRef.of (T := ⟨S8192x2048, .i32⟩) main_call0_call0_v21) (broadcastInDim S8192x2048 ![] bcast_S_S8192x2048),
    TRef.binary (TRef.of (T := ⟨S8192x2048, .i32⟩) main_call0_call0_v20) (TRef.of (T := ⟨S8192x2048, .i32⟩) main_call0_call0_v21) (TRef.of (T := ⟨S8192x2048, .i32⟩) main_call0_call0_v22) Host.shrui,
    TRef.nullary (TRef.of (T := ⟨S_, .i32⟩) main_call0_call0_c_3) (constantI S_ 32 1065353216#32),
    TRef.unary (TRef.of (T := ⟨S_, .i32⟩) main_call0_call0_c_3) (TRef.of (T := ⟨S8192x2048, .i32⟩) main_call0_call0_v23) (broadcastInDim S8192x2048 ![] bcast_S_S8192x2048),
    TRef.binary (TRef.of (T := ⟨S8192x2048, .i32⟩) main_call0_call0_v22) (TRef.of (T := ⟨S8192x2048, .i32⟩) main_call0_call0_v23) (TRef.of (T := ⟨S8192x2048, .i32⟩) main_call0_call0_v24) ori,
    TRef.unary (TRef.of (T := ⟨S8192x2048, .i32⟩) main_call0_call0_v24) (TRef.of (T := ⟨S8192x2048, .f32⟩) main_call0_call0_v25) (bitcastToFloat (F := F) .f32),
    TRef.nullary (TRef.of (T := ⟨S_, .f32⟩) main_call0_call0_cst) (constant S_ .f32 0x3F800000#32),
    TRef.unary (TRef.of (T := ⟨S_, .f32⟩) main_call0_call0_cst) (TRef.of (T := ⟨S8192x2048, .f32⟩) main_call0_call0_v26) (broadcastInDim S8192x2048 ![] bcast_S_S8192x2048),
    TRef.binary (TRef.of (T := ⟨S8192x2048, .f32⟩) main_call0_call0_v25) (TRef.of (T := ⟨S8192x2048, .f32⟩) main_call0_call0_v26) (TRef.of (T := ⟨S8192x2048, .f32⟩) main_call0_call0_v27) subf,
    TRef.binary (TRef.of (T := ⟨S1x1, .f32⟩) main_call0_call0_v3) (TRef.of (T := ⟨S1x1, .f32⟩) main_call0_call0_v2) (TRef.of (T := ⟨S1x1, .f32⟩) main_call0_call0_v28) subf,
    TRef.unary (TRef.of (T := ⟨S1x1, .f32⟩) main_call0_call0_v28) (TRef.of (T := ⟨S8192x2048, .f32⟩) main_call0_call0_v29) (broadcastInDim S8192x2048 ![0, 1] bcast_S1x1_S8192x2048_0_1),
    TRef.binary (TRef.of (T := ⟨S8192x2048, .f32⟩) main_call0_call0_v27) (TRef.of (T := ⟨S8192x2048, .f32⟩) main_call0_call0_v29) (TRef.of (T := ⟨S8192x2048, .f32⟩) main_call0_call0_v30) mulf,
    TRef.unary (TRef.of (T := ⟨S1x1, .f32⟩) main_call0_call0_v2) (TRef.of (T := ⟨S8192x2048, .f32⟩) main_call0_call0_v31) (broadcastInDim S8192x2048 ![0, 1] bcast_S1x1_S8192x2048_0_1),
    TRef.binary (TRef.of (T := ⟨S8192x2048, .f32⟩) main_call0_call0_v30) (TRef.of (T := ⟨S8192x2048, .f32⟩) main_call0_call0_v31) (TRef.of (T := ⟨S8192x2048, .f32⟩) main_call0_call0_v32) addf,
    TRef.unary (TRef.of (T := ⟨S1x1, .f32⟩) main_call0_call0_v2) (TRef.of (T := ⟨S8192x2048, .f32⟩) main_call0_call0_v33) (broadcastInDim S8192x2048 ![0, 1] bcast_S1x1_S8192x2048_0_1),
    TRef.binary (TRef.of (T := ⟨S8192x2048, .f32⟩) main_call0_call0_v33) (TRef.of (T := ⟨S8192x2048, .f32⟩) main_call0_call0_v32) (TRef.of (T := ⟨S8192x2048, .f32⟩) main_call0_v0) maximumf ]

/-- @main's operations 301 … 325 of 325 (@main, which the printer did not cut). -/
abbrev ops_10 : List (HloOp τ sig (Elt F)) :=
  [ TRef.unary (TRef.of (T := ⟨S1x2048, .f32⟩) main_v25) (TRef.of (T := ⟨S8192x2048, .f32⟩) main_call0_v1) (broadcastInDim S8192x2048 ![0, 1] bcast_S1x2048_S8192x2048_0_1),
    TRef.binary (TRef.of (T := ⟨S8192x2048, .f32⟩) main_call0_v0) (TRef.of (T := ⟨S8192x2048, .f32⟩) main_call0_v1) (TRef.of (T := ⟨S8192x2048, .i1⟩) main_v26) (cmpf .olt),
    unary main_v26 main_v27 (uitofp .f32 : (⟨S8192x2048, .i1⟩ : BufTy).Contents (Elt F) → (⟨S8192x2048, .f32⟩ : BufTy).Contents (Elt F)),
    binary main_v10 main_v27 main_v28 (mulf : (⟨S8192x2048, .f32⟩ : BufTy).Contents (Elt F) → (⟨S8192x2048, .f32⟩ : BufTy).Contents (Elt F) → (⟨S8192x2048, .f32⟩ : BufTy).Contents (Elt F)),
    binary main_v28 main_v3 main_v29 ((fun l r => Host.dotGeneral dot_S8192x2048_S2048x768_S8192x768_1_0_0_1_n_n none l r) : (⟨S8192x2048, .f32⟩ : BufTy).Contents (Elt F) → (⟨S2048x768, .f32⟩ : BufTy).Contents (Elt F) → (⟨S8192x768, .f32⟩ : BufTy).Contents (Elt F)),
    unary main_v4 main_v30 (broadcastInDim S1x768 ![1] bcast_S768_S1x768_1 : (⟨S768, .f32⟩ : BufTy).Contents (Elt F) → (⟨S1x768, .f32⟩ : BufTy).Contents (Elt F)),
    unary main_v30 main_v31 (broadcastInDim S8192x768 ![0, 1] bcast_S1x768_S8192x768_0_1 : (⟨S1x768, .f32⟩ : BufTy).Contents (Elt F) → (⟨S8192x768, .f32⟩ : BufTy).Contents (Elt F)),
    binary main_v29 main_v31 main_v32 (addf : (⟨S8192x768, .f32⟩ : BufTy).Contents (Elt F) → (⟨S8192x768, .f32⟩ : BufTy).Contents (Elt F) → (⟨S8192x768, .f32⟩ : BufTy).Contents (Elt F)),
    binary main_v32 main_v5 main_v33 (addf : (⟨S8192x768, .f32⟩ : BufTy).Contents (Elt F) → (⟨S8192x768, .f32⟩ : BufTy).Contents (Elt F) → (⟨S8192x768, .f32⟩ : BufTy).Contents (Elt F)),
    nullary main_cst_8 (constant S_ .f32 0x00000000#32),
    unary main_cst_8 main_v34 (broadcastInDim S8192x768 ![] bcast_S_S8192x768 : (⟨S_, .f32⟩ : BufTy).Contents (Elt F) → (⟨S8192x768, .f32⟩ : BufTy).Contents (Elt F)),
    binary main_v6 main_v34 main_v35 (cmpf .oeq : (⟨S8192x768, .f32⟩ : BufTy).Contents (Elt F) → (⟨S8192x768, .f32⟩ : BufTy).Contents (Elt F) → (⟨S8192x768, .i1⟩ : BufTy).Contents (Elt F)),
    unary main_v35 main_v36 (noti : (⟨S8192x768, .i1⟩ : BufTy).Contents (Elt F) → (⟨S8192x768, .i1⟩ : BufTy).Contents (Elt F)),
    unary main_v36 main_v37 (uitofp .f32 : (⟨S8192x768, .i1⟩ : BufTy).Contents (Elt F) → (⟨S8192x768, .f32⟩ : BufTy).Contents (Elt F)),
    nullary main_cst_9 (constant S_ .f32 0x00000000#32),
    binary main_v37 main_cst_9 main_v38 ((fun x v => Host.reduceAdd x v reducesTo_S8192x768_S_d0_1 h_S_) : (⟨S8192x768, .f32⟩ : BufTy).Contents (Elt F) → (⟨S_, .f32⟩ : BufTy).Contents (Elt F) → (⟨S_, .f32⟩ : BufTy).Contents (Elt F)),
    binary main_v33 main_v6 main_v39 (subf : (⟨S8192x768, .f32⟩ : BufTy).Contents (Elt F) → (⟨S8192x768, .f32⟩ : BufTy).Contents (Elt F) → (⟨S8192x768, .f32⟩ : BufTy).Contents (Elt F)),
    binary main_v39 main_v39 main_v40 (mulf : (⟨S8192x768, .f32⟩ : BufTy).Contents (Elt F) → (⟨S8192x768, .f32⟩ : BufTy).Contents (Elt F) → (⟨S8192x768, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S8192x768, .f32⟩) main_call1_v1) (broadcastInDim S8192x768 ![] bcast_S_S8192x768),
    TRef.ternary (TRef.of (T := ⟨S8192x768, .i1⟩) main_v35) (TRef.of (T := ⟨S8192x768, .f32⟩) main_call1_v1) (TRef.of (T := ⟨S8192x768, .f32⟩) main_v40) (TRef.of (T := ⟨S8192x768, .f32⟩) main_v41) select,
    nullary main_cst_11 (constant S_ .f32 0x00000000#32),
    binary main_v41 main_cst_11 main_v42 ((fun x v => Host.reduceAdd x v reducesTo_S8192x768_S_d0_1 h_S_) : (⟨S8192x768, .f32⟩ : BufTy).Contents (Elt F) → (⟨S_, .f32⟩ : BufTy).Contents (Elt F) → (⟨S_, .f32⟩ : BufTy).Contents (Elt F)),
    binary main_v42 main_v38 main_v43 (Host.divf : (⟨S_, .f32⟩ : BufTy).Contents (Elt F) → (⟨S_, .f32⟩ : BufTy).Contents (Elt F) → (⟨S_, .f32⟩ : BufTy).Contents (Elt F)) ]

/-- @main's 325 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10))))))))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_0_sub : (ops_0 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_0_fresh : (ops_0 : List (HloOp τ sig (Elt F))).Forall fun op => op.fresh = ∅ :=
  by and_intros <;> rfl
theorem ops_1_sub : (ops_1 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_1_fresh : (ops_1 : List (HloOp τ sig (Elt F))).Forall fun op => op.fresh = ∅ :=
  by and_intros <;> rfl
theorem ops_2_sub : (ops_2 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_2_fresh : (ops_2 : List (HloOp τ sig (Elt F))).Forall fun op => op.fresh = ∅ :=
  by and_intros <;> rfl
theorem ops_3_sub : (ops_3 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_3_fresh : (ops_3 : List (HloOp τ sig (Elt F))).Forall fun op => op.fresh = ∅ :=
  by and_intros <;> rfl
theorem ops_4_sub : (ops_4 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_4_fresh : (ops_4 : List (HloOp τ sig (Elt F))).Forall fun op => op.fresh = ∅ :=
  by and_intros <;> rfl
theorem ops_5_sub : (ops_5 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_5_fresh : (ops_5 : List (HloOp τ sig (Elt F))).Forall fun op => op.fresh = ∅ :=
  by and_intros <;> rfl
theorem ops_6_sub : (ops_6 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_6_fresh : (ops_6 : List (HloOp τ sig (Elt F))).Forall fun op => op.fresh = ∅ :=
  by and_intros <;> rfl
theorem ops_7_sub : (ops_7 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_7_fresh : (ops_7 : List (HloOp τ sig (Elt F))).Forall fun op => op.fresh = ∅ :=
  by and_intros <;> rfl
theorem ops_8_sub : (ops_8 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_8_fresh : (ops_8 : List (HloOp τ sig (Elt F))).Forall fun op => op.fresh = ∅ :=
  by and_intros <;> rfl
theorem ops_9_sub : (ops_9 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_9_fresh : (ops_9 : List (HloOp τ sig (Elt F))).Forall fun op => op.fresh = ∅ :=
  by and_intros <;> rfl
theorem ops_10_sub : (ops_10 : List (HloOp τ sig (Elt F))).Forall fun op => op.bufs ⊆ tcRefs τ sig :=
  by simp only [List.Forall, TRef.nullary, TRef.unary, TRef.binary, TRef.ternary, unary_bufs_sub, binary_bufs_sub, nullary_bufs_sub, reshape_bufs_sub, ternary_bufs_sub, and_self]
theorem ops_10_fresh : (ops_10 : List (HloOp τ sig (Elt F))).Forall fun op => op.fresh = ∅ :=
  by and_intros <;> rfl
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h]
theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h]

end Cert.ReferenceAtIdeal.Value

end
-- ==== Proof.AtRun.lean ====
/- The run of the reference at the arguments of the counterexample: every weakly fair execution ends with the output at the operations' composed term of the argument. The list is read window by window; a term used more than once is named (`res_…`), and `val…_b` says what buffer `b` holds after a window. -/
module

public import proofs.«01_k».proof.Proof.AtOps

@[expose] public section

set_option Elab.async false
set_option maxRecDepth 8192
set_option maxHeartbeats 4000000

noncomputable section

namespace Cert.ReferenceAtIdeal.Value

open Cert.ReferenceAtIdeal Cert.ReferenceAtIdeal.Gen Idealize.ShloMosaic Idealize.ShloMosaic.TcCoe Idealize.SL.Sem Idealize.ShloMosaic.StableHlo

variable {F : FTy → Type} [FloatOps F] (V0 : Valuation τ sig (Elt F))

/-- What a buffer of the TensorCore holds. -/
abbrev Held (F : FTy → Type) (b : Ref sig .tc) : Type := (Proc.devRef .tc b : DevRef τ sig).ty.Contents (Elt F)

/-- A listed buffer is among the buffers of the list. -/
theorem writes_mem {W : List (Ref sig .tc)} {r : Ref sig .tc} (h : r ∈ W) :
    ({Proc.devRef .tc r} : Finset (DevRef τ sig)) ⊆ (W.map (Proc.devRef (τ := τ) .tc)).toFinset := by
  rw [Finset.singleton_subset_iff, List.mem_toFinset]
  exact List.mem_map_of_mem h

/-- `main_v5`'s composed term of the arguments (used 2 times). -/
def res_main_v5 (V0 : Valuation τ sig (Elt F)) : Held F main_v5 :=
  shapeCast _ (broadcastInDim S4x2048x768 ![] bcast_S_S4x2048x768 (constant S_ .f32 0x00000000#32)) shapeCasts_S4x2048x768_S8192x768

/-- `main_v6`'s composed term of the arguments (used 2 times). -/
def res_main_v6 (V0 : Valuation τ sig (Elt F)) : Held F main_v6 :=
  shapeCast _ (broadcastInDim S4x2048x768 ![] bcast_S_S4x2048x768 (constant S_ .f32 0x3F800000#32)) shapeCasts_S4x2048x768_S8192x768

/-- `main_v13`'s composed term of the arguments (used 2 times). -/
def res_main_v13 (V0 : Valuation τ sig (Elt F)) : Held F main_v13 :=
  Host.divf (sitofp .f32 (iotaInDim S2048 32 0)) (broadcastInDim S2048 ![] bcast_S_S2048 (constant S_ .f32 0x43D70000#32))

/-- `main_c`'s composed term of the arguments (used 2 times). -/
def res_main_c (V0 : Valuation τ sig (Elt F)) : Held F main_c :=
  constantI S_ 32 12345#32

/-- `main_v24`'s composed term of the arguments (used 2 times). -/
def res_main_v24 : Held F main_v24 :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

/-- `main_call0_call0_v2`'s composed term of the arguments (used 3 times). -/
def res_main_call0_call0_v2 (V0 : Valuation τ sig (Elt F)) : Held F main_call0_call0_v2 :=
  broadcastInDim S1x1 ![] bcast_S_S1x1 (id (constant S_ .f32 0x00000000#32))

/-- `main_call0_call0_v5`'s composed term of the arguments (used 5 times). -/
def res_main_call0_call0_v5 : Held F main_call0_call0_v5 :=
  shapeCast _ (extractStridedSlice S1 ![0] (res_main_v24 V0) slices_S2_S1_0) shapeCasts_S1_S_

/-- `main_call0_call0_v7`'s composed term of the arguments (used 5 times). -/
def res_main_call0_call0_v7 : Held F main_call0_call0_v7 :=
  shapeCast _ (extractStridedSlice S1 ![1] (res_main_v24 V0) slices_S2_S1_1) shapeCasts_S1_S_

/-- `main_call0_call0_v14`'s composed term of the arguments (used 2 times). -/
def res_main_call0_call0_v14 (V0 : Valuation τ sig (Elt F)) : Held F main_call0_call0_v14 :=
  addi (muli (broadcastInDim S8192x2048 ![] bcast_S_S8192x2048 (constantI S_ 64 2048#64)) (iotaInDim S8192x2048 64 0)) (muli (broadcastInDim S8192x2048 ![] bcast_S_S8192x2048 (constantI S_ 64 1#64)) (iotaInDim S8192x2048 64 1))

/-- `main_call0_call0_call0_v1`'s composed term of the arguments (used 4 times). -/
def res_main_call0_call0_call0_v1 : Held F main_call0_call0_call0_v1 :=
  xori (xori (res_main_call0_call0_v5 V0) (res_main_call0_call0_v7 V0)) (constantI S_ 32 466688986#32)

/-- `main_call0_call0_call0_v5`'s composed term of the arguments (used 3 times). -/
def res_main_call0_call0_call0_v5 : Held F main_call0_call0_call0_v5 :=
  addi (trunci 32 (res_main_call0_call0_v14 V0) natLt_32_64) (broadcastInDim S8192x2048 ![] bcast_S_S8192x2048 (res_main_call0_call0_v7 V0))

/-- `main_call0_call0_call0_v6`'s composed term of the arguments (used 2 times). -/
def res_main_call0_call0_call0_v6 : Held F main_call0_call0_call0_v6 :=
  addi (addi (trunci 32 (Host.shrui (res_main_call0_call0_v14 V0) (broadcastInDim S8192x2048 ![] bcast_S_S8192x2048 (constantI S_ 64 32#64))) natLt_32_64) (broadcastInDim S8192x2048 ![] bcast_S_S8192x2048 (res_main_call0_call0_v5 V0))) (res_main_call0_call0_call0_v5 V0)

/-- `main_call0_call0_call0_v12`'s composed term of the arguments (used 3 times). -/
def res_main_call0_call0_call0_v12 : Held F main_call0_call0_call0_v12 :=
  xori (res_main_call0_call0_call0_v6 V0) (ori (Host.shli (res_main_call0_call0_call0_v5 V0) (broadcastInDim S8192x2048 ![] bcast_S_S8192x2048 (constantI S_ 32 13#32))) (Host.shrui (res_main_call0_call0_call0_v5 V0) (broadcastInDim S8192x2048 ![] bcast_S_S8192x2048 (constantI S_ 32 19#32))))

/-- `main_call0_call0_call0_v13`'s composed term of the arguments (used 2 times). -/
def res_main_call0_call0_call0_v13 : Held F main_call0_call0_call0_v13 :=
  addi (res_main_call0_call0_call0_v6 V0) (res_main_call0_call0_call0_v12 V0)

/-- `main_call0_call0_call0_v19`'s composed term of the arguments (used 3 times). -/
def res_main_call0_call0_call0_v19 : Held F main_call0_call0_call0_v19 :=
  xori (res_main_call0_call0_call0_v13 V0) (ori (Host.shli (res_main_call0_call0_call0_v12 V0) (broadcastInDim S8192x2048 ![] bcast_S_S8192x2048 (constantI S_ 32 15#32))) (Host.shrui (res_main_call0_call0_call0_v12 V0) (broadcastInDim S8192x2048 ![] bcast_S_S8192x2048 (constantI S_ 32 17#32))))

/-- `main_call0_call0_call0_v20`'s composed term of the arguments (used 2 times). -/
def res_main_call0_call0_call0_v20 : Held F main_call0_call0_call0_v20 :=
  addi (res_main_call0_call0_call0_v13 V0) (res_main_call0_call0_call0_v19 V0)

/-- `main_call0_call0_call0_v26`'s composed term of the arguments (used 3 times). -/
def res_main_call0_call0_call0_v26 : Held F main_call0_call0_call0_v26 :=
  xori (res_main_call0_call0_call0_v20 V0) (ori (Host.shli (res_main_call0_call0_call0_v19 V0) (broadcastInDim S8192x2048 ![] bcast_S_S8192x2048 (constantI S_ 32 26#32))) (Host.shrui (res_main_call0_call0_call0_v19 V0) (broadcastInDim S8192x2048 ![] bcast_S_S8192x2048 (constantI S_ 32 6#32))))

/-- `main_call0_call0_call0_v27`'s composed term of the arguments (used 2 times). -/
def res_main_call0_call0_call0_v27 : Held F main_call0_call0_call0_v27 :=
  addi (res_main_call0_call0_call0_v20 V0) (res_main_call0_call0_call0_v26 V0)

/-- `main_call0_call0_call0_v39`'s composed term of the arguments (used 3 times). -/
def res_main_call0_call0_call0_v39 : Held F main_call0_call0_call0_v39 :=
  addi (addi (xori (res_main_call0_call0_call0_v27 V0) (ori (Host.shli (res_main_call0_call0_call0_v26 V0) (broadcastInDim S8192x2048 ![] bcast_S_S8192x2048 (constantI S_ 32 6#32))) (Host.shrui (res_main_call0_call0_call0_v26 V0) (broadcastInDim S8192x2048 ![] bcast_S_S8192x2048 (constantI S_ 32 26#32))))) (broadcastInDim S8192x2048 ![] bcast_S_S8192x2048 (res_main_call0_call0_call0_v1 V0))) (broadcastInDim S8192x2048 ![] bcast_S_S8192x2048 (constantI S_ 32 1#32))

/-- `main_call0_call0_call0_v40`'s composed term of the arguments (used 2 times). -/
def res_main_call0_call0_call0_v40 : Held F main_call0_call0_call0_v40 :=
  addi (addi (res_main_call0_call0_call0_v27 V0) (broadcastInDim S8192x2048 ![] bcast_S_S8192x2048 (res_main_call0_call0_v7 V0))) (res_main_call0_call0_call0_v39 V0)

/-- `main_call0_call0_call0_v46`'s composed term of the arguments (used 3 times). -/
def res_main_call0_call0_call0_v46 : Held F main_call0_call0_call0_v46 :=
  xori (res_main_call0_call0_call0_v40 V0) (ori (Host.shli (res_main_call0_call0_call0_v39 V0) (broadcastInDim S8192x2048 ![] bcast_S_S8192x2048 (constantI S_ 32 17#32))) (Host.shrui (res_main_call0_call0_call0_v39 V0) (broadcastInDim S8192x2048 ![] bcast_S_S8192x2048 (constantI S_ 32 15#32))))

/-- `main_call0_call0_call0_v47`'s composed term of the arguments (used 2 times). -/
def res_main_call0_call0_call0_v47 : Held F main_call0_call0_call0_v47 :=
  addi (res_main_call0_call0_call0_v40 V0) (res_main_call0_call0_call0_v46 V0)

/-- `main_call0_call0_call0_v53`'s composed term of the arguments (used 3 times). -/
def res_main_call0_call0_call0_v53 : Held F main_call0_call0_call0_v53 :=
  xori (res_main_call0_call0_call0_v47 V0) (ori (Host.shli (res_main_call0_call0_call0_v46 V0) (broadcastInDim S8192x2048 ![] bcast_S_S8192x2048 (constantI S_ 32 29#32))) (Host.shrui (res_main_call0_call0_call0_v46 V0) (broadcastInDim S8192x2048 ![] bcast_S_S8192x2048 (constantI S_ 32 3#32))))

/-- `main_call0_call0_call0_v54`'s composed term of the arguments (used 2 times). -/
def res_main_call0_call0_call0_v54 : Held F main_call0_call0_call0_v54 :=
  addi (res_main_call0_call0_call0_v47 V0) (res_main_call0_call0_call0_v53 V0)

/-- `main_call0_call0_call0_v60`'s composed term of the arguments (used 3 times). -/
def res_main_call0_call0_call0_v60 : Held F main_call0_call0_call0_v60 :=
  xori (res_main_call0_call0_call0_v54 V0) (ori (Host.shli (res_main_call0_call0_call0_v53 V0) (broadcastInDim S8192x2048 ![] bcast_S_S8192x2048 (constantI S_ 32 16#32))) (Host.shrui (res_main_call0_call0_call0_v53 V0) (broadcastInDim S8192x2048 ![] bcast_S_S8192x2048 (constantI S_ 32 16#32))))

/-- `main_call0_call0_call0_v61`'s composed term of the arguments (used 2 times). -/
def res_main_call0_call0_call0_v61 : Held F main_call0_call0_call0_v61 :=
  addi (res_main_call0_call0_call0_v54 V0) (res_main_call0_call0_call0_v60 V0)

/-- `main_call0_call0_call0_v73`'s composed term of the arguments (used 3 times). -/
def res_main_call0_call0_call0_v73 : Held F main_call0_call0_call0_v73 :=
  addi (addi (xori (res_main_call0_call0_call0_v61 V0) (ori (Host.shli (res_main_call0_call0_call0_v60 V0) (broadcastInDim S8192x2048 ![] bcast_S_S8192x2048 (constantI S_ 32 24#32))) (Host.shrui (res_main_call0_call0_call0_v60 V0) (broadcastInDim S8192x2048 ![] bcast_S_S8192x2048 (constantI S_ 32 8#32))))) (broadcastInDim S8192x2048 ![] bcast_S_S8192x2048 (res_main_call0_call0_v5 V0))) (broadcastInDim S8192x2048 ![] bcast_S_S8192x2048 (constantI S_ 32 2#32))

/-- `main_call0_call0_call0_v74`'s composed term of the arguments (used 2 times). -/
def res_main_call0_call0_call0_v74 : Held F main_call0_call0_call0_v74 :=
  addi (addi (res_main_call0_call0_call0_v61 V0) (broadcastInDim S8192x2048 ![] bcast_S_S8192x2048 (res_main_call0_call0_call0_v1 V0))) (res_main_call0_call0_call0_v73 V0)

/-- `main_call0_call0_call0_v80`'s composed term of the arguments (used 3 times). -/
def res_main_call0_call0_call0_v80 : Held F main_call0_call0_call0_v80 :=
  xori (res_main_call0_call0_call0_v74 V0) (ori (Host.shli (res_main_call0_call0_call0_v73 V0) (broadcastInDim S8192x2048 ![] bcast_S_S8192x2048 (constantI S_ 32 13#32))) (Host.shrui (res_main_call0_call0_call0_v73 V0) (broadcastInDim S8192x2048 ![] bcast_S_S8192x2048 (constantI S_ 32 19#32))))

/-- `main_call0_call0_call0_v81`'s composed term of the arguments (used 2 times). -/
def res_main_call0_call0_call0_v81 : Held F main_call0_call0_call0_v81 :=
  addi (res_main_call0_call0_call0_v74 V0) (res_main_call0_call0_call0_v80 V0)

/-- `main_call0_call0_call0_v87`'s composed term of the arguments (used 3 times). -/
def res_main_call0_call0_call0_v87 : Held F main_call0_call0_call0_v87 :=
  xori (res_main_call0_call0_call0_v81 V0) (ori (Host.shli (res_main_call0_call0_call0_v80 V0) (broadcastInDim S8192x2048 ![] bcast_S_S8192x2048 (constantI S_ 32 15#32))) (Host.shrui (res_main_call0_call0_call0_v80 V0) (broadcastInDim S8192x2048 ![] bcast_S_S8192x2048 (constantI S_ 32 17#32))))

/-- `main_call0_call0_call0_v88`'s composed term of the arguments (used 2 times). -/
def res_main_call0_call0_call0_v88 : Held F main_call0_call0_call0_v88 :=
  addi (res_main_call0_call0_call0_v81 V0) (res_main_call0_call0_call0_v87 V0)

/-- `main_call0_call0_call0_v94`'s composed term of the arguments (used 3 times). -/
def res_main_call0_call0_call0_v94 : Held F main_call0_call0_call0_v94 :=
  xori (res_main_call0_call0_call0_v88 V0) (ori (Host.shli (res_main_call0_call0_call0_v87 V0) (broadcastInDim S8192x2048 ![] bcast_S_S8192x2048 (constantI S_ 32 26#32))) (Host.shrui (res_main_call0_call0_call0_v87 V0) (broadcastInDim S8192x2048 ![] bcast_S_S8192x2048 (constantI S_ 32 6#32))))

/-- `main_call0_call0_call0_v95`'s composed term of the arguments (used 2 times). -/
def res_main_call0_call0_call0_v95 : Held F main_call0_call0_call0_v95 :=
  addi (res_main_call0_call0_call0_v88 V0) (res_main_call0_call0_call0_v94 V0)

/-- `main_call0_call0_call0_v107`'s composed term of the arguments (used 3 times). -/
def res_main_call0_call0_call0_v107 : Held F main_call0_call0_call0_v107 :=
  addi (addi (xori (res_main_call0_call0_call0_v95 V0) (ori (Host.shli (res_main_call0_call0_call0_v94 V0) (broadcastInDim S8192x2048 ![] bcast_S_S8192x2048 (constantI S_ 32 6#32))) (Host.shrui (res_main_call0_call0_call0_v94 V0) (broadcastInDim S8192x2048 ![] bcast_S_S8192x2048 (constantI S_ 32 26#32))))) (broadcastInDim S8192x2048 ![] bcast_S_S8192x2048 (res_main_call0_call0_v7 V0))) (broadcastInDim S8192x2048 ![] bcast_S_S8192x2048 (constantI S_ 32 3#32))

/-- `main_call0_call0_call0_v108`'s composed term of the arguments (used 2 times). -/
def res_main_call0_call0_call0_v108 : Held F main_call0_call0_call0_v108 :=
  addi (addi (res_main_call0_call0_call0_v95 V0) (broadcastInDim S8192x2048 ![] bcast_S_S8192x2048 (res_main_call0_call0_v5 V0))) (res_main_call0_call0_call0_v107 V0)

/-- `main_call0_call0_call0_v114`'s composed term of the arguments (used 3 times). -/
def res_main_call0_call0_call0_v114 : Held F main_call0_call0_call0_v114 :=
  xori (res_main_call0_call0_call0_v108 V0) (ori (Host.shli (res_main_call0_call0_call0_v107 V0) (broadcastInDim S8192x2048 ![] bcast_S_S8192x2048 (constantI S_ 32 17#32))) (Host.shrui (res_main_call0_call0_call0_v107 V0) (broadcastInDim S8192x2048 ![] bcast_S_S8192x2048 (constantI S_ 32 15#32))))

/-- `main_call0_call0_call0_v115`'s composed term of the arguments (used 2 times). -/
def res_main_call0_call0_call0_v115 : Held F main_call0_call0_call0_v115 :=
  addi (res_main_call0_call0_call0_v108 V0) (res_main_call0_call0_call0_v114 V0)

/-- `main_call0_call0_call0_v121`'s composed term of the arguments (used 3 times). -/
def res_main_call0_call0_call0_v121 : Held F main_call0_call0_call0_v121 :=
  xori (res_main_call0_call0_call0_v115 V0) (ori (Host.shli (res_main_call0_call0_call0_v114 V0) (broadcastInDim S8192x2048 ![] bcast_S_S8192x2048 (constantI S_ 32 29#32))) (Host.shrui (res_main_call0_call0_call0_v114 V0) (broadcastInDim S8192x2048 ![] bcast_S_S8192x2048 (constantI S_ 32 3#32))))

/-- `main_call0_call0_call0_v122`'s composed term of the arguments (used 2 times). -/
def res_main_call0_call0_call0_v122 : Held F main_call0_call0_call0_v122 :=
  addi (res_main_call0_call0_call0_v115 V0) (res_main_call0_call0_call0_v121 V0)

/-- `main_call0_call0_call0_v128`'s composed term of the arguments (used 3 times). -/
def res_main_call0_call0_call0_v128 : Held F main_call0_call0_call0_v128 :=
  xori (res_main_call0_call0_call0_v122 V0) (ori (Host.shli (res_main_call0_call0_call0_v121 V0) (broadcastInDim S8192x2048 ![] bcast_S_S8192x2048 (constantI S_ 32 16#32))) (Host.shrui (res_main_call0_call0_call0_v121 V0) (broadcastInDim S8192x2048 ![] bcast_S_S8192x2048 (constantI S_ 32 16#32))))

/-- `main_call0_call0_call0_v129`'s composed term of the arguments (used 2 times). -/
def res_main_call0_call0_call0_v129 : Held F main_call0_call0_call0_v129 :=
  addi (res_main_call0_call0_call0_v122 V0) (res_main_call0_call0_call0_v128 V0)

/-- `main_call0_call0_call0_v141`'s composed term of the arguments (used 3 times). -/
def res_main_call0_call0_call0_v141 : Held F main_call0_call0_call0_v141 :=
  addi (addi (xori (res_main_call0_call0_call0_v129 V0) (ori (Host.shli (res_main_call0_call0_call0_v128 V0) (broadcastInDim S8192x2048 ![] bcast_S_S8192x2048 (constantI S_ 32 24#32))) (Host.shrui (res_main_call0_call0_call0_v128 V0) (broadcastInDim S8192x2048 ![] bcast_S_S8192x2048 (constantI S_ 32 8#32))))) (broadcastInDim S8192x2048 ![] bcast_S_S8192x2048 (res_main_call0_call0_call0_v1 V0))) (broadcastInDim S8192x2048 ![] bcast_S_S8192x2048 (constantI S_ 32 4#32))

/-- `main_call0_call0_call0_v142`'s composed term of the arguments (used 2 times). -/
def res_main_call0_call0_call0_v142 : Held F main_call0_call0_call0_v142 :=
  addi (addi (res_main_call0_call0_call0_v129 V0) (broadcastInDim S8192x2048 ![] bcast_S_S8192x2048 (res_main_call0_call0_v7 V0))) (res_main_call0_call0_call0_v141 V0)

/-- `main_call0_call0_call0_v148`'s composed term of the arguments (used 3 times). -/
def res_main_call0_call0_call0_v148 : Held F main_call0_call0_call0_v148 :=
  xori (res_main_call0_call0_call0_v142 V0) (ori (Host.shli (res_main_call0_call0_call0_v141 V0) (broadcastInDim S8192x2048 ![] bcast_S_S8192x2048 (constantI S_ 32 13#32))) (Host.shrui (res_main_call0_call0_call0_v141 V0) (broadcastInDim S8192x2048 ![] bcast_S_S8192x2048 (constantI S_ 32 19#32))))

/-- `main_call0_call0_call0_v149`'s composed term of the arguments (used 2 times). -/
def res_main_call0_call0_call0_v149 : Held F main_call0_call0_call0_v149 :=
  addi (res_main_call0_call0_call0_v142 V0) (res_main_call0_call0_call0_v148 V0)

/-- `main_call0_call0_call0_v155`'s composed term of the arguments (used 3 times). -/
def res_main_call0_call0_call0_v155 : Held F main_call0_call0_call0_v155 :=
  xori (res_main_call0_call0_call0_v149 V0) (ori (Host.shli (res_main_call0_call0_call0_v148 V0) (broadcastInDim S8192x2048 ![] bcast_S_S8192x2048 (constantI S_ 32 15#32))) (Host.shrui (res_main_call0_call0_call0_v148 V0) (broadcastInDim S8192x2048 ![] bcast_S_S8192x2048 (constantI S_ 32 17#32))))

/-- `main_call0_call0_call0_v156`'s composed term of the arguments (used 2 times). -/
def res_main_call0_call0_call0_v156 : Held F main_call0_call0_call0_v156 :=
  addi (res_main_call0_call0_call0_v149 V0) (res_main_call0_call0_call0_v155 V0)

/-- `main_call0_call0_call0_v162`'s composed term of the arguments (used 3 times). -/
def res_main_call0_call0_call0_v162 : Held F main_call0_call0_call0_v162 :=
  xori (res_main_call0_call0_call0_v156 V0) (ori (Host.shli (res_main_call0_call0_call0_v155 V0) (broadcastInDim S8192x2048 ![] bcast_S_S8192x2048 (constantI S_ 32 26#32))) (Host.shrui (res_main_call0_call0_call0_v155 V0) (broadcastInDim S8192x2048 ![] bcast_S_S8192x2048 (constantI S_ 32 6#32))))

/-- `main_call0_call0_call0_v163`'s composed term of the arguments (used 2 times). -/
def res_main_call0_call0_call0_v163 : Held F main_call0_call0_call0_v163 :=
  addi (res_main_call0_call0_call0_v156 V0) (res_main_call0_call0_call0_v162 V0)

/-- `main_v35`'s composed term of the arguments (used 2 times). -/
def res_main_v35 : Held F main_v35 :=
  cmpf .oeq (res_main_v6 V0) (broadcastInDim S8192x768 ![] bcast_S_S8192x768 (constant S_ .f32 0x00000000#32))

/-- `main_v39`'s composed term of the arguments (used 2 times). -/
def res_main_v39 : Held F main_v39 :=
  subf (addf (addf (Host.dotGeneral dot_S8192x2048_S2048x768_S8192x768_1_0_0_1_n_n none (mulf (addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0))))) (uitofp .f32 (cmpf .olt (maximumf (broadcastInDim S8192x2048 ![0, 1] bcast_S1x1_S8192x2048_0_1 (res_main_call0_call0_v2 V0)) (addf (mulf (subf (bitcastToFloat (F := F) .f32 (ori (Host.shrui (xori (addi (res_main_call0_call0_call0_v163 V0) (broadcastInDim S8192x2048 ![] bcast_S_S8192x2048 (res_main_call0_call0_call0_v1 V0))) (addi (addi (xori (res_main_call0_call0_call0_v163 V0) (ori (Host.shli (res_main_call0_call0_call0_v162 V0) (broadcastInDim S8192x2048 ![] bcast_S_S8192x2048 (constantI S_ 32 6#32))) (Host.shrui (res_main_call0_call0_call0_v162 V0) (broadcastInDim S8192x2048 ![] bcast_S_S8192x2048 (constantI S_ 32 26#32))))) (broadcastInDim S8192x2048 ![] bcast_S_S8192x2048 (res_main_call0_call0_v5 V0))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (res_main_call0_call0_v2 V0)))) (broadcastInDim S8192x2048 ![0, 1] bcast_S1x1_S8192x2048_0_1 (res_main_call0_call0_v2 V0)))) (broadcastInDim S8192x2048 ![0, 1] bcast_S1x2048_S8192x2048_0_1 (broadcastInDim S1x2048 ![1] bcast_S2048_S1x2048_1 (Host.exp (mulf (broadcastInDim S2048 ![] bcast_S_S2048 (constant S_ .f32 0xBF000000#32)) (mulf (res_main_v13 V0) (res_main_v13 V0))))))))) (broadcastInDim S2048x768 ![] bcast_S_S2048x768 (constant S_ .f32 0x3F800000#32))) (broadcastInDim S8192x768 ![0, 1] bcast_S1x768_S8192x768_0_1 (broadcastInDim S1x768 ![1] bcast_S768_S1x768_1 (broadcastInDim S768 ![] bcast_S_S768 (constant S_ .f32 0x00000000#32))))) (res_main_v5 V0)) (res_main_v6 V0)

/-- The device's buffer contents before @main's first operation. -/
def val0 : Valuation τ sig (Elt F) := V0
theorem val0_main_arg0 : val0 V0 (no_index (Proc.devRef .tc main_arg0)) = V0 (Proc.devRef .tc main_arg0) := rfl

/-- The device's buffer contents after @main's first 30 operations. -/
def val0_1 : Valuation τ sig (Elt F) := after ops_0 (val0 V0)
/-- The buffers that window `ops_0`'s operations write. -/
abbrev ops_0_W : List (Ref sig .tc) := [main_cst, main_v0, main_cst_0, main_v1, main_cst_1, main_v2, main_cst_2, main_v3, main_cst_3, main_v4, main_v5, main_v6, main_v7, main_v8, main_v9, main_v10, main_v11, main_cst_4, main_v12, main_v13, main_v14, main_cst_5, main_v15, main_v16, main_v17, main_c, main_c_6, main_v18, main_v19, main_v20]
theorem ops_0_writes : (ops_0 : List (HloOp τ sig (Elt F))).Forall fun op => op.writes ⊆ (ops_0_W.map (Proc.devRef (τ := τ) .tc)).toFinset := by
  simp only [List.Forall, nullary_writes, unary_writes, binary_writes, ternary_writes, reshape_writes]
  and_intros <;> exact writes_mem (by decide)
/-- A buffer that window `ops_0` does not write keeps its contents through it. -/
theorem val0_1_keep (r : Ref sig .tc) (h : r ∉ ops_0_W) :
    val0_1 V0 (Proc.devRef .tc r) = val0 V0 (Proc.devRef .tc r) :=
  after_of_writes_sub ops_0 _ ops_0_writes h
theorem val0_1_main_arg0 : val0_1 V0 (no_index (Proc.devRef .tc main_arg0)) = V0 (Proc.devRef .tc main_arg0) :=
  (val0_1_keep V0 main_arg0 (by decide)).trans (val0_main_arg0 V0)
theorem val0_1_main_v3 : val0_1 V0 (no_index (Proc.devRef .tc main_v3)) = broadcastInDim S2048x768 ![] bcast_S_S2048x768 (constant S_ .f32 0x3F800000#32) := by
  unfold val0_1
  simp only [ops_0]
  after_results_simp
  all_goals rfl
theorem val0_1_main_v4 : val0_1 V0 (no_index (Proc.devRef .tc main_v4)) = broadcastInDim S768 ![] bcast_S_S768 (constant S_ .f32 0x00000000#32) := by
  unfold val0_1
  simp only [ops_0]
  after_results_simp
  all_goals rfl
theorem val0_1_main_v5 : val0_1 V0 (no_index (Proc.devRef .tc main_v5)) = res_main_v5 V0 := by
  unfold val0_1
  simp only [ops_0]
  after_results_simp
  all_goals rfl
theorem val0_1_main_v6 : val0_1 V0 (no_index (Proc.devRef .tc main_v6)) = res_main_v6 V0 := by
  unfold val0_1
  simp only [ops_0]
  after_results_simp
  all_goals rfl
theorem val0_1_main_v10 : val0_1 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) := by
  unfold val0_1
  simp only [ops_0]
  after_results_simp
  simp only [val0_main_arg0] <;> rfl
theorem val0_1_main_v17 : val0_1 V0 (no_index (Proc.devRef .tc main_v17)) = Host.exp (mulf (broadcastInDim S2048 ![] bcast_S_S2048 (constant S_ .f32 0xBF000000#32)) (mulf (res_main_v13 V0) (res_main_v13 V0))) := by
  unfold val0_1
  simp only [ops_0]
  after_results_simp
  all_goals rfl
theorem val0_1_main_c : val0_1 V0 (no_index (Proc.devRef .tc main_c)) = res_main_c V0 := by
  unfold val0_1
  simp only [ops_0]
  after_results_simp
  all_goals rfl
theorem val0_1_main_v20 : val0_1 V0 (no_index (Proc.devRef .tc main_v20)) = broadcastInDim S1 ![] bcast_S_S1 (id (Host.shrui (res_main_c V0) (constantI S_ 32 32#32))) := by
  unfold val0_1
  simp only [ops_0]
  after_results_simp
  all_goals rfl

/-- The device's buffer contents after @main's first 60 operations. -/
def val0_2 : Valuation τ sig (Elt F) := after ops_1 (val0_1 V0)
/-- The buffers that window `ops_1`'s operations write. -/
abbrev ops_1_W : List (Ref sig .tc) := [main_c_7, main_v21, main_v22, main_v23, main_v24, main_v25, main_call0_cst, main_call0_cst_0, main_call0_call0_v0, main_call0_call0_v1, main_call0_call0_v2, main_call0_call0_v3, main_call0_call0_v4, main_call0_call0_v5, main_call0_call0_v6, main_call0_call0_v7, main_call0_call0_v8, main_call0_call0_v9, main_call0_call0_c, main_call0_call0_v10, main_call0_call0_v11, main_call0_call0_c_0, main_call0_call0_v12, main_call0_call0_v13, main_call0_call0_v14, main_call0_call0_c_1, main_call0_call0_v15, main_call0_call0_v16, main_call0_call0_v17, main_call0_call0_v18]
theorem ops_1_writes : (ops_1 : List (HloOp τ sig (Elt F))).Forall fun op => op.writes ⊆ (ops_1_W.map (Proc.devRef (τ := τ) .tc)).toFinset := by
  simp only [List.Forall, nullary_writes, unary_writes, binary_writes, ternary_writes, reshape_writes]
  and_intros <;> exact writes_mem (by decide)
/-- A buffer that window `ops_1` does not write keeps its contents through it. -/
theorem val0_2_keep (r : Ref sig .tc) (h : r ∉ ops_1_W) :
    val0_2 V0 (Proc.devRef .tc r) = val0_1 V0 (Proc.devRef .tc r) :=
  after_of_writes_sub ops_1 _ ops_1_writes h
theorem val0_2_main_arg0 : val0_2 V0 (no_index (Proc.devRef .tc main_arg0)) = V0 (Proc.devRef .tc main_arg0) :=
  (val0_2_keep V0 main_arg0 (by decide)).trans (val0_1_main_arg0 V0)
theorem val0_2_main_v3 : val0_2 V0 (no_index (Proc.devRef .tc main_v3)) = broadcastInDim S2048x768 ![] bcast_S_S2048x768 (constant S_ .f32 0x3F800000#32) :=
  (val0_2_keep V0 main_v3 (by decide)).trans (val0_1_main_v3 V0)
theorem val0_2_main_v4 : val0_2 V0 (no_index (Proc.devRef .tc main_v4)) = broadcastInDim S768 ![] bcast_S_S768 (constant S_ .f32 0x00000000#32) :=
  (val0_2_keep V0 main_v4 (by decide)).trans (val0_1_main_v4 V0)
theorem val0_2_main_v5 : val0_2 V0 (no_index (Proc.devRef .tc main_v5)) = res_main_v5 V0 :=
  (val0_2_keep V0 main_v5 (by decide)).trans (val0_1_main_v5 V0)
theorem val0_2_main_v6 : val0_2 V0 (no_index (Proc.devRef .tc main_v6)) = res_main_v6 V0 :=
  (val0_2_keep V0 main_v6 (by decide)).trans (val0_1_main_v6 V0)
theorem val0_2_main_v10 : val0_2 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_2_keep V0 main_v10 (by decide)).trans (val0_1_main_v10 V0)
theorem val0_2_main_v25 : val0_2 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) := by
  unfold val0_2
  simp only [ops_1, TRef.binary, TRef.nullary, TRef.reshape, TRef.unary, TRef.toBuf, TRef.ofBuf, cast_eq]
  after_results_simp
  simp only [val0_1_main_v17] <;> rfl
theorem val0_2_main_call0_call0_v2 : val0_2 V0 (no_index (Proc.devRef .tc main_call0_call0_v2)) = res_main_call0_call0_v2 V0 := by
  unfold val0_2
  simp only [ops_1, TRef.binary, TRef.nullary, TRef.reshape, TRef.unary, TRef.toBuf, TRef.ofBuf, cast_eq]
  after_results_simp
  all_goals rfl
theorem val0_2_main_call0_call0_v3 : val0_2 V0 (no_index (Proc.devRef .tc main_call0_call0_v3)) = broadcastInDim S1x1 ![] bcast_S_S1x1 (id (constant S_ .f32 0x3F800000#32)) := by
  unfold val0_2
  simp only [ops_1, TRef.binary, TRef.nullary, TRef.reshape, TRef.unary, TRef.toBuf, TRef.ofBuf, cast_eq]
  after_results_simp
  all_goals rfl
theorem val0_2_main_call0_call0_v5 : val0_2 V0 (no_index (Proc.devRef .tc main_call0_call0_v5)) = res_main_call0_call0_v5 V0 := by
  unfold val0_2
  simp only [ops_1, TRef.binary, TRef.nullary, TRef.reshape, TRef.unary, TRef.toBuf, TRef.ofBuf, cast_eq]
  after_results_simp
  simp only [val0_1_main_c, val0_1_main_v20] <;> rfl
theorem val0_2_main_call0_call0_v7 : val0_2 V0 (no_index (Proc.devRef .tc main_call0_call0_v7)) = res_main_call0_call0_v7 V0 := by
  unfold val0_2
  simp only [ops_1, TRef.binary, TRef.nullary, TRef.reshape, TRef.unary, TRef.toBuf, TRef.ofBuf, cast_eq]
  after_results_simp
  simp only [val0_1_main_c, val0_1_main_v20] <;> rfl
theorem val0_2_main_call0_call0_v17 : val0_2 V0 (no_index (Proc.devRef .tc main_call0_call0_v17)) = trunci 32 (res_main_call0_call0_v14 V0) natLt_32_64 := by
  unfold val0_2
  simp only [ops_1, TRef.binary, TRef.nullary, TRef.reshape, TRef.unary, TRef.toBuf, TRef.ofBuf, cast_eq]
  after_results_simp
  all_goals rfl
theorem val0_2_main_call0_call0_v18 : val0_2 V0 (no_index (Proc.devRef .tc main_call0_call0_v18)) = trunci 32 (Host.shrui (res_main_call0_call0_v14 V0) (broadcastInDim S8192x2048 ![] bcast_S_S8192x2048 (constantI S_ 64 32#64))) natLt_32_64 := by
  unfold val0_2
  simp only [ops_1, TRef.binary, TRef.nullary, TRef.reshape, TRef.unary, TRef.toBuf, TRef.ofBuf, cast_eq]
  after_results_simp
  all_goals rfl

/-- The device's buffer contents after @main's first 90 operations. -/
def val0_3 : Valuation τ sig (Elt F) := after ops_2 (val0_2 V0)
/-- The buffers that window `ops_2`'s operations write. -/
abbrev ops_2_W : List (Ref sig .tc) := [main_call0_call0_call0_v0, main_call0_call0_call0_c, main_call0_call0_call0_v1, main_call0_call0_call0_v2, main_call0_call0_call0_v3, main_call0_call0_call0_v4, main_call0_call0_call0_v5, main_call0_call0_call0_v6, main_call0_call0_call0_c_0, main_call0_call0_call0_v7, main_call0_call0_call0_v8, main_call0_call0_call0_c_1, main_call0_call0_call0_v9, main_call0_call0_call0_v10, main_call0_call0_call0_v11, main_call0_call0_call0_v12, main_call0_call0_call0_v13, main_call0_call0_call0_c_2, main_call0_call0_call0_v14, main_call0_call0_call0_v15, main_call0_call0_call0_c_3, main_call0_call0_call0_v16, main_call0_call0_call0_v17, main_call0_call0_call0_v18, main_call0_call0_call0_v19, main_call0_call0_call0_v20, main_call0_call0_call0_c_4, main_call0_call0_call0_v21, main_call0_call0_call0_v22, main_call0_call0_call0_c_5]
theorem ops_2_writes : (ops_2 : List (HloOp τ sig (Elt F))).Forall fun op => op.writes ⊆ (ops_2_W.map (Proc.devRef (τ := τ) .tc)).toFinset := by
  simp only [List.Forall, nullary_writes, unary_writes, binary_writes, ternary_writes, reshape_writes]
  and_intros <;> exact writes_mem (by decide)
/-- A buffer that window `ops_2` does not write keeps its contents through it. -/
theorem val0_3_keep (r : Ref sig .tc) (h : r ∉ ops_2_W) :
    val0_3 V0 (Proc.devRef .tc r) = val0_2 V0 (Proc.devRef .tc r) :=
  after_of_writes_sub ops_2 _ ops_2_writes h
theorem val0_3_main_arg0 : val0_3 V0 (no_index (Proc.devRef .tc main_arg0)) = V0 (Proc.devRef .tc main_arg0) :=
  (val0_3_keep V0 main_arg0 (by decide)).trans (val0_2_main_arg0 V0)
theorem val0_3_main_v3 : val0_3 V0 (no_index (Proc.devRef .tc main_v3)) = broadcastInDim S2048x768 ![] bcast_S_S2048x768 (constant S_ .f32 0x3F800000#32) :=
  (val0_3_keep V0 main_v3 (by decide)).trans (val0_2_main_v3 V0)
theorem val0_3_main_v4 : val0_3 V0 (no_index (Proc.devRef .tc main_v4)) = broadcastInDim S768 ![] bcast_S_S768 (constant S_ .f32 0x00000000#32) :=
  (val0_3_keep V0 main_v4 (by decide)).trans (val0_2_main_v4 V0)
theorem val0_3_main_v5 : val0_3 V0 (no_index (Proc.devRef .tc main_v5)) = res_main_v5 V0 :=
  (val0_3_keep V0 main_v5 (by decide)).trans (val0_2_main_v5 V0)
theorem val0_3_main_v6 : val0_3 V0 (no_index (Proc.devRef .tc main_v6)) = res_main_v6 V0 :=
  (val0_3_keep V0 main_v6 (by decide)).trans (val0_2_main_v6 V0)
theorem val0_3_main_v10 : val0_3 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_3_keep V0 main_v10 (by decide)).trans (val0_2_main_v10 V0)
theorem val0_3_main_v25 : val0_3 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) :=
  (val0_3_keep V0 main_v25 (by decide)).trans (val0_2_main_v25 V0)
theorem val0_3_main_call0_call0_v2 : val0_3 V0 (no_index (Proc.devRef .tc main_call0_call0_v2)) = res_main_call0_call0_v2 V0 :=
  (val0_3_keep V0 main_call0_call0_v2 (by decide)).trans (val0_2_main_call0_call0_v2 V0)
theorem val0_3_main_call0_call0_v3 : val0_3 V0 (no_index (Proc.devRef .tc main_call0_call0_v3)) = broadcastInDim S1x1 ![] bcast_S_S1x1 (id (constant S_ .f32 0x3F800000#32)) :=
  (val0_3_keep V0 main_call0_call0_v3 (by decide)).trans (val0_2_main_call0_call0_v3 V0)
theorem val0_3_main_call0_call0_v5 : val0_3 V0 (no_index (Proc.devRef .tc main_call0_call0_v5)) = res_main_call0_call0_v5 V0 :=
  (val0_3_keep V0 main_call0_call0_v5 (by decide)).trans (val0_2_main_call0_call0_v5 V0)
theorem val0_3_main_call0_call0_v7 : val0_3 V0 (no_index (Proc.devRef .tc main_call0_call0_v7)) = res_main_call0_call0_v7 V0 :=
  (val0_3_keep V0 main_call0_call0_v7 (by decide)).trans (val0_2_main_call0_call0_v7 V0)
theorem val0_3_main_call0_call0_call0_v1 : val0_3 V0 (no_index (Proc.devRef .tc main_call0_call0_call0_v1)) = res_main_call0_call0_call0_v1 V0 := by
  unfold val0_3
  simp only [ops_2, TRef.binary, TRef.nullary, TRef.unary, TRef.toBuf, TRef.ofBuf, cast_eq]
  after_results_simp
  simp only [val0_2_main_call0_call0_v7, val0_2_main_call0_call0_v5] <;> rfl
theorem val0_3_main_call0_call0_call0_v19 : val0_3 V0 (no_index (Proc.devRef .tc main_call0_call0_call0_v19)) = res_main_call0_call0_call0_v19 V0 := by
  unfold val0_3
  simp only [ops_2, TRef.binary, TRef.nullary, TRef.unary, TRef.toBuf, TRef.ofBuf, cast_eq]
  after_results_simp
  simp only [val0_2_main_call0_call0_v7, val0_2_main_call0_call0_v17, val0_2_main_call0_call0_v5, val0_2_main_call0_call0_v18] <;> rfl
theorem val0_3_main_call0_call0_call0_v20 : val0_3 V0 (no_index (Proc.devRef .tc main_call0_call0_call0_v20)) = res_main_call0_call0_call0_v20 V0 := by
  unfold val0_3
  simp only [ops_2, TRef.binary, TRef.nullary, TRef.unary, TRef.toBuf, TRef.ofBuf, cast_eq]
  after_results_simp
  simp only [val0_2_main_call0_call0_v7, val0_2_main_call0_call0_v17, val0_2_main_call0_call0_v5, val0_2_main_call0_call0_v18] <;> rfl
theorem val0_3_main_call0_call0_call0_v22 : val0_3 V0 (no_index (Proc.devRef .tc main_call0_call0_call0_v22)) = Host.shli (res_main_call0_call0_call0_v19 V0) (broadcastInDim S8192x2048 ![] bcast_S_S8192x2048 (constantI S_ 32 26#32)) := by
  unfold val0_3
  simp only [ops_2, TRef.binary, TRef.nullary, TRef.unary, TRef.toBuf, TRef.ofBuf, cast_eq]
  after_results_simp
  simp only [val0_2_main_call0_call0_v7, val0_2_main_call0_call0_v17, val0_2_main_call0_call0_v5, val0_2_main_call0_call0_v18] <;> rfl
theorem val0_3_main_call0_call0_call0_c_5 : val0_3 V0 (no_index (Proc.devRef .tc main_call0_call0_call0_c_5)) = constantI S_ 32 6#32 := by
  unfold val0_3
  simp only [ops_2, TRef.binary, TRef.nullary, TRef.unary, TRef.toBuf, TRef.ofBuf, cast_eq]
  after_results_simp
  all_goals rfl

/-- The device's buffer contents after @main's first 120 operations. -/
def val0_4 : Valuation τ sig (Elt F) := after ops_3 (val0_3 V0)
/-- The buffers that window `ops_3`'s operations write. -/
abbrev ops_3_W : List (Ref sig .tc) := [main_call0_call0_call0_v23, main_call0_call0_call0_v24, main_call0_call0_call0_v25, main_call0_call0_call0_v26, main_call0_call0_call0_v27, main_call0_call0_call0_c_6, main_call0_call0_call0_v28, main_call0_call0_call0_v29, main_call0_call0_call0_c_7, main_call0_call0_call0_v30, main_call0_call0_call0_v31, main_call0_call0_call0_v32, main_call0_call0_call0_v33, main_call0_call0_call0_v34, main_call0_call0_call0_v35, main_call0_call0_call0_v36, main_call0_call0_call0_v37, main_call0_call0_call0_c_8, main_call0_call0_call0_v38, main_call0_call0_call0_v39, main_call0_call0_call0_v40, main_call0_call0_call0_c_9, main_call0_call0_call0_v41, main_call0_call0_call0_v42, main_call0_call0_call0_c_10, main_call0_call0_call0_v43, main_call0_call0_call0_v44, main_call0_call0_call0_v45, main_call0_call0_call0_v46, main_call0_call0_call0_v47]
theorem ops_3_writes : (ops_3 : List (HloOp τ sig (Elt F))).Forall fun op => op.writes ⊆ (ops_3_W.map (Proc.devRef (τ := τ) .tc)).toFinset := by
  simp only [List.Forall, nullary_writes, unary_writes, binary_writes, ternary_writes, reshape_writes]
  and_intros <;> exact writes_mem (by decide)
/-- A buffer that window `ops_3` does not write keeps its contents through it. -/
theorem val0_4_keep (r : Ref sig .tc) (h : r ∉ ops_3_W) :
    val0_4 V0 (Proc.devRef .tc r) = val0_3 V0 (Proc.devRef .tc r) :=
  after_of_writes_sub ops_3 _ ops_3_writes h
theorem val0_4_main_arg0 : val0_4 V0 (no_index (Proc.devRef .tc main_arg0)) = V0 (Proc.devRef .tc main_arg0) :=
  (val0_4_keep V0 main_arg0 (by decide)).trans (val0_3_main_arg0 V0)
theorem val0_4_main_v3 : val0_4 V0 (no_index (Proc.devRef .tc main_v3)) = broadcastInDim S2048x768 ![] bcast_S_S2048x768 (constant S_ .f32 0x3F800000#32) :=
  (val0_4_keep V0 main_v3 (by decide)).trans (val0_3_main_v3 V0)
theorem val0_4_main_v4 : val0_4 V0 (no_index (Proc.devRef .tc main_v4)) = broadcastInDim S768 ![] bcast_S_S768 (constant S_ .f32 0x00000000#32) :=
  (val0_4_keep V0 main_v4 (by decide)).trans (val0_3_main_v4 V0)
theorem val0_4_main_v5 : val0_4 V0 (no_index (Proc.devRef .tc main_v5)) = res_main_v5 V0 :=
  (val0_4_keep V0 main_v5 (by decide)).trans (val0_3_main_v5 V0)
theorem val0_4_main_v6 : val0_4 V0 (no_index (Proc.devRef .tc main_v6)) = res_main_v6 V0 :=
  (val0_4_keep V0 main_v6 (by decide)).trans (val0_3_main_v6 V0)
theorem val0_4_main_v10 : val0_4 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_4_keep V0 main_v10 (by decide)).trans (val0_3_main_v10 V0)
theorem val0_4_main_v25 : val0_4 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) :=
  (val0_4_keep V0 main_v25 (by decide)).trans (val0_3_main_v25 V0)
theorem val0_4_main_call0_call0_v2 : val0_4 V0 (no_index (Proc.devRef .tc main_call0_call0_v2)) = res_main_call0_call0_v2 V0 :=
  (val0_4_keep V0 main_call0_call0_v2 (by decide)).trans (val0_3_main_call0_call0_v2 V0)
theorem val0_4_main_call0_call0_v3 : val0_4 V0 (no_index (Proc.devRef .tc main_call0_call0_v3)) = broadcastInDim S1x1 ![] bcast_S_S1x1 (id (constant S_ .f32 0x3F800000#32)) :=
  (val0_4_keep V0 main_call0_call0_v3 (by decide)).trans (val0_3_main_call0_call0_v3 V0)
theorem val0_4_main_call0_call0_v5 : val0_4 V0 (no_index (Proc.devRef .tc main_call0_call0_v5)) = res_main_call0_call0_v5 V0 :=
  (val0_4_keep V0 main_call0_call0_v5 (by decide)).trans (val0_3_main_call0_call0_v5 V0)
theorem val0_4_main_call0_call0_v7 : val0_4 V0 (no_index (Proc.devRef .tc main_call0_call0_v7)) = res_main_call0_call0_v7 V0 :=
  (val0_4_keep V0 main_call0_call0_v7 (by decide)).trans (val0_3_main_call0_call0_v7 V0)
theorem val0_4_main_call0_call0_call0_v1 : val0_4 V0 (no_index (Proc.devRef .tc main_call0_call0_call0_v1)) = res_main_call0_call0_call0_v1 V0 :=
  (val0_4_keep V0 main_call0_call0_call0_v1 (by decide)).trans (val0_3_main_call0_call0_call0_v1 V0)
theorem val0_4_main_call0_call0_call0_v46 : val0_4 V0 (no_index (Proc.devRef .tc main_call0_call0_call0_v46)) = res_main_call0_call0_call0_v46 V0 := by
  unfold val0_4
  simp only [ops_3, TRef.binary, TRef.nullary, TRef.unary, TRef.toBuf, TRef.ofBuf, cast_eq]
  after_results_simp
  simp only [val0_3_main_call0_call0_call0_v1, val0_3_main_call0_call0_call0_c_5, val0_3_main_call0_call0_call0_v19, val0_3_main_call0_call0_call0_v22, val0_3_main_call0_call0_call0_v20, val0_3_main_call0_call0_v7] <;> rfl
theorem val0_4_main_call0_call0_call0_v47 : val0_4 V0 (no_index (Proc.devRef .tc main_call0_call0_call0_v47)) = res_main_call0_call0_call0_v47 V0 := by
  unfold val0_4
  simp only [ops_3, TRef.binary, TRef.nullary, TRef.unary, TRef.toBuf, TRef.ofBuf, cast_eq]
  after_results_simp
  simp only [val0_3_main_call0_call0_call0_v1, val0_3_main_call0_call0_call0_c_5, val0_3_main_call0_call0_call0_v19, val0_3_main_call0_call0_call0_v22, val0_3_main_call0_call0_call0_v20, val0_3_main_call0_call0_v7] <;> rfl

/-- The device's buffer contents after @main's first 150 operations. -/
def val0_5 : Valuation τ sig (Elt F) := after ops_4 (val0_4 V0)
/-- The buffers that window `ops_4`'s operations write. -/
abbrev ops_4_W : List (Ref sig .tc) := [main_call0_call0_call0_c_11, main_call0_call0_call0_v48, main_call0_call0_call0_v49, main_call0_call0_call0_c_12, main_call0_call0_call0_v50, main_call0_call0_call0_v51, main_call0_call0_call0_v52, main_call0_call0_call0_v53, main_call0_call0_call0_v54, main_call0_call0_call0_c_13, main_call0_call0_call0_v55, main_call0_call0_call0_v56, main_call0_call0_call0_c_14, main_call0_call0_call0_v57, main_call0_call0_call0_v58, main_call0_call0_call0_v59, main_call0_call0_call0_v60, main_call0_call0_call0_v61, main_call0_call0_call0_c_15, main_call0_call0_call0_v62, main_call0_call0_call0_v63, main_call0_call0_call0_c_16, main_call0_call0_call0_v64, main_call0_call0_call0_v65, main_call0_call0_call0_v66, main_call0_call0_call0_v67, main_call0_call0_call0_v68, main_call0_call0_call0_v69, main_call0_call0_call0_v70, main_call0_call0_call0_v71]
theorem ops_4_writes : (ops_4 : List (HloOp τ sig (Elt F))).Forall fun op => op.writes ⊆ (ops_4_W.map (Proc.devRef (τ := τ) .tc)).toFinset := by
  simp only [List.Forall, nullary_writes, unary_writes, binary_writes, ternary_writes, reshape_writes]
  and_intros <;> exact writes_mem (by decide)
/-- A buffer that window `ops_4` does not write keeps its contents through it. -/
theorem val0_5_keep (r : Ref sig .tc) (h : r ∉ ops_4_W) :
    val0_5 V0 (Proc.devRef .tc r) = val0_4 V0 (Proc.devRef .tc r) :=
  after_of_writes_sub ops_4 _ ops_4_writes h
theorem val0_5_main_arg0 : val0_5 V0 (no_index (Proc.devRef .tc main_arg0)) = V0 (Proc.devRef .tc main_arg0) :=
  (val0_5_keep V0 main_arg0 (by decide)).trans (val0_4_main_arg0 V0)
theorem val0_5_main_v3 : val0_5 V0 (no_index (Proc.devRef .tc main_v3)) = broadcastInDim S2048x768 ![] bcast_S_S2048x768 (constant S_ .f32 0x3F800000#32) :=
  (val0_5_keep V0 main_v3 (by decide)).trans (val0_4_main_v3 V0)
theorem val0_5_main_v4 : val0_5 V0 (no_index (Proc.devRef .tc main_v4)) = broadcastInDim S768 ![] bcast_S_S768 (constant S_ .f32 0x00000000#32) :=
  (val0_5_keep V0 main_v4 (by decide)).trans (val0_4_main_v4 V0)
theorem val0_5_main_v5 : val0_5 V0 (no_index (Proc.devRef .tc main_v5)) = res_main_v5 V0 :=
  (val0_5_keep V0 main_v5 (by decide)).trans (val0_4_main_v5 V0)
theorem val0_5_main_v6 : val0_5 V0 (no_index (Proc.devRef .tc main_v6)) = res_main_v6 V0 :=
  (val0_5_keep V0 main_v6 (by decide)).trans (val0_4_main_v6 V0)
theorem val0_5_main_v10 : val0_5 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_5_keep V0 main_v10 (by decide)).trans (val0_4_main_v10 V0)
theorem val0_5_main_v25 : val0_5 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) :=
  (val0_5_keep V0 main_v25 (by decide)).trans (val0_4_main_v25 V0)
theorem val0_5_main_call0_call0_v2 : val0_5 V0 (no_index (Proc.devRef .tc main_call0_call0_v2)) = res_main_call0_call0_v2 V0 :=
  (val0_5_keep V0 main_call0_call0_v2 (by decide)).trans (val0_4_main_call0_call0_v2 V0)
theorem val0_5_main_call0_call0_v3 : val0_5 V0 (no_index (Proc.devRef .tc main_call0_call0_v3)) = broadcastInDim S1x1 ![] bcast_S_S1x1 (id (constant S_ .f32 0x3F800000#32)) :=
  (val0_5_keep V0 main_call0_call0_v3 (by decide)).trans (val0_4_main_call0_call0_v3 V0)
theorem val0_5_main_call0_call0_v5 : val0_5 V0 (no_index (Proc.devRef .tc main_call0_call0_v5)) = res_main_call0_call0_v5 V0 :=
  (val0_5_keep V0 main_call0_call0_v5 (by decide)).trans (val0_4_main_call0_call0_v5 V0)
theorem val0_5_main_call0_call0_v7 : val0_5 V0 (no_index (Proc.devRef .tc main_call0_call0_v7)) = res_main_call0_call0_v7 V0 :=
  (val0_5_keep V0 main_call0_call0_v7 (by decide)).trans (val0_4_main_call0_call0_v7 V0)
theorem val0_5_main_call0_call0_call0_v1 : val0_5 V0 (no_index (Proc.devRef .tc main_call0_call0_call0_v1)) = res_main_call0_call0_call0_v1 V0 :=
  (val0_5_keep V0 main_call0_call0_call0_v1 (by decide)).trans (val0_4_main_call0_call0_call0_v1 V0)
theorem val0_5_main_call0_call0_call0_v69 : val0_5 V0 (no_index (Proc.devRef .tc main_call0_call0_call0_v69)) = addi (res_main_call0_call0_call0_v61 V0) (broadcastInDim S8192x2048 ![] bcast_S_S8192x2048 (res_main_call0_call0_call0_v1 V0)) := by
  unfold val0_5
  simp only [ops_4, TRef.binary, TRef.nullary, TRef.unary, TRef.toBuf, TRef.ofBuf, cast_eq]
  after_results_simp
  simp only [val0_4_main_call0_call0_call0_v1, val0_4_main_call0_call0_call0_v46, val0_4_main_call0_call0_call0_v47] <;> rfl
theorem val0_5_main_call0_call0_call0_v71 : val0_5 V0 (no_index (Proc.devRef .tc main_call0_call0_call0_v71)) = addi (xori (res_main_call0_call0_call0_v61 V0) (ori (Host.shli (res_main_call0_call0_call0_v60 V0) (broadcastInDim S8192x2048 ![] bcast_S_S8192x2048 (constantI S_ 32 24#32))) (Host.shrui (res_main_call0_call0_call0_v60 V0) (broadcastInDim S8192x2048 ![] bcast_S_S8192x2048 (constantI S_ 32 8#32))))) (broadcastInDim S8192x2048 ![] bcast_S_S8192x2048 (res_main_call0_call0_v5 V0)) := by
  unfold val0_5
  simp only [ops_4, TRef.binary, TRef.nullary, TRef.unary, TRef.toBuf, TRef.ofBuf, cast_eq]
  after_results_simp
  simp only [val0_4_main_call0_call0_v5, val0_4_main_call0_call0_call0_v46, val0_4_main_call0_call0_call0_v47] <;> rfl

/-- The device's buffer contents after @main's first 180 operations. -/
def val0_6 : Valuation τ sig (Elt F) := after ops_5 (val0_5 V0)
/-- The buffers that window `ops_5`'s operations write. -/
abbrev ops_5_W : List (Ref sig .tc) := [main_call0_call0_call0_c_17, main_call0_call0_call0_v72, main_call0_call0_call0_v73, main_call0_call0_call0_v74, main_call0_call0_call0_c_18, main_call0_call0_call0_v75, main_call0_call0_call0_v76, main_call0_call0_call0_c_19, main_call0_call0_call0_v77, main_call0_call0_call0_v78, main_call0_call0_call0_v79, main_call0_call0_call0_v80, main_call0_call0_call0_v81, main_call0_call0_call0_c_20, main_call0_call0_call0_v82, main_call0_call0_call0_v83, main_call0_call0_call0_c_21, main_call0_call0_call0_v84, main_call0_call0_call0_v85, main_call0_call0_call0_v86, main_call0_call0_call0_v87, main_call0_call0_call0_v88, main_call0_call0_call0_c_22, main_call0_call0_call0_v89, main_call0_call0_call0_v90, main_call0_call0_call0_c_23, main_call0_call0_call0_v91, main_call0_call0_call0_v92, main_call0_call0_call0_v93, main_call0_call0_call0_v94]
theorem ops_5_writes : (ops_5 : List (HloOp τ sig (Elt F))).Forall fun op => op.writes ⊆ (ops_5_W.map (Proc.devRef (τ := τ) .tc)).toFinset := by
  simp only [List.Forall, nullary_writes, unary_writes, binary_writes, ternary_writes, reshape_writes]
  and_intros <;> exact writes_mem (by decide)
/-- A buffer that window `ops_5` does not write keeps its contents through it. -/
theorem val0_6_keep (r : Ref sig .tc) (h : r ∉ ops_5_W) :
    val0_6 V0 (Proc.devRef .tc r) = val0_5 V0 (Proc.devRef .tc r) :=
  after_of_writes_sub ops_5 _ ops_5_writes h
theorem val0_6_main_arg0 : val0_6 V0 (no_index (Proc.devRef .tc main_arg0)) = V0 (Proc.devRef .tc main_arg0) :=
  (val0_6_keep V0 main_arg0 (by decide)).trans (val0_5_main_arg0 V0)
theorem val0_6_main_v3 : val0_6 V0 (no_index (Proc.devRef .tc main_v3)) = broadcastInDim S2048x768 ![] bcast_S_S2048x768 (constant S_ .f32 0x3F800000#32) :=
  (val0_6_keep V0 main_v3 (by decide)).trans (val0_5_main_v3 V0)
theorem val0_6_main_v4 : val0_6 V0 (no_index (Proc.devRef .tc main_v4)) = broadcastInDim S768 ![] bcast_S_S768 (constant S_ .f32 0x00000000#32) :=
  (val0_6_keep V0 main_v4 (by decide)).trans (val0_5_main_v4 V0)
theorem val0_6_main_v5 : val0_6 V0 (no_index (Proc.devRef .tc main_v5)) = res_main_v5 V0 :=
  (val0_6_keep V0 main_v5 (by decide)).trans (val0_5_main_v5 V0)
theorem val0_6_main_v6 : val0_6 V0 (no_index (Proc.devRef .tc main_v6)) = res_main_v6 V0 :=
  (val0_6_keep V0 main_v6 (by decide)).trans (val0_5_main_v6 V0)
theorem val0_6_main_v10 : val0_6 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_6_keep V0 main_v10 (by decide)).trans (val0_5_main_v10 V0)
theorem val0_6_main_v25 : val0_6 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) :=
  (val0_6_keep V0 main_v25 (by decide)).trans (val0_5_main_v25 V0)
theorem val0_6_main_call0_call0_v2 : val0_6 V0 (no_index (Proc.devRef .tc main_call0_call0_v2)) = res_main_call0_call0_v2 V0 :=
  (val0_6_keep V0 main_call0_call0_v2 (by decide)).trans (val0_5_main_call0_call0_v2 V0)
theorem val0_6_main_call0_call0_v3 : val0_6 V0 (no_index (Proc.devRef .tc main_call0_call0_v3)) = broadcastInDim S1x1 ![] bcast_S_S1x1 (id (constant S_ .f32 0x3F800000#32)) :=
  (val0_6_keep V0 main_call0_call0_v3 (by decide)).trans (val0_5_main_call0_call0_v3 V0)
theorem val0_6_main_call0_call0_v5 : val0_6 V0 (no_index (Proc.devRef .tc main_call0_call0_v5)) = res_main_call0_call0_v5 V0 :=
  (val0_6_keep V0 main_call0_call0_v5 (by decide)).trans (val0_5_main_call0_call0_v5 V0)
theorem val0_6_main_call0_call0_v7 : val0_6 V0 (no_index (Proc.devRef .tc main_call0_call0_v7)) = res_main_call0_call0_v7 V0 :=
  (val0_6_keep V0 main_call0_call0_v7 (by decide)).trans (val0_5_main_call0_call0_v7 V0)
theorem val0_6_main_call0_call0_call0_v1 : val0_6 V0 (no_index (Proc.devRef .tc main_call0_call0_call0_v1)) = res_main_call0_call0_call0_v1 V0 :=
  (val0_6_keep V0 main_call0_call0_call0_v1 (by decide)).trans (val0_5_main_call0_call0_call0_v1 V0)
theorem val0_6_main_call0_call0_call0_v88 : val0_6 V0 (no_index (Proc.devRef .tc main_call0_call0_call0_v88)) = res_main_call0_call0_call0_v88 V0 := by
  unfold val0_6
  simp only [ops_5, TRef.binary, TRef.nullary, TRef.unary, TRef.toBuf, TRef.ofBuf, cast_eq]
  after_results_simp
  simp only [val0_5_main_call0_call0_call0_v71, val0_5_main_call0_call0_call0_v69] <;> rfl
theorem val0_6_main_call0_call0_call0_v94 : val0_6 V0 (no_index (Proc.devRef .tc main_call0_call0_call0_v94)) = res_main_call0_call0_call0_v94 V0 := by
  unfold val0_6
  simp only [ops_5, TRef.binary, TRef.nullary, TRef.unary, TRef.toBuf, TRef.ofBuf, cast_eq]
  after_results_simp
  simp only [val0_5_main_call0_call0_call0_v71, val0_5_main_call0_call0_call0_v69] <;> rfl

/-- The device's buffer contents after @main's first 210 operations. -/
def val0_7 : Valuation τ sig (Elt F) := after ops_6 (val0_6 V0)
/-- The buffers that window `ops_6`'s operations write. -/
abbrev ops_6_W : List (Ref sig .tc) := [main_call0_call0_call0_v95, main_call0_call0_call0_c_24, main_call0_call0_call0_v96, main_call0_call0_call0_v97, main_call0_call0_call0_c_25, main_call0_call0_call0_v98, main_call0_call0_call0_v99, main_call0_call0_call0_v100, main_call0_call0_call0_v101, main_call0_call0_call0_v102, main_call0_call0_call0_v103, main_call0_call0_call0_v104, main_call0_call0_call0_v105, main_call0_call0_call0_c_26, main_call0_call0_call0_v106, main_call0_call0_call0_v107, main_call0_call0_call0_v108, main_call0_call0_call0_c_27, main_call0_call0_call0_v109, main_call0_call0_call0_v110, main_call0_call0_call0_c_28, main_call0_call0_call0_v111, main_call0_call0_call0_v112, main_call0_call0_call0_v113, main_call0_call0_call0_v114, main_call0_call0_call0_v115, main_call0_call0_call0_c_29, main_call0_call0_call0_v116, main_call0_call0_call0_v117, main_call0_call0_call0_c_30]
theorem ops_6_writes : (ops_6 : List (HloOp τ sig (Elt F))).Forall fun op => op.writes ⊆ (ops_6_W.map (Proc.devRef (τ := τ) .tc)).toFinset := by
  simp only [List.Forall, nullary_writes, unary_writes, binary_writes, ternary_writes, reshape_writes]
  and_intros <;> exact writes_mem (by decide)
/-- A buffer that window `ops_6` does not write keeps its contents through it. -/
theorem val0_7_keep (r : Ref sig .tc) (h : r ∉ ops_6_W) :
    val0_7 V0 (Proc.devRef .tc r) = val0_6 V0 (Proc.devRef .tc r) :=
  after_of_writes_sub ops_6 _ ops_6_writes h
theorem val0_7_main_arg0 : val0_7 V0 (no_index (Proc.devRef .tc main_arg0)) = V0 (Proc.devRef .tc main_arg0) :=
  (val0_7_keep V0 main_arg0 (by decide)).trans (val0_6_main_arg0 V0)
theorem val0_7_main_v3 : val0_7 V0 (no_index (Proc.devRef .tc main_v3)) = broadcastInDim S2048x768 ![] bcast_S_S2048x768 (constant S_ .f32 0x3F800000#32) :=
  (val0_7_keep V0 main_v3 (by decide)).trans (val0_6_main_v3 V0)
theorem val0_7_main_v4 : val0_7 V0 (no_index (Proc.devRef .tc main_v4)) = broadcastInDim S768 ![] bcast_S_S768 (constant S_ .f32 0x00000000#32) :=
  (val0_7_keep V0 main_v4 (by decide)).trans (val0_6_main_v4 V0)
theorem val0_7_main_v5 : val0_7 V0 (no_index (Proc.devRef .tc main_v5)) = res_main_v5 V0 :=
  (val0_7_keep V0 main_v5 (by decide)).trans (val0_6_main_v5 V0)
theorem val0_7_main_v6 : val0_7 V0 (no_index (Proc.devRef .tc main_v6)) = res_main_v6 V0 :=
  (val0_7_keep V0 main_v6 (by decide)).trans (val0_6_main_v6 V0)
theorem val0_7_main_v10 : val0_7 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_7_keep V0 main_v10 (by decide)).trans (val0_6_main_v10 V0)
theorem val0_7_main_v25 : val0_7 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) :=
  (val0_7_keep V0 main_v25 (by decide)).trans (val0_6_main_v25 V0)
theorem val0_7_main_call0_call0_v2 : val0_7 V0 (no_index (Proc.devRef .tc main_call0_call0_v2)) = res_main_call0_call0_v2 V0 :=
  (val0_7_keep V0 main_call0_call0_v2 (by decide)).trans (val0_6_main_call0_call0_v2 V0)
theorem val0_7_main_call0_call0_v3 : val0_7 V0 (no_index (Proc.devRef .tc main_call0_call0_v3)) = broadcastInDim S1x1 ![] bcast_S_S1x1 (id (constant S_ .f32 0x3F800000#32)) :=
  (val0_7_keep V0 main_call0_call0_v3 (by decide)).trans (val0_6_main_call0_call0_v3 V0)
theorem val0_7_main_call0_call0_v5 : val0_7 V0 (no_index (Proc.devRef .tc main_call0_call0_v5)) = res_main_call0_call0_v5 V0 :=
  (val0_7_keep V0 main_call0_call0_v5 (by decide)).trans (val0_6_main_call0_call0_v5 V0)
theorem val0_7_main_call0_call0_v7 : val0_7 V0 (no_index (Proc.devRef .tc main_call0_call0_v7)) = res_main_call0_call0_v7 V0 :=
  (val0_7_keep V0 main_call0_call0_v7 (by decide)).trans (val0_6_main_call0_call0_v7 V0)
theorem val0_7_main_call0_call0_call0_v1 : val0_7 V0 (no_index (Proc.devRef .tc main_call0_call0_call0_v1)) = res_main_call0_call0_call0_v1 V0 :=
  (val0_7_keep V0 main_call0_call0_call0_v1 (by decide)).trans (val0_6_main_call0_call0_call0_v1 V0)
theorem val0_7_main_call0_call0_call0_v114 : val0_7 V0 (no_index (Proc.devRef .tc main_call0_call0_call0_v114)) = res_main_call0_call0_call0_v114 V0 := by
  unfold val0_7
  simp only [ops_6, TRef.binary, TRef.nullary, TRef.unary, TRef.toBuf, TRef.ofBuf, cast_eq]
  after_results_simp
  simp only [val0_6_main_call0_call0_v7, val0_6_main_call0_call0_call0_v94, val0_6_main_call0_call0_call0_v88, val0_6_main_call0_call0_v5] <;> rfl
theorem val0_7_main_call0_call0_call0_v115 : val0_7 V0 (no_index (Proc.devRef .tc main_call0_call0_call0_v115)) = res_main_call0_call0_call0_v115 V0 := by
  unfold val0_7
  simp only [ops_6, TRef.binary, TRef.nullary, TRef.unary, TRef.toBuf, TRef.ofBuf, cast_eq]
  after_results_simp
  simp only [val0_6_main_call0_call0_v7, val0_6_main_call0_call0_call0_v94, val0_6_main_call0_call0_call0_v88, val0_6_main_call0_call0_v5] <;> rfl
theorem val0_7_main_call0_call0_call0_v117 : val0_7 V0 (no_index (Proc.devRef .tc main_call0_call0_call0_v117)) = Host.shli (res_main_call0_call0_call0_v114 V0) (broadcastInDim S8192x2048 ![] bcast_S_S8192x2048 (constantI S_ 32 29#32)) := by
  unfold val0_7
  simp only [ops_6, TRef.binary, TRef.nullary, TRef.unary, TRef.toBuf, TRef.ofBuf, cast_eq]
  after_results_simp
  simp only [val0_6_main_call0_call0_v7, val0_6_main_call0_call0_call0_v94, val0_6_main_call0_call0_call0_v88, val0_6_main_call0_call0_v5] <;> rfl
theorem val0_7_main_call0_call0_call0_c_30 : val0_7 V0 (no_index (Proc.devRef .tc main_call0_call0_call0_c_30)) = constantI S_ 32 3#32 := by
  unfold val0_7
  simp only [ops_6, TRef.binary, TRef.nullary, TRef.unary, TRef.toBuf, TRef.ofBuf, cast_eq]
  after_results_simp
  all_goals rfl

/-- The device's buffer contents after @main's first 240 operations. -/
def val0_8 : Valuation τ sig (Elt F) := after ops_7 (val0_7 V0)
/-- The buffers that window `ops_7`'s operations write. -/
abbrev ops_7_W : List (Ref sig .tc) := [main_call0_call0_call0_v118, main_call0_call0_call0_v119, main_call0_call0_call0_v120, main_call0_call0_call0_v121, main_call0_call0_call0_v122, main_call0_call0_call0_c_31, main_call0_call0_call0_v123, main_call0_call0_call0_v124, main_call0_call0_call0_c_32, main_call0_call0_call0_v125, main_call0_call0_call0_v126, main_call0_call0_call0_v127, main_call0_call0_call0_v128, main_call0_call0_call0_v129, main_call0_call0_call0_c_33, main_call0_call0_call0_v130, main_call0_call0_call0_v131, main_call0_call0_call0_c_34, main_call0_call0_call0_v132, main_call0_call0_call0_v133, main_call0_call0_call0_v134, main_call0_call0_call0_v135, main_call0_call0_call0_v136, main_call0_call0_call0_v137, main_call0_call0_call0_v138, main_call0_call0_call0_v139, main_call0_call0_call0_c_35, main_call0_call0_call0_v140, main_call0_call0_call0_v141, main_call0_call0_call0_v142]
theorem ops_7_writes : (ops_7 : List (HloOp τ sig (Elt F))).Forall fun op => op.writes ⊆ (ops_7_W.map (Proc.devRef (τ := τ) .tc)).toFinset := by
  simp only [List.Forall, nullary_writes, unary_writes, binary_writes, ternary_writes, reshape_writes]
  and_intros <;> exact writes_mem (by decide)
/-- A buffer that window `ops_7` does not write keeps its contents through it. -/
theorem val0_8_keep (r : Ref sig .tc) (h : r ∉ ops_7_W) :
    val0_8 V0 (Proc.devRef .tc r) = val0_7 V0 (Proc.devRef .tc r) :=
  after_of_writes_sub ops_7 _ ops_7_writes h
theorem val0_8_main_arg0 : val0_8 V0 (no_index (Proc.devRef .tc main_arg0)) = V0 (Proc.devRef .tc main_arg0) :=
  (val0_8_keep V0 main_arg0 (by decide)).trans (val0_7_main_arg0 V0)
theorem val0_8_main_v3 : val0_8 V0 (no_index (Proc.devRef .tc main_v3)) = broadcastInDim S2048x768 ![] bcast_S_S2048x768 (constant S_ .f32 0x3F800000#32) :=
  (val0_8_keep V0 main_v3 (by decide)).trans (val0_7_main_v3 V0)
theorem val0_8_main_v4 : val0_8 V0 (no_index (Proc.devRef .tc main_v4)) = broadcastInDim S768 ![] bcast_S_S768 (constant S_ .f32 0x00000000#32) :=
  (val0_8_keep V0 main_v4 (by decide)).trans (val0_7_main_v4 V0)
theorem val0_8_main_v5 : val0_8 V0 (no_index (Proc.devRef .tc main_v5)) = res_main_v5 V0 :=
  (val0_8_keep V0 main_v5 (by decide)).trans (val0_7_main_v5 V0)
theorem val0_8_main_v6 : val0_8 V0 (no_index (Proc.devRef .tc main_v6)) = res_main_v6 V0 :=
  (val0_8_keep V0 main_v6 (by decide)).trans (val0_7_main_v6 V0)
theorem val0_8_main_v10 : val0_8 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_8_keep V0 main_v10 (by decide)).trans (val0_7_main_v10 V0)
theorem val0_8_main_v25 : val0_8 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) :=
  (val0_8_keep V0 main_v25 (by decide)).trans (val0_7_main_v25 V0)
theorem val0_8_main_call0_call0_v2 : val0_8 V0 (no_index (Proc.devRef .tc main_call0_call0_v2)) = res_main_call0_call0_v2 V0 :=
  (val0_8_keep V0 main_call0_call0_v2 (by decide)).trans (val0_7_main_call0_call0_v2 V0)
theorem val0_8_main_call0_call0_v3 : val0_8 V0 (no_index (Proc.devRef .tc main_call0_call0_v3)) = broadcastInDim S1x1 ![] bcast_S_S1x1 (id (constant S_ .f32 0x3F800000#32)) :=
  (val0_8_keep V0 main_call0_call0_v3 (by decide)).trans (val0_7_main_call0_call0_v3 V0)
theorem val0_8_main_call0_call0_v5 : val0_8 V0 (no_index (Proc.devRef .tc main_call0_call0_v5)) = res_main_call0_call0_v5 V0 :=
  (val0_8_keep V0 main_call0_call0_v5 (by decide)).trans (val0_7_main_call0_call0_v5 V0)
theorem val0_8_main_call0_call0_call0_v1 : val0_8 V0 (no_index (Proc.devRef .tc main_call0_call0_call0_v1)) = res_main_call0_call0_call0_v1 V0 :=
  (val0_8_keep V0 main_call0_call0_call0_v1 (by decide)).trans (val0_7_main_call0_call0_call0_v1 V0)
theorem val0_8_main_call0_call0_call0_v141 : val0_8 V0 (no_index (Proc.devRef .tc main_call0_call0_call0_v141)) = res_main_call0_call0_call0_v141 V0 := by
  unfold val0_8
  simp only [ops_7, TRef.binary, TRef.nullary, TRef.unary, TRef.toBuf, TRef.ofBuf, cast_eq]
  after_results_simp
  simp only [val0_7_main_call0_call0_call0_v1, val0_7_main_call0_call0_call0_c_30, val0_7_main_call0_call0_call0_v114, val0_7_main_call0_call0_call0_v117, val0_7_main_call0_call0_call0_v115] <;> rfl
theorem val0_8_main_call0_call0_call0_v142 : val0_8 V0 (no_index (Proc.devRef .tc main_call0_call0_call0_v142)) = res_main_call0_call0_call0_v142 V0 := by
  unfold val0_8
  simp only [ops_7, TRef.binary, TRef.nullary, TRef.unary, TRef.toBuf, TRef.ofBuf, cast_eq]
  after_results_simp
  simp only [val0_7_main_call0_call0_call0_v1, val0_7_main_call0_call0_call0_c_30, val0_7_main_call0_call0_call0_v114, val0_7_main_call0_call0_call0_v117, val0_7_main_call0_call0_call0_v115, val0_7_main_call0_call0_v7] <;> rfl

/-- The device's buffer contents after @main's first 270 operations. -/
def val0_9 : Valuation τ sig (Elt F) := after ops_8 (val0_8 V0)
/-- The buffers that window `ops_8`'s operations write. -/
abbrev ops_8_W : List (Ref sig .tc) := [main_call0_call0_call0_c_36, main_call0_call0_call0_v143, main_call0_call0_call0_v144, main_call0_call0_call0_c_37, main_call0_call0_call0_v145, main_call0_call0_call0_v146, main_call0_call0_call0_v147, main_call0_call0_call0_v148, main_call0_call0_call0_v149, main_call0_call0_call0_c_38, main_call0_call0_call0_v150, main_call0_call0_call0_v151, main_call0_call0_call0_c_39, main_call0_call0_call0_v152, main_call0_call0_call0_v153, main_call0_call0_call0_v154, main_call0_call0_call0_v155, main_call0_call0_call0_v156, main_call0_call0_call0_c_40, main_call0_call0_call0_v157, main_call0_call0_call0_v158, main_call0_call0_call0_c_41, main_call0_call0_call0_v159, main_call0_call0_call0_v160, main_call0_call0_call0_v161, main_call0_call0_call0_v162, main_call0_call0_call0_v163, main_call0_call0_call0_c_42, main_call0_call0_call0_v164, main_call0_call0_call0_v165]
theorem ops_8_writes : (ops_8 : List (HloOp τ sig (Elt F))).Forall fun op => op.writes ⊆ (ops_8_W.map (Proc.devRef (τ := τ) .tc)).toFinset := by
  simp only [List.Forall, nullary_writes, unary_writes, binary_writes, ternary_writes, reshape_writes]
  and_intros <;> exact writes_mem (by decide)
/-- A buffer that window `ops_8` does not write keeps its contents through it. -/
theorem val0_9_keep (r : Ref sig .tc) (h : r ∉ ops_8_W) :
    val0_9 V0 (Proc.devRef .tc r) = val0_8 V0 (Proc.devRef .tc r) :=
  after_of_writes_sub ops_8 _ ops_8_writes h
theorem val0_9_main_arg0 : val0_9 V0 (no_index (Proc.devRef .tc main_arg0)) = V0 (Proc.devRef .tc main_arg0) :=
  (val0_9_keep V0 main_arg0 (by decide)).trans (val0_8_main_arg0 V0)
theorem val0_9_main_v3 : val0_9 V0 (no_index (Proc.devRef .tc main_v3)) = broadcastInDim S2048x768 ![] bcast_S_S2048x768 (constant S_ .f32 0x3F800000#32) :=
  (val0_9_keep V0 main_v3 (by decide)).trans (val0_8_main_v3 V0)
theorem val0_9_main_v4 : val0_9 V0 (no_index (Proc.devRef .tc main_v4)) = broadcastInDim S768 ![] bcast_S_S768 (constant S_ .f32 0x00000000#32) :=
  (val0_9_keep V0 main_v4 (by decide)).trans (val0_8_main_v4 V0)
theorem val0_9_main_v5 : val0_9 V0 (no_index (Proc.devRef .tc main_v5)) = res_main_v5 V0 :=
  (val0_9_keep V0 main_v5 (by decide)).trans (val0_8_main_v5 V0)
theorem val0_9_main_v6 : val0_9 V0 (no_index (Proc.devRef .tc main_v6)) = res_main_v6 V0 :=
  (val0_9_keep V0 main_v6 (by decide)).trans (val0_8_main_v6 V0)
theorem val0_9_main_v10 : val0_9 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_9_keep V0 main_v10 (by decide)).trans (val0_8_main_v10 V0)
theorem val0_9_main_v25 : val0_9 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) :=
  (val0_9_keep V0 main_v25 (by decide)).trans (val0_8_main_v25 V0)
theorem val0_9_main_call0_call0_v2 : val0_9 V0 (no_index (Proc.devRef .tc main_call0_call0_v2)) = res_main_call0_call0_v2 V0 :=
  (val0_9_keep V0 main_call0_call0_v2 (by decide)).trans (val0_8_main_call0_call0_v2 V0)
theorem val0_9_main_call0_call0_v3 : val0_9 V0 (no_index (Proc.devRef .tc main_call0_call0_v3)) = broadcastInDim S1x1 ![] bcast_S_S1x1 (id (constant S_ .f32 0x3F800000#32)) :=
  (val0_9_keep V0 main_call0_call0_v3 (by decide)).trans (val0_8_main_call0_call0_v3 V0)
theorem val0_9_main_call0_call0_v5 : val0_9 V0 (no_index (Proc.devRef .tc main_call0_call0_v5)) = res_main_call0_call0_v5 V0 :=
  (val0_9_keep V0 main_call0_call0_v5 (by decide)).trans (val0_8_main_call0_call0_v5 V0)
theorem val0_9_main_call0_call0_call0_v1 : val0_9 V0 (no_index (Proc.devRef .tc main_call0_call0_call0_v1)) = res_main_call0_call0_call0_v1 V0 :=
  (val0_9_keep V0 main_call0_call0_call0_v1 (by decide)).trans (val0_8_main_call0_call0_call0_v1 V0)
theorem val0_9_main_call0_call0_call0_v162 : val0_9 V0 (no_index (Proc.devRef .tc main_call0_call0_call0_v162)) = res_main_call0_call0_call0_v162 V0 := by
  unfold val0_9
  simp only [ops_8, TRef.binary, TRef.nullary, TRef.unary, TRef.toBuf, TRef.ofBuf, cast_eq]
  after_results_simp
  simp only [val0_8_main_call0_call0_call0_v141, val0_8_main_call0_call0_call0_v142] <;> rfl
theorem val0_9_main_call0_call0_call0_v163 : val0_9 V0 (no_index (Proc.devRef .tc main_call0_call0_call0_v163)) = res_main_call0_call0_call0_v163 V0 := by
  unfold val0_9
  simp only [ops_8, TRef.binary, TRef.nullary, TRef.unary, TRef.toBuf, TRef.ofBuf, cast_eq]
  after_results_simp
  simp only [val0_8_main_call0_call0_call0_v141, val0_8_main_call0_call0_call0_v142] <;> rfl
theorem val0_9_main_call0_call0_call0_v165 : val0_9 V0 (no_index (Proc.devRef .tc main_call0_call0_call0_v165)) = Host.shli (res_main_call0_call0_call0_v162 V0) (broadcastInDim S8192x2048 ![] bcast_S_S8192x2048 (constantI S_ 32 6#32)) := by
  unfold val0_9
  simp only [ops_8, TRef.binary, TRef.nullary, TRef.unary, TRef.toBuf, TRef.ofBuf, cast_eq]
  after_results_simp
  simp only [val0_8_main_call0_call0_call0_v141, val0_8_main_call0_call0_call0_v142] <;> rfl

/-- The device's buffer contents after @main's first 300 operations. -/
def val0_10 : Valuation τ sig (Elt F) := after ops_9 (val0_9 V0)
/-- The buffers that window `ops_9`'s operations write. -/
abbrev ops_9_W : List (Ref sig .tc) := [main_call0_call0_call0_c_43, main_call0_call0_call0_v166, main_call0_call0_call0_v167, main_call0_call0_call0_v168, main_call0_call0_call0_v169, main_call0_call0_call0_v170, main_call0_call0_v19_0, main_call0_call0_call0_v172, main_call0_call0_call0_v173, main_call0_call0_call0_c_44, main_call0_call0_call0_v174, main_call0_call0_v19_1, main_call0_call0_v20, main_call0_call0_c_2, main_call0_call0_v21, main_call0_call0_v22, main_call0_call0_c_3, main_call0_call0_v23, main_call0_call0_v24, main_call0_call0_v25, main_call0_call0_cst, main_call0_call0_v26, main_call0_call0_v27, main_call0_call0_v28, main_call0_call0_v29, main_call0_call0_v30, main_call0_call0_v31, main_call0_call0_v32, main_call0_call0_v33, main_call0_v0]
theorem ops_9_writes : (ops_9 : List (HloOp τ sig (Elt F))).Forall fun op => op.writes ⊆ (ops_9_W.map (Proc.devRef (τ := τ) .tc)).toFinset := by
  simp only [List.Forall, nullary_writes, unary_writes, binary_writes, ternary_writes, reshape_writes]
  and_intros <;> exact writes_mem (by decide)
/-- A buffer that window `ops_9` does not write keeps its contents through it. -/
theorem val0_10_keep (r : Ref sig .tc) (h : r ∉ ops_9_W) :
    val0_10 V0 (Proc.devRef .tc r) = val0_9 V0 (Proc.devRef .tc r) :=
  after_of_writes_sub ops_9 _ ops_9_writes h
theorem val0_10_main_arg0 : val0_10 V0 (no_index (Proc.devRef .tc main_arg0)) = V0 (Proc.devRef .tc main_arg0) :=
  (val0_10_keep V0 main_arg0 (by decide)).trans (val0_9_main_arg0 V0)
theorem val0_10_main_v3 : val0_10 V0 (no_index (Proc.devRef .tc main_v3)) = broadcastInDim S2048x768 ![] bcast_S_S2048x768 (constant S_ .f32 0x3F800000#32) :=
  (val0_10_keep V0 main_v3 (by decide)).trans (val0_9_main_v3 V0)
theorem val0_10_main_v4 : val0_10 V0 (no_index (Proc.devRef .tc main_v4)) = broadcastInDim S768 ![] bcast_S_S768 (constant S_ .f32 0x00000000#32) :=
  (val0_10_keep V0 main_v4 (by decide)).trans (val0_9_main_v4 V0)
theorem val0_10_main_v5 : val0_10 V0 (no_index (Proc.devRef .tc main_v5)) = res_main_v5 V0 :=
  (val0_10_keep V0 main_v5 (by decide)).trans (val0_9_main_v5 V0)
theorem val0_10_main_v6 : val0_10 V0 (no_index (Proc.devRef .tc main_v6)) = res_main_v6 V0 :=
  (val0_10_keep V0 main_v6 (by decide)).trans (val0_9_main_v6 V0)
theorem val0_10_main_v10 : val0_10 V0 (no_index (Proc.devRef .tc main_v10)) = addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0)))) :=
  (val0_10_keep V0 main_v10 (by decide)).trans (val0_9_main_v10 V0)
theorem val0_10_main_v25 : val0_10 V0 (no_index (Proc.devRef .tc main_v25)) = broadcastInDim S1x2048 ![1] bcast_S2048_S1x2048_1 (Host.exp (mulf (broadcastInDim S2048 ![] bcast_S_S2048 (constant S_ .f32 0xBF000000#32)) (mulf (res_main_v13 V0) (res_main_v13 V0)))) :=
  (val0_10_keep V0 main_v25 (by decide)).trans (val0_9_main_v25 V0)
theorem val0_10_main_call0_v0 : val0_10 V0 (no_index (Proc.devRef .tc main_call0_v0)) = maximumf (broadcastInDim S8192x2048 ![0, 1] bcast_S1x1_S8192x2048_0_1 (res_main_call0_call0_v2 V0)) (addf (mulf (subf (bitcastToFloat (F := F) .f32 (ori (Host.shrui (xori (addi (res_main_call0_call0_call0_v163 V0) (broadcastInDim S8192x2048 ![] bcast_S_S8192x2048 (res_main_call0_call0_call0_v1 V0))) (addi (addi (xori (res_main_call0_call0_call0_v163 V0) (ori (Host.shli (res_main_call0_call0_call0_v162 V0) (broadcastInDim S8192x2048 ![] bcast_S_S8192x2048 (constantI S_ 32 6#32))) (Host.shrui (res_main_call0_call0_call0_v162 V0) (broadcastInDim S8192x2048 ![] bcast_S_S8192x2048 (constantI S_ 32 26#32))))) (broadcastInDim S8192x2048 ![] bcast_S_S8192x2048 (res_main_call0_call0_v5 V0))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (res_main_call0_call0_v2 V0)))) (broadcastInDim S8192x2048 ![0, 1] bcast_S1x1_S8192x2048_0_1 (res_main_call0_call0_v2 V0))) := by
  unfold val0_10
  simp only [ops_9, TRef.binary, TRef.nullary, TRef.unary, TRef.toBuf, TRef.ofBuf, cast_eq]
  after_results_simp
  simp only [val0_9_main_call0_call0_v2, val0_9_main_call0_call0_v3, val0_9_main_call0_call0_v5, val0_9_main_call0_call0_call0_v162, val0_9_main_call0_call0_call0_v165, val0_9_main_call0_call0_call0_v163, val0_9_main_call0_call0_call0_v1] <;> rfl

/-- The device's buffer contents after @main's 325 operations. -/
def val1 : Valuation τ sig (Elt F) := after ops_10 (val0_10 V0)
/-- The buffers that window `ops_10`'s operations write. -/
abbrev ops_10_W : List (Ref sig .tc) := [main_call0_v1, main_v26, main_v27, main_v28, main_v29, main_v30, main_v31, main_v32, main_v33, main_cst_8, main_v34, main_v35, main_v36, main_v37, main_cst_9, main_v38, main_v39, main_v40, main_cst_10, main_call1_v0, main_call1_v1, main_v41, main_cst_11, main_v42, main_v43]
theorem ops_10_writes : (ops_10 : List (HloOp τ sig (Elt F))).Forall fun op => op.writes ⊆ (ops_10_W.map (Proc.devRef (τ := τ) .tc)).toFinset := by
  simp only [List.Forall, nullary_writes, unary_writes, binary_writes, ternary_writes, reshape_writes]
  and_intros <;> exact writes_mem (by decide)
/-- A buffer that window `ops_10` does not write keeps its contents through it. -/
theorem val1_keep (r : Ref sig .tc) (h : r ∉ ops_10_W) :
    val1 V0 (Proc.devRef .tc r) = val0_10 V0 (Proc.devRef .tc r) :=
  after_of_writes_sub ops_10 _ ops_10_writes h
theorem val1_main_arg0 : val1 V0 (no_index (Proc.devRef .tc main_arg0)) = V0 (Proc.devRef .tc main_arg0) :=
  (val1_keep V0 main_arg0 (by decide)).trans (val0_10_main_arg0 V0)
theorem val1_main_v33 : val1 V0 (no_index (Proc.devRef .tc main_v33)) = addf (addf (Host.dotGeneral dot_S8192x2048_S2048x768_S8192x768_1_0_0_1_n_n none (mulf (addf (Host.dotGeneral dot_S8192x768_S768x2048_S8192x2048_1_0_0_1_n_n none (res_main_v5 V0) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 (V0 (Proc.devRef .tc main_arg0))))) (uitofp .f32 (cmpf .olt (maximumf (broadcastInDim S8192x2048 ![0, 1] bcast_S1x1_S8192x2048_0_1 (res_main_call0_call0_v2 V0)) (addf (mulf (subf (bitcastToFloat (F := F) .f32 (ori (Host.shrui (xori (addi (res_main_call0_call0_call0_v163 V0) (broadcastInDim S8192x2048 ![] bcast_S_S8192x2048 (res_main_call0_call0_call0_v1 V0))) (addi (addi (xori (res_main_call0_call0_call0_v163 V0) (ori (Host.shli (res_main_call0_call0_call0_v162 V0) (broadcastInDim S8192x2048 ![] bcast_S_S8192x2048 (constantI S_ 32 6#32))) (Host.shrui (res_main_call0_call0_call0_v162 V0) (broadcastInDim S8192x2048 ![] bcast_S_S8192x2048 (constantI S_ 32 26#32))))) (broadcastInDim S8192x2048 ![] bcast_S_S8192x2048 (res_main_call0_call0_v5 V0))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (res_main_call0_call0_v2 V0)))) (broadcastInDim S8192x2048 ![0, 1] bcast_S1x1_S8192x2048_0_1 (res_main_call0_call0_v2 V0)))) (broadcastInDim S8192x2048 ![0, 1] bcast_S1x2048_S8192x2048_0_1 (broadcastInDim S1x2048 ![1] bcast_S2048_S1x2048_1 (Host.exp (mulf (broadcastInDim S2048 ![] bcast_S_S2048 (constant S_ .f32 0xBF000000#32)) (mulf (res_main_v13 V0) (res_main_v13 V0))))))))) (broadcastInDim S2048x768 ![] bcast_S_S2048x768 (constant S_ .f32 0x3F800000#32))) (broadcastInDim S8192x768 ![0, 1] bcast_S1x768_S8192x768_0_1 (broadcastInDim S1x768 ![1] bcast_S768_S1x768_1 (broadcastInDim S768 ![] bcast_S_S768 (constant S_ .f32 0x00000000#32))))) (res_main_v5 V0) := by
  unfold val1
  simp only [ops_10, TRef.binary, TRef.ternary, TRef.unary, TRef.toBuf, TRef.ofBuf, cast_eq]
  after_results_simp
  simp only [val0_10_main_v5, val0_10_main_v4, val0_10_main_v3, val0_10_main_v25, val0_10_main_call0_v0, val0_10_main_v10] <;> rfl

theorem after_ops : after ops V0 = val1 V0 := by
  simp only [ops, after_append]
  rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = addf (addf (Host.dotGeneral dot_S8192x2048_S2048x768_S8192x768_1_0_0_1_n_n none (mulf (addf (Host.dotGeneral dot_S8192x768_S768x2048_S8192x2048_1_0_0_1_n_n none (res_main_v5 (launchContents m c)) (broadcastInDim S768x2048 ![] bcast_S_S768x2048 (constant S_ .f32 0x00000000#32))) (broadcastInDim S8192x2048 ![0, 1] bcast_S1x2048_S8192x2048_0_1 (broadcastInDim S1x2048 ![1] bcast_S2048_S1x2048_1 ((launchContents m c) (Proc.devRef .tc main_arg0))))) (uitofp .f32 (cmpf .olt (maximumf (broadcastInDim S8192x2048 ![0, 1] bcast_S1x1_S8192x2048_0_1 (res_main_call0_call0_v2 (launchContents m c))) (addf (mulf (subf (bitcastToFloat (F := F) .f32 (ori (Host.shrui (xori (addi (res_main_call0_call0_call0_v163 (launchContents m c)) (broadcastInDim S8192x2048 ![] bcast_S_S8192x2048 (res_main_call0_call0_call0_v1 (launchContents m c)))) (addi (addi (xori (res_main_call0_call0_call0_v163 (launchContents m c)) (ori (Host.shli (res_main_call0_call0_call0_v162 (launchContents m c)) (broadcastInDim S8192x2048 ![] bcast_S_S8192x2048 (constantI S_ 32 6#32))) (Host.shrui (res_main_call0_call0_call0_v162 (launchContents m c)) (broadcastInDim S8192x2048 ![] bcast_S_S8192x2048 (constantI S_ 32 26#32))))) (broadcastInDim S8192x2048 ![] bcast_S_S8192x2048 (res_main_call0_call0_v5 (launchContents m c)))) (broadcastInDim S8192x2048 ![] bcast_S_S8192x2048 (constantI S_ 32 5#32)))) (broadcastInDim S8192x2048 ![] bcast_S_S8192x2048 (constantI S_ 32 9#32))) (broadcastInDim S8192x2048 ![] bcast_S_S8192x2048 (constantI S_ 32 1065353216#32)))) (broadcastInDim S8192x2048 ![] bcast_S_S8192x2048 (constant S_ .f32 0x3F800000#32))) (broadcastInDim S8192x2048 ![0, 1] bcast_S1x1_S8192x2048_0_1 (subf (broadcastInDim S1x1 ![] bcast_S_S1x1 (id (constant S_ .f32 0x3F800000#32))) (res_main_call0_call0_v2 (launchContents m c))))) (broadcastInDim S8192x2048 ![0, 1] bcast_S1x1_S8192x2048_0_1 (res_main_call0_call0_v2 (launchContents m c))))) (broadcastInDim S8192x2048 ![0, 1] bcast_S1x2048_S8192x2048_0_1 (broadcastInDim S1x2048 ![1] bcast_S2048_S1x2048_1 (Host.exp (mulf (broadcastInDim S2048 ![] bcast_S_S2048 (constant S_ .f32 0xBF000000#32)) (mulf (res_main_v13 (launchContents m c)) (res_main_v13 (launchContents m c)))))))))) (broadcastInDim S2048x768 ![] bcast_S_S2048x768 (constant S_ .f32 0x3F800000#32))) (broadcastInDim S8192x768 ![0, 1] bcast_S1x768_S8192x768_0_1 (broadcastInDim S1x768 ![1] bcast_S768_S1x768_1 (broadcastInDim S768 ![] bcast_S_S768 (constant S_ .f32 0x00000000#32))))) (res_main_v5 (launchContents m c))
      ∧ r.2.mem ((c.tc : Thread nD τ).loc main_arg0) = m ((c.tc : Thread nD τ).loc main_arg0) :=
  (θ_run defs _ _).mono (fun _ h c => ⟨(h c main_v33).trans ((congrFun (after_ops (launchContents m c)) (Proc.devRef .tc main_v33)).trans (val1_main_v33 (launchContents m c))),
      (h c main_arg0).trans ((congrFun (after_ops (launchContents m c)) (Proc.devRef .tc main_arg0)).trans (val1_main_arg0 (launchContents m c)))⟩)
    (run_seq scopedRefs_eq scopedSems_eq defs main (fun _ => ops) main_eq (fun _ => ops_sub) m ρ fun _ => ops_fresh)

end Cert.ReferenceAtIdeal.Value

end
-- ==== Proof.AtRef.lean ====
/- The reference at the arguments of the counterexample: its output array holds one at row 23, column 0. -/
module

public import proofs.«01_k».proof.Proof.AtRun
public import proofs.«01_k».proof.Proof.Needed
public import Idealize.ShloMosaic.Lib.IdealHost

@[expose] public section

set_option maxRecDepth 16384

noncomputable section

namespace Cert.ReferenceAtIdeal.Value

open Cert.ReferenceAtIdeal Cert.ReferenceAtIdeal.Gen Idealize.ShloMosaic Idealize.ShloMosaic.TcCoe Idealize.SL.Sem Idealize.ShloMosaic.StableHlo Idealize.ShloMosaic.ValueIdx

section Term

variable {F : FTy → Type} [FloatOps F]

/-- The output of the run is the reference's at zero inputs, zero first weights, the argument as first bias, second weights of one and zero second bias. -/
theorem out_eq (V0 : Valuation τ sig (Elt F)) :
    val1 V0 (Proc.devRef .tc main_v33)
      = Cert.ReferenceIdeal.Read.val_main_v28 (F := F) (broadcastInDim S4x2048x768 ![] bcast_S_S4x2048x768 (constant S_ .f32 0x00000000#32))
          (broadcastInDim S768x2048 ![] bcast_S_S768x2048 (constant S_ .f32 0x00000000#32)) (V0 (Proc.devRef .tc main_arg0))
          (broadcastInDim S2048x768 ![] bcast_S_S2048x768 (constant S_ .f32 0x3F800000#32)) (broadcastInDim S768 ![] bcast_S_S768 (constant S_ .f32 0x00000000#32)) :=
  (val1_main_v33 V0).trans rfl

end Term

/-- The output array at row 23, column 0, where the argument is the spike. -/
theorem out_23 (V0 : Valuation τ sig (Elt Ideal)) (h : ∀ k : Fin 2048, V0 (Proc.devRef .tc main_arg0) (ix1 k) = Cert.KernelIdeal.Val.spike k) :
    val1 V0 (Proc.devRef .tc main_v33) (ix2 (23 : Fin 8192) (0 : Fin 768)) = (1 : EReal) := by
  rw [out_eq]
  exact Cert.KernelIdeal.Val.ref_spike _ _ _ _ _ (fun _ => Ideal.ofBits_zero_f32) h (fun _ => Ideal.ofBits_one_f32) (fun _ => Ideal.ofBits_zero_f32)

/-- Every execution ends with the output array the operations compute. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = val1 (launchContents m c) (Proc.devRef .tc main_v33) :=
  (θ_run defs _ _).mono (fun _ h c => (h c).1.trans (val1_main_v33 (launchContents m c)).symm) (run m ρ)

end Cert.ReferenceAtIdeal.Value

end
-- ==== Proof.Table.lean ====
/- The table of the counterexample's first bias: one at unit 1764, zero elsewhere. -/
module

public import proofs.«01_k».proof.Cx_KernelAtIdeal
public import proofs.«01_k».proof.Proof.Needed
public import Idealize.ShloMosaic.Lib.IdealHost

@[expose] public section

noncomputable section

namespace Cert.Table

open Idealize.ShloMosaic Idealize.ShloMosaic.ValueIdx

/-- A row of zero words. -/
def zeros {n : ℕ} : Fin n → BitVec 32 := fun _ => 0#32

/-- A row of zero words but for the pattern of one at place `j`. -/
def single {n : ℕ} (j : ℕ) : Fin n → BitVec 32 := fun i => if i.val = j then 0x3F800000#32 else 0#32

/-- The empty row. -/
theorem nil_eq : (![] : Fin 0 → BitVec 32) = zeros := funext fun i => i.elim0

/-- A zero before zeros. -/
theorem cons_zeros {n : ℕ} : Matrix.vecCons 0#32 (zeros : Fin n → BitVec 32) = zeros := by
  funext i
  refine Fin.cases ?_ (fun j => ?_) i <;> rfl

/-- The pattern of one before zeros. -/
theorem cons_one {n : ℕ} : Matrix.vecCons 0x3F800000#32 (zeros : Fin n → BitVec 32) = single 0 := by
  funext i
  refine Fin.cases ?_ (fun j => ?_) i
  · rfl
  · exact (if_neg (Nat.succ_ne_zero j.val)).symm

/-- A zero before a row with one pattern moves the pattern up. -/
theorem cons_single {n : ℕ} (j : ℕ) : Matrix.vecCons 0#32 (single j : Fin n → BitVec 32) = single (j + 1) := by
  funext i
  refine Fin.cases ?_ (fun k => ?_) i
  · exact (if_neg (Nat.succ_ne_zero j).symm).symm
  · show (if k.val = j then _ else _) = if k.val + 1 = j + 1 then _ else _
    by_cases h : k.val = j
    · rw [if_pos h, if_pos (by omega)]
    · rw [if_neg h, if_neg (by omega)]

set_option maxRecDepth 100000 in
set_option maxHeartbeats 4000000 in
/-- The table is zero but at place 1764. -/
theorem table_eq : Cert.Cx_KernelAtIdeal.arg0_words = single 1764 := by
  unfold Cert.Cx_KernelAtIdeal.arg0_words
  simp only [nil_eq, cons_zeros, cons_one, cons_single, Nat.reduceAdd]

/-- The first bias of the counterexample is the spike. -/
theorem table_spike (k : Fin 2048) : Cert.Cx_KernelAtIdeal.arg0 (F := Ideal) (ix1 k) = Cert.KernelIdeal.Val.spike k := by
  show Ideal.ofBits .f32 (Cert.Cx_KernelAtIdeal.arg0_words k) = _
  rw [table_eq]
  unfold Cert.KernelIdeal.Val.spike single
  split
  · exact Ideal.ofBits_one_f32
  · exact Ideal.ofBits_zero_f32

end Cert.Table

end
-- ==== Proof.Disproof.lean ====
/- Without its precondition the value claim is false: at one table of arguments the kernel ends with another output than the reference. -/
module

public import proofs.«01_k».proof.Defs
public import proofs.«01_k».proof.Proof.AtKernel
public import proofs.«01_k».proof.Proof.AtRef
public import proofs.«01_k».proof.Proof.Table

@[expose] public section

set_option maxRecDepth 16384

noncomputable section

namespace Cert.Proof

open Idealize.ShloMosaic Idealize.ShloMosaic.ValueIdx Idealize.ShloMosaic.StableHlo Idealize.SL.Sem

/-- At the counterexample the kernel's output is not the reference's. -/
theorem disproof : Cert.disproves_algebraic_KernelAtIdeal_ReferenceAtIdeal := by
  intro m g m' g' hm hagree
  refine ⟨trivial, fun c => Cert.ReferenceAtIdeal.Value.val1 (launchContents m' c) (Proc.devRef .tc Cert.ReferenceAtIdeal.main_v33), ?_, ?_⟩
  · refine (θ_run Cert.KernelAtIdeal.defs _ _).mono (fun r h hall => ?_) (Cert.KernelAtIdeal.Gen.run_main (F := Ideal) m g)
    have hk := Cert.KernelAtIdeal.Val.out_23 m 0 (fun k => by rw [hm 0]; exact Cert.Table.table_spike k)
    have hr := Cert.ReferenceAtIdeal.Value.out_23 (launchContents m' 0) (fun k => by
      show m' (((0 : Dev Cert.ReferenceAtIdeal.nD).tc : Thread Cert.ReferenceAtIdeal.nD Cert.ReferenceAtIdeal.τ).loc Cert.ReferenceAtIdeal.main_arg0) (ix1 k) = _
      rw [hagree 0, hm 0]
      exact Cert.Table.table_spike k)
    have e := congrFun (((h 0).1 7).symm.trans (hall 0)) (ix2 (23 : Fin 8192) (0 : Fin 768))
    exact zero_ne_one (α := EReal) (hk.symm.trans (e.trans hr))
  · exact Cert.ReferenceAtIdeal.Value.run_out m' g'

end Cert.Proof

end
-- ==== Proof.lean ====
/- The six claims, put together: the frames of the three programs, the kernel against the reference, and the counterexample to the unconditioned claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelAtIdeal
public import proofs.«01_k».proof.Proof.Gen.KernelAtIdeal.Skeleton
public import proofs.«01_k».proof.Proof.Gen.KernelAtIdeal.Launch
public import proofs.«01_k».proof.Proof.Gen.KernelAtIdeal.Points
public import proofs.«01_k».proof.Proof.Gen.KernelAtIdeal.Frame
public import proofs.«01_k».proof.Proof.Gen.ReferenceAtIdeal
public import proofs.«01_k».proof.Proof.RefReadEq
public import proofs.«01_k».proof.Proof.Loss
public import proofs.«01_k».proof.Proof.Disproof
public import Idealize.ShloMosaic.Lib.Quiescent

public import Idealize.ShloMosaic.Adequacy
public import Idealize.ShloMosaic.Init

@[expose] public section

noncomputable section

namespace Cert.Proof

open Idealize.ShloMosaic Idealize.ShloMosaic.ValueIdx Idealize.ShloMosaic.StableHlo Idealize.SL.Sem

/-- The shape relations of the precondition. -/
theorem pre_facts : Cert.Pre_dropped_units_unused.Facts where
  slices_S2048x768_S384x768_1664_0 := by decide
  bcast_S_S384x768 := by decide

/-- The reference's frame, from its run; it declares no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- The precondition says that the dropped rows of the second weights are zero. -/
theorem dropped_of_pre (m : (ℓ : Loc Cert.KernelIdeal.nD Cert.KernelIdeal.τ Cert.KernelIdeal.sig) → Buf (Elt Ideal) ℓ)
    (h : Cert.Pre_KernelIdeal_dropped_units_unused (hPre_dropped_units_unused := pre_facts) m) (c : Dev Cert.KernelIdeal.nD) :
    Cert.KernelIdeal.Val.Dropped m c := by
  intro k hk o
  have hk' := k.isLt
  have e := congrFun (h c) (ix2 (⟨k.val - 1664, by omega⟩ : Fin 384) o)
  have ei : extractStridedSlice Cert.Pre_dropped_units_unused.S384x768 ![1664, 0] (Cert.KernelIdeal.Val.a4 m c) pre_facts.slices_S2048x768_S384x768_1664_0
      (ix2 (⟨k.val - 1664, by omega⟩ : Fin 384) o) = Cert.KernelIdeal.Val.a4 m c (ix2 k o) :=
    extractStridedSlice_apply ![1664, 0] _ pre_facts.slices_S2048x768_S384x768_1664_0 (ix2 (⟨k.val - 1664, by omega⟩ : Fin 384) o) (ix2 k o) (fun a => match a with
      | ⟨0, _⟩ => by show k.val = 1664 + (k.val - 1664); omega
      | ⟨1, _⟩ => by show o.val = 0 + o.val; omega)
  have e' : Ideal.cmp .oeq (extractStridedSlice Cert.Pre_dropped_units_unused.S384x768 ![1664, 0] (Cert.KernelIdeal.Val.a4 m c) pre_facts.slices_S2048x768_S384x768_1664_0
      (ix2 (⟨k.val - 1664, by omega⟩ : Fin 384) o)) (Ideal.ofBits .f32 0x00000000#32) = 1#1 := e
  rw [ei, Ideal.ofBits_zero_f32] at e'
  by_contra hne
  have e2 : BitVec.ofBool (decide (@Eq EReal (Cert.KernelIdeal.Val.a4 m c (ix2 k o)) 0)) = 1#1 := e'
  rw [decide_eq_false hne] at e2
  exact absurd e2 (by decide)

/-- The kernel and the reference end with the same loss and the same output. -/
theorem value : Cert.algebraic_KernelIdeal_ReferenceIdeal_pre_dropped_units_unused (hPre_dropped_units_unused := pre_facts) := by
  intro m g m' g' hpre hagree
  refine ⟨fun c => Cert.ReferenceIdeal.Read.val_main_v38 (F := Ideal) (Cert.KernelIdeal.Val.a0 m c) (Cert.KernelIdeal.Val.a1 m c) (Cert.KernelIdeal.Val.a2 m c)
      (Cert.KernelIdeal.Val.a3 m c) (Cert.KernelIdeal.Val.a4 m c) (Cert.KernelIdeal.Val.a5 m c),
    fun c => Cert.ReferenceIdeal.Read.val_main_v28 (F := Ideal) (Cert.KernelIdeal.Val.a0 m c) (Cert.KernelIdeal.Val.a2 m c)
      (Cert.KernelIdeal.Val.a3 m c) (Cert.KernelIdeal.Val.a4 m c) (Cert.KernelIdeal.Val.a5 m c), ?_, ?_⟩
  · refine (θ_run Cert.KernelIdeal.defs _ _).mono (fun r h c => ?_) (Cert.KernelIdeal.Val.run_K (F := Ideal) m g)
    have hw := dropped_of_pre m hpre c
    exact ⟨(h c).1.trans (Cert.KernelIdeal.Val.loss_eq m c hw _), (h c).2.1.trans (Cert.KernelIdeal.Val.out_array m c hw), (h c).2.2⟩
  · refine (θ_run Cert.ReferenceIdeal.defs _ _).mono (fun r h c => ?_) (Cert.ReferenceIdeal.Value.run (F := Ideal) m' g')
    obtain ⟨e0, e1, e2, e3, e4, e5⟩ := hagree c
    refine ⟨(h c).1.trans ((Cert.ReferenceIdeal.Read.val_main_v38_eq (launchContents m' c)).trans ?_),
      (h c).2.1.trans ((Cert.ReferenceIdeal.Read.val_main_v28_eq (launchContents m' c)).trans ?_), (h c).2.2⟩
    · show Cert.ReferenceIdeal.Read.val_main_v38 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
      rw [e0, e1, e2, e3, e4, e5]
    · show Cert.ReferenceIdeal.Read.val_main_v28 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
      rw [e0, e2, e3, e4, e5]

/-- All six claims. -/
theorem claim : Cert.Claim := ⟨Cert.Kernel.Gen.facts, Cert.KernelIdeal.Gen.facts, Cert.ReferenceIdeal.Gen.facts,
  Cert.KernelAtIdeal.Gen.facts, Cert.ReferenceAtIdeal.Gen.facts, pre_facts,
  fun m g _ => Cert.Kernel.Gen.frame m g, fun m g _ => Cert.KernelIdeal.Gen.frame m g, fun m g _ => Cert.KernelIdeal.Gen.frame m g,
  fun m g _ => frame_ref m g, fun m g _ => frame_ref m g, trivial, value, disproof⟩

end Cert.Proof

end
